-- ==== Defs.lean ====
def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_AttnGrad (m : (ℓ : Loc Cert.AttnGrad.nD Cert.AttnGrad.τ Cert.AttnGrad.sig) → Buf (Elt Bits) ℓ) : Prop :=
  True

def Pre_AttnGradIdeal (m : (ℓ : Loc Cert.AttnGradIdeal.nD Cert.AttnGradIdeal.τ Cert.AttnGradIdeal.sig) → Buf (Elt Ideal) ℓ) : Prop :=
  True

def Pre_AttnGradIdeal_attn_finite [hPre_attn_finite : Cert.Pre_attn_finite.Facts] (m : (ℓ : Loc Cert.AttnGradIdeal.nD Cert.AttnGradIdeal.τ Cert.AttnGradIdeal.sig) → Buf (Elt Ideal) ℓ) : Prop :=
  ∀ c : Dev Cert.AttnGradIdeal.nD,
    (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3))) = (fun _ => 1#1)

def Pre_AttnGradRefIdeal (m : (ℓ : Loc Cert.AttnGradRefIdeal.nD Cert.AttnGradRefIdeal.τ Cert.AttnGradRefIdeal.sig) → Buf (Elt Ideal) ℓ) : Prop :=
  True

def Pre_AttnGradRefIdeal_attn_finite [hPre_attn_finite : Cert.Pre_attn_finite.Facts] (m : (ℓ : Loc Cert.AttnGradRefIdeal.nD Cert.AttnGradRefIdeal.τ Cert.AttnGradRefIdeal.sig) → Buf (Elt Ideal) ℓ) : Prop :=
  ∀ c : Dev Cert.AttnGradRefIdeal.nD,
    (Cert.Pre_attn_finite.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3))) = (fun _ => 1#1)

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradIdeal_out_finite [hPre_out_finite : Cert.Pre_out_finite.Facts] (m : (ℓ : Loc Cert.OutGradIdeal.nD Cert.OutGradIdeal.τ Cert.OutGradIdeal.sig) → Buf (Elt Ideal) ℓ) : Prop :=
  ∀ c : Dev Cert.OutGradIdeal.nD,
    (Cert.Pre_out_finite.fn (F := Ideal) (m ((c.tc : Thread Cert.OutGradIdeal.nD Cert.OutGradIdeal.τ).loc Cert.OutGradIdeal.main_arg0)) (m ((c.tc : Thread Cert.OutGradIdeal.nD Cert.OutGradIdeal.τ).loc Cert.OutGradIdeal.main_arg1)) (m ((c.tc : Thread Cert.OutGradIdeal.nD Cert.OutGradIdeal.τ).loc Cert.OutGradIdeal.main_arg2)) (m ((c.tc : Thread Cert.OutGradIdeal.nD Cert.OutGradIdeal.τ).loc Cert.OutGradIdeal.main_arg3)) (m ((c.tc : Thread Cert.OutGradIdeal.nD Cert.OutGradIdeal.τ).loc Cert.OutGradIdeal.main_arg4)) (m ((c.tc : Thread Cert.OutGradIdeal.nD Cert.OutGradIdeal.τ).loc Cert.OutGradIdeal.main_arg5)) (m ((c.tc : Thread Cert.OutGradIdeal.nD Cert.OutGradIdeal.τ).loc Cert.OutGradIdeal.main_arg6)) (m ((c.tc : Thread Cert.OutGradIdeal.nD Cert.OutGradIdeal.τ).loc Cert.OutGradIdeal.main_arg7)) (m ((c.tc : Thread Cert.OutGradIdeal.nD Cert.OutGradIdeal.τ).loc Cert.OutGradIdeal.main_arg8))) = (fun _ => 1#1)

def Pre_OutGradRefIdeal (m : (ℓ : Loc Cert.OutGradRefIdeal.nD Cert.OutGradRefIdeal.τ Cert.OutGradRefIdeal.sig) → Buf (Elt Ideal) ℓ) : Prop :=
  True

def Pre_OutGradRefIdeal_out_finite [hPre_out_finite : Cert.Pre_out_finite.Facts] (m : (ℓ : Loc Cert.OutGradRefIdeal.nD Cert.OutGradRefIdeal.τ Cert.OutGradRefIdeal.sig) → Buf (Elt Ideal) ℓ) : Prop :=
  ∀ c : Dev Cert.OutGradRefIdeal.nD,
    (Cert.Pre_out_finite.fn (F := Ideal) (m ((c.tc : Thread Cert.OutGradRefIdeal.nD Cert.OutGradRefIdeal.τ).loc Cert.OutGradRefIdeal.main_arg0)) (m ((c.tc : Thread Cert.OutGradRefIdeal.nD Cert.OutGradRefIdeal.τ).loc Cert.OutGradRefIdeal.main_arg1)) (m ((c.tc : Thread Cert.OutGradRefIdeal.nD Cert.OutGradRefIdeal.τ).loc Cert.OutGradRefIdeal.main_arg2)) (m ((c.tc : Thread Cert.OutGradRefIdeal.nD Cert.OutGradRefIdeal.τ).loc Cert.OutGradRefIdeal.main_arg3)) (m ((c.tc : Thread Cert.OutGradRefIdeal.nD Cert.OutGradRefIdeal.τ).loc Cert.OutGradRefIdeal.main_arg4)) (m ((c.tc : Thread Cert.OutGradRefIdeal.nD Cert.OutGradRefIdeal.τ).loc Cert.OutGradRefIdeal.main_arg5)) (m ((c.tc : Thread Cert.OutGradRefIdeal.nD Cert.OutGradRefIdeal.τ).loc Cert.OutGradRefIdeal.main_arg6)) (m ((c.tc : Thread Cert.OutGradRefIdeal.nD Cert.OutGradRefIdeal.τ).loc Cert.OutGradRefIdeal.main_arg7)) (m ((c.tc : Thread Cert.OutGradRefIdeal.nD Cert.OutGradRefIdeal.τ).loc Cert.OutGradRefIdeal.main_arg8))) = (fun _ => 1#1)

def Pre_LatGrad (m : (ℓ : Loc Cert.LatGrad.nD Cert.LatGrad.τ Cert.LatGrad.sig) → Buf (Elt Bits) ℓ) : Prop :=
  True

def Pre_LatGradIdeal (m : (ℓ : Loc Cert.LatGradIdeal.nD Cert.LatGradIdeal.τ Cert.LatGradIdeal.sig) → Buf (Elt Ideal) ℓ) : Prop :=
  True

def Pre_LatGradIdeal_lat_finite [hPre_lat_finite : Cert.Pre_lat_finite.Facts] (m : (ℓ : Loc Cert.LatGradIdeal.nD Cert.LatGradIdeal.τ Cert.LatGradIdeal.sig) → Buf (Elt Ideal) ℓ) : Prop :=
  ∀ c : Dev Cert.LatGradIdeal.nD,
    (Cert.Pre_lat_finite.fn (F := Ideal) (m ((c.tc : Thread Cert.LatGradIdeal.nD Cert.LatGradIdeal.τ).loc Cert.LatGradIdeal.main_arg0)) (m ((c.tc : Thread Cert.LatGradIdeal.nD Cert.LatGradIdeal.τ).loc Cert.LatGradIdeal.main_arg1)) (m ((c.tc : Thread Cert.LatGradIdeal.nD Cert.LatGradIdeal.τ).loc Cert.LatGradIdeal.main_arg2)) (m ((c.tc : Thread Cert.LatGradIdeal.nD Cert.LatGradIdeal.τ).loc Cert.LatGradIdeal.main_arg3)) (m ((c.tc : Thread Cert.LatGradIdeal.nD Cert.LatGradIdeal.τ).loc Cert.LatGradIdeal.main_arg4)) (m ((c.tc : Thread Cert.LatGradIdeal.nD Cert.LatGradIdeal.τ).loc Cert.LatGradIdeal.main_arg5)) (m ((c.tc : Thread Cert.LatGradIdeal.nD Cert.LatGradIdeal.τ).loc Cert.LatGradIdeal.main_arg6)) (m ((c.tc : Thread Cert.LatGradIdeal.nD Cert.LatGradIdeal.τ).loc Cert.LatGradIdeal.main_arg7)) (m ((c.tc : Thread Cert.LatGradIdeal.nD Cert.LatGradIdeal.τ).loc Cert.LatGradIdeal.main_arg8)) (m ((c.tc : Thread Cert.LatGradIdeal.nD Cert.LatGradIdeal.τ).loc Cert.LatGradIdeal.main_arg9))) = (fun _ => 1#1)

def Pre_LatGradRefIdeal (m : (ℓ : Loc Cert.LatGradRefIdeal.nD Cert.LatGradRefIdeal.τ Cert.LatGradRefIdeal.sig) → Buf (Elt Ideal) ℓ) : Prop :=
  True

def Pre_LatGradRefIdeal_lat_finite [hPre_lat_finite : Cert.Pre_lat_finite.Facts] (m : (ℓ : Loc Cert.LatGradRefIdeal.nD Cert.LatGradRefIdeal.τ Cert.LatGradRefIdeal.sig) → Buf (Elt Ideal) ℓ) : Prop :=
  ∀ c : Dev Cert.LatGradRefIdeal.nD,
    (Cert.Pre_lat_finite.fn (F := Ideal) (m ((c.tc : Thread Cert.LatGradRefIdeal.nD Cert.LatGradRefIdeal.τ).loc Cert.LatGradRefIdeal.main_arg0)) (m ((c.tc : Thread Cert.LatGradRefIdeal.nD Cert.LatGradRefIdeal.τ).loc Cert.LatGradRefIdeal.main_arg1)) (m ((c.tc : Thread Cert.LatGradRefIdeal.nD Cert.LatGradRefIdeal.τ).loc Cert.LatGradRefIdeal.main_arg2)) (m ((c.tc : Thread Cert.LatGradRefIdeal.nD Cert.LatGradRefIdeal.τ).loc Cert.LatGradRefIdeal.main_arg3)) (m ((c.tc : Thread Cert.LatGradRefIdeal.nD Cert.LatGradRefIdeal.τ).loc Cert.LatGradRefIdeal.main_arg4)) (m ((c.tc : Thread Cert.LatGradRefIdeal.nD Cert.LatGradRefIdeal.τ).loc Cert.LatGradRefIdeal.main_arg5)) (m ((c.tc : Thread Cert.LatGradRefIdeal.nD Cert.LatGradRefIdeal.τ).loc Cert.LatGradRefIdeal.main_arg6)) (m ((c.tc : Thread Cert.LatGradRefIdeal.nD Cert.LatGradRefIdeal.τ).loc Cert.LatGradRefIdeal.main_arg7)) (m ((c.tc : Thread Cert.LatGradRefIdeal.nD Cert.LatGradRefIdeal.τ).loc Cert.LatGradRefIdeal.main_arg8)) (m ((c.tc : Thread Cert.LatGradRefIdeal.nD Cert.LatGradRefIdeal.τ).loc Cert.LatGradRefIdeal.main_arg9))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_fwd_finite [hPre_fwd_finite : Cert.Pre_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_fwd_finite [hPre_fwd_finite : Cert.Pre_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_SsdFwd (m : (ℓ : Loc Cert.SsdFwd.nD Cert.SsdFwd.τ Cert.SsdFwd.sig) → Buf (Elt Bits) ℓ) : Prop :=
  True

def Pre_SsdFwdIdeal (m : (ℓ : Loc Cert.SsdFwdIdeal.nD Cert.SsdFwdIdeal.τ Cert.SsdFwdIdeal.sig) → Buf (Elt Ideal) ℓ) : Prop :=
  True

def Pre_SsdFwdRefIdeal (m : (ℓ : Loc Cert.SsdFwdRefIdeal.nD Cert.SsdFwdRefIdeal.τ Cert.SsdFwdRefIdeal.sig) → Buf (Elt Ideal) ℓ) : Prop :=
  True

def Pre_SsdBwd (m : (ℓ : Loc Cert.SsdBwd.nD Cert.SsdBwd.τ Cert.SsdBwd.sig) → Buf (Elt Bits) ℓ) : Prop :=
  True

def Pre_SsdBwdIdeal (m : (ℓ : Loc Cert.SsdBwdIdeal.nD Cert.SsdBwdIdeal.τ Cert.SsdBwdIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3)
      ∧ r.2.mem ((c.tc : Thread Cert.InGradRefIdeal.nD Cert.InGradRefIdeal.τ).loc Cert.InGradRefIdeal.main_arg4) = m ((c.tc : Thread Cert.InGradRefIdeal.nD Cert.InGradRefIdeal.τ).loc Cert.InGradRefIdeal.main_arg4))
      ∧ r.2.sem = fun _ => 0)

def quiescent_AttnGrad [hAttnGrad : Cert.AttnGrad.Facts] : Prop :=
  ∀ (m : (ℓ : Loc Cert.AttnGrad.nD Cert.AttnGrad.τ Cert.AttnGrad.sig) → Buf (Elt Bits) ℓ) (g : Dev Cert.AttnGrad.nD → PrngReg), Pre_AttnGrad m →
    θ_run (Cert.AttnGrad.defs (F := Bits)) (onTc (τ := Cert.AttnGrad.τ) (Cert.AttnGrad.main (F := Bits))) ⟨m, fun _ => 0, g⟩ (fun r => (∀ c : Dev Cert.AttnGrad.nD,
      r.2.mem ((c.tc : Thread Cert.AttnGrad.nD Cert.AttnGrad.τ).loc Cert.AttnGrad.main_arg0) = m ((c.tc : Thread Cert.AttnGrad.nD Cert.AttnGrad.τ).loc Cert.AttnGrad.main_arg0)
      ∧ r.2.mem ((c.tc : Thread Cert.AttnGrad.nD Cert.AttnGrad.τ).loc Cert.AttnGrad.main_arg1) = m ((c.tc : Thread Cert.AttnGrad.nD Cert.AttnGrad.τ).loc Cert.AttnGrad.main_arg1)
      ∧ r.2.mem ((c.tc : Thread Cert.AttnGrad.nD Cert.AttnGrad.τ).loc Cert.AttnGrad.main_arg2) = m ((c.tc : Thread Cert.AttnGrad.nD Cert.AttnGrad.τ).loc Cert.AttnGrad.main_arg2)
      ∧ r.2.mem ((c.tc : Thread Cert.AttnGrad.nD Cert.AttnGrad.τ).loc Cert.AttnGrad.main_arg3) = m ((c.tc : Thread Cert.AttnGrad.nD Cert.AttnGrad.τ).loc Cert.AttnGrad.main_arg3))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3))
      ∧ r.2.sem = fun _ => 0)

def quiescent_AttnGradIdeal_pre_attn_finite [hAttnGradIdeal : Cert.AttnGradIdeal.Facts] [hPre_attn_finite : Cert.Pre_attn_finite.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal_attn_finite m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3))
      ∧ r.2.sem = fun _ => 0)

def quiescent_AttnGradRefIdeal [hAttnGradRefIdeal : Cert.AttnGradRefIdeal.Facts] : Prop :=
  ∀ (m : (ℓ : Loc Cert.AttnGradRefIdeal.nD Cert.AttnGradRefIdeal.τ Cert.AttnGradRefIdeal.sig) → Buf (Elt Ideal) ℓ) (g : Dev Cert.AttnGradRefIdeal.nD → PrngReg), Pre_AttnGradRefIdeal m →
    θ_run (Cert.AttnGradRefIdeal.defs (F := Ideal)) (onTc (τ := Cert.AttnGradRefIdeal.τ) (Cert.AttnGradRefIdeal.main (F := Ideal))) ⟨m, fun _ => 0, g⟩ (fun r => (∀ c : Dev Cert.AttnGradRefIdeal.nD,
      r.2.mem ((c.tc : Thread Cert.AttnGradRefIdeal.nD Cert.AttnGradRefIdeal.τ).loc Cert.AttnGradRefIdeal.main_arg0) = m ((c.tc : Thread Cert.AttnGradRefIdeal.nD Cert.AttnGradRefIdeal.τ).loc Cert.AttnGradRefIdeal.main_arg0)
      ∧ r.2.mem ((c.tc : Thread Cert.AttnGradRefIdeal.nD Cert.AttnGradRefIdeal.τ).loc Cert.AttnGradRefIdeal.main_arg1) = m ((c.tc : Thread Cert.AttnGradRefIdeal.nD Cert.AttnGradRefIdeal.τ).loc Cert.AttnGradRefIdeal.main_arg1)
      ∧ r.2.mem ((c.tc : Thread Cert.AttnGradRefIdeal.nD Cert.AttnGradRefIdeal.τ).loc Cert.AttnGradRefIdeal.main_arg2) = m ((c.tc : Thread Cert.AttnGradRefIdeal.nD Cert.AttnGradRefIdeal.τ).loc Cert.AttnGradRefIdeal.main_arg2)
      ∧ r.2.mem ((c.tc : Thread Cert.AttnGradRefIdeal.nD Cert.AttnGradRefIdeal.τ).loc Cert.AttnGradRefIdeal.main_arg3) = m ((c.tc : Thread Cert.AttnGradRefIdeal.nD Cert.AttnGradRefIdeal.τ).loc Cert.AttnGradRefIdeal.main_arg3))
      ∧ r.2.sem = fun _ => 0)

def quiescent_AttnGradRefIdeal_pre_attn_finite [hAttnGradRefIdeal : Cert.AttnGradRefIdeal.Facts] [hPre_attn_finite : Cert.Pre_attn_finite.Facts] : Prop :=
  ∀ (m : (ℓ : Loc Cert.AttnGradRefIdeal.nD Cert.AttnGradRefIdeal.τ Cert.AttnGradRefIdeal.sig) → Buf (Elt Ideal) ℓ) (g : Dev Cert.AttnGradRefIdeal.nD → PrngReg), Pre_AttnGradRefIdeal_attn_finite m →
    θ_run (Cert.AttnGradRefIdeal.defs (F := Ideal)) (onTc (τ := Cert.AttnGradRefIdeal.τ) (Cert.AttnGradRefIdeal.main (F := Ideal))) ⟨m, fun _ => 0, g⟩ (fun r => (∀ c : Dev Cert.AttnGradRefIdeal.nD,
      r.2.mem ((c.tc : Thread Cert.AttnGradRefIdeal.nD Cert.AttnGradRefIdeal.τ).loc Cert.AttnGradRefIdeal.main_arg0) = m ((c.tc : Thread Cert.AttnGradRefIdeal.nD Cert.AttnGradRefIdeal.τ).loc Cert.AttnGradRefIdeal.main_arg0)
      ∧ r.2.mem ((c.tc : Thread Cert.AttnGradRefIdeal.nD Cert.AttnGradRefIdeal.τ).loc Cert.AttnGradRefIdeal.main_arg1) = m ((c.tc : Thread Cert.AttnGradRefIdeal.nD Cert.AttnGradRefIdeal.τ).loc Cert.AttnGradRefIdeal.main_arg1)
      ∧ r.2.mem ((c.tc : Thread Cert.AttnGradRefIdeal.nD Cert.AttnGradRefIdeal.τ).loc Cert.AttnGradRefIdeal.main_arg2) = m ((c.tc : Thread Cert.AttnGradRefIdeal.nD Cert.AttnGradRefIdeal.τ).loc Cert.AttnGradRefIdeal.main_arg2)
      ∧ r.2.mem ((c.tc : Thread Cert.AttnGradRefIdeal.nD Cert.AttnGradRefIdeal.τ).loc Cert.AttnGradRefIdeal.main_arg3) = m ((c.tc : Thread Cert.AttnGradRefIdeal.nD Cert.AttnGradRefIdeal.τ).loc Cert.AttnGradRefIdeal.main_arg3))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1)
      ∧ r.2.mem ((c.tc : Thread Cert.OutGrad.nD Cert.OutGrad.τ).loc Cert.OutGrad.main_arg2) = m ((c.tc : Thread Cert.OutGrad.nD Cert.OutGrad.τ).loc Cert.OutGrad.main_arg2)
      ∧ r.2.mem ((c.tc : Thread Cert.OutGrad.nD Cert.OutGrad.τ).loc Cert.OutGrad.main_arg3) = m ((c.tc : Thread Cert.OutGrad.nD Cert.OutGrad.τ).loc Cert.OutGrad.main_arg3)
      ∧ r.2.mem ((c.tc : Thread Cert.OutGrad.nD Cert.OutGrad.τ).loc Cert.OutGrad.main_arg4) = m ((c.tc : Thread Cert.OutGrad.nD Cert.OutGrad.τ).loc Cert.OutGrad.main_arg4)
      ∧ r.2.mem ((c.tc : Thread Cert.OutGrad.nD Cert.OutGrad.τ).loc Cert.OutGrad.main_arg5) = m ((c.tc : Thread Cert.OutGrad.nD Cert.OutGrad.τ).loc Cert.OutGrad.main_arg5)
      ∧ r.2.mem ((c.tc : Thread Cert.OutGrad.nD Cert.OutGrad.τ).loc Cert.OutGrad.main_arg6) = m ((c.tc : Thread Cert.OutGrad.nD Cert.OutGrad.τ).loc Cert.OutGrad.main_arg6)
      ∧ r.2.mem ((c.tc : Thread Cert.OutGrad.nD Cert.OutGrad.τ).loc Cert.OutGrad.main_arg7) = m ((c.tc : Thread Cert.OutGrad.nD Cert.OutGrad.τ).loc Cert.OutGrad.main_arg7)
      ∧ r.2.mem ((c.tc : Thread Cert.OutGrad.nD Cert.OutGrad.τ).loc Cert.OutGrad.main_arg8) = m ((c.tc : Thread Cert.OutGrad.nD Cert.OutGrad.τ).loc Cert.OutGrad.main_arg8))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2)
      ∧ r.2.mem ((c.tc : Thread Cert.OutGradIdeal.nD Cert.OutGradIdeal.τ).loc Cert.OutGradIdeal.main_arg3) = m ((c.tc : Thread Cert.OutGradIdeal.nD Cert.OutGradIdeal.τ).loc Cert.OutGradIdeal.main_arg3)
      ∧ r.2.mem ((c.tc : Thread Cert.OutGradIdeal.nD Cert.OutGradIdeal.τ).loc Cert.OutGradIdeal.main_arg4) = m ((c.tc : Thread Cert.OutGradIdeal.nD Cert.OutGradIdeal.τ).loc Cert.OutGradIdeal.main_arg4)
      ∧ r.2.mem ((c.tc : Thread Cert.OutGradIdeal.nD Cert.OutGradIdeal.τ).loc Cert.OutGradIdeal.main_arg5) = m ((c.tc : Thread Cert.OutGradIdeal.nD Cert.OutGradIdeal.τ).loc Cert.OutGradIdeal.main_arg5)
      ∧ r.2.mem ((c.tc : Thread Cert.OutGradIdeal.nD Cert.OutGradIdeal.τ).loc Cert.OutGradIdeal.main_arg6) = m ((c.tc : Thread Cert.OutGradIdeal.nD Cert.OutGradIdeal.τ).loc Cert.OutGradIdeal.main_arg6)
      ∧ r.2.mem ((c.tc : Thread Cert.OutGradIdeal.nD Cert.OutGradIdeal.τ).loc Cert.OutGradIdeal.main_arg7) = m ((c.tc : Thread Cert.OutGradIdeal.nD Cert.OutGradIdeal.τ).loc Cert.OutGradIdeal.main_arg7)
      ∧ r.2.mem ((c.tc : Thread Cert.OutGradIdeal.nD Cert.OutGradIdeal.τ).loc Cert.OutGradIdeal.main_arg8) = m ((c.tc : Thread Cert.OutGradIdeal.nD Cert.OutGradIdeal.τ).loc Cert.OutGradIdeal.main_arg8))
      ∧ r.2.sem = fun _ => 0)

def quiescent_OutGradIdeal_pre_out_finite [hOutGradIdeal : Cert.OutGradIdeal.Facts] [hPre_out_finite : Cert.Pre_out_finite.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal_out_finite m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2)
      ∧ r.2.mem ((c.tc : Thread Cert.OutGradIdeal.nD Cert.OutGradIdeal.τ).loc Cert.OutGradIdeal.main_arg3) = m ((c.tc : Thread Cert.OutGradIdeal.nD Cert.OutGradIdeal.τ).loc Cert.OutGradIdeal.main_arg3)
      ∧ r.2.mem ((c.tc : Thread Cert.OutGradIdeal.nD Cert.OutGradIdeal.τ).loc Cert.OutGradIdeal.main_arg4) = m ((c.tc : Thread Cert.OutGradIdeal.nD Cert.OutGradIdeal.τ).loc Cert.OutGradIdeal.main_arg4)
      ∧ r.2.mem ((c.tc : Thread Cert.OutGradIdeal.nD Cert.OutGradIdeal.τ).loc Cert.OutGradIdeal.main_arg5) = m ((c.tc : Thread Cert.OutGradIdeal.nD Cert.OutGradIdeal.τ).loc Cert.OutGradIdeal.main_arg5)
      ∧ r.2.mem ((c.tc : Thread Cert.OutGradIdeal.nD Cert.OutGradIdeal.τ).loc Cert.OutGradIdeal.main_arg6) = m ((c.tc : Thread Cert.OutGradIdeal.nD Cert.OutGradIdeal.τ).loc Cert.OutGradIdeal.main_arg6)
      ∧ r.2.mem ((c.tc : Thread Cert.OutGradIdeal.nD Cert.OutGradIdeal.τ).loc Cert.OutGradIdeal.main_arg7) = m ((c.tc : Thread Cert.OutGradIdeal.nD Cert.OutGradIdeal.τ).loc Cert.OutGradIdeal.main_arg7)
      ∧ r.2.mem ((c.tc : Thread Cert.OutGradIdeal.nD Cert.OutGradIdeal.τ).loc Cert.OutGradIdeal.main_arg8) = m ((c.tc : Thread Cert.OutGradIdeal.nD Cert.OutGradIdeal.τ).loc Cert.OutGradIdeal.main_arg8))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1)
      ∧ r.2.mem ((c.tc : Thread Cert.OutGradRefIdeal.nD Cert.OutGradRefIdeal.τ).loc Cert.OutGradRefIdeal.main_arg2) = m ((c.tc : Thread Cert.OutGradRefIdeal.nD Cert.OutGradRefIdeal.τ).loc Cert.OutGradRefIdeal.main_arg2)
      ∧ r.2.mem ((c.tc : Thread Cert.OutGradRefIdeal.nD Cert.OutGradRefIdeal.τ).loc Cert.OutGradRefIdeal.main_arg3) = m ((c.tc : Thread Cert.OutGradRefIdeal.nD Cert.OutGradRefIdeal.τ).loc Cert.OutGradRefIdeal.main_arg3)
      ∧ r.2.mem ((c.tc : Thread Cert.OutGradRefIdeal.nD Cert.OutGradRefIdeal.τ).loc Cert.OutGradRefIdeal.main_arg4) = m ((c.tc : Thread Cert.OutGradRefIdeal.nD Cert.OutGradRefIdeal.τ).loc Cert.OutGradRefIdeal.main_arg4)
      ∧ r.2.mem ((c.tc : Thread Cert.OutGradRefIdeal.nD Cert.OutGradRefIdeal.τ).loc Cert.OutGradRefIdeal.main_arg5) = m ((c.tc : Thread Cert.OutGradRefIdeal.nD Cert.OutGradRefIdeal.τ).loc Cert.OutGradRefIdeal.main_arg5)
      ∧ r.2.mem ((c.tc : Thread Cert.OutGradRefIdeal.nD Cert.OutGradRefIdeal.τ).loc Cert.OutGradRefIdeal.main_arg6) = m ((c.tc : Thread Cert.OutGradRefIdeal.nD Cert.OutGradRefIdeal.τ).loc Cert.OutGradRefIdeal.main_arg6)
      ∧ r.2.mem ((c.tc : Thread Cert.OutGradRefIdeal.nD Cert.OutGradRefIdeal.τ).loc Cert.OutGradRefIdeal.main_arg7) = m ((c.tc : Thread Cert.OutGradRefIdeal.nD Cert.OutGradRefIdeal.τ).loc Cert.OutGradRefIdeal.main_arg7)
      ∧ r.2.mem ((c.tc : Thread Cert.OutGradRefIdeal.nD Cert.OutGradRefIdeal.τ).loc Cert.OutGradRefIdeal.main_arg8) = m ((c.tc : Thread Cert.OutGradRefIdeal.nD Cert.OutGradRefIdeal.τ).loc Cert.OutGradRefIdeal.main_arg8))
      ∧ r.2.sem = fun _ => 0)

def quiescent_OutGradRefIdeal_pre_out_finite [hOutGradRefIdeal : Cert.OutGradRefIdeal.Facts] [hPre_out_finite : Cert.Pre_out_finite.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal_out_finite m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1)
      ∧ r.2.mem ((c.tc : Thread Cert.OutGradRefIdeal.nD Cert.OutGradRefIdeal.τ).loc Cert.OutGradRefIdeal.main_arg2) = m ((c.tc : Thread Cert.OutGradRefIdeal.nD Cert.OutGradRefIdeal.τ).loc Cert.OutGradRefIdeal.main_arg2)
      ∧ r.2.mem ((c.tc : Thread Cert.OutGradRefIdeal.nD Cert.OutGradRefIdeal.τ).loc Cert.OutGradRefIdeal.main_arg3) = m ((c.tc : Thread Cert.OutGradRefIdeal.nD Cert.OutGradRefIdeal.τ).loc Cert.OutGradRefIdeal.main_arg3)
      ∧ r.2.mem ((c.tc : Thread Cert.OutGradRefIdeal.nD Cert.OutGradRefIdeal.τ).loc Cert.OutGradRefIdeal.main_arg4) = m ((c.tc : Thread Cert.OutGradRefIdeal.nD Cert.OutGradRefIdeal.τ).loc Cert.OutGradRefIdeal.main_arg4)
      ∧ r.2.mem ((c.tc : Thread Cert.OutGradRefIdeal.nD Cert.OutGradRefIdeal.τ).loc Cert.OutGradRefIdeal.main_arg5) = m ((c.tc : Thread Cert.OutGradRefIdeal.nD Cert.OutGradRefIdeal.τ).loc Cert.OutGradRefIdeal.main_arg5)
      ∧ r.2.mem ((c.tc : Thread Cert.OutGradRefIdeal.nD Cert.OutGradRefIdeal.τ).loc Cert.OutGradRefIdeal.main_arg6) = m ((c.tc : Thread Cert.OutGradRefIdeal.nD Cert.OutGradRefIdeal.τ).loc Cert.OutGradRefIdeal.main_arg6)
      ∧ r.2.mem ((c.tc : Thread Cert.OutGradRefIdeal.nD Cert.OutGradRefIdeal.τ).loc Cert.OutGradRefIdeal.main_arg7) = m ((c.tc : Thread Cert.OutGradRefIdeal.nD Cert.OutGradRefIdeal.τ).loc Cert.OutGradRefIdeal.main_arg7)
      ∧ r.2.mem ((c.tc : Thread Cert.OutGradRefIdeal.nD Cert.OutGradRefIdeal.τ).loc Cert.OutGradRefIdeal.main_arg8) = m ((c.tc : Thread Cert.OutGradRefIdeal.nD Cert.OutGradRefIdeal.τ).loc Cert.OutGradRefIdeal.main_arg8))
      ∧ r.2.sem = fun _ => 0)

def quiescent_LatGrad [hLatGrad : Cert.LatGrad.Facts] : Prop :=
  ∀ (m : (ℓ : Loc Cert.LatGrad.nD Cert.LatGrad.τ Cert.LatGrad.sig) → Buf (Elt Bits) ℓ) (g : Dev Cert.LatGrad.nD → PrngReg), Pre_LatGrad m →
    θ_run (Cert.LatGrad.defs (F := Bits)) (onTc (τ := Cert.LatGrad.τ) (Cert.LatGrad.main (F := Bits))) ⟨m, fun _ => 0, g⟩ (fun r => (∀ c : Dev Cert.LatGrad.nD,
      r.2.mem ((c.tc : Thread Cert.LatGrad.nD Cert.LatGrad.τ).loc Cert.LatGrad.main_arg0) = m ((c.tc : Thread Cert.LatGrad.nD Cert.LatGrad.τ).loc Cert.LatGrad.main_arg0)
      ∧ r.2.mem ((c.tc : Thread Cert.LatGrad.nD Cert.LatGrad.τ).loc Cert.LatGrad.main_arg1) = m ((c.tc : Thread Cert.LatGrad.nD Cert.LatGrad.τ).loc Cert.LatGrad.main_arg1)
      ∧ r.2.mem ((c.tc : Thread Cert.LatGrad.nD Cert.LatGrad.τ).loc Cert.LatGrad.main_arg2) = m ((c.tc : Thread Cert.LatGrad.nD Cert.LatGrad.τ).loc Cert.LatGrad.main_arg2)
      ∧ r.2.mem ((c.tc : Thread Cert.LatGrad.nD Cert.LatGrad.τ).loc Cert.LatGrad.main_arg3) = m ((c.tc : Thread Cert.LatGrad.nD Cert.LatGrad.τ).loc Cert.LatGrad.main_arg3)
      ∧ r.2.mem ((c.tc : Thread Cert.LatGrad.nD Cert.LatGrad.τ).loc Cert.LatGrad.main_arg4) = m ((c.tc : Thread Cert.LatGrad.nD Cert.LatGrad.τ).loc Cert.LatGrad.main_arg4)
      ∧ r.2.mem ((c.tc : Thread Cert.LatGrad.nD Cert.LatGrad.τ).loc Cert.LatGrad.main_arg5) = m ((c.tc : Thread Cert.LatGrad.nD Cert.LatGrad.τ).loc Cert.LatGrad.main_arg5)
      ∧ r.2.mem ((c.tc : Thread Cert.LatGrad.nD Cert.LatGrad.τ).loc Cert.LatGrad.main_arg6) = m ((c.tc : Thread Cert.LatGrad.nD Cert.LatGrad.τ).loc Cert.LatGrad.main_arg6)
      ∧ r.2.mem ((c.tc : Thread Cert.LatGrad.nD Cert.LatGrad.τ).loc Cert.LatGrad.main_arg7) = m ((c.tc : Thread Cert.LatGrad.nD Cert.LatGrad.τ).loc Cert.LatGrad.main_arg7)
      ∧ r.2.mem ((c.tc : Thread Cert.LatGrad.nD Cert.LatGrad.τ).loc Cert.LatGrad.main_arg8) = m ((c.tc : Thread Cert.LatGrad.nD Cert.LatGrad.τ).loc Cert.LatGrad.main_arg8)
      ∧ r.2.mem ((c.tc : Thread Cert.LatGrad.nD Cert.LatGrad.τ).loc Cert.LatGrad.main_arg9) = m ((c.tc : Thread Cert.LatGrad.nD Cert.LatGrad.τ).loc Cert.LatGrad.main_arg9))
      ∧ r.2.sem = fun _ => 0)

def quiescent_LatGradIdeal [hLatGradIdeal : Cert.LatGradIdeal.Facts] : Prop :=
  ∀ (m : (ℓ : Loc Cert.LatGradIdeal.nD Cert.LatGradIdeal.τ Cert.LatGradIdeal.sig) → Buf (Elt Ideal) ℓ) (g : Dev Cert.LatGradIdeal.nD → PrngReg), Pre_LatGradIdeal m →
    θ_run (Cert.LatGradIdeal.defs (F := Ideal)) (onTc (τ := Cert.LatGradIdeal.τ) (Cert.LatGradIdeal.main (F := Ideal))) ⟨m, fun _ => 0, g⟩ (fun r => (∀ c : Dev Cert.LatGradIdeal.nD,
      r.2.mem ((c.tc : Thread Cert.LatGradIdeal.nD Cert.LatGradIdeal.τ).loc Cert.LatGradIdeal.main_arg0) = m ((c.tc : Thread Cert.LatGradIdeal.nD Cert.LatGradIdeal.τ).loc Cert.LatGradIdeal.main_arg0)
      ∧ r.2.mem ((c.tc : Thread Cert.LatGradIdeal.nD Cert.LatGradIdeal.τ).loc Cert.LatGradIdeal.main_arg1) = m ((c.tc : Thread Cert.LatGradIdeal.nD Cert.LatGradIdeal.τ).loc Cert.LatGradIdeal.main_arg1)
      ∧ r.2.mem ((c.tc : Thread Cert.LatGradIdeal.nD Cert.LatGradIdeal.τ).loc Cert.LatGradIdeal.main_arg2) = m ((c.tc : Thread Cert.LatGradIdeal.nD Cert.LatGradIdeal.τ).loc Cert.LatGradIdeal.main_arg2)
      ∧ r.2.mem ((c.tc : Thread Cert.LatGradIdeal.nD Cert.LatGradIdeal.τ).loc Cert.LatGradIdeal.main_arg3) = m ((c.tc : Thread Cert.LatGradIdeal.nD Cert.LatGradIdeal.τ).loc Cert.LatGradIdeal.main_arg3)
      ∧ r.2.mem ((c.tc : Thread Cert.LatGradIdeal.nD Cert.LatGradIdeal.τ).loc Cert.LatGradIdeal.main_arg4) = m ((c.tc : Thread Cert.LatGradIdeal.nD Cert.LatGradIdeal.τ).loc Cert.LatGradIdeal.main_arg4)
      ∧ r.2.mem ((c.tc : Thread Cert.LatGradIdeal.nD Cert.LatGradIdeal.τ).loc Cert.LatGradIdeal.main_arg5) = m ((c.tc : Thread Cert.LatGradIdeal.nD Cert.LatGradIdeal.τ).loc Cert.LatGradIdeal.main_arg5)
      ∧ r.2.mem ((c.tc : Thread Cert.LatGradIdeal.nD Cert.LatGradIdeal.τ).loc Cert.LatGradIdeal.main_arg6) = m ((c.tc : Thread Cert.LatGradIdeal.nD Cert.LatGradIdeal.τ).loc Cert.LatGradIdeal.main_arg6)
      ∧ r.2.mem ((c.tc : Thread Cert.LatGradIdeal.nD Cert.LatGradIdeal.τ).loc Cert.LatGradIdeal.main_arg7) = m ((c.tc : Thread Cert.LatGradIdeal.nD Cert.LatGradIdeal.τ).loc Cert.LatGradIdeal.main_arg7)
      ∧ r.2.mem ((c.tc : Thread Cert.LatGradIdeal.nD Cert.LatGradIdeal.τ).loc Cert.LatGradIdeal.main_arg8) = m ((c.tc : Thread Cert.LatGradIdeal.nD Cert.LatGradIdeal.τ).loc Cert.LatGradIdeal.main_arg8)
      ∧ r.2.mem ((c.tc : Thread Cert.LatGradIdeal.nD Cert.LatGradIdeal.τ).loc Cert.LatGradIdeal.main_arg9) = m ((c.tc : Thread Cert.LatGradIdeal.nD Cert.LatGradIdeal.τ).loc Cert.LatGradIdeal.main_arg9))
      ∧ r.2.sem = fun _ => 0)

def quiescent_LatGradIdeal_pre_lat_finite [hLatGradIdeal : Cert.LatGradIdeal.Facts] [hPre_lat_finite : Cert.Pre_lat_finite.Facts] : Prop :=
  ∀ (m : (ℓ : Loc Cert.LatGradIdeal.nD Cert.LatGradIdeal.τ Cert.LatGradIdeal.sig) → Buf (Elt Ideal) ℓ) (g : Dev Cert.LatGradIdeal.nD → PrngReg), Pre_LatGradIdeal_lat_finite m →
    θ_run (Cert.LatGradIdeal.defs (F := Ideal)) (onTc (τ := Cert.LatGradIdeal.τ) (Cert.LatGradIdeal.main (F := Ideal))) ⟨m, fun _ => 0, g⟩ (fun r => (∀ c : Dev Cert.LatGradIdeal.nD,
      r.2.mem ((c.tc : Thread Cert.LatGradIdeal.nD Cert.LatGradIdeal.τ).loc Cert.LatGradIdeal.main_arg0) = m ((c.tc : Thread Cert.LatGradIdeal.nD Cert.LatGradIdeal.τ).loc Cert.LatGradIdeal.main_arg0)
      ∧ r.2.mem ((c.tc : Thread Cert.LatGradIdeal.nD Cert.LatGradIdeal.τ).loc Cert.LatGradIdeal.main_arg1) = m ((c.tc : Thread Cert.LatGradIdeal.nD Cert.LatGradIdeal.τ).loc Cert.LatGradIdeal.main_arg1)
      ∧ r.2.mem ((c.tc : Thread Cert.LatGradIdeal.nD Cert.LatGradIdeal.τ).loc Cert.LatGradIdeal.main_arg2) = m ((c.tc : Thread Cert.LatGradIdeal.nD Cert.LatGradIdeal.τ).loc Cert.LatGradIdeal.main_arg2)
      ∧ r.2.mem ((c.tc : Thread Cert.LatGradIdeal.nD Cert.LatGradIdeal.τ).loc Cert.LatGradIdeal.main_arg3) = m ((c.tc : Thread Cert.LatGradIdeal.nD Cert.LatGradIdeal.τ).loc Cert.LatGradIdeal.main_arg3)
      ∧ r.2.mem ((c.tc : Thread Cert.LatGradIdeal.nD Cert.LatGradIdeal.τ).loc Cert.LatGradIdeal.main_arg4) = m ((c.tc : Thread Cert.LatGradIdeal.nD Cert.LatGradIdeal.τ).loc Cert.LatGradIdeal.main_arg4)
      ∧ r.2.mem ((c.tc : Thread Cert.LatGradIdeal.nD Cert.LatGradIdeal.τ).loc Cert.LatGradIdeal.main_arg5) = m ((c.tc : Thread Cert.LatGradIdeal.nD Cert.LatGradIdeal.τ).loc Cert.LatGradIdeal.main_arg5)
      ∧ r.2.mem ((c.tc : Thread Cert.LatGradIdeal.nD Cert.LatGradIdeal.τ).loc Cert.LatGradIdeal.main_arg6) = m ((c.tc : Thread Cert.LatGradIdeal.nD Cert.LatGradIdeal.τ).loc Cert.LatGradIdeal.main_arg6)
      ∧ r.2.mem ((c.tc : Thread Cert.LatGradIdeal.nD Cert.LatGradIdeal.τ).loc Cert.LatGradIdeal.main_arg7) = m ((c.tc : Thread Cert.LatGradIdeal.nD Cert.LatGradIdeal.τ).loc Cert.LatGradIdeal.main_arg7)
      ∧ r.2.mem ((c.tc : Thread Cert.LatGradIdeal.nD Cert.LatGradIdeal.τ).loc Cert.LatGradIdeal.main_arg8) = m ((c.tc : Thread Cert.LatGradIdeal.nD Cert.LatGradIdeal.τ).loc Cert.LatGradIdeal.main_arg8)
      ∧ r.2.mem ((c.tc : Thread Cert.LatGradIdeal.nD Cert.LatGradIdeal.τ).loc Cert.LatGradIdeal.main_arg9) = m ((c.tc : Thread Cert.LatGradIdeal.nD Cert.LatGradIdeal.τ).loc Cert.LatGradIdeal.main_arg9))
      ∧ r.2.sem = fun _ => 0)

def quiescent_LatGradRefIdeal [hLatGradRefIdeal : Cert.LatGradRefIdeal.Facts] : Prop :=
  ∀ (m : (ℓ : Loc Cert.LatGradRefIdeal.nD Cert.LatGradRefIdeal.τ Cert.LatGradRefIdeal.sig) → Buf (Elt Ideal) ℓ) (g : Dev Cert.LatGradRefIdeal.nD → PrngReg), Pre_LatGradRefIdeal m →
    θ_run (Cert.LatGradRefIdeal.defs (F := Ideal)) (onTc (τ := Cert.LatGradRefIdeal.τ) (Cert.LatGradRefIdeal.main (F := Ideal))) ⟨m, fun _ => 0, g⟩ (fun r => (∀ c : Dev Cert.LatGradRefIdeal.nD,
      r.2.mem ((c.tc : Thread Cert.LatGradRefIdeal.nD Cert.LatGradRefIdeal.τ).loc Cert.LatGradRefIdeal.main_arg0) = m ((c.tc : Thread Cert.LatGradRefIdeal.nD Cert.LatGradRefIdeal.τ).loc Cert.LatGradRefIdeal.main_arg0)
      ∧ r.2.mem ((c.tc : Thread Cert.LatGradRefIdeal.nD Cert.LatGradRefIdeal.τ).loc Cert.LatGradRefIdeal.main_arg1) = m ((c.tc : Thread Cert.LatGradRefIdeal.nD Cert.LatGradRefIdeal.τ).loc Cert.LatGradRefIdeal.main_arg1)
      ∧ r.2.mem ((c.tc : Thread Cert.LatGradRefIdeal.nD Cert.LatGradRefIdeal.τ).loc Cert.LatGradRefIdeal.main_arg2) = m ((c.tc : Thread Cert.LatGradRefIdeal.nD Cert.LatGradRefIdeal.τ).loc Cert.LatGradRefIdeal.main_arg2)
      ∧ r.2.mem ((c.tc : Thread Cert.LatGradRefIdeal.nD Cert.LatGradRefIdeal.τ).loc Cert.LatGradRefIdeal.main_arg3) = m ((c.tc : Thread Cert.LatGradRefIdeal.nD Cert.LatGradRefIdeal.τ).loc Cert.LatGradRefIdeal.main_arg3)
      ∧ r.2.mem ((c.tc : Thread Cert.LatGradRefIdeal.nD Cert.LatGradRefIdeal.τ).loc Cert.LatGradRefIdeal.main_arg4) = m ((c.tc : Thread Cert.LatGradRefIdeal.nD Cert.LatGradRefIdeal.τ).loc Cert.LatGradRefIdeal.main_arg4)
      ∧ r.2.mem ((c.tc : Thread Cert.LatGradRefIdeal.nD Cert.LatGradRefIdeal.τ).loc Cert.LatGradRefIdeal.main_arg5) = m ((c.tc : Thread Cert.LatGradRefIdeal.nD Cert.LatGradRefIdeal.τ).loc Cert.LatGradRefIdeal.main_arg5)
      ∧ r.2.mem ((c.tc : Thread Cert.LatGradRefIdeal.nD Cert.LatGradRefIdeal.τ).loc Cert.LatGradRefIdeal.main_arg6) = m ((c.tc : Thread Cert.LatGradRefIdeal.nD Cert.LatGradRefIdeal.τ).loc Cert.LatGradRefIdeal.main_arg6)
      ∧ r.2.mem ((c.tc : Thread Cert.LatGradRefIdeal.nD Cert.LatGradRefIdeal.τ).loc Cert.LatGradRefIdeal.main_arg7) = m ((c.tc : Thread Cert.LatGradRefIdeal.nD Cert.LatGradRefIdeal.τ).loc Cert.LatGradRefIdeal.main_arg7)
      ∧ r.2.mem ((c.tc : Thread Cert.LatGradRefIdeal.nD Cert.LatGradRefIdeal.τ).loc Cert.LatGradRefIdeal.main_arg8) = m ((c.tc : Thread Cert.LatGradRefIdeal.nD Cert.LatGradRefIdeal.τ).loc Cert.LatGradRefIdeal.main_arg8)
      ∧ r.2.mem ((c.tc : Thread Cert.LatGradRefIdeal.nD Cert.LatGradRefIdeal.τ).loc Cert.LatGradRefIdeal.main_arg9) = m ((c.tc : Thread Cert.LatGradRefIdeal.nD Cert.LatGradRefIdeal.τ).loc Cert.LatGradRefIdeal.main_arg9))
      ∧ r.2.sem = fun _ => 0)

def quiescent_LatGradRefIdeal_pre_lat_finite [hLatGradRefIdeal : Cert.LatGradRefIdeal.Facts] [hPre_lat_finite : Cert.Pre_lat_finite.Facts] : Prop :=
  ∀ (m : (ℓ : Loc Cert.LatGradRefIdeal.nD Cert.LatGradRefIdeal.τ Cert.LatGradRefIdeal.sig) → Buf (Elt Ideal) ℓ) (g : Dev Cert.LatGradRefIdeal.nD → PrngReg), Pre_LatGradRefIdeal_lat_finite m →
    θ_run (Cert.LatGradRefIdeal.defs (F := Ideal)) (onTc (τ := Cert.LatGradRefIdeal.τ) (Cert.LatGradRefIdeal.main (F := Ideal))) ⟨m, fun _ => 0, g⟩ (fun r => (∀ c : Dev Cert.LatGradRefIdeal.nD,
      r.2.mem ((c.tc : Thread Cert.LatGradRefIdeal.nD Cert.LatGradRefIdeal.τ).loc Cert.LatGradRefIdeal.main_arg0) = m ((c.tc : Thread Cert.LatGradRefIdeal.nD Cert.LatGradRefIdeal.τ).loc Cert.LatGradRefIdeal.main_arg0)
      ∧ r.2.mem ((c.tc : Thread Cert.LatGradRefIdeal.nD Cert.LatGradRefIdeal.τ).loc Cert.LatGradRefIdeal.main_arg1) = m ((c.tc : Thread Cert.LatGradRefIdeal.nD Cert.LatGradRefIdeal.τ).loc Cert.LatGradRefIdeal.main_arg1)
      ∧ r.2.mem ((c.tc : Thread Cert.LatGradRefIdeal.nD Cert.LatGradRefIdeal.τ).loc Cert.LatGradRefIdeal.main_arg2) = m ((c.tc : Thread Cert.LatGradRefIdeal.nD Cert.LatGradRefIdeal.τ).loc Cert.LatGradRefIdeal.main_arg2)
      ∧ r.2.mem ((c.tc : Thread Cert.LatGradRefIdeal.nD Cert.LatGradRefIdeal.τ).loc Cert.LatGradRefIdeal.main_arg3) = m ((c.tc : Thread Cert.LatGradRefIdeal.nD Cert.LatGradRefIdeal.τ).loc Cert.LatGradRefIdeal.main_arg3)
      ∧ r.2.mem ((c.tc : Thread Cert.LatGradRefIdeal.nD Cert.LatGradRefIdeal.τ).loc Cert.LatGradRefIdeal.main_arg4) = m ((c.tc : Thread Cert.LatGradRefIdeal.nD Cert.LatGradRefIdeal.τ).loc Cert.LatGradRefIdeal.main_arg4)
      ∧ r.2.mem ((c.tc : Thread Cert.LatGradRefIdeal.nD Cert.LatGradRefIdeal.τ).loc Cert.LatGradRefIdeal.main_arg5) = m ((c.tc : Thread Cert.LatGradRefIdeal.nD Cert.LatGradRefIdeal.τ).loc Cert.LatGradRefIdeal.main_arg5)
      ∧ r.2.mem ((c.tc : Thread Cert.LatGradRefIdeal.nD Cert.LatGradRefIdeal.τ).loc Cert.LatGradRefIdeal.main_arg6) = m ((c.tc : Thread Cert.LatGradRefIdeal.nD Cert.LatGradRefIdeal.τ).loc Cert.LatGradRefIdeal.main_arg6)
      ∧ r.2.mem ((c.tc : Thread Cert.LatGradRefIdeal.nD Cert.LatGradRefIdeal.τ).loc Cert.LatGradRefIdeal.main_arg7) = m ((c.tc : Thread Cert.LatGradRefIdeal.nD Cert.LatGradRefIdeal.τ).loc Cert.LatGradRefIdeal.main_arg7)
      ∧ r.2.mem ((c.tc : Thread Cert.LatGradRefIdeal.nD Cert.LatGradRefIdeal.τ).loc Cert.LatGradRefIdeal.main_arg8) = m ((c.tc : Thread Cert.LatGradRefIdeal.nD Cert.LatGradRefIdeal.τ).loc Cert.LatGradRefIdeal.main_arg8)
      ∧ r.2.mem ((c.tc : Thread Cert.LatGradRefIdeal.nD Cert.LatGradRefIdeal.τ).loc Cert.LatGradRefIdeal.main_arg9) = m ((c.tc : Thread Cert.LatGradRefIdeal.nD Cert.LatGradRefIdeal.τ).loc Cert.LatGradRefIdeal.main_arg9))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_fwd_finite [hAttnFwdIdeal : Cert.AttnFwdIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_fwd_finite [hAttnFwdRefIdeal : Cert.AttnFwdRefIdeal.Facts] [hPre_fwd_finite : Cert.Pre_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_SsdFwd [hSsdFwd : Cert.SsdFwd.Facts] : Prop :=
  ∀ (m : (ℓ : Loc Cert.SsdFwd.nD Cert.SsdFwd.τ Cert.SsdFwd.sig) → Buf (Elt Bits) ℓ) (g : Dev Cert.SsdFwd.nD → PrngReg), Pre_SsdFwd m →
    θ_run (Cert.SsdFwd.defs (F := Bits)) (onTc (τ := Cert.SsdFwd.τ) (Cert.SsdFwd.main (F := Bits))) ⟨m, fun _ => 0, g⟩ (fun r => (∀ c : Dev Cert.SsdFwd.nD,
      r.2.mem ((c.tc : Thread Cert.SsdFwd.nD Cert.SsdFwd.τ).loc Cert.SsdFwd.main_arg0) = m ((c.tc : Thread Cert.SsdFwd.nD Cert.SsdFwd.τ).loc Cert.SsdFwd.main_arg0)
      ∧ r.2.mem ((c.tc : Thread Cert.SsdFwd.nD Cert.SsdFwd.τ).loc Cert.SsdFwd.main_arg1) = m ((c.tc : Thread Cert.SsdFwd.nD Cert.SsdFwd.τ).loc Cert.SsdFwd.main_arg1)
      ∧ r.2.mem ((c.tc : Thread Cert.SsdFwd.nD Cert.SsdFwd.τ).loc Cert.SsdFwd.main_arg2) = m ((c.tc : Thread Cert.SsdFwd.nD Cert.SsdFwd.τ).loc Cert.SsdFwd.main_arg2)
      ∧ r.2.mem ((c.tc : Thread Cert.SsdFwd.nD Cert.SsdFwd.τ).loc Cert.SsdFwd.main_arg3) = m ((c.tc : Thread Cert.SsdFwd.nD Cert.SsdFwd.τ).loc Cert.SsdFwd.main_arg3)
      ∧ r.2.mem ((c.tc : Thread Cert.SsdFwd.nD Cert.SsdFwd.τ).loc Cert.SsdFwd.main_arg4) = m ((c.tc : Thread Cert.SsdFwd.nD Cert.SsdFwd.τ).loc Cert.SsdFwd.main_arg4)
      ∧ r.2.mem ((c.tc : Thread Cert.SsdFwd.nD Cert.SsdFwd.τ).loc Cert.SsdFwd.main_arg5) = m ((c.tc : Thread Cert.SsdFwd.nD Cert.SsdFwd.τ).loc Cert.SsdFwd.main_arg5)
      ∧ r.2.mem ((c.tc : Thread Cert.SsdFwd.nD Cert.SsdFwd.τ).loc Cert.SsdFwd.main_arg6) = m ((c.tc : Thread Cert.SsdFwd.nD Cert.SsdFwd.τ).loc Cert.SsdFwd.main_arg6)
      ∧ r.2.mem ((c.tc : Thread Cert.SsdFwd.nD Cert.SsdFwd.τ).loc Cert.SsdFwd.main_arg7) = m ((c.tc : Thread Cert.SsdFwd.nD Cert.SsdFwd.τ).loc Cert.SsdFwd.main_arg7)
      ∧ r.2.mem ((c.tc : Thread Cert.SsdFwd.nD Cert.SsdFwd.τ).loc Cert.SsdFwd.main_arg8) = m ((c.tc : Thread Cert.SsdFwd.nD Cert.SsdFwd.τ).loc Cert.SsdFwd.main_arg8))
      ∧ r.2.sem = fun _ => 0)

def quiescent_SsdFwdIdeal [hSsdFwdIdeal : Cert.SsdFwdIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
      ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
      ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6)
      ∧ r.2.mem ((c.tc : Thread Cert.SsdFwdIdeal.nD Cert.SsdFwdIdeal.τ).loc Cert.SsdFwdIdeal.main_arg7) = m ((c.tc : Thread Cert.SsdFwdIdeal.nD Cert.SsdFwdIdeal.τ).loc Cert.SsdFwdIdeal.main_arg7)
      ∧ r.2.mem ((c.tc : Thread Cert.SsdFwdIdeal.nD Cert.SsdFwdIdeal.τ).loc Cert.SsdFwdIdeal.main_arg8) = m ((c.tc : Thread Cert.SsdFwdIdeal.nD Cert.SsdFwdIdeal.τ).loc Cert.SsdFwdIdeal.main_arg8))
      ∧ r.2.sem = fun _ => 0)

def quiescent_SsdFwdRefIdeal [hSsdFwdRefIdeal : Cert.SsdFwdRefIdeal.Facts] : Prop :=
  ∀ (m : (ℓ : Loc Cert.SsdFwdRefIdeal.nD Cert.SsdFwdRefIdeal.τ Cert.SsdFwdRefIdeal.sig) → Buf (Elt Ideal) ℓ) (g : Dev Cert.SsdFwdRefIdeal.nD → PrngReg), Pre_SsdFwdRefIdeal m →
    θ_run (Cert.SsdFwdRefIdeal.defs (F := Ideal)) (onTc (τ := Cert.SsdFwdRefIdeal.τ) (Cert.SsdFwdRefIdeal.main (F := Ideal))) ⟨m, fun _ => 0, g⟩ (fun r => (∀ c : Dev Cert.SsdFwdRefIdeal.nD,
      r.2.mem ((c.tc : Thread Cert.SsdFwdRefIdeal.nD Cert.SsdFwdRefIdeal.τ).loc Cert.SsdFwdRefIdeal.main_arg0) = m ((c.tc : Thread Cert.SsdFwdRefIdeal.nD Cert.SsdFwdRefIdeal.τ).loc Cert.SsdFwdRefIdeal.main_arg0)
      ∧ r.2.mem ((c.tc : Thread Cert.SsdFwdRefIdeal.nD Cert.SsdFwdRefIdeal.τ).loc Cert.SsdFwdRefIdeal.main_arg1) = m ((c.tc : Thread Cert.SsdFwdRefIdeal.nD Cert.SsdFwdRefIdeal.τ).loc Cert.SsdFwdRefIdeal.main_arg1)
      ∧ r.2.mem ((c.tc : Thread Cert.SsdFwdRefIdeal.nD Cert.SsdFwdRefIdeal.τ).loc Cert.SsdFwdRefIdeal.main_arg2) = m ((c.tc : Thread Cert.SsdFwdRefIdeal.nD Cert.SsdFwdRefIdeal.τ).loc Cert.SsdFwdRefIdeal.main_arg2)
      ∧ r.2.mem ((c.tc : Thread Cert.SsdFwdRefIdeal.nD Cert.SsdFwdRefIdeal.τ).loc Cert.SsdFwdRefIdeal.main_arg3) = m ((c.tc : Thread Cert.SsdFwdRefIdeal.nD Cert.SsdFwdRefIdeal.τ).loc Cert.SsdFwdRefIdeal.main_arg3)
      ∧ r.2.mem ((c.tc : Thread Cert.SsdFwdRefIdeal.nD Cert.SsdFwdRefIdeal.τ).loc Cert.SsdFwdRefIdeal.main_arg4) = m ((c.tc : Thread Cert.SsdFwdRefIdeal.nD Cert.SsdFwdRefIdeal.τ).loc Cert.SsdFwdRefIdeal.main_arg4)
      ∧ r.2.mem ((c.tc : Thread Cert.SsdFwdRefIdeal.nD Cert.SsdFwdRefIdeal.τ).loc Cert.SsdFwdRefIdeal.main_arg5) = m ((c.tc : Thread Cert.SsdFwdRefIdeal.nD Cert.SsdFwdRefIdeal.τ).loc Cert.SsdFwdRefIdeal.main_arg5)
      ∧ r.2.mem ((c.tc : Thread Cert.SsdFwdRefIdeal.nD Cert.SsdFwdRefIdeal.τ).loc Cert.SsdFwdRefIdeal.main_arg6) = m ((c.tc : Thread Cert.SsdFwdRefIdeal.nD Cert.SsdFwdRefIdeal.τ).loc Cert.SsdFwdRefIdeal.main_arg6)
      ∧ r.2.mem ((c.tc : Thread Cert.SsdFwdRefIdeal.nD Cert.SsdFwdRefIdeal.τ).loc Cert.SsdFwdRefIdeal.main_arg7) = m ((c.tc : Thread Cert.SsdFwdRefIdeal.nD Cert.SsdFwdRefIdeal.τ).loc Cert.SsdFwdRefIdeal.main_arg7)
      ∧ r.2.mem ((c.tc : Thread Cert.SsdFwdRefIdeal.nD Cert.SsdFwdRefIdeal.τ).loc Cert.SsdFwdRefIdeal.main_arg8) = m ((c.tc : Thread Cert.SsdFwdRefIdeal.nD Cert.SsdFwdRefIdeal.τ).loc Cert.SsdFwdRefIdeal.main_arg8))
      ∧ r.2.sem = fun _ => 0)

def quiescent_SsdBwd [hSsdBwd : Cert.SsdBwd.Facts] : Prop :=
  ∀ (m : (ℓ : Loc Cert.SsdBwd.nD Cert.SsdBwd.τ Cert.SsdBwd.sig) → Buf (Elt Bits) ℓ) (g : Dev Cert.SsdBwd.nD → PrngReg), Pre_SsdBwd m →
    θ_run (Cert.SsdBwd.defs (F := Bits)) (onTc (τ := Cert.SsdBwd.τ) (Cert.SsdBwd.main (F := Bits))) ⟨m, fun _ => 0, g⟩ (fun r => (∀ c : Dev Cert.SsdBwd.nD,
      r.2.mem ((c.tc : Thread Cert.SsdBwd.nD Cert.SsdBwd.τ).loc Cert.SsdBwd.main_arg0) = m ((c.tc : Thread Cert.SsdBwd.nD Cert.SsdBwd.τ).loc Cert.SsdBwd.main_arg0)
      ∧ r.2.mem ((c.tc : Thread Cert.SsdBwd.nD Cert.SsdBwd.τ).loc Cert.SsdBwd.main_arg1) = m ((c.tc : Thread Cert.SsdBwd.nD Cert.SsdBwd.τ).loc Cert.SsdBwd.main_arg1)
      ∧ r.2.mem ((c.tc : Thread Cert.SsdBwd.nD Cert.SsdBwd.τ).loc Cert.SsdBwd.main_arg2) = m ((c.tc : Thread Cert.SsdBwd.nD Cert.SsdBwd.τ).loc Cert.SsdBwd.main_arg2)
      ∧ r.2.mem ((c.tc : Thread Cert.SsdBwd.nD Cert.SsdBwd.τ).loc Cert.SsdBwd.main_arg3) = m ((c.tc : Thread Cert.SsdBwd.nD Cert.SsdBwd.τ).loc Cert.SsdBwd.main_arg3)
      ∧ r.2.mem ((c.tc : Thread Cert.SsdBwd.nD Cert.SsdBwd.τ).loc Cert.SsdBwd.main_arg4) = m ((c.tc : Thread Cert.SsdBwd.nD Cert.SsdBwd.τ).loc Cert.SsdBwd.main_arg4)
      ∧ r.2.mem ((c.tc : Thread Cert.SsdBwd.nD Cert.SsdBwd.τ).loc Cert.SsdBwd.main_arg5) = m ((c.tc : Thread Cert.SsdBwd.nD Cert.SsdBwd.τ).loc Cert.SsdBwd.main_arg5)
      ∧ r.2.mem ((c.tc : Thread Cert.SsdBwd.nD Cert.SsdBwd.τ).loc Cert.SsdBwd.main_arg6) = m ((c.tc : Thread Cert.SsdBwd.nD Cert.SsdBwd.τ).loc Cert.SsdBwd.main_arg6)
      ∧ r.2.mem ((c.tc : Thread Cert.SsdBwd.nD Cert.SsdBwd.τ).loc Cert.SsdBwd.main_arg7) = m ((c.tc : Thread Cert.SsdBwd.nD Cert.SsdBwd.τ).loc Cert.SsdBwd.main_arg7)
      ∧ r.2.mem ((c.tc : Thread Cert.SsdBwd.nD Cert.SsdBwd.τ).loc Cert.SsdBwd.main_arg8) = m ((c.tc : Thread Cert.SsdBwd.nD Cert.SsdBwd.τ).loc Cert.SsdBwd.main_arg8)
      ∧ r.2.mem ((c.tc : Thread Cert.SsdBwd.nD Cert.SsdBwd.τ).loc Cert.SsdBwd.main_arg9) = m ((c.tc : Thread Cert.SsdBwd.nD Cert.SsdBwd.τ).loc Cert.SsdBwd.main_arg9)
      ∧ r.2.mem ((c.tc : Thread Cert.SsdBwd.nD Cert.SsdBwd.τ).loc Cert.SsdBwd.main_arg10) = m ((c.tc : Thread Cert.SsdBwd.nD Cert.SsdBwd.τ).loc Cert.SsdBwd.main_arg10)
      ∧ r.2.mem ((c.tc : Thread Cert.SsdBwd.nD Cert.SsdBwd.τ).loc Cert.SsdBwd.main_arg11) = m ((c.tc : Thread Cert.SsdBwd.nD Cert.SsdBwd.τ).loc Cert.SsdBwd.main_arg11))
      ∧ r.2.sem = fun _ => 0)

def quiescent_SsdBwdIdeal [hSsdBwdIdeal : Cert.SsdBwdIdeal.Facts] : Prop :=
  ∀ (m : (ℓ : Loc Cert.SsdBwdIdeal.nD Cert.SsdBwdIdeal.τ Cert.SsdBwdIdeal.sig) → Buf (Elt Ideal) ℓ) (g : Dev Cert.SsdBwdIdeal.nD → PrngReg), Pre_SsdBwdIdeal m →
    θ_run (Cert.SsdBwdIdeal.defs (F := Ideal)) (onTc (τ := Cert.SsdBwdIdeal.τ) (Cert.SsdBwdIdeal.main (F := Ideal))) ⟨m, fun _ => 0, g⟩ (fun r => (∀ c : Dev Cert.SsdBwdIdeal.nD,
      r.2.mem ((c.tc : Thread Cert.SsdBwdIdeal.nD Cert.SsdBwdIdeal.τ).loc Cert.SsdBwdIdeal.main_arg0) = m ((c.tc : Thread Cert.SsdBwdIdeal.nD Cert.SsdBwdIdeal.τ).loc Cert.SsdBwdIdeal.main_arg0)
      ∧ r.2.mem ((c.tc : Thread Cert.SsdBwdIdeal.nD Cert.SsdBwdIdeal.τ).loc Cert.SsdBwdIdeal.main_arg1) = m ((c.tc : Thread Cert.SsdBwdIdeal.nD Cert.SsdBwdIdeal.τ).loc Cert.SsdBwdIdeal.main_arg1)
      ∧ r.2.mem ((c.tc : Thread Cert.SsdBwdIdeal.nD Cert.SsdBwdIdeal.τ).loc Cert.SsdBwdIdeal.main_arg2) = m ((c.tc : Thread Cert.SsdBwdIdeal.nD Cert.SsdBwdIdeal.τ).loc Cert.SsdBwdIdeal.main_arg2)
      ∧ r.2.mem ((c.tc : Thread Cert.SsdBwdIdeal.nD Cert.SsdBwdIdeal.τ).loc Cert.SsdBwdIdeal.main_arg3) = m ((c.tc : Thread Cert.SsdBwdIdeal.nD Cert.SsdBwdIdeal.τ).loc Cert.SsdBwdIdeal.main_arg3)
      ∧ r.2.mem ((c.tc : Thread Cert.SsdBwdIdeal.nD Cert.SsdBwdIdeal.τ).loc Cert.SsdBwdIdeal.main_arg4) = m ((c.tc : Thread Cert.SsdBwdIdeal.nD Cert.SsdBwdIdeal.τ).loc Cert.SsdBwdIdeal.main_arg4)
      ∧ r.2.mem ((c.tc : Thread Cert.SsdBwdIdeal.nD Cert.SsdBwdIdeal.τ).loc Cert.SsdBwdIdeal.main_arg5) = m ((c.tc : Thread Cert.SsdBwdIdeal.nD Cert.SsdBwdIdeal.τ).loc Cert.SsdBwdIdeal.main_arg5)
      ∧ r.2.mem ((c.tc : Thread Cert.SsdBwdIdeal.nD Cert.SsdBwdIdeal.τ).loc Cert.SsdBwdIdeal.main_arg6) = m ((c.tc : Thread Cert.SsdBwdIdeal.nD Cert.SsdBwdIdeal.τ).loc Cert.SsdBwdIdeal.main_arg6)
      ∧ r.2.mem ((c.tc : Thread Cert.SsdBwdIdeal.nD Cert.SsdBwdIdeal.τ).loc Cert.SsdBwdIdeal.main_arg7) = m ((c.tc : Thread Cert.SsdBwdIdeal.nD Cert.SsdBwdIdeal.τ).loc Cert.SsdBwdIdeal.main_arg7)
      ∧ r.2.mem ((c.tc : Thread Cert.SsdBwdIdeal.nD Cert.SsdBwdIdeal.τ).loc Cert.SsdBwdIdeal.main_arg8) = m ((c.tc : Thread Cert.SsdBwdIdeal.nD Cert.SsdBwdIdeal.τ).loc Cert.SsdBwdIdeal.main_arg8)
      ∧ r.2.mem ((c.tc : Thread Cert.SsdBwdIdeal.nD Cert.SsdBwdIdeal.τ).loc Cert.SsdBwdIdeal.main_arg9) = m ((c.tc : Thread Cert.SsdBwdIdeal.nD Cert.SsdBwdIdeal.τ).loc Cert.SsdBwdIdeal.main_arg9)
      ∧ r.2.mem ((c.tc : Thread Cert.SsdBwdIdeal.nD Cert.SsdBwdIdeal.τ).loc Cert.SsdBwdIdeal.main_arg10) = m ((c.tc : Thread Cert.SsdBwdIdeal.nD Cert.SsdBwdIdeal.τ).loc Cert.SsdBwdIdeal.main_arg10)
      ∧ r.2.mem ((c.tc : Thread Cert.SsdBwdIdeal.nD Cert.SsdBwdIdeal.τ).loc Cert.SsdBwdIdeal.main_arg11) = m ((c.tc : Thread Cert.SsdBwdIdeal.nD Cert.SsdBwdIdeal.τ).loc Cert.SsdBwdIdeal.main_arg11))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1)
      ∧ r.2.mem ((c.tc : Thread Cert.AdaGrad.nD Cert.AdaGrad.τ).loc Cert.AdaGrad.main_arg2) = m ((c.tc : Thread Cert.AdaGrad.nD Cert.AdaGrad.τ).loc Cert.AdaGrad.main_arg2))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1)
      ∧ r.2.mem ((c.tc : Thread Cert.AdaGradIdeal.nD Cert.AdaGradIdeal.τ).loc Cert.AdaGradIdeal.main_arg2) = m ((c.tc : Thread Cert.AdaGradIdeal.nD Cert.AdaGradIdeal.τ).loc Cert.AdaGradIdeal.main_arg2))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1)
      ∧ r.2.mem ((c.tc : Thread Cert.AdaGradRefIdeal.nD Cert.AdaGradRefIdeal.τ).loc Cert.AdaGradRefIdeal.main_arg2) = m ((c.tc : Thread Cert.AdaGradRefIdeal.nD Cert.AdaGradRefIdeal.τ).loc Cert.AdaGradRefIdeal.main_arg2))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)
      ∧ m' ((c.tc : Thread Cert.InGradRefIdeal.nD Cert.InGradRefIdeal.τ).loc Cert.InGradRefIdeal.main_arg4) = m ((c.tc : Thread Cert.InGradIdeal.nD Cert.InGradIdeal.τ).loc Cert.InGradIdeal.main_arg4)) →
    ∃ (v0 : (c : Dev Cert.InGradIdeal.nD) → Buf (Elt Ideal) ((c.tc : Thread Cert.InGradIdeal.nD Cert.InGradIdeal.τ).loc Cert.InGradIdeal.main_v29_0)) (v1 : (c : Dev Cert.InGradIdeal.nD) → Buf (Elt Ideal) ((c.tc : Thread Cert.InGradIdeal.nD Cert.InGradIdeal.τ).loc Cert.InGradIdeal.main_v30)) (v2 : (c : Dev Cert.InGradIdeal.nD) → Buf (Elt Ideal) ((c.tc : Thread Cert.InGradIdeal.nD Cert.InGradIdeal.τ).loc Cert.InGradIdeal.main_v31)) (v3 : (c : Dev Cert.InGradIdeal.nD) → Buf (Elt Ideal) ((c.tc : Thread Cert.InGradIdeal.nD Cert.InGradIdeal.τ).loc Cert.InGradIdeal.main_v39)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v29_0) = v0 c
          ∧ r.2.mem ((c.tc : Thread Cert.InGradIdeal.nD Cert.InGradIdeal.τ).loc Cert.InGradIdeal.main_v30) = v1 c
          ∧ r.2.mem ((c.tc : Thread Cert.InGradIdeal.nD Cert.InGradIdeal.τ).loc Cert.InGradIdeal.main_v31) = v2 c
          ∧ r.2.mem ((c.tc : Thread Cert.InGradIdeal.nD Cert.InGradIdeal.τ).loc Cert.InGradIdeal.main_v39) = v3 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v33) = v0 c
          ∧ r.2.mem ((c.tc : Thread Cert.InGradRefIdeal.nD Cert.InGradRefIdeal.τ).loc Cert.InGradRefIdeal.main_v34) = v1 c
          ∧ r.2.mem ((c.tc : Thread Cert.InGradRefIdeal.nD Cert.InGradRefIdeal.τ).loc Cert.InGradRefIdeal.main_v35) = v2 c
          ∧ r.2.mem ((c.tc : Thread Cert.InGradRefIdeal.nD Cert.InGradRefIdeal.τ).loc Cert.InGradRefIdeal.main_v14) = v3 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3)
          ∧ r.2.mem ((c.tc : Thread Cert.InGradRefIdeal.nD Cert.InGradRefIdeal.τ).loc Cert.InGradRefIdeal.main_arg4) = m' ((c.tc : Thread Cert.InGradRefIdeal.nD Cert.InGradRefIdeal.τ).loc Cert.InGradRefIdeal.main_arg4))

def preserves_AttnGrad_AttnGradIdeal : Prop :=
  IdealRules.named_const.Statement Cert.AttnGradIdeal.κ "ln2" .f32 0x3F317218#32 ((Real.log 2 : ℝ) : EReal)

def algebraic_AttnGradIdeal_AttnGradRefIdeal_pre_attn_finite [hAttnGradIdeal : Cert.AttnGradIdeal.Facts] [hAttnGradRefIdeal : Cert.AttnGradRefIdeal.Facts] [hPre_attn_finite : Cert.Pre_attn_finite.Facts] : Prop :=
  ∀ (m : (ℓ : Loc Cert.AttnGradIdeal.nD Cert.AttnGradIdeal.τ Cert.AttnGradIdeal.sig) → Buf (Elt Ideal) ℓ) (g : Dev Cert.AttnGradIdeal.nD → PrngReg)
    (m' : (ℓ : Loc Cert.AttnGradRefIdeal.nD Cert.AttnGradRefIdeal.τ Cert.AttnGradRefIdeal.sig) → Buf (Elt Ideal) ℓ) (g' : Dev Cert.AttnGradRefIdeal.nD → PrngReg), Pre_AttnGradIdeal_attn_finite m →
    (∀ c : Dev Cert.AttnGradIdeal.nD,
      m' ((c.tc : Thread Cert.AttnGradRefIdeal.nD Cert.AttnGradRefIdeal.τ).loc Cert.AttnGradRefIdeal.main_arg0) = m ((c.tc : Thread Cert.AttnGradIdeal.nD Cert.AttnGradIdeal.τ).loc Cert.AttnGradIdeal.main_arg0)
      ∧ m' ((c.tc : Thread Cert.AttnGradRefIdeal.nD Cert.AttnGradRefIdeal.τ).loc Cert.AttnGradRefIdeal.main_arg1) = m ((c.tc : Thread Cert.AttnGradIdeal.nD Cert.AttnGradIdeal.τ).loc Cert.AttnGradIdeal.main_arg1)
      ∧ m' ((c.tc : Thread Cert.AttnGradRefIdeal.nD Cert.AttnGradRefIdeal.τ).loc Cert.AttnGradRefIdeal.main_arg2) = m ((c.tc : Thread Cert.AttnGradIdeal.nD Cert.AttnGradIdeal.τ).loc Cert.AttnGradIdeal.main_arg2)
      ∧ m' ((c.tc : Thread Cert.AttnGradRefIdeal.nD Cert.AttnGradRefIdeal.τ).loc Cert.AttnGradRefIdeal.main_arg3) = m ((c.tc : Thread Cert.AttnGradIdeal.nD Cert.AttnGradIdeal.τ).loc Cert.AttnGradIdeal.main_arg3)) →
    ∃ (v0 : (c : Dev Cert.AttnGradIdeal.nD) → Buf (Elt Ideal) ((c.tc : Thread Cert.AttnGradIdeal.nD Cert.AttnGradIdeal.τ).loc Cert.AttnGradIdeal.main_v61)) (v1 : (c : Dev Cert.AttnGradIdeal.nD) → Buf (Elt Ideal) ((c.tc : Thread Cert.AttnGradIdeal.nD Cert.AttnGradIdeal.τ).loc Cert.AttnGradIdeal.main_v64)) (v2 : (c : Dev Cert.AttnGradIdeal.nD) → Buf (Elt Ideal) ((c.tc : Thread Cert.AttnGradIdeal.nD Cert.AttnGradIdeal.τ).loc Cert.AttnGradIdeal.main_v66)),
      θ_run (Cert.AttnGradIdeal.defs (F := Ideal)) (onTc (τ := Cert.AttnGradIdeal.τ) (Cert.AttnGradIdeal.main (F := Ideal))) ⟨m, fun _ => 0, g⟩ (fun r => ∀ c : Dev Cert.AttnGradIdeal.nD,
          r.2.mem ((c.tc : Thread Cert.AttnGradIdeal.nD Cert.AttnGradIdeal.τ).loc Cert.AttnGradIdeal.main_v61) = v0 c
          ∧ r.2.mem ((c.tc : Thread Cert.AttnGradIdeal.nD Cert.AttnGradIdeal.τ).loc Cert.AttnGradIdeal.main_v64) = v1 c
          ∧ r.2.mem ((c.tc : Thread Cert.AttnGradIdeal.nD Cert.AttnGradIdeal.τ).loc Cert.AttnGradIdeal.main_v66) = v2 c
          ∧ r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
          ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3))
      ∧ θ_run (Cert.AttnGradRefIdeal.defs (F := Ideal)) (onTc (τ := Cert.AttnGradRefIdeal.τ) (Cert.AttnGradRefIdeal.main (F := Ideal))) ⟨m', fun _ => 0, g'⟩ (fun r => ∀ c : Dev Cert.AttnGradRefIdeal.nD,
          r.2.mem ((c.tc : Thread Cert.AttnGradRefIdeal.nD Cert.AttnGradRefIdeal.τ).loc Cert.AttnGradRefIdeal.main_v65) = v0 c
          ∧ r.2.mem ((c.tc : Thread Cert.AttnGradRefIdeal.nD Cert.AttnGradRefIdeal.τ).loc Cert.AttnGradRefIdeal.main_v63) = v1 c
          ∧ r.2.mem ((c.tc : Thread Cert.AttnGradRefIdeal.nD Cert.AttnGradRefIdeal.τ).loc Cert.AttnGradRefIdeal.main_v45) = v2 c
          ∧ r.2.mem ((c.tc : Thread Cert.AttnGradRefIdeal.nD Cert.AttnGradRefIdeal.τ).loc Cert.AttnGradRefIdeal.main_arg0) = m' ((c.tc : Thread Cert.AttnGradRefIdeal.nD Cert.AttnGradRefIdeal.τ).loc Cert.AttnGradRefIdeal.main_arg0)
          ∧ r.2.mem ((c.tc : Thread Cert.AttnGradRefIdeal.nD Cert.AttnGradRefIdeal.τ).loc Cert.AttnGradRefIdeal.main_arg1) = m' ((c.tc : Thread Cert.AttnGradRefIdeal.nD Cert.AttnGradRefIdeal.τ).loc Cert.AttnGradRefIdeal.main_arg1)
          ∧ r.2.mem ((c.tc : Thread Cert.AttnGradRefIdeal.nD Cert.AttnGradRefIdeal.τ).loc Cert.AttnGradRefIdeal.main_arg2) = m' ((c.tc : Thread Cert.AttnGradRefIdeal.nD Cert.AttnGradRefIdeal.τ).loc Cert.AttnGradRefIdeal.main_arg2)
          ∧ r.2.mem ((c.tc : Thread Cert.AttnGradRefIdeal.nD Cert.AttnGradRefIdeal.τ).loc Cert.AttnGradRefIdeal.main_arg3) = m' ((c.tc : Thread Cert.AttnGradRefIdeal.nD Cert.AttnGradRefIdeal.τ).loc Cert.AttnGradRefIdeal.main_arg3))

def preserves_OutGrad_OutGradIdeal : Prop :=
  True

def algebraic_OutGradIdeal_OutGradRefIdeal_pre_out_finite [hOutGradIdeal : Cert.OutGradIdeal.Facts] [hOutGradRefIdeal : Cert.OutGradRefIdeal.Facts] [hPre_out_finite : Cert.Pre_out_finite.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal_out_finite m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)
      ∧ m' ((c.tc : Thread Cert.OutGradRefIdeal.nD Cert.OutGradRefIdeal.τ).loc Cert.OutGradRefIdeal.main_arg2) = m ((c.tc : Thread Cert.OutGradIdeal.nD Cert.OutGradIdeal.τ).loc Cert.OutGradIdeal.main_arg2)
      ∧ m' ((c.tc : Thread Cert.OutGradRefIdeal.nD Cert.OutGradRefIdeal.τ).loc Cert.OutGradRefIdeal.main_arg3) = m ((c.tc : Thread Cert.OutGradIdeal.nD Cert.OutGradIdeal.τ).loc Cert.OutGradIdeal.main_arg3)
      ∧ m' ((c.tc : Thread Cert.OutGradRefIdeal.nD Cert.OutGradRefIdeal.τ).loc Cert.OutGradRefIdeal.main_arg4) = m ((c.tc : Thread Cert.OutGradIdeal.nD Cert.OutGradIdeal.τ).loc Cert.OutGradIdeal.main_arg4)
      ∧ m' ((c.tc : Thread Cert.OutGradRefIdeal.nD Cert.OutGradRefIdeal.τ).loc Cert.OutGradRefIdeal.main_arg5) = m ((c.tc : Thread Cert.OutGradIdeal.nD Cert.OutGradIdeal.τ).loc Cert.OutGradIdeal.main_arg5)
      ∧ m' ((c.tc : Thread Cert.OutGradRefIdeal.nD Cert.OutGradRefIdeal.τ).loc Cert.OutGradRefIdeal.main_arg6) = m ((c.tc : Thread Cert.OutGradIdeal.nD Cert.OutGradIdeal.τ).loc Cert.OutGradIdeal.main_arg6)
      ∧ m' ((c.tc : Thread Cert.OutGradRefIdeal.nD Cert.OutGradRefIdeal.τ).loc Cert.OutGradRefIdeal.main_arg7) = m ((c.tc : Thread Cert.OutGradIdeal.nD Cert.OutGradIdeal.τ).loc Cert.OutGradIdeal.main_arg7)
      ∧ m' ((c.tc : Thread Cert.OutGradRefIdeal.nD Cert.OutGradRefIdeal.τ).loc Cert.OutGradRefIdeal.main_arg8) = m ((c.tc : Thread Cert.OutGradIdeal.nD Cert.OutGradIdeal.τ).loc Cert.OutGradIdeal.main_arg8)) →
    ∃ (v0 : (c : Dev Cert.OutGradIdeal.nD) → Buf (Elt Ideal) ((c.tc : Thread Cert.OutGradIdeal.nD Cert.OutGradIdeal.τ).loc Cert.OutGradIdeal.main_v17)) (v1 : (c : Dev Cert.OutGradIdeal.nD) → Buf (Elt Ideal) ((c.tc : Thread Cert.OutGradIdeal.nD Cert.OutGradIdeal.τ).loc Cert.OutGradIdeal.main_v13_0)) (v2 : (c : Dev Cert.OutGradIdeal.nD) → Buf (Elt Ideal) ((c.tc : Thread Cert.OutGradIdeal.nD Cert.OutGradIdeal.τ).loc Cert.OutGradIdeal.main_v13_1)) (v3 : (c : Dev Cert.OutGradIdeal.nD) → Buf (Elt Ideal) ((c.tc : Thread Cert.OutGradIdeal.nD Cert.OutGradIdeal.τ).loc Cert.OutGradIdeal.main_v13_2)) (v4 : (c : Dev Cert.OutGradIdeal.nD) → Buf (Elt Ideal) ((c.tc : Thread Cert.OutGradIdeal.nD Cert.OutGradIdeal.τ).loc Cert.OutGradIdeal.main_v13_3)) (v5 : (c : Dev Cert.OutGradIdeal.nD) → Buf (Elt Ideal) ((c.tc : Thread Cert.OutGradIdeal.nD Cert.OutGradIdeal.τ).loc Cert.OutGradIdeal.main_v13_5)) (v6 : (c : Dev Cert.OutGradIdeal.nD) → Buf (Elt Ideal) ((c.tc : Thread Cert.OutGradIdeal.nD Cert.OutGradIdeal.τ).loc Cert.OutGradIdeal.main_v18)) (v7 : (c : Dev Cert.OutGradIdeal.nD) → Buf (Elt Ideal) ((c.tc : Thread Cert.OutGradIdeal.nD Cert.OutGradIdeal.τ).loc Cert.OutGradIdeal.main_v19)) (v8 : (c : Dev Cert.OutGradIdeal.nD) → Buf (Elt Ideal) ((c.tc : Thread Cert.OutGradIdeal.nD Cert.OutGradIdeal.τ).loc Cert.OutGradIdeal.main_v20)) (v9 : (c : Dev Cert.OutGradIdeal.nD) → Buf (Elt Ideal) ((c.tc : Thread Cert.OutGradIdeal.nD Cert.OutGradIdeal.τ).loc Cert.OutGradIdeal.main_v21)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v17) = v0 c
          ∧ r.2.mem ((c.tc : Thread Cert.OutGradIdeal.nD Cert.OutGradIdeal.τ).loc Cert.OutGradIdeal.main_v13_0) = v1 c
          ∧ r.2.mem ((c.tc : Thread Cert.OutGradIdeal.nD Cert.OutGradIdeal.τ).loc Cert.OutGradIdeal.main_v13_1) = v2 c
          ∧ r.2.mem ((c.tc : Thread Cert.OutGradIdeal.nD Cert.OutGradIdeal.τ).loc Cert.OutGradIdeal.main_v13_2) = v3 c
          ∧ r.2.mem ((c.tc : Thread Cert.OutGradIdeal.nD Cert.OutGradIdeal.τ).loc Cert.OutGradIdeal.main_v13_3) = v4 c
          ∧ r.2.mem ((c.tc : Thread Cert.OutGradIdeal.nD Cert.OutGradIdeal.τ).loc Cert.OutGradIdeal.main_v13_5) = v5 c
          ∧ r.2.mem ((c.tc : Thread Cert.OutGradIdeal.nD Cert.OutGradIdeal.τ).loc Cert.OutGradIdeal.main_v18) = v6 c
          ∧ r.2.mem ((c.tc : Thread Cert.OutGradIdeal.nD Cert.OutGradIdeal.τ).loc Cert.OutGradIdeal.main_v19) = v7 c
          ∧ r.2.mem ((c.tc : Thread Cert.OutGradIdeal.nD Cert.OutGradIdeal.τ).loc Cert.OutGradIdeal.main_v20) = v8 c
          ∧ r.2.mem ((c.tc : Thread Cert.OutGradIdeal.nD Cert.OutGradIdeal.τ).loc Cert.OutGradIdeal.main_v21) = v9 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
          ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2)
          ∧ r.2.mem ((c.tc : Thread Cert.OutGradIdeal.nD Cert.OutGradIdeal.τ).loc Cert.OutGradIdeal.main_arg3) = m ((c.tc : Thread Cert.OutGradIdeal.nD Cert.OutGradIdeal.τ).loc Cert.OutGradIdeal.main_arg3)
          ∧ r.2.mem ((c.tc : Thread Cert.OutGradIdeal.nD Cert.OutGradIdeal.τ).loc Cert.OutGradIdeal.main_arg4) = m ((c.tc : Thread Cert.OutGradIdeal.nD Cert.OutGradIdeal.τ).loc Cert.OutGradIdeal.main_arg4)
          ∧ r.2.mem ((c.tc : Thread Cert.OutGradIdeal.nD Cert.OutGradIdeal.τ).loc Cert.OutGradIdeal.main_arg5) = m ((c.tc : Thread Cert.OutGradIdeal.nD Cert.OutGradIdeal.τ).loc Cert.OutGradIdeal.main_arg5)
          ∧ r.2.mem ((c.tc : Thread Cert.OutGradIdeal.nD Cert.OutGradIdeal.τ).loc Cert.OutGradIdeal.main_arg6) = m ((c.tc : Thread Cert.OutGradIdeal.nD Cert.OutGradIdeal.τ).loc Cert.OutGradIdeal.main_arg6)
          ∧ r.2.mem ((c.tc : Thread Cert.OutGradIdeal.nD Cert.OutGradIdeal.τ).loc Cert.OutGradIdeal.main_arg7) = m ((c.tc : Thread Cert.OutGradIdeal.nD Cert.OutGradIdeal.τ).loc Cert.OutGradIdeal.main_arg7)
          ∧ r.2.mem ((c.tc : Thread Cert.OutGradIdeal.nD Cert.OutGradIdeal.τ).loc Cert.OutGradIdeal.main_arg8) = m ((c.tc : Thread Cert.OutGradIdeal.nD Cert.OutGradIdeal.τ).loc Cert.OutGradIdeal.main_arg8))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v50) = v0 c
          ∧ r.2.mem ((c.tc : Thread Cert.OutGradRefIdeal.nD Cert.OutGradRefIdeal.τ).loc Cert.OutGradRefIdeal.main_v116) = v1 c
          ∧ r.2.mem ((c.tc : Thread Cert.OutGradRefIdeal.nD Cert.OutGradRefIdeal.τ).loc Cert.OutGradRefIdeal.main_v118) = v2 c
          ∧ r.2.mem ((c.tc : Thread Cert.OutGradRefIdeal.nD Cert.OutGradRefIdeal.τ).loc Cert.OutGradRefIdeal.main_v120) = v3 c
          ∧ r.2.mem ((c.tc : Thread Cert.OutGradRefIdeal.nD Cert.OutGradRefIdeal.τ).loc Cert.OutGradRefIdeal.main_v121) = v4 c
          ∧ r.2.mem ((c.tc : Thread Cert.OutGradRefIdeal.nD Cert.OutGradRefIdeal.τ).loc Cert.OutGradRefIdeal.main_v104) = v5 c
          ∧ r.2.mem ((c.tc : Thread Cert.OutGradRefIdeal.nD Cert.OutGradRefIdeal.τ).loc Cert.OutGradRefIdeal.main_v93) = v6 c
          ∧ r.2.mem ((c.tc : Thread Cert.OutGradRefIdeal.nD Cert.OutGradRefIdeal.τ).loc Cert.OutGradRefIdeal.main_v92) = v7 c
          ∧ r.2.mem ((c.tc : Thread Cert.OutGradRefIdeal.nD Cert.OutGradRefIdeal.τ).loc Cert.OutGradRefIdeal.main_v122) = v8 c
          ∧ r.2.mem ((c.tc : Thread Cert.OutGradRefIdeal.nD Cert.OutGradRefIdeal.τ).loc Cert.OutGradRefIdeal.main_v123) = v9 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1)
          ∧ r.2.mem ((c.tc : Thread Cert.OutGradRefIdeal.nD Cert.OutGradRefIdeal.τ).loc Cert.OutGradRefIdeal.main_arg2) = m' ((c.tc : Thread Cert.OutGradRefIdeal.nD Cert.OutGradRefIdeal.τ).loc Cert.OutGradRefIdeal.main_arg2)
          ∧ r.2.mem ((c.tc : Thread Cert.OutGradRefIdeal.nD Cert.OutGradRefIdeal.τ).loc Cert.OutGradRefIdeal.main_arg3) = m' ((c.tc : Thread Cert.OutGradRefIdeal.nD Cert.OutGradRefIdeal.τ).loc Cert.OutGradRefIdeal.main_arg3)
          ∧ r.2.mem ((c.tc : Thread Cert.OutGradRefIdeal.nD Cert.OutGradRefIdeal.τ).loc Cert.OutGradRefIdeal.main_arg4) = m' ((c.tc : Thread Cert.OutGradRefIdeal.nD Cert.OutGradRefIdeal.τ).loc Cert.OutGradRefIdeal.main_arg4)
          ∧ r.2.mem ((c.tc : Thread Cert.OutGradRefIdeal.nD Cert.OutGradRefIdeal.τ).loc Cert.OutGradRefIdeal.main_arg5) = m' ((c.tc : Thread Cert.OutGradRefIdeal.nD Cert.OutGradRefIdeal.τ).loc Cert.OutGradRefIdeal.main_arg5)
          ∧ r.2.mem ((c.tc : Thread Cert.OutGradRefIdeal.nD Cert.OutGradRefIdeal.τ).loc Cert.OutGradRefIdeal.main_arg6) = m' ((c.tc : Thread Cert.OutGradRefIdeal.nD Cert.OutGradRefIdeal.τ).loc Cert.OutGradRefIdeal.main_arg6)
          ∧ r.2.mem ((c.tc : Thread Cert.OutGradRefIdeal.nD Cert.OutGradRefIdeal.τ).loc Cert.OutGradRefIdeal.main_arg7) = m' ((c.tc : Thread Cert.OutGradRefIdeal.nD Cert.OutGradRefIdeal.τ).loc Cert.OutGradRefIdeal.main_arg7)
          ∧ r.2.mem ((c.tc : Thread Cert.OutGradRefIdeal.nD Cert.OutGradRefIdeal.τ).loc Cert.OutGradRefIdeal.main_arg8) = m' ((c.tc : Thread Cert.OutGradRefIdeal.nD Cert.OutGradRefIdeal.τ).loc Cert.OutGradRefIdeal.main_arg8))

def preserves_LatGrad_LatGradIdeal : Prop :=
  True

def algebraic_LatGradIdeal_LatGradRefIdeal_pre_lat_finite [hLatGradIdeal : Cert.LatGradIdeal.Facts] [hLatGradRefIdeal : Cert.LatGradRefIdeal.Facts] [hPre_lat_finite : Cert.Pre_lat_finite.Facts] : Prop :=
  ∀ (m : (ℓ : Loc Cert.LatGradIdeal.nD Cert.LatGradIdeal.τ Cert.LatGradIdeal.sig) → Buf (Elt Ideal) ℓ) (g : Dev Cert.LatGradIdeal.nD → PrngReg)
    (m' : (ℓ : Loc Cert.LatGradRefIdeal.nD Cert.LatGradRefIdeal.τ Cert.LatGradRefIdeal.sig) → Buf (Elt Ideal) ℓ) (g' : Dev Cert.LatGradRefIdeal.nD → PrngReg), Pre_LatGradIdeal_lat_finite m →
    (∀ c : Dev Cert.LatGradIdeal.nD,
      m' ((c.tc : Thread Cert.LatGradRefIdeal.nD Cert.LatGradRefIdeal.τ).loc Cert.LatGradRefIdeal.main_arg0) = m ((c.tc : Thread Cert.LatGradIdeal.nD Cert.LatGradIdeal.τ).loc Cert.LatGradIdeal.main_arg0)
      ∧ m' ((c.tc : Thread Cert.LatGradRefIdeal.nD Cert.LatGradRefIdeal.τ).loc Cert.LatGradRefIdeal.main_arg1) = m ((c.tc : Thread Cert.LatGradIdeal.nD Cert.LatGradIdeal.τ).loc Cert.LatGradIdeal.main_arg1)
      ∧ m' ((c.tc : Thread Cert.LatGradRefIdeal.nD Cert.LatGradRefIdeal.τ).loc Cert.LatGradRefIdeal.main_arg2) = m ((c.tc : Thread Cert.LatGradIdeal.nD Cert.LatGradIdeal.τ).loc Cert.LatGradIdeal.main_arg2)
      ∧ m' ((c.tc : Thread Cert.LatGradRefIdeal.nD Cert.LatGradRefIdeal.τ).loc Cert.LatGradRefIdeal.main_arg3) = m ((c.tc : Thread Cert.LatGradIdeal.nD Cert.LatGradIdeal.τ).loc Cert.LatGradIdeal.main_arg3)
      ∧ m' ((c.tc : Thread Cert.LatGradRefIdeal.nD Cert.LatGradRefIdeal.τ).loc Cert.LatGradRefIdeal.main_arg4) = m ((c.tc : Thread Cert.LatGradIdeal.nD Cert.LatGradIdeal.τ).loc Cert.LatGradIdeal.main_arg4)
      ∧ m' ((c.tc : Thread Cert.LatGradRefIdeal.nD Cert.LatGradRefIdeal.τ).loc Cert.LatGradRefIdeal.main_arg5) = m ((c.tc : Thread Cert.LatGradIdeal.nD Cert.LatGradIdeal.τ).loc Cert.LatGradIdeal.main_arg5)
      ∧ m' ((c.tc : Thread Cert.LatGradRefIdeal.nD Cert.LatGradRefIdeal.τ).loc Cert.LatGradRefIdeal.main_arg6) = m ((c.tc : Thread Cert.LatGradIdeal.nD Cert.LatGradIdeal.τ).loc Cert.LatGradIdeal.main_arg6)
      ∧ m' ((c.tc : Thread Cert.LatGradRefIdeal.nD Cert.LatGradRefIdeal.τ).loc Cert.LatGradRefIdeal.main_arg7) = m ((c.tc : Thread Cert.LatGradIdeal.nD Cert.LatGradIdeal.τ).loc Cert.LatGradIdeal.main_arg7)
      ∧ m' ((c.tc : Thread Cert.LatGradRefIdeal.nD Cert.LatGradRefIdeal.τ).loc Cert.LatGradRefIdeal.main_arg8) = m ((c.tc : Thread Cert.LatGradIdeal.nD Cert.LatGradIdeal.τ).loc Cert.LatGradIdeal.main_arg8)
      ∧ m' ((c.tc : Thread Cert.LatGradRefIdeal.nD Cert.LatGradRefIdeal.τ).loc Cert.LatGradRefIdeal.main_arg9) = m ((c.tc : Thread Cert.LatGradIdeal.nD Cert.LatGradIdeal.τ).loc Cert.LatGradIdeal.main_arg9)) →
    ∃ (v0 : (c : Dev Cert.LatGradIdeal.nD) → Buf (Elt Ideal) ((c.tc : Thread Cert.LatGradIdeal.nD Cert.LatGradIdeal.τ).loc Cert.LatGradIdeal.main_v35_0)) (v1 : (c : Dev Cert.LatGradIdeal.nD) → Buf (Elt Ideal) ((c.tc : Thread Cert.LatGradIdeal.nD Cert.LatGradIdeal.τ).loc Cert.LatGradIdeal.main_v35_1)) (v2 : (c : Dev Cert.LatGradIdeal.nD) → Buf (Elt Ideal) ((c.tc : Thread Cert.LatGradIdeal.nD Cert.LatGradIdeal.τ).loc Cert.LatGradIdeal.main_v43)) (v3 : (c : Dev Cert.LatGradIdeal.nD) → Buf (Elt Ideal) ((c.tc : Thread Cert.LatGradIdeal.nD Cert.LatGradIdeal.τ).loc Cert.LatGradIdeal.main_v38)) (v4 : (c : Dev Cert.LatGradIdeal.nD) → Buf (Elt Ideal) ((c.tc : Thread Cert.LatGradIdeal.nD Cert.LatGradIdeal.τ).loc Cert.LatGradIdeal.main_v42)) (v5 : (c : Dev Cert.LatGradIdeal.nD) → Buf (Elt Ideal) ((c.tc : Thread Cert.LatGradIdeal.nD Cert.LatGradIdeal.τ).loc Cert.LatGradIdeal.main_v35_6)) (v6 : (c : Dev Cert.LatGradIdeal.nD) → Buf (Elt Ideal) ((c.tc : Thread Cert.LatGradIdeal.nD Cert.LatGradIdeal.τ).loc Cert.LatGradIdeal.main_v35_7)),
      θ_run (Cert.LatGradIdeal.defs (F := Ideal)) (onTc (τ := Cert.LatGradIdeal.τ) (Cert.LatGradIdeal.main (F := Ideal))) ⟨m, fun _ => 0, g⟩ (fun r => ∀ c : Dev Cert.LatGradIdeal.nD,
          r.2.mem ((c.tc : Thread Cert.LatGradIdeal.nD Cert.LatGradIdeal.τ).loc Cert.LatGradIdeal.main_v35_0) = v0 c
          ∧ r.2.mem ((c.tc : Thread Cert.LatGradIdeal.nD Cert.LatGradIdeal.τ).loc Cert.LatGradIdeal.main_v35_1) = v1 c
          ∧ r.2.mem ((c.tc : Thread Cert.LatGradIdeal.nD Cert.LatGradIdeal.τ).loc Cert.LatGradIdeal.main_v43) = v2 c
          ∧ r.2.mem ((c.tc : Thread Cert.LatGradIdeal.nD Cert.LatGradIdeal.τ).loc Cert.LatGradIdeal.main_v38) = v3 c
          ∧ r.2.mem ((c.tc : Thread Cert.LatGradIdeal.nD Cert.LatGradIdeal.τ).loc Cert.LatGradIdeal.main_v42) = v4 c
          ∧ r.2.mem ((c.tc : Thread Cert.LatGradIdeal.nD Cert.LatGradIdeal.τ).loc Cert.LatGradIdeal.main_v35_6) = v5 c
          ∧ r.2.mem ((c.tc : Thread Cert.LatGradIdeal.nD Cert.LatGradIdeal.τ).loc Cert.LatGradIdeal.main_v35_7) = v6 c
          ∧ r.2.mem ((c.tc : Thread Cert.LatGradIdeal.nD Cert.LatGradIdeal.τ).loc Cert.LatGradIdeal.main_arg0) = m ((c.tc : Thread Cert.LatGradIdeal.nD Cert.LatGradIdeal.τ).loc Cert.LatGradIdeal.main_arg0)
          ∧ r.2.mem ((c.tc : Thread Cert.LatGradIdeal.nD Cert.LatGradIdeal.τ).loc Cert.LatGradIdeal.main_arg1) = m ((c.tc : Thread Cert.LatGradIdeal.nD Cert.LatGradIdeal.τ).loc Cert.LatGradIdeal.main_arg1)
          ∧ r.2.mem ((c.tc : Thread Cert.LatGradIdeal.nD Cert.LatGradIdeal.τ).loc Cert.LatGradIdeal.main_arg2) = m ((c.tc : Thread Cert.LatGradIdeal.nD Cert.LatGradIdeal.τ).loc Cert.LatGradIdeal.main_arg2)
          ∧ r.2.mem ((c.tc : Thread Cert.LatGradIdeal.nD Cert.LatGradIdeal.τ).loc Cert.LatGradIdeal.main_arg3) = m ((c.tc : Thread Cert.LatGradIdeal.nD Cert.LatGradIdeal.τ).loc Cert.LatGradIdeal.main_arg3)
          ∧ r.2.mem ((c.tc : Thread Cert.LatGradIdeal.nD Cert.LatGradIdeal.τ).loc Cert.LatGradIdeal.main_arg4) = m ((c.tc : Thread Cert.LatGradIdeal.nD Cert.LatGradIdeal.τ).loc Cert.LatGradIdeal.main_arg4)
          ∧ r.2.mem ((c.tc : Thread Cert.LatGradIdeal.nD Cert.LatGradIdeal.τ).loc Cert.LatGradIdeal.main_arg5) = m ((c.tc : Thread Cert.LatGradIdeal.nD Cert.LatGradIdeal.τ).loc Cert.LatGradIdeal.main_arg5)
          ∧ r.2.mem ((c.tc : Thread Cert.LatGradIdeal.nD Cert.LatGradIdeal.τ).loc Cert.LatGradIdeal.main_arg6) = m ((c.tc : Thread Cert.LatGradIdeal.nD Cert.LatGradIdeal.τ).loc Cert.LatGradIdeal.main_arg6)
          ∧ r.2.mem ((c.tc : Thread Cert.LatGradIdeal.nD Cert.LatGradIdeal.τ).loc Cert.LatGradIdeal.main_arg7) = m ((c.tc : Thread Cert.LatGradIdeal.nD Cert.LatGradIdeal.τ).loc Cert.LatGradIdeal.main_arg7)
          ∧ r.2.mem ((c.tc : Thread Cert.LatGradIdeal.nD Cert.LatGradIdeal.τ).loc Cert.LatGradIdeal.main_arg8) = m ((c.tc : Thread Cert.LatGradIdeal.nD Cert.LatGradIdeal.τ).loc Cert.LatGradIdeal.main_arg8)
          ∧ r.2.mem ((c.tc : Thread Cert.LatGradIdeal.nD Cert.LatGradIdeal.τ).loc Cert.LatGradIdeal.main_arg9) = m ((c.tc : Thread Cert.LatGradIdeal.nD Cert.LatGradIdeal.τ).loc Cert.LatGradIdeal.main_arg9))
      ∧ θ_run (Cert.LatGradRefIdeal.defs (F := Ideal)) (onTc (τ := Cert.LatGradRefIdeal.τ) (Cert.LatGradRefIdeal.main (F := Ideal))) ⟨m', fun _ => 0, g'⟩ (fun r => ∀ c : Dev Cert.LatGradRefIdeal.nD,
          r.2.mem ((c.tc : Thread Cert.LatGradRefIdeal.nD Cert.LatGradRefIdeal.τ).loc Cert.LatGradRefIdeal.main_v206) = v0 c
          ∧ r.2.mem ((c.tc : Thread Cert.LatGradRefIdeal.nD Cert.LatGradRefIdeal.τ).loc Cert.LatGradRefIdeal.main_v209) = v1 c
          ∧ r.2.mem ((c.tc : Thread Cert.LatGradRefIdeal.nD Cert.LatGradRefIdeal.τ).loc Cert.LatGradRefIdeal.main_v212) = v2 c
          ∧ r.2.mem ((c.tc : Thread Cert.LatGradRefIdeal.nD Cert.LatGradRefIdeal.τ).loc Cert.LatGradRefIdeal.main_v181) = v3 c
          ∧ r.2.mem ((c.tc : Thread Cert.LatGradRefIdeal.nD Cert.LatGradRefIdeal.τ).loc Cert.LatGradRefIdeal.main_v149) = v4 c
          ∧ r.2.mem ((c.tc : Thread Cert.LatGradRefIdeal.nD Cert.LatGradRefIdeal.τ).loc Cert.LatGradRefIdeal.main_v204) = v5 c
          ∧ r.2.mem ((c.tc : Thread Cert.LatGradRefIdeal.nD Cert.LatGradRefIdeal.τ).loc Cert.LatGradRefIdeal.main_v172) = v6 c
          ∧ r.2.mem ((c.tc : Thread Cert.LatGradRefIdeal.nD Cert.LatGradRefIdeal.τ).loc Cert.LatGradRefIdeal.main_arg0) = m' ((c.tc : Thread Cert.LatGradRefIdeal.nD Cert.LatGradRefIdeal.τ).loc Cert.LatGradRefIdeal.main_arg0)
          ∧ r.2.mem ((c.tc : Thread Cert.LatGradRefIdeal.nD Cert.LatGradRefIdeal.τ).loc Cert.LatGradRefIdeal.main_arg1) = m' ((c.tc : Thread Cert.LatGradRefIdeal.nD Cert.LatGradRefIdeal.τ).loc Cert.LatGradRefIdeal.main_arg1)
          ∧ r.2.mem ((c.tc : Thread Cert.LatGradRefIdeal.nD Cert.LatGradRefIdeal.τ).loc Cert.LatGradRefIdeal.main_arg2) = m' ((c.tc : Thread Cert.LatGradRefIdeal.nD Cert.LatGradRefIdeal.τ).loc Cert.LatGradRefIdeal.main_arg2)
          ∧ r.2.mem ((c.tc : Thread Cert.LatGradRefIdeal.nD Cert.LatGradRefIdeal.τ).loc Cert.LatGradRefIdeal.main_arg3) = m' ((c.tc : Thread Cert.LatGradRefIdeal.nD Cert.LatGradRefIdeal.τ).loc Cert.LatGradRefIdeal.main_arg3)
          ∧ r.2.mem ((c.tc : Thread Cert.LatGradRefIdeal.nD Cert.LatGradRefIdeal.τ).loc Cert.LatGradRefIdeal.main_arg4) = m' ((c.tc : Thread Cert.LatGradRefIdeal.nD Cert.LatGradRefIdeal.τ).loc Cert.LatGradRefIdeal.main_arg4)
          ∧ r.2.mem ((c.tc : Thread Cert.LatGradRefIdeal.nD Cert.LatGradRefIdeal.τ).loc Cert.LatGradRefIdeal.main_arg5) = m' ((c.tc : Thread Cert.LatGradRefIdeal.nD Cert.LatGradRefIdeal.τ).loc Cert.LatGradRefIdeal.main_arg5)
          ∧ r.2.mem ((c.tc : Thread Cert.LatGradRefIdeal.nD Cert.LatGradRefIdeal.τ).loc Cert.LatGradRefIdeal.main_arg6) = m' ((c.tc : Thread Cert.LatGradRefIdeal.nD Cert.LatGradRefIdeal.τ).loc Cert.LatGradRefIdeal.main_arg6)
          ∧ r.2.mem ((c.tc : Thread Cert.LatGradRefIdeal.nD Cert.LatGradRefIdeal.τ).loc Cert.LatGradRefIdeal.main_arg7) = m' ((c.tc : Thread Cert.LatGradRefIdeal.nD Cert.LatGradRefIdeal.τ).loc Cert.LatGradRefIdeal.main_arg7)
          ∧ r.2.mem ((c.tc : Thread Cert.LatGradRefIdeal.nD Cert.LatGradRefIdeal.τ).loc Cert.LatGradRefIdeal.main_arg8) = m' ((c.tc : Thread Cert.LatGradRefIdeal.nD Cert.LatGradRefIdeal.τ).loc Cert.LatGradRefIdeal.main_arg8)
          ∧ r.2.mem ((c.tc : Thread Cert.LatGradRefIdeal.nD Cert.LatGradRefIdeal.τ).loc Cert.LatGradRefIdeal.main_arg9) = m' ((c.tc : Thread Cert.LatGradRefIdeal.nD Cert.LatGradRefIdeal.τ).loc Cert.LatGradRefIdeal.main_arg9))

def preserves_AttnFwd_AttnFwdIdeal : Prop :=
  IdealRules.named_const.Statement Cert.AttnFwdIdeal.κ "mask" .f32 0xF149F2CA#32 ⊥
  ∧ IdealRules.named_const.Statement Cert.AttnFwdIdeal.κ "ln2" .f32 0x3F317218#32 ((Real.log 2 : ℝ) : EReal)

def algebraic_AttnFwdIdeal_AttnFwdRefIdeal_pre_fwd_finite [hAttnFwdIdeal : Cert.AttnFwdIdeal.Facts] [hAttnFwdRefIdeal : Cert.AttnFwdRefIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v18)) (v1 : (c : Dev Cert.AttnFwdIdeal.nD) → Buf (Elt Ideal) ((c.tc : Thread Cert.AttnFwdIdeal.nD Cert.AttnFwdIdeal.τ).loc Cert.AttnFwdIdeal.main_v19)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v18) = v0 c
          ∧ r.2.mem ((c.tc : Thread Cert.AttnFwdIdeal.nD Cert.AttnFwdIdeal.τ).loc Cert.AttnFwdIdeal.main_v19) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v44) = v0 c
          ∧ r.2.mem ((c.tc : Thread Cert.AttnFwdRefIdeal.nD Cert.AttnFwdRefIdeal.τ).loc Cert.AttnFwdRefIdeal.main_v48) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v35_0)) (v1 : (c : Dev Cert.ProjIdeal.nD) → Buf (Elt Ideal) ((c.tc : Thread Cert.ProjIdeal.nD Cert.ProjIdeal.τ).loc Cert.ProjIdeal.main_v35_1)) (v2 : (c : Dev Cert.ProjIdeal.nD) → Buf (Elt Ideal) ((c.tc : Thread Cert.ProjIdeal.nD Cert.ProjIdeal.τ).loc Cert.ProjIdeal.main_v35_2)) (v3 : (c : Dev Cert.ProjIdeal.nD) → Buf (Elt Ideal) ((c.tc : Thread Cert.ProjIdeal.nD Cert.ProjIdeal.τ).loc Cert.ProjIdeal.main_v35_3)) (v4 : (c : Dev Cert.ProjIdeal.nD) → Buf (Elt Ideal) ((c.tc : Thread Cert.ProjIdeal.nD Cert.ProjIdeal.τ).loc Cert.ProjIdeal.main_v36)) (v5 : (c : Dev Cert.ProjIdeal.nD) → Buf (Elt Ideal) ((c.tc : Thread Cert.ProjIdeal.nD Cert.ProjIdeal.τ).loc Cert.ProjIdeal.main_v35_4)) (v6 : (c : Dev Cert.ProjIdeal.nD) → Buf (Elt Ideal) ((c.tc : Thread Cert.ProjIdeal.nD Cert.ProjIdeal.τ).loc Cert.ProjIdeal.main_v37)) (v7 : (c : Dev Cert.ProjIdeal.nD) → Buf (Elt Ideal) ((c.tc : Thread Cert.ProjIdeal.nD Cert.ProjIdeal.τ).loc Cert.ProjIdeal.main_v38)) (v8 : (c : Dev Cert.ProjIdeal.nD) → Buf (Elt Ideal) ((c.tc : Thread Cert.ProjIdeal.nD Cert.ProjIdeal.τ).loc Cert.ProjIdeal.main_v35_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v35_0) = v0 c
          ∧ r.2.mem ((c.tc : Thread Cert.ProjIdeal.nD Cert.ProjIdeal.τ).loc Cert.ProjIdeal.main_v35_1) = v1 c
          ∧ r.2.mem ((c.tc : Thread Cert.ProjIdeal.nD Cert.ProjIdeal.τ).loc Cert.ProjIdeal.main_v35_2) = v2 c
          ∧ r.2.mem ((c.tc : Thread Cert.ProjIdeal.nD Cert.ProjIdeal.τ).loc Cert.ProjIdeal.main_v35_3) = v3 c
          ∧ r.2.mem ((c.tc : Thread Cert.ProjIdeal.nD Cert.ProjIdeal.τ).loc Cert.ProjIdeal.main_v36) = v4 c
          ∧ r.2.mem ((c.tc : Thread Cert.ProjIdeal.nD Cert.ProjIdeal.τ).loc Cert.ProjIdeal.main_v35_4) = v5 c
          ∧ r.2.mem ((c.tc : Thread Cert.ProjIdeal.nD Cert.ProjIdeal.τ).loc Cert.ProjIdeal.main_v37) = v6 c
          ∧ r.2.mem ((c.tc : Thread Cert.ProjIdeal.nD Cert.ProjIdeal.τ).loc Cert.ProjIdeal.main_v38) = v7 c
          ∧ r.2.mem ((c.tc : Thread Cert.ProjIdeal.nD Cert.ProjIdeal.τ).loc Cert.ProjIdeal.main_v35_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v113) = v0 c
          ∧ r.2.mem ((c.tc : Thread Cert.ProjRefIdeal.nD Cert.ProjRefIdeal.τ).loc Cert.ProjRefIdeal.main_v114) = v1 c
          ∧ r.2.mem ((c.tc : Thread Cert.ProjRefIdeal.nD Cert.ProjRefIdeal.τ).loc Cert.ProjRefIdeal.main_v115) = v2 c
          ∧ r.2.mem ((c.tc : Thread Cert.ProjRefIdeal.nD Cert.ProjRefIdeal.τ).loc Cert.ProjRefIdeal.main_v116) = v3 c
          ∧ r.2.mem ((c.tc : Thread Cert.ProjRefIdeal.nD Cert.ProjRefIdeal.τ).loc Cert.ProjRefIdeal.main_v117) = v4 c
          ∧ r.2.mem ((c.tc : Thread Cert.ProjRefIdeal.nD Cert.ProjRefIdeal.τ).loc Cert.ProjRefIdeal.main_v118) = v5 c
          ∧ r.2.mem ((c.tc : Thread Cert.ProjRefIdeal.nD Cert.ProjRefIdeal.τ).loc Cert.ProjRefIdeal.main_v123) = v6 c
          ∧ r.2.mem ((c.tc : Thread Cert.ProjRefIdeal.nD Cert.ProjRefIdeal.τ).loc Cert.ProjRefIdeal.main_v126) = v7 c
          ∧ r.2.mem ((c.tc : Thread Cert.ProjRefIdeal.nD Cert.ProjRefIdeal.τ).loc Cert.ProjRefIdeal.main_v130) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_SsdFwd_SsdFwdIdeal : Prop :=
  True

def algebraic_SsdFwdIdeal_SsdFwdRefIdeal [hSsdFwdIdeal : Cert.SsdFwdIdeal.Facts] [hSsdFwdRefIdeal : Cert.SsdFwdRefIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg)
    (m' : (ℓ : Loc Cert.SsdFwdRefIdeal.nD Cert.SsdFwdRefIdeal.τ Cert.SsdFwdRefIdeal.sig) → Buf (Elt Ideal) ℓ) (g' : Dev Cert.SsdFwdRefIdeal.nD → PrngReg), Pre_SsdFwdIdeal m →
    (∀ c : Dev Cert.SsdFwdIdeal.nD,
      m' ((c.tc : Thread Cert.SsdFwdRefIdeal.nD Cert.SsdFwdRefIdeal.τ).loc Cert.SsdFwdRefIdeal.main_arg0) = m ((c.tc : Thread Cert.SsdFwdIdeal.nD Cert.SsdFwdIdeal.τ).loc Cert.SsdFwdIdeal.main_arg0)
      ∧ m' ((c.tc : Thread Cert.SsdFwdRefIdeal.nD Cert.SsdFwdRefIdeal.τ).loc Cert.SsdFwdRefIdeal.main_arg1) = m ((c.tc : Thread Cert.SsdFwdIdeal.nD Cert.SsdFwdIdeal.τ).loc Cert.SsdFwdIdeal.main_arg1)
      ∧ m' ((c.tc : Thread Cert.SsdFwdRefIdeal.nD Cert.SsdFwdRefIdeal.τ).loc Cert.SsdFwdRefIdeal.main_arg2) = m ((c.tc : Thread Cert.SsdFwdIdeal.nD Cert.SsdFwdIdeal.τ).loc Cert.SsdFwdIdeal.main_arg2)
      ∧ m' ((c.tc : Thread Cert.SsdFwdRefIdeal.nD Cert.SsdFwdRefIdeal.τ).loc Cert.SsdFwdRefIdeal.main_arg3) = m ((c.tc : Thread Cert.SsdFwdIdeal.nD Cert.SsdFwdIdeal.τ).loc Cert.SsdFwdIdeal.main_arg3)
      ∧ m' ((c.tc : Thread Cert.SsdFwdRefIdeal.nD Cert.SsdFwdRefIdeal.τ).loc Cert.SsdFwdRefIdeal.main_arg4) = m ((c.tc : Thread Cert.SsdFwdIdeal.nD Cert.SsdFwdIdeal.τ).loc Cert.SsdFwdIdeal.main_arg4)
      ∧ m' ((c.tc : Thread Cert.SsdFwdRefIdeal.nD Cert.SsdFwdRefIdeal.τ).loc Cert.SsdFwdRefIdeal.main_arg5) = m ((c.tc : Thread Cert.SsdFwdIdeal.nD Cert.SsdFwdIdeal.τ).loc Cert.SsdFwdIdeal.main_arg5)
      ∧ m' ((c.tc : Thread Cert.SsdFwdRefIdeal.nD Cert.SsdFwdRefIdeal.τ).loc Cert.SsdFwdRefIdeal.main_arg6) = m ((c.tc : Thread Cert.SsdFwdIdeal.nD Cert.SsdFwdIdeal.τ).loc Cert.SsdFwdIdeal.main_arg6)
      ∧ m' ((c.tc : Thread Cert.SsdFwdRefIdeal.nD Cert.SsdFwdRefIdeal.τ).loc Cert.SsdFwdRefIdeal.main_arg7) = m ((c.tc : Thread Cert.SsdFwdIdeal.nD Cert.SsdFwdIdeal.τ).loc Cert.SsdFwdIdeal.main_arg7)
      ∧ m' ((c.tc : Thread Cert.SsdFwdRefIdeal.nD Cert.SsdFwdRefIdeal.τ).loc Cert.SsdFwdRefIdeal.main_arg8) = m ((c.tc : Thread Cert.SsdFwdIdeal.nD Cert.SsdFwdIdeal.τ).loc Cert.SsdFwdIdeal.main_arg8)) →
    ∃ (v0 : (c : Dev Cert.SsdFwdIdeal.nD) → Buf (Elt Ideal) ((c.tc : Thread Cert.SsdFwdIdeal.nD Cert.SsdFwdIdeal.τ).loc Cert.SsdFwdIdeal.main_v31_0)),
      θ_run (Cert.SsdFwdIdeal.defs (F := Ideal)) (onTc (τ := Cert.SsdFwdIdeal.τ) (Cert.SsdFwdIdeal.main (F := Ideal))) ⟨m, fun _ => 0, g⟩ (fun r => ∀ c : Dev Cert.SsdFwdIdeal.nD,
          r.2.mem ((c.tc : Thread Cert.SsdFwdIdeal.nD Cert.SsdFwdIdeal.τ).loc Cert.SsdFwdIdeal.main_v31_0) = v0 c
          ∧ r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
          ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
          ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
          ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
          ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
          ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5)
          ∧ r.2.mem ((c.tc : Thread Cert.SsdFwdIdeal.nD Cert.SsdFwdIdeal.τ).loc Cert.SsdFwdIdeal.main_arg6) = m ((c.tc : Thread Cert.SsdFwdIdeal.nD Cert.SsdFwdIdeal.τ).loc Cert.SsdFwdIdeal.main_arg6)
          ∧ r.2.mem ((c.tc : Thread Cert.SsdFwdIdeal.nD Cert.SsdFwdIdeal.τ).loc Cert.SsdFwdIdeal.main_arg7) = m ((c.tc : Thread Cert.SsdFwdIdeal.nD Cert.SsdFwdIdeal.τ).loc Cert.SsdFwdIdeal.main_arg7)
          ∧ r.2.mem ((c.tc : Thread Cert.SsdFwdIdeal.nD Cert.SsdFwdIdeal.τ).loc Cert.SsdFwdIdeal.main_arg8) = m ((c.tc : Thread Cert.SsdFwdIdeal.nD Cert.SsdFwdIdeal.τ).loc Cert.SsdFwdIdeal.main_arg8))
      ∧ θ_run (Cert.SsdFwdRefIdeal.defs (F := Ideal)) (onTc (τ := Cert.SsdFwdRefIdeal.τ) (Cert.SsdFwdRefIdeal.main (F := Ideal))) ⟨m', fun _ => 0, g'⟩ (fun r => ∀ c : Dev Cert.SsdFwdRefIdeal.nD,
          r.2.mem ((c.tc : Thread Cert.SsdFwdRefIdeal.nD Cert.SsdFwdRefIdeal.τ).loc Cert.SsdFwdRefIdeal.main_v33) = v0 c
          ∧ r.2.mem ((c.tc : Thread Cert.SsdFwdRefIdeal.nD Cert.SsdFwdRefIdeal.τ).loc Cert.SsdFwdRefIdeal.main_arg0) = m' ((c.tc : Thread Cert.SsdFwdRefIdeal.nD Cert.SsdFwdRefIdeal.τ).loc Cert.SsdFwdRefIdeal.main_arg0)
          ∧ r.2.mem ((c.tc : Thread Cert.SsdFwdRefIdeal.nD Cert.SsdFwdRefIdeal.τ).loc Cert.SsdFwdRefIdeal.main_arg1) = m' ((c.tc : Thread Cert.SsdFwdRefIdeal.nD Cert.SsdFwdRefIdeal.τ).loc Cert.SsdFwdRefIdeal.main_arg1)
          ∧ r.2.mem ((c.tc : Thread Cert.SsdFwdRefIdeal.nD Cert.SsdFwdRefIdeal.τ).loc Cert.SsdFwdRefIdeal.main_arg2) = m' ((c.tc : Thread Cert.SsdFwdRefIdeal.nD Cert.SsdFwdRefIdeal.τ).loc Cert.SsdFwdRefIdeal.main_arg2)
          ∧ r.2.mem ((c.tc : Thread Cert.SsdFwdRefIdeal.nD Cert.SsdFwdRefIdeal.τ).loc Cert.SsdFwdRefIdeal.main_arg3) = m' ((c.tc : Thread Cert.SsdFwdRefIdeal.nD Cert.SsdFwdRefIdeal.τ).loc Cert.SsdFwdRefIdeal.main_arg3)
          ∧ r.2.mem ((c.tc : Thread Cert.SsdFwdRefIdeal.nD Cert.SsdFwdRefIdeal.τ).loc Cert.SsdFwdRefIdeal.main_arg4) = m' ((c.tc : Thread Cert.SsdFwdRefIdeal.nD Cert.SsdFwdRefIdeal.τ).loc Cert.SsdFwdRefIdeal.main_arg4)
          ∧ r.2.mem ((c.tc : Thread Cert.SsdFwdRefIdeal.nD Cert.SsdFwdRefIdeal.τ).loc Cert.SsdFwdRefIdeal.main_arg5) = m' ((c.tc : Thread Cert.SsdFwdRefIdeal.nD Cert.SsdFwdRefIdeal.τ).loc Cert.SsdFwdRefIdeal.main_arg5)
          ∧ r.2.mem ((c.tc : Thread Cert.SsdFwdRefIdeal.nD Cert.SsdFwdRefIdeal.τ).loc Cert.SsdFwdRefIdeal.main_arg6) = m' ((c.tc : Thread Cert.SsdFwdRefIdeal.nD Cert.SsdFwdRefIdeal.τ).loc Cert.SsdFwdRefIdeal.main_arg6)
          ∧ r.2.mem ((c.tc : Thread Cert.SsdFwdRefIdeal.nD Cert.SsdFwdRefIdeal.τ).loc Cert.SsdFwdRefIdeal.main_arg7) = m' ((c.tc : Thread Cert.SsdFwdRefIdeal.nD Cert.SsdFwdRefIdeal.τ).loc Cert.SsdFwdRefIdeal.main_arg7)
          ∧ r.2.mem ((c.tc : Thread Cert.SsdFwdRefIdeal.nD Cert.SsdFwdRefIdeal.τ).loc Cert.SsdFwdRefIdeal.main_arg8) = m' ((c.tc : Thread Cert.SsdFwdRefIdeal.nD Cert.SsdFwdRefIdeal.τ).loc Cert.SsdFwdRefIdeal.main_arg8))

def preserves_SsdBwd_SsdBwdIdeal : Prop :=
  True

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v0) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1))

def preserves_AdaGrad_AdaGradIdeal : Prop :=
  True

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)
      ∧ m' ((c.tc : Thread Cert.AdaGradRefIdeal.nD Cert.AdaGradRefIdeal.τ).loc Cert.AdaGradRefIdeal.main_arg2) = m ((c.tc : Thread Cert.AdaGradIdeal.nD Cert.AdaGradIdeal.τ).loc Cert.AdaGradIdeal.main_arg2)) →
    ∃ (v0 : (c : Dev Cert.AdaGradIdeal.nD) → Buf (Elt Ideal) ((c.tc : Thread Cert.AdaGradIdeal.nD Cert.AdaGradIdeal.τ).loc Cert.AdaGradIdeal.main_v2)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v2) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1)
          ∧ r.2.mem ((c.tc : Thread Cert.AdaGradIdeal.nD Cert.AdaGradIdeal.τ).loc Cert.AdaGradIdeal.main_arg2) = m ((c.tc : Thread Cert.AdaGradIdeal.nD Cert.AdaGradIdeal.τ).loc Cert.AdaGradIdeal.main_arg2))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v2) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1)
          ∧ r.2.mem ((c.tc : Thread Cert.AdaGradRefIdeal.nD Cert.AdaGradRefIdeal.τ).loc Cert.AdaGradRefIdeal.main_arg2) = m' ((c.tc : Thread Cert.AdaGradRefIdeal.nD Cert.AdaGradRefIdeal.τ).loc Cert.AdaGradRefIdeal.main_arg2))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v1) = v0 c
          ∧ r.2.mem ((c.tc : Thread Cert.AdamWRefIdeal.nD Cert.AdamWRefIdeal.τ).loc Cert.AdamWRefIdeal.main_v25) = v1 c
          ∧ r.2.mem ((c.tc : Thread Cert.AdamWRefIdeal.nD Cert.AdamWRefIdeal.τ).loc Cert.AdamWRefIdeal.main_v6) = v2 c
          ∧ r.2.mem ((c.tc : Thread Cert.AdamWRefIdeal.nD Cert.AdamWRefIdeal.τ).loc Cert.AdamWRefIdeal.main_v12) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def Claim : Prop :=
  ∃ (hInGrad : Cert.InGrad.Facts) (hInGradIdeal : Cert.InGradIdeal.Facts) (hInGradRefIdeal : Cert.InGradRefIdeal.Facts) (hAttnGrad : Cert.AttnGrad.Facts) (hAttnGradIdeal : Cert.AttnGradIdeal.Facts) (hAttnGradRefIdeal : Cert.AttnGradRefIdeal.Facts) (hOutGrad : Cert.OutGrad.Facts) (hOutGradIdeal : Cert.OutGradIdeal.Facts) (hOutGradRefIdeal : Cert.OutGradRefIdeal.Facts) (hLatGrad : Cert.LatGrad.Facts) (hLatGradIdeal : Cert.LatGradIdeal.Facts) (hLatGradRefIdeal : Cert.LatGradRefIdeal.Facts) (hAttnFwd : Cert.AttnFwd.Facts) (hAttnFwdIdeal : Cert.AttnFwdIdeal.Facts) (hAttnFwdRefIdeal : Cert.AttnFwdRefIdeal.Facts) (hProj : Cert.Proj.Facts) (hProjIdeal : Cert.ProjIdeal.Facts) (hProjRefIdeal : Cert.ProjRefIdeal.Facts) (hSsdFwd : Cert.SsdFwd.Facts) (hSsdFwdIdeal : Cert.SsdFwdIdeal.Facts) (hSsdFwdRefIdeal : Cert.SsdFwdRefIdeal.Facts) (hSsdBwd : Cert.SsdBwd.Facts) (hSsdBwdIdeal : Cert.SsdBwdIdeal.Facts) (hAda : Cert.Ada.Facts) (hAdaIdeal : Cert.AdaIdeal.Facts) (hAdaRefIdeal : Cert.AdaRefIdeal.Facts) (hAdaGrad : Cert.AdaGrad.Facts) (hAdaGradIdeal : Cert.AdaGradIdeal.Facts) (hAdaGradRefIdeal : Cert.AdaGradRefIdeal.Facts) (hAdamW : Cert.AdamW.Facts) (hAdamWIdeal : Cert.AdamWIdeal.Facts) (hAdamWRefIdeal : Cert.AdamWRefIdeal.Facts) (hPre_attn_finite : Cert.Pre_attn_finite.Facts) (hPre_out_finite : Cert.Pre_out_finite.Facts) (hPre_lat_finite : Cert.Pre_lat_finite.Facts) (hPre_fwd_finite : Cert.Pre_fwd_finite.Facts),
    quiescent_InGrad (hInGrad := hInGrad)
    ∧ quiescent_InGradIdeal (hInGradIdeal := hInGradIdeal)
    ∧ quiescent_InGradRefIdeal (hInGradRefIdeal := hInGradRefIdeal)
    ∧ quiescent_AttnGrad (hAttnGrad := hAttnGrad)
    ∧ quiescent_AttnGradIdeal (hAttnGradIdeal := hAttnGradIdeal)
    ∧ quiescent_AttnGradIdeal_pre_attn_finite (hAttnGradIdeal := hAttnGradIdeal) (hPre_attn_finite := hPre_attn_finite)
    ∧ quiescent_AttnGradRefIdeal (hAttnGradRefIdeal := hAttnGradRefIdeal)
    ∧ quiescent_AttnGradRefIdeal_pre_attn_finite (hAttnGradRefIdeal := hAttnGradRefIdeal) (hPre_attn_finite := hPre_attn_finite)
    ∧ quiescent_OutGrad (hOutGrad := hOutGrad)
    ∧ quiescent_OutGradIdeal (hOutGradIdeal := hOutGradIdeal)
    ∧ quiescent_OutGradIdeal_pre_out_finite (hOutGradIdeal := hOutGradIdeal) (hPre_out_finite := hPre_out_finite)
    ∧ quiescent_OutGradRefIdeal (hOutGradRefIdeal := hOutGradRefIdeal)
    ∧ quiescent_OutGradRefIdeal_pre_out_finite (hOutGradRefIdeal := hOutGradRefIdeal) (hPre_out_finite := hPre_out_finite)
    ∧ quiescent_LatGrad (hLatGrad := hLatGrad)
    ∧ quiescent_LatGradIdeal (hLatGradIdeal := hLatGradIdeal)
    ∧ quiescent_LatGradIdeal_pre_lat_finite (hLatGradIdeal := hLatGradIdeal) (hPre_lat_finite := hPre_lat_finite)
    ∧ quiescent_LatGradRefIdeal (hLatGradRefIdeal := hLatGradRefIdeal)
    ∧ quiescent_LatGradRefIdeal_pre_lat_finite (hLatGradRefIdeal := hLatGradRefIdeal) (hPre_lat_finite := hPre_lat_finite)
    ∧ quiescent_AttnFwd (hAttnFwd := hAttnFwd)
    ∧ quiescent_AttnFwdIdeal (hAttnFwdIdeal := hAttnFwdIdeal)
    ∧ quiescent_AttnFwdIdeal_pre_fwd_finite (hAttnFwdIdeal := hAttnFwdIdeal) (hPre_fwd_finite := hPre_fwd_finite)
    ∧ quiescent_AttnFwdRefIdeal (hAttnFwdRefIdeal := hAttnFwdRefIdeal)
    ∧ quiescent_AttnFwdRefIdeal_pre_fwd_finite (hAttnFwdRefIdeal := hAttnFwdRefIdeal) (hPre_fwd_finite := hPre_fwd_finite)
    ∧ quiescent_Proj (hProj := hProj)
    ∧ quiescent_ProjIdeal (hProjIdeal := hProjIdeal)
    ∧ quiescent_ProjRefIdeal (hProjRefIdeal := hProjRefIdeal)
    ∧ quiescent_SsdFwd (hSsdFwd := hSsdFwd)
    ∧ quiescent_SsdFwdIdeal (hSsdFwdIdeal := hSsdFwdIdeal)
    ∧ quiescent_SsdFwdRefIdeal (hSsdFwdRefIdeal := hSsdFwdRefIdeal)
    ∧ quiescent_SsdBwd (hSsdBwd := hSsdBwd)
    ∧ quiescent_SsdBwdIdeal (hSsdBwdIdeal := hSsdBwdIdeal)
    ∧ quiescent_Ada (hAda := hAda)
    ∧ quiescent_AdaIdeal (hAdaIdeal := hAdaIdeal)
    ∧ quiescent_AdaRefIdeal (hAdaRefIdeal := hAdaRefIdeal)
    ∧ quiescent_AdaGrad (hAdaGrad := hAdaGrad)
    ∧ quiescent_AdaGradIdeal (hAdaGradIdeal := hAdaGradIdeal)
    ∧ quiescent_AdaGradRefIdeal (hAdaGradRefIdeal := hAdaGradRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ preserves_InGrad_InGradIdeal
    ∧ algebraic_InGradIdeal_InGradRefIdeal (hInGradIdeal := hInGradIdeal) (hInGradRefIdeal := hInGradRefIdeal)
    ∧ preserves_AttnGrad_AttnGradIdeal
    ∧ algebraic_AttnGradIdeal_AttnGradRefIdeal_pre_attn_finite (hAttnGradIdeal := hAttnGradIdeal) (hAttnGradRefIdeal := hAttnGradRefIdeal) (hPre_attn_finite := hPre_attn_finite)
    ∧ preserves_OutGrad_OutGradIdeal
    ∧ algebraic_OutGradIdeal_OutGradRefIdeal_pre_out_finite (hOutGradIdeal := hOutGradIdeal) (hOutGradRefIdeal := hOutGradRefIdeal) (hPre_out_finite := hPre_out_finite)
    ∧ preserves_LatGrad_LatGradIdeal
    ∧ algebraic_LatGradIdeal_LatGradRefIdeal_pre_lat_finite (hLatGradIdeal := hLatGradIdeal) (hLatGradRefIdeal := hLatGradRefIdeal) (hPre_lat_finite := hPre_lat_finite)
    ∧ preserves_AttnFwd_AttnFwdIdeal
    ∧ algebraic_AttnFwdIdeal_AttnFwdRefIdeal_pre_fwd_finite (hAttnFwdIdeal := hAttnFwdIdeal) (hAttnFwdRefIdeal := hAttnFwdRefIdeal) (hPre_fwd_finite := hPre_fwd_finite)
    ∧ preserves_Proj_ProjIdeal
    ∧ algebraic_ProjIdeal_ProjRefIdeal (hProjIdeal := hProjIdeal) (hProjRefIdeal := hProjRefIdeal)
    ∧ preserves_SsdFwd_SsdFwdIdeal
    ∧ algebraic_SsdFwdIdeal_SsdFwdRefIdeal (hSsdFwdIdeal := hSsdFwdIdeal) (hSsdFwdRefIdeal := hSsdFwdRefIdeal)
    ∧ preserves_SsdBwd_SsdBwdIdeal
    ∧ preserves_Ada_AdaIdeal
    ∧ algebraic_AdaIdeal_AdaRefIdeal (hAdaIdeal := hAdaIdeal) (hAdaRefIdeal := hAdaRefIdeal)
    ∧ preserves_AdaGrad_AdaGradIdeal
    ∧ algebraic_AdaGradIdeal_AdaGradRefIdeal (hAdaGradIdeal := hAdaGradIdeal) (hAdaGradRefIdeal := hAdaGradRefIdeal)
    ∧ preserves_AdamW_AdamWIdeal
    ∧ algebraic_AdamWIdeal_AdamWRefIdeal (hAdamWIdeal := hAdamWIdeal) (hAdamWRefIdeal := hAdamWRefIdeal)
-- ==== Pre_attn_finite.lean ====
abbrev S1x16384x8x192 : Shape := ⟨4, ![1, 16384, 8, 192]⟩
abbrev S1x16384x8x128 : Shape := ⟨4, ![1, 16384, 8, 128]⟩
abbrev S_ : Shape := ⟨0, ![]⟩

class Facts : Prop where
  bcast_S_S1x16384x8x192 : S_.BroadcastsInDim S1x16384x8x192 (![] : Fin 0 → Fin S1x16384x8x192.rank)
  reducesTo_S1x16384x8x192_S_d0_1_2_3 : S1x16384x8x192.ReducesTo [0, 1, 2, 3] S_
  h_S_ : 0 < S_.numel
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_

variable [Facts]

def fn_part1 {F : FTy → Type} [FloatOps F] (main_v13 : IVec S_ 1) (main_v16 : IVec S1x16384x8x128 1) : IVec S_ 1 :=
  let main_c_5 : IVec S_ 1 := constantI S_ 1 1#1
  let main_v17 : IVec S_ 1 := (fun x v => Host.reduce IntOp.andi x v reducesTo_S1x16384x8x128_S_d0_1_2_3 h_S_) main_v16 main_c_5
  let main_v18 : IVec S_ 1 := andi main_v13 main_v17
  main_v18

def fn {F : FTy → Type} [FloatOps F] (main_arg0 : FVec F S1x16384x8x192 .f32) (main_arg1 : FVec F S1x16384x8x192 .f32) (main_arg2 : FVec F S1x16384x8x128 .f32) (main_arg3 : FVec F S1x16384x8x128 .f32) : IVec S_ 1 :=
  let main_v0 : FVec F S1x16384x8x192 .f32 := Host.absf main_arg0
  let main_cst : FVec F S_ .f32 := constant S_ .f32 0x7F800000#32
  let main_v1 : FVec F S1x16384x8x192 .f32 := broadcastInDim S1x16384x8x192 ![] bcast_S_S1x16384x8x192 main_cst
  let main_v2 : IVec S1x16384x8x192 1 := cmpf .olt main_v0 main_v1
  let main_c : IVec S_ 1 := constantI S_ 1 1#1
  let main_v3 : IVec S_ 1 := (fun x v => Host.reduce IntOp.andi x v reducesTo_S1x16384x8x192_S_d0_1_2_3 h_S_) main_v2 main_c
  let main_v4 : FVec F S1x16384x8x192 .f32 := Host.absf main_arg1
  let main_cst_0 : FVec F S_ .f32 := constant S_ .f32 0x7F800000#32
  let main_v5 : FVec F S1x16384x8x192 .f32 := broadcastInDim S1x16384x8x192 ![] bcast_S_S1x16384x8x192 main_cst_0
  let main_v6 : IVec S1x16384x8x192 1 := cmpf .olt main_v4 main_v5
  let main_c_1 : IVec S_ 1 := constantI S_ 1 1#1
  let main_v7 : IVec S_ 1 := (fun x v => Host.reduce IntOp.andi x v reducesTo_S1x16384x8x192_S_d0_1_2_3 h_S_) main_v6 main_c_1
  let main_v8 : IVec S_ 1 := andi main_v3 main_v7
  let main_v9 : FVec F S1x16384x8x128 .f32 := Host.absf main_arg2
  let main_cst_2 : FVec F S_ .f32 := constant S_ .f32 0x7F800000#32
  let main_v10 : FVec F S1x16384x8x128 .f32 := broadcastInDim S1x16384x8x128 ![] bcast_S_S1x16384x8x128 main_cst_2
  let main_v11 : IVec S1x16384x8x128 1 := cmpf .olt main_v9 main_v10
  let main_c_3 : IVec S_ 1 := constantI S_ 1 1#1
  let main_v12 : IVec S_ 1 := (fun x v => Host.reduce IntOp.andi x v reducesTo_S1x16384x8x128_S_d0_1_2_3 h_S_) main_v11 main_c_3
  let main_v13 : IVec S_ 1 := andi main_v8 main_v12
  let main_v14 : FVec F S1x16384x8x128 .f32 := Host.absf main_arg3
  let main_cst_4 : FVec F S_ .f32 := constant S_ .f32 0x7F800000#32
  let main_v15 : FVec F S1x16384x8x128 .f32 := broadcastInDim S1x16384x8x128 ![] bcast_S_S1x16384x8x128 main_cst_4
  let main_v16 : IVec S1x16384x8x128 1 := cmpf .olt main_v14 main_v15
  fn_part1 (F := F) main_v13 main_v16
-- ==== Pre_fwd_finite.lean ====
abbrev S1x16384x8x192 : Shape := ⟨4, ![1, 16384, 8, 192]⟩
abbrev S1x16384x8x128 : Shape := ⟨4, ![1, 16384, 8, 128]⟩
abbrev S_ : Shape := ⟨0, ![]⟩

class Facts : Prop where
  bcast_S_S1x16384x8x192 : S_.BroadcastsInDim S1x16384x8x192 (![] : Fin 0 → Fin S1x16384x8x192.rank)
  reducesTo_S1x16384x8x192_S_d0_1_2_3 : S1x16384x8x192.ReducesTo [0, 1, 2, 3] S_
  h_S_ : 0 < S_.numel

variable [Facts]

def fn {F : FTy → Type} [FloatOps F] (main_arg0 : FVec F S1x16384x8x192 .f32) (main_arg1 : FVec F S1x16384x8x192 .f32) (main_arg2 : FVec F S1x16384x8x128 .f32) : IVec S_ 1 :=
  let main_v0 : FVec F S1x16384x8x192 .f32 := Host.absf main_arg0
  let main_cst : FVec F S_ .f32 := constant S_ .f32 0x7F800000#32
  let main_v1 : FVec F S1x16384x8x192 .f32 := broadcastInDim S1x16384x8x192 ![] bcast_S_S1x16384x8x192 main_cst
  let main_v2 : IVec S1x16384x8x192 1 := cmpf .olt main_v0 main_v1
  let main_c : IVec S_ 1 := constantI S_ 1 1#1
  let main_v3 : IVec S_ 1 := (fun x v => Host.reduce IntOp.andi x v reducesTo_S1x16384x8x192_S_d0_1_2_3 h_S_) main_v2 main_c
  let main_c_0 : IVec S_ 1 := constantI S_ 1 1#1
  let main_v4 : IVec S_ 1 := andi main_c_0 main_v3
  let main_v5 : FVec F S1x16384x8x192 .f32 := Host.absf main_arg1
  let main_cst_1 : FVec F S_ .f32 := constant S_ .f32 0x7F800000#32
  let main_v6 : FVec F S1x16384x8x192 .f32 := broadcastInDim S1x16384x8x192 ![] bcast_S_S1x16384x8x192 main_cst_1
  let main_v7 : IVec S1x16384x8x192 1 := cmpf .olt main_v5 main_v6
  let main_c_2 : IVec S_ 1 := constantI S_ 1 1#1
  let main_v8 : IVec S_ 1 := (fun x v => Host.reduce IntOp.andi x v reducesTo_S1x16384x8x192_S_d0_1_2_3 h_S_) main_v7 main_c_2
  let main_v9 : IVec S_ 1 := andi main_v4 main_v8
  main_v9
-- ==== Pre_lat_finite.lean ====
abbrev S1x16384x384 : Shape := ⟨3, ![1, 16384, 384]⟩
abbrev S1x16384x320 : Shape := ⟨3, ![1, 16384, 320]⟩
abbrev S1x16384 : Shape := ⟨2, ![1, 16384]⟩
abbrev S1x384 : Shape := ⟨2, ![1, 384]⟩
abbrev S384x1536 : Shape := ⟨2, ![384, 1536]⟩
abbrev S1x256 : Shape := ⟨2, ![1, 256]⟩
abbrev S256x2048 : Shape := ⟨2, ![256, 2048]⟩
abbrev S1x16384x8x192 : Shape := ⟨4, ![1, 16384, 8, 192]⟩
abbrev S1x16384x8x128 : Shape := ⟨4, ![1, 16384, 8, 128]⟩
abbrev S_ : Shape := ⟨0, ![]⟩

class Facts : Prop where
  bcast_S_S1x16384x384 : S_.BroadcastsInDim S1x16384x384 (![] : Fin 0 → Fin S1x16384x384.rank)
  reducesTo_S1x16384x384_S_d0_1_2 : S1x16384x384.ReducesTo [0, 1, 2] S_
  h_S_ : 0 < S_.numel
  bcast_S_S1x16384x320 : S_.BroadcastsInDim S1x16384x320 (![] : Fin 0 → Fin S1x16384x320.rank)
  reducesTo_S1x16384x320_S_d0_1_2 : S1x16384x320.ReducesTo [0, 1, 2] S_
  bcast_S_S1x384 : S_.BroadcastsInDim S1x384 (![] : Fin 0 → Fin S1x384.rank)
  reducesTo_S1x384_S_d0_1 : S1x384.ReducesTo [0, 1] S_
  bcast_S_S384x1536 : S_.BroadcastsInDim S384x1536 (![] : Fin 0 → Fin S384x1536.rank)
  reducesTo_S384x1536_S_d0_1 : S384x1536.ReducesTo [0, 1] S_
  bcast_S_S1x256 : S_.BroadcastsInDim S1x256 (![] : Fin 0 → Fin S1x256.rank)
  reducesTo_S1x256_S_d0_1 : S1x256.ReducesTo [0, 1] S_
  bcast_S_S256x2048 : S_.BroadcastsInDim S256x2048 (![] : Fin 0 → Fin S256x2048.rank)
  reducesTo_S256x2048_S_d0_1 : S256x2048.ReducesTo [0, 1] S_
  bcast_S_S1x16384x8x192 : S_.BroadcastsInDim S1x16384x8x192 (![] : Fin 0 → Fin S1x16384x8x192.rank)
  reducesTo_S1x16384x8x192_S_d0_1_2_3 : S1x16384x8x192.ReducesTo [0, 1, 2, 3] S_
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_

variable [Facts]

def fn_part2 {F : FTy → Type} [FloatOps F] (main_arg8 : FVec F S1x16384x8x192 .f32) (main_arg9 : FVec F S1x16384x8x128 .f32) (main_v29 : IVec S_ 1) (main_v32 : IVec S1x16384x8x192 1) (main_c_12 : IVec S_ 1) : IVec S_ 1 :=
  let main_v33 : IVec S_ 1 := (fun x v => Host.reduce IntOp.andi x v reducesTo_S1x16384x8x192_S_d0_1_2_3 h_S_) main_v32 main_c_12
  let main_v34 : IVec S_ 1 := andi main_v29 main_v33
  let main_v35 : FVec F S1x16384x8x192 .f32 := Host.absf main_arg8
  let main_cst_13 : FVec F S_ .f32 := constant S_ .f32 0x7F800000#32
  let main_v36 : FVec F S1x16384x8x192 .f32 := broadcastInDim S1x16384x8x192 ![] bcast_S_S1x16384x8x192 main_cst_13
  let main_v37 : IVec S1x16384x8x192 1 := cmpf .olt main_v35 main_v36
  let main_c_14 : IVec S_ 1 := constantI S_ 1 1#1
  let main_v38 : IVec S_ 1 := (fun x v => Host.reduce IntOp.andi x v reducesTo_S1x16384x8x192_S_d0_1_2_3 h_S_) main_v37 main_c_14
  let main_v39 : IVec S_ 1 := andi main_v34 main_v38
  let main_v40 : FVec F S1x16384x8x128 .f32 := Host.absf main_arg9
  let main_cst_15 : FVec F S_ .f32 := constant S_ .f32 0x7F800000#32
  let main_v41 : FVec F S1x16384x8x128 .f32 := broadcastInDim S1x16384x8x128 ![] bcast_S_S1x16384x8x128 main_cst_15
  let main_v42 : IVec S1x16384x8x128 1 := cmpf .olt main_v40 main_v41
  let main_c_16 : IVec S_ 1 := constantI S_ 1 1#1
  let main_v43 : IVec S_ 1 := (fun x v => Host.reduce IntOp.andi x v reducesTo_S1x16384x8x128_S_d0_1_2_3 h_S_) main_v42 main_c_16
  let main_v44 : IVec S_ 1 := andi main_v39 main_v43
  main_v44

def fn_part1 {F : FTy → Type} [FloatOps F] (main_arg5 : FVec F S1x256 .f32) (main_arg6 : FVec F S256x2048 .f32) (main_arg7 : FVec F S1x16384x8x192 .f32) (main_arg8 : FVec F S1x16384x8x192 .f32) (main_arg9 : FVec F S1x16384x8x128 .f32) (main_v14 : IVec S_ 1) (main_v15 : FVec F S384x1536 .f32) (main_cst_5 : FVec F S_ .f32) : IVec S_ 1 :=
  let main_v16 : FVec F S384x1536 .f32 := broadcastInDim S384x1536 ![] bcast_S_S384x1536 main_cst_5
  let main_v17 : IVec S384x1536 1 := cmpf .olt main_v15 main_v16
  let main_c_6 : IVec S_ 1 := constantI S_ 1 1#1
  let main_v18 : IVec S_ 1 := (fun x v => Host.reduce IntOp.andi x v reducesTo_S384x1536_S_d0_1 h_S_) main_v17 main_c_6
  let main_v19 : IVec S_ 1 := andi main_v14 main_v18
  let main_v20 : FVec F S1x256 .f32 := Host.absf main_arg5
  let main_cst_7 : FVec F S_ .f32 := constant S_ .f32 0x7F800000#32
  let main_v21 : FVec F S1x256 .f32 := broadcastInDim S1x256 ![] bcast_S_S1x256 main_cst_7
  let main_v22 : IVec S1x256 1 := cmpf .olt main_v20 main_v21
  let main_c_8 : IVec S_ 1 := constantI S_ 1 1#1
  let main_v23 : IVec S_ 1 := (fun x v => Host.reduce IntOp.andi x v reducesTo_S1x256_S_d0_1 h_S_) main_v22 main_c_8
  let main_v24 : IVec S_ 1 := andi main_v19 main_v23
  let main_v25 : FVec F S256x2048 .f32 := Host.absf main_arg6
  let main_cst_9 : FVec F S_ .f32 := constant S_ .f32 0x7F800000#32
  let main_v26 : FVec F S256x2048 .f32 := broadcastInDim S256x2048 ![] bcast_S_S256x2048 main_cst_9
  let main_v27 : IVec S256x2048 1 := cmpf .olt main_v25 main_v26
  let main_c_10 : IVec S_ 1 := constantI S_ 1 1#1
  let main_v28 : IVec S_ 1 := (fun x v => Host.reduce IntOp.andi x v reducesTo_S256x2048_S_d0_1 h_S_) main_v27 main_c_10
  let main_v29 : IVec S_ 1 := andi main_v24 main_v28
  let main_v30 : FVec F S1x16384x8x192 .f32 := Host.absf main_arg7
  let main_cst_11 : FVec F S_ .f32 := constant S_ .f32 0x7F800000#32
  let main_v31 : FVec F S1x16384x8x192 .f32 := broadcastInDim S1x16384x8x192 ![] bcast_S_S1x16384x8x192 main_cst_11
  let main_v32 : IVec S1x16384x8x192 1 := cmpf .olt main_v30 main_v31
  let main_c_12 : IVec S_ 1 := constantI S_ 1 1#1
  fn_part2 (F := F) main_arg8 main_arg9 main_v29 main_v32 main_c_12

def fn {F : FTy → Type} [FloatOps F] (main_arg0 : FVec F S1x16384x384 .f32) (main_arg1 : FVec F S1x16384x320 .f32) (main_arg2 : IVec S1x16384 32) (main_arg3 : FVec F S1x384 .f32) (main_arg4 : FVec F S384x1536 .f32) (main_arg5 : FVec F S1x256 .f32) (main_arg6 : FVec F S256x2048 .f32) (main_arg7 : FVec F S1x16384x8x192 .f32) (main_arg8 : FVec F S1x16384x8x192 .f32) (main_arg9 : FVec F S1x16384x8x128 .f32) : IVec S_ 1 :=
  let main_v0 : FVec F S1x16384x384 .f32 := Host.absf main_arg0
  let main_cst : FVec F S_ .f32 := constant S_ .f32 0x7F800000#32
  let main_v1 : FVec F S1x16384x384 .f32 := broadcastInDim S1x16384x384 ![] bcast_S_S1x16384x384 main_cst
  let main_v2 : IVec S1x16384x384 1 := cmpf .olt main_v0 main_v1
  let main_c : IVec S_ 1 := constantI S_ 1 1#1
  let main_v3 : IVec S_ 1 := (fun x v => Host.reduce IntOp.andi x v reducesTo_S1x16384x384_S_d0_1_2 h_S_) main_v2 main_c
  let main_c_0 : IVec S_ 1 := constantI S_ 1 1#1
  let main_v4 : IVec S_ 1 := andi main_c_0 main_v3
  let main_v5 : FVec F S1x16384x320 .f32 := Host.absf main_arg1
  let main_cst_1 : FVec F S_ .f32 := constant S_ .f32 0x7F800000#32
  let main_v6 : FVec F S1x16384x320 .f32 := broadcastInDim S1x16384x320 ![] bcast_S_S1x16384x320 main_cst_1
  let main_v7 : IVec S1x16384x320 1 := cmpf .olt main_v5 main_v6
  let main_c_2 : IVec S_ 1 := constantI S_ 1 1#1
  let main_v8 : IVec S_ 1 := (fun x v => Host.reduce IntOp.andi x v reducesTo_S1x16384x320_S_d0_1_2 h_S_) main_v7 main_c_2
  let main_v9 : IVec S_ 1 := andi main_v4 main_v8
  let main_v10 : FVec F S1x384 .f32 := Host.absf main_arg3
  let main_cst_3 : FVec F S_ .f32 := constant S_ .f32 0x7F800000#32
  let main_v11 : FVec F S1x384 .f32 := broadcastInDim S1x384 ![] bcast_S_S1x384 main_cst_3
  let main_v12 : IVec S1x384 1 := cmpf .olt main_v10 main_v11
  let main_c_4 : IVec S_ 1 := constantI S_ 1 1#1
  let main_v13 : IVec S_ 1 := (fun x v => Host.reduce IntOp.andi x v reducesTo_S1x384_S_d0_1 h_S_) main_v12 main_c_4
  let main_v14 : IVec S_ 1 := andi main_v9 main_v13
  let main_v15 : FVec F S384x1536 .f32 := Host.absf main_arg4
  let main_cst_5 : FVec F S_ .f32 := constant S_ .f32 0x7F800000#32
  fn_part1 (F := F) main_arg5 main_arg6 main_arg7 main_arg8 main_arg9 main_v14 main_v15 main_cst_5
-- ==== Pre_out_finite.lean ====
abbrev S1x16384x1024 : Shape := ⟨3, ![1, 16384, 1024]⟩
abbrev S1x3072 : Shape := ⟨2, ![1, 3072]⟩
abbrev S2048x1024 : Shape := ⟨2, ![2048, 1024]⟩
abbrev S1x1024 : Shape := ⟨2, ![1, 1024]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1x3072 : S_.BroadcastsInDim S1x3072 (![] : Fin 0 → Fin S1x3072.rank)
  reducesTo_S1x3072_S_d0_1 : S1x3072.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_arg8 : FVec F S1x1024 .f32) (main_v29 : IVec S_ 1) (main_v32 : IVec S2048x1024 1) (main_c_12 : IVec S_ 1) : IVec S_ 1 :=
  let main_v33 : IVec S_ 1 := (fun x v => Host.reduce IntOp.andi x v reducesTo_S2048x1024_S_d0_1 h_S_) main_v32 main_c_12
  let main_v34 : IVec S_ 1 := andi main_v29 main_v33
  let main_v35 : FVec F S1x1024 .f32 := Host.absf main_arg7
  let main_cst_13 : FVec F S_ .f32 := constant S_ .f32 0x7F800000#32
  let main_v36 : FVec F S1x1024 .f32 := broadcastInDim S1x1024 ![] bcast_S_S1x1024 main_cst_13
  let main_v37 : IVec S1x1024 1 := cmpf .olt main_v35 main_v36
  let main_c_14 : IVec S_ 1 := constantI S_ 1 1#1
  let main_v38 : IVec S_ 1 := (fun x v => Host.reduce IntOp.andi x v reducesTo_S1x1024_S_d0_1 h_S_) main_v37 main_c_14
  let main_v39 : IVec S_ 1 := andi main_v34 main_v38
  let main_v40 : FVec F S1x1024 .f32 := Host.absf main_arg8
  let main_cst_15 : FVec F S_ .f32 := constant S_ .f32 0x7F800000#32
  let main_v41 : FVec F S1x1024 .f32 := broadcastInDim S1x1024 ![] bcast_S_S1x1024 main_cst_15
  let main_v42 : IVec S1x1024 1 := cmpf .olt main_v40 main_v41
  let main_c_16 : IVec S_ 1 := constantI S_ 1 1#1
  let main_v43 : IVec S_ 1 := (fun x v => Host.reduce IntOp.andi x v reducesTo_S1x1024_S_d0_1 h_S_) main_v42 main_c_16
  let main_v44 : IVec S_ 1 := andi main_v39 main_v43
  main_v44

def fn_part1 {F : FTy → Type} [FloatOps F] (main_arg4 : FVec F S1x16384x1024 .f32) (main_arg5 : FVec F S1x3072 .f32) (main_arg6 : FVec F S2048x1024 .f32) (main_arg7 : FVec F S1x1024 .f32) (main_arg8 : FVec F S1x1024 .f32) (main_v14 : IVec S_ 1) (main_v15 : FVec F S1x16384x1024 .f32) (main_cst_5 : FVec F S_ .f32) : IVec S_ 1 :=
  let main_v16 : FVec F S1x16384x1024 .f32 := broadcastInDim S1x16384x1024 ![] bcast_S_S1x16384x1024 main_cst_5
  let main_v17 : IVec S1x16384x1024 1 := cmpf .olt main_v15 main_v16
  let main_c_6 : IVec S_ 1 := constantI S_ 1 1#1
  let main_v18 : IVec S_ 1 := (fun x v => Host.reduce IntOp.andi x v reducesTo_S1x16384x1024_S_d0_1_2 h_S_) main_v17 main_c_6
  let main_v19 : IVec S_ 1 := andi main_v14 main_v18
  let main_v20 : FVec F S1x16384x1024 .f32 := Host.absf main_arg4
  let main_cst_7 : FVec F S_ .f32 := constant S_ .f32 0x7F800000#32
  let main_v21 : FVec F S1x16384x1024 .f32 := broadcastInDim S1x16384x1024 ![] bcast_S_S1x16384x1024 main_cst_7
  let main_v22 : IVec S1x16384x1024 1 := cmpf .olt main_v20 main_v21
  let main_c_8 : IVec S_ 1 := constantI S_ 1 1#1
  let main_v23 : IVec S_ 1 := (fun x v => Host.reduce IntOp.andi x v reducesTo_S1x16384x1024_S_d0_1_2 h_S_) main_v22 main_c_8
  let main_v24 : IVec S_ 1 := andi main_v19 main_v23
  let main_v25 : FVec F S1x3072 .f32 := Host.absf main_arg5
  let main_cst_9 : FVec F S_ .f32 := constant S_ .f32 0x7F800000#32
  let main_v26 : FVec F S1x3072 .f32 := broadcastInDim S1x3072 ![] bcast_S_S1x3072 main_cst_9
  let main_v27 : IVec S1x3072 1 := cmpf .olt main_v25 main_v26
  let main_c_10 : IVec S_ 1 := constantI S_ 1 1#1
  let main_v28 : IVec S_ 1 := (fun x v => Host.reduce IntOp.andi x v reducesTo_S1x3072_S_d0_1 h_S_) main_v27 main_c_10
  let main_v29 : IVec S_ 1 := andi main_v24 main_v28
  let main_v30 : FVec F S2048x1024 .f32 := Host.absf main_arg6
  let main_cst_11 : FVec F S_ .f32 := constant S_ .f32 0x7F800000#32
  let main_v31 : FVec F S2048x1024 .f32 := broadcastInDim S2048x1024 ![] bcast_S_S2048x1024 main_cst_11
  let main_v32 : IVec S2048x1024 1 := cmpf .olt main_v30 main_v31
  let main_c_12 : IVec S_ 1 := constantI S_ 1 1#1
  fn_part2 (F := F) main_arg7 main_arg8 main_v29 main_v32 main_c_12

def fn {F : FTy → Type} [FloatOps F] (main_arg0 : FVec F S1x16384x1024 .f32) (main_arg1 : FVec F S1x16384x1024 .f32) (main_arg2 : FVec F S1x16384x1024 .f32) (main_arg3 : FVec F S1x16384x1024 .f32) (main_arg4 : FVec F S1x16384x1024 .f32) (main_arg5 : FVec F S1x3072 .f32) (main_arg6 : FVec F S2048x1024 .f32) (main_arg7 : FVec F S1x1024 .f32) (main_arg8 : FVec F S1x1024 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_c_0 : IVec S_ 1 := constantI S_ 1 1#1
  let main_v4 : IVec S_ 1 := andi main_c_0 main_v3
  let main_v5 : FVec F S1x16384x1024 .f32 := Host.absf main_arg1
  let main_cst_1 : FVec F S_ .f32 := constant S_ .f32 0x7F800000#32
  let main_v6 : FVec F S1x16384x1024 .f32 := broadcastInDim S1x16384x1024 ![] bcast_S_S1x16384x1024 main_cst_1
  let main_v7 : IVec S1x16384x1024 1 := cmpf .olt main_v5 main_v6
  let main_c_2 : IVec S_ 1 := constantI S_ 1 1#1
  let main_v8 : IVec S_ 1 := (fun x v => Host.reduce IntOp.andi x v reducesTo_S1x16384x1024_S_d0_1_2 h_S_) main_v7 main_c_2
  let main_v9 : IVec S_ 1 := andi main_v4 main_v8
  let main_v10 : FVec F S1x16384x1024 .f32 := Host.absf main_arg2
  let main_cst_3 : FVec F S_ .f32 := constant S_ .f32 0x7F800000#32
  let main_v11 : FVec F S1x16384x1024 .f32 := broadcastInDim S1x16384x1024 ![] bcast_S_S1x16384x1024 main_cst_3
  let main_v12 : IVec S1x16384x1024 1 := cmpf .olt main_v10 main_v11
  let main_c_4 : IVec S_ 1 := constantI S_ 1 1#1
  let main_v13 : IVec S_ 1 := (fun x v => Host.reduce IntOp.andi x v reducesTo_S1x16384x1024_S_d0_1_2 h_S_) main_v12 main_c_4
  let main_v14 : IVec S_ 1 := andi main_v9 main_v13
  let main_v15 : FVec F S1x16384x1024 .f32 := Host.absf main_arg3
  let main_cst_5 : FVec F S_ .f32 := constant S_ .f32 0x7F800000#32
  fn_part1 (F := F) main_arg4 main_arg5 main_arg6 main_arg7 main_arg8 main_v14 main_v15 main_cst_5
-- ==== InGrad.lean ====
abbrev S1x16384x1024 : Shape := ⟨3, ![1, 16384, 1024]⟩
abbrev S1x3072 : Shape := ⟨2, ![1, 3072]⟩
abbrev S1024x4304 : Shape := ⟨2, ![1024, 4304]⟩
abbrev S1x16384x4304 : Shape := ⟨3, ![1, 16384, 4304]⟩
abbrev S16384x1024 : Shape := ⟨2, ![16384, 1024]⟩
abbrev S_ : Shape := ⟨0, ![]⟩
abbrev S1024x384 : Shape := ⟨2, ![1024, 384]⟩
abbrev S1024x256 : Shape := ⟨2, ![1024, 256]⟩
abbrev S1024x1024 : Shape := ⟨2, ![1024, 1024]⟩
abbrev S1024x1536 : Shape := ⟨2, ![1024, 1536]⟩
abbrev S1024x64 : Shape := ⟨2, ![1024, 64]⟩
abbrev S1024x16 : Shape := ⟨2, ![1024, 16]⟩
abbrev S1024x112 : Shape := ⟨2, ![1024, 112]⟩
abbrev S1024x4480 : Shape := ⟨2, ![1024, 4480]⟩
abbrev S8x3072 : Shape := ⟨2, ![8, 3072]⟩
abbrev S16384x4304 : Shape := ⟨2, ![16384, 4304]⟩
abbrev S16384x384 : Shape := ⟨2, ![16384, 384]⟩
abbrev S16384x256 : Shape := ⟨2, ![16384, 256]⟩
abbrev S16384x1536 : Shape := ⟨2, ![16384, 1536]⟩
abbrev S16384x64 : Shape := ⟨2, ![16384, 64]⟩
abbrev S16384x128 : Shape := ⟨2, ![16384, 128]⟩
abbrev S16384x16 : Shape := ⟨2, ![16384, 16]⟩
abbrev S16384x112 : Shape := ⟨2, ![16384, 112]⟩
abbrev S8x1024 : Shape := ⟨2, ![8, 1024]⟩
abbrev S256x1024 : Shape := ⟨2, ![256, 1024]⟩
abbrev S256x384 : Shape := ⟨2, ![256, 384]⟩
abbrev S256x256 : Shape := ⟨2, ![256, 256]⟩
abbrev S256x1536 : Shape := ⟨2, ![256, 1536]⟩
abbrev S256x128 : Shape := ⟨2, ![256, 128]⟩
abbrev S1x1024 : Shape := ⟨2, ![1, 1024]⟩
abbrev S1024x128 : Shape := ⟨2, ![1024, 128]⟩
abbrev S1024 : Shape := ⟨1, ![1024]⟩

abbrev nBuf : Space → Nat
  | .hbm => 52
  | .vmem => 24
  | .smem => 0
  | _ => 0

abbrev bufTy : (tb : Table) → Fin (tcTables nBuf tb) → BufTy
  | .hbm, ⟨0, _⟩ => ⟨S1x16384x1024, .f32⟩
  | .hbm, ⟨1, _⟩ => ⟨S1x3072, .f32⟩
  | .hbm, ⟨2, _⟩ => ⟨S1024x4304, .f32⟩
  | .hbm, ⟨3, _⟩ => ⟨S1x16384x1024, .f32⟩
  | .hbm, ⟨4, _⟩ => ⟨S1x16384x4304, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S1024x4304, .bf16⟩
  | .hbm, ⟨11, _⟩ => ⟨S1024x384, .bf16⟩
  | .hbm, ⟨12, _⟩ => ⟨S1024x256, .bf16⟩
  | .hbm, ⟨13, _⟩ => ⟨S1024x1024, .bf16⟩
  | .hbm, ⟨14, _⟩ => ⟨S1024x1536, .bf16⟩
  | .hbm, ⟨15, _⟩ => ⟨S1024x1024, .bf16⟩
  | .hbm, ⟨16, _⟩ => ⟨S1024x64, .bf16⟩
  | .hbm, ⟨17, _⟩ => ⟨S_, .bf16⟩
  | .hbm, ⟨18, _⟩ => ⟨S1024x64, .bf16⟩
  | .hbm, ⟨19, _⟩ => ⟨S1024x16, .bf16⟩
  | .hbm, ⟨20, _⟩ => ⟨S_, .bf16⟩
  | .hbm, ⟨21, _⟩ => ⟨S1024x112, .bf16⟩
  | .hbm, ⟨22, _⟩ => ⟨S1024x4480, .bf16⟩
  | .hbm, ⟨23, _⟩ => ⟨S8x3072, .f32⟩
  | .hbm, ⟨24, _⟩ => ⟨S16384x4304, .f32⟩
  | .hbm, ⟨25, _⟩ => ⟨S16384x4304, .bf16⟩
  | .hbm, ⟨26, _⟩ => ⟨S16384x384, .bf16⟩
  | .hbm, ⟨27, _⟩ => ⟨S16384x256, .bf16⟩
  | .hbm, ⟨28, _⟩ => ⟨S16384x1024, .bf16⟩
  | .hbm, ⟨29, _⟩ => ⟨S16384x1536, .bf16⟩
  | .hbm, ⟨30, _⟩ => ⟨S16384x1024, .bf16⟩
  | .hbm, ⟨31, _⟩ => ⟨S16384x64, .bf16⟩
  | .hbm, ⟨32, _⟩ => ⟨S_, .bf16⟩
  | .hbm, ⟨33, _⟩ => ⟨S16384x64, .bf16⟩
  | .hbm, ⟨34, _⟩ => ⟨S16384x128, .bf16⟩
  | .hbm, ⟨35, _⟩ => ⟨S16384x16, .bf16⟩
  | .hbm, ⟨36, _⟩ => ⟨S_, .bf16⟩
  | .hbm, ⟨37, _⟩ => ⟨S16384x112, .bf16⟩
  | .hbm, ⟨38, _⟩ => ⟨S16384x128, .bf16⟩
  | .hbm, ⟨39, _⟩ => ⟨S16384x1024, .f32⟩
  | .hbm, ⟨40, _⟩ => ⟨S1024x4480, .f32⟩
  | .hbm, ⟨41, _⟩ => ⟨S8x1024, .f32⟩
  | .hbm, ⟨42, _⟩ => ⟨S1x1024, .f32⟩
  | .hbm, ⟨43, _⟩ => ⟨S1x1024, .f32⟩
  | .hbm, ⟨44, _⟩ => ⟨S1024x384, .f32⟩
  | .hbm, ⟨45, _⟩ => ⟨S1024x256, .f32⟩
  | .hbm, ⟨46, _⟩ => ⟨S1024x64, .f32⟩
  | .hbm, ⟨47, _⟩ => ⟨S1024x1024, .f32⟩
  | .hbm, ⟨48, _⟩ => ⟨S1024x1536, .f32⟩
  | .hbm, ⟨49, _⟩ => ⟨S1024x16, .f32⟩
  | .hbm, ⟨50, _⟩ => ⟨S1024x1024, .f32⟩
  | .hbm, ⟨51, _⟩ => ⟨S1024x4304, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x3072, .f32⟩
  | .local _ .vmem, ⟨5, _⟩ => ⟨S1024x4480, .bf16⟩
  | .local _ .vmem, ⟨6, _⟩ => ⟨S256x384, .bf16⟩
  | .local _ .vmem, ⟨7, _⟩ => ⟨S256x384, .bf16⟩
  | .local _ .vmem, ⟨8, _⟩ => ⟨S256x256, .bf16⟩
  | .local _ .vmem, ⟨9, _⟩ => ⟨S256x256, .bf16⟩
  | .local _ .vmem, ⟨10, _⟩ => ⟨S256x1024, .bf16⟩
  | .local _ .vmem, ⟨11, _⟩ => ⟨S256x1024, .bf16⟩
  | .local _ .vmem, ⟨12, _⟩ => ⟨S256x1536, .bf16⟩
  | .local _ .vmem, ⟨13, _⟩ => ⟨S256x1536, .bf16⟩
  | .local _ .vmem, ⟨14, _⟩ => ⟨S256x1024, .bf16⟩
  | .local _ .vmem, ⟨15, _⟩ => ⟨S256x1024, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S256x1024, .f32⟩
  | .local _ .vmem, ⟨21, _⟩ => ⟨S256x1024, .f32⟩
  | .local _ .vmem, ⟨22, _⟩ => ⟨S1024x4480, .f32⟩
  | .local _ .vmem, ⟨23, _⟩ => ⟨S8x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4480 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x4480 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InGradRefIdeal.lean ====
abbrev S1x16384x1024 : Shape := ⟨3, ![1, 16384, 1024]⟩
abbrev S1x3072 : Shape := ⟨2, ![1, 3072]⟩
abbrev S1024x4304 : Shape := ⟨2, ![1024, 4304]⟩
abbrev S1x16384x4304 : Shape := ⟨3, ![1, 16384, 4304]⟩
abbrev S1x1024 : Shape := ⟨2, ![1, 1024]⟩
abbrev S1x1x1024 : Shape := ⟨3, ![1, 1, 1024]⟩
abbrev S_ : Shape := ⟨0, ![]⟩
abbrev S4304x1024 : Shape := ⟨2, ![4304, 1024]⟩
abbrev S1024 : Shape := ⟨1, ![1024]⟩
abbrev S16384x1024 : Shape := ⟨2, ![16384, 1024]⟩

abbrev nBuf : Space → Nat
  | .hbm => 50
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x3072, .f32⟩
  | .hbm, ⟨2, _⟩ => ⟨S1024x4304, .f32⟩
  | .hbm, ⟨3, _⟩ => ⟨S1x16384x1024, .f32⟩
  | .hbm, ⟨4, _⟩ => ⟨S1x16384x4304, .f32⟩
  | .hbm, ⟨5, _⟩ => ⟨S1x1024, .f32⟩
  | .hbm, ⟨6, _⟩ => ⟨S1x1024, .f32⟩
  | .hbm, ⟨7, _⟩ => ⟨S1x1x1024, .f32⟩
  | .hbm, ⟨8, _⟩ => ⟨S_, .f32⟩
  | .hbm, ⟨9, _⟩ => ⟨S1x1x1024, .f32⟩
  | .hbm, ⟨10, _⟩ => ⟨S1x1x1024, .f32⟩
  | .hbm, ⟨11, _⟩ => ⟨S1x16384x1024, .f32⟩
  | .hbm, ⟨12, _⟩ => ⟨S1x16384x1024, .f32⟩
  | .hbm, ⟨13, _⟩ => ⟨S1x1x1024, .f32⟩
  | .hbm, ⟨14, _⟩ => ⟨S1x16384x1024, .f32⟩
  | .hbm, ⟨15, _⟩ => ⟨S1x16384x1024, .f32⟩
  | .hbm, ⟨16, _⟩ => ⟨S_, .f32⟩
  | .hbm, ⟨17, _⟩ => ⟨S1x16384x1024, .f32⟩
  | .hbm, ⟨18, _⟩ => ⟨S1x16384x1024, .f32⟩
  | .hbm, ⟨19, _⟩ => ⟨S1x16384x4304, .f32⟩
  | .hbm, ⟨20, _⟩ => ⟨S4304x1024, .f32⟩
  | .hbm, ⟨21, _⟩ => ⟨S1024x4304, .f32⟩
  | .hbm, ⟨22, _⟩ => ⟨S1x16384x1024, .f32⟩
  | .hbm, ⟨23, _⟩ => ⟨S_, .f32⟩
  | .hbm, ⟨24, _⟩ => ⟨S1x16384x1024, .f32⟩
  | .hbm, ⟨25, _⟩ => ⟨S1x16384x1024, .f32⟩
  | .hbm, ⟨26, _⟩ => ⟨S_, .f32⟩
  | .hbm, ⟨27, _⟩ => ⟨S1x1024, .f32⟩
  | .hbm, ⟨28, _⟩ => ⟨S1x1x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S1x16384x1024, .f32⟩
  | .hbm, ⟨33, _⟩ => ⟨S_, .f32⟩
  | .hbm, ⟨34, _⟩ => ⟨S1x1024, .f32⟩
  | .hbm, ⟨35, _⟩ => ⟨S1x1x1024, .f32⟩
  | .hbm, ⟨36, _⟩ => ⟨S1x16384x1024, .f32⟩
  | .hbm, ⟨37, _⟩ => ⟨S1x16384x1024, .f32⟩
  | .hbm, ⟨38, _⟩ => ⟨S1x16384x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1x3072, .f32⟩
  | .hbm, ⟨44, _⟩ => ⟨S_, .f32⟩
  | .hbm, ⟨45, _⟩ => ⟨S1x3072, .f32⟩
  | .hbm, ⟨46, _⟩ => ⟨S1x3072, .f32⟩
  | .hbm, ⟨47, _⟩ => ⟨S16384x1024, .f32⟩
  | .hbm, ⟨48, _⟩ => ⟨S1x1024, .f32⟩
  | .hbm, ⟨49, _⟩ => ⟨S1x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== AttnGrad.lean ====
abbrev S1x16384x8x192 : Shape := ⟨4, ![1, 16384, 8, 192]⟩
abbrev S1x16384x8x128 : Shape := ⟨4, ![1, 16384, 8, 128]⟩
abbrev S_ : Shape := ⟨0, ![]⟩
abbrev S16384x8x192 : Shape := ⟨3, ![16384, 8, 192]⟩
abbrev S8x16384x192 : Shape := ⟨3, ![8, 16384, 192]⟩
abbrev S8x16384x64 : Shape := ⟨3, ![8, 16384, 64]⟩
abbrev S8x16384x256 : Shape := ⟨3, ![8, 16384, 256]⟩
abbrev S16384x8x128 : Shape := ⟨3, ![16384, 8, 128]⟩
abbrev S8x16384x128 : Shape := ⟨3, ![8, 16384, 128]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S16384x1024 : Shape := ⟨2, ![16384, 1024]⟩
abbrev S8x16x1x1024 : Shape := ⟨4, ![8, 16, 1, 1024]⟩
abbrev S8x64x1x256 : Shape := ⟨4, ![8, 64, 1, 256]⟩
abbrev S1x512x256 : Shape := ⟨3, ![1, 512, 256]⟩
abbrev S1x512x128 : Shape := ⟨3, ![1, 512, 128]⟩
abbrev S1x16384x256 : Shape := ⟨3, ![1, 16384, 256]⟩
abbrev S16384x128 : Shape := ⟨2, ![16384, 128]⟩
abbrev S1x16x1x1024 : Shape := ⟨4, ![1, 16, 1, 1024]⟩
abbrev S1x1024x256 : Shape := ⟨3, ![1, 1024, 256]⟩
abbrev S16x256x1024 : Shape := ⟨3, ![16, 256, 1024]⟩
abbrev S512x256 : Shape := ⟨2, ![512, 256]⟩
abbrev S256x512 : Shape := ⟨2, ![256, 512]⟩
abbrev S512x128 : Shape := ⟨2, ![512, 128]⟩
abbrev S1024x256 : Shape := ⟨2, ![1024, 256]⟩
abbrev S1024x128 : Shape := ⟨2, ![1024, 128]⟩
abbrev S512x1024 : Shape := ⟨2, ![512, 1024]⟩
abbrev S1x1x1x1024 : Shape := ⟨4, ![1, 1, 1, 1024]⟩
abbrev S1x1024 : Shape := ⟨2, ![1, 1024]⟩
abbrev S1x256x1024 : Shape := ⟨3, ![1, 256, 1024]⟩
abbrev S256x1024 : Shape := ⟨2, ![256, 1024]⟩
abbrev S512x512 : Shape := ⟨2, ![512, 512]⟩
abbrev S1x512 : Shape := ⟨2, ![1, 512]⟩
abbrev S1x256x512 : Shape := ⟨3, ![1, 256, 512]⟩

abbrev nBuf : Space → Nat
  | .hbm => 85
  | .vmem => 19
  | .smem => 0
  | _ => 0

abbrev bufTy : (tb : Table) → Fin (tcTables nBuf tb) → BufTy
  | .hbm, ⟨0, _⟩ => ⟨S1x16384x8x192, .f32⟩
  | .hbm, ⟨1, _⟩ => ⟨S1x16384x8x192, .f32⟩
  | .hbm, ⟨2, _⟩ => ⟨S1x16384x8x128, .f32⟩
  | .hbm, ⟨3, _⟩ => ⟨S1x16384x8x128, .f32⟩
  | .hbm, ⟨4, _⟩ => ⟨S_, .f32⟩
  | .hbm, ⟨5, _⟩ => ⟨S_, .f32⟩
  | .hbm, ⟨6, _⟩ => ⟨S16384x8x192, .f32⟩
  | .hbm, ⟨7, _⟩ => ⟨S8x16384x192, .f32⟩
  | .hbm, ⟨8, _⟩ => ⟨S_, .f32⟩
  | .hbm, ⟨9, _⟩ => ⟨S8x16384x64, .f32⟩
  | .hbm, ⟨10, _⟩ => ⟨S8x16384x256, .f32⟩
  | .hbm, ⟨11, _⟩ => ⟨S_, .f32⟩
  | .hbm, ⟨12, _⟩ => ⟨S_, .f32⟩
  | .hbm, ⟨13, _⟩ => ⟨S8x16384x256, .f32⟩
  | .hbm, ⟨14, _⟩ => ⟨S8x16384x256, .f32⟩
  | .hbm, ⟨15, _⟩ => ⟨S8x16384x256, .bf16⟩
  | .hbm, ⟨16, _⟩ => ⟨S16384x8x192, .f32⟩
  | .hbm, ⟨17, _⟩ => ⟨S8x16384x192, .f32⟩
  | .hbm, ⟨18, _⟩ => ⟨S_, .f32⟩
  | .hbm, ⟨19, _⟩ => ⟨S8x16384x64, .f32⟩
  | .hbm, ⟨20, _⟩ => ⟨S8x16384x256, .f32⟩
  | .hbm, ⟨21, _⟩ => ⟨S8x16384x256, .bf16⟩
  | .hbm, ⟨22, _⟩ => ⟨S16384x8x128, .f32⟩
  | .hbm, ⟨23, _⟩ => ⟨S8x16384x128, .f32⟩
  | .hbm, ⟨24, _⟩ => ⟨S8x16384x128, .bf16⟩
  | .hbm, ⟨25, _⟩ => ⟨S8x16384x256, .f32⟩
  | .hbm, ⟨26, _⟩ => ⟨S8x16384x256, .f32⟩
  | .hbm, ⟨27, _⟩ => ⟨S8x16384x16384, .f32⟩
  | .hbm, ⟨28, _⟩ => ⟨S16384, .i32⟩
  | .hbm, ⟨29, _⟩ => ⟨S1x16384, .i32⟩
  | .hbm, ⟨30, _⟩ => ⟨S16384, .i32⟩
  | .hbm, ⟨31, _⟩ => ⟨S16384x1, .i32⟩
  | .hbm, ⟨32, _⟩ => ⟨S16384x16384, .i32⟩
  | .hbm, ⟨33, _⟩ => ⟨S16384x16384, .i32⟩
  | .hbm, ⟨34, _⟩ => ⟨S16384x16384, .i1⟩
  | .hbm, ⟨35, _⟩ => ⟨S1x16384x16384, .i1⟩
  | .hbm, ⟨36, _⟩ => ⟨S_, .f32⟩
  | .hbm, ⟨37, _⟩ => ⟨S_, .f32⟩
  | .hbm, ⟨38, _⟩ => ⟨S8x16384x16384, .i1⟩
  | .hbm, ⟨39, _⟩ => ⟨S8x16384x16384, .f32⟩
  | .hbm, ⟨40, _⟩ => ⟨S8x16384x16384, .f32⟩
  | .hbm, ⟨41, _⟩ => ⟨S_, .f32⟩
  | .hbm, ⟨42, _⟩ => ⟨S8x16384, .f32⟩
  | .hbm, ⟨43, _⟩ => ⟨S8x16384x1, .f32⟩
  | .hbm, ⟨44, _⟩ => ⟨S8x16384x16384, .f32⟩
  | .hbm, ⟨45, _⟩ => ⟨S8x16384x16384, .f32⟩
  | .hbm, ⟨46, _⟩ => ⟨S8x16384x16384, .f32⟩
  | .hbm, ⟨47, _⟩ => ⟨S8x16384x16384, .f32⟩
  | .hbm, ⟨48, _⟩ => ⟨S8x16384x16384, .f32⟩
  | .hbm, ⟨49, _⟩ => ⟨S_, .f32⟩
  | .hbm, ⟨50, _⟩ => ⟨S8x16384, .f32⟩
  | .hbm, ⟨51, _⟩ => ⟨S8x16384x1, .f32⟩
  | .hbm, ⟨52, _⟩ => ⟨S8x16384x1, .f32⟩
  | .hbm, ⟨53, _⟩ => ⟨S8x16384x1, .f32⟩
  | .hbm, ⟨54, _⟩ => ⟨S8x16384x1, .f32⟩
  | .hbm, ⟨55, _⟩ => ⟨S8x16384x1, .f32⟩
  | .hbm, ⟨56, _⟩ => ⟨S8x16384x128, .f32⟩
  | .hbm, ⟨57, _⟩ => ⟨S8x16384x128, .f32⟩
  | .hbm, ⟨58, _⟩ => ⟨S8x16384x128, .f32⟩
  | .hbm, ⟨59, _⟩ => ⟨S8x16384x128, .f32⟩
  | .hbm, ⟨60, _⟩ => ⟨S16384x8x128, .f32⟩
  | .hbm, ⟨61, _⟩ => ⟨S8x16384x128, .f32⟩
  | .hbm, ⟨62, _⟩ => ⟨S8x16384x128, .f32⟩
  | .hbm, ⟨63, _⟩ => ⟨S_, .f32⟩
  | .hbm, ⟨64, _⟩ => ⟨S8x16384, .f32⟩
  | .hbm, ⟨65, _⟩ => ⟨S16384x8x128, .f32⟩
  | .hbm, ⟨66, _⟩ => ⟨S16384x1024, .f32⟩
  | .hbm, ⟨67, _⟩ => ⟨S16384x1024, .bf16⟩
  | .hbm, ⟨68, _⟩ => ⟨S8x16x1x1024, .f32⟩
  | .hbm, ⟨69, _⟩ => ⟨S8x64x1x256, .f32⟩
  | .hbm, ⟨70, _⟩ => ⟨S8x16x1x1024, .f32⟩
  | .hbm, ⟨71, _⟩ => ⟨S8x16384x256, .f32⟩
  | .hbm, ⟨72, _⟩ => ⟨S8x16384x128, .f32⟩
  | .hbm, ⟨73, _⟩ => ⟨S8x16384x256, .f32⟩
  | .hbm, ⟨74, _⟩ => ⟨S8x16384x192, .f32⟩
  | .hbm, ⟨75, _⟩ => ⟨S16384x8x192, .f32⟩
  | .hbm, ⟨76, _⟩ => ⟨S1x16384x8x192, .f32⟩
  | .hbm, ⟨77, _⟩ => ⟨S_, .f32⟩
  | .hbm, ⟨78, _⟩ => ⟨S1x16384x8x192, .f32⟩
  | .hbm, ⟨79, _⟩ => ⟨S1x16384x8x192, .f32⟩
  | .hbm, ⟨80, _⟩ => ⟨S8x16384x192, .f32⟩
  | .hbm, ⟨81, _⟩ => ⟨S16384x8x192, .f32⟩
  | .hbm, ⟨82, _⟩ => ⟨S1x16384x8x192, .f32⟩
  | .hbm, ⟨83, _⟩ => ⟨S16384x8x128, .f32⟩
  | .hbm, ⟨84, _⟩ => ⟨S1x16384x8x128, .f32⟩
  | .local _ .vmem, ⟨0, _⟩ => ⟨S1x512x256, .bf16⟩
  | .local _ .vmem, ⟨1, _⟩ => ⟨S1x512x256, .bf16⟩
  | .local _ .vmem, ⟨2, _⟩ => ⟨S1x512x128, .bf16⟩
  | .local _ .vmem, ⟨3, _⟩ => ⟨S1x512x128, .bf16⟩
  | .local _ .vmem, ⟨4, _⟩ => ⟨S1x16384x256, .bf16⟩
  | .local _ .vmem, ⟨5, _⟩ => ⟨S1x16384x256, .bf16⟩
  | .local _ .vmem, ⟨6, _⟩ => ⟨S16384x128, .bf16⟩
  | .local _ .vmem, ⟨7, _⟩ => ⟨S16384x128, .bf16⟩
  | .local _ .vmem, ⟨8, _⟩ => ⟨S1x16x1x1024, .f32⟩
  | .local _ .vmem, ⟨9, _⟩ => ⟨S1x16x1x1024, .f32⟩
  | .local _ .vmem, ⟨10, _⟩ => ⟨S1x16x1x1024, .f32⟩
  | .local _ .vmem, ⟨11, _⟩ => ⟨S1x16x1x1024, .f32⟩
  | .local _ .vmem, ⟨12, _⟩ => ⟨S1x512x256, .f32⟩
  | .local _ .vmem, ⟨13, _⟩ => ⟨S1x512x256, .f32⟩
  | .local _ .vmem, ⟨14, _⟩ => ⟨S1x512x128, .f32⟩
  | .local _ .vmem, ⟨15, _⟩ => ⟨S1x512x128, .f32⟩
  | .local _ .vmem, ⟨16, _⟩ => ⟨S1x1024x256, .f32⟩
  | .local _ .vmem, ⟨17, _⟩ => ⟨S1x1024x256, .f32⟩
  | .local _ .vmem, ⟨18, _⟩ => ⟨S16x256x1024, .f32⟩
  | _, _ => ⟨S1x16384x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56_0 : Ref sig .tc := ⟨.hbm, 71, rfl⟩
abbrev main_v56_1 : Ref sig .tc := ⟨.hbm, 72, rfl⟩
abbrev main_v56_2 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c1_i32_13 : BitVec 32 := 1#32
  let v17 : BitVec 32 := Scalar.andi arg1 c1_i32_13
  let c0_i32_14 : BitVec 32 := 0#32
  let v18 : BitVec 1 := Scalar.cmpi .eq v17 c0_i32_14
  let v19 : BitVec 32 := Scalar.extui v18
  let c0_i32_15 : BitVec 32 := 0#32
  let v20 : BitVec 1 := Scalar.cmpi .ne v19 c0_i32_15
  v20

def k0_mult1 (i : grid0.Coords) : BitVec 32 :=
  let arg1 : BitVec 32 := BitVec.ofNat 32 (i 1).val
  let c1_i32 : BitVec 32 := 1#32
  let v16 : BitVec 32 := Scalar.shrsi arg1 c1_i32
  let c1024_i32 : BitVec 32 := 1024#32
  let v46 : BitVec 32 := Scalar.muli v16 c1024_i32
  let c0_i32_36 : BitVec 32 := 0#32
  let v47 : BitVec 32 := Scalar.addi v46 c0_i32_36
  v47
def k0_off1 (i : grid0.Coords) : Fin 3 → Nat :=
  let c0_37 : Index := 0#32
  let arg1 : BitVec 32 := BitVec.ofNat 32 (i 1).val
  let c1_i32 : BitVec 32 := 1#32
  let v16 : BitVec 32 := Scalar.shrsi arg1 c1_i32
  let c1024_i32 : BitVec 32 := 1024#32
  let v46 : BitVec 32 := Scalar.muli v16 c1024_i32
  let c0_i32_36 : BitVec 32 := 0#32
  let v47 : BitVec 32 := Scalar.addi v46 c0_i32_36
  let v48 : BitVec 32 := v47
  let v49 : Index := Scalar.indexCast v48
  let c0_38 : Index := 0#32
  ![0, v49.toNat, 0]
def k0_off2 (i : grid0.Coords) : Fin 2 → Nat :=
  let arg1 : BitVec 32 := BitVec.ofNat 32 (i 1).val
  let c1_i32 : BitVec 32 := 1#32
  let v16 : BitVec 32 := Scalar.shrsi arg1 c1_i32
  let c1024_i32 : BitVec 32 := 1024#32
  let v46 : BitVec 32 := Scalar.muli v16 c1024_i32
  let c0_i32_36 : BitVec 32 := 0#32
  let v47 : BitVec 32 := Scalar.addi v46 c0_i32_36
  let v48 : BitVec 32 := v47
  let v52 : Index := Scalar.indexCast v48
  let c0_39 : Index := 0#32
  ![v52.toNat, 0]
def k0_off3 (i : grid0.Coords) : Fin 4 → Nat :=
  let c0_41 : Index := 0#32
  let arg1 : BitVec 32 := BitVec.ofNat 32 (i 1).val
  let c1_i32 : BitVec 32 := 1#32
  let v16 : BitVec 32 := Scalar.shrsi arg1 c1_i32
  let v56 : Index := Scalar.indexCast v16
  let c0_42 : Index := 0#32
  let c0_43 : Index := 0#32
  ![0, v56.toNat, 0, 0]
def k0_off4 (i : grid0.Coords) : Fin 3 → Nat :=
  let arg1 : BitVec 32 := BitVec.ofNat 32 (i 1).val
  let c1_i32 : BitVec 32 := 1#32
  let v16 : BitVec 32 := Scalar.shrsi arg1 c1_i32
  let v97 : Index := Scalar.indexCast v16
  let c0_65 : Index := 0#32
  let c0_66 : Index := 0#32
  ![v97.toNat, 0, 0]
def k0_cond3 (i : grid0.Coords) : BitVec 1 :=
  let arg1 : BitVec 32 := BitVec.ofNat 32 (i 1).val
  let c1_i32_16 : BitVec 32 := 1#32
  let v21 : BitVec 32 := Scalar.andi arg1 c1_i32_16
  let c1_i32_17 : BitVec 32 := 1#32
  let v22 : BitVec 1 := Scalar.cmpi .eq v21 c1_i32_17
  let v23 : BitVec 32 := Scalar.extui v22
  let c0_i32_18 : BitVec 32 := 0#32
  let v24 : BitVec 1 := Scalar.cmpi .ne v23 c0_i32_18
  v24

def k0_mult2 (i : grid0.Coords) : BitVec 32 :=
  let arg1 : BitVec 32 := BitVec.ofNat 32 (i 1).val
  let c1_i32 : BitVec 32 := 1#32
  let v16 : BitVec 32 := Scalar.shrsi arg1 c1_i32
  let c1024_i32 : BitVec 32 := 1024#32
  let v46 : BitVec 32 := Scalar.muli v16 c1024_i32
  let c512_i32 : BitVec 32 := 512#32
  let v47 : BitVec 32 := Scalar.addi v46 c512_i32
  v47
def k0_off5 (i : grid0.Coords) : Fin 3 → Nat :=
  let c0_36 : Index := 0#32
  let arg1 : BitVec 32 := BitVec.ofNat 32 (i 1).val
  let c1_i32 : BitVec 32 := 1#32
  let v16 : BitVec 32 := Scalar.shrsi arg1 c1_i32
  let c1024_i32 : BitVec 32 := 1024#32
  let v46 : BitVec 32 := Scalar.muli v16 c1024_i32
  let c512_i32 : BitVec 32 := 512#32
  let v47 : BitVec 32 := Scalar.addi v46 c512_i32
  let v48 : BitVec 32 := v47
  let v49 : Index := Scalar.indexCast v48
  let c0_37 : Index := 0#32
  ![0, v49.toNat, 0]
def k0_off6 (i : grid0.Coords) : Fin 2 → Nat :=
  let arg1 : BitVec 32 := BitVec.ofNat 32 (i 1).val
  let c1_i32 : BitVec 32 := 1#32
  let v16 : BitVec 32 := Scalar.shrsi arg1 c1_i32
  let c1024_i32 : BitVec 32 := 1024#32
  let v46 : BitVec 32 := Scalar.muli v16 c1024_i32
  let c512_i32 : BitVec 32 := 512#32
  let v47 : BitVec 32 := Scalar.addi v46 c512_i32
  let v48 : BitVec 32 := v47
  let v52 : Index := Scalar.indexCast v48
  let c0_38 : Index := 0#32
  ![v52.toNat, 0]
def k0_off7 (i : grid0.Coords) : Fin 4 → Nat :=
  let c0_40 : Index := 0#32
  let arg1 : BitVec 32 := BitVec.ofNat 32 (i 1).val
  let c1_i32 : BitVec 32 := 1#32
  let v16 : BitVec 32 := Scalar.shrsi arg1 c1_i32
  let v56 : Index := Scalar.indexCast v16
  let c0_41 : Index := 0#32
  let c0_42 : Index := 0#32
  ![0, v56.toNat, 0, 0]
def k0_off8 (i : grid0.Coords) : Fin 3 → Nat :=
  let arg1 : BitVec 32 := BitVec.ofNat 32 (i 1).val
  let c1_i32 : BitVec 32 := 1#32
  let v16 : BitVec 32 := Scalar.shrsi arg1 c1_i32
  let v99 : Index := Scalar.indexCast v16
  let c0_65 : Index := 0#32
  let c512 : Index := 512#32
  ![v99.toNat, 0, 512]
def k0_off9 (i : grid0.Coords) : Fin 3 → Nat :=
  let arg1 : BitVec 32 := BitVec.ofNat 32 (i 1).val
  let c1_i32 : BitVec 32 := 1#32
  let v16 : BitVec 32 := Scalar.shrsi arg1 c1_i32
  let v108 : Index := Scalar.indexCast v16
  let c0_69 : Index := 0#32
  let c0_70 : Index := 0#32
  ![v108.toNat, 0, 0]
@[reducible] def k0_t1_loop (i : grid0.Coords) : Scf.Loop 32 :=
  let c0_i32_20 : BitVec 32 := 0#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_22 : BitVec 32 := 1#32
  ⟨c0_i32_20, v31, c1_i32_22⟩
def k0_mult3 (i : grid0.Coords) (k0_t1 : Fin (k0_t1_loop i).trips) : BitVec 32 :=
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c1_i32_22 : BitVec 32 := 1#32
  let arg12 : BitVec 32 := Scf.iv c0_i32_20 c1_i32_22 k0_t1
  let v47 : BitVec 32 := Scalar.muli c4_i32 arg12
  let v48 : BitVec 32 := Scalar.addi v46 v47
  let c0_i32_37 : BitVec 32 := 0#32
  let v49 : BitVec 32 := Scalar.addi v48 c0_i32_37
  let c1024_i32 : BitVec 32 := 1024#32
  let v50 : BitVec 32 := Scalar.muli v49 c1024_i32
  let c0_i32_38 : BitVec 32 := 0#32
  let v51 : BitVec 32 := Scalar.addi v50 c0_i32_38
  v51
def k0_off10 (i : grid0.Coords) (k0_t1 : Fin (k0_t1_loop i).trips) (c0_i32_37 : BitVec 32) : Fin 3 → Nat :=
  let c0_39 : Index := 0#32
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c1_i32_22 : BitVec 32 := 1#32
  let arg12 : BitVec 32 := Scf.iv c0_i32_20 c1_i32_22 k0_t1
  let v47 : BitVec 32 := Scalar.muli c4_i32 arg12
  let v48 : BitVec 32 := Scalar.addi v46 v47
  let v49 : BitVec 32 := Scalar.addi v48 c0_i32_37
  let c1024_i32 : BitVec 32 := 1024#32
  let v50 : BitVec 32 := Scalar.muli v49 c1024_i32
  let c0_i32_38 : BitVec 32 := 0#32
  let v51 : BitVec 32 := Scalar.addi v50 c0_i32_38
  let v52 : BitVec 32 := v51
  let v53 : Index := Scalar.indexCast v52
  let c0_40 : Index := 0#32
  ![0, v53.toNat, 0]
def k0_off11 (i : grid0.Coords) (k0_t1 : Fin (k0_t1_loop i).trips) (c0_i32_37 : BitVec 32) : Fin 2 → Nat :=
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c1_i32_22 : BitVec 32 := 1#32
  let arg12 : BitVec 32 := Scf.iv c0_i32_20 c1_i32_22 k0_t1
  let v47 : BitVec 32 := Scalar.muli c4_i32 arg12
  let v48 : BitVec 32 := Scalar.addi v46 v47
  let v49 : BitVec 32 := Scalar.addi v48 c0_i32_37
  let c1024_i32 : BitVec 32 := 1024#32
  let v50 : BitVec 32 := Scalar.muli v49 c1024_i32
  let c0_i32_38 : BitVec 32 := 0#32
  let v51 : BitVec 32 := Scalar.addi v50 c0_i32_38
  let v52 : BitVec 32 := v51
  let v56 : Index := Scalar.indexCast v52
  let c0_41 : Index := 0#32
  ![v56.toNat, 0]
def k0_off12 (i : grid0.Coords) (k0_t1 : Fin (k0_t1_loop i).trips) (c0_i32_37 : BitVec 32) : Fin 4 → Nat :=
  let c0_43 : Index := 0#32
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c1_i32_22 : BitVec 32 := 1#32
  let arg12 : BitVec 32 := Scf.iv c0_i32_20 c1_i32_22 k0_t1
  let v47 : BitVec 32 := Scalar.muli c4_i32 arg12
  let v48 : BitVec 32 := Scalar.addi v46 v47
  let v49 : BitVec 32 := Scalar.addi v48 c0_i32_37
  let v60 : Index := Scalar.indexCast v49
  let c0_44 : Index := 0#32
  let c0_45 : Index := 0#32
  ![0, v60.toNat, 0, 0]
def k0_off13 (i : grid0.Coords) (k0_t1 : Fin (k0_t1_loop i).trips) (c0_i32_37 : BitVec 32) : Fin 3 → Nat :=
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c1_i32_22 : BitVec 32 := 1#32
  let arg12 : BitVec 32 := Scf.iv c0_i32_20 c1_i32_22 k0_t1
  let v47 : BitVec 32 := Scalar.muli c4_i32 arg12
  let v48 : BitVec 32 := Scalar.addi v46 v47
  let v49 : BitVec 32 := Scalar.addi v48 c0_i32_37
  let v89 : Index := Scalar.indexCast v49
  let c0_64 : Index := 0#32
  let c0_65 : Index := 0#32
  ![v89.toNat, 0, 0]
def k0_mult4 (i : grid0.Coords) (k0_t1 : Fin (k0_t1_loop i).trips) : BitVec 32 :=
  let arg1 : BitVec 32 := BitVec.ofNat 32 (i 1).val
  let c1_i32 : BitVec 32 := 1#32
  let v16 : BitVec 32 := Scalar.shrsi arg1 c1_i32
  let c1_i32_69 : BitVec 32 := 1#32
  let v98 : BitVec 32 := Scalar.addi v16 c1_i32_69
  let c4_i32_70 : BitVec 32 := 4#32
  let c0_i32_20 : BitVec 32 := 0#32
  let c1_i32_22 : BitVec 32 := 1#32
  let arg12 : BitVec 32 := Scf.iv c0_i32_20 c1_i32_22 k0_t1
  let v99 : BitVec 32 := Scalar.muli c4_i32_70 arg12
  let v100 : BitVec 32 := Scalar.addi v98 v99
  let c1_i32_71 : BitVec 32 := 1#32
  let v101 : BitVec 32 := Scalar.addi v100 c1_i32_71
  let c1024_i32_72 : BitVec 32 := 1024#32
  let v102 : BitVec 32 := Scalar.muli v101 c1024_i32_72
  let c0_i32_73 : BitVec 32 := 0#32
  let v103 : BitVec 32 := Scalar.addi v102 c0_i32_73
  v103
def k0_mult5 (i : grid0.Coords) (k0_t1 : Fin (k0_t1_loop i).trips) : BitVec 32 :=
  let arg1 : BitVec 32 := BitVec.ofNat 32 (i 1).val
  let c1_i32 : BitVec 32 := 1#32
  let v16 : BitVec 32 := Scalar.shrsi arg1 c1_i32
  let c1_i32_104 : BitVec 32 := 1#32
  let v150 : BitVec 32 := Scalar.addi v16 c1_i32_104
  let c4_i32_105 : BitVec 32 := 4#32
  let c0_i32_20 : BitVec 32 := 0#32
  let c1_i32_22 : BitVec 32 := 1#32
  let arg12 : BitVec 32 := Scf.iv c0_i32_20 c1_i32_22 k0_t1
  let v151 : BitVec 32 := Scalar.muli c4_i32_105 arg12
  let v152 : BitVec 32 := Scalar.addi v150 v151
  let c2_i32_106 : BitVec 32 := 2#32
  let v153 : BitVec 32 := Scalar.addi v152 c2_i32_106
  let c1024_i32_107 : BitVec 32 := 1024#32
  let v154 : BitVec 32 := Scalar.muli v153 c1024_i32_107
  let c0_i32_108 : BitVec 32 := 0#32
  let v155 : BitVec 32 := Scalar.addi v154 c0_i32_108
  v155
def k0_mult6 (i : grid0.Coords) (k0_t1 : Fin (k0_t1_loop i).trips) : BitVec 32 :=
  let arg1 : BitVec 32 := BitVec.ofNat 32 (i 1).val
  let c1_i32 : BitVec 32 := 1#32
  let v16 : BitVec 32 := Scalar.shrsi arg1 c1_i32
  let c1_i32_139 : BitVec 32 := 1#32
  let v202 : BitVec 32 := Scalar.addi v16 c1_i32_139
  let c4_i32_140 : BitVec 32 := 4#32
  let c0_i32_20 : BitVec 32 := 0#32
  let c1_i32_22 : BitVec 32 := 1#32
  let arg12 : BitVec 32 := Scf.iv c0_i32_20 c1_i32_22 k0_t1
  let v203 : BitVec 32 := Scalar.muli c4_i32_140 arg12
  let v204 : BitVec 32 := Scalar.addi v202 v203
  let c3_i32_141 : BitVec 32 := 3#32
  let v205 : BitVec 32 := Scalar.addi v204 c3_i32_141
  let c1024_i32_142 : BitVec 32 := 1024#32
  let v206 : BitVec 32 := Scalar.muli v205 c1024_i32_142
  let c0_i32_143 : BitVec 32 := 0#32
  let v207 : BitVec 32 := Scalar.addi v206 c0_i32_143
  v207
@[reducible] def k0_t2_loop (i : grid0.Coords) : Scf.Loop 32 :=
  let c0_i32_20 : BitVec 32 := 0#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let v28 : BitVec 32 := Scalar.addi c0_i32_20 v27
  let c1_i32_23 : BitVec 32 := 1#32
  ⟨v31, v28, c1_i32_23⟩
def k0_mult7 (i : grid0.Coords) (k0_t2 : Fin (k0_t2_loop i).trips) : BitVec 32 :=
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v47 : BitVec 32 := Scalar.muli c4_i32 arg12
  let v48 : BitVec 32 := Scalar.addi v46 v47
  let c0_i32_37 : BitVec 32 := 0#32
  let v49 : BitVec 32 := Scalar.addi v48 c0_i32_37
  let c1024_i32 : BitVec 32 := 1024#32
  let v50 : BitVec 32 := Scalar.muli v49 c1024_i32
  let c0_i32_38 : BitVec 32 := 0#32
  let v51 : BitVec 32 := Scalar.addi v50 c0_i32_38
  v51
def k0_off14 (i : grid0.Coords) (k0_t2 : Fin (k0_t2_loop i).trips) (c0_i32_37 : BitVec 32) : Fin 3 → Nat :=
  let c0_39 : Index := 0#32
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v47 : BitVec 32 := Scalar.muli c4_i32 arg12
  let v48 : BitVec 32 := Scalar.addi v46 v47
  let v49 : BitVec 32 := Scalar.addi v48 c0_i32_37
  let c1024_i32 : BitVec 32 := 1024#32
  let v50 : BitVec 32 := Scalar.muli v49 c1024_i32
  let c0_i32_38 : BitVec 32 := 0#32
  let v51 : BitVec 32 := Scalar.addi v50 c0_i32_38
  let v52 : BitVec 32 := v51
  let v53 : Index := Scalar.indexCast v52
  let c0_40 : Index := 0#32
  ![0, v53.toNat, 0]
def k0_off15 (i : grid0.Coords) (k0_t2 : Fin (k0_t2_loop i).trips) (c0_i32_37 : BitVec 32) : Fin 2 → Nat :=
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v47 : BitVec 32 := Scalar.muli c4_i32 arg12
  let v48 : BitVec 32 := Scalar.addi v46 v47
  let v49 : BitVec 32 := Scalar.addi v48 c0_i32_37
  let c1024_i32 : BitVec 32 := 1024#32
  let v50 : BitVec 32 := Scalar.muli v49 c1024_i32
  let c0_i32_38 : BitVec 32 := 0#32
  let v51 : BitVec 32 := Scalar.addi v50 c0_i32_38
  let v52 : BitVec 32 := v51
  let v56 : Index := Scalar.indexCast v52
  let c0_41 : Index := 0#32
  ![v56.toNat, 0]
def k0_off16 (i : grid0.Coords) (k0_t2 : Fin (k0_t2_loop i).trips) (c0_i32_37 : BitVec 32) : Fin 4 → Nat :=
  let c0_43 : Index := 0#32
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v47 : BitVec 32 := Scalar.muli c4_i32 arg12
  let v48 : BitVec 32 := Scalar.addi v46 v47
  let v49 : BitVec 32 := Scalar.addi v48 c0_i32_37
  let v60 : Index := Scalar.indexCast v49
  let c0_44 : Index := 0#32
  let c0_45 : Index := 0#32
  ![0, v60.toNat, 0, 0]
def k0_off17 (i : grid0.Coords) (k0_t2 : Fin (k0_t2_loop i).trips) (c0_i32_37 : BitVec 32) : Fin 3 → Nat :=
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v47 : BitVec 32 := Scalar.muli c4_i32 arg12
  let v48 : BitVec 32 := Scalar.addi v46 v47
  let v49 : BitVec 32 := Scalar.addi v48 c0_i32_37
  let v89 : Index := Scalar.indexCast v49
  let c0_64 : Index := 0#32
  let c0_65 : Index := 0#32
  ![v89.toNat, 0, 0]
def k0_mult8 (i : grid0.Coords) (k0_t2 : Fin (k0_t2_loop i).trips) : BitVec 32 :=
  let arg1 : BitVec 32 := BitVec.ofNat 32 (i 1).val
  let c1_i32 : BitVec 32 := 1#32
  let v16 : BitVec 32 := Scalar.shrsi arg1 c1_i32
  let c1_i32_69 : BitVec 32 := 1#32
  let v98 : BitVec 32 := Scalar.addi v16 c1_i32_69
  let c4_i32_70 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v99 : BitVec 32 := Scalar.muli c4_i32_70 arg12
  let v100 : BitVec 32 := Scalar.addi v98 v99
  let c1_i32_71 : BitVec 32 := 1#32
  let v101 : BitVec 32 := Scalar.addi v100 c1_i32_71
  let c1024_i32_72 : BitVec 32 := 1024#32
  let v102 : BitVec 32 := Scalar.muli v101 c1024_i32_72
  let c0_i32_73 : BitVec 32 := 0#32
  let v103 : BitVec 32 := Scalar.addi v102 c0_i32_73
  v103
def k0_mult9 (i : grid0.Coords) (k0_t2 : Fin (k0_t2_loop i).trips) : BitVec 32 :=
  let arg1 : BitVec 32 := BitVec.ofNat 32 (i 1).val
  let c1_i32 : BitVec 32 := 1#32
  let v16 : BitVec 32 := Scalar.shrsi arg1 c1_i32
  let c1_i32_104 : BitVec 32 := 1#32
  let v150 : BitVec 32 := Scalar.addi v16 c1_i32_104
  let c4_i32_105 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v151 : BitVec 32 := Scalar.muli c4_i32_105 arg12
  let v152 : BitVec 32 := Scalar.addi v150 v151
  let c2_i32_106 : BitVec 32 := 2#32
  let v153 : BitVec 32 := Scalar.addi v152 c2_i32_106
  let c1024_i32_107 : BitVec 32 := 1024#32
  let v154 : BitVec 32 := Scalar.muli v153 c1024_i32_107
  let c0_i32_108 : BitVec 32 := 0#32
  let v155 : BitVec 32 := Scalar.addi v154 c0_i32_108
  v155
def k0_mult10 (i : grid0.Coords) (k0_t2 : Fin (k0_t2_loop i).trips) : BitVec 32 :=
  let arg1 : BitVec 32 := BitVec.ofNat 32 (i 1).val
  let c1_i32 : BitVec 32 := 1#32
  let v16 : BitVec 32 := Scalar.shrsi arg1 c1_i32
  let c1_i32_139 : BitVec 32 := 1#32
  let v202 : BitVec 32 := Scalar.addi v16 c1_i32_139
  let c4_i32_140 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v203 : BitVec 32 := Scalar.muli c4_i32_140 arg12
  let v204 : BitVec 32 := Scalar.addi v202 v203
  let c3_i32_141 : BitVec 32 := 3#32
  let v205 : BitVec 32 := Scalar.addi v204 c3_i32_141
  let c1024_i32_142 : BitVec 32 := 1024#32
  let v206 : BitVec 32 := Scalar.muli v205 c1024_i32_142
  let c0_i32_143 : BitVec 32 := 0#32
  let v207 : BitVec 32 := Scalar.addi v206 c0_i32_143
  v207
@[reducible] def k0_t3_loop (i : grid0.Coords) : Scf.Loop 32 :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let c1_i32_27 : BitVec 32 := 1#32
  ⟨v33, v38, c1_i32_27⟩
def k0_mult11 (i : grid0.Coords) (k0_t3 : Fin (k0_t3_loop i).trips) : BitVec 32 :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c1_i32_27 : BitVec 32 := 1#32
  let arg12 : BitVec 32 := Scf.iv v33 c1_i32_27 k0_t3
  let c1024_i32 : BitVec 32 := 1024#32
  let v46 : BitVec 32 := Scalar.muli arg12 c1024_i32
  let c0_i32_36 : BitVec 32 := 0#32
  let v47 : BitVec 32 := Scalar.addi v46 c0_i32_36
  v47
def k0_off18 (i : grid0.Coords) (k0_t3 : Fin (k0_t3_loop i).trips) : Fin 3 → Nat :=
  let c0_37 : Index := 0#32
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c1_i32_27 : BitVec 32 := 1#32
  let arg12 : BitVec 32 := Scf.iv v33 c1_i32_27 k0_t3
  let c1024_i32 : BitVec 32 := 1024#32
  let v46 : BitVec 32 := Scalar.muli arg12 c1024_i32
  let c0_i32_36 : BitVec 32 := 0#32
  let v47 : BitVec 32 := Scalar.addi v46 c0_i32_36
  let v48 : BitVec 32 := v47
  let v49 : Index := Scalar.indexCast v48
  let c0_38 : Index := 0#32
  ![0, v49.toNat, 0]
def k0_off19 (i : grid0.Coords) (k0_t3 : Fin (k0_t3_loop i).trips) : Fin 2 → Nat :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c1_i32_27 : BitVec 32 := 1#32
  let arg12 : BitVec 32 := Scf.iv v33 c1_i32_27 k0_t3
  let c1024_i32 : BitVec 32 := 1024#32
  let v46 : BitVec 32 := Scalar.muli arg12 c1024_i32
  let c0_i32_36 : BitVec 32 := 0#32
  let v47 : BitVec 32 := Scalar.addi v46 c0_i32_36
  let v48 : BitVec 32 := v47
  let v52 : Index := Scalar.indexCast v48
  let c0_39 : Index := 0#32
  ![v52.toNat, 0]
def k0_off20 (i : grid0.Coords) (k0_t3 : Fin (k0_t3_loop i).trips) : Fin 4 → Nat :=
  let c0_41 : Index := 0#32
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c1_i32_27 : BitVec 32 := 1#32
  let arg12 : BitVec 32 := Scf.iv v33 c1_i32_27 k0_t3
  let v56 : Index := Scalar.indexCast arg12
  let c0_42 : Index := 0#32
  let c0_43 : Index := 0#32
  ![0, v56.toNat, 0, 0]
def k0_off21 (i : grid0.Coords) (k0_t3 : Fin (k0_t3_loop i).trips) : Fin 3 → Nat :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c1_i32_27 : BitVec 32 := 1#32
  let arg12 : BitVec 32 := Scf.iv v33 c1_i32_27 k0_t3
  let v85 : Index := Scalar.indexCast arg12
  let c0_62 : Index := 0#32
  let c0_63 : Index := 0#32
  ![v85.toNat, 0, 0]
@[reducible] def k0_t4_loop (i : grid0.Coords) : Scf.Loop 32 :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let v35 : BitVec 32 := Scalar.addi v33 v34
  let c1_i32_28 : BitVec 32 := 1#32
  ⟨v38, v35, c1_i32_28⟩
def k0_mult12 (i : grid0.Coords) (k0_t4 : Fin (k0_t4_loop i).trips) : BitVec 32 :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let c1_i32_28 : BitVec 32 := 1#32
  let arg12 : BitVec 32 := Scf.iv v38 c1_i32_28 k0_t4
  let c1024_i32 : BitVec 32 := 1024#32
  let v46 : BitVec 32 := Scalar.muli arg12 c1024_i32
  let c0_i32_36 : BitVec 32 := 0#32
  let v47 : BitVec 32 := Scalar.addi v46 c0_i32_36
  v47
def k0_off22 (i : grid0.Coords) (k0_t4 : Fin (k0_t4_loop i).trips) : Fin 3 → Nat :=
  let c0_37 : Index := 0#32
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let c1_i32_28 : BitVec 32 := 1#32
  let arg12 : BitVec 32 := Scf.iv v38 c1_i32_28 k0_t4
  let c1024_i32 : BitVec 32 := 1024#32
  let v46 : BitVec 32 := Scalar.muli arg12 c1024_i32
  let c0_i32_36 : BitVec 32 := 0#32
  let v47 : BitVec 32 := Scalar.addi v46 c0_i32_36
  let v48 : BitVec 32 := v47
  let v49 : Index := Scalar.indexCast v48
  let c0_38 : Index := 0#32
  ![0, v49.toNat, 0]
def k0_off23 (i : grid0.Coords) (k0_t4 : Fin (k0_t4_loop i).trips) : Fin 2 → Nat :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let c1_i32_28 : BitVec 32 := 1#32
  let arg12 : BitVec 32 := Scf.iv v38 c1_i32_28 k0_t4
  let c1024_i32 : BitVec 32 := 1024#32
  let v46 : BitVec 32 := Scalar.muli arg12 c1024_i32
  let c0_i32_36 : BitVec 32 := 0#32
  let v47 : BitVec 32 := Scalar.addi v46 c0_i32_36
  let v48 : BitVec 32 := v47
  let v52 : Index := Scalar.indexCast v48
  let c0_39 : Index := 0#32
  ![v52.toNat, 0]
def k0_off24 (i : grid0.Coords) (k0_t4 : Fin (k0_t4_loop i).trips) : Fin 4 → Nat :=
  let c0_41 : Index := 0#32
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let c1_i32_28 : BitVec 32 := 1#32
  let arg12 : BitVec 32 := Scf.iv v38 c1_i32_28 k0_t4
  let v56 : Index := Scalar.indexCast arg12
  let c0_42 : Index := 0#32
  let c0_43 : Index := 0#32
  ![0, v56.toNat, 0, 0]
def k0_off25 (i : grid0.Coords) (k0_t4 : Fin (k0_t4_loop i).trips) : Fin 3 → Nat :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let c1_i32_28 : BitVec 32 := 1#32
  let arg12 : BitVec 32 := Scf.iv v38 c1_i32_28 k0_t4
  let v85 : Index := Scalar.indexCast arg12
  let c0_62 : Index := 0#32
  let c0_63 : Index := 0#32
  ![v85.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.shrsi arg1 c1_i32
  let c0_i32 : BitVec 32 := 0#32
  let c0_i32_0 : BitVec 32 := 0#32
  ![arg0.toNat, v0.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnGradIdeal.lean ====
variable {F : FTy → Type} [FloatOps F] [Named F]
def κ : String → Option EReal := fun
  | "ln2" => some ((Real.log 2 : ℝ) : EReal)
  | _ => none
-- ==== AttnGradRefIdeal.lean ====
abbrev S1x16384x8x192 : Shape := ⟨4, ![1, 16384, 8, 192]⟩
abbrev S1x16384x8x128 : Shape := ⟨4, ![1, 16384, 8, 128]⟩
abbrev S1x8x16384x16384 : Shape := ⟨4, ![1, 8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x1x16384x16384 : Shape := ⟨4, ![1, 1, 16384, 16384]⟩
abbrev S1x8x16384 : Shape := ⟨3, ![1, 8, 16384]⟩
abbrev S1x8x16384x1 : Shape := ⟨4, ![1, 8, 16384, 1]⟩
abbrev S1x8x128x16384 : Shape := ⟨4, ![1, 8, 128, 16384]⟩
abbrev S8x16384 : Shape := ⟨2, ![8, 16384]⟩
abbrev S1x8x16384x192 : Shape := ⟨4, ![1, 8, 16384, 192]⟩

abbrev nBuf : Space → Nat
  | .hbm => 92
  | .vmem => 0
  | .smem => 0
  | _ => 0

abbrev bufTy : (tb : Table) → Fin (tcTables nBuf tb) → BufTy
  | .hbm, ⟨0, _⟩ => ⟨S1x16384x8x192, .f32⟩
  | .hbm, ⟨1, _⟩ => ⟨S1x16384x8x192, .f32⟩
  | .hbm, ⟨2, _⟩ => ⟨S1x16384x8x128, .f32⟩
  | .hbm, ⟨3, _⟩ => ⟨S1x16384x8x128, .f32⟩
  | .hbm, ⟨4, _⟩ => ⟨S1x8x16384x16384, .f32⟩
  | .hbm, ⟨5, _⟩ => ⟨S_, .f32⟩
  | .hbm, ⟨6, _⟩ => ⟨S1x8x16384x16384, .f32⟩
  | .hbm, ⟨7, _⟩ => ⟨S1x8x16384x16384, .f32⟩
  | .hbm, ⟨8, _⟩ => ⟨S16384, .i32⟩
  | .hbm, ⟨9, _⟩ => ⟨S1x16384, .i32⟩
  | .hbm, ⟨10, _⟩ => ⟨S16384, .i32⟩
  | .hbm, ⟨11, _⟩ => ⟨S16384x1, .i32⟩
  | .hbm, ⟨12, _⟩ => ⟨S16384x16384, .i32⟩
  | .hbm, ⟨13, _⟩ => ⟨S16384x16384, .i32⟩
  | .hbm, ⟨14, _⟩ => ⟨S16384x16384, .i1⟩
  | .hbm, ⟨15, _⟩ => ⟨S1x1x16384x16384, .i1⟩
  | .hbm, ⟨16, _⟩ => ⟨S_, .f32⟩
  | .hbm, ⟨17, _⟩ => ⟨S_, .f32⟩
  | .hbm, ⟨18, _⟩ => ⟨S1x8x16384x16384, .i1⟩
  | .hbm, ⟨19, _⟩ => ⟨S1x8x16384x16384, .f32⟩
  | .hbm, ⟨20, _⟩ => ⟨S1x8x16384x16384, .f32⟩
  | .hbm, ⟨21, _⟩ => ⟨S_, .f32⟩
  | .hbm, ⟨22, _⟩ => ⟨S1x8x16384x16384, .f32⟩
  | .hbm, ⟨23, _⟩ => ⟨S_, .f32⟩
  | .hbm, ⟨24, _⟩ => ⟨S1x8x16384, .f32⟩
  | .hbm, ⟨25, _⟩ => ⟨S1x8x16384x1, .f32⟩
  | .hbm, ⟨26, _⟩ => ⟨S1x8x16384x16384, .f32⟩
  | .hbm, ⟨27, _⟩ => ⟨S1x8x16384x16384, .i1⟩
  | .hbm, ⟨28, _⟩ => ⟨S1x8x16384x16384, .f32⟩
  | .hbm, ⟨29, _⟩ => ⟨S_, .f32⟩
  | .hbm, ⟨30, _⟩ => ⟨S1x8x16384, .f32⟩
  | .hbm, ⟨31, _⟩ => ⟨S_, .f32⟩
  | .hbm, ⟨32, _⟩ => ⟨S1x8x16384, .f32⟩
  | .hbm, ⟨33, _⟩ => ⟨S1x8x16384, .f32⟩
  | .hbm, ⟨34, _⟩ => ⟨S_, .f32⟩
  | .hbm, ⟨35, _⟩ => ⟨S1x8x16384, .f32⟩
  | .hbm, ⟨36, _⟩ => ⟨S1x8x16384, .i1⟩
  | .hbm, ⟨37, _⟩ => ⟨S_, .f32⟩
  | .hbm, ⟨38, _⟩ => ⟨S1x8x16384, .f32⟩
  | .hbm, ⟨39, _⟩ => ⟨S1x8x16384, .i1⟩
  | .hbm, ⟨40, _⟩ => ⟨S_, .f32⟩
  | .hbm, ⟨41, _⟩ => ⟨S1x8x16384, .f32⟩
  | .hbm, ⟨42, _⟩ => ⟨S_, .f32⟩
  | .hbm, ⟨43, _⟩ => ⟨S1x8x16384, .f32⟩
  | .hbm, ⟨44, _⟩ => ⟨S_, .f32⟩
  | .hbm, ⟨45, _⟩ => ⟨S1x8x16384, .f32⟩
  | .hbm, ⟨46, _⟩ => ⟨S1x8x16384, .f32⟩
  | .hbm, ⟨47, _⟩ => ⟨S1x8x16384, .f32⟩
  | .hbm, ⟨48, _⟩ => ⟨S1x8x16384x1, .f32⟩
  | .hbm, ⟨49, _⟩ => ⟨S1x8x16384x16384, .f32⟩
  | .hbm, ⟨50, _⟩ => ⟨S1x8x16384x16384, .f32⟩
  | .hbm, ⟨51, _⟩ => ⟨S1x8x16384x16384, .f32⟩
  | .hbm, ⟨52, _⟩ => ⟨S_, .f32⟩
  | .hbm, ⟨53, _⟩ => ⟨S1x8x16384, .f32⟩
  | .hbm, ⟨54, _⟩ => ⟨S1x8x16384x1, .f32⟩
  | .hbm, ⟨55, _⟩ => ⟨S1x8x16384x16384, .f32⟩
  | .hbm, ⟨56, _⟩ => ⟨S1x8x16384x16384, .f32⟩
  | .hbm, ⟨57, _⟩ => ⟨S1x8x16384x1, .f32⟩
  | .hbm, ⟨58, _⟩ => ⟨S_, .f32⟩
  | .hbm, ⟨59, _⟩ => ⟨S1x8x16384x1, .f32⟩
  | .hbm, ⟨60, _⟩ => ⟨S1x8x16384x1, .f32⟩
  | .hbm, ⟨61, _⟩ => ⟨S1x8x128x16384, .f32⟩
  | .hbm, ⟨62, _⟩ => ⟨S1x16384x8x128, .f32⟩
  | .hbm, ⟨63, _⟩ => ⟨S1x8x128x16384, .f32⟩
  | .hbm, ⟨64, _⟩ => ⟨S1x8x16384x16384, .f32⟩
  | .hbm, ⟨65, _⟩ => ⟨S1x8x128x16384, .f32⟩
  | .hbm, ⟨66, _⟩ => ⟨S1x16384x8x128, .f32⟩
  | .hbm, ⟨67, _⟩ => ⟨S1x8x16384x16384, .f32⟩
  | .hbm, ⟨68, _⟩ => ⟨S1x8x16384x16384, .f32⟩
  | .hbm, ⟨69, _⟩ => ⟨S1x8x16384x16384, .f32⟩
  | .hbm, ⟨70, _⟩ => ⟨S_, .f32⟩
  | .hbm, ⟨71, _⟩ => ⟨S1x8x16384, .f32⟩
  | .hbm, ⟨72, _⟩ => ⟨S1x8x16384x1, .f32⟩
  | .hbm, ⟨73, _⟩ => ⟨S1x8x16384x1, .f32⟩
  | .hbm, ⟨74, _⟩ => ⟨S1x8x16384x16384, .f32⟩
  | .hbm, ⟨75, _⟩ => ⟨S1x8x16384x16384, .f32⟩
  | .hbm, ⟨76, _⟩ => ⟨S_, .f32⟩
  | .hbm, ⟨77, _⟩ => ⟨S8x16384, .f32⟩
  | .hbm, ⟨78, _⟩ => ⟨S1x8x16384, .f32⟩
  | .hbm, ⟨79, _⟩ => ⟨S1x8x16384x16384, .f32⟩
  | .hbm, ⟨80, _⟩ => ⟨S1x8x16384x16384, .f32⟩
  | .hbm, ⟨81, _⟩ => ⟨S1x8x16384x16384, .f32⟩
  | .hbm, ⟨82, _⟩ => ⟨S_, .f32⟩
  | .hbm, ⟨83, _⟩ => ⟨S1x8x16384x16384, .f32⟩
  | .hbm, ⟨84, _⟩ => ⟨S1x8x16384x16384, .f32⟩
  | .hbm, ⟨85, _⟩ => ⟨S_, .f32⟩
  | .hbm, ⟨86, _⟩ => ⟨S1x8x16384x16384, .f32⟩
  | .hbm, ⟨87, _⟩ => ⟨S1x8x16384x16384, .f32⟩
  | .hbm, ⟨88, _⟩ => ⟨S1x8x16384x192, .f32⟩
  | .hbm, ⟨89, _⟩ => ⟨S1x16384x8x192, .f32⟩
  | .hbm, ⟨90, _⟩ => ⟨S1x8x16384x192, .f32⟩
  | .hbm, ⟨91, _⟩ => ⟨S1x16384x8x192, .f32⟩
  | _, _ => ⟨S1x16384x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11_1 : Ref sig .tc := ⟨.hbm, 18, rfl⟩
abbrev main_call0_v2 : Ref sig .tc := ⟨.hbm, 19, rfl⟩
abbrev main_v11_0 : Ref sig .tc := ⟨.hbm, 20, rfl⟩
abbrev main_call0_cst : Ref sig .tc := ⟨.hbm, 21, rfl⟩
abbrev main_v11_2 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== OutGrad.lean ====
abbrev S1x16384x1024 : Shape := ⟨3, ![1, 16384, 1024]⟩
abbrev S1x3072 : Shape := ⟨2, ![1, 3072]⟩
abbrev S2048x1024 : Shape := ⟨2, ![2048, 1024]⟩
abbrev S1x1024 : Shape := ⟨2, ![1, 1024]⟩
abbrev S8x3072 : Shape := ⟨2, ![8, 3072]⟩
abbrev S16384x1024 : Shape := ⟨2, ![16384, 1024]⟩
abbrev S8x128x128 : Shape := ⟨3, ![8, 128, 128]⟩
abbrev S1024x128 : Shape := ⟨2, ![1024, 128]⟩
abbrev S8x64x1x256 : Shape := ⟨4, ![8, 64, 1, 256]⟩
abbrev S8x1024 : Shape := ⟨2, ![8, 1024]⟩
abbrev S256x1024 : Shape := ⟨2, ![256, 1024]⟩
abbrev S8x1x1x256 : Shape := ⟨4, ![8, 1, 1, 256]⟩
abbrev S1024x1024 : Shape := ⟨2, ![1024, 1024]⟩
abbrev S256 : Shape := ⟨1, ![256]⟩
abbrev S256x1 : Shape := ⟨2, ![256, 1]⟩
abbrev S1024 : Shape := ⟨1, ![1024]⟩
abbrev S256x128 : Shape := ⟨2, ![256, 128]⟩
abbrev S128x256 : Shape := ⟨2, ![128, 256]⟩
abbrev S8x256 : Shape := ⟨2, ![8, 256]⟩
abbrev S_ : Shape := ⟨0, ![]⟩
abbrev S8x16384 : Shape := ⟨2, ![8, 16384]⟩

abbrev nBuf : Space → Nat
  | .hbm => 39
  | .vmem => 27
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x16384x1024, .f32⟩
  | .hbm, ⟨3, _⟩ => ⟨S1x16384x1024, .f32⟩
  | .hbm, ⟨4, _⟩ => ⟨S1x16384x1024, .f32⟩
  | .hbm, ⟨5, _⟩ => ⟨S1x3072, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S8x3072, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .bf16⟩
  | .hbm, ⟨14, _⟩ => ⟨S16384x1024, .f32⟩
  | .hbm, ⟨15, _⟩ => ⟨S16384x1024, .f32⟩
  | .hbm, ⟨16, _⟩ => ⟨S2048x1024, .bf16⟩
  | .hbm, ⟨17, _⟩ => ⟨S8x128x128, .i32⟩
  | .hbm, ⟨18, _⟩ => ⟨S8x128x128, .i32⟩
  | .hbm, ⟨19, _⟩ => ⟨S8x128x128, .i1⟩
  | .hbm, ⟨20, _⟩ => ⟨S1024x128, .i1⟩
  | .hbm, ⟨21, _⟩ => ⟨S1024x128, .bf16⟩
  | .hbm, ⟨22, _⟩ => ⟨S16384x1024, .f32⟩
  | .hbm, ⟨23, _⟩ => ⟨S16384x1024, .bf16⟩
  | .hbm, ⟨24, _⟩ => ⟨S16384x1024, .bf16⟩
  | .hbm, ⟨25, _⟩ => ⟨S16384x1024, .f32⟩
  | .hbm, ⟨26, _⟩ => ⟨S8x64x1x256, .f32⟩
  | .hbm, ⟨27, _⟩ => ⟨S2048x1024, .f32⟩
  | .hbm, ⟨28, _⟩ => ⟨S8x1024, .f32⟩
  | .hbm, ⟨29, _⟩ => ⟨S1x1024, .f32⟩
  | .hbm, ⟨30, _⟩ => ⟨S1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S8x16384, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S2048x1024, .bf16⟩
  | .local _ .vmem, ⟨11, _⟩ => ⟨S8x3072, .f32⟩
  | .local _ .vmem, ⟨12, _⟩ => ⟨S1x1024, .f32⟩
  | .local _ .vmem, ⟨13, _⟩ => ⟨S1x1024, .f32⟩
  | .local _ .vmem, ⟨14, _⟩ => ⟨S1024x128, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | .local _ .vmem, ⟨22, _⟩ => ⟨S256x1024, .f32⟩
  | .local _ .vmem, ⟨23, _⟩ => ⟨S8x1x1x256, .f32⟩
  | .local _ .vmem, ⟨24, _⟩ => ⟨S8x1x1x256, .f32⟩
  | .local _ .vmem, ⟨25, _⟩ => ⟨S2048x1024, .f32⟩
  | .local _ .vmem, ⟨26, _⟩ => ⟨S8x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S2048x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== OutGradRefIdeal.lean ====
abbrev S1x16384x1024 : Shape := ⟨3, ![1, 16384, 1024]⟩
abbrev S1x3072 : Shape := ⟨2, ![1, 3072]⟩
abbrev S2048x1024 : Shape := ⟨2, ![2048, 1024]⟩
abbrev S1x1024 : Shape := ⟨2, ![1, 1024]⟩
abbrev S_ : Shape := ⟨0, ![]⟩
abbrev S1x16384x2048 : Shape := ⟨3, ![1, 16384, 2048]⟩
abbrev S1x1x1024 : Shape := ⟨3, ![1, 1, 1024]⟩
abbrev S1024 : Shape := ⟨1, ![1024]⟩
abbrev S1x16384 : Shape := ⟨2, ![1, 16384]⟩
abbrev S1x16384x1 : Shape := ⟨3, ![1, 16384, 1]⟩
abbrev S16384 : Shape := ⟨1, ![16384]⟩
abbrev S1024x2048 : Shape := ⟨2, ![1024, 2048]⟩
abbrev S16384x1024 : Shape := ⟨2, ![16384, 1024]⟩
abbrev S16384x8x128 : Shape := ⟨3, ![16384, 8, 128]⟩
abbrev S16384x8 : Shape := ⟨2, ![16384, 8]⟩
abbrev S8x16384 : Shape := ⟨2, ![8, 16384]⟩

abbrev nBuf : Space → Nat
  | .hbm => 180
  | .vmem => 0
  | .smem => 0
  | _ => 0

abbrev hbmTy0_0 (i : Nat) : BufTy := match i % 128 with
  | 0 => ⟨S1x16384x1024, .f32⟩
  | 1 => ⟨S1x16384x1024, .f32⟩
  | 2 => ⟨S1x16384x1024, .f32⟩
  | 3 => ⟨S1x16384x1024, .f32⟩
  | 4 => ⟨S1x16384x1024, .f32⟩
  | 5 => ⟨S1x3072, .f32⟩
  | 6 => ⟨S2048x1024, .f32⟩
  | 7 => ⟨S1x1024, .f32⟩
  | 8 => ⟨S1x1024, .f32⟩
  | 9 => ⟨S1x1024, .f32⟩
  | 10 => ⟨S1x16384x1024, .f32⟩
  | 11 => ⟨S1x16384x1024, .f32⟩
  | 12 => ⟨S_, .f32⟩
  | 13 => ⟨S1x16384x1024, .f32⟩
  | 14 => ⟨S1x16384x1024, .f32⟩
  | 15 => ⟨S_, .f32⟩
  | 16 => ⟨S1x16384x1024, .f32⟩
  | 17 => ⟨S1x16384x1024, .f32⟩
  | 18 => ⟨S_, .f32⟩
  | 19 => ⟨S1x16384x1024, .f32⟩
  | 20 => ⟨S1x16384x1024, .f32⟩
  | 21 => ⟨S1x16384x1024, .f32⟩
  | 22 => ⟨S1x16384x1024, .f32⟩
  | 23 => ⟨S1x16384x1024, .f32⟩
  | 24 => ⟨S1x16384x2048, .f32⟩
  | 25 => ⟨S1x16384x1024, .f32⟩
  | 26 => ⟨S_, .f32⟩
  | 27 => ⟨S1x16384x1024, .f32⟩
  | 28 => ⟨S1x16384x1024, .f32⟩
  | 29 => ⟨S1x1x1024, .f32⟩
  | 30 => ⟨S1x16384x1024, .f32⟩
  | 31 => ⟨S1x16384x1024, .f32⟩
  | 32 => ⟨S1x16384x1024, .f32⟩
  | 33 => ⟨S1024, .f32⟩
  | 34 => ⟨S1024, .f32⟩
  | 35 => ⟨S_, .f32⟩
  | 36 => ⟨S1x16384, .f32⟩
  | 37 => ⟨S1x16384x1, .f32⟩
  | 38 => ⟨S_, .f32⟩
  | 39 => ⟨S1x16384x1, .f32⟩
  | 40 => ⟨S1x16384x1, .f32⟩
  | 41 => ⟨S1x16384x1024, .f32⟩
  | 42 => ⟨S1x16384x1024, .f32⟩
  | 43 => ⟨S1x16384x1024, .f32⟩
  | 44 => ⟨S_, .f32⟩
  | 45 => ⟨S1x16384x1024, .f32⟩
  | 46 => ⟨S1x16384x1024, .f32⟩
  | 47 => ⟨S_, .f32⟩
  | 48 => ⟨S1x16384, .f32⟩
  | 49 => ⟨S1x16384x1, .f32⟩
  | 50 => ⟨S_, .f32⟩
  | 51 => ⟨S1x16384x1, .f32⟩
  | 52 => ⟨S1x16384x1, .f32⟩
  | 53 => ⟨S1x16384x1024, .f32⟩
  | 54 => ⟨S1x16384x1024, .f32⟩
  | 55 => ⟨S_, .f32⟩
  | 56 => ⟨S1x16384x1, .f32⟩
  | 57 => ⟨S1x16384x1, .f32⟩
  | 58 => ⟨S1x16384x1, .f32⟩
  | 59 => ⟨S1x16384x1, .f32⟩
  | 60 => ⟨S_, .f32⟩
  | 61 => ⟨S1x16384x1, .f32⟩
  | 62 => ⟨S1x16384x1, .f32⟩
  | 63 => ⟨S1x16384x1024, .f32⟩
  | 64 => ⟨S1x16384x1024, .f32⟩
  | 65 => ⟨S1x1x1024, .f32⟩
  | 66 => ⟨S1x16384x1024, .f32⟩
  | 67 => ⟨S1x16384x1024, .f32⟩
  | 68 => ⟨S1x1x1024, .f32⟩
  | 69 => ⟨S1x16384x1024, .f32⟩
  | 70 => ⟨S1x16384x1024, .f32⟩
  | 71 => ⟨S1x16384x1024, .f32⟩
  | 72 => ⟨S1x16384x1024, .f32⟩
  | 73 => ⟨S_, .f32⟩
  | 74 => ⟨S1x16384x1024, .f32⟩
  | 75 => ⟨S1x16384x1024, .f32⟩
  | 76 => ⟨S_, .f32⟩
  | 77 => ⟨S1x16384, .f32⟩
  | 78 => ⟨S_, .f32⟩
  | 79 => ⟨S1x16384, .f32⟩
  | 80 => ⟨S1x16384, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S1x16384, .f32⟩
  | 89 => ⟨S_, .f32⟩
  | 90 => ⟨S1x16384, .f32⟩
  | 91 => ⟨S1x16384, .f32⟩
  | 92 => ⟨S1x16384x1024, .f32⟩
  | 93 => ⟨S1x16384x1024, .f32⟩
  | 94 => ⟨S_, .f32⟩
  | 95 => ⟨S1x1024, .f32⟩
  | 96 => ⟨S1x1x1024, .f32⟩
  | 97 => ⟨S_, .f32⟩
  | 98 => ⟨S1024, .f32⟩
  | 99 => ⟨S1x16384x1024, .f32⟩
  | 100 => ⟨S_, .f32⟩
  | 101 => ⟨S1x1024, .f32⟩
  | 102 => ⟨S1x1x1024, .f32⟩
  | 103 => ⟨S1x16384x1024, .f32⟩
  | 104 => ⟨S1x16384x1024, .f32⟩
  | 105 => ⟨S_, .f32⟩
  | 106 => ⟨S1024, .f32⟩
  | 107 => ⟨S1x16384x1024, .f32⟩
  | 108 => ⟨S_, .f32⟩
  | 109 => ⟨S1x16384, .f32⟩
  | 110 => ⟨S1x16384x1, .f32⟩
  | 111 => ⟨S1x16384x1024, .f32⟩
  | 112 => ⟨S1x16384x1024, .f32⟩
  | 113 => ⟨S1x16384x1, .f32⟩
  | 114 => ⟨S1x16384x1024, .f32⟩
  | 115 => ⟨S_, .f32⟩
  | 116 => ⟨S1x16384, .f32⟩
  | 117 => ⟨S1x16384x1, .f32⟩
  | 118 => ⟨S_, .f32⟩
  | 119 => ⟨S1x16384x1, .f32⟩
  | 120 => ⟨S1x16384x1, .f32⟩
  | 121 => ⟨S_, .f32⟩
  | 122 => ⟨S16384, .f32⟩
  | 123 => ⟨S1x16384, .f32⟩
  | 124 => ⟨S1x16384x1024, .f32⟩
  | 125 => ⟨S1x16384x1024, .f32⟩
  | 126 => ⟨S1x16384x1024, .f32⟩
  | 127 => ⟨S_, .f32⟩
  | _ => ⟨S1x16384x1024, .f32⟩

abbrev hbmTy0_1 (i : Nat) : BufTy := match i % 128 with
  | 0 => ⟨S1x16384, .f32⟩
  | 1 => ⟨S1x16384x1, .f32⟩
  | 2 => ⟨S1x16384x1024, .f32⟩
  | 3 => ⟨S1x16384x1, .f32⟩
  | 4 => ⟨S_, .f32⟩
  | 5 => ⟨S1x16384x1, .f32⟩
  | 6 => ⟨S1x16384x1, .f32⟩
  | 7 => ⟨S_, .f32⟩
  | 8 => ⟨S16384, .f32⟩
  | 9 => ⟨S1x16384, .f32⟩
  | 10 => ⟨S1x16384x1024, .f32⟩
  | 11 => ⟨S1x16384x1024, .f32⟩
  | 12 => ⟨S1x1024, .f32⟩
  | 13 => ⟨S1x1024, .f32⟩
  | 14 => ⟨S1x16384x1024, .f32⟩
  | 15 => ⟨S1x16384x1024, .f32⟩
  | 16 => ⟨S1x16384x1024, .f32⟩
  | 17 => ⟨S_, .f32⟩
  | 18 => ⟨S1x1024, .f32⟩
  | 19 => ⟨S1x1x1024, .f32⟩
  | 20 => ⟨S_, .f32⟩
  | 21 => ⟨S1024, .f32⟩
  | 22 => ⟨S1x1024, .f32⟩
  | 23 => ⟨S_, .f32⟩
  | 24 => ⟨S1x16384x1024, .f32⟩
  | 25 => ⟨S1x16384x1024, .f32⟩
  | 26 => ⟨S1024x2048, .f32⟩
  | 27 => ⟨S2048x1024, .f32⟩
  | 28 => ⟨S1x16384x2048, .f32⟩
  | 29 => ⟨S1x16384x1024, .f32⟩
  | 30 => ⟨S1x16384x1024, .f32⟩
  | 31 => ⟨S1x16384x1024, .f32⟩
  | 32 => ⟨S1x16384x1024, .f32⟩
  | 33 => ⟨S1x16384x1024, .f32⟩
  | 34 => ⟨S1x16384x1024, .f32⟩
  | 35 => ⟨S1x16384x1024, .f32⟩
  | 36 => ⟨S1x16384x1024, .f32⟩
  | 37 => ⟨S_, .f32⟩
  | 38 => ⟨S1x3072, .f32⟩
  | 39 => ⟨S1x16384x1024, .f32⟩
  | 40 => ⟨S16384x1024, .f32⟩
  | 41 => ⟨S16384x8x128, .f32⟩
  | 42 => ⟨S_, .f32⟩
  | 43 => ⟨S16384x8, .f32⟩
  | 44 => ⟨S16384x1024, .f32⟩
  | 45 => ⟨S16384x1024, .f32⟩
  | 46 => ⟨S16384x1024, .bf16⟩
  | 47 => ⟨S16384x1024, .f32⟩
  | 48 => ⟨S16384x1024, .bf16⟩
  | 49 => ⟨S16384x1024, .f32⟩
  | 50 => ⟨S1x1024, .f32⟩
  | 51 => ⟨S8x16384, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v1_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v1_1 : Ref sig .tc := ⟨.hbm, 21, rfl⟩
abbrev main_v1_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_cst_1 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_2 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_cst_11 : Ref sig .tc := ⟨.hbm, 83, rfl⟩
abbrev main_v50 : Ref sig .tc := ⟨.hbm, 84, rfl⟩
abbrev main_cst_12 : Ref sig .tc := ⟨.hbm, 85, rfl⟩
abbrev main_cst_13 : Ref sig .tc := ⟨.hbm, 86, rfl⟩
abbrev main_v51 : Ref sig .tc := ⟨.hbm, 87, rfl⟩
abbrev main_v52 : Ref sig .tc := ⟨.hbm, 88, rfl⟩
abbrev main_cst_14 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_15 : Ref sig .tc := ⟨.hbm, 94, rfl⟩
abbrev main_v57 : Ref sig .tc := ⟨.hbm, 95, rfl⟩
abbrev main_v58 : Ref sig .tc := ⟨.hbm, 96, rfl⟩
abbrev main_cst_16 : Ref sig .tc := ⟨.hbm, 97, rfl⟩
abbrev main_v59 : Ref sig .tc := ⟨.hbm, 98, rfl⟩
abbrev main_v60 : Ref sig .tc := ⟨.hbm, 99, rfl⟩
abbrev main_cst_17 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_18 : Ref sig .tc := ⟨.hbm, 105, rfl⟩
abbrev main_v65 : Ref sig .tc := ⟨.hbm, 106, rfl⟩
abbrev main_v66 : Ref sig .tc := ⟨.hbm, 107, rfl⟩
abbrev main_cst_19 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_20 : Ref sig .tc := ⟨.hbm, 115, rfl⟩
abbrev main_v73 : Ref sig .tc := ⟨.hbm, 116, rfl⟩
abbrev main_v74 : Ref sig .tc := ⟨.hbm, 117, rfl⟩
abbrev main_cst_21 : Ref sig .tc := ⟨.hbm, 118, rfl⟩
abbrev main_v75 : Ref sig .tc := ⟨.hbm, 119, rfl⟩
abbrev main_v76 : Ref sig .tc := ⟨.hbm, 120, rfl⟩
abbrev main_cst_22 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_23 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_24 : Ref sig .tc := ⟨.hbm, 132, rfl⟩
abbrev main_v86 : Ref sig .tc := ⟨.hbm, 133, rfl⟩
abbrev main_v87 : Ref sig .tc := ⟨.hbm, 134, rfl⟩
abbrev main_cst_25 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_26 : Ref sig .tc := ⟨.hbm, 145, rfl⟩
abbrev main_v97 : Ref sig .tc := ⟨.hbm, 146, rfl⟩
abbrev main_v98 : Ref sig .tc := ⟨.hbm, 147, rfl⟩
abbrev main_cst_27 : Ref sig .tc := ⟨.hbm, 148, rfl⟩
abbrev main_v99 : Ref sig .tc := ⟨.hbm, 149, rfl⟩
abbrev main_v100 : Ref sig .tc := ⟨.hbm, 150, rfl⟩
abbrev main_cst_28 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_call1_v0 : Ref sig .tc := ⟨.hbm, 161, rfl⟩
abbrev main_call1_v1 : Ref sig .tc := ⟨.hbm, 162, rfl⟩
abbrev main_call1_v2 : Ref sig .tc := ⟨.hbm, 163, rfl⟩
abbrev main_v110 : Ref sig .tc := ⟨.hbm, 164, rfl⟩
abbrev main_cst_29 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_30 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩

abbrev nD : Nat := 1
abbrev τ : Topo := Topo.v7x

variable {F : FTy → Type} [FloatOps F]
-- ==== LatGrad.lean ====
abbrev S1x16384x384 : Shape := ⟨3, ![1, 16384, 384]⟩
abbrev S1x16384x320 : Shape := ⟨3, ![1, 16384, 320]⟩
abbrev S1x16384 : Shape := ⟨2, ![1, 16384]⟩
abbrev S1x384 : Shape := ⟨2, ![1, 384]⟩
abbrev S384x1536 : Shape := ⟨2, ![384, 1536]⟩
abbrev S1x256 : Shape := ⟨2, ![1, 256]⟩
abbrev S256x2048 : Shape := ⟨2, ![256, 2048]⟩
abbrev S1x16384x8x192 : Shape := ⟨4, ![1, 16384, 8, 192]⟩
abbrev S1x16384x8x128 : Shape := ⟨4, ![1, 16384, 8, 128]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S16384x1 : Shape := ⟨2, ![16384, 1]⟩
abbrev S384x8x192 : Shape := ⟨3, ![384, 8, 192]⟩
abbrev S384x8x64 : Shape := ⟨3, ![384, 8, 64]⟩
abbrev S384x8x256 : Shape := ⟨3, ![384, 8, 256]⟩
abbrev S384x2048 : Shape := ⟨2, ![384, 2048]⟩
abbrev S256x8x256 : Shape := ⟨3, ![256, 8, 256]⟩
abbrev S256x8x128 : Shape := ⟨3, ![256, 8, 128]⟩
abbrev S256x1024 : Shape := ⟨2, ![256, 1024]⟩
abbrev S16384x8x192 : Shape := ⟨3, ![16384, 8, 192]⟩
abbrev S8x16384x192 : Shape := ⟨3, ![8, 16384, 192]⟩
abbrev S8x16384x64 : Shape := ⟨3, ![8, 16384, 64]⟩
abbrev S8x16384x256 : Shape := ⟨3, ![8, 16384, 256]⟩
abbrev S16384x8x128 : Shape := ⟨3, ![16384, 8, 128]⟩
abbrev S8x16384x128 : Shape := ⟨3, ![8, 16384, 128]⟩
abbrev S16384x384 : Shape := ⟨2, ![16384, 384]⟩
abbrev S1x16384x256 : Shape := ⟨3, ![1, 16384, 256]⟩
abbrev S16384x256 : Shape := ⟨2, ![16384, 256]⟩
abbrev S16384x128 : Shape := ⟨2, ![16384, 128]⟩
abbrev S8x512x256 : Shape := ⟨3, ![8, 512, 256]⟩
abbrev S8x512x128 : Shape := ⟨3, ![8, 512, 128]⟩
abbrev S512x384 : Shape := ⟨2, ![512, 384]⟩
abbrev S512x256 : Shape := ⟨2, ![512, 256]⟩
abbrev S512x1 : Shape := ⟨2, ![512, 1]⟩
abbrev S512x128 : Shape := ⟨2, ![512, 128]⟩
abbrev S256x1 : Shape := ⟨2, ![256, 1]⟩
abbrev S256x128 : Shape := ⟨2, ![256, 128]⟩
abbrev S8x256x256 : Shape := ⟨3, ![8, 256, 256]⟩
abbrev S1x256x256 : Shape := ⟨3, ![1, 256, 256]⟩
abbrev S256x256 : Shape := ⟨2, ![256, 256]⟩
abbrev S256x384 : Shape := ⟨2, ![256, 384]⟩
abbrev S256 : Shape := ⟨1, ![256]⟩
abbrev S384 : Shape := ⟨1, ![384]⟩
abbrev S1x256x128 : Shape := ⟨3, ![1, 256, 128]⟩
abbrev S8x256x128 : Shape := ⟨3, ![8, 256, 128]⟩
abbrev S16384x64 : Shape := ⟨2, ![16384, 64]⟩

abbrev nBuf : Space → Nat
  | .hbm => 68
  | .vmem => 29
  | .smem => 0
  | _ => 0

abbrev bufTy : (tb : Table) → Fin (tcTables nBuf tb) → BufTy
  | .hbm, ⟨0, _⟩ => ⟨S1x16384x384, .f32⟩
  | .hbm, ⟨1, _⟩ => ⟨S1x16384x320, .f32⟩
  | .hbm, ⟨2, _⟩ => ⟨S1x16384, .i32⟩
  | .hbm, ⟨3, _⟩ => ⟨S1x384, .f32⟩
  | .hbm, ⟨4, _⟩ => ⟨S384x1536, .f32⟩
  | .hbm, ⟨5, _⟩ => ⟨S1x256, .f32⟩
  | .hbm, ⟨6, _⟩ => ⟨S256x2048, .f32⟩
  | .hbm, ⟨7, _⟩ => ⟨S1x16384x8x192, .f32⟩
  | .hbm, ⟨8, _⟩ => ⟨S1x16384x8x192, .f32⟩
  | .hbm, ⟨9, _⟩ => ⟨S1x16384x8x128, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S64, .f32⟩
  | .hbm, ⟨22, _⟩ => ⟨S128, .f32⟩
  | .hbm, ⟨23, _⟩ => ⟨S1x128, .f32⟩
  | .hbm, ⟨24, _⟩ => ⟨S16384x1, .i32⟩
  | .hbm, ⟨25, _⟩ => ⟨S384x1536, .bf16⟩
  | .hbm, ⟨26, _⟩ => ⟨S384x8x192, .bf16⟩
  | .hbm, ⟨27, _⟩ => ⟨S_, .bf16⟩
  | .hbm, ⟨28, _⟩ => ⟨S384x8x64, .bf16⟩
  | .hbm, ⟨29, _⟩ => ⟨S384x8x256, .bf16⟩
  | .hbm, ⟨30, _⟩ => ⟨S384x2048, .bf16⟩
  | .hbm, ⟨31, _⟩ => ⟨S256x2048, .bf16⟩
  | .hbm, ⟨32, _⟩ => ⟨S256x8x256, .bf16⟩
  | .hbm, ⟨33, _⟩ => ⟨S256x8x128, .bf16⟩
  | .hbm, ⟨34, _⟩ => ⟨S256x1024, .bf16⟩
  | .hbm, ⟨35, _⟩ => ⟨S256x8x128, .bf16⟩
  | .hbm, ⟨36, _⟩ => ⟨S256x1024, .bf16⟩
  | .hbm, ⟨37, _⟩ => ⟨S16384x8x192, .f32⟩
  | .hbm, ⟨38, _⟩ => ⟨S8x16384x192, .f32⟩
  | .hbm, ⟨39, _⟩ => ⟨S_, .f32⟩
  | .hbm, ⟨40, _⟩ => ⟨S8x16384x64, .f32⟩
  | .hbm, ⟨41, _⟩ => ⟨S8x16384x256, .f32⟩
  | .hbm, ⟨42, _⟩ => ⟨S16384x8x192, .f32⟩
  | .hbm, ⟨43, _⟩ => ⟨S8x16384x192, .f32⟩
  | .hbm, ⟨44, _⟩ => ⟨S_, .f32⟩
  | .hbm, ⟨45, _⟩ => ⟨S8x16384x64, .f32⟩
  | .hbm, ⟨46, _⟩ => ⟨S8x16384x256, .f32⟩
  | .hbm, ⟨47, _⟩ => ⟨S16384x8x128, .f32⟩
  | .hbm, ⟨48, _⟩ => ⟨S8x16384x128, .f32⟩
  | .hbm, ⟨49, _⟩ => ⟨S16384x384, .f32⟩
  | .hbm, ⟨50, _⟩ => ⟨S1x16384x256, .f32⟩
  | .hbm, ⟨51, _⟩ => ⟨S16384x256, .f32⟩
  | .hbm, ⟨52, _⟩ => ⟨S16384x384, .bf16⟩
  | .hbm, ⟨53, _⟩ => ⟨S16384x256, .bf16⟩
  | .hbm, ⟨54, _⟩ => ⟨S16384x128, .bf16⟩
  | .hbm, ⟨55, _⟩ => ⟨S384x2048, .f32⟩
  | .hbm, ⟨56, _⟩ => ⟨S256x1024, .f32⟩
  | .hbm, ⟨57, _⟩ => ⟨S256x1024, .f32⟩
  | .hbm, ⟨58, _⟩ => ⟨S1x384, .f32⟩
  | .hbm, ⟨59, _⟩ => ⟨S1x256, .f32⟩
  | .hbm, ⟨60, _⟩ => ⟨S384x8x256, .f32⟩
  | .hbm, ⟨61, _⟩ => ⟨S384x8x192, .f32⟩
  | .hbm, ⟨62, _⟩ => ⟨S384x1536, .f32⟩
  | .hbm, ⟨63, _⟩ => ⟨S256x8x128, .f32⟩
  | .hbm, ⟨64, _⟩ => ⟨S256x8x128, .f32⟩
  | .hbm, ⟨65, _⟩ => ⟨S256x8x256, .f32⟩
  | .hbm, ⟨66, _⟩ => ⟨S256x2048, .f32⟩
  | .hbm, ⟨67, _⟩ => ⟨S16384x64, .bf16⟩
  | .local _ .vmem, ⟨0, _⟩ => ⟨S8x512x256, .f32⟩
  | .local _ .vmem, ⟨1, _⟩ => ⟨S8x512x256, .f32⟩
  | .local _ .vmem, ⟨2, _⟩ => ⟨S8x512x256, .f32⟩
  | .local _ .vmem, ⟨3, _⟩ => ⟨S8x512x256, .f32⟩
  | .local _ .vmem, ⟨4, _⟩ => ⟨S8x512x128, .f32⟩
  | .local _ .vmem, ⟨5, _⟩ => ⟨S8x512x128, .f32⟩
  | .local _ .vmem, ⟨6, _⟩ => ⟨S512x384, .f32⟩
  | .local _ .vmem, ⟨7, _⟩ => ⟨S512x384, .f32⟩
  | .local _ .vmem, ⟨8, _⟩ => ⟨S512x256, .f32⟩
  | .local _ .vmem, ⟨9, _⟩ => ⟨S512x256, .f32⟩
  | .local _ .vmem, ⟨10, _⟩ => ⟨S1x384, .f32⟩
  | .local _ .vmem, ⟨11, _⟩ => ⟨S1x256, .f32⟩
  | .local _ .vmem, ⟨12, _⟩ => ⟨S384x2048, .bf16⟩
  | .local _ .vmem, ⟨13, _⟩ => ⟨S256x1024, .bf16⟩
  | .local _ .vmem, ⟨14, _⟩ => ⟨S256x1024, .bf16⟩
  | .local _ .vmem, ⟨15, _⟩ => ⟨S512x1, .i32⟩
  | .local _ .vmem, ⟨16, _⟩ => ⟨S512x1, .i32⟩
  | .local _ .vmem, ⟨17, _⟩ => ⟨S1x128, .f32⟩
  | .local _ .vmem, ⟨18, _⟩ => ⟨S512x384, .bf16⟩
  | .local _ .vmem, ⟨19, _⟩ => ⟨S512x384, .bf16⟩
  | .local _ .vmem, ⟨20, _⟩ => ⟨S512x256, .bf16⟩
  | .local _ .vmem, ⟨21, _⟩ => ⟨S512x256, .bf16⟩
  | .local _ .vmem, ⟨22, _⟩ => ⟨S512x128, .bf16⟩
  | .local _ .vmem, ⟨23, _⟩ => ⟨S512x128, .bf16⟩
  | .local _ .vmem, ⟨24, _⟩ => ⟨S384x2048, .f32⟩
  | .local _ .vmem, ⟨25, _⟩ => ⟨S256x1024, .f32⟩
  | .local _ .vmem, ⟨26, _⟩ => ⟨S256x1024, .f32⟩
  | .local _ .vmem, ⟨27, _⟩ => ⟨S1x384, .f32⟩
  | .local _ .vmem, ⟨28, _⟩ => ⟨S1x256, .f32⟩
  | _, _ => ⟨S1x16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v35_2 : Ref sig .tc := ⟨.hbm, 54, rfl⟩
abbrev main_v35_3 : Ref sig .tc := ⟨.hbm, 55, rfl⟩
abbrev main_v35_4 : Ref sig .tc := ⟨.hbm, 56, rfl⟩
abbrev main_v35_5 : Ref sig .tc := ⟨.hbm, 57, rfl⟩
abbrev main_v35_6 : Ref sig .tc := ⟨.hbm, 58, rfl⟩
abbrev main_v35_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S384x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== LatGradRefIdeal.lean ====
abbrev S1x16384x384 : Shape := ⟨3, ![1, 16384, 384]⟩
abbrev S1x16384x320 : Shape := ⟨3, ![1, 16384, 320]⟩
abbrev S1x16384 : Shape := ⟨2, ![1, 16384]⟩
abbrev S1x384 : Shape := ⟨2, ![1, 384]⟩
abbrev S384x1536 : Shape := ⟨2, ![384, 1536]⟩
abbrev S1x256 : Shape := ⟨2, ![1, 256]⟩
abbrev S256x2048 : Shape := ⟨2, ![256, 2048]⟩
abbrev S1x16384x8x192 : Shape := ⟨4, ![1, 16384, 8, 192]⟩
abbrev S1x16384x8x128 : Shape := ⟨4, ![1, 16384, 8, 128]⟩
abbrev S384 : Shape := ⟨1, ![384]⟩
abbrev S_ : Shape := ⟨0, ![]⟩
abbrev S1x16384x1 : Shape := ⟨3, ![1, 16384, 1]⟩
abbrev S1x1x384 : Shape := ⟨3, ![1, 1, 384]⟩
abbrev S1x16384x1536 : Shape := ⟨3, ![1, 16384, 1536]⟩
abbrev S1x16384x8x64 : Shape := ⟨4, ![1, 16384, 8, 64]⟩
abbrev S1x16384x256 : Shape := ⟨3, ![1, 16384, 256]⟩
abbrev S1x16384x64 : Shape := ⟨3, ![1, 16384, 64]⟩
abbrev S256 : Shape := ⟨1, ![256]⟩
abbrev S1x1x256 : Shape := ⟨3, ![1, 1, 256]⟩
abbrev S1x16384x2048 : Shape := ⟨3, ![1, 16384, 2048]⟩
abbrev S1x16384x8x256 : Shape := ⟨4, ![1, 16384, 8, 256]⟩
abbrev S32 : Shape := ⟨1, ![32]⟩
abbrev S1x1x32 : Shape := ⟨3, ![1, 1, 32]⟩
abbrev S1x16384x32 : Shape := ⟨3, ![1, 16384, 32]⟩
abbrev S1x16384x1x32 : Shape := ⟨4, ![1, 16384, 1, 32]⟩
abbrev S1x16384x8x32 : Shape := ⟨4, ![1, 16384, 8, 32]⟩
abbrev S1x16384x1x64 : Shape := ⟨4, ![1, 16384, 1, 64]⟩
abbrev S16384x64 : Shape := ⟨2, ![16384, 64]⟩
abbrev S2048x256 : Shape := ⟨2, ![2048, 256]⟩
abbrev S16384 : Shape := ⟨1, ![16384]⟩
abbrev S1536x384 : Shape := ⟨2, ![1536, 384]⟩
abbrev S16384x384 : Shape := ⟨2, ![16384, 384]⟩
abbrev S16384x256 : Shape := ⟨2, ![16384, 256]⟩

abbrev nBuf : Space → Nat
  | .hbm => 261
  | .vmem => 0
  | .smem => 0
  | _ => 0

abbrev hbmTy0_0 (i : Nat) : BufTy := match i % 128 with
  | 0 => ⟨S1x16384x384, .f32⟩
  | 1 => ⟨S1x16384x320, .f32⟩
  | 2 => ⟨S1x16384, .i32⟩
  | 3 => ⟨S1x384, .f32⟩
  | 4 => ⟨S384x1536, .f32⟩
  | 5 => ⟨S1x256, .f32⟩
  | 6 => ⟨S256x2048, .f32⟩
  | 7 => ⟨S1x16384x8x192, .f32⟩
  | 8 => ⟨S1x16384x8x192, .f32⟩
  | 9 => ⟨S1x16384x8x128, .f32⟩
  | 10 => ⟨S384, .f32⟩
  | 11 => ⟨S1x16384x384, .f32⟩
  | 12 => ⟨S_, .f32⟩
  | 13 => ⟨S1x16384, .f32⟩
  | 14 => ⟨S1x16384x1, .f32⟩
  | 15 => ⟨S_, .f32⟩
  | 16 => ⟨S1x16384x1, .f32⟩
  | 17 => ⟨S1x16384x1, .f32⟩
  | 18 => ⟨S_, .f32⟩
  | 19 => ⟨S1x16384x1, .f32⟩
  | 20 => ⟨S1x16384x1, .f32⟩
  | 21 => ⟨S1x16384x1, .f32⟩
  | 22 => ⟨S1x16384x1, .f32⟩
  | 23 => ⟨S_, .f32⟩
  | 24 => ⟨S1x16384x1, .f32⟩
  | 25 => ⟨S1x16384x1, .f32⟩
  | 26 => ⟨S1x16384x384, .f32⟩
  | 27 => ⟨S1x16384x384, .f32⟩
  | 28 => ⟨S1x1x384, .f32⟩
  | 29 => ⟨S1x16384x384, .f32⟩
  | 30 => ⟨S1x16384x384, .f32⟩
  | 31 => ⟨S1x16384x1536, .f32⟩
  | 32 => ⟨S1x16384x8x192, .f32⟩
  | 33 => ⟨S1x16384x8x128, .f32⟩
  | 34 => ⟨S1x16384x8x64, .f32⟩
  | 35 => ⟨S1x16384x256, .f32⟩
  | 36 => ⟨S1x16384x64, .f32⟩
  | 37 => ⟨S256, .f32⟩
  | 38 => ⟨S1x16384x256, .f32⟩
  | 39 => ⟨S_, .f32⟩
  | 40 => ⟨S1x16384, .f32⟩
  | 41 => ⟨S1x16384x1, .f32⟩
  | 42 => ⟨S_, .f32⟩
  | 43 => ⟨S1x16384x1, .f32⟩
  | 44 => ⟨S1x16384x1, .f32⟩
  | 45 => ⟨S_, .f32⟩
  | 46 => ⟨S1x16384x1, .f32⟩
  | 47 => ⟨S1x16384x1, .f32⟩
  | 48 => ⟨S1x16384x1, .f32⟩
  | 49 => ⟨S1x16384x1, .f32⟩
  | 50 => ⟨S_, .f32⟩
  | 51 => ⟨S1x16384x1, .f32⟩
  | 52 => ⟨S1x16384x1, .f32⟩
  | 53 => ⟨S1x16384x256, .f32⟩
  | 54 => ⟨S1x16384x256, .f32⟩
  | 55 => ⟨S1x1x256, .f32⟩
  | 56 => ⟨S1x16384x256, .f32⟩
  | 57 => ⟨S1x16384x256, .f32⟩
  | 58 => ⟨S1x16384x2048, .f32⟩
  | 59 => ⟨S1x16384x8x256, .f32⟩
  | 60 => ⟨S1x16384x8x128, .f32⟩
  | 61 => ⟨S1x16384x8x128, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S_, .f32⟩
  | 70 => ⟨S32, .f32⟩
  | 71 => ⟨S32, .f32⟩
  | 72 => ⟨S1x16384, .f32⟩
  | 73 => ⟨S1x16384x1, .f32⟩
  | 74 => ⟨S1x1x32, .f32⟩
  | 75 => ⟨S1x16384x32, .f32⟩
  | 76 => ⟨S1x16384x32, .f32⟩
  | 77 => ⟨S1x16384x32, .f32⟩
  | 78 => ⟨S1x16384x32, .f32⟩
  | 79 => ⟨S1x16384x1x32, .f32⟩
  | 80 => ⟨S1x16384x32, .f32⟩
  | 81 => ⟨S1x16384x1x32, .f32⟩
  | 82 => ⟨S1x16384x8x32, .f32⟩
  | 83 => ⟨S1x16384x8x32, .f32⟩
  | 84 => ⟨S1x16384x8x32, .f32⟩
  | 85 => ⟨S1x16384x8x32, .f32⟩
  | 86 => ⟨S1x16384x8x32, .f32⟩
  | 87 => ⟨S1x16384x8x32, .f32⟩
  | 88 => ⟨S1x16384x8x32, .f32⟩
  | 89 => ⟨S1x16384x8x32, .f32⟩
  | 90 => ⟨S1x16384x8x32, .f32⟩
  | 91 => ⟨S1x16384x8x32, .f32⟩
  | 92 => ⟨S1x16384x8x32, .f32⟩
  | 93 => ⟨S1x16384x8x32, .f32⟩
  | 94 => ⟨S1x16384x8x64, .f32⟩
  | 95 => ⟨S1x16384x1x64, .f32⟩
  | 96 => ⟨S32, .f32⟩
  | 97 => ⟨S_, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S1x16384, .f32⟩
  | 107 => ⟨S1x16384x1, .f32⟩
  | 108 => ⟨S1x1x32, .f32⟩
  | 109 => ⟨S1x16384x32, .f32⟩
  | 110 => ⟨S1x16384x32, .f32⟩
  | 111 => ⟨S1x16384x32, .f32⟩
  | 112 => ⟨S1x16384x32, .f32⟩
  | 113 => ⟨S1x16384x1x32, .f32⟩
  | 114 => ⟨S1x16384x32, .f32⟩
  | 115 => ⟨S1x16384x1x32, .f32⟩
  | 116 => ⟨S1x16384x1x32, .f32⟩
  | 117 => ⟨S1x16384x1x32, .f32⟩
  | 118 => ⟨S1x16384x1x32, .f32⟩
  | 119 => ⟨S1x16384x1x32, .f32⟩
  | 120 => ⟨S1x16384x1x32, .f32⟩
  | 121 => ⟨S1x16384x1x32, .f32⟩
  | 122 => ⟨S1x16384x1x32, .f32⟩
  | 123 => ⟨S1x16384x1x32, .f32⟩
  | 124 => ⟨S1x16384x1x64, .f32⟩
  | 125 => ⟨S1x16384x8x192, .f32⟩
  | 126 => ⟨S1x16384x8x64, .f32⟩
  | 127 => ⟨S1x16384x8x192, .f32⟩
  | _ => ⟨S1x16384x384, .f32⟩

abbrev hbmTy0_1 (i : Nat) : BufTy := match i % 128 with
  | 0 => ⟨S_, .f32⟩
  | 1 => ⟨S1x16384x8x192, .f32⟩
  | 2 => ⟨S1x16384x8x192, .f32⟩
  | 3 => ⟨S_, .f32⟩
  | 4 => ⟨S1x16384x8x192, .f32⟩
  | 5 => ⟨S1x16384x8x192, .f32⟩
  | 6 => ⟨S1x16384x8x128, .f32⟩
  | 7 => ⟨S1x16384x8x64, .f32⟩
  | 8 => ⟨S_, .f32⟩
  | 9 => ⟨S16384x64, .f32⟩
  | 10 => ⟨S1x16384x1x64, .f32⟩
  | 11 => ⟨S1x16384x8x128, .f32⟩
  | 12 => ⟨S1x16384x8x64, .f32⟩
  | 13 => ⟨S1x16384x1x32, .f32⟩
  | 14 => ⟨S1x16384x1x32, .f32⟩
  | 15 => ⟨S1x16384x1x32, .f32⟩
  | 16 => ⟨S1x16384x1x32, .f32⟩
  | 17 => ⟨S1x16384x1x32, .f32⟩
  | 18 => ⟨S1x16384x1x32, .f32⟩
  | 19 => ⟨S1x16384x1x32, .f32⟩
  | 20 => ⟨S1x16384x1x32, .f32⟩
  | 21 => ⟨S1x16384x1x32, .f32⟩
  | 22 => ⟨S_, .f32⟩
  | 23 => ⟨S1x16384x1x64, .f32⟩
  | 24 => ⟨S_, .f32⟩
  | 25 => ⟨S1x16384x1x64, .f32⟩
  | 26 => ⟨S1x16384x1x64, .f32⟩
  | 27 => ⟨S_, .f32⟩
  | 28 => ⟨S16384x64, .f32⟩
  | 29 => ⟨S1x16384x64, .f32⟩
  | 30 => ⟨S1x16384x8x32, .f32⟩
  | 31 => ⟨S1x16384x8x32, .f32⟩
  | 32 => ⟨S1x16384x8x32, .f32⟩
  | 33 => ⟨S1x16384x8x32, .f32⟩
  | 34 => ⟨S1x16384x8x32, .f32⟩
  | 35 => ⟨S1x16384x8x32, .f32⟩
  | 36 => ⟨S1x16384x8x32, .f32⟩
  | 37 => ⟨S1x16384x8x32, .f32⟩
  | 38 => ⟨S1x16384x8x32, .f32⟩
  | 39 => ⟨S1x16384x8x32, .f32⟩
  | 40 => ⟨S1x16384x8x32, .f32⟩
  | 41 => ⟨S1x16384x8x32, .f32⟩
  | 42 => ⟨S1x16384x8x32, .f32⟩
  | 43 => ⟨S_, .f32⟩
  | 44 => ⟨S1x16384x8x64, .f32⟩
  | 45 => ⟨S_, .f32⟩
  | 46 => ⟨S1x16384x8x64, .f32⟩
  | 47 => ⟨S1x16384x8x64, .f32⟩
  | 48 => ⟨S_, .f32⟩
  | 49 => ⟨S1x16384x8x256, .f32⟩
  | 50 => ⟨S_, .f32⟩
  | 51 => ⟨S1x16384x8x256, .f32⟩
  | 52 => ⟨S1x16384x8x256, .f32⟩
  | 53 => ⟨S1x16384x2048, .f32⟩
  | 54 => ⟨S2048x256, .f32⟩
  | 55 => ⟨S256x2048, .f32⟩
  | 56 => ⟨S1x16384x256, .f32⟩
  | 57 => ⟨S1x16384x256, .f32⟩
  | 58 => ⟨S_, .f32⟩
  | 59 => ⟨S1x256, .f32⟩
  | 60 => ⟨S1x1x256, .f32⟩
  | 61 => ⟨S1x16384x256, .f32⟩
  | 62 => ⟨S1x16384x256, .f32⟩
  | 63 => ⟨S_, .f32⟩
  | 64 => ⟨S256, .f32⟩
  | 65 => ⟨S1x16384x256, .f32⟩
  | 66 => ⟨S_, .f32⟩
  | 67 => ⟨S1x16384, .f32⟩
  | 68 => ⟨S1x16384x1, .f32⟩
  | 69 => ⟨S1x16384x256, .f32⟩
  | 70 => ⟨S1x16384x256, .f32⟩
  | 71 => ⟨S1x16384x1, .f32⟩
  | 72 => ⟨S_, .f32⟩
  | 73 => ⟨S1x16384x1, .f32⟩
  | 74 => ⟨S1x16384x1, .f32⟩
  | 75 => ⟨S_, .f32⟩
  | 76 => ⟨S16384, .f32⟩
  | 77 => ⟨S1x16384, .f32⟩
  | 78 => ⟨S1x16384x256, .f32⟩
  | 79 => ⟨S1x16384x256, .f32⟩
  | 80 => ⟨S1x16384x256, .f32⟩
  | 81 => ⟨S1x16384x256, .f32⟩
  | 82 => ⟨S1x16384x256, .f32⟩
  | 83 => ⟨S1x256, .f32⟩
  | 84 => ⟨S_, .f32⟩
  | 85 => ⟨S1x16384x320, .f32⟩
  | 86 => ⟨S_, .f32⟩
  | 87 => ⟨S1x16384x320, .f32⟩
  | 88 => ⟨S1x16384x320, .f32⟩
  | 89 => ⟨S_, .f32⟩
  | 90 => ⟨S1x16384x8x192, .f32⟩
  | 91 => ⟨S_, .f32⟩
  | 92 => ⟨S1x16384x8x192, .f32⟩
  | 93 => ⟨S1x16384x8x192, .f32⟩
  | 94 => ⟨S1x16384x1536, .f32⟩
  | 95 => ⟨S1536x384, .f32⟩
  | 96 => ⟨S384x1536, .f32⟩
  | 97 => ⟨S1x16384x384, .f32⟩
  | 98 => ⟨S1x16384x384, .f32⟩
  | 99 => ⟨S_, .f32⟩
  | 100 => ⟨S1x384, .f32⟩
  | 101 => ⟨S1x1x384, .f32⟩
  | 102 => ⟨S1x16384x384, .f32⟩
  | 103 => ⟨S1x16384x384, .f32⟩
  | 104 => ⟨S_, .f32⟩
  | 105 => ⟨S384, .f32⟩
  | 106 => ⟨S1x16384x384, .f32⟩
  | 107 => ⟨S_, .f32⟩
  | 108 => ⟨S1x16384, .f32⟩
  | 109 => ⟨S1x16384x1, .f32⟩
  | 110 => ⟨S1x16384x384, .f32⟩
  | 111 => ⟨S1x16384x384, .f32⟩
  | 112 => ⟨S1x16384x1, .f32⟩
  | 113 => ⟨S_, .f32⟩
  | 114 => ⟨S1x16384x1, .f32⟩
  | 115 => ⟨S1x16384x1, .f32⟩
  | 116 => ⟨S_, .f32⟩
  | 117 => ⟨S16384, .f32⟩
  | 118 => ⟨S1x16384, .f32⟩
  | 119 => ⟨S1x16384x384, .f32⟩
  | 120 => ⟨S1x16384x384, .f32⟩
  | 121 => ⟨S1x16384x384, .f32⟩
  | 122 => ⟨S1x16384x384, .f32⟩
  | 123 => ⟨S1x16384x384, .f32⟩
  | 124 => ⟨S1x384, .f32⟩
  | 125 => ⟨S16384x384, .f32⟩
  | 126 => ⟨S16384x384, .bf16⟩
  | 127 => ⟨S1x16384x256, .f32⟩
  | _ => ⟨S1x16384x384, .f32⟩

abbrev hbmTy0_2 (i : Nat) : BufTy := match i % 128 with
  | 0 => ⟨S16384x256, .f32⟩
  | 1 => ⟨S16384x256, .bf16⟩
  | 2 => ⟨S1x16384x64, .f32⟩
  | 3 => ⟨S16384x64, .f32⟩
  | 4 => ⟨S16384x64, .bf16⟩
  | _ => ⟨S1x16384x384, .f32⟩

abbrev hbmTy (i : Nat) : BufTy := match i / 128 with
  | 0 => hbmTy0_0 i
  | 1 => hbmTy0_1 i
  | 2 => hbmTy0_2 i
  | _ => ⟨S1x16384x384, .f32⟩

abbrev bufTy : (tb : Table) → Fin (tcTables nBuf tb) → BufTy
  | .hbm, ⟨i, _⟩ => hbmTy i
  | _, _ => ⟨S1x16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_10 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_13 : Ref sig .tc := ⟨.hbm, 128, rfl⟩
abbrev main_v104 : Ref sig .tc := ⟨.hbm, 129, rfl⟩
abbrev main_v105 : Ref sig .tc := ⟨.hbm, 130, rfl⟩
abbrev main_cst_14 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_15 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_16 : Ref sig .tc := ⟨.hbm, 150, rfl⟩
abbrev main_v123 : Ref sig .tc := ⟨.hbm, 151, rfl⟩
abbrev main_cst_17 : Ref sig .tc := ⟨.hbm, 152, rfl⟩
abbrev main_v124 : Ref sig .tc := ⟨.hbm, 153, rfl⟩
abbrev main_v125 : Ref sig .tc := ⟨.hbm, 154, rfl⟩
abbrev main_cst_18 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_19 : Ref sig .tc := ⟨.hbm, 171, rfl⟩
abbrev main_v141 : Ref sig .tc := ⟨.hbm, 172, rfl⟩
abbrev main_cst_20 : Ref sig .tc := ⟨.hbm, 173, rfl⟩
abbrev main_v142 : Ref sig .tc := ⟨.hbm, 174, rfl⟩
abbrev main_v143 : Ref sig .tc := ⟨.hbm, 175, rfl⟩
abbrev main_cst_21 : Ref sig .tc := ⟨.hbm, 176, rfl⟩
abbrev main_v144 : Ref sig .tc := ⟨.hbm, 177, rfl⟩
abbrev main_cst_22 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_cst_23 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_cst_24 : Ref sig .tc := ⟨.hbm, 191, rfl⟩
abbrev main_v156 : Ref sig .tc := ⟨.hbm, 192, rfl⟩
abbrev main_v157 : Ref sig .tc := ⟨.hbm, 193, rfl⟩
abbrev main_cst_25 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_cst_26 : Ref sig .tc := ⟨.hbm, 200, rfl⟩
abbrev main_v163 : Ref sig .tc := ⟨.hbm, 201, rfl⟩
abbrev main_v164 : Ref sig .tc := ⟨.hbm, 202, rfl⟩
abbrev main_cst_27 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_cst_28 : Ref sig .tc := ⟨.hbm, 212, rfl⟩
abbrev main_v173 : Ref sig .tc := ⟨.hbm, 213, rfl⟩
abbrev main_cst_29 : Ref sig .tc := ⟨.hbm, 214, rfl⟩
abbrev main_v174 : Ref sig .tc := ⟨.hbm, 215, rfl⟩
abbrev main_v175 : Ref sig .tc := ⟨.hbm, 216, rfl⟩
abbrev main_cst_30 : Ref sig .tc := ⟨.hbm, 217, rfl⟩
abbrev main_v176 : Ref sig .tc := ⟨.hbm, 218, rfl⟩
abbrev main_cst_31 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_cst_32 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_cst_33 : Ref sig .tc := ⟨.hbm, 232, rfl⟩
abbrev main_v188 : Ref sig .tc := ⟨.hbm, 233, rfl⟩
abbrev main_v189 : Ref sig .tc := ⟨.hbm, 234, rfl⟩
abbrev main_cst_34 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_cst_35 : Ref sig .tc := ⟨.hbm, 241, rfl⟩
abbrev main_v195 : Ref sig .tc := ⟨.hbm, 242, rfl⟩
abbrev main_v196 : Ref sig .tc := ⟨.hbm, 243, rfl⟩
abbrev main_cst_36 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩

abbrev nD : Nat := 1
abbrev τ : Topo := Topo.v7x

variable {F : FTy → Type} [FloatOps F]
-- ==== AttnFwd.lean ====
abbrev S1x16384x8x192 : Shape := ⟨4, ![1, 16384, 8, 192]⟩
abbrev S1x16384x8x128 : Shape := ⟨4, ![1, 16384, 8, 128]⟩
abbrev S_ : Shape := ⟨0, ![]⟩
abbrev S16384x8x192 : Shape := ⟨3, ![16384, 8, 192]⟩
abbrev S8x16384x192 : Shape := ⟨3, ![8, 16384, 192]⟩
abbrev S8x16384x64 : Shape := ⟨3, ![8, 16384, 64]⟩
abbrev S8x16384x256 : Shape := ⟨3, ![8, 16384, 256]⟩
abbrev S16384x8x128 : Shape := ⟨3, ![16384, 8, 128]⟩
abbrev S8x16384x128 : Shape := ⟨3, ![8, 16384, 128]⟩
abbrev S16384x1024 : Shape := ⟨2, ![16384, 1024]⟩
abbrev S8x16x1x1024 : Shape := ⟨4, ![8, 16, 1, 1024]⟩
abbrev S1x1024x256 : Shape := ⟨3, ![1, 1024, 256]⟩
abbrev S1x16384x256 : Shape := ⟨3, ![1, 16384, 256]⟩
abbrev S1x16384x128 : Shape := ⟨3, ![1, 16384, 128]⟩
abbrev S1024x128 : Shape := ⟨2, ![1024, 128]⟩
abbrev S1x1x1x1024 : Shape := ⟨4, ![1, 1, 1, 1024]⟩
abbrev S64x144x256 : Shape := ⟨3, ![64, 144, 256]⟩
abbrev S1024x256 : Shape := ⟨2, ![1024, 256]⟩
abbrev S16x256 : Shape := ⟨2, ![16, 256]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S1x16x256 : Shape := ⟨3, ![1, 16, 256]⟩
abbrev S1x1024 : Shape := ⟨2, ![1, 1024]⟩
abbrev S144x1024 : Shape := ⟨2, ![144, 1024]⟩
abbrev S1x512x256 : Shape := ⟨3, ![1, 512, 256]⟩
abbrev S512x256 : Shape := ⟨2, ![512, 256]⟩
abbrev S512x1024 : Shape := ⟨2, ![512, 1024]⟩
abbrev S1024 : Shape := ⟨1, ![1024]⟩
abbrev S1x144x256 : Shape := ⟨3, ![1, 144, 256]⟩
abbrev S144x256 : Shape := ⟨2, ![144, 256]⟩
abbrev S256x1024 : Shape := ⟨2, ![256, 1024]⟩
abbrev S128x1024 : Shape := ⟨2, ![128, 1024]⟩
abbrev S8x16384 : Shape := ⟨2, ![8, 16384]⟩

abbrev nBuf : Space → Nat
  | .hbm => 28
  | .vmem => 11
  | .smem => 0
  | _ => 0

abbrev bufTy : (tb : Table) → Fin (tcTables nBuf tb) → BufTy
  | .hbm, ⟨0, _⟩ => ⟨S1x16384x8x192, .f32⟩
  | .hbm, ⟨1, _⟩ => ⟨S1x16384x8x192, .f32⟩
  | .hbm, ⟨2, _⟩ => ⟨S1x16384x8x128, .f32⟩
  | .hbm, ⟨3, _⟩ => ⟨S_, .f32⟩
  | .hbm, ⟨4, _⟩ => ⟨S_, .f32⟩
  | .hbm, ⟨5, _⟩ => ⟨S16384x8x192, .f32⟩
  | .hbm, ⟨6, _⟩ => ⟨S8x16384x192, .f32⟩
  | .hbm, ⟨7, _⟩ => ⟨S_, .f32⟩
  | .hbm, ⟨8, _⟩ => ⟨S8x16384x64, .f32⟩
  | .hbm, ⟨9, _⟩ => ⟨S8x16384x256, .f32⟩
  | .hbm, ⟨10, _⟩ => ⟨S_, .f32⟩
  | .hbm, ⟨11, _⟩ => ⟨S_, .f32⟩
  | .hbm, ⟨12, _⟩ => ⟨S8x16384x256, .f32⟩
  | .hbm, ⟨13, _⟩ => ⟨S8x16384x256, .f32⟩
  | .hbm, ⟨14, _⟩ => ⟨S8x16384x256, .bf16⟩
  | .hbm, ⟨15, _⟩ => ⟨S16384x8x192, .f32⟩
  | .hbm, ⟨16, _⟩ => ⟨S8x16384x192, .f32⟩
  | .hbm, ⟨17, _⟩ => ⟨S_, .f32⟩
  | .hbm, ⟨18, _⟩ => ⟨S8x16384x64, .f32⟩
  | .hbm, ⟨19, _⟩ => ⟨S8x16384x256, .f32⟩
  | .hbm, ⟨20, _⟩ => ⟨S8x16384x256, .bf16⟩
  | .hbm, ⟨21, _⟩ => ⟨S16384x8x128, .f32⟩
  | .hbm, ⟨22, _⟩ => ⟨S8x16384x128, .f32⟩
  | .hbm, ⟨23, _⟩ => ⟨S8x16384x128, .bf16⟩
  | .hbm, ⟨24, _⟩ => ⟨S16384x1024, .f32⟩
  | .hbm, ⟨25, _⟩ => ⟨S8x16x1x1024, .f32⟩
  | .hbm, ⟨26, _⟩ => ⟨S1x16384x8x128, .f32⟩
  | .hbm, ⟨27, _⟩ => ⟨S8x16384, .f32⟩
  | .local _ .vmem, ⟨0, _⟩ => ⟨S1x1024x256, .bf16⟩
  | .local _ .vmem, ⟨1, _⟩ => ⟨S1x1024x256, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x16384x128, .bf16⟩
  | .local _ .vmem, ⟨5, _⟩ => ⟨S1x16384x128, .bf16⟩
  | .local _ .vmem, ⟨6, _⟩ => ⟨S1024x128, .f32⟩
  | .local _ .vmem, ⟨7, _⟩ => ⟨S1024x128, .f32⟩
  | .local _ .vmem, ⟨8, _⟩ => ⟨S1x1x1x1024, .f32⟩
  | .local _ .vmem, ⟨9, _⟩ => ⟨S1x1x1x1024, .f32⟩
  | .local _ .vmem, ⟨10, _⟩ => ⟨S64x144x256, .bf16⟩
  | _, _ => ⟨S1x16384x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_2 : BitVec 32 := 0#32
  let v4 : BitVec 1 := Scalar.cmpi .ne v3 c0_i32_2
  v4

@[reducible] def k0_t1_loop : Scf.Loop 32 :=
  let c0_i32_62 : BitVec 32 := 0#32
  let c64_i32 : BitVec 32 := 64#32
  let v132 : BitVec 32 := Scalar.addi c0_i32_62 c64_i32
  let c1_i32_63 : BitVec 32 := 1#32
  ⟨c0_i32_62, v132, c1_i32_63⟩
def k0_mult1 (k0_t1 : Fin k0_t1_loop.trips) : BitVec 32 :=
  let c0_i32_62 : BitVec 32 := 0#32
  let c1_i32_63 : BitVec 32 := 1#32
  let arg8 : BitVec 32 := Scf.iv c0_i32_62 c1_i32_63 k0_t1
  let c256_i32 : BitVec 32 := 256#32
  let v133 : BitVec 32 := Scalar.muli arg8 c256_i32
  v133
def k0_off1 (k0_t1 : Fin k0_t1_loop.trips) : Fin 3 → Nat :=
  let c0_65 : Index := 0#32
  let c0_i32_62 : BitVec 32 := 0#32
  let c1_i32_63 : BitVec 32 := 1#32
  let arg8 : BitVec 32 := Scf.iv c0_i32_62 c1_i32_63 k0_t1
  let c256_i32 : BitVec 32 := 256#32
  let v133 : BitVec 32 := Scalar.muli arg8 c256_i32
  let v134 : BitVec 32 := v133
  let v135 : Index := Scalar.indexCast v134
  let c0_66 : Index := 0#32
  ![0, v135.toNat, 0]
def k0_off2 (k0_t1 : Fin k0_t1_loop.trips) : Fin 3 → Nat :=
  let c0_i32_62 : BitVec 32 := 0#32
  let c1_i32_63 : BitVec 32 := 1#32
  let arg8 : BitVec 32 := Scf.iv c0_i32_62 c1_i32_63 k0_t1
  let v139 : Index := Scalar.indexCast arg8
  let c0_67 : Index := 0#32
  let c0_68 : Index := 0#32
  ![v139.toNat, 0, 0]
def k0_off3 (k0_t1 : Fin k0_t1_loop.trips) : Fin 3 → Nat :=
  let c0_i32_62 : BitVec 32 := 0#32
  let c1_i32_63 : BitVec 32 := 1#32
  let arg8 : BitVec 32 := Scf.iv c0_i32_62 c1_i32_63 k0_t1
  let v143 : Index := Scalar.indexCast arg8
  let c128 : Index := 128#32
  let c0_69 : Index := 0#32
  ![v143.toNat, 128, 0]
@[reducible] def k0_t2_loop (i : grid0.Coords) : Scf.Loop 32 :=
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_5 : BitVec 32 := 1#32
  ⟨c0_i32_4, v12, c1_i32_5⟩
def k0_mult2 (i : grid0.Coords) (k0_t2 : Fin (k0_t2_loop i).trips) : BitVec 32 :=
  let c4_i32 : BitVec 32 := 4#32
  let c0_i32_4 : BitVec 32 := 0#32
  let c1_i32_5 : BitVec 32 := 1#32
  let arg8 : BitVec 32 := Scf.iv c0_i32_4 c1_i32_5 k0_t2
  let v125 : BitVec 32 := Scalar.muli c4_i32 arg8
  let c0_i32_59 : BitVec 32 := 0#32
  let v126 : BitVec 32 := Scalar.addi v125 c0_i32_59
  let c1024_i32_60 : BitVec 32 := 1024#32
  let v127 : BitVec 32 := Scalar.muli v126 c1024_i32_60
  let c0_i32_61 : BitVec 32 := 0#32
  let v128 : BitVec 32 := Scalar.addi v127 c0_i32_61
  v128
def k0_off4 (i : grid0.Coords) (k0_t2 : Fin (k0_t2_loop i).trips) (c0_i32_59 : BitVec 32) (c0_i32_61 : BitVec 32) : Fin 3 → Nat :=
  let c0_62 : Index := 0#32
  let c4_i32 : BitVec 32 := 4#32
  let c0_i32_4 : BitVec 32 := 0#32
  let c1_i32_5 : BitVec 32 := 1#32
  let arg8 : BitVec 32 := Scf.iv c0_i32_4 c1_i32_5 k0_t2
  let v125 : BitVec 32 := Scalar.muli c4_i32 arg8
  let v126 : BitVec 32 := Scalar.addi v125 c0_i32_59
  let c1024_i32_60 : BitVec 32 := 1024#32
  let v127 : BitVec 32 := Scalar.muli v126 c1024_i32_60
  let v128 : BitVec 32 := Scalar.addi v127 c0_i32_61
  let v129 : BitVec 32 := v128
  let v130 : Index := Scalar.indexCast v129
  let c0_63 : Index := 0#32
  ![0, v130.toNat, 0]
def k0_mult3 (i : grid0.Coords) (k0_t2 : Fin (k0_t2_loop i).trips) : BitVec 32 :=
  let c4_i32 : BitVec 32 := 4#32
  let c0_i32_4 : BitVec 32 := 0#32
  let c1_i32_5 : BitVec 32 := 1#32
  let arg8 : BitVec 32 := Scf.iv c0_i32_4 c1_i32_5 k0_t2
  let v125 : BitVec 32 := Scalar.muli c4_i32 arg8
  let c0_i32_59 : BitVec 32 := 0#32
  let v126 : BitVec 32 := Scalar.addi v125 c0_i32_59
  let c1024_i32_65 : BitVec 32 := 1024#32
  let v134 : BitVec 32 := Scalar.muli v126 c1024_i32_65
  let c512_i32_66 : BitVec 32 := 512#32
  let v135 : BitVec 32 := Scalar.addi v134 c512_i32_66
  v135
def k0_off5 (i : grid0.Coords) (k0_t2 : Fin (k0_t2_loop i).trips) (c0_i32_59 : BitVec 32) (c0_i32_72 : BitVec 32) (c0_i32_74 : BitVec 32) : Fin 3 → Nat :=
  let c2_i32_71 : BitVec 32 := 2#32
  let c4_i32 : BitVec 32 := 4#32
  let c0_i32_4 : BitVec 32 := 0#32
  let c1_i32_5 : BitVec 32 := 1#32
  let arg8 : BitVec 32 := Scf.iv c0_i32_4 c1_i32_5 k0_t2
  let v125 : BitVec 32 := Scalar.muli c4_i32 arg8
  let v126 : BitVec 32 := Scalar.addi v125 c0_i32_59
  let v152 : BitVec 32 := Scalar.muli c2_i32_71 v126
  let v153 : BitVec 32 := Scalar.addi v152 c0_i32_72
  let c2_i32_73 : BitVec 32 := 2#32
  let v154 : BitVec 32 := Scalar.muli v153 c2_i32_73
  let v155 : BitVec 32 := Scalar.addi v154 c0_i32_74
  let v156 : Index := Scalar.indexCast v155
  let c0_75 : Index := 0#32
  let c0_76 : Index := 0#32
  ![v156.toNat, 0, 0]
def k0_mult4 (i : grid0.Coords) (k0_t2 : Fin (k0_t2_loop i).trips) : BitVec 32 :=
  let c4_i32_100 : BitVec 32 := 4#32
  let c0_i32_4 : BitVec 32 := 0#32
  let c1_i32_5 : BitVec 32 := 1#32
  let arg8 : BitVec 32 := Scf.iv c0_i32_4 c1_i32_5 k0_t2
  let v203 : BitVec 32 := Scalar.muli c4_i32_100 arg8
  let c1_i32_101 : BitVec 32 := 1#32
  let v204 : BitVec 32 := Scalar.addi v203 c1_i32_101
  let c1024_i32_102 : BitVec 32 := 1024#32
  let v205 : BitVec 32 := Scalar.muli v204 c1024_i32_102
  let c0_i32_103 : BitVec 32 := 0#32
  let v206 : BitVec 32 := Scalar.addi v205 c0_i32_103
  v206
def k0_mult5 (i : grid0.Coords) (k0_t2 : Fin (k0_t2_loop i).trips) : BitVec 32 :=
  let c4_i32_100 : BitVec 32 := 4#32
  let c0_i32_4 : BitVec 32 := 0#32
  let c1_i32_5 : BitVec 32 := 1#32
  let arg8 : BitVec 32 := Scf.iv c0_i32_4 c1_i32_5 k0_t2
  let v203 : BitVec 32 := Scalar.muli c4_i32_100 arg8
  let c1_i32_101 : BitVec 32 := 1#32
  let v204 : BitVec 32 := Scalar.addi v203 c1_i32_101
  let c1024_i32_107 : BitVec 32 := 1024#32
  let v212 : BitVec 32 := Scalar.muli v204 c1024_i32_107
  let c512_i32_108 : BitVec 32 := 512#32
  let v213 : BitVec 32 := Scalar.addi v212 c512_i32_108
  v213
def k0_mult6 (i : grid0.Coords) (k0_t2 : Fin (k0_t2_loop i).trips) : BitVec 32 :=
  let c4_i32_142 : BitVec 32 := 4#32
  let c0_i32_4 : BitVec 32 := 0#32
  let c1_i32_5 : BitVec 32 := 1#32
  let arg8 : BitVec 32 := Scf.iv c0_i32_4 c1_i32_5 k0_t2
  let v281 : BitVec 32 := Scalar.muli c4_i32_142 arg8
  let c2_i32_143 : BitVec 32 := 2#32
  let v282 : BitVec 32 := Scalar.addi v281 c2_i32_143
  let c1024_i32_144 : BitVec 32 := 1024#32
  let v283 : BitVec 32 := Scalar.muli v282 c1024_i32_144
  let c0_i32_145 : BitVec 32 := 0#32
  let v284 : BitVec 32 := Scalar.addi v283 c0_i32_145
  v284
def k0_mult7 (i : grid0.Coords) (k0_t2 : Fin (k0_t2_loop i).trips) : BitVec 32 :=
  let c4_i32_142 : BitVec 32 := 4#32
  let c0_i32_4 : BitVec 32 := 0#32
  let c1_i32_5 : BitVec 32 := 1#32
  let arg8 : BitVec 32 := Scf.iv c0_i32_4 c1_i32_5 k0_t2
  let v281 : BitVec 32 := Scalar.muli c4_i32_142 arg8
  let c2_i32_143 : BitVec 32 := 2#32
  let v282 : BitVec 32 := Scalar.addi v281 c2_i32_143
  let c1024_i32_149 : BitVec 32 := 1024#32
  let v290 : BitVec 32 := Scalar.muli v282 c1024_i32_149
  let c512_i32_150 : BitVec 32 := 512#32
  let v291 : BitVec 32 := Scalar.addi v290 c512_i32_150
  v291
def k0_mult8 (i : grid0.Coords) (k0_t2 : Fin (k0_t2_loop i).trips) : BitVec 32 :=
  let c4_i32_184 : BitVec 32 := 4#32
  let c0_i32_4 : BitVec 32 := 0#32
  let c1_i32_5 : BitVec 32 := 1#32
  let arg8 : BitVec 32 := Scf.iv c0_i32_4 c1_i32_5 k0_t2
  let v359 : BitVec 32 := Scalar.muli c4_i32_184 arg8
  let c3_i32_185 : BitVec 32 := 3#32
  let v360 : BitVec 32 := Scalar.addi v359 c3_i32_185
  let c1024_i32_186 : BitVec 32 := 1024#32
  let v361 : BitVec 32 := Scalar.muli v360 c1024_i32_186
  let c0_i32_187 : BitVec 32 := 0#32
  let v362 : BitVec 32 := Scalar.addi v361 c0_i32_187
  v362
def k0_mult9 (i : grid0.Coords) (k0_t2 : Fin (k0_t2_loop i).trips) : BitVec 32 :=
  let c4_i32_184 : BitVec 32 := 4#32
  let c0_i32_4 : BitVec 32 := 0#32
  let c1_i32_5 : BitVec 32 := 1#32
  let arg8 : BitVec 32 := Scf.iv c0_i32_4 c1_i32_5 k0_t2
  let v359 : BitVec 32 := Scalar.muli c4_i32_184 arg8
  let c3_i32_185 : BitVec 32 := 3#32
  let v360 : BitVec 32 := Scalar.addi v359 c3_i32_185
  let c1024_i32_191 : BitVec 32 := 1024#32
  let v368 : BitVec 32 := Scalar.muli v360 c1024_i32_191
  let c512_i32_192 : BitVec 32 := 512#32
  let v369 : BitVec 32 := Scalar.addi v368 c512_i32_192
  v369
@[reducible] def k0_t3_loop (i : grid0.Coords) : Scf.Loop 32 :=
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let v9 : BitVec 32 := Scalar.addi c0_i32_4 v8
  let c1_i32_6 : BitVec 32 := 1#32
  ⟨v12, v9, c1_i32_6⟩
def k0_mult10 (i : grid0.Coords) (k0_t3 : Fin (k0_t3_loop i).trips) : BitVec 32 :=
  let c4_i32 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v125 : BitVec 32 := Scalar.muli c4_i32 arg8
  let c0_i32_59 : BitVec 32 := 0#32
  let v126 : BitVec 32 := Scalar.addi v125 c0_i32_59
  let c1024_i32_60 : BitVec 32 := 1024#32
  let v127 : BitVec 32 := Scalar.muli v126 c1024_i32_60
  let c0_i32_61 : BitVec 32 := 0#32
  let v128 : BitVec 32 := Scalar.addi v127 c0_i32_61
  v128
def k0_off6 (i : grid0.Coords) (k0_t3 : Fin (k0_t3_loop i).trips) (c0_i32_59 : BitVec 32) (c0_i32_61 : BitVec 32) : Fin 3 → Nat :=
  let c0_62 : Index := 0#32
  let c4_i32 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v125 : BitVec 32 := Scalar.muli c4_i32 arg8
  let v126 : BitVec 32 := Scalar.addi v125 c0_i32_59
  let c1024_i32_60 : BitVec 32 := 1024#32
  let v127 : BitVec 32 := Scalar.muli v126 c1024_i32_60
  let v128 : BitVec 32 := Scalar.addi v127 c0_i32_61
  let v129 : BitVec 32 := v128
  let v130 : Index := Scalar.indexCast v129
  let c0_63 : Index := 0#32
  ![0, v130.toNat, 0]
def k0_mult11 (i : grid0.Coords) (k0_t3 : Fin (k0_t3_loop i).trips) : BitVec 32 :=
  let c4_i32 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v125 : BitVec 32 := Scalar.muli c4_i32 arg8
  let c0_i32_59 : BitVec 32 := 0#32
  let v126 : BitVec 32 := Scalar.addi v125 c0_i32_59
  let c1024_i32_65 : BitVec 32 := 1024#32
  let v134 : BitVec 32 := Scalar.muli v126 c1024_i32_65
  let c512_i32_66 : BitVec 32 := 512#32
  let v135 : BitVec 32 := Scalar.addi v134 c512_i32_66
  v135
def k0_off7 (i : grid0.Coords) (k0_t3 : Fin (k0_t3_loop i).trips) (c0_i32_59 : BitVec 32) (c0_i32_72 : BitVec 32) (c0_i32_74 : BitVec 32) : Fin 3 → Nat :=
  let c2_i32_71 : BitVec 32 := 2#32
  let c4_i32 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v125 : BitVec 32 := Scalar.muli c4_i32 arg8
  let v126 : BitVec 32 := Scalar.addi v125 c0_i32_59
  let v152 : BitVec 32 := Scalar.muli c2_i32_71 v126
  let v153 : BitVec 32 := Scalar.addi v152 c0_i32_72
  let c2_i32_73 : BitVec 32 := 2#32
  let v154 : BitVec 32 := Scalar.muli v153 c2_i32_73
  let v155 : BitVec 32 := Scalar.addi v154 c0_i32_74
  let v156 : Index := Scalar.indexCast v155
  let c0_75 : Index := 0#32
  let c0_76 : Index := 0#32
  ![v156.toNat, 0, 0]
def k0_mult12 (i : grid0.Coords) (k0_t3 : Fin (k0_t3_loop i).trips) : BitVec 32 :=
  let c4_i32_100 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v203 : BitVec 32 := Scalar.muli c4_i32_100 arg8
  let c1_i32_101 : BitVec 32 := 1#32
  let v204 : BitVec 32 := Scalar.addi v203 c1_i32_101
  let c1024_i32_102 : BitVec 32 := 1024#32
  let v205 : BitVec 32 := Scalar.muli v204 c1024_i32_102
  let c0_i32_103 : BitVec 32 := 0#32
  let v206 : BitVec 32 := Scalar.addi v205 c0_i32_103
  v206
def k0_mult13 (i : grid0.Coords) (k0_t3 : Fin (k0_t3_loop i).trips) : BitVec 32 :=
  let c4_i32_100 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v203 : BitVec 32 := Scalar.muli c4_i32_100 arg8
  let c1_i32_101 : BitVec 32 := 1#32
  let v204 : BitVec 32 := Scalar.addi v203 c1_i32_101
  let c1024_i32_107 : BitVec 32 := 1024#32
  let v212 : BitVec 32 := Scalar.muli v204 c1024_i32_107
  let c512_i32_108 : BitVec 32 := 512#32
  let v213 : BitVec 32 := Scalar.addi v212 c512_i32_108
  v213
def k0_mult14 (i : grid0.Coords) (k0_t3 : Fin (k0_t3_loop i).trips) : BitVec 32 :=
  let c4_i32_142 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v281 : BitVec 32 := Scalar.muli c4_i32_142 arg8
  let c2_i32_143 : BitVec 32 := 2#32
  let v282 : BitVec 32 := Scalar.addi v281 c2_i32_143
  let c1024_i32_144 : BitVec 32 := 1024#32
  let v283 : BitVec 32 := Scalar.muli v282 c1024_i32_144
  let c0_i32_145 : BitVec 32 := 0#32
  let v284 : BitVec 32 := Scalar.addi v283 c0_i32_145
  v284
def k0_mult15 (i : grid0.Coords) (k0_t3 : Fin (k0_t3_loop i).trips) : BitVec 32 :=
  let c4_i32_142 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v281 : BitVec 32 := Scalar.muli c4_i32_142 arg8
  let c2_i32_143 : BitVec 32 := 2#32
  let v282 : BitVec 32 := Scalar.addi v281 c2_i32_143
  let c1024_i32_149 : BitVec 32 := 1024#32
  let v290 : BitVec 32 := Scalar.muli v282 c1024_i32_149
  let c512_i32_150 : BitVec 32 := 512#32
  let v291 : BitVec 32 := Scalar.addi v290 c512_i32_150
  v291
def k0_mult16 (i : grid0.Coords) (k0_t3 : Fin (k0_t3_loop i).trips) : BitVec 32 :=
  let c4_i32_184 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v359 : BitVec 32 := Scalar.muli c4_i32_184 arg8
  let c3_i32_185 : BitVec 32 := 3#32
  let v360 : BitVec 32 := Scalar.addi v359 c3_i32_185
  let c1024_i32_186 : BitVec 32 := 1024#32
  let v361 : BitVec 32 := Scalar.muli v360 c1024_i32_186
  let c0_i32_187 : BitVec 32 := 0#32
  let v362 : BitVec 32 := Scalar.addi v361 c0_i32_187
  v362
def k0_mult17 (i : grid0.Coords) (k0_t3 : Fin (k0_t3_loop i).trips) : BitVec 32 :=
  let c4_i32_184 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v359 : BitVec 32 := Scalar.muli c4_i32_184 arg8
  let c3_i32_185 : BitVec 32 := 3#32
  let v360 : BitVec 32 := Scalar.addi v359 c3_i32_185
  let c1024_i32_191 : BitVec 32 := 1024#32
  let v368 : BitVec 32 := Scalar.muli v360 c1024_i32_191
  let c512_i32_192 : BitVec 32 := 512#32
  let v369 : BitVec 32 := Scalar.addi v368 c512_i32_192
  v369
@[reducible] def k0_t4_loop (i : grid0.Coords) : Scf.Loop 32 :=
  let arg1 : BitVec 32 := BitVec.ofNat 32 (i 1).val
  let c3_i32 : BitVec 32 := 3#32
  let v15 : BitVec 32 := Scalar.andi arg1 c3_i32
  let v16 : BitVec 32 := Scalar.subi arg1 v15
  let v17 : BitVec 32 := Scalar.subi arg1 v16
  let c1_i32_7 : BitVec 32 := 1#32
  let v19 : BitVec 32 := Scalar.divsi v17 c1_i32_7
  let v20 : BitVec 32 := Scalar.muli v19 c1_i32_7
  let v21 : BitVec 32 := Scalar.addi v16 v20
  let c1_i32_8 : BitVec 32 := 1#32
  ⟨v16, v21, c1_i32_8⟩
def k0_mult18 (i : grid0.Coords) (k0_t4 : Fin (k0_t4_loop i).trips) : BitVec 32 :=
  let arg1 : BitVec 32 := BitVec.ofNat 32 (i 1).val
  let c3_i32 : BitVec 32 := 3#32
  let v15 : BitVec 32 := Scalar.andi arg1 c3_i32
  let v16 : BitVec 32 := Scalar.subi arg1 v15
  let c1_i32_8 : BitVec 32 := 1#32
  let arg8 : BitVec 32 := Scf.iv v16 c1_i32_8 k0_t4
  let c1024_i32_59 : BitVec 32 := 1024#32
  let v125 : BitVec 32 := Scalar.muli arg8 c1024_i32_59
  let c0_i32_60 : BitVec 32 := 0#32
  let v126 : BitVec 32 := Scalar.addi v125 c0_i32_60
  v126
def k0_off8 (i : grid0.Coords) (k0_t4 : Fin (k0_t4_loop i).trips) (c0_i32_60 : BitVec 32) : Fin 3 → Nat :=
  let c0_61 : Index := 0#32
  let arg1 : BitVec 32 := BitVec.ofNat 32 (i 1).val
  let c3_i32 : BitVec 32 := 3#32
  let v15 : BitVec 32 := Scalar.andi arg1 c3_i32
  let v16 : BitVec 32 := Scalar.subi arg1 v15
  let c1_i32_8 : BitVec 32 := 1#32
  let arg8 : BitVec 32 := Scf.iv v16 c1_i32_8 k0_t4
  let c1024_i32_59 : BitVec 32 := 1024#32
  let v125 : BitVec 32 := Scalar.muli arg8 c1024_i32_59
  let v126 : BitVec 32 := Scalar.addi v125 c0_i32_60
  let v127 : BitVec 32 := v126
  let v128 : Index := Scalar.indexCast v127
  let c0_62 : Index := 0#32
  ![0, v128.toNat, 0]
def k0_mult19 (i : grid0.Coords) (k0_t4 : Fin (k0_t4_loop i).trips) : BitVec 32 :=
  let arg1 : BitVec 32 := BitVec.ofNat 32 (i 1).val
  let c3_i32 : BitVec 32 := 3#32
  let v15 : BitVec 32 := Scalar.andi arg1 c3_i32
  let v16 : BitVec 32 := Scalar.subi arg1 v15
  let c1_i32_8 : BitVec 32 := 1#32
  let arg8 : BitVec 32 := Scf.iv v16 c1_i32_8 k0_t4
  let c1024_i32_64 : BitVec 32 := 1024#32
  let v132 : BitVec 32 := Scalar.muli arg8 c1024_i32_64
  let c512_i32_65 : BitVec 32 := 512#32
  let v133 : BitVec 32 := Scalar.addi v132 c512_i32_65
  v133
def k0_off9 (i : grid0.Coords) (k0_t4 : Fin (k0_t4_loop i).trips) (c0_i32_71 : BitVec 32) (c0_i32_73 : BitVec 32) : Fin 3 → Nat :=
  let c2_i32_70 : BitVec 32 := 2#32
  let arg1 : BitVec 32 := BitVec.ofNat 32 (i 1).val
  let c3_i32 : BitVec 32 := 3#32
  let v15 : BitVec 32 := Scalar.andi arg1 c3_i32
  let v16 : BitVec 32 := Scalar.subi arg1 v15
  let c1_i32_8 : BitVec 32 := 1#32
  let arg8 : BitVec 32 := Scf.iv v16 c1_i32_8 k0_t4
  let v150 : BitVec 32 := Scalar.muli c2_i32_70 arg8
  let v151 : BitVec 32 := Scalar.addi v150 c0_i32_71
  let c2_i32_72 : BitVec 32 := 2#32
  let v152 : BitVec 32 := Scalar.muli v151 c2_i32_72
  let v153 : BitVec 32 := Scalar.addi v152 c0_i32_73
  let v154 : Index := Scalar.indexCast v153
  let c0_74 : Index := 0#32
  let c0_75 : Index := 0#32
  ![v154.toNat, 0, 0]
@[reducible] def k0_t5_loop (i : grid0.Coords) : Scf.Loop 32 :=
  let arg1 : BitVec 32 := BitVec.ofNat 32 (i 1).val
  let c3_i32 : BitVec 32 := 3#32
  let v15 : BitVec 32 := Scalar.andi arg1 c3_i32
  let v16 : BitVec 32 := Scalar.subi arg1 v15
  let v17 : BitVec 32 := Scalar.subi arg1 v16
  let c1_i32_7 : BitVec 32 := 1#32
  let v19 : BitVec 32 := Scalar.divsi v17 c1_i32_7
  let v20 : BitVec 32 := Scalar.muli v19 c1_i32_7
  let v21 : BitVec 32 := Scalar.addi v16 v20
  let v18 : BitVec 32 := Scalar.addi v16 v17
  let c1_i32_9 : BitVec 32 := 1#32
  ⟨v21, v18, c1_i32_9⟩
def k0_mult20 (i : grid0.Coords) (k0_t5 : Fin (k0_t5_loop i).trips) : BitVec 32 :=
  let arg1 : BitVec 32 := BitVec.ofNat 32 (i 1).val
  let c3_i32 : BitVec 32 := 3#32
  let v15 : BitVec 32 := Scalar.andi arg1 c3_i32
  let v16 : BitVec 32 := Scalar.subi arg1 v15
  let v17 : BitVec 32 := Scalar.subi arg1 v16
  let c1_i32_7 : BitVec 32 := 1#32
  let v19 : BitVec 32 := Scalar.divsi v17 c1_i32_7
  let v20 : BitVec 32 := Scalar.muli v19 c1_i32_7
  let v21 : BitVec 32 := Scalar.addi v16 v20
  let c1_i32_9 : BitVec 32 := 1#32
  let arg8 : BitVec 32 := Scf.iv v21 c1_i32_9 k0_t5
  let c1024_i32_59 : BitVec 32 := 1024#32
  let v125 : BitVec 32 := Scalar.muli arg8 c1024_i32_59
  let c0_i32_60 : BitVec 32 := 0#32
  let v126 : BitVec 32 := Scalar.addi v125 c0_i32_60
  v126
def k0_off10 (i : grid0.Coords) (k0_t5 : Fin (k0_t5_loop i).trips) (c0_i32_60 : BitVec 32) : Fin 3 → Nat :=
  let c0_61 : Index := 0#32
  let arg1 : BitVec 32 := BitVec.ofNat 32 (i 1).val
  let c3_i32 : BitVec 32 := 3#32
  let v15 : BitVec 32 := Scalar.andi arg1 c3_i32
  let v16 : BitVec 32 := Scalar.subi arg1 v15
  let v17 : BitVec 32 := Scalar.subi arg1 v16
  let c1_i32_7 : BitVec 32 := 1#32
  let v19 : BitVec 32 := Scalar.divsi v17 c1_i32_7
  let v20 : BitVec 32 := Scalar.muli v19 c1_i32_7
  let v21 : BitVec 32 := Scalar.addi v16 v20
  let c1_i32_9 : BitVec 32 := 1#32
  let arg8 : BitVec 32 := Scf.iv v21 c1_i32_9 k0_t5
  let c1024_i32_59 : BitVec 32 := 1024#32
  let v125 : BitVec 32 := Scalar.muli arg8 c1024_i32_59
  let v126 : BitVec 32 := Scalar.addi v125 c0_i32_60
  let v127 : BitVec 32 := v126
  let v128 : Index := Scalar.indexCast v127
  let c0_62 : Index := 0#32
  ![0, v128.toNat, 0]
def k0_mult21 (i : grid0.Coords) (k0_t5 : Fin (k0_t5_loop i).trips) : BitVec 32 :=
  let arg1 : BitVec 32 := BitVec.ofNat 32 (i 1).val
  let c3_i32 : BitVec 32 := 3#32
  let v15 : BitVec 32 := Scalar.andi arg1 c3_i32
  let v16 : BitVec 32 := Scalar.subi arg1 v15
  let v17 : BitVec 32 := Scalar.subi arg1 v16
  let c1_i32_7 : BitVec 32 := 1#32
  let v19 : BitVec 32 := Scalar.divsi v17 c1_i32_7
  let v20 : BitVec 32 := Scalar.muli v19 c1_i32_7
  let v21 : BitVec 32 := Scalar.addi v16 v20
  let c1_i32_9 : BitVec 32 := 1#32
  let arg8 : BitVec 32 := Scf.iv v21 c1_i32_9 k0_t5
  let c1024_i32_64 : BitVec 32 := 1024#32
  let v132 : BitVec 32 := Scalar.muli arg8 c1024_i32_64
  let c512_i32_65 : BitVec 32 := 512#32
  let v133 : BitVec 32 := Scalar.addi v132 c512_i32_65
  v133
def k0_off11 (i : grid0.Coords) (k0_t5 : Fin (k0_t5_loop i).trips) (c0_i32_71 : BitVec 32) (c0_i32_73 : BitVec 32) : Fin 3 → Nat :=
  let c2_i32_70 : BitVec 32 := 2#32
  let arg1 : BitVec 32 := BitVec.ofNat 32 (i 1).val
  let c3_i32 : BitVec 32 := 3#32
  let v15 : BitVec 32 := Scalar.andi arg1 c3_i32
  let v16 : BitVec 32 := Scalar.subi arg1 v15
  let v17 : BitVec 32 := Scalar.subi arg1 v16
  let c1_i32_7 : BitVec 32 := 1#32
  let v19 : BitVec 32 := Scalar.divsi v17 c1_i32_7
  let v20 : BitVec 32 := Scalar.muli v19 c1_i32_7
  let v21 : BitVec 32 := Scalar.addi v16 v20
  let c1_i32_9 : BitVec 32 := 1#32
  let arg8 : BitVec 32 := Scf.iv v21 c1_i32_9 k0_t5
  let v150 : BitVec 32 := Scalar.muli c2_i32_70 arg8
  let v151 : BitVec 32 := Scalar.addi v150 c0_i32_71
  let c2_i32_72 : BitVec 32 := 2#32
  let v152 : BitVec 32 := Scalar.muli v151 c2_i32_72
  let v153 : BitVec 32 := Scalar.addi v152 c0_i32_73
  let v154 : Index := Scalar.indexCast v153
  let c0_74 : Index := 0#32
  let c0_75 : Index := 0#32
  ![v154.toNat, 0, 0]
def k0_mult22 (i : grid0.Coords) : BitVec 32 :=
  let arg1 : BitVec 32 := BitVec.ofNat 32 (i 1).val
  let c1024_i32 : BitVec 32 := 1024#32
  let v24 : BitVec 32 := Scalar.muli arg1 c1024_i32
  let c0_i32_10 : BitVec 32 := 0#32
  let v25 : BitVec 32 := Scalar.addi v24 c0_i32_10
  v25
def k0_off12 (i : grid0.Coords) (c0_i32_10 : BitVec 32) : Fin 3 → Nat :=
  let c0_11 : Index := 0#32
  let arg1 : BitVec 32 := BitVec.ofNat 32 (i 1).val
  let c1024_i32 : BitVec 32 := 1024#32
  let v24 : BitVec 32 := Scalar.muli arg1 c1024_i32
  let v25 : BitVec 32 := Scalar.addi v24 c0_i32_10
  let v26 : BitVec 32 := v25
  let v27 : Index := Scalar.indexCast v26
  let c0_12 : Index := 0#32
  ![0, v27.toNat, 0]
def k0_mult23 (i : grid0.Coords) : BitVec 32 :=
  let arg1 : BitVec 32 := BitVec.ofNat 32 (i 1).val
  let c1024_i32_14 : BitVec 32 := 1024#32
  let v31 : BitVec 32 := Scalar.muli arg1 c1024_i32_14
  let c512_i32 : BitVec 32 := 512#32
  let v32 : BitVec 32 := Scalar.addi v31 c512_i32
  v32
def k0_off13 (i : grid0.Coords) (c0_i32_24 : BitVec 32) (c0_i32_26 : BitVec 32) : Fin 3 → Nat :=
  let c2_i32_23 : BitVec 32 := 2#32
  let arg1 : BitVec 32 := BitVec.ofNat 32 (i 1).val
  let v61 : BitVec 32 := Scalar.muli c2_i32_23 arg1
  let v62 : BitVec 32 := Scalar.addi v61 c0_i32_24
  let c2_i32_25 : BitVec 32 := 2#32
  let v63 : BitVec 32 := Scalar.muli v62 c2_i32_25
  let v64 : BitVec 32 := Scalar.addi v63 c0_i32_26
  let v65 : Index := Scalar.indexCast v64
  let c0_27 : Index := 0#32
  let c0_28 : Index := 0#32
  ![v65.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "ln2" => some ((Real.log 2 : ℝ) : EReal)
  | "mask" => some ⊥
  | _ => none
-- ==== AttnFwdRefIdeal.lean ====
abbrev S1x16384x8x192 : Shape := ⟨4, ![1, 16384, 8, 192]⟩
abbrev S1x16384x8x128 : Shape := ⟨4, ![1, 16384, 8, 128]⟩
abbrev S1x8x16384x16384 : Shape := ⟨4, ![1, 8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x1x16384x16384 : Shape := ⟨4, ![1, 1, 16384, 16384]⟩
abbrev S1x8x16384 : Shape := ⟨3, ![1, 8, 16384]⟩
abbrev S1x8x16384x1 : Shape := ⟨4, ![1, 8, 16384, 1]⟩
abbrev S1x8x128x16384 : Shape := ⟨4, ![1, 8, 128, 16384]⟩
abbrev S8x16384 : Shape := ⟨2, ![8, 16384]⟩

abbrev nBuf : Space → Nat
  | .hbm => 68
  | .vmem => 0
  | .smem => 0
  | _ => 0

abbrev bufTy : (tb : Table) → Fin (tcTables nBuf tb) → BufTy
  | .hbm, ⟨0, _⟩ => ⟨S1x16384x8x192, .f32⟩
  | .hbm, ⟨1, _⟩ => ⟨S1x16384x8x192, .f32⟩
  | .hbm, ⟨2, _⟩ => ⟨S1x16384x8x128, .f32⟩
  | .hbm, ⟨3, _⟩ => ⟨S1x8x16384x16384, .f32⟩
  | .hbm, ⟨4, _⟩ => ⟨S_, .f32⟩
  | .hbm, ⟨5, _⟩ => ⟨S1x8x16384x16384, .f32⟩
  | .hbm, ⟨6, _⟩ => ⟨S1x8x16384x16384, .f32⟩
  | .hbm, ⟨7, _⟩ => ⟨S16384, .i32⟩
  | .hbm, ⟨8, _⟩ => ⟨S1x16384, .i32⟩
  | .hbm, ⟨9, _⟩ => ⟨S16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S1x1x16384x16384, .i1⟩
  | .hbm, ⟨15, _⟩ => ⟨S_, .f32⟩
  | .hbm, ⟨16, _⟩ => ⟨S_, .f32⟩
  | .hbm, ⟨17, _⟩ => ⟨S1x8x16384x16384, .i1⟩
  | .hbm, ⟨18, _⟩ => ⟨S1x8x16384x16384, .f32⟩
  | .hbm, ⟨19, _⟩ => ⟨S1x8x16384x16384, .f32⟩
  | .hbm, ⟨20, _⟩ => ⟨S_, .f32⟩
  | .hbm, ⟨21, _⟩ => ⟨S1x8x16384, .f32⟩
  | .hbm, ⟨22, _⟩ => ⟨S1x8x16384x1, .f32⟩
  | .hbm, ⟨23, _⟩ => ⟨S1x8x16384x16384, .f32⟩
  | .hbm, ⟨24, _⟩ => ⟨S1x8x16384x16384, .f32⟩
  | .hbm, ⟨25, _⟩ => ⟨S1x8x16384x16384, .f32⟩
  | .hbm, ⟨26, _⟩ => ⟨S_, .f32⟩
  | .hbm, ⟨27, _⟩ => ⟨S1x8x16384, .f32⟩
  | .hbm, ⟨28, _⟩ => ⟨S1x8x16384, .f32⟩
  | .hbm, ⟨29, _⟩ => ⟨S1x8x16384, .f32⟩
  | .hbm, ⟨30, _⟩ => ⟨S1x8x16384x16384, .f32⟩
  | .hbm, ⟨31, _⟩ => ⟨S_, .f32⟩
  | .hbm, ⟨32, _⟩ => ⟨S1x8x16384x16384, .f32⟩
  | .hbm, ⟨33, _⟩ => ⟨S1x8x16384x16384, .f32⟩
  | .hbm, ⟨34, _⟩ => ⟨S16384, .i32⟩
  | .hbm, ⟨35, _⟩ => ⟨S1x16384, .i32⟩
  | .hbm, ⟨36, _⟩ => ⟨S16384, .i32⟩
  | .hbm, ⟨37, _⟩ => ⟨S16384x1, .i32⟩
  | .hbm, ⟨38, _⟩ => ⟨S16384x16384, .i32⟩
  | .hbm, ⟨39, _⟩ => ⟨S16384x16384, .i32⟩
  | .hbm, ⟨40, _⟩ => ⟨S16384x16384, .i1⟩
  | .hbm, ⟨41, _⟩ => ⟨S1x1x16384x16384, .i1⟩
  | .hbm, ⟨42, _⟩ => ⟨S_, .f32⟩
  | .hbm, ⟨43, _⟩ => ⟨S_, .f32⟩
  | .hbm, ⟨44, _⟩ => ⟨S1x8x16384x16384, .i1⟩
  | .hbm, ⟨45, _⟩ => ⟨S1x8x16384x16384, .f32⟩
  | .hbm, ⟨46, _⟩ => ⟨S1x8x16384x16384, .f32⟩
  | .hbm, ⟨47, _⟩ => ⟨S_, .f32⟩
  | .hbm, ⟨48, _⟩ => ⟨S1x8x16384, .f32⟩
  | .hbm, ⟨49, _⟩ => ⟨S_, .f32⟩
  | .hbm, ⟨50, _⟩ => ⟨S1x8x16384, .f32⟩
  | .hbm, ⟨51, _⟩ => ⟨S1x8x16384, .f32⟩
  | .hbm, ⟨52, _⟩ => ⟨S1x8x16384x1, .f32⟩
  | .hbm, ⟨53, _⟩ => ⟨S1x8x16384x16384, .f32⟩
  | .hbm, ⟨54, _⟩ => ⟨S1x8x16384x16384, .f32⟩
  | .hbm, ⟨55, _⟩ => ⟨S1x8x16384x16384, .f32⟩
  | .hbm, ⟨56, _⟩ => ⟨S_, .f32⟩
  | .hbm, ⟨57, _⟩ => ⟨S1x8x16384, .f32⟩
  | .hbm, ⟨58, _⟩ => ⟨S1x8x16384x1, .f32⟩
  | .hbm, ⟨59, _⟩ => ⟨S1x8x16384x16384, .f32⟩
  | .hbm, ⟨60, _⟩ => ⟨S1x8x16384x16384, .f32⟩
  | .hbm, ⟨61, _⟩ => ⟨S1x8x128x16384, .f32⟩
  | .hbm, ⟨62, _⟩ => ⟨S1x16384x8x128, .f32⟩
  | .hbm, ⟨63, _⟩ => ⟨S8x16384, .f32⟩
  | .hbm, ⟨64, _⟩ => ⟨S_, .f32⟩
  | .hbm, ⟨65, _⟩ => ⟨S_, .f32⟩
  | .hbm, ⟨66, _⟩ => ⟨S8x16384, .f32⟩
  | .hbm, ⟨67, _⟩ => ⟨S8x16384, .f32⟩
  | _, _ => ⟨S1x16384x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Proj.lean ====
abbrev S1x16384x1024 : Shape := ⟨3, ![1, 16384, 1024]⟩
abbrev S1x3072 : Shape := ⟨2, ![1, 3072]⟩
abbrev S1024x4304 : Shape := ⟨2, ![1024, 4304]⟩
abbrev S1x16384 : Shape := ⟨2, ![1, 16384]⟩
abbrev S1x384 : Shape := ⟨2, ![1, 384]⟩
abbrev S384x1536 : Shape := ⟨2, ![384, 1536]⟩
abbrev S1x256 : Shape := ⟨2, ![1, 256]⟩
abbrev S256x2048 : Shape := ⟨2, ![256, 2048]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S16384x1 : Shape := ⟨2, ![16384, 1]⟩
abbrev S1024x384 : Shape := ⟨2, ![1024, 384]⟩
abbrev S1024x256 : Shape := ⟨2, ![1024, 256]⟩
abbrev S1024x1024 : Shape := ⟨2, ![1024, 1024]⟩
abbrev S1024x1536 : Shape := ⟨2, ![1024, 1536]⟩
abbrev S1024x64 : Shape := ⟨2, ![1024, 64]⟩
abbrev S1024x16 : Shape := ⟨2, ![1024, 16]⟩
abbrev S1024x112 : Shape := ⟨2, ![1024, 112]⟩
abbrev S1024x4480 : Shape := ⟨2, ![1024, 4480]⟩
abbrev S384x8x192 : Shape := ⟨3, ![384, 8, 192]⟩
abbrev S384x8x64 : Shape := ⟨3, ![384, 8, 64]⟩
abbrev S384x8x256 : Shape := ⟨3, ![384, 8, 256]⟩
abbrev S384x2048 : Shape := ⟨2, ![384, 2048]⟩
abbrev S256x8x256 : Shape := ⟨3, ![256, 8, 256]⟩
abbrev S256x8x128 : Shape := ⟨3, ![256, 8, 128]⟩
abbrev S256x1024 : Shape := ⟨2, ![256, 1024]⟩
abbrev S8x3072 : Shape := ⟨2, ![8, 3072]⟩
abbrev S16384x1024 : Shape := ⟨2, ![16384, 1024]⟩
abbrev S16384x384 : Shape := ⟨2, ![16384, 384]⟩
abbrev S16384x256 : Shape := ⟨2, ![16384, 256]⟩
abbrev S16384x1536 : Shape := ⟨2, ![16384, 1536]⟩
abbrev S16384x128 : Shape := ⟨2, ![16384, 128]⟩
abbrev S8x16384x256 : Shape := ⟨3, ![8, 16384, 256]⟩
abbrev S8x16384x128 : Shape := ⟨3, ![8, 16384, 128]⟩
abbrev S256x1 : Shape := ⟨2, ![256, 1]⟩
abbrev S256x384 : Shape := ⟨2, ![256, 384]⟩
abbrev S256x256 : Shape := ⟨2, ![256, 256]⟩
abbrev S256x1536 : Shape := ⟨2, ![256, 1536]⟩
abbrev S256x128 : Shape := ⟨2, ![256, 128]⟩
abbrev S8x256x256 : Shape := ⟨3, ![8, 256, 256]⟩
abbrev S8x256x128 : Shape := ⟨3, ![8, 256, 128]⟩
abbrev S1x1024 : Shape := ⟨2, ![1, 1024]⟩
abbrev S1024x128 : Shape := ⟨2, ![1024, 128]⟩
abbrev S256 : Shape := ⟨1, ![256]⟩
abbrev S384x256 : Shape := ⟨2, ![384, 256]⟩
abbrev S1x256x128 : Shape := ⟨3, ![1, 256, 128]⟩
abbrev S16384x16 : Shape := ⟨2, ![16384, 16]⟩
abbrev S8x16384x192 : Shape := ⟨3, ![8, 16384, 192]⟩

abbrev nBuf : Space → Nat
  | .hbm => 62
  | .vmem => 30
  | .smem => 0
  | _ => 0

abbrev bufTy : (tb : Table) → Fin (tcTables nBuf tb) → BufTy
  | .hbm, ⟨0, _⟩ => ⟨S1x16384x1024, .f32⟩
  | .hbm, ⟨1, _⟩ => ⟨S1x3072, .f32⟩
  | .hbm, ⟨2, _⟩ => ⟨S1024x4304, .f32⟩
  | .hbm, ⟨3, _⟩ => ⟨S1x16384, .i32⟩
  | .hbm, ⟨4, _⟩ => ⟨S1x384, .f32⟩
  | .hbm, ⟨5, _⟩ => ⟨S384x1536, .f32⟩
  | .hbm, ⟨6, _⟩ => ⟨S1x256, .f32⟩
  | .hbm, ⟨7, _⟩ => ⟨S256x2048, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S64, .f32⟩
  | .hbm, ⟨20, _⟩ => ⟨S128, .f32⟩
  | .hbm, ⟨21, _⟩ => ⟨S1x128, .f32⟩
  | .hbm, ⟨22, _⟩ => ⟨S16384x1, .i32⟩
  | .hbm, ⟨23, _⟩ => ⟨S1024x4304, .bf16⟩
  | .hbm, ⟨24, _⟩ => ⟨S1024x384, .bf16⟩
  | .hbm, ⟨25, _⟩ => ⟨S1024x256, .bf16⟩
  | .hbm, ⟨26, _⟩ => ⟨S1024x1024, .bf16⟩
  | .hbm, ⟨27, _⟩ => ⟨S1024x1536, .bf16⟩
  | .hbm, ⟨28, _⟩ => ⟨S1024x1024, .bf16⟩
  | .hbm, ⟨29, _⟩ => ⟨S1024x64, .bf16⟩
  | .hbm, ⟨30, _⟩ => ⟨S_, .bf16⟩
  | .hbm, ⟨31, _⟩ => ⟨S1024x64, .bf16⟩
  | .hbm, ⟨32, _⟩ => ⟨S1024x16, .bf16⟩
  | .hbm, ⟨33, _⟩ => ⟨S_, .bf16⟩
  | .hbm, ⟨34, _⟩ => ⟨S1024x112, .bf16⟩
  | .hbm, ⟨35, _⟩ => ⟨S1024x4480, .bf16⟩
  | .hbm, ⟨36, _⟩ => ⟨S384x1536, .bf16⟩
  | .hbm, ⟨37, _⟩ => ⟨S384x8x192, .bf16⟩
  | .hbm, ⟨38, _⟩ => ⟨S_, .bf16⟩
  | .hbm, ⟨39, _⟩ => ⟨S384x8x64, .bf16⟩
  | .hbm, ⟨40, _⟩ => ⟨S384x8x256, .bf16⟩
  | .hbm, ⟨41, _⟩ => ⟨S384x2048, .bf16⟩
  | .hbm, ⟨42, _⟩ => ⟨S256x2048, .bf16⟩
  | .hbm, ⟨43, _⟩ => ⟨S256x8x256, .bf16⟩
  | .hbm, ⟨44, _⟩ => ⟨S256x8x128, .bf16⟩
  | .hbm, ⟨45, _⟩ => ⟨S256x1024, .bf16⟩
  | .hbm, ⟨46, _⟩ => ⟨S256x8x128, .bf16⟩
  | .hbm, ⟨47, _⟩ => ⟨S256x1024, .bf16⟩
  | .hbm, ⟨48, _⟩ => ⟨S8x3072, .f32⟩
  | .hbm, ⟨49, _⟩ => ⟨S16384x1024, .f32⟩
  | .hbm, ⟨50, _⟩ => ⟨S16384x384, .f32⟩
  | .hbm, ⟨51, _⟩ => ⟨S16384x256, .f32⟩
  | .hbm, ⟨52, _⟩ => ⟨S16384x1024, .f32⟩
  | .hbm, ⟨53, _⟩ => ⟨S16384x1536, .f32⟩
  | .hbm, ⟨54, _⟩ => ⟨S16384x1024, .f32⟩
  | .hbm, ⟨55, _⟩ => ⟨S16384x128, .f32⟩
  | .hbm, ⟨56, _⟩ => ⟨S8x16384x256, .bf16⟩
  | .hbm, ⟨57, _⟩ => ⟨S8x16384x256, .bf16⟩
  | .hbm, ⟨58, _⟩ => ⟨S8x16384x128, .bf16⟩
  | .hbm, ⟨59, _⟩ => ⟨S16384x16, .f32⟩
  | .hbm, ⟨60, _⟩ => ⟨S8x16384x192, .bf16⟩
  | .hbm, ⟨61, _⟩ => ⟨S8x16384x192, .bf16⟩
  | .local _ .vmem, ⟨0, _⟩ => ⟨S256x1024, .f32⟩
  | .local _ .vmem, ⟨1, _⟩ => ⟨S256x1024, .f32⟩
  | .local _ .vmem, ⟨2, _⟩ => ⟨S8x3072, .f32⟩
  | .local _ .vmem, ⟨3, _⟩ => ⟨S1024x4480, .bf16⟩
  | .local _ .vmem, ⟨4, _⟩ => ⟨S1x384, .f32⟩
  | .local _ .vmem, ⟨5, _⟩ => ⟨S1x256, .f32⟩
  | .local _ .vmem, ⟨6, _⟩ => ⟨S384x2048, .bf16⟩
  | .local _ .vmem, ⟨7, _⟩ => ⟨S256x1024, .bf16⟩
  | .local _ .vmem, ⟨8, _⟩ => ⟨S256x1024, .bf16⟩
  | .local _ .vmem, ⟨9, _⟩ => ⟨S256x1, .i32⟩
  | .local _ .vmem, ⟨10, _⟩ => ⟨S256x1, .i32⟩
  | .local _ .vmem, ⟨11, _⟩ => ⟨S1x128, .f32⟩
  | .local _ .vmem, ⟨12, _⟩ => ⟨S256x384, .f32⟩
  | .local _ .vmem, ⟨13, _⟩ => ⟨S256x384, .f32⟩
  | .local _ .vmem, ⟨14, _⟩ => ⟨S256x256, .f32⟩
  | .local _ .vmem, ⟨15, _⟩ => ⟨S256x256, .f32⟩
  | .local _ .vmem, ⟨16, _⟩ => ⟨S256x1024, .f32⟩
  | .local _ .vmem, ⟨17, _⟩ => ⟨S256x1024, .f32⟩
  | .local _ .vmem, ⟨18, _⟩ => ⟨S256x1536, .f32⟩
  | .local _ .vmem, ⟨19, _⟩ => ⟨S256x1536, .f32⟩
  | .local _ .vmem, ⟨20, _⟩ => ⟨S256x1024, .f32⟩
  | .local _ .vmem, ⟨21, _⟩ => ⟨S256x1024, .f32⟩
  | .local _ .vmem, ⟨22, _⟩ => ⟨S256x128, .f32⟩
  | .local _ .vmem, ⟨23, _⟩ => ⟨S256x128, .f32⟩
  | .local _ .vmem, ⟨24, _⟩ => ⟨S8x256x256, .bf16⟩
  | .local _ .vmem, ⟨25, _⟩ => ⟨S8x256x256, .bf16⟩
  | .local _ .vmem, ⟨26, _⟩ => ⟨S8x256x256, .bf16⟩
  | .local _ .vmem, ⟨27, _⟩ => ⟨S8x256x256, .bf16⟩
  | .local _ .vmem, ⟨28, _⟩ => ⟨S8x256x128, .bf16⟩
  | .local _ .vmem, ⟨29, _⟩ => ⟨S8x256x128, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35_0 : Ref sig .tc := ⟨.hbm, 50, rfl⟩
abbrev main_v35_1 : Ref sig .tc := ⟨.hbm, 51, rfl⟩
abbrev main_v35_2 : Ref sig .tc := ⟨.hbm, 52, rfl⟩
abbrev main_v35_3 : Ref sig .tc := ⟨.hbm, 53, rfl⟩
abbrev main_v35_4 : Ref sig .tc := ⟨.hbm, 54, rfl⟩
abbrev main_v35_5 : Ref sig .tc := ⟨.hbm, 55, rfl⟩
abbrev main_v35_6 : Ref sig .tc := ⟨.hbm, 56, rfl⟩
abbrev main_v35_7 : Ref sig .tc := ⟨.hbm, 57, rfl⟩
abbrev main_v35_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ProjRefIdeal.lean ====
abbrev S1x16384x1024 : Shape := ⟨3, ![1, 16384, 1024]⟩
abbrev S1x3072 : Shape := ⟨2, ![1, 3072]⟩
abbrev S1024x4304 : Shape := ⟨2, ![1024, 4304]⟩
abbrev S1x16384 : Shape := ⟨2, ![1, 16384]⟩
abbrev S1x384 : Shape := ⟨2, ![1, 384]⟩
abbrev S384x1536 : Shape := ⟨2, ![384, 1536]⟩
abbrev S1x256 : Shape := ⟨2, ![1, 256]⟩
abbrev S256x2048 : Shape := ⟨2, ![256, 2048]⟩
abbrev S1x1024 : Shape := ⟨2, ![1, 1024]⟩
abbrev S1x1x1024 : Shape := ⟨3, ![1, 1, 1024]⟩
abbrev S_ : Shape := ⟨0, ![]⟩
abbrev S1x16384x4304 : Shape := ⟨3, ![1, 16384, 4304]⟩
abbrev S1x16384x384 : Shape := ⟨3, ![1, 16384, 384]⟩
abbrev S1x16384x256 : Shape := ⟨3, ![1, 16384, 256]⟩
abbrev S1x16384x64 : Shape := ⟨3, ![1, 16384, 64]⟩
abbrev S1x16384x1536 : Shape := ⟨3, ![1, 16384, 1536]⟩
abbrev S1x16384x16 : Shape := ⟨3, ![1, 16384, 16]⟩
abbrev S384 : Shape := ⟨1, ![384]⟩
abbrev S1x16384x1 : Shape := ⟨3, ![1, 16384, 1]⟩
abbrev S1x1x384 : Shape := ⟨3, ![1, 1, 384]⟩
abbrev S1x16384x8x192 : Shape := ⟨4, ![1, 16384, 8, 192]⟩
abbrev S256 : Shape := ⟨1, ![256]⟩
abbrev S1x1x256 : Shape := ⟨3, ![1, 1, 256]⟩
abbrev S1x16384x2048 : Shape := ⟨3, ![1, 16384, 2048]⟩
abbrev S1x16384x8x256 : Shape := ⟨4, ![1, 16384, 8, 256]⟩
abbrev S1x16384x8x128 : Shape := ⟨4, ![1, 16384, 8, 128]⟩
abbrev S1x16384x8x64 : Shape := ⟨4, ![1, 16384, 8, 64]⟩
abbrev S32 : Shape := ⟨1, ![32]⟩
abbrev S1x1x32 : Shape := ⟨3, ![1, 1, 32]⟩
abbrev S1x16384x32 : Shape := ⟨3, ![1, 16384, 32]⟩
abbrev S1x16384x1x32 : Shape := ⟨4, ![1, 16384, 1, 32]⟩
abbrev S1x16384x8x32 : Shape := ⟨4, ![1, 16384, 8, 32]⟩
abbrev S1x16384x1x64 : Shape := ⟨4, ![1, 16384, 1, 64]⟩
abbrev S16384x384 : Shape := ⟨2, ![16384, 384]⟩
abbrev S16384x256 : Shape := ⟨2, ![16384, 256]⟩
abbrev S16384x1024 : Shape := ⟨2, ![16384, 1024]⟩
abbrev S16384x1536 : Shape := ⟨2, ![16384, 1536]⟩
abbrev S16384x16 : Shape := ⟨2, ![16384, 16]⟩
abbrev S16384x8x192 : Shape := ⟨3, ![16384, 8, 192]⟩
abbrev S8x16384x192 : Shape := ⟨3, ![8, 16384, 192]⟩
abbrev S16384x8x128 : Shape := ⟨3, ![16384, 8, 128]⟩
abbrev S8x16384x128 : Shape := ⟨3, ![8, 16384, 128]⟩

abbrev nBuf : Space → Nat
  | .hbm => 153
  | .vmem => 0
  | .smem => 0
  | _ => 0

abbrev hbmTy0_0 (i : Nat) : BufTy := match i % 128 with
  | 0 => ⟨S1x16384x1024, .f32⟩
  | 1 => ⟨S1x3072, .f32⟩
  | 2 => ⟨S1024x4304, .f32⟩
  | 3 => ⟨S1x16384, .i32⟩
  | 4 => ⟨S1x384, .f32⟩
  | 5 => ⟨S384x1536, .f32⟩
  | 6 => ⟨S1x256, .f32⟩
  | 7 => ⟨S256x2048, .f32⟩
  | 8 => ⟨S1x1024, .f32⟩
  | 9 => ⟨S1x1024, .f32⟩
  | 10 => ⟨S1x1x1024, .f32⟩
  | 11 => ⟨S_, .f32⟩
  | 12 => ⟨S1x1x1024, .f32⟩
  | 13 => ⟨S1x1x1024, .f32⟩
  | 14 => ⟨S1x16384x1024, .f32⟩
  | 15 => ⟨S1x16384x1024, .f32⟩
  | 16 => ⟨S1x1x1024, .f32⟩
  | 17 => ⟨S1x16384x1024, .f32⟩
  | 18 => ⟨S1x16384x1024, .f32⟩
  | 19 => ⟨S1x16384x4304, .f32⟩
  | 20 => ⟨S1x16384x384, .f32⟩
  | 21 => ⟨S1x16384x256, .f32⟩
  | 22 => ⟨S1x16384x64, .f32⟩
  | 23 => ⟨S1x16384x1024, .f32⟩
  | 24 => ⟨S1x16384x1536, .f32⟩
  | 25 => ⟨S1x16384x16, .f32⟩
  | 26 => ⟨S1x16384x1024, .f32⟩
  | 27 => ⟨S384, .f32⟩
  | 28 => ⟨S1x16384x384, .f32⟩
  | 29 => ⟨S_, .f32⟩
  | 30 => ⟨S1x16384, .f32⟩
  | 31 => ⟨S1x16384x1, .f32⟩
  | 32 => ⟨S_, .f32⟩
  | 33 => ⟨S1x16384x1, .f32⟩
  | 34 => ⟨S1x16384x1, .f32⟩
  | 35 => ⟨S_, .f32⟩
  | 36 => ⟨S1x16384x1, .f32⟩
  | 37 => ⟨S1x16384x1, .f32⟩
  | 38 => ⟨S1x16384x1, .f32⟩
  | 39 => ⟨S1x16384x384, .f32⟩
  | 40 => ⟨S1x16384x384, .f32⟩
  | 41 => ⟨S1x1x384, .f32⟩
  | 42 => ⟨S1x16384x384, .f32⟩
  | 43 => ⟨S1x16384x384, .f32⟩
  | 44 => ⟨S1x16384x1536, .f32⟩
  | 45 => ⟨S1x16384x8x192, .f32⟩
  | 46 => ⟨S256, .f32⟩
  | 47 => ⟨S1x16384x256, .f32⟩
  | 48 => ⟨S_, .f32⟩
  | 49 => ⟨S1x16384, .f32⟩
  | 50 => ⟨S1x16384x1, .f32⟩
  | 51 => ⟨S_, .f32⟩
  | 52 => ⟨S1x16384x1, .f32⟩
  | 53 => ⟨S1x16384x1, .f32⟩
  | 54 => ⟨S_, .f32⟩
  | 55 => ⟨S1x16384x1, .f32⟩
  | 56 => ⟨S1x16384x1, .f32⟩
  | 57 => ⟨S1x16384x1, .f32⟩
  | 58 => ⟨S1x16384x256, .f32⟩
  | 59 => ⟨S1x16384x256, .f32⟩
  | 60 => ⟨S1x1x256, .f32⟩
  | 61 => ⟨S1x16384x256, .f32⟩
  | 62 => ⟨S1x16384x256, .f32⟩
  | 63 => ⟨S1x16384x2048, .f32⟩
  | 64 => ⟨S1x16384x8x256, .f32⟩
  | 65 => ⟨S1x16384x8x128, .f32⟩
  | 66 => ⟨S1x16384x8x64, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S1x16384, .f32⟩
  | 78 => ⟨S1x16384x1, .f32⟩
  | 79 => ⟨S1x1x32, .f32⟩
  | 80 => ⟨S1x16384x32, .f32⟩
  | 81 => ⟨S1x16384x32, .f32⟩
  | 82 => ⟨S1x16384x32, .f32⟩
  | 83 => ⟨S1x16384x32, .f32⟩
  | 84 => ⟨S1x16384x1x32, .f32⟩
  | 85 => ⟨S1x16384x32, .f32⟩
  | 86 => ⟨S1x16384x1x32, .f32⟩
  | 87 => ⟨S1x16384x8x32, .f32⟩
  | 88 => ⟨S1x16384x8x32, .f32⟩
  | 89 => ⟨S1x16384x8x32, .f32⟩
  | 90 => ⟨S1x16384x8x32, .f32⟩
  | 91 => ⟨S1x16384x8x32, .f32⟩
  | 92 => ⟨S1x16384x8x32, .f32⟩
  | 93 => ⟨S1x16384x8x32, .f32⟩
  | 94 => ⟨S1x16384x8x32, .f32⟩
  | 95 => ⟨S1x16384x8x32, .f32⟩
  | 96 => ⟨S1x16384x8x32, .f32⟩
  | 97 => ⟨S1x16384x8x32, .f32⟩
  | 98 => ⟨S1x16384x8x32, .f32⟩
  | 99 => ⟨S1x16384x8x64, .f32⟩
  | 100 => ⟨S1x16384x8x192, .f32⟩
  | 101 => ⟨S1x16384x1x64, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S1x16384, .f32⟩
  | 113 => ⟨S1x16384x1, .f32⟩
  | 114 => ⟨S1x1x32, .f32⟩
  | 115 => ⟨S1x16384x32, .f32⟩
  | 116 => ⟨S1x16384x32, .f32⟩
  | 117 => ⟨S1x16384x32, .f32⟩
  | 118 => ⟨S1x16384x32, .f32⟩
  | 119 => ⟨S1x16384x1x32, .f32⟩
  | 120 => ⟨S1x16384x32, .f32⟩
  | 121 => ⟨S1x16384x1x32, .f32⟩
  | 122 => ⟨S1x16384x1x32, .f32⟩
  | 123 => ⟨S1x16384x1x32, .f32⟩
  | 124 => ⟨S1x16384x1x32, .f32⟩
  | 125 => ⟨S1x16384x1x32, .f32⟩
  | 126 => ⟨S1x16384x1x32, .f32⟩
  | 127 => ⟨S1x16384x1x32, .f32⟩
  | _ => ⟨S1x16384x1024, .f32⟩

abbrev hbmTy0_1 (i : Nat) : BufTy := match i % 128 with
  | 0 => ⟨S1x16384x1x32, .f32⟩
  | 1 => ⟨S1x16384x1x32, .f32⟩
  | 2 => ⟨S1x16384x1x64, .f32⟩
  | 3 => ⟨S1x16384x8x128, .f32⟩
  | 4 => ⟨S1x16384x8x64, .f32⟩
  | 5 => ⟨S1x16384x8x192, .f32⟩
  | 6 => ⟨S16384x384, .f32⟩
  | 7 => ⟨S16384x256, .f32⟩
  | 8 => ⟨S16384x1024, .f32⟩
  | 9 => ⟨S16384x1536, .f32⟩
  | 10 => ⟨S16384x16, .f32⟩
  | 11 => ⟨S16384x1024, .f32⟩
  | 12 => ⟨S_, .f32⟩
  | 13 => ⟨S1x16384x8x192, .f32⟩
  | 14 => ⟨S1x16384x8x192, .f32⟩
  | 15 => ⟨S16384x8x192, .f32⟩
  | 16 => ⟨S8x16384x192, .f32⟩
  | 17 => ⟨S8x16384x192, .bf16⟩
  | 18 => ⟨S16384x8x192, .f32⟩
  | 19 => ⟨S8x16384x192, .f32⟩
  | 20 => ⟨S8x16384x192, .bf16⟩
  | 21 => ⟨S1x16384x8x128, .f32⟩
  | 22 => ⟨S16384x8x128, .f32⟩
  | 23 => ⟨S8x16384x128, .f32⟩
  | 24 => ⟨S8x16384x128, .bf16⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_9 : Ref sig .tc := ⟨.hbm, 103, rfl⟩
abbrev main_v85 : Ref sig .tc := ⟨.hbm, 104, rfl⟩
abbrev main_v86 : Ref sig .tc := ⟨.hbm, 105, rfl⟩
abbrev main_cst_10 : Ref sig .tc := ⟨.hbm, 106, rfl⟩
abbrev main_v87 : Ref sig .tc := ⟨.hbm, 107, rfl⟩
abbrev main_v88 : Ref sig .tc := ⟨.hbm, 108, rfl⟩
abbrev main_cst_11 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_cst_12 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩

abbrev nD : Nat := 1
abbrev τ : Topo := Topo.v7x

variable {F : FTy → Type} [FloatOps F]
-- ==== SsdFwd.lean ====
abbrev S1x16384x1536 : Shape := ⟨3, ![1, 16384, 1536]⟩
abbrev S1x16384x16 : Shape := ⟨3, ![1, 16384, 16]⟩
abbrev S1x16384x1024 : Shape := ⟨3, ![1, 16384, 1024]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S_ : Shape := ⟨0, ![]⟩
abbrev S1x112 : Shape := ⟨2, ![1, 112]⟩
abbrev S1x128 : Shape := ⟨2, ![1, 128]⟩
abbrev S16 : Shape := ⟨1, ![16]⟩
abbrev S16x64 : Shape := ⟨2, ![16, 64]⟩
abbrev S1024 : Shape := ⟨1, ![1024]⟩
abbrev S16384x16 : Shape := ⟨2, ![16384, 16]⟩
abbrev S16384x112 : Shape := ⟨2, ![16384, 112]⟩
abbrev S16384x128 : Shape := ⟨2, ![16384, 128]⟩
abbrev S16384x1536 : Shape := ⟨2, ![16384, 1536]⟩
abbrev S16384x1024 : Shape := ⟨2, ![16384, 1024]⟩
abbrev S128x128 : Shape := ⟨2, ![128, 128]⟩
abbrev S128x1024 : Shape := ⟨2, ![128, 1024]⟩
abbrev S128x128x1024 : Shape := ⟨3, ![128, 128, 1024]⟩
abbrev S512x1536 : Shape := ⟨2, ![512, 1536]⟩
abbrev S8x1536 : Shape := ⟨2, ![8, 1536]⟩
abbrev S512x128 : Shape := ⟨2, ![512, 128]⟩
abbrev S512x1024 : Shape := ⟨2, ![512, 1024]⟩
abbrev S4x128x1024 : Shape := ⟨3, ![4, 128, 1024]⟩
abbrev S136x1536 : Shape := ⟨2, ![136, 1536]⟩
abbrev S128x1536 : Shape := ⟨2, ![128, 1536]⟩
abbrev S1x128x1024 : Shape := ⟨3, ![1, 128, 1024]⟩
abbrev S128x512 : Shape := ⟨2, ![128, 512]⟩
abbrev S1x512 : Shape := ⟨2, ![1, 512]⟩
abbrev S128x1 : Shape := ⟨2, ![128, 1]⟩
abbrev S128 : Shape := ⟨1, ![128]⟩

abbrev nBuf : Space → Nat
  | .hbm => 50
  | .vmem => 26
  | .smem => 0
  | _ => 0

abbrev bufTy : (tb : Table) → Fin (tcTables nBuf tb) → BufTy
  | .hbm, ⟨0, _⟩ => ⟨S1x16384x1536, .f32⟩
  | .hbm, ⟨1, _⟩ => ⟨S1x16384x16, .f32⟩
  | .hbm, ⟨2, _⟩ => ⟨S1x16384x1024, .f32⟩
  | .hbm, ⟨3, _⟩ => ⟨S4x1536, .f32⟩
  | .hbm, ⟨4, _⟩ => ⟨S1x1536, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x1024, .f32⟩
  | .hbm, ⟨9, _⟩ => ⟨S_, .f32⟩
  | .hbm, ⟨10, _⟩ => ⟨S1x112, .f32⟩
  | .hbm, ⟨11, _⟩ => ⟨S1x128, .f32⟩
  | .hbm, ⟨12, _⟩ => ⟨S_, .f32⟩
  | .hbm, ⟨13, _⟩ => ⟨S1x112, .f32⟩
  | .hbm, ⟨14, _⟩ => ⟨S1x128, .f32⟩
  | .hbm, ⟨15, _⟩ => ⟨S16, .f32⟩
  | .hbm, ⟨16, _⟩ => ⟨S16x64, .f32⟩
  | .hbm, ⟨17, _⟩ => ⟨S1024, .f32⟩
  | .hbm, ⟨18, _⟩ => ⟨S1x1024, .f32⟩
  | .hbm, ⟨19, _⟩ => ⟨S16384x16, .f32⟩
  | .hbm, ⟨20, _⟩ => ⟨S_, .f32⟩
  | .hbm, ⟨21, _⟩ => ⟨S16384x112, .f32⟩
  | .hbm, ⟨22, _⟩ => ⟨S16384x128, .f32⟩
  | .hbm, ⟨23, _⟩ => ⟨S16384x1536, .f32⟩
  | .hbm, ⟨24, _⟩ => ⟨S16384x1024, .f32⟩
  | .hbm, ⟨25, _⟩ => ⟨S128x128, .i32⟩
  | .hbm, ⟨26, _⟩ => ⟨S128x128, .i32⟩
  | .hbm, ⟨27, _⟩ => ⟨S128x1024, .i32⟩
  | .hbm, ⟨28, _⟩ => ⟨S128x1024, .i32⟩
  | .hbm, ⟨29, _⟩ => ⟨S_, .i32⟩
  | .hbm, ⟨30, _⟩ => ⟨S128x1024, .i32⟩
  | .hbm, ⟨31, _⟩ => ⟨S128x1024, .i32⟩
  | .hbm, ⟨32, _⟩ => ⟨S128x1024, .i1⟩
  | .hbm, ⟨33, _⟩ => ⟨S_, .i32⟩
  | .hbm, ⟨34, _⟩ => ⟨S128x1024, .i32⟩
  | .hbm, ⟨35, _⟩ => ⟨S128x1024, .i32⟩
  | .hbm, ⟨36, _⟩ => ⟨S_, .i32⟩
  | .hbm, ⟨37, _⟩ => ⟨S128x1024, .i32⟩
  | .hbm, ⟨38, _⟩ => ⟨S128x1024, .i32⟩
  | .hbm, ⟨39, _⟩ => ⟨S128x1024, .i1⟩
  | .hbm, ⟨40, _⟩ => ⟨S128x1024, .i1⟩
  | .hbm, ⟨41, _⟩ => ⟨S128x128, .i1⟩
  | .hbm, ⟨42, _⟩ => ⟨S128x128, .bf16⟩
  | .hbm, ⟨43, _⟩ => ⟨S128x128, .i1⟩
  | .hbm, ⟨44, _⟩ => ⟨S128x128, .bf16⟩
  | .hbm, ⟨45, _⟩ => ⟨S128x1024, .bf16⟩
  | .hbm, ⟨46, _⟩ => ⟨S16384x1536, .f32⟩
  | .hbm, ⟨47, _⟩ => ⟨S16384x1024, .f32⟩
  | .hbm, ⟨48, _⟩ => ⟨S128x128x1024, .f32⟩
  | .hbm, ⟨49, _⟩ => ⟨S16384x1024, .bf16⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S512x128, .f32⟩
  | .local _ .vmem, ⟨5, _⟩ => ⟨S512x128, .f32⟩
  | .local _ .vmem, ⟨6, _⟩ => ⟨S512x1024, .f32⟩
  | .local _ .vmem, ⟨7, _⟩ => ⟨S512x1024, .f32⟩
  | .local _ .vmem, ⟨8, _⟩ => ⟨S4x1536, .f32⟩
  | .local _ .vmem, ⟨9, _⟩ => ⟨S1x1536, .f32⟩
  | .local _ .vmem, ⟨10, _⟩ => ⟨S1x128, .f32⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | .local _ .vmem, ⟨14, _⟩ => ⟨S128x128, .bf16⟩
  | .local _ .vmem, ⟨15, _⟩ => ⟨S128x1024, .bf16⟩
  | .local _ .vmem, ⟨16, _⟩ => ⟨S512x1536, .f32⟩
  | .local _ .vmem, ⟨17, _⟩ => ⟨S512x1536, .f32⟩
  | .local _ .vmem, ⟨18, _⟩ => ⟨S512x1024, .f32⟩
  | .local _ .vmem, ⟨19, _⟩ => ⟨S512x1024, .f32⟩
  | .local _ .vmem, ⟨20, _⟩ => ⟨S4x128x1024, .f32⟩
  | .local _ .vmem, ⟨21, _⟩ => ⟨S4x128x1024, .f32⟩
  | .local _ .vmem, ⟨22, _⟩ => ⟨S512x1024, .bf16⟩
  | .local _ .vmem, ⟨23, _⟩ => ⟨S512x1024, .bf16⟩
  | .local _ .vmem, ⟨24, _⟩ => ⟨S128x1024, .f32⟩
  | .local _ .vmem, ⟨25, _⟩ => ⟨S136x1536, .f32⟩
  | _, _ => ⟨S1x16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_v31_2 : Ref sig .tc := ⟨.hbm, 48, rfl⟩
abbrev main_v31_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== SsdFwdRefIdeal.lean ====
abbrev S1x16384x1536 : Shape := ⟨3, ![1, 16384, 1536]⟩
abbrev S1x16384x16 : Shape := ⟨3, ![1, 16384, 16]⟩
abbrev S1x16384x1024 : Shape := ⟨3, ![1, 16384, 1024]⟩
abbrev S4x1536 : Shape := ⟨2, ![4, 1536]⟩
abbrev S1x1536 : Shape := ⟨2, ![1, 1536]⟩
abbrev S1x16 : Shape := ⟨2, ![1, 16]⟩
abbrev S1x1024 : Shape := ⟨2, ![1, 1024]⟩
abbrev S_ : Shape := ⟨0, ![]⟩
abbrev S1x16387x1536 : Shape := ⟨3, ![1, 16387, 1536]⟩
abbrev S1536 : Shape := ⟨1, ![1536]⟩
abbrev S1x1x1536 : Shape := ⟨3, ![1, 1, 1536]⟩
abbrev S16384x1536 : Shape := ⟨2, ![16384, 1536]⟩

abbrev nBuf : Space → Nat
  | .hbm => 46
  | .vmem => 0
  | .smem => 0
  | _ => 0

abbrev bufTy : (tb : Table) → Fin (tcTables nBuf tb) → BufTy
  | .hbm, ⟨0, _⟩ => ⟨S1x16384x1536, .f32⟩
  | .hbm, ⟨1, _⟩ => ⟨S1x16384x16, .f32⟩
  | .hbm, ⟨2, _⟩ => ⟨S1x16384x1024, .f32⟩
  | .hbm, ⟨3, _⟩ => ⟨S4x1536, .f32⟩
  | .hbm, ⟨4, _⟩ => ⟨S1x1536, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x1024, .f32⟩
  | .hbm, ⟨9, _⟩ => ⟨S_, .i32⟩
  | .hbm, ⟨10, _⟩ => ⟨S_, .f32⟩
  | .hbm, ⟨11, _⟩ => ⟨S1x16387x1536, .f32⟩
  | .hbm, ⟨12, _⟩ => ⟨S1x16384x1536, .f32⟩
  | .hbm, ⟨13, _⟩ => ⟨S1x1536, .f32⟩
  | .hbm, ⟨14, _⟩ => ⟨S1536, .f32⟩
  | .hbm, ⟨15, _⟩ => ⟨S1x1x1536, .f32⟩
  | .hbm, ⟨16, _⟩ => ⟨S1x16384x1536, .f32⟩
  | .hbm, ⟨17, _⟩ => ⟨S1x16384x1536, .f32⟩
  | .hbm, ⟨18, _⟩ => ⟨S_, .f32⟩
  | .hbm, ⟨19, _⟩ => ⟨S1x16384x1536, .f32⟩
  | .hbm, ⟨20, _⟩ => ⟨S1x16384x1536, .f32⟩
  | .hbm, ⟨21, _⟩ => ⟨S1x16384x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S1x16384x1536, .f32⟩
  | .hbm, ⟨26, _⟩ => ⟨S1x16384x1536, .f32⟩
  | .hbm, ⟨27, _⟩ => ⟨S1x16384x1536, .f32⟩
  | .hbm, ⟨28, _⟩ => ⟨S1x16384x1536, .f32⟩
  | .hbm, ⟨29, _⟩ => ⟨S1x1536, .f32⟩
  | .hbm, ⟨30, _⟩ => ⟨S1536, .f32⟩
  | .hbm, ⟨31, _⟩ => ⟨S1x1x1536, .f32⟩
  | .hbm, ⟨32, _⟩ => ⟨S1x16384x1536, .f32⟩
  | .hbm, ⟨33, _⟩ => ⟨S1x16384x1536, .f32⟩
  | .hbm, ⟨34, _⟩ => ⟨S1x16384x1536, .f32⟩
  | .hbm, ⟨35, _⟩ => ⟨S1x16384x1536, .f32⟩
  | .hbm, ⟨36, _⟩ => ⟨S1x1536, .f32⟩
  | .hbm, ⟨37, _⟩ => ⟨S1536, .f32⟩
  | .hbm, ⟨38, _⟩ => ⟨S1x1x1536, .f32⟩
  | .hbm, ⟨39, _⟩ => ⟨S1x16384x1536, .f32⟩
  | .hbm, ⟨40, _⟩ => ⟨S1x16384x1536, .f32⟩
  | .hbm, ⟨41, _⟩ => ⟨S1x16384x1536, .f32⟩
  | .hbm, ⟨42, _⟩ => ⟨S1x1x1536, .f32⟩
  | .hbm, ⟨43, _⟩ => ⟨S1x16384x1536, .f32⟩
  | .hbm, ⟨44, _⟩ => ⟨S1x16384x1536, .f32⟩
  | .hbm, ⟨45, _⟩ => ⟨S16384x1536, .f32⟩
  | _, _ => ⟨S1x16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== SsdBwd.lean ====
abbrev S1x16384x1536 : Shape := ⟨3, ![1, 16384, 1536]⟩
abbrev S16384x1536 : Shape := ⟨2, ![16384, 1536]⟩
abbrev S1x16384x16 : Shape := ⟨3, ![1, 16384, 16]⟩
abbrev S1x16384x1024 : Shape := ⟨3, ![1, 16384, 1024]⟩
abbrev S16384x1024 : Shape := ⟨2, ![16384, 1024]⟩
abbrev S128x128x1024 : Shape := ⟨3, ![128, 128, 1024]⟩
abbrev S4x1536 : Shape := ⟨2, ![4, 1536]⟩
abbrev S1x16 : Shape := ⟨2, ![1, 16]⟩
abbrev S1x1024 : Shape := ⟨2, ![1, 1024]⟩
abbrev S_ : Shape := ⟨0, ![]⟩
abbrev S1x112 : Shape := ⟨2, ![1, 112]⟩
abbrev S1x128 : Shape := ⟨2, ![1, 128]⟩
abbrev S16 : Shape := ⟨1, ![16]⟩
abbrev S16x64 : Shape := ⟨2, ![16, 64]⟩
abbrev S1024 : Shape := ⟨1, ![1024]⟩
abbrev S16384x16 : Shape := ⟨2, ![16384, 16]⟩
abbrev S16384x112 : Shape := ⟨2, ![16384, 112]⟩
abbrev S16384x128 : Shape := ⟨2, ![16384, 128]⟩
abbrev S128x128 : Shape := ⟨2, ![128, 128]⟩
abbrev S128x1024 : Shape := ⟨2, ![128, 1024]⟩
abbrev S1x1536 : Shape := ⟨2, ![1, 1536]⟩
abbrev S8x128 : Shape := ⟨2, ![8, 128]⟩
abbrev S512x1536 : Shape := ⟨2, ![512, 1536]⟩
abbrev S512x128 : Shape := ⟨2, ![512, 128]⟩
abbrev S512x1024 : Shape := ⟨2, ![512, 1024]⟩
abbrev S4x128x1024 : Shape := ⟨3, ![4, 128, 1024]⟩
abbrev S136x1536 : Shape := ⟨2, ![136, 1536]⟩
abbrev S8x1536 : Shape := ⟨2, ![8, 1536]⟩
abbrev S128x1536 : Shape := ⟨2, ![128, 1536]⟩
abbrev S128x512 : Shape := ⟨2, ![128, 512]⟩
abbrev S128 : Shape := ⟨1, ![128]⟩
abbrev S128x1 : Shape := ⟨2, ![128, 1]⟩
abbrev S1x128x1024 : Shape := ⟨3, ![1, 128, 1024]⟩
abbrev S1x512 : Shape := ⟨2, ![1, 512]⟩
abbrev S512 : Shape := ⟨1, ![512]⟩
abbrev S8x1024 : Shape := ⟨2, ![8, 1024]⟩
abbrev S1536 : Shape := ⟨1, ![1536]⟩

abbrev nBuf : Space → Nat
  | .hbm => 57
  | .vmem => 35
  | .smem => 0
  | _ => 0

abbrev bufTy : (tb : Table) → Fin (tcTables nBuf tb) → BufTy
  | .hbm, ⟨0, _⟩ => ⟨S1x16384x1536, .f32⟩
  | .hbm, ⟨1, _⟩ => ⟨S16384x1536, .f32⟩
  | .hbm, ⟨2, _⟩ => ⟨S1x16384x16, .f32⟩
  | .hbm, ⟨3, _⟩ => ⟨S1x16384x1024, .f32⟩
  | .hbm, ⟨4, _⟩ => ⟨S16384x1024, .f32⟩
  | .hbm, ⟨5, _⟩ => ⟨S128x128x1024, .f32⟩
  | .hbm, ⟨6, _⟩ => ⟨S16384x1024, .f32⟩
  | .hbm, ⟨7, _⟩ => ⟨S4x1536, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S1x1024, .f32⟩
  | .hbm, ⟨12, _⟩ => ⟨S_, .f32⟩
  | .hbm, ⟨13, _⟩ => ⟨S1x112, .f32⟩
  | .hbm, ⟨14, _⟩ => ⟨S1x128, .f32⟩
  | .hbm, ⟨15, _⟩ => ⟨S_, .f32⟩
  | .hbm, ⟨16, _⟩ => ⟨S1x112, .f32⟩
  | .hbm, ⟨17, _⟩ => ⟨S1x128, .f32⟩
  | .hbm, ⟨18, _⟩ => ⟨S16, .f32⟩
  | .hbm, ⟨19, _⟩ => ⟨S16x64, .f32⟩
  | .hbm, ⟨20, _⟩ => ⟨S1024, .f32⟩
  | .hbm, ⟨21, _⟩ => ⟨S1x1024, .f32⟩
  | .hbm, ⟨22, _⟩ => ⟨S16384x16, .f32⟩
  | .hbm, ⟨23, _⟩ => ⟨S_, .f32⟩
  | .hbm, ⟨24, _⟩ => ⟨S16384x112, .f32⟩
  | .hbm, ⟨25, _⟩ => ⟨S16384x128, .f32⟩
  | .hbm, ⟨26, _⟩ => ⟨S16384x1536, .f32⟩
  | .hbm, ⟨27, _⟩ => ⟨S16384x1024, .f32⟩
  | .hbm, ⟨28, _⟩ => ⟨S16384x1024, .bf16⟩
  | .hbm, ⟨29, _⟩ => ⟨S128x128, .i32⟩
  | .hbm, ⟨30, _⟩ => ⟨S128x128, .i32⟩
  | .hbm, ⟨31, _⟩ => ⟨S128x1024, .i32⟩
  | .hbm, ⟨32, _⟩ => ⟨S128x1024, .i32⟩
  | .hbm, ⟨33, _⟩ => ⟨S_, .i32⟩
  | .hbm, ⟨34, _⟩ => ⟨S128x1024, .i32⟩
  | .hbm, ⟨35, _⟩ => ⟨S128x1024, .i32⟩
  | .hbm, ⟨36, _⟩ => ⟨S128x1024, .i1⟩
  | .hbm, ⟨37, _⟩ => ⟨S_, .i32⟩
  | .hbm, ⟨38, _⟩ => ⟨S128x1024, .i32⟩
  | .hbm, ⟨39, _⟩ => ⟨S128x1024, .i32⟩
  | .hbm, ⟨40, _⟩ => ⟨S_, .i32⟩
  | .hbm, ⟨41, _⟩ => ⟨S128x1024, .i32⟩
  | .hbm, ⟨42, _⟩ => ⟨S128x1024, .i32⟩
  | .hbm, ⟨43, _⟩ => ⟨S128x1024, .i1⟩
  | .hbm, ⟨44, _⟩ => ⟨S128x1024, .i1⟩
  | .hbm, ⟨45, _⟩ => ⟨S128x128, .i1⟩
  | .hbm, ⟨46, _⟩ => ⟨S128x128, .bf16⟩
  | .hbm, ⟨47, _⟩ => ⟨S128x128, .i1⟩
  | .hbm, ⟨48, _⟩ => ⟨S128x128, .bf16⟩
  | .hbm, ⟨49, _⟩ => ⟨S128x1024, .bf16⟩
  | .hbm, ⟨50, _⟩ => ⟨S16384x1536, .bf16⟩
  | .hbm, ⟨51, _⟩ => ⟨S16384x128, .bf16⟩
  | .hbm, ⟨52, _⟩ => ⟨S16384x1024, .bf16⟩
  | .hbm, ⟨53, _⟩ => ⟨S4x1536, .f32⟩
  | .hbm, ⟨54, _⟩ => ⟨S1x1536, .f32⟩
  | .hbm, ⟨55, _⟩ => ⟨S8x128, .f32⟩
  | .hbm, ⟨56, _⟩ => ⟨S1x1024, .f32⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S512x128, .f32⟩
  | .local _ .vmem, ⟨5, _⟩ => ⟨S512x128, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S4x128x1024, .f32⟩
  | .local _ .vmem, ⟨11, _⟩ => ⟨S4x128x1024, .f32⟩
  | .local _ .vmem, ⟨12, _⟩ => ⟨S512x1024, .bf16⟩
  | .local _ .vmem, ⟨13, _⟩ => ⟨S512x1024, .bf16⟩
  | .local _ .vmem, ⟨14, _⟩ => ⟨S4x1536, .f32⟩
  | .local _ .vmem, ⟨15, _⟩ => ⟨S1x128, .f32⟩
  | .local _ .vmem, ⟨16, _⟩ => ⟨S1x128, .f32⟩
  | .local _ .vmem, ⟨17, _⟩ => ⟨S1x1024, .f32⟩
  | .local _ .vmem, ⟨18, _⟩ => ⟨S1x1024, .f32⟩
  | .local _ .vmem, ⟨19, _⟩ => ⟨S128x128, .bf16⟩
  | .local _ .vmem, ⟨20, _⟩ => ⟨S128x128, .bf16⟩
  | .local _ .vmem, ⟨21, _⟩ => ⟨S128x1024, .bf16⟩
  | .local _ .vmem, ⟨22, _⟩ => ⟨S512x1536, .bf16⟩
  | .local _ .vmem, ⟨23, _⟩ => ⟨S512x1536, .bf16⟩
  | .local _ .vmem, ⟨24, _⟩ => ⟨S512x128, .bf16⟩
  | .local _ .vmem, ⟨25, _⟩ => ⟨S512x128, .bf16⟩
  | .local _ .vmem, ⟨26, _⟩ => ⟨S512x1024, .bf16⟩
  | .local _ .vmem, ⟨27, _⟩ => ⟨S512x1024, .bf16⟩
  | .local _ .vmem, ⟨28, _⟩ => ⟨S4x1536, .f32⟩
  | .local _ .vmem, ⟨29, _⟩ => ⟨S1x1536, .f32⟩
  | .local _ .vmem, ⟨30, _⟩ => ⟨S8x128, .f32⟩
  | .local _ .vmem, ⟨31, _⟩ => ⟨S1x1024, .f32⟩
  | .local _ .vmem, ⟨32, _⟩ => ⟨S128x1024, .f32⟩
  | .local _ .vmem, ⟨33, _⟩ => ⟨S136x1536, .f32⟩
  | .local _ .vmem, ⟨34, _⟩ => ⟨S1x1024, .f32⟩
  | _, _ => ⟨S1x16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32_0 : Ref sig .tc := ⟨.hbm, 50, rfl⟩
abbrev main_v32_1 : Ref sig .tc := ⟨.hbm, 51, rfl⟩
abbrev main_v32_2 : Ref sig .tc := ⟨.hbm, 52, rfl⟩
abbrev main_v32_3 : Ref sig .tc := ⟨.hbm, 53, rfl⟩
abbrev main_v32_4 : Ref sig .tc := ⟨.hbm, 54, rfl⟩
abbrev main_v32_5 : Ref sig .tc := ⟨.hbm, 55, rfl⟩
abbrev main_v32_6 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem19_0 : DmaSem sig := 29
abbrev cc0_sem20_0 : DmaSem sig := 30
abbrev cc0_sem21_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S4x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1536 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Ada.lean ====
abbrev S8x1024 : Shape := ⟨2, ![8, 1024]⟩
abbrev S1024x768 : Shape := ⟨2, ![1024, 768]⟩
abbrev S8x768 : Shape := ⟨2, ![8, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaRefIdeal.lean ====
abbrev S8x1024 : Shape := ⟨2, ![8, 1024]⟩
abbrev S1024x768 : Shape := ⟨2, ![1024, 768]⟩
abbrev S8x768 : Shape := ⟨2, ![8, 768]⟩

abbrev nBuf : Space → Nat
  | .hbm => 3
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdaGrad.lean ====
abbrev S8x1024 : Shape := ⟨2, ![8, 1024]⟩
abbrev S1024x768 : Shape := ⟨2, ![1024, 768]⟩
abbrev S8x768 : Shape := ⟨2, ![8, 768]⟩
abbrev S1024x8 : Shape := ⟨2, ![1024, 8]⟩
abbrev S1x1024x768 : Shape := ⟨3, ![1, 1024, 768]⟩
abbrev S1024x1 : Shape := ⟨2, ![1024, 1]⟩
abbrev S1x768 : Shape := ⟨2, ![1, 768]⟩

abbrev nBuf : Space → Nat
  | .hbm => 6
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S8x768, .f32⟩
  | .hbm, ⟨3, _⟩ => ⟨S1024x8, .f32⟩
  | .hbm, ⟨4, _⟩ => ⟨S1x1024x768, .f32⟩
  | .hbm, ⟨5, _⟩ => ⟨S1024x768, .f32⟩
  | .local _ .vmem, ⟨0, _⟩ => ⟨S1024x8, .f32⟩
  | .local _ .vmem, ⟨1, _⟩ => ⟨S8x768, .f32⟩
  | .local _ .vmem, ⟨2, _⟩ => ⟨S1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaGradRefIdeal.lean ====
abbrev S8x1024 : Shape := ⟨2, ![8, 1024]⟩
abbrev S1024x768 : Shape := ⟨2, ![1024, 768]⟩
abbrev S8x768 : Shape := ⟨2, ![8, 768]⟩
abbrev S768x1024 : Shape := ⟨2, ![768, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S8x768, .f32⟩
  | .hbm, ⟨3, _⟩ => ⟨S8x768, .f32⟩
  | .hbm, ⟨4, _⟩ => ⟨S768x1024, .f32⟩
  | .hbm, ⟨5, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AdamW.lean ====
abbrev S8x1024x1076 : Shape := ⟨3, ![8, 1024, 1076]⟩
abbrev S1024x1076 : Shape := ⟨2, ![1024, 1076]⟩
abbrev S8x128x1076 : Shape := ⟨3, ![8, 128, 1076]⟩
abbrev S128x1076 : Shape := ⟨2, ![128, 1076]⟩
abbrev S1x128x1076 : Shape := ⟨3, ![1, 128, 1076]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1076, .bf16⟩
  | .hbm, ⟨1, _⟩ => ⟨S1024x1076, .f32⟩
  | .hbm, ⟨2, _⟩ => ⟨S1024x1076, .f32⟩
  | .hbm, ⟨3, _⟩ => ⟨S1024x1076, .f32⟩
  | .hbm, ⟨4, _⟩ => ⟨S1024x1076, .f32⟩
  | .hbm, ⟨5, _⟩ => ⟨S1024x1076, .f32⟩
  | .hbm, ⟨6, _⟩ => ⟨S1024x1076, .f32⟩
  | .hbm, ⟨7, _⟩ => ⟨S1024x1076, .f32⟩
  | .local _ .vmem, ⟨0, _⟩ => ⟨S8x128x1076, .bf16⟩
  | .local _ .vmem, ⟨1, _⟩ => ⟨S8x128x1076, .bf16⟩
  | .local _ .vmem, ⟨2, _⟩ => ⟨S128x1076, .f32⟩
  | .local _ .vmem, ⟨3, _⟩ => ⟨S128x1076, .f32⟩
  | .local _ .vmem, ⟨4, _⟩ => ⟨S128x1076, .f32⟩
  | .local _ .vmem, ⟨5, _⟩ => ⟨S128x1076, .f32⟩
  | .local _ .vmem, ⟨6, _⟩ => ⟨S128x1076, .f32⟩
  | .local _ .vmem, ⟨7, _⟩ => ⟨S128x1076, .f32⟩
  | .local _ .vmem, ⟨8, _⟩ => ⟨S128x1076, .f32⟩
  | .local _ .vmem, ⟨9, _⟩ => ⟨S128x1076, .f32⟩
  | .local _ .vmem, ⟨10, _⟩ => ⟨S128x1076, .f32⟩
  | .local _ .vmem, ⟨11, _⟩ => ⟨S128x1076, .f32⟩
  | .local _ .vmem, ⟨12, _⟩ => ⟨S128x1076, .f32⟩
  | .local _ .vmem, ⟨13, _⟩ => ⟨S128x1076, .f32⟩
  | .local _ .vmem, ⟨14, _⟩ => ⟨S128x1076, .f32⟩
  | .local _ .vmem, ⟨15, _⟩ => ⟨S128x1076, .f32⟩
  | _, _ => ⟨S8x1024x1076, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1076 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1076 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1076 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1076 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1076 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1076 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1076 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1076 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S8x1024x1076 : Shape := ⟨3, ![8, 1024, 1076]⟩
abbrev S1024x1076 : Shape := ⟨2, ![1024, 1076]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1076, .bf16⟩
  | .hbm, ⟨1, _⟩ => ⟨S1024x1076, .f32⟩
  | .hbm, ⟨2, _⟩ => ⟨S1024x1076, .f32⟩
  | .hbm, ⟨3, _⟩ => ⟨S1024x1076, .f32⟩
  | .hbm, ⟨4, _⟩ => ⟨S8x1024x1076, .f32⟩
  | .hbm, ⟨5, _⟩ => ⟨S_, .f32⟩
  | .hbm, ⟨6, _⟩ => ⟨S1024x1076, .f32⟩
  | .hbm, ⟨7, _⟩ => ⟨S_, .f32⟩
  | .hbm, ⟨8, _⟩ => ⟨S1024x1076, .f32⟩
  | .hbm, ⟨9, _⟩ => ⟨S1024x1076, .f32⟩
  | .hbm, ⟨10, _⟩ => ⟨S_, .f32⟩
  | .hbm, ⟨11, _⟩ => ⟨S1024x1076, .f32⟩
  | .hbm, ⟨12, _⟩ => ⟨S1024x1076, .f32⟩
  | .hbm, ⟨13, _⟩ => ⟨S1024x1076, .f32⟩
  | .hbm, ⟨14, _⟩ => ⟨S_, .f32⟩
  | .hbm, ⟨15, _⟩ => ⟨S1024x1076, .f32⟩
  | .hbm, ⟨16, _⟩ => ⟨S1024x1076, .f32⟩
  | .hbm, ⟨17, _⟩ => ⟨S1024x1076, .f32⟩
  | .hbm, ⟨18, _⟩ => ⟨S_, .f32⟩
  | .hbm, ⟨19, _⟩ => ⟨S1024x1076, .f32⟩
  | .hbm, ⟨20, _⟩ => ⟨S1024x1076, .f32⟩
  | .hbm, ⟨21, _⟩ => ⟨S1024x1076, .f32⟩
  | .hbm, ⟨22, _⟩ => ⟨S_, .f32⟩
  | .hbm, ⟨23, _⟩ => ⟨S1024x1076, .f32⟩
  | .hbm, ⟨24, _⟩ => ⟨S1024x1076, .f32⟩
  | .hbm, ⟨25, _⟩ => ⟨S_, .f32⟩
  | .hbm, ⟨26, _⟩ => ⟨S1024x1076, .f32⟩
  | .hbm, ⟨27, _⟩ => ⟨S1024x1076, .f32⟩
  | .hbm, ⟨28, _⟩ => ⟨S1024x1076, .f32⟩
  | .hbm, ⟨29, _⟩ => ⟨S_, .f32⟩
  | .hbm, ⟨30, _⟩ => ⟨S1024x1076, .f32⟩
  | .hbm, ⟨31, _⟩ => ⟨S1024x1076, .f32⟩
  | .hbm, ⟨32, _⟩ => ⟨S1024x1076, .f32⟩
  | .hbm, ⟨33, _⟩ => ⟨S_, .f32⟩
  | .hbm, ⟨34, _⟩ => ⟨S1024x1076, .f32⟩
  | .hbm, ⟨35, _⟩ => ⟨S1024x1076, .f32⟩
  | .hbm, ⟨36, _⟩ => ⟨S1024x1076, .f32⟩
  | .hbm, ⟨37, _⟩ => ⟨S_, .f32⟩
  | .hbm, ⟨38, _⟩ => ⟨S1024x1076, .f32⟩
  | .hbm, ⟨39, _⟩ => ⟨S1024x1076, .f32⟩
  | _, _ => ⟨S8x1024x1076, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.InEntry.lean ====
module
public import proofs.«01_k».proof.Proof.Gen.InGradIdeal.Frame
public import Idealize.ShloMosaic.Lib.Pipeline.ValueKit
public import Idealize.ShloMosaic.Lib.Pointwise
/-! # What the input projection's backward kernel is handed

The kernel works on the columns of the projection in an order of its own: seven pieces, the two narrow ones filled up
with zero columns to 128.  `padded` is that order, for any row of 4304 entries.  This module reads every operand of the
launch, and every block of it, as entries of the program's arguments. -/
@[expose] public section
set_option maxRecDepth 16384
noncomputable section
namespace Cert.InGradIdeal.Val
open Idealize.ShloMosaic Idealize.ShloMosaic.TcCoe Idealize.SL.Sem
open Cert.InGradIdeal Cert.InGradIdeal.Gen

/-- A row of 4304 columns in the kernel's order of 4480 columns, zero in the columns that fill a piece up. -/
def padded (f : Fin 4304 → EReal) (k : Fin 4480) : EReal :=
  if h : k.val < 640 then f ⟨k.val, by omega⟩
  else if h1 : k.val < 3200 then f ⟨k.val + 64, by omega⟩
  else if h2 : k.val < 4224 then f ⟨k.val + 80, by omega⟩
  else if h3 : k.val < 4288 then f ⟨k.val - 3584, by omega⟩
  else if h4 : 4352 ≤ k.val ∧ k.val < 4368 then f ⟨k.val - 1088, by omega⟩ else 0

/-- Where column `j` stands in the padded order, `padded f` is `f j`. -/
theorem padded_of (f : Fin 4304 → EReal) (k : Fin 4480) (j : Fin 4304)
    (h : k.val < 640 ∧ j.val = k.val ∨ 640 ≤ k.val ∧ k.val < 3200 ∧ j.val = k.val + 64 ∨ 3200 ≤ k.val ∧ k.val < 4224 ∧ j.val = k.val + 80
      ∨ 4224 ≤ k.val ∧ k.val < 4288 ∧ j.val + 3584 = k.val ∨ 4352 ≤ k.val ∧ k.val < 4368 ∧ j.val + 1088 = k.val) :
    padded f k = f j := by
  unfold padded
  split_ifs <;> first | (exact congrArg f (Fin.ext (by simp only; omega))) | omega

/-- The other columns are zero. -/
theorem padded_zero (f : Fin 4304 → EReal) (k : Fin 4480) (h : 4288 ≤ k.val ∧ k.val < 4352 ∨ 4368 ≤ k.val) : padded f k = 0 := by
  unfold padded
  split_ifs <;> first | rfl | omega

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0] :=
  (by decide +kernel : ∀ t : Fin grid0.N, _)

theorem lt_tok (t : Fin cfg0.N) (r : Fin 256) : t.val * 256 + r.val < 16384 := by
  have := lt_of_lt_of_eq t.isLt (show cfg0.N = 64 from N_0); omega

/-- The token that row `r` of point `t`'s blocks is. -/
abbrev tok (t : Fin cfg0.N) (r : Fin 256) : Fin 16384 := ⟨t.val * 256 + r.val, lt_tok t r⟩

/-- The rows of the five arguments: input, gradient of the residual, gradient of the projection; the weight; scale and shift. -/
abbrev xA (R : Fin 16384) (i : Fin 1024) : EReal := m ((c : Thread nD τ).loc main_arg0) (ix3 0 R i)
abbrev dhA (R : Fin 16384) (i : Fin 1024) : EReal := m ((c : Thread nD τ).loc main_arg3) (ix3 0 R i)
abbrev dpA (R : Fin 16384) (k : Fin 4304) : EReal := m ((c : Thread nD τ).loc main_arg4) (ix3 0 R k)
abbrev wA (i : Fin 1024) (k : Fin 4304) : EReal := m ((c : Thread nD τ).loc main_arg2) (ix2 i k)
abbrev shiftA (i : Fin 1024) : EReal := m ((c : Thread nD τ).loc main_arg1) (ix2 0 ⟨i.val, by omega⟩)
abbrev scaleA (i : Fin 1024) : EReal := m ((c : Thread nD τ).loc main_arg1) (ix2 0 ⟨1024 + i.val, by omega⟩)

/-! ## The operands -/

theorem x_at (R : Fin 16384) (k : Fin 1024) : V m c main_v0 (ix2 R k) = xA m c R k := by
  unfold V V0
  simp only [List.flatten_cons, List.flatten_nil, List.append_nil]
  after_results_simp
  pointwise
theorem dh_at (R : Fin 16384) (k : Fin 1024) : V m c main_v3 (ix2 R k) = Ideal.ofBits .f32 0x3F9837F0#32 * dhA m c R k := by
  unfold V V0
  simp only [List.flatten_cons, List.flatten_nil, List.append_nil]
  after_results_simp
  pointwise
theorem mod_at (r : Fin 8) (k : Fin 3072) : V m c main_v15 (ix2 r k) = m ((c : Thread nD τ).loc main_arg1) (ix2 0 k) := by
  unfold V V0
  simp only [List.flatten_cons, List.flatten_nil, List.append_nil]
  after_results_simp
  pointwise
set_option maxHeartbeats 1600000 in
theorem w_at (i : Fin 1024) (k : Fin 4480) : V m c main_v14 (ix2 i k) = padded (wA m c i) k := by
  unfold V V0
  simp only [List.flatten_cons, List.flatten_nil, List.append_nil]
  after_results
  pointwise
  after_results_simp
  pointwise
  split_ifs <;> first
    | (refine (padded_of (wA m c i) _ _ ?_).symm; dsimp only; omega)
    | (refine (padded_zero (wA m c i) _ ?_).symm; omega)
theorem q_at (R : Fin 16384) (k : Fin 384) : V m c main_v18 (ix2 R k) = padded (dpA m c R) ⟨k.val, by omega⟩ := by
  unfold V V0
  simp only [List.flatten_cons, List.flatten_nil, List.append_nil]
  after_results_simp
  pointwise
  refine (padded_of (dpA m c R) _ _ ?_).symm; dsimp only; omega
theorem ckv_at (R : Fin 16384) (k : Fin 256) : V m c main_v19 (ix2 R k) = padded (dpA m c R) ⟨384 + k.val, by omega⟩ := by
  unfold V V0
  simp only [List.flatten_cons, List.flatten_nil, List.append_nil]
  after_results_simp
  pointwise
  refine (padded_of (dpA m c R) _ _ ?_).symm; dsimp only; omega
theorem za_at (R : Fin 16384) (k : Fin 1024) : V m c main_v20 (ix2 R k) = padded (dpA m c R) ⟨640 + k.val, by omega⟩ := by
  unfold V V0
  simp only [List.flatten_cons, List.flatten_nil, List.append_nil]
  after_results_simp
  pointwise
  refine (padded_of (dpA m c R) _ _ ?_).symm; dsimp only; omega
theorem xbc_at (R : Fin 16384) (k : Fin 1536) : V m c main_v21 (ix2 R k) = padded (dpA m c R) ⟨1664 + k.val, by omega⟩ := by
  unfold V V0
  simp only [List.flatten_cons, List.flatten_nil, List.append_nil]
  after_results_simp
  pointwise
  refine (padded_of (dpA m c R) _ _ ?_).symm; dsimp only; omega
theorem zs_at (R : Fin 16384) (k : Fin 1024) : V m c main_v22 (ix2 R k) = padded (dpA m c R) ⟨3200 + k.val, by omega⟩ := by
  unfold V V0
  simp only [List.flatten_cons, List.flatten_nil, List.append_nil]
  after_results_simp
  pointwise
  refine (padded_of (dpA m c R) _ _ ?_).symm; dsimp only; omega
theorem kr_at (R : Fin 16384) (k : Fin 128) : V m c main_v25 (ix2 R k) = padded (dpA m c R) ⟨4224 + k.val, by omega⟩ := by
  unfold V V0
  simp only [List.flatten_cons, List.flatten_nil, List.append_nil]
  after_results_simp
  pointwise
  split_ifs with h
  · refine (padded_of (dpA m c R) _ _ ?_).symm; dsimp only; omega
  · refine (padded_zero (dpA m c R) _ ?_).symm; dsimp only; omega
theorem dt_at (R : Fin 16384) (k : Fin 128) : V m c main_v28 (ix2 R k) = padded (dpA m c R) ⟨4352 + k.val, by omega⟩ := by
  unfold V V0
  simp only [List.flatten_cons, List.flatten_nil, List.append_nil]
  after_results_simp
  pointwise
  split_ifs with h
  · refine (padded_of (dpA m c R) _ _ ?_).symm; dsimp only; omega
  · refine (padded_zero (dpA m c R) _ ?_).symm; dsimp only; omega

/-! ## The blocks -/

theorem blk_x (t : Fin cfg0.N) (r : Fin 256) (k : Fin 1024) : iblk m c 0 t (ix2 r k) = xA m c (tok t r) k :=
  Eq.trans (b := V m c main_v0 (ix2 (tok t r) k)) (by blk_ext [iblk, idx t]) (x_at m c _ _)
theorem blk_dh (t : Fin cfg0.N) (r : Fin 256) (k : Fin 1024) :
    iblk m c 1 t (ix2 r k) = Ideal.ofBits .f32 0x3F9837F0#32 * dhA m c (tok t r) k :=
  Eq.trans (b := V m c main_v3 (ix2 (tok t r) k)) (by blk_ext [iblk, idx t]) (dh_at m c _ _)
theorem blk_mod (t : Fin cfg0.N) (r : Fin 8) (k : Fin 3072) : iblk m c 2 t (ix2 r k) = m ((c : Thread nD τ).loc main_arg1) (ix2 0 k) :=
  Eq.trans (b := V m c main_v15 (ix2 r k)) (by blk_ext [iblk, idx t]) (mod_at m c _ _)
theorem blk_w (t : Fin cfg0.N) (i : Fin 1024) (k : Fin 4480) : iblk m c 3 t (ix2 i k) = padded (wA m c i) k :=
  Eq.trans (b := V m c main_v14 (ix2 i k)) (by blk_ext [iblk, idx t]) (w_at m c _ _)
theorem blk_q (t : Fin cfg0.N) (r : Fin 256) (k : Fin 384) :
    iblk m c 4 t (ix2 r k) = padded (dpA m c (tok t r)) ⟨k.val, by omega⟩ :=
  Eq.trans (b := V m c main_v18 (ix2 (tok t r) k)) (by blk_ext [iblk, idx t]) (q_at m c _ _)
theorem blk_ckv (t : Fin cfg0.N) (r : Fin 256) (k : Fin 256) :
    iblk m c 5 t (ix2 r k) = padded (dpA m c (tok t r)) ⟨384 + k.val, by omega⟩ :=
  Eq.trans (b := V m c main_v19 (ix2 (tok t r) k)) (by blk_ext [iblk, idx t]) (ckv_at m c _ _)
theorem blk_za (t : Fin cfg0.N) (r : Fin 256) (k : Fin 1024) :
    iblk m c 6 t (ix2 r k) = padded (dpA m c (tok t r)) ⟨640 + k.val, by omega⟩ :=
  Eq.trans (b := V m c main_v20 (ix2 (tok t r) k)) (by blk_ext [iblk, idx t]) (za_at m c _ _)
theorem blk_xbc (t : Fin cfg0.N) (r : Fin 256) (k : Fin 1536) :
    iblk m c 7 t (ix2 r k) = padded (dpA m c (tok t r)) ⟨1664 + k.val, by omega⟩ :=
  Eq.trans (b := V m c main_v21 (ix2 (tok t r) k)) (by blk_ext [iblk, idx t]) (xbc_at m c _ _)
theorem blk_zs (t : Fin cfg0.N) (r : Fin 256) (k : Fin 1024) :
    iblk m c 8 t (ix2 r k) = padded (dpA m c (tok t r)) ⟨3200 + k.val, by omega⟩ :=
  Eq.trans (b := V m c main_v22 (ix2 (tok t r) k)) (by blk_ext [iblk, idx t]) (zs_at m c _ _)
theorem blk_kr (t : Fin cfg0.N) (r : Fin 256) (k : Fin 128) :
    iblk m c 9 t (ix2 r k) = padded (dpA m c (tok t r)) ⟨4224 + k.val, by omega⟩ :=
  Eq.trans (b := V m c main_v25 (ix2 (tok t r) k)) (by blk_ext [iblk, idx t]) (kr_at m c _ _)
theorem blk_dt (t : Fin cfg0.N) (r : Fin 256) (k : Fin 128) :
    iblk m c 10 t (ix2 r k) = padded (dpA m c (tok t r)) ⟨4352 + k.val, by omega⟩ :=
  Eq.trans (b := V m c main_v28 (ix2 (tok t r) k)) (by blk_ext [iblk, idx t]) (dt_at m c _ _)

end Cert.InGradIdeal.Val

end
-- ==== Proof.InBlocks.lean ====
module
public import proofs.«01_k».proof.Proof.InEntry
public import Idealize.ShloMosaic.Lib.Pipeline.ReadBack
public import Idealize.ShloMosaic.Lib.WritesUnit

/-!
What one grid point of the input-projection gradient kernel leaves in its three output buffers, as sums over the columns of the
projection and over the 256 tokens of the point. The point that starts the grid clears the two accumulators first (case A); every
other point adds to what the point before left (case B).
-/

@[expose] public section
set_option maxRecDepth 16384

noncomputable section

namespace Cert.InGradIdeal.Val

open Idealize.ShloMosaic Idealize.ShloMosaic.TcCoe Idealize.SL.Sem
open Cert.InGradIdeal Cert.InGradIdeal.Gen

variable (m : (ℓ : Loc nD τ sig) → Buf (Elt Ideal) ℓ) (c : Dev nD)

/-- A sum over the padded columns of a product of padded rows is the sum over the columns themselves. -/
theorem sum_padded (f g : Fin 4304 → EReal) :
    (∑ k : Fin 384, padded f ⟨k.val, by omega⟩ * padded g ⟨k.val, by omega⟩) + (∑ k : Fin 256, padded f ⟨384 + k.val, by omega⟩ * padded g ⟨384 + k.val, by omega⟩)
      + (∑ k : Fin 1024, padded f ⟨640 + k.val, by omega⟩ * padded g ⟨640 + k.val, by omega⟩)
      + (∑ k : Fin 1536, padded f ⟨1664 + k.val, by omega⟩ * padded g ⟨1664 + k.val, by omega⟩)
      + (∑ k : Fin 1024, padded f ⟨3200 + k.val, by omega⟩ * padded g ⟨3200 + k.val, by omega⟩)
      + (∑ k : Fin 128, padded f ⟨4224 + k.val, by omega⟩ * padded g ⟨4224 + k.val, by omega⟩)
      + (∑ k : Fin 128, padded f ⟨4352 + k.val, by omega⟩ * padded g ⟨4352 + k.val, by omega⟩)
    = ∑ k : Fin 4304, f k * g k := by
  have e (n a b : ℕ) (ha : a + n ≤ 4480) (hb : b + n ≤ 4304)
      (h : a + n ≤ 640 ∧ b = a ∨ 640 ≤ a ∧ a + n ≤ 3200 ∧ b = a + 64 ∨ 3200 ≤ a ∧ a + n ≤ 4224 ∧ b = a + 80 ∨ 4224 ≤ a ∧ a + n ≤ 4288 ∧ b + 3584 = a
        ∨ 4352 ≤ a ∧ a + n ≤ 4368 ∧ b + 1088 = a) (k : Fin n) :
      padded f ⟨a + k.val, by omega⟩ * padded g ⟨a + k.val, by omega⟩ = f ⟨b + k.val, by omega⟩ * g ⟨b + k.val, by omega⟩ := by
    have := k.isLt
    rw [padded_of f _ ⟨b + k.val, by omega⟩ (by simp only; omega), padded_of g _ ⟨b + k.val, by omega⟩ (by simp only; omega)]
  have z (a b : ℕ) (hb : b ≤ 128) (ha : a = 4224 ∧ b = 64 ∨ a = 4352 ∧ b = 16) :
      (∑ k : Fin 128, padded f ⟨a + k.val, by omega⟩ * padded g ⟨a + k.val, by omega⟩)
        = ∑ k : Fin b, padded f ⟨a + k.val, by omega⟩ * padded g ⟨a + k.val, by omega⟩ := by
    rw [Fin.sum_univ_two_halves b (128 - b) (by omega)]
    rw [Finset.sum_eq_zero (s := (Finset.univ : Finset (Fin (128 - b)))) (fun k _ => ?_), add_zero]
    rw [padded_zero f _ (by simp only; omega), zero_mul]
  rw [Fin.sum_univ_two_halves 384 3920 rfl (fun k => f k * g k), Fin.sum_univ_two_halves 256 3664 rfl, Fin.sum_univ_two_halves 64 3600 rfl, Fin.sum_univ_two_halves 1024 2576 rfl,
    Fin.sum_univ_two_halves 1536 1040 rfl, Fin.sum_univ_two_halves 16 1024 rfl, z 4224 64 (by omega) (by omega), z 4352 16 (by omega) (by omega)]
  have e0 (k : Fin 384) : padded f ⟨k.val, by omega⟩ * padded g ⟨k.val, by omega⟩ = f ⟨k.val, by omega⟩ * g ⟨k.val, by omega⟩ := by
    rw [padded_of f _ ⟨k.val, by omega⟩ (Or.inl ⟨by simp only; omega, rfl⟩), padded_of g _ ⟨k.val, by omega⟩ (Or.inl ⟨by simp only; omega, rfl⟩)]
  rw [Fin.sum_fin_congr e0, Fin.sum_fin_congr (e 256 384 384 (by omega) (by omega) (by omega)), Fin.sum_fin_congr (e 1024 640 704 (by omega) (by omega) (by omega)),
    Fin.sum_fin_congr (e 1536 1664 1728 (by omega) (by omega) (by omega)), Fin.sum_fin_congr (e 1024 3200 3280 (by omega) (by omega) (by omega)),
    Fin.sum_fin_congr (e 64 4224 640 (by omega) (by omega) (by omega)), Fin.sum_fin_congr (e 16 4352 3264 (by omega) (by omega) (by omega))]
  simp only [← Nat.add_assoc, Nat.reduceAdd]
  ac_rfl

/-- The kernel's product of the incoming gradient with the transposed weight, added up piece by piece. -/
theorem pay_du (a1 : FVec Ideal S256x384 .bf16) (w1 : FVec Ideal S1024x384 .bf16) (a2 : FVec Ideal S256x256 .bf16) (w2 : FVec Ideal S1024x256 .bf16)
    (a3 : FVec Ideal S256x1024 .bf16) (w3 : FVec Ideal S1024x1024 .bf16) (a4 : FVec Ideal S256x1536 .bf16) (w4 : FVec Ideal S1024x1536 .bf16)
    (a5 : FVec Ideal S256x1024 .bf16) (w5 : FVec Ideal S1024x1024 .bf16) (a6 : FVec Ideal S256x128 .bf16) (w6 : FVec Ideal S1024x128 .bf16)
    (a7 : FVec Ideal S256x128 .bf16) (w7 : FVec Ideal S1024x128 .bf16) (r : Fin 256) (i : Fin 1024) :
    k0_pay25 (F := Ideal) (k0_pay18 (k0_pay10 a1 w1) (k0_pay12 a2) (k0_pay13 w2) a3 w3 a4 w4) a5 w5 a6 w6 a7 w7 (ix2 r i)
      = ((∑ k : Fin 384, a1 (ix2 r k) * w1 (ix2 i k)) + (∑ k : Fin 256, a2 (ix2 r k) * w2 (ix2 i k)) + (∑ k : Fin 1024, a3 (ix2 r k) * w3 (ix2 i k))
        + (∑ k : Fin 1536, a4 (ix2 r k) * w4 (ix2 i k)) + (∑ k : Fin 1024, a5 (ix2 r k) * w5 (ix2 i k)) + (∑ k : Fin 128, a6 (ix2 r k) * w6 (ix2 i k))
        + (∑ k : Fin 128, a7 (ix2 r k) * w7 (ix2 i k)) : EReal) := by
  pointwise [k0_pay25, k0_pay18, k0_pay10, k0_pay9, k0_pay12, k0_pay13, k0_pay15, k0_pay17, k0_pay20, k0_pay22, k0_pay24]

/-- The gradient of the modulated input: the incoming gradient times the transposed weight. -/
abbrev duA (R : Fin 16384) (i : Fin 1024) : EReal := ∑ k : Fin 4304, dpA m c R k * wA m c i k

/-- The modulated input. -/
abbrev hA (R : Fin 16384) (i : Fin 1024) : EReal := xA m c R i * (1 + scaleA m c i) + shiftA m c i

/-- The gradient of `x` at a point that is not the first. -/
theorem gx_B (t : Fin cfg0.N) (h : ¬ t.val % 64 = 0) (r : Fin 256) (i : Fin 1024) :
    (outsAt0 m c t.val t.isLt).1 (ix2 r i) = Ideal.ofBits .f32 0x3F9837F0#32 * dhA m c (tok t r) i + duA m c (tok t r) i * (1 + scaleA m c i) := by
  rw [outsAt0_B m c t h]; frame_out
  pointwise [k0_pay3, k0_pay6]
  rw [pay_du]
  pointwise
  simp only [blk_q, blk_ckv, blk_za, blk_xbc, blk_zs, blk_kr, blk_dt, blk_w, blk_mod, blk_dh]
  rw [sum_padded]

/-- The gradient of `x` at the first point. -/
theorem gx_A (t : Fin cfg0.N) (h : t.val % 64 = 0) (r : Fin 256) (i : Fin 1024) :
    (outsAt0 m c t.val t.isLt).1 (ix2 r i) = Ideal.ofBits .f32 0x3F9837F0#32 * dhA m c (tok t r) i + duA m c (tok t r) i * (1 + scaleA m c i) := by
  rw [outsAt0_A m c t h]; frame_out
  pointwise [k0_pay3, k0_pay6]
  rw [pay_du]
  pointwise
  simp only [blk_q, blk_ckv, blk_za, blk_xbc, blk_zs, blk_kr, blk_dt, blk_w, blk_mod, blk_dh]
  rw [sum_padded]

/-- The weight gradient grows by the product over the 256 tokens of the point. -/
theorem dw_B (t : Fin cfg0.N) (h : ¬ t.val % 64 = 0) (i : Fin 1024) (k : Fin 4480) :
    (outsAt0 m c t.val t.isLt).2.1 (ix2 i k) = (outsAt0 m c (t.val - 1) (Nat.lt_of_le_of_lt (Nat.sub_le _ _) t.isLt)).2.1 (ix2 i k)
      + ∑ r : Fin 256, hA m c (tok t r) i * padded (dpA m c (tok t r)) k := by
  rw [outsAt0_B m c t h]; frame_out
  canon_tiles x e using (by
    simp only [List.mem_cons, List.not_mem_nil, or_false, exists_eq_or_imp, exists_eq_left, Rect.mem_set_unit, Fin.forall_fin_two, Matrix.cons_val_zero, Matrix.cons_val_one, ix2_0, ix2_1]
    omega)
  all_goals
    idx_vars x
    obtain ⟨i, hi⟩ := i
    obtain ⟨k, hk⟩ := k
    simp only [ix2_0, ix2_1] at e0 e1
    subst e0 e1
    pointwise [k0_pay26, k0_pay24, k0_pay23, k0_pay22, k0_pay21, k0_pay20, k0_pay19, k0_pay17, k0_pay16, k0_pay15, k0_pay14, k0_pay12, k0_pay11, k0_pay9, k0_pay8, k0_pay7, k0_pay6]
    simp only [blk_q, blk_ckv, blk_za, blk_xbc, blk_zs, blk_kr, blk_dt, blk_w, blk_mod, blk_x, Fin.eta]
/-- A store over the columns from `o` puts its entry `(i, k)` in column `o + k`. -/
theorem emb_cols (o n : ℕ) (inb : ∀ a : Fin 2, (![0, o] : Fin 2 → ℕ) a + (![1024, n] : Fin 2 → ℕ) a ≤ S1024x4480.size a) (i : Fin 1024) (k : Fin n) :
    (Rect.unit (s := S1024x4480) ![0, o] ![1024, n] inb).emb (ix2 i k) = ix2 i ⟨o + k.val, by have := inb 1; simp at this; omega⟩ := by
  funext a
  refine Fin.ext ?_
  show (![0, o] : Fin 2 → ℕ) a + 1 * _ = _
  fin_cases a <;> simp

/-- The weight gradient at the first point: the product over its 256 tokens. -/
theorem dw_A (t : Fin cfg0.N) (h : t.val % 64 = 0) (i : Fin 1024) (k : Fin 4480) :
    (outsAt0 m c t.val t.isLt).2.1 (ix2 i k) = 0
      + ∑ r : Fin 256, hA m c (tok t r) i * padded (dpA m c (tok t r)) k := by
  rw [outsAt0_A m c t h]; frame_open
  simp (disch := decide) only [↓ View.readCov_skip, ↓ View.readCov_cons_toLoadRect, ↓ View.readCov_fill]
  frame_out
  refine View.canon_append_of_piecesOf (Val := Elt Ideal) (e := .f32) (fun j : S1024x4480.Idx => (0 + ∑ r : Fin 256, hA m c (tok t r) (j 0) * padded (dpA m c (tok t r)) (j 1) : EReal))
    [_] [_, _, _, _, _, _, _] ⟨?_, ?_, ?_, ?_, ?_, ?_, ?_, trivial⟩ _ ?_
  on_goal 8 =>
    simp only [List.mem_cons, List.not_mem_nil, or_false, exists_eq_or_imp, exists_eq_left, Rect.mem_set_unit, Fin.forall_fin_two, Matrix.cons_val_zero, Matrix.cons_val_one, ix2_0, ix2_1]
    omega
  all_goals
    intro x
    idx_vars x
    pointwise [k0_pay26, k0_pay24, k0_pay23, k0_pay22, k0_pay21, k0_pay20, k0_pay19, k0_pay17, k0_pay16, k0_pay15, k0_pay14, k0_pay12, k0_pay11, k0_pay9, k0_pay8, k0_pay7, k0_pay6, k0_pay4]
    simp only [blk_q, blk_ckv, blk_za, blk_xbc, blk_zs, blk_kr, blk_dt, blk_w, blk_mod, blk_x, Fin.eta]
    simp only [emb_cols, ix2_0, ix2_1, Nat.zero_add]

/-- The gradient of the shift grows by the column sums of the point's 256 tokens. -/
theorem dshift_B (t : Fin cfg0.N) (h : ¬ t.val % 64 = 0) (i : Fin 1024) :
    (outsAt0 m c t.val t.isLt).2.2 (ix2 0 i) = (outsAt0 m c (t.val - 1) (Nat.lt_of_le_of_lt (Nat.sub_le _ _) t.isLt)).2.2 (ix2 0 i)
      + ∑ r : Fin 256, duA m c (tok t r) i := by
  rw [outsAt0_B m c t h]; frame_out
  rw [View.read_writes_cons_unit_of_not_mem _ _ _ _ _ _ rfl 0 (Or.inl Nat.zero_lt_one), View.read_writes_cons_unit_of_mem _ _ _ _ _ _ (ix2 0 i) rfl (by intro a; fin_cases a <;> simp)]
  pointwise [k0_pay1, k0_pay2, k0_pay7]
  simp only [pay_du]
  pointwise
  simp only [blk_q, blk_ckv, blk_za, blk_xbc, blk_zs, blk_kr, blk_dt, blk_w, blk_mod, blk_x, Fin.eta, sum_padded]

/-- The gradient of the scale grows by the weighted column sums of the point's 256 tokens. -/
theorem dscale_B (t : Fin cfg0.N) (h : ¬ t.val % 64 = 0) (i : Fin 1024) :
    (outsAt0 m c t.val t.isLt).2.2 (ix2 1 i) = (outsAt0 m c (t.val - 1) (Nat.lt_of_le_of_lt (Nat.sub_le _ _) t.isLt)).2.2 (ix2 1 i)
      + ∑ r : Fin 256, duA m c (tok t r) i * xA m c (tok t r) i := by
  rw [outsAt0_B m c t h]; frame_out
  rw [View.read_writes_cons_unit_of_mem _ _ _ _ _ _ (ix2 0 i) rfl (by intro a; fin_cases a <;> simp)]
  pointwise [k0_pay1, k0_pay2, k0_pay7]
  simp only [pay_du]
  pointwise
  simp only [blk_q, blk_ckv, blk_za, blk_xbc, blk_zs, blk_kr, blk_dt, blk_w, blk_mod, blk_x, Fin.eta, sum_padded]
/-- A last store of one row leaves its entry `(0, k)` in column `k` of that row. -/
theorem canon_row (o : ℕ) (ho : o < 8) (inb : ∀ a : Fin 2, (![o, 0] : Fin 2 → ℕ) a + S1x1024.size a ≤ S8x1024.size a)
    (w : FVec Ideal S1x1024 .f32) (L : List (View.Piece (Elt Ideal) S8x1024 .f32)) (k : Fin 1024) :
    View.canon ((⟨Rect.unit (s := S8x1024) ![o, 0] S1x1024.size inb, w⟩ : View.Piece (Elt Ideal) S8x1024 .f32) :: L) (ix2 ⟨o, ho⟩ k) = w (ix2 0 k) := by
  have e : (ix2 ⟨o, ho⟩ k : S8x1024.Idx) = (Rect.unit (s := S8x1024) ![o, 0] S1x1024.size inb).emb (ix2 0 k) := by
    funext a
    refine Fin.ext ?_
    show _ = (![o, 0] : Fin 2 → ℕ) a + 1 * _
    fin_cases a <;> simp
  rw [e]
  exact View.canon_cons_emb (Rect.unit (s := S8x1024) ![o, 0] S1x1024.size inb) w L _

/-- The gradient of the shift at the first point. -/
theorem dshift_A (t : Fin cfg0.N) (h : t.val % 64 = 0) (i : Fin 1024) :
    (outsAt0 m c t.val t.isLt).2.2 (ix2 0 i) = 0 + ∑ r : Fin 256, duA m c (tok t r) i := by
  rw [outsAt0_A m c t h]; frame_open
  simp (disch := decide) only [↓ View.readCov_skip, ↓ View.readCov_cons_toLoadRect, ↓ View.readCov_fill]
  frame_out
  rw [View.canon_cons_of_not_mem _ _ (by rw [Rect.mem_set_unit]; exact fun h => absurd (h 0).1 (by simp))]
  refine (canon_row 0 (by decide) inb_S8x1024_S1x1024_0_0 _ _ i).trans ?_
  pointwise [k0_pay1, k0_pay2, k0_pay7, k0_pay5]
  simp only [pay_du]
  pointwise
  simp only [blk_q, blk_ckv, blk_za, blk_xbc, blk_zs, blk_kr, blk_dt, blk_w, blk_mod, blk_x, Fin.eta, sum_padded]

/-- The gradient of the scale at the first point. -/
theorem dscale_A (t : Fin cfg0.N) (h : t.val % 64 = 0) (i : Fin 1024) :
    (outsAt0 m c t.val t.isLt).2.2 (ix2 1 i) = 0 + ∑ r : Fin 256, duA m c (tok t r) i * xA m c (tok t r) i := by
  rw [outsAt0_A m c t h]; frame_open
  simp (disch := decide) only [↓ View.readCov_skip, ↓ View.readCov_cons_toLoadRect, ↓ View.readCov_fill]
  frame_out
  refine (canon_row 1 (by decide) inb_S8x1024_S1x1024_1_0 _ _ i).trans ?_
  pointwise [k0_pay1, k0_pay2, k0_pay7, k0_pay5]
  simp only [pay_du]
  pointwise
  simp only [blk_q, blk_ckv, blk_za, blk_xbc, blk_zs, blk_kr, blk_dt, blk_w, blk_mod, blk_x, Fin.eta, sum_padded]

end Cert.InGradIdeal.Val
end
-- ==== Proof.InArrays.lean ====
module
public import proofs.«01_k».proof.Proof.InBlocks

/-!
The three arrays the input-projection gradient kernel ends with.
-/

@[expose] public section

set_option maxRecDepth 16384

noncomputable section

namespace Cert.InGradIdeal.Val

open Idealize.ShloMosaic Idealize.ShloMosaic.TcCoe Idealize.SL.Sem
open Cert.InGradIdeal Cert.InGradIdeal.Gen

variable (m : (ℓ : Loc nD τ sig) → Buf (Elt Ideal) ℓ) (c : Dev nD)

/-- A sum over the points of the grid and the tokens of each point is the sum over all tokens. -/
theorem sum_tok (f : Fin 16384 → EReal) : ∑ t : Fin cfg0.N, ∑ r : Fin 256, f (tok t r) = ∑ R : Fin 16384, f R := by
  refine Fin.sum_mul_add_congr (fun s k hl => rfl) ?_
  rw [show cfg0.N = 64 from N_0]

/-- Both accumulators stay in place: their one block is the whole array. -/
theorem idxAcc : ∀ t : Fin cfg0.N, win0_12.index t = ![0, 0] ∧ win0_13.index t = ![0, 0] :=
  (by decide +kernel : ∀ t : Fin grid0.N, _)

/-- The last point of the grid is the only one that writes the accumulators back. -/
theorem last_of (t : Fin cfg0.N) (h : t.val % 64 = 63) : t.val + 1 = cfg0.N := by
  have := t.isLt
  have : cfg0.N = 64 := N_0
  omega

/-- The gradient of `x`, whole. -/
theorem gx_arr : (dats m 0 c).arrAt 11 cfg0.N = fun j : S16384x1024.Idx =>
    Ideal.ofBits .f32 0x3F9837F0#32 * dhA m c (j 0) (j 1) + duA m c (j 0) (j 1) * (1 + scaleA m c (j 1)) := by
  refine (dats m 0 c).arrAt_eq_of_covers 11 _ (by decide +kernel) fun t hf y => ?_
  idx_vars y
  blk_simp
  rw [after0_11]
  have e : (win0_11.blk t).view.emb (ix2 y0 y1) = ix2 (tok t y0) y1 := by blk_ext [idx t]
  rw [e]
  by_cases h : t.val % 64 = 0
  · exact gx_A m c t h y0 y1
  · exact gx_B m c t h y0 y1

/-- The weight gradient in padded columns, whole. -/
theorem dw_arr : (dats m 0 c).arrAt 12 cfg0.N = fun j : S1024x4480.Idx =>
    ∑ R : Fin 16384, hA m c R (j 0) * padded (dpA m c R) (j 1) := by
  refine (dats m 0 c).arrAt_eq_of_covers 12 _ (by decide +kernel) fun t hf y => ?_
  idx_vars y
  blk_simp
  rw [after0_12]
  have e : (win0_12.blk t).view.emb (ix2 y0 y1) = ix2 y0 y1 := by blk_ext [idxAcc t]
  rw [e]
  refine (Pipeline.eq_sum_fin_of_reset_step_apply_last (M := EReal) (fun n h (i : Fin 1024 × Fin 4480) => (outsAt0 m c n h).2.1 (ix2 i.1 i.2)) 64 (fun _ => 0)
    (fun t i => ∑ r : Fin 256, hA m c (tok t r) i.1 * padded (dpA m c (tok t r)) i.2) (fun t h i => dw_A m c t h i.1 i.2) (fun t h i => dw_B m c t h i.1 i.2)
    (le_of_eq N_0) t (last_of t ((flush0_12 t).mp hf)) (y0, y1)).trans ?_
  rw [zero_add]
  exact sum_tok fun R => hA m c R y0 * padded (dpA m c R) y1

/-- The two rows of the third array: the gradients of the shift and of the scale. -/
theorem vec_arr (i : Fin 1024) : (dats m 0 c).arrAt 13 cfg0.N (ix2 (n0 := 8) 0 i) = ∑ R : Fin 16384, duA m c R i
    ∧ (dats m 0 c).arrAt 13 cfg0.N (ix2 (n0 := 8) 1 i) = ∑ R : Fin 16384, duA m c R i * xA m c R i := by
  have hN : cfg0.N = 64 := N_0
  obtain ⟨t, ht⟩ : ∃ t : Fin cfg0.N, t.val + 1 = cfg0.N := ⟨⟨63, by omega⟩, hN.symm⟩
  have e : (dats m 0 c).arrAt 13 cfg0.N = (outsAt0 m c t.val t.isLt).2.2 := by
    refine (dats m 0 c).arrAt_eq_of_covers 13 _ (by decide +kernel) fun t' hf y => ?_
    obtain rfl : t' = t := Fin.ext (by have := last_of t' ((flush0_13 t').mp hf); omega)
    idx_vars y
    blk_simp
    rw [after0_13]
    have e : (win0_13.blk t').view.emb (ix2 y0 y1) = ix2 y0 y1 := by blk_ext [idxAcc t']
    rw [e]
  rw [e]
  constructor
  · refine (Pipeline.eq_sum_fin_of_reset_step_apply_last (M := EReal) (fun n h (i : Fin 1024) => (outsAt0 m c n h).2.2 (ix2 0 i)) 64 (fun _ => 0)
      (fun t i => ∑ r : Fin 256, duA m c (tok t r) i) (dshift_A m c) (dshift_B m c) (le_of_eq N_0) t ht i).trans ?_
    rw [zero_add]
    exact sum_tok fun R => duA m c R i
  · refine (Pipeline.eq_sum_fin_of_reset_step_apply_last (M := EReal) (fun n h (i : Fin 1024) => (outsAt0 m c n h).2.2 (ix2 1 i)) 64 (fun _ => 0)
      (fun t i => ∑ r : Fin 256, duA m c (tok t r) i * xA m c (tok t r) i) (dscale_A m c) (dscale_B m c) (le_of_eq N_0) t ht i).trans ?_
    rw [zero_add]
    exact sum_tok fun R => duA m c R i * xA m c R i

end Cert.InGradIdeal.Val
end
-- ==== Proof.InEnd.lean ====
module
public import proofs.«01_k».proof.Proof.InArrays

/-!
The four results of the input-projection gradient kernel after the host has cut them out of its arrays.
-/

@[expose] public section

set_option maxRecDepth 16384

noncomputable section

namespace Cert.InGradIdeal.Val

open Idealize.ShloMosaic Idealize.ShloMosaic.TcCoe Idealize.SL.Sem
open Cert.InGradIdeal Cert.InGradIdeal.Gen

variable (m : (ℓ : Loc nD τ sig) → Buf (Elt Ideal) ℓ) (c : Dev nD)

/-- What the buffers hold when the region ends: its arrays, and everything else as before. -/
def atEnd : Valuation τ sig (Elt Ideal) := Pipeline.withArrays (cfgs 0).spec c (V0 m c) fun w => (dats m 0 c).arrAt w (cfgs 0).N

theorem atEnd_dw : atEnd m c (Proc.devRef .tc main_v29_1) = (dats m 0 c).arrAt 12 cfg0.N :=
  Pipeline.withArrays_arr (cfgs 0).spec (by decide) c _ _ 12

theorem atEnd_vec : atEnd m c (Proc.devRef .tc main_v29_2) = (dats m 0 c).arrAt 13 cfg0.N :=
  Pipeline.withArrays_arr (cfgs 0).spec (by decide) c _ _ 13

theorem dshift_end (i : Fin 1024) : StableHlo.after hostOps1 (atEnd m c) (Proc.devRef .tc main_v30) (ix2 (n0 := 1) 0 i) = ∑ R : Fin 16384, duA m c R i := by
  refine Eq.trans ?_ (vec_arr m c i).1
  rw [← atEnd_vec]
  generalize atEnd m c = V
  after_results
  pointwise

theorem dscale_end (i : Fin 1024) :
    StableHlo.after hostOps1 (atEnd m c) (Proc.devRef .tc main_v31) (ix2 (n0 := 1) 0 i) = ∑ R : Fin 16384, duA m c R i * xA m c R i := by
  refine Eq.trans ?_ (vec_arr m c i).2
  rw [← atEnd_vec]
  generalize atEnd m c = V
  after_results
  pointwise

set_option maxHeartbeats 1600000 in
theorem dw_end (i : Fin 1024) (k : Fin 4304) :
    StableHlo.after hostOps1 (atEnd m c) (Proc.devRef .tc main_v39) (ix2 (n0 := 1024) i k) = ∑ R : Fin 16384, hA m c R i * dpA m c R k := by
  have e (j : Fin 4480) (h : j.val < 640 ∧ k.val = j.val ∨ 640 ≤ j.val ∧ j.val < 3200 ∧ k.val = j.val + 64 ∨ 3200 ≤ j.val ∧ j.val < 4224 ∧ k.val = j.val + 80
      ∨ 4224 ≤ j.val ∧ j.val < 4288 ∧ k.val + 3584 = j.val ∨ 4352 ≤ j.val ∧ j.val < 4368 ∧ k.val + 1088 = j.val) :
      atEnd m c (Proc.devRef .tc main_v29_1) (ix2 (n0 := 1024) i j) = ∑ R : Fin 16384, hA m c R i * dpA m c R k := by
    rw [atEnd_dw, dw_arr]
    exact Fin.sum_fin_congr (M := EReal) fun R => congrArg (hA m c R i * ·) (padded_of _ _ _ h)
  generalize atEnd m c = V at e
  after_results
  pointwise
  after_results_simp
  pointwise
  split_ifs <;> exact e _ (by dsimp only; omega)

end Cert.InGradIdeal.Val
end
-- ==== Proof.InRef.lean ====
module
public import proofs.«01_k».proof.Proof.Gen.InGradRefIdeal.Run
public import proofs.«01_k».proof.Proof.Gen.InGradRefIdeal.Read
public import Idealize.ShloMosaic.Lib.Pipeline.ValueKit
public import Idealize.ShloMosaic.Lib.Pointwise

/-!
The four gradients of the reference of the input projection, entry by entry.
-/

@[expose] public section

set_option maxRecDepth 16384

noncomputable section

namespace Cert.InGradRefIdeal.Val

open Idealize.ShloMosaic Idealize.ShloMosaic.TcCoe Idealize.SL.Sem
open Cert.InGradRefIdeal Cert.InGradRefIdeal.Gen Cert.InGradRefIdeal.Read

variable (x0 : FVec Ideal S1x16384x1024 .f32) (x1 : FVec Ideal S1x3072 .f32) (x2 : FVec Ideal S1024x4304 .f32) (x3 : FVec Ideal S1x16384x1024 .f32)
  (x4 : FVec Ideal S1x16384x4304 .f32)

/-- A sum over two axes of length one is the entry itself. -/
theorem reduce_ones (v : FVec Ideal S1x1x1024 .f32) (i : Fin 1024) : Ideal.hostReduceAdd reducesTo_S1x1x1024_S1024_d0_1 v 0 (ix1 i) = v (ix3 0 0 i) := by
  have hd (y : S1x1x1024.Idx) : reducesTo_S1x1x1024_S1024_d0_1.drop y = ix1 (y 2) := by
    funext b
    match b with
    | ⟨0, _⟩ => rfl
  show (0 : EReal) + _ = _
  rw [zero_add, Finset.sum_eq_single_of_mem (ix3 0 0 i) (Finset.mem_filter.mpr ⟨Finset.mem_univ _, hd _⟩)]
  intro y hy hn
  refine absurd ?_ hn
  have e : y 2 = i := congrFun ((hd y).symm.trans (Finset.mem_filter.mp hy).2) 0
  funext a
  match a with
  | ⟨0, _⟩ => exact Subsingleton.elim (α := Fin 1) _ _
  | ⟨1, _⟩ => exact Subsingleton.elim (α := Fin 1) _ _
  | ⟨2, _⟩ => exact e

/-- The gradient of `x`. -/
theorem gx_at (R : Fin 16384) (i : Fin 1024) : val_main_v33 (F := Ideal) x1 x2 x3 x4 (ix2 R i)
    = (Ideal.ofBits .f32 0x3F9837F0#32 * x3 (ix3 0 R i) + (∑ k : Fin 4304, x4 (ix3 0 R k) * x2 (ix2 i k)) * (1 + x1 (ix2 0 ⟨1024 + i.val, by omega⟩)) : EReal) := by
  rw [← val_main_v33_eq]
  pointwise

/-- The gradient of the weight. -/
theorem dw_at (i : Fin 1024) (k : Fin 4304) : val_main_v14 (F := Ideal) x0 x1 x4 (ix2 i k)
    = (∑ R : Fin 16384, (x0 (ix3 0 R i) * (1 + x1 (ix2 0 ⟨1024 + i.val, by omega⟩)) + x1 (ix2 0 ⟨i.val, by omega⟩)) * x4 (ix3 0 R k) : EReal) := by
  rw [← val_main_v14_eq]
  pointwise
  rw [Fin.sum_univ_one]
  exact Finset.sum_congr rfl fun R _ => mul_comm _ _

/-- The gradient of the shift. -/
theorem dshift_at (i : Fin 1024) : val_main_v34 (F := Ideal) x0 x2 x4 (ix2 0 i)
    = (∑ R : Fin 16384, ∑ k : Fin 4304, x4 (ix3 0 R k) * x2 (ix2 i k) : EReal) := by
  rw [← val_main_v34_eq]
  pointwise
  rw [dif_neg (fun h => h.1), zero_add, reduce_ones]
  pointwise

/-- The gradient of the scale. -/
theorem dscale_at (i : Fin 1024) : val_main_v35 (F := Ideal) x0 x2 x4 (ix2 0 i)
    = (∑ R : Fin 16384, (∑ k : Fin 4304, x4 (ix3 0 R k) * x2 (ix2 i k)) * x0 (ix3 0 R i) : EReal) := by
  rw [← val_main_v35_eq]
  pointwise
  rw [reduce_ones]
  pointwise
  exact Finset.sum_congr rfl fun R _ => mul_comm _ _

end Cert.InGradRefIdeal.Val
end
-- ==== Proof.InEq.lean ====
module
public import proofs.«01_k».proof.Defs
public import proofs.«01_k».proof.Proof.InEnd
public import proofs.«01_k».proof.Proof.InRef
public import Idealize.ShloMosaic.Lib.Claim

/-!
The input-projection gradient kernel and its reference end with equal results.
-/

@[expose] public section

set_option maxRecDepth 16384

noncomputable section

namespace Cert.Proof

open Idealize.ShloMosaic Idealize.ShloMosaic.TcCoe Idealize.SL.Sem

open Cert.InGradIdeal.Val in
theorem algebraic_in : Cert.algebraic_InGradIdeal_InGradRefIdeal (hInGradIdeal := Cert.InGradIdeal.Gen.facts) (hInGradRefIdeal := Cert.InGradRefIdeal.Gen.facts) := by
  intro m g m' g' _ hagree
  refine ⟨fun c => (Cert.InGradIdeal.Gen.dats m 0 c).arrAt 11 Cert.InGradIdeal.cfg0.N,
    fun c => StableHlo.after Cert.InGradIdeal.Gen.hostOps1 (atEnd m c) (Proc.devRef .tc Cert.InGradIdeal.main_v30),
    fun c => StableHlo.after Cert.InGradIdeal.Gen.hostOps1 (atEnd m c) (Proc.devRef .tc Cert.InGradIdeal.main_v31),
    fun c => StableHlo.after Cert.InGradIdeal.Gen.hostOps1 (atEnd m c) (Proc.devRef .tc Cert.InGradIdeal.main_v39), ?_, ?_⟩
  · refine θ_run_mono (θ_run_and (Cert.InGradIdeal.Gen.run_main m g) (Cert.InGradIdeal.Gen.frame m g)) fun r hr c => ?_
    exact ⟨(hr.1 c).1 11, (hr.1 c).2 Cert.InGradIdeal.main_v30 (Pipeline.mem_restRefs_of _ (by decide) (by decide)),
      (hr.1 c).2 Cert.InGradIdeal.main_v31 (Pipeline.mem_restRefs_of _ (by decide) (by decide)),
      (hr.1 c).2 Cert.InGradIdeal.main_v39 (Pipeline.mem_restRefs_of _ (by decide) (by decide)), hr.2.1 c⟩
  · refine θ_run_mono (Cert.InGradRefIdeal.Value.run m' g') fun r hr c => ?_
    obtain ⟨h0, h1, h2, h3, hargs⟩ := hr c
    obtain ⟨a0, a1, a2, a3, a4⟩ := hagree c
    refine ⟨h0.trans ?_, h1.trans ?_, h2.trans ?_, h3.trans ?_, hargs⟩
    · rw [Cert.InGradRefIdeal.Read.val_main_v33_eq]
      refine Eq.trans ?_ (gx_arr m c).symm
      funext j
      idx_vars j
      refine (Cert.InGradRefIdeal.Val.gx_at _ _ _ _ j0 j1).trans ?_
      rw [a1, a2, a3, a4]
    · rw [Cert.InGradRefIdeal.Read.val_main_v34_eq]
      funext j
      idx_vars j
      obtain rfl : j0 = 0 := Subsingleton.elim (α := Fin 1) _ _
      refine (Cert.InGradRefIdeal.Val.dshift_at _ _ _ j1).trans (Eq.trans ?_ (dshift_end m c j1).symm)
      rw [a2, a4]
    · rw [Cert.InGradRefIdeal.Read.val_main_v35_eq]
      funext j
      idx_vars j
      obtain rfl : j0 = 0 := Subsingleton.elim (α := Fin 1) _ _
      refine (Cert.InGradRefIdeal.Val.dscale_at _ _ _ j1).trans (Eq.trans ?_ (dscale_end m c j1).symm)
      rw [a0, a2, a4]
    · rw [Cert.InGradRefIdeal.Read.val_main_v14_eq]
      funext j
      idx_vars j
      refine (Cert.InGradRefIdeal.Val.dw_at _ _ _ j0 j1).trans (Eq.trans ?_ (dw_end m c j0 j1).symm)
      rw [a0, a1, a4]

end Cert.Proof
end
-- ==== Proof.AttnStep.lean ====
module

public import proofs.«01_k».proof.Proof.Gen.AttnGradIdeal.Frame
public import proofs.«01_k».proof.Proof.Gen.AttnGradIdeal.Skeleton
public import Idealize.ShloMosaic.Lib.LoopRemainder
public import Idealize.ShloMosaic.Lib.WritesUnit
public import Idealize.ShloMosaic.Lib.Pipeline.Value
public import Idealize.ShloMosaic.Lib.Pointwise.Index
public import Idealize.ShloMosaic.Lib.Claim

/-!
The loops of the attention gradient's kernel: what one trip of each leaves in the key and value gradients and in the
kept transposed query gradient, and the loops by that.
-/

@[expose] public section

set_option maxRecDepth 16384

noncomputable section

namespace Cert.Proof.Attn

open Cert.AttnGradIdeal Cert.AttnGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Where the loops read and write -/

/-- The query block a trip of the loop by fours takes `u`-th, and the one a trip of the last loop takes. -/
abbrev b1 (i : grid0.Coords) (k : Fin (k0_t1_loop i).trips) (u : Fin 4) : Fin 16 := Fin.ofNat 16 ((i 1).val / 2 + 4 * k.val + 1 + u.val)
abbrev b3 (i : grid0.Coords) (k : Fin (k0_t3_loop i).trips) : Fin 16 := Fin.ofNat 16 ((i 1).val / 2 + 4 * (k0_t1_loop i).trips + 1 + k.val)

theorem off10_eq : ∀ (i : grid0.Coords) (k : Fin (k0_t1_loop i).trips) (u : Fin 4),
    k0_off10 i k (BitVec.ofNat 32 u.val) = ![0, 1024 * (b1 i k u).val, 0] := by decide +kernel
theorem off11_eq : ∀ (i : grid0.Coords) (k : Fin (k0_t1_loop i).trips) (u : Fin 4),
    k0_off11 i k (BitVec.ofNat 32 u.val) = ![1024 * (b1 i k u).val, 0] := by decide +kernel
theorem off12_eq : ∀ (i : grid0.Coords) (k : Fin (k0_t1_loop i).trips) (u : Fin 4),
    k0_off12 i k (BitVec.ofNat 32 u.val) = ![0, (b1 i k u).val, 0, 0] := by decide +kernel
theorem off13_eq : ∀ (i : grid0.Coords) (k : Fin (k0_t1_loop i).trips) (u : Fin 4),
    k0_off13 i k (BitVec.ofNat 32 u.val) = ![(b1 i k u).val, 0, 0] := by decide +kernel
instance closed13_0 (i : grid0.Coords) (k : Fin (k0_t1_loop i).trips) : ClosedOff (k0_off13 i k 0#32) := ⟨_, off13_eq i k 0⟩
instance closed13_1 (i : grid0.Coords) (k : Fin (k0_t1_loop i).trips) : ClosedOff (k0_off13 i k 1#32) := ⟨_, off13_eq i k 1⟩
instance closed13_2 (i : grid0.Coords) (k : Fin (k0_t1_loop i).trips) : ClosedOff (k0_off13 i k 2#32) := ⟨_, off13_eq i k 2⟩
instance closed13_3 (i : grid0.Coords) (k : Fin (k0_t1_loop i).trips) : ClosedOff (k0_off13 i k 3#32) := ⟨_, off13_eq i k 3⟩

theorem off18_eq : ∀ (i : grid0.Coords) (k : Fin (k0_t3_loop i).trips),
    k0_off18 i k = ![0, 1024 * (b3 i k).val, 0] := by decide +kernel
theorem off19_eq : ∀ (i : grid0.Coords) (k : Fin (k0_t3_loop i).trips),
    k0_off19 i k = ![1024 * (b3 i k).val, 0] := by decide +kernel
theorem off20_eq : ∀ (i : grid0.Coords) (k : Fin (k0_t3_loop i).trips),
    k0_off20 i k = ![0, (b3 i k).val, 0, 0] := by decide +kernel
theorem off21_eq : ∀ (i : grid0.Coords) (k : Fin (k0_t3_loop i).trips),
    k0_off21 i k = ![(b3 i k).val, 0, 0] := by decide +kernel
theorem trips_eq : ∀ i : grid0.Coords, (i 1).val / 2 + 4 * (k0_t1_loop i).trips + (k0_t3_loop i).trips = 15 := by decide +kernel

/-! ## One query block's share -/

/-- Query block `n` of the head's queries, of the incoming gradient, of a row of sums, and of the kept gradient. -/
abbrev rq (n : Fin 16) : Rect S1x16384x256 := Rect.unit ![0, 1024 * n.val, 0] S1x1024x256.size (by have := n.isLt; intro a; fin_cases a <;> simp <;> omega)
abbrev rg (n : Fin 16) : Rect S16384x128 := Rect.unit ![1024 * n.val, 0] S1024x128.size (by have := n.isLt; intro a; fin_cases a <;> simp <;> omega)
abbrev rl (n : Fin 16) : Rect S1x16x1x1024 := Rect.unit ![0, n.val, 0, 0] S1x1x1x1024.size (by have := n.isLt; intro a; fin_cases a <;> simp <;> omega)
abbrev rx (n : Fin 16) : Rect S16x256x1024 := Rect.unit ![n.val, 0, 0] S1x256x1024.size (by have := n.isLt; intro a; fin_cases a <;> simp <;> omega)

/-- The key gradient's block, the value gradient's block, and the query gradient kept so far. -/
abbrev St (F : FTy → Type) [FloatOps F] := Vec F S1x512x256 .f32 × Vec F S1x512x128 .f32 × Vec F S16x256x1024 .f32

/-- The kept gradient with query block `n` replaced. -/
def put (n : Fin 16) (p : Vec F S1x256x1024 .f32) (x : Vec F S16x256x1024 .f32) : Vec F S16x256x1024 .f32 :=
  fun y => if (y 0).val = n.val then p (ix3 0 (y 1) (y 2)) else x y

/-- One query block's share, from its rows: the gradient of its scores, and what it adds to each of the three. -/
def share (v1 : FVec F S512x256 .bf16) (v2 : FVec F S256x512 .bf16) (v4 : FVec F S512x128 .bf16) (n : Fin 16)
    (q : Vec F S1x1024x256 .bf16) (g : Vec F S1024x128 .bf16) (l d : Vec F S1x1x1x1024 .f32) (s : St F) : St F :=
  ⟨k0_pay1 (k0_pay84 q) (k0_pay88 v1 v4 q g l d) (k0_pay89 s.1) (constant S512x256 .f32 0x00000000#32), k0_pay87 v1 q g l s.2.1,
    put n (k0_pay2 v2 (k0_pay88 v1 v4 q g l d) (View.ld s.2.2 (rx n))) s.2.2⟩

/-- Query block `n`'s share, its rows taken from the head's arrays. -/
def stepAt (v1 : FVec F S512x256 .bf16) (v2 : FVec F S256x512 .bf16) (v4 : FVec F S512x128 .bf16)
    (X4 : Vec F S1x16384x256 .bf16) (X5 : Vec F S16384x128 .bf16) (X6 X7 : Vec F S1x16x1x1024 .f32) (n : Fin 16) (s : St F) : St F :=
  share v1 v2 v4 n (View.ld X4 (rq n)) (View.ld X5 (rg n)) (View.ld X6 (rl n)) (View.ld X7 (rl n)) s

/-- The shares of the `k` query blocks from `a`. -/
def steps (v1 : FVec F S512x256 .bf16) (v2 : FVec F S256x512 .bf16) (v4 : FVec F S512x128 .bf16)
    (X4 : Vec F S1x16384x256 .bf16) (X5 : Vec F S16384x128 .bf16) (X6 X7 : Vec F S1x16x1x1024 .f32) (a : ℕ) : ℕ → St F → St F
  | 0, s => s
  | k + 1, s => stepAt v1 v2 v4 X4 X5 X6 X7 (Fin.ofNat 16 (a + k)) (steps v1 v2 v4 X4 X5 X6 X7 a k s)

theorem steps_add (v1 : FVec F S512x256 .bf16) (v2 : FVec F S256x512 .bf16) (v4 : FVec F S512x128 .bf16)
    (X4 : Vec F S1x16384x256 .bf16) (X5 : Vec F S16384x128 .bf16) (X6 X7 : Vec F S1x16x1x1024 .f32) (a k n : ℕ) (s : St F) :
    steps v1 v2 v4 X4 X5 X6 X7 a (k + n) s = steps v1 v2 v4 X4 X5 X6 X7 (a + k) n (steps v1 v2 v4 X4 X5 X6 X7 a k s) := by
  induction n with
  | zero => rfl
  | succ n ih => rw [← Nat.add_assoc, steps, ih, steps, Nat.add_assoc]

section Read
variable {sp : Space} (v : View sig .tc sp S16x256x1024 .f32) (f : v.ty.Contents (Elt F))
/-- A store of query block `n` of the kept gradient. -/
theorem read_put {off : Fin 3 → ℕ} (n : Fin 16) (h : off = ![n.val, 0, 0]) (inb : ∀ a, off a + S1x256x1024.size a ≤ S16x256x1024.size a)
    (p : Vec F S1x256x1024 .f32) (L : List (View.Piece (Elt F) S16x256x1024 .f32)) :
    v.read (Elt F) (v.writes (Elt F) f (⟨Rect.unit off S1x256x1024.size inb, p⟩ :: L)) = put n p (v.read (Elt F) (v.writes (Elt F) f L)) := by
  funext y
  unfold put
  split_ifs with hy
  · refine View.read_writes_cons_unit_of_mem (s := S16x256x1024) v f inb p L y (ix3 0 (y 1) (y 2)) h (fun a => ?_)
    fin_cases a
    · exact hy
    · exact (Nat.zero_add _).symm
    · exact (Nat.zero_add _).symm
  · exact View.read_writes_cons_unit_of_not_mem (s := S16x256x1024) v f inb p L y h 0 (by
      show (y 0).val < n.val ∨ n.val + 1 ≤ (y 0).val
      omega)
end Read
theorem readAt_eq {s : Shape} {e : EltTy} {sp : Space} (v : View sig .tc sp s e) (f : v.ty.Contents (Elt F)) {off off' size : Fin s.rank → ℕ} (h : off = off')
    (p : ∀ a, off a + size a ≤ s.size a) (p' : ∀ a, off' a + size a ≤ s.size a) :
    v.readAt (Elt F) (Rect.unit off size p).toLoadRect f = View.ld (v.read (Elt F) f) (Rect.unit off' size p') := by subst h; rfl
theorem read_whole {s : Shape} {e : EltTy} {sp : Space} (v : View sig .tc sp s e) (f : v.ty.Contents (Elt F)) {off : Fin s.rank → ℕ} (h : ∀ a, off a = 0)
    (inb : ∀ a, off a + s.size a ≤ s.size a) (p : s.Idx → Elt F e) (L : List (View.Piece (Elt F) s e)) :
    v.read (Elt F) (v.writes (Elt F) f (⟨Rect.unit off s.size inb, p⟩ :: L)) = p :=
  funext fun y => View.read_writes_cons_unit_of_mem _ _ _ _ _ y y (off' := fun _ => 0) (funext h) (fun a => (Nat.zero_add _).symm)

/-! ## One trip -/

section Trips
variable (c : Dev nD) (i : grid0.Coords) (arg2 : Memref sig .tc .vmem S1x512x256 .bf16) (harg2 : arg2.IsWhole) (arg3 : Memref sig .tc .vmem S1x512x128 .bf16) (harg3 : arg3.IsWhole) (arg4 : Memref sig .tc .vmem S1x16384x256 .bf16) (harg4 : arg4.IsWhole) (arg5 : Memref sig .tc .vmem S16384x128 .bf16) (harg5 : arg5.IsWhole) (arg6 : Memref sig .tc .vmem S1x16x1x1024 .f32) (harg6 : arg6.IsWhole) (arg7 : Memref sig .tc .vmem S1x16x1x1024 .f32) (harg7 : arg7.IsWhole) (arg8 : Memref sig .tc .vmem S1x512x256 .f32) (harg8 : arg8.IsWhole) (arg9 : Memref sig .tc .vmem S1x512x128 .f32) (harg9 : arg9.IsWhole) (arg10 : Memref sig .tc .vmem S1x1024x256 .f32) (harg10 : arg10.IsWhole) (arg11 : Memref sig .tc .vmem S16x256x1024 .f32) (harg11 : arg11.IsWhole)
  (v1 : FVec F S512x256 .bf16) (v2 : FVec F S256x512 .bf16) (v4 : FVec F S512x128 .bf16) (w : BitVec 32)
  (X4 : BufTy.Contents (Elt F) arg4.view.ty) (X5 : BufTy.Contents (Elt F) arg5.view.ty) (X6 : BufTy.Contents (Elt F) arg6.view.ty) (X7 : BufTy.Contents (Elt F) arg7.view.ty)

/-- What a trip reads and writes. -/
abbrev Trip (f8 : BufTy.Contents (Elt F) arg8.view.ty) (f9 : BufTy.Contents (Elt F) arg9.view.ty) (f11 : BufTy.Contents (Elt F) arg11.view.ty) : sProp 𝕄 :=
  iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg11.view.loc (c : Thread nD τ) ↦[arg11.view.set]{fullShare} f11))

/-- The three as three memrefs read them. -/
abbrev St.of (f8 : BufTy.Contents (Elt F) arg8.view.ty) (f9 : BufTy.Contents (Elt F) arg9.view.ty) (f11 : BufTy.Contents (Elt F) arg11.view.ty) : St F :=
  ⟨arg8.view.read (Elt F) f8, arg9.view.read (Elt F) f9, arg11.view.read (Elt F) f11⟩

theorem trip3 (k : Fin (k0_t3_loop i).trips) (f8 : BufTy.Contents (Elt F) arg8.view.ty) (f9 : BufTy.Contents (Elt F) arg9.view.ty) (f11 : BufTy.Contents (Elt F) arg11.view.ty) :
    Trip c arg4 arg5 arg6 arg7 arg8 arg9 arg11 X4 X5 X6 X7 f8 f9 f11
      ⊢ wp frame (wpE (defs₀ (F := F)) Variants.none (c : Thread nD τ) none) Set.univ (k0_t3_body (F := F) i arg2 harg2 arg3 harg3 arg4 harg4 arg5 harg5 arg6 harg6 arg7 harg7 arg8 harg8 arg9 harg9 arg10 harg10 arg11 harg11 v1 v2 v4 w k ())
          (fun _ => iprop(∃ g8 g9 g11, Trip c arg4 arg5 arg6 arg7 arg8 arg9 arg11 X4 X5 X6 X7 g8 g9 g11 ∗
            ⌜St.of arg8 arg9 arg11 g8 g9 g11 = steps v1 v2 v4 (arg4.view.read (Elt F) X4) (arg5.view.read (Elt F) X5) (arg6.view.read (Elt F) X6) (arg7.view.read (Elt F) X7) ((i 1).val / 2 + 4 * (k0_t1_loop i).trips + 1 + k.val) 1 (St.of arg8 arg9 arg11 f8 f9 f11)⌝)) := by
  unfold k0_t3_body
  iintro ⟨H4, H5, H6, H7, H8, H9, H11⟩
  sl_exec
  sl_step
  iexists _, _, _
  isplitl
  · isplitl [H4]; · iexact H4
    isplitl [H5]; · iexact H5
    isplitl [H6]; · iexact H6
    isplitl [H7]; · iexact H7
    isplitl [H8]; · iexact H8
    isplitl [H9]; · iexact H9
    iexact H11
  ipureintro
  have w8 : ∀ p, arg8.view.readAt (Elt F) (Rect.unit (s := S1x512x256) ![0, 0, 0] S1x512x256.size p).toLoadRect f8 = arg8.view.read (Elt F) f8 := fun p => View.ld_unit_zero (funext (by decide)) _ _
  have w9 : ∀ p, arg9.view.readAt (Elt F) (Rect.unit (s := S1x512x128) ![0, 0, 0] S1x512x128.size p).toLoadRect f9 = arg9.view.read (Elt F) f9 := fun p => View.ld_unit_zero (funext (by decide)) _ _
  have r0 : ∀ p, arg4.view.readAt (Elt F) (Rect.unit (s := S1x16384x256) (k0_off18 i k) S1x1024x256.size p).toLoadRect X4 = View.ld (arg4.view.read (Elt F) X4) (rq (b3 i k)) := fun p => readAt_eq _ _ (off18_eq i k) p _
  have g0 : ∀ p, arg5.view.readAt (Elt F) (Rect.unit (s := S16384x128) (k0_off19 i k) S1024x128.size p).toLoadRect X5 = View.ld (arg5.view.read (Elt F) X5) (rg (b3 i k)) := fun p => readAt_eq _ _ (off19_eq i k) p _
  have l0 : ∀ p, arg6.view.readAt (Elt F) (Rect.unit (s := S1x16x1x1024) (k0_off20 i k) S1x1x1x1024.size p).toLoadRect X6 = View.ld (arg6.view.read (Elt F) X6) (rl (b3 i k)) := fun p => readAt_eq _ _ (off20_eq i k) p _
  have d0 : ∀ p, arg7.view.readAt (Elt F) (Rect.unit (s := S1x16x1x1024) (k0_off20 i k) S1x1x1x1024.size p).toLoadRect X7 = View.ld (arg7.view.read (Elt F) X7) (rl (b3 i k)) := fun p => readAt_eq _ _ (off20_eq i k) p _
  have x0 : ∀ p, arg11.view.readAt (Elt F) (Rect.unit (s := S16x256x1024) (k0_off21 i k) S1x256x1024.size p).toLoadRect f11 = View.ld (arg11.view.read (Elt F) f11) (rx (b3 i k)) := fun p => readAt_eq _ _ (off21_eq i k) p _
  sl_unfold_run_names
  simp only [r0, g0, l0, d0, x0, w8, w9, k0_pay1, k0_pay2]
  refine Prod.ext ?_ (Prod.ext ?_ ?_)
  · refine (read_whole _ _ (by decide) _ _ _).trans ?_
    simp only [steps, stepAt, share, Nat.add_zero, k0_pay1]
    rfl
  · refine (read_whole _ _ (by decide) _ _ _).trans ?_
    simp only [steps, stepAt, share, Nat.add_zero]
    rfl
  · refine (read_put _ _ _ (off21_eq i k) _ _ _).trans ?_
    simp only [steps, stepAt, share, Nat.add_zero, k0_pay2]
    refine congrArg₂ (put (b3 i k)) ?_ rfl
    rfl

theorem trip1 (k : Fin (k0_t1_loop i).trips) (f8 : BufTy.Contents (Elt F) arg8.view.ty) (f9 : BufTy.Contents (Elt F) arg9.view.ty) (f11 : BufTy.Contents (Elt F) arg11.view.ty) :
    Trip c arg4 arg5 arg6 arg7 arg8 arg9 arg11 X4 X5 X6 X7 f8 f9 f11
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 v1 v2 v4 w k ())
          (fun _ => iprop(∃ g8 g9 g11, Trip c arg4 arg5 arg6 arg7 arg8 arg9 arg11 X4 X5 X6 X7 g8 g9 g11 ∗
            ⌜St.of arg8 arg9 arg11 g8 g9 g11 = steps v1 v2 v4 (arg4.view.read (Elt F) X4) (arg5.view.read (Elt F) X5) (arg6.view.read (Elt F) X6) (arg7.view.read (Elt F) X7) ((i 1).val / 2 + 4 * k.val + 1) 4 (St.of arg8 arg9 arg11 f8 f9 f11)⌝)) := by
  unfold k0_t1_body
  iintro ⟨H4, H5, H6, H7, H8, H9, H11⟩
  sl_exec
  sl_step
  iexists _, _, _
  isplitl
  · isplitl [H4]; · iexact H4
    isplitl [H5]; · iexact H5
    isplitl [H6]; · iexact H6
    isplitl [H7]; · iexact H7
    isplitl [H8]; · iexact H8
    isplitl [H9]; · iexact H9
    iexact H11
  ipureintro
  have w8 : ∀ p, arg8.view.readAt (Elt F) (Rect.unit (s := S1x512x256) ![0, 0, 0] S1x512x256.size p).toLoadRect f8 = arg8.view.read (Elt F) f8 := fun p => View.ld_unit_zero (funext (by decide)) _ _
  have w9 : ∀ p, arg9.view.readAt (Elt F) (Rect.unit (s := S1x512x128) ![0, 0, 0] S1x512x128.size p).toLoadRect f9 = arg9.view.read (Elt F) f9 := fun p => View.ld_unit_zero (funext (by decide)) _ _
  have hr (u : Fin 4) {w : BitVec 32} (hw : w = BitVec.ofNat 32 u.val) : ∀ p, arg4.view.readAt (Elt F) (Rect.unit (s := S1x16384x256) (k0_off10 i k w) S1x1024x256.size p).toLoadRect X4 = View.ld (arg4.view.read (Elt F) X4) (rq (b1 i k u)) := fun p => readAt_eq _ _ (hw ▸ off10_eq i k u) p _
  have hg (u : Fin 4) {w : BitVec 32} (hw : w = BitVec.ofNat 32 u.val) : ∀ p, arg5.view.readAt (Elt F) (Rect.unit (s := S16384x128) (k0_off11 i k w) S1024x128.size p).toLoadRect X5 = View.ld (arg5.view.read (Elt F) X5) (rg (b1 i k u)) := fun p => readAt_eq _ _ (hw ▸ off11_eq i k u) p _
  have hl (u : Fin 4) {w : BitVec 32} (hw : w = BitVec.ofNat 32 u.val) : ∀ p, arg6.view.readAt (Elt F) (Rect.unit (s := S1x16x1x1024) (k0_off12 i k w) S1x1x1x1024.size p).toLoadRect X6 = View.ld (arg6.view.read (Elt F) X6) (rl (b1 i k u)) := fun p => readAt_eq _ _ (hw ▸ off12_eq i k u) p _
  have hd (u : Fin 4) {w : BitVec 32} (hw : w = BitVec.ofNat 32 u.val) : ∀ p, arg7.view.readAt (Elt F) (Rect.unit (s := S1x16x1x1024) (k0_off12 i k w) S1x1x1x1024.size p).toLoadRect X7 = View.ld (arg7.view.read (Elt F) X7) (rl (b1 i k u)) := fun p => readAt_eq _ _ (hw ▸ off12_eq i k u) p _
  have hx (u : Fin 4) {w : BitVec 32} (hw : w = BitVec.ofNat 32 u.val) : ∀ p f, arg11.view.readAt (Elt F) (Rect.unit (s := S16x256x1024) (k0_off13 i k w) S1x256x1024.size p).toLoadRect f = View.ld (arg11.view.read (Elt F) f) (rx (b1 i k u)) := fun p f => readAt_eq _ _ (hw ▸ off13_eq i k u) p _
  have hp (u : Fin 4) {w : BitVec 32} (hw : w = BitVec.ofNat 32 u.val) : ∀ inb p L, arg11.view.read (Elt F) (arg11.view.writes (Elt F) f11 (⟨Rect.unit (s := S16x256x1024) (k0_off13 i k w) S1x256x1024.size inb, p⟩ :: L)) = put (b1 i k u) p (arg11.view.read (Elt F) (arg11.view.writes (Elt F) f11 L)) := fun inb p L => read_put _ _ _ (hw ▸ off13_eq i k u) inb p L
  have r0 := hr 0 (w := 0#32) rfl; have r1 := hr 1 (w := 1#32) rfl; have r2 := hr 2 (w := 2#32) rfl; have r3 := hr 3 (w := 3#32) rfl; clear hr
  have g0 := hg 0 (w := 0#32) rfl; have g1 := hg 1 (w := 1#32) rfl; have g2 := hg 2 (w := 2#32) rfl; have g3 := hg 3 (w := 3#32) rfl; clear hg
  have l0 := hl 0 (w := 0#32) rfl; have l1 := hl 1 (w := 1#32) rfl; have l2 := hl 2 (w := 2#32) rfl; have l3 := hl 3 (w := 3#32) rfl; clear hl
  have d0 := hd 0 (w := 0#32) rfl; have d1 := hd 1 (w := 1#32) rfl; have d2 := hd 2 (w := 2#32) rfl; have d3 := hd 3 (w := 3#32) rfl; clear hd
  have x0 := hx 0 (w := 0#32) rfl; have x1 := hx 1 (w := 1#32) rfl; have x2 := hx 2 (w := 2#32) rfl; have x3 := hx 3 (w := 3#32) rfl; clear hx
  have p0 := hp 0 (w := 0#32) rfl; have p1 := hp 1 (w := 1#32) rfl; have p2 := hp 2 (w := 2#32) rfl; have p3 := hp 3 (w := 3#32) rfl; clear hp
  refine Prod.ext ?_ (Prod.ext ?_ ?_)
  · refine (read_whole _ _ (by decide) _ _ _).trans ?_
    sl_unfold_run_names
    simp only [r0, r1, r2, r3, g0, g1, g2, g3, l0, l1, l2, l3, d0, d1, d2, d3, w8, View.readCov_cons_toLoadRect]
    rfl
  · refine (read_whole _ _ (by decide) _ _ _).trans ?_
    sl_unfold_run_names
    simp only [r0, r1, r2, r3, g0, g1, g2, g3, l0, l1, l2, l3, d0, d1, d2, d3, w9, View.readCov_cons_toLoadRect]
    rfl
  · sl_unfold_run_names
    simp only [r0, r1, r2, r3, g0, g1, g2, g3, l0, l1, l2, l3, d0, d1, d2, d3, x0, x1, x2, x3, p0, p1, p2, p3]
    simp only [steps, stepAt, share]
    refine congrArg₂ (put (b1 i k 3)) ?_ (congrArg₂ (put (b1 i k 2)) ?_ (congrArg₂ (put (b1 i k 1)) ?_ (congrArg₂ (put (b1 i k 0)) ?_ rfl)))
    · rfl
    · rfl
    · rfl
    · rfl

variable (G8 : BufTy.Contents (Elt F) arg8.view.ty) (G9 : BufTy.Contents (Elt F) arg9.view.ty) (G11 : BufTy.Contents (Elt F) arg11.view.ty)

/-- Before a trip: what is read as it was, what is written at the shares of the `n` query blocks from `a`. -/
abbrev Inv (a n : ℕ) : sProp 𝕄 :=
  iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (∃ f, (arg8.view.loc (c : Thread nD τ) ↦[arg8.view.set]{fullShare} f) ∗ ⌜arg8.view.read (Elt F) f = (steps v1 v2 v4 (arg4.view.read (Elt F) X4) (arg5.view.read (Elt F) X5) (arg6.view.read (Elt F) X6) (arg7.view.read (Elt F) X7) a n (St.of arg8 arg9 arg11 G8 G9 G11)).1⌝)
    ∗ (∃ f, (arg9.view.loc (c : Thread nD τ) ↦[arg9.view.set]{fullShare} f) ∗ ⌜arg9.view.read (Elt F) f = (steps v1 v2 v4 (arg4.view.read (Elt F) X4) (arg5.view.read (Elt F) X5) (arg6.view.read (Elt F) X6) (arg7.view.read (Elt F) X7) a n (St.of arg8 arg9 arg11 G8 G9 G11)).2.1⌝)
    ∗ (∃ f, (arg11.view.loc (c : Thread nD τ) ↦[arg11.view.set]{fullShare} f) ∗ ⌜arg11.view.read (Elt F) f = (steps v1 v2 v4 (arg4.view.read (Elt F) X4) (arg5.view.read (Elt F) X5) (arg6.view.read (Elt F) X6) (arg7.view.read (Elt F) X7) a n (St.of arg8 arg9 arg11 G8 G9 G11)).2.2⌝))

set_option warn.classDefReducibility false in
/-- The last loop, a query block each trip. -/
def loop3 : LoopInv (M := 𝕄) frame (wpE (defs₀ (F := F)) Variants.none (c : Thread nD τ) none) Set.univ
    (k0_t3_loop i).lb (k0_t3_loop i).ub (k0_t3_loop i).st (k0_t3_ok i) () (k0_t3_body (F := F) i arg2 harg2 arg3 harg3 arg4 harg4 arg5 harg5 arg6 harg6 arg7 harg7 arg8 harg8 arg9 harg9 arg10 harg10 arg11 harg11 v1 v2 v4 w) where
  inv k _ := Inv c arg4 arg5 arg6 arg7 arg8 arg9 arg11 v1 v2 v4 X4 X5 X6 X7 G8 G9 G11 ((i 1).val / 2 + 4 * (k0_t1_loop i).trips + 1) k
  step k _ := by
    iintro ⟨H4, H5, H6, H7, ⟨%f8, H8, %h8⟩, ⟨%f9, H9, %h9⟩, ⟨%f11, H11, %h11⟩⟩
    iapply (wp_wand_r frame (wpE (defs₀ (F := F)) Variants.none (c : Thread nD τ) none) Set.univ)
    isplitl [H4 H5 H6 H7 H8 H9 H11]
    · iapply (trip3 c i arg2 harg2 arg3 harg3 arg4 harg4 arg5 harg5 arg6 harg6 arg7 harg7 arg8 harg8 arg9 harg9 arg10 harg10 arg11 harg11 v1 v2 v4 w X4 X5 X6 X7 k f8 f9 f11)
      isplitl [H4]; · iexact H4
      isplitl [H5]; · iexact H5
      isplitl [H6]; · iexact H6
      isplitl [H7]; · iexact H7
      isplitl [H8]; · iexact H8
      isplitl [H9]; · iexact H9
      iexact H11
    · iintro %_ ⟨%g8, %g9, %g11, ⟨H4, H5, H6, H7, H8, H9, H11⟩, %hg⟩
      have e : St.of arg8 arg9 arg11 g8 g9 g11 = steps v1 v2 v4 (arg4.view.read (Elt F) X4) (arg5.view.read (Elt F) X5) (arg6.view.read (Elt F) X6) (arg7.view.read (Elt F) X7) ((i 1).val / 2 + 4 * (k0_t1_loop i).trips + 1) (k.val + 1) (St.of arg8 arg9 arg11 G8 G9 G11) := by
        rw [steps_add, hg, show St.of arg8 arg9 arg11 f8 f9 f11 = _ from Prod.ext h8 (Prod.ext h9 h11)]
      isplitl [H4]; · iexact H4
      isplitl [H5]; · iexact H5
      isplitl [H6]; · iexact H6
      isplitl [H7]; · iexact H7
      isplitl [H8]
      · iexists _; isplitl [H8]; · iexact H8
        ipureintro; exact congrArg (·.1) e
      isplitl [H9]
      · iexists _; isplitl [H9]; · iexact H9
        ipureintro; exact congrArg (·.2.1) e
      iexists _; isplitl [H11]; · iexact H11
      ipureintro; exact congrArg (·.2.2) e

set_option warn.classDefReducibility false in
/-- The loop by fours. -/
def loop1 : LoopInv (M := 𝕄) frame (wpE (defs₀ (F := F)) Variants.none (c : Thread nD τ) none) Set.univ
    (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 arg10 harg10 arg11 harg11 v1 v2 v4 w) where
  inv k _ := Inv c arg4 arg5 arg6 arg7 arg8 arg9 arg11 v1 v2 v4 X4 X5 X6 X7 G8 G9 G11 ((i 1).val / 2 + 1) (4 * k)
  step k _ := by
    iintro ⟨H4, H5, H6, H7, ⟨%f8, H8, %h8⟩, ⟨%f9, H9, %h9⟩, ⟨%f11, H11, %h11⟩⟩
    iapply (wp_wand_r frame (wpE (defs₀ (F := F)) Variants.none (c : Thread nD τ) none) Set.univ)
    isplitl [H4 H5 H6 H7 H8 H9 H11]
    · iapply (trip1 c i arg2 harg2 arg3 harg3 arg4 harg4 arg5 harg5 arg6 harg6 arg7 harg7 arg8 harg8 arg9 harg9 arg10 harg10 arg11 harg11 v1 v2 v4 w X4 X5 X6 X7 k f8 f9 f11)
      isplitl [H4]; · iexact H4
      isplitl [H5]; · iexact H5
      isplitl [H6]; · iexact H6
      isplitl [H7]; · iexact H7
      isplitl [H8]; · iexact H8
      isplitl [H9]; · iexact H9
      iexact H11
    · iintro %_ ⟨%g8, %g9, %g11, ⟨H4, H5, H6, H7, H8, H9, H11⟩, %hg⟩
      have e : St.of arg8 arg9 arg11 g8 g9 g11 = steps v1 v2 v4 (arg4.view.read (Elt F) X4) (arg5.view.read (Elt F) X5) (arg6.view.read (Elt F) X6) (arg7.view.read (Elt F) X7) ((i 1).val / 2 + 1) (4 * (k.val + 1)) (St.of arg8 arg9 arg11 G8 G9 G11) := by
        rw [show 4 * (k.val + 1) = 4 * k.val + 4 by omega, steps_add, hg, show St.of arg8 arg9 arg11 f8 f9 f11 = _ from Prod.ext h8 (Prod.ext h9 h11),
          show (i 1).val / 2 + 1 + 4 * k.val = (i 1).val / 2 + 4 * k.val + 1 by omega]
      isplitl [H4]; · iexact H4
      isplitl [H5]; · iexact H5
      isplitl [H6]; · iexact H6
      isplitl [H7]; · iexact H7
      isplitl [H8]
      · iexists _; isplitl [H8]; · iexact H8
        ipureintro; exact congrArg (·.1) e
      isplitl [H9]
      · iexists _; isplitl [H9]; · iexact H9
        ipureintro; exact congrArg (·.2.1) e
      iexists _; isplitl [H11]; · iexact H11
      ipureintro; exact congrArg (·.2.2) e
end Trips

end Cert.Proof.Attn

end
-- ==== Proof.AttnStart.lean ====
module

public import proofs.«01_k».proof.Proof.AttnStep

/-!
The start of a grid point of the attention gradient's kernel: the block pair on the diagonal, where the mask bites.
-/

@[expose] public section

set_option maxRecDepth 16384

noncomputable section

namespace Cert.Proof.Attn

open Cert.AttnGradIdeal Cert.AttnGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The query block on the diagonal of a grid point's key block, and the two numbers as the kernel computes them. -/
abbrev nb (i : grid0.Coords) : Fin 16 := Fin.ofNat 16 ((i 1).val / 2)
abbrev wj (i : grid0.Coords) : BitVec 32 := BitVec.ofNat 32 (i 1).val
abbrev wn (i : grid0.Coords) : BitVec 32 := Scalar.shrsi (wj i) 1#32

theorem off1_eq : ∀ i : grid0.Coords, k0_off1 i = ![0, 1024 * (nb i).val, 0] := by decide +kernel
theorem off2_eq : ∀ i : grid0.Coords, k0_off2 i = ![1024 * (nb i).val, 0] := by decide +kernel
theorem off3_eq : ∀ i : grid0.Coords, k0_off3 i = ![0, (nb i).val, 0, 0] := by decide +kernel
theorem off4_eq : ∀ i : grid0.Coords, k0_off4 i = ![(nb i).val, 0, 0] := by decide +kernel
theorem off5_eq : ∀ i : grid0.Coords, k0_off5 i = ![0, 1024 * (nb i).val + 512, 0] := by decide +kernel
theorem off6_eq : ∀ i : grid0.Coords, k0_off6 i = ![1024 * (nb i).val + 512, 0] := by decide +kernel
theorem off7_eq : ∀ i : grid0.Coords, k0_off7 i = ![0, (nb i).val, 0, 0] := by decide +kernel
theorem off8_eq : ∀ i : grid0.Coords, k0_off8 i = ![(nb i).val, 0, 512] := by decide +kernel
theorem off9_eq : ∀ i : grid0.Coords, k0_off9 i = ![(nb i).val, 0, 0] := by decide +kernel
instance closed4 (i : grid0.Coords) : ClosedOff (k0_off4 i) := ⟨_, off4_eq i⟩
instance closed8 (i : grid0.Coords) : ClosedOff (k0_off8 i) := ⟨_, off8_eq i⟩
instance closed9 (i : grid0.Coords) : ClosedOff (k0_off9 i) := ⟨_, off9_eq i⟩

/-- The second halves of query block `n`. -/
abbrev rqh (n : Fin 16) : Rect S1x16384x256 := Rect.unit ![0, 1024 * n.val + 512, 0] S1x512x256.size (by have := n.isLt; intro a; fin_cases a <;> simp <;> omega)
abbrev rgh (n : Fin 16) : Rect S16384x128 := Rect.unit ![1024 * n.val + 512, 0] S512x128.size (by have := n.isLt; intro a; fin_cases a <;> simp <;> omega)
abbrev rxh (n : Fin 16) : Rect S16x256x1024 := Rect.unit ![n.val, 0, 512] S1x256x512.size (by have := n.isLt; intro a; fin_cases a <;> simp <;> omega)

/-- The kept gradient with the second half of query block `n` replaced. -/
def putHalf (n : Fin 16) (p : Vec F S1x256x512 .f32) (x : Vec F S16x256x1024 .f32) : Vec F S16x256x1024 .f32 :=
  fun y => if (y 0).val = n.val ∧ 512 ≤ (y 2).val then p (ix3 0 (y 1) (Fin.ofNat 512 ((y 2).val - 512))) else x y

theorem read_putHalf {sp : Space} (v : View sig .tc sp S16x256x1024 .f32) (f : v.ty.Contents (Elt F)) {off : Fin 3 → ℕ} (n : Fin 16) (h : off = ![n.val, 0, 512])
    (inb : ∀ a, off a + S1x256x512.size a ≤ S16x256x1024.size a) (p : Vec F S1x256x512 .f32) (L : List (View.Piece (Elt F) S16x256x1024 .f32)) :
    v.read (Elt F) (v.writes (Elt F) f (⟨Rect.unit off S1x256x512.size inb, p⟩ :: L)) = putHalf n p (v.read (Elt F) (v.writes (Elt F) f L)) := by
  funext y
  have h2 : (y 2).val < 1024 := (y 2).isLt
  unfold putHalf
  split_ifs with hy
  · refine View.read_writes_cons_unit_of_mem (s := S16x256x1024) v f inb p L y (ix3 0 (y 1) (Fin.ofNat 512 ((y 2).val - 512))) h (fun a => ?_)
    fin_cases a
    · exact hy.1
    · exact (Nat.zero_add _).symm
    · show (y 2).val = 512 + ((y 2).val - 512) % 512
      have := hy.2
      omega
  · by_cases h0 : (y 0).val = n.val
    · exact View.read_writes_cons_unit_of_not_mem (s := S16x256x1024) v f inb p L y h 2 (by
        show (y 2).val < 512 ∨ 512 + 512 ≤ (y 2).val
        omega)
    · exact View.read_writes_cons_unit_of_not_mem (s := S16x256x1024) v f inb p L y h 0 (by
        show (y 0).val < n.val ∨ n.val + 1 ≤ (y 0).val
        omega)

/-- The three before the diagonal's share: nothing for the keys and the values; of the queries what earlier key blocks left. -/
def fresh (i : grid0.Coords) (x : Vec F S16x256x1024 .f32) : Vec F S16x256x1024 .f32 := if (i 1).val = 0 then k0_pay99 else x

/-- Whether a key block is the first, an even one, an odd one, as the kernel asks. -/
theorem first_iff : ∀ i : grid0.Coords, Scalar.cmpi .ne (Scalar.extui (Scalar.cmpi .eq (wj i) 0#32) : BitVec 32) 0#32 = 1#1 ↔ (i 1).val = 0 := by decide +kernel
theorem even_iff : ∀ i : grid0.Coords, k0_cond2 i = 1#1 ↔ (i 1).val % 2 = 0 := by decide +kernel
theorem odd_iff : ∀ i : grid0.Coords, k0_cond3 i = 1#1 ↔ ¬ (i 1).val % 2 = 0 := by decide +kernel

section Diag
variable (i : grid0.Coords) (X2 : Vec F S1x512x256 .bf16) (X3 : Vec F S1x512x128 .bf16) (X4 : Vec F S1x16384x256 .bf16) (X5 : Vec F S16384x128 .bf16)
  (X6 X7 : Vec F S1x16x1x1024 .f32) (x : Vec F S16x256x1024 .f32)

/-- After the diagonal's share at an even key block: the whole query block has a share. -/
def diagEven : St F :=
  ⟨k0_pay103 (k0_pay6 (View.ld X4 (rq (nb i)))) (k0_pay8 (wj i) (k0_pay96 X2) (wn i) (View.ld X4 (rq (nb i))) (View.ld X6 (rl (nb i))))
      (k0_pay10 (k0_pay98 X3) (View.ld X5 (rg (nb i)))) (View.ld X7 (rl (nb i))) k0_pay100,
    k0_pay9 (wj i) (k0_pay96 X2) (wn i) (View.ld X4 (rq (nb i))) (View.ld X5 (rg (nb i))) (View.ld X6 (rl (nb i))) k0_pay101,
    put (nb i) (k0_pay104 X2 (k0_pay8 (wj i) (k0_pay96 X2) (wn i) (View.ld X4 (rq (nb i))) (View.ld X6 (rl (nb i))))
      (k0_pay10 (k0_pay98 X3) (View.ld X5 (rg (nb i)))) (View.ld X7 (rl (nb i))) (View.ld (fresh i x) (rx (nb i)))) (fresh i x)⟩

/-- After the diagonal's share at an odd key block: the second half of the query block has a share. -/
def diagOdd : St F :=
  ⟨k0_pay106 (k0_pay11 (View.ld X4 (rqh (nb i)))) (k0_pay13 (wj i) (k0_pay96 X2) (wn i) (View.ld X4 (rqh (nb i))) (View.ld X6 (rl (nb i))))
      (k0_pay15 (k0_pay98 X3) (View.ld X5 (rgh (nb i)))) (View.ld X7 (rl (nb i))) k0_pay100,
    k0_pay14 (wj i) (k0_pay96 X2) (wn i) (View.ld X4 (rqh (nb i))) (View.ld X5 (rgh (nb i))) (View.ld X6 (rl (nb i))) k0_pay101,
    putHalf (nb i) (k0_pay107 X2 (k0_pay13 (wj i) (k0_pay96 X2) (wn i) (View.ld X4 (rqh (nb i))) (View.ld X6 (rl (nb i))))
      (k0_pay15 (k0_pay98 X3) (View.ld X5 (rgh (nb i)))) (View.ld X7 (rl (nb i))) (View.ld x (rxh (nb i)))) x⟩

/-- The diagonal's share. -/
def diag : St F := if (i 1).val % 2 = 0 then diagEven i X2 X3 X4 X5 X6 X7 x else diagOdd i X2 X3 X4 X5 X6 X7 x

/-- The query gradient's block a point at an odd key block writes: its query block has had its last share. -/
def dqOf : Vec F S1x1024x256 .f32 := k0_pay108 (View.ld (diagOdd i X2 X3 X4 X5 X6 X7 x).2.2 (rx (nb i)))

/-- What a grid point leaves: after the diagonal's share those of the later query blocks, and the keys' sum scaled. -/
def last : St F :=
  let s := steps (k0_pay96 X2) (k0_pay97 X2) (k0_pay98 X3) X4 X5 X6 X7 ((i 1).val / 2 + 1) (15 - (i 1).val / 2) (diag i X2 X3 X4 X5 X6 X7 x)
  ⟨k0_pay5 s.1, s.2.1, s.2.2⟩

end Diag

section Start
variable (c : Dev nD) (i : grid0.Coords) (arg2 : Memref sig .tc .vmem S1x512x256 .bf16) (harg2 : arg2.IsWhole) (arg3 : Memref sig .tc .vmem S1x512x128 .bf16) (harg3 : arg3.IsWhole) (arg4 : Memref sig .tc .vmem S1x16384x256 .bf16) (harg4 : arg4.IsWhole) (arg5 : Memref sig .tc .vmem S16384x128 .bf16) (harg5 : arg5.IsWhole) (arg6 : Memref sig .tc .vmem S1x16x1x1024 .f32) (harg6 : arg6.IsWhole) (arg7 : Memref sig .tc .vmem S1x16x1x1024 .f32) (harg7 : arg7.IsWhole) (arg8 : Memref sig .tc .vmem S1x512x256 .f32) (harg8 : arg8.IsWhole) (arg9 : Memref sig .tc .vmem S1x512x128 .f32) (harg9 : arg9.IsWhole) (arg10 : Memref sig .tc .vmem S1x1024x256 .f32) (harg10 : arg10.IsWhole) (arg11 : Memref sig .tc .vmem S16x256x1024 .f32) (harg11 : arg11.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)

/-- What a grid point reads and writes. -/
abbrev Here (f8 : BufTy.Contents (Elt F) arg8.view.ty) (f9 : BufTy.Contents (Elt F) arg9.view.ty) (f10 : BufTy.Contents (Elt F) arg10.view.ty) (f11 : BufTy.Contents (Elt F) arg11.view.ty) : sProp 𝕄 :=
  iprop((arg2.view.loc (c : Thread nD τ) ↦[arg2.view.set]{fullShare} X2) ∗ (arg3.view.loc (c : Thread nD τ) ↦[arg3.view.set]{fullShare} X3)
    ∗ (arg10.view.loc (c : Thread nD τ) ↦[arg10.view.set]{fullShare} f10) ∗ Trip c arg4 arg5 arg6 arg7 arg8 arg9 arg11 X4 X5 X6 X7 f8 f9 f11)

variable (f8 : BufTy.Contents (Elt F) arg8.view.ty) (f9 : BufTy.Contents (Elt F) arg9.view.ty) (f10 : BufTy.Contents (Elt F) arg10.view.ty) (f11 : BufTy.Contents (Elt F) arg11.view.ty)

/-- What the start returns. -/
abbrev ret : Σ' (v1 : FVec F S512x256 .bf16) (v2 : FVec F S256x512 .bf16) (v4 : FVec F S512x128 .bf16) (v16 : BitVec 32) (v25 : BitVec 32), BitVec 32 :=
  ⟨k0_pay96 (arg2.view.read (Elt F) X2), k0_pay97 (arg2.view.read (Elt F) X2), k0_pay98 (arg3.view.read (Elt F) X3), wn i, Scalar.subi 15#32 (wn i), Scalar.shrsi (Scalar.subi 15#32 (wn i)) 2#32⟩

theorem start_even (hi : (i 1).val % 2 = 0) :
    Here c arg2 arg3 arg4 arg5 arg6 arg7 arg8 arg9 arg10 arg11 X2 X3 X4 X5 X6 X7 f8 f9 f10 f11
      ⊢ wp frame (wpE (defs₀ (F := F)) Variants.none (c : Thread nD τ) none) Set.univ (k0_part17 (F := F) i arg2 harg2 arg3 harg3 arg4 harg4 arg5 harg5 arg6 harg6 arg7 harg7 arg8 harg8 arg9 harg9 arg10 harg10 arg11 harg11)
          (fun r => iprop(⌜r = ret i arg2 arg3 X2 X3⌝ ∗ ∃ g8 g9 g10 g11, Here c arg2 arg3 arg4 arg5 arg6 arg7 arg8 arg9 arg10 arg11 X2 X3 X4 X5 X6 X7 g8 g9 g10 g11 ∗
            ⌜St.of arg8 arg9 arg11 g8 g9 g11 = diagEven i (arg2.view.read (Elt F) X2) (arg3.view.read (Elt F) X3) (arg4.view.read (Elt F) X4) (arg5.view.read (Elt F) X5) (arg6.view.read (Elt F) X6) (arg7.view.read (Elt F) X7) (arg11.view.read (Elt F) f11) ∧ g10 = f10⌝)) := by
  simp only [k0_part17_eq_skeleton]; unfold k0_part17_skel
  simp only [k0_part1_eq_skeleton, k0_part2_eq_skeleton]
  iintro ⟨H2, H3, H10, H4, H5, H6, H7, H8, H9, H11⟩
  have h2 : k0_cond2 i = 1#1 := (even_iff i).mpr hi
  have h3 : ¬ k0_cond3 i = 1#1 := fun h => (odd_iff i).mp h hi
  have w2 : ∀ p, arg2.view.readAt (Elt F) (Rect.unit (s := S1x512x256) ![0, 0, 0] S1x512x256.size p).toLoadRect X2 = arg2.view.read (Elt F) X2 := fun p => View.ld_unit_zero (funext (by decide)) _ _
  have w3 : ∀ p, arg3.view.readAt (Elt F) (Rect.unit (s := S1x512x128) ![0, 0, 0] S1x512x128.size p).toLoadRect X3 = arg3.view.read (Elt F) X3 := fun p => View.ld_unit_zero (funext (by decide)) _ _
  have r0 : ∀ p, arg4.view.readAt (Elt F) (Rect.unit (s := S1x16384x256) (k0_off1 i) S1x1024x256.size p).toLoadRect X4 = View.ld (arg4.view.read (Elt F) X4) (rq (nb i)) := fun p => readAt_eq _ _ (off1_eq i) p _
  have g0 : ∀ p, arg5.view.readAt (Elt F) (Rect.unit (s := S16384x128) (k0_off2 i) S1024x128.size p).toLoadRect X5 = View.ld (arg5.view.read (Elt F) X5) (rg (nb i)) := fun p => readAt_eq _ _ (off2_eq i) p _
  have l0 : ∀ p, arg6.view.readAt (Elt F) (Rect.unit (s := S1x16x1x1024) (k0_off3 i) S1x1x1x1024.size p).toLoadRect X6 = View.ld (arg6.view.read (Elt F) X6) (rl (nb i)) := fun p => readAt_eq _ _ (off3_eq i) p _
  have d0 : ∀ p, arg7.view.readAt (Elt F) (Rect.unit (s := S1x16x1x1024) (k0_off3 i) S1x1x1x1024.size p).toLoadRect X7 = View.ld (arg7.view.read (Elt F) X7) (rl (nb i)) := fun p => readAt_eq _ _ (off3_eq i) p _
  have x0 : ∀ p f, arg11.view.readAt (Elt F) (Rect.unit (s := S16x256x1024) (k0_off4 i) S1x256x1024.size p).toLoadRect f = View.ld (arg11.view.read (Elt F) f) (rx (nb i)) := fun p f => readAt_eq _ _ (off4_eq i) p _
  by_cases h0 : (i 1).val = 0
  · have h1 := (first_iff i).mpr h0
    sl_exec (disch := first | sl_exact h1 | sl_exact h2 | sl_exact h3)
    sl_step
    isplitr
    · ipureintro
      simp only [w2, w3]
    iexists _, _, _, _
    isplitl
    · isplitl [H2]; · iexact H2
      isplitl [H3]; · iexact H3
      isplitl [H10]; · iexact H10
      isplitl [H4]; · iexact H4
      isplitl [H5]; · iexact H5
      isplitl [H6]; · iexact H6
      isplitl [H7]; · iexact H7
      isplitl [H8]; · iexact H8
      isplitl [H9]; · iexact H9
      iexact H11
    ipureintro
    refine ⟨Prod.ext ?_ (Prod.ext ?_ ?_), rfl⟩
    · refine (read_whole _ _ (by decide) _ _ _).trans ?_
      sl_unfold_run_names
      simp only [w2, w3, r0, g0, l0, d0, View.readCov_cons_toLoadRect]
      rfl
    · refine (read_whole _ _ (by decide) _ _ _).trans ?_
      sl_unfold_run_names
      simp only [w2, w3, r0, g0, l0, d0, View.readCov_cons_toLoadRect]
      rfl
    · refine (read_put _ _ _ (off4_eq i) _ _ _).trans ?_
      sl_unfold_run_names
      have e : ∀ inb, arg11.view.read (Elt F) (arg11.view.writes (Elt F) arg11.view.junk [⟨Rect.unit (s := S16x256x1024) ![0, 0, 0] S16x256x1024.size inb, k0_pay99⟩]) = fresh i (arg11.view.read (Elt F) f11) := fun inb => (read_whole _ _ (by decide) _ _ _).trans (if_pos h0).symm
      simp only [e]
      rfl
  · have h1 := fun h => h0 ((first_iff i).mp h)
    sl_exec (disch := first | sl_exact h1 | sl_exact h2 | sl_exact h3)
    sl_step
    isplitr
    · ipureintro
      simp only [w2, w3]
    iexists _, _, _, _
    isplitl
    · isplitl [H2]; · iexact H2
      isplitl [H3]; · iexact H3
      isplitl [H10]; · iexact H10
      isplitl [H4]; · iexact H4
      isplitl [H5]; · iexact H5
      isplitl [H6]; · iexact H6
      isplitl [H7]; · iexact H7
      isplitl [H8]; · iexact H8
      isplitl [H9]; · iexact H9
      iexact H11
    ipureintro
    refine ⟨Prod.ext ?_ (Prod.ext ?_ ?_), rfl⟩
    · refine (read_whole _ _ (by decide) _ _ _).trans ?_
      sl_unfold_run_names
      simp only [w2, w3, r0, g0, l0, d0, View.readCov_cons_toLoadRect]
      rfl
    · refine (read_whole _ _ (by decide) _ _ _).trans ?_
      sl_unfold_run_names
      simp only [w2, w3, r0, g0, l0, d0, View.readCov_cons_toLoadRect]
      rfl
    · refine (read_put _ _ _ (off4_eq i) _ _ _).trans ?_
      sl_unfold_run_names
      unfold diagEven; rw [show fresh i (arg11.view.read (Elt F) f11) = arg11.view.read (Elt F) f11 from if_neg h0]
      rfl

theorem start_odd (hi : ¬ (i 1).val % 2 = 0) :
    Here c arg2 arg3 arg4 arg5 arg6 arg7 arg8 arg9 arg10 arg11 X2 X3 X4 X5 X6 X7 f8 f9 f10 f11
      ⊢ wp frame (wpE (defs₀ (F := F)) Variants.none (c : Thread nD τ) none) Set.univ (k0_part17 (F := F) i arg2 harg2 arg3 harg3 arg4 harg4 arg5 harg5 arg6 harg6 arg7 harg7 arg8 harg8 arg9 harg9 arg10 harg10 arg11 harg11)
          (fun r => iprop(⌜r = ret i arg2 arg3 X2 X3⌝ ∗ ∃ g8 g9 g10 g11, Here c arg2 arg3 arg4 arg5 arg6 arg7 arg8 arg9 arg10 arg11 X2 X3 X4 X5 X6 X7 g8 g9 g10 g11 ∗
            ⌜St.of arg8 arg9 arg11 g8 g9 g11 = diagOdd i (arg2.view.read (Elt F) X2) (arg3.view.read (Elt F) X3) (arg4.view.read (Elt F) X4) (arg5.view.read (Elt F) X5) (arg6.view.read (Elt F) X6) (arg7.view.read (Elt F) X7) (arg11.view.read (Elt F) f11) ∧ arg10.view.read (Elt F) g10 = k0_pay108 (View.ld (diagOdd i (arg2.view.read (Elt F) X2) (arg3.view.read (Elt F) X3) (arg4.view.read (Elt F) X4) (arg5.view.read (Elt F) X5) (arg6.view.read (Elt F) X6) (arg7.view.read (Elt F) X7) (arg11.view.read (Elt F) f11)).2.2 (rx (nb i)))⌝)) := by
  simp only [k0_part17_eq_skeleton]; unfold k0_part17_skel
  simp only [k0_part1_eq_skeleton, k0_part2_eq_skeleton]
  iintro ⟨H2, H3, H10, H4, H5, H6, H7, H8, H9, H11⟩
  have h2 : ¬ k0_cond2 i = 1#1 := fun h => hi ((even_iff i).mp h)
  have h3 : k0_cond3 i = 1#1 := (odd_iff i).mpr hi
  have w2 : ∀ p, arg2.view.readAt (Elt F) (Rect.unit (s := S1x512x256) ![0, 0, 0] S1x512x256.size p).toLoadRect X2 = arg2.view.read (Elt F) X2 := fun p => View.ld_unit_zero (funext (by decide)) _ _
  have w3 : ∀ p, arg3.view.readAt (Elt F) (Rect.unit (s := S1x512x128) ![0, 0, 0] S1x512x128.size p).toLoadRect X3 = arg3.view.read (Elt F) X3 := fun p => View.ld_unit_zero (funext (by decide)) _ _
  have r0 : ∀ p, arg4.view.readAt (Elt F) (Rect.unit (s := S1x16384x256) (k0_off5 i) S1x512x256.size p).toLoadRect X4 = View.ld (arg4.view.read (Elt F) X4) (rqh (nb i)) := fun p => readAt_eq _ _ (off5_eq i) p _
  have g0 : ∀ p, arg5.view.readAt (Elt F) (Rect.unit (s := S16384x128) (k0_off6 i) S512x128.size p).toLoadRect X5 = View.ld (arg5.view.read (Elt F) X5) (rgh (nb i)) := fun p => readAt_eq _ _ (off6_eq i) p _
  have l0 : ∀ p, arg6.view.readAt (Elt F) (Rect.unit (s := S1x16x1x1024) (k0_off7 i) S1x1x1x1024.size p).toLoadRect X6 = View.ld (arg6.view.read (Elt F) X6) (rl (nb i)) := fun p => readAt_eq _ _ (off7_eq i) p _
  have d0 : ∀ p, arg7.view.readAt (Elt F) (Rect.unit (s := S1x16x1x1024) (k0_off7 i) S1x1x1x1024.size p).toLoadRect X7 = View.ld (arg7.view.read (Elt F) X7) (rl (nb i)) := fun p => readAt_eq _ _ (off7_eq i) p _
  have x0 : ∀ p f, arg11.view.readAt (Elt F) (Rect.unit (s := S16x256x1024) (k0_off8 i) S1x256x512.size p).toLoadRect f = View.ld (arg11.view.read (Elt F) f) (rxh (nb i)) := fun p f => readAt_eq _ _ (off8_eq i) p _
  have h1 := fun h => hi (by rw [(first_iff i).mp h])
  sl_exec (disch := first | sl_exact h1 | sl_exact h2 | sl_exact h3)
  sl_step
  isplitr
  · ipureintro
    simp only [w2, w3]
  iexists _, _, _, _
  isplitl
  · isplitl [H2]; · iexact H2
    isplitl [H3]; · iexact H3
    isplitl [H10]; · iexact H10
    isplitl [H4]; · iexact H4
    isplitl [H5]; · iexact H5
    isplitl [H6]; · iexact H6
    isplitl [H7]; · iexact H7
    isplitl [H8]; · iexact H8
    isplitl [H9]; · iexact H9
    iexact H11
  ipureintro
  refine ⟨Prod.ext ?_ (Prod.ext ?_ ?_), ?_⟩
  · refine (read_whole _ _ (by decide) _ _ _).trans ?_
    sl_unfold_run_names
    simp only [w2, w3, r0, g0, l0, d0, View.readCov_cons_toLoadRect]
    rfl
  · refine (read_whole _ _ (by decide) _ _ _).trans ?_
    sl_unfold_run_names
    simp only [w2, w3, r0, g0, l0, d0, View.readCov_cons_toLoadRect]
    rfl
  · refine (read_putHalf _ _ _ (off8_eq i) _ _ _).trans ?_
    sl_unfold_run_names
    rfl
  · refine (read_whole _ _ (by decide) _ _ _).trans ?_
    sl_unfold_run_names
    have x9 : ∀ p f, arg11.view.readAt (Elt F) (Rect.unit (s := S16x256x1024) (k0_off9 i) S1x256x1024.size p).toLoadRect f = View.ld (arg11.view.read (Elt F) f) (rx (nb i)) := fun p f => readAt_eq _ _ (off9_eq i) p _
    have e : ∀ inb p L, arg11.view.read (Elt F) (arg11.view.writes (Elt F) f11 (⟨Rect.unit (s := S16x256x1024) (k0_off8 i) S1x256x512.size inb, p⟩ :: L)) = putHalf (nb i) p (arg11.view.read (Elt F) (arg11.view.writes (Elt F) f11 L)) := fun inb p L => read_putHalf _ _ _ (off8_eq i) inb p L
    simp only [w2, w3, r0, g0, l0, d0, x0, x9, e]
    rfl

/-- What the start leaves, at either key block. -/
theorem start :
    Here c arg2 arg3 arg4 arg5 arg6 arg7 arg8 arg9 arg10 arg11 X2 X3 X4 X5 X6 X7 f8 f9 f10 f11
      ⊢ wp frame (wpE (defs₀ (F := F)) Variants.none (c : Thread nD τ) none) Set.univ (k0_part17 (F := F) i arg2 harg2 arg3 harg3 arg4 harg4 arg5 harg5 arg6 harg6 arg7 harg7 arg8 harg8 arg9 harg9 arg10 harg10 arg11 harg11)
          (fun r => iprop(⌜r = ret i arg2 arg3 X2 X3⌝ ∗ ∃ g8 g9 g10 g11, Here c arg2 arg3 arg4 arg5 arg6 arg7 arg8 arg9 arg10 arg11 X2 X3 X4 X5 X6 X7 g8 g9 g10 g11 ∗
            ⌜St.of arg8 arg9 arg11 g8 g9 g11 = diag i (arg2.view.read (Elt F) X2) (arg3.view.read (Elt F) X3) (arg4.view.read (Elt F) X4) (arg5.view.read (Elt F) X5) (arg6.view.read (Elt F) X6) (arg7.view.read (Elt F) X7) (arg11.view.read (Elt F) f11) ∧ ((i 1).val % 2 = 0 → g10 = f10) ∧ (¬ (i 1).val % 2 = 0 → arg10.view.read (Elt F) g10 = dqOf i (arg2.view.read (Elt F) X2) (arg3.view.read (Elt F) X3) (arg4.view.read (Elt F) X4) (arg5.view.read (Elt F) X5) (arg6.view.read (Elt F) X6) (arg7.view.read (Elt F) X7) (arg11.view.read (Elt F) f11))⌝)) := by
  by_cases hi : (i 1).val % 2 = 0
  · refine (start_even c i arg2 harg2 arg3 harg3 arg4 harg4 arg5 harg5 arg6 harg6 arg7 harg7 arg8 harg8 arg9 harg9 arg10 harg10 arg11 harg11 X2 X3 X4 X5 X6 X7 f8 f9 f10 f11 hi).trans (wp_mono frame _ _ fun r => ?_)
    iintro ⟨%hr, %g8, %g9, %g10, %g11, H, %hg⟩
    isplitr; · ipureintro; exact hr
    iexists _, _, _, _
    isplitl; · iexact H
    ipureintro
    exact ⟨hg.1.trans (if_pos hi).symm, fun _ => hg.2, fun h => absurd hi h⟩
  · refine (start_odd c i arg2 harg2 arg3 harg3 arg4 harg4 arg5 harg5 arg6 harg6 arg7 harg7 arg8 harg8 arg9 harg9 arg10 harg10 arg11 harg11 X2 X3 X4 X5 X6 X7 f8 f9 f10 f11 hi).trans (wp_mono frame _ _ fun r => ?_)
    iintro ⟨%hr, %g8, %g9, %g10, %g11, H, %hg⟩
    isplitr; · ipureintro; exact hr
    iexists _, _, _, _
    isplitl; · iexact H
    ipureintro
    exact ⟨hg.1.trans (if_neg hi).symm, fun h => absurd h hi, fun _ => hg.2⟩

theorem point :
    Here c arg2 arg3 arg4 arg5 arg6 arg7 arg8 arg9 arg10 arg11 X2 X3 X4 X5 X6 X7 f8 f9 f10 f11
      ⊢ wp frame (wpE (defs₀ (F := F)) Variants.none (c : Thread nD τ) none) Set.univ (cc0_attn_bwd (F := F) i arg2 harg2 arg3 harg3 arg4 harg4 arg5 harg5 arg6 harg6 arg7 harg7 arg8 harg8 arg9 harg9 arg10 harg10 arg11 harg11)
          (fun _ => iprop(∃ g8 g9 g10 g11, Here c arg2 arg3 arg4 arg5 arg6 arg7 arg8 arg9 arg10 arg11 X2 X3 X4 X5 X6 X7 g8 g9 g10 g11 ∗
            ⌜St.of arg8 arg9 arg11 g8 g9 g11 = last i (arg2.view.read (Elt F) X2) (arg3.view.read (Elt F) X3) (arg4.view.read (Elt F) X4) (arg5.view.read (Elt F) X5) (arg6.view.read (Elt F) X6) (arg7.view.read (Elt F) X7) (arg11.view.read (Elt F) f11) ∧ ((i 1).val % 2 = 0 → g10 = f10) ∧ (¬ (i 1).val % 2 = 0 → arg10.view.read (Elt F) g10 = dqOf i (arg2.view.read (Elt F) X2) (arg3.view.read (Elt F) X3) (arg4.view.read (Elt F) X4) (arg5.view.read (Elt F) X5) (arg6.view.read (Elt F) X6) (arg7.view.read (Elt F) X7) (arg11.view.read (Elt F) f11))⌝)) := by
  simp only [cc0_attn_bwd_eq_skeleton]; unfold cc0_attn_bwd_skel
  rw [wp_bind]
  refine (start c i arg2 harg2 arg3 harg3 arg4 harg4 arg5 harg5 arg6 harg6 arg7 harg7 arg8 harg8 arg9 harg9 arg10 harg10 arg11 harg11 X2 X3 X4 X5 X6 X7 f8 f9 f10 f11).trans (wp_mono frame _ _ fun r => ?_)
  iintro ⟨%hr, %g8, %g9, %g10, %g11, ⟨H2, H3, H10, H4, H5, H6, H7, H8, H9, H11⟩, %hg⟩
  subst hr
  dsimp only
  rw [wp_bind]
  iapply (wp_wand_r frame (wpE (defs₀ (F := F)) Variants.none (c : Thread nD τ) none) Set.univ)
  isplitl [H4 H5 H6 H7 H8 H9 H11]
  · iapply (Scf.wp_for frame (wpE (defs₀ (F := F)) Variants.none (c : Thread nD τ) none) Set.univ _ _ _ _ _ _
      (fun k _ => Inv c arg4 arg5 arg6 arg7 arg8 arg9 arg11 (k0_pay96 (arg2.view.read (Elt F) X2)) (k0_pay97 (arg2.view.read (Elt F) X2)) (k0_pay98 (arg3.view.read (Elt F) X3)) X4 X5 X6 X7 g8 g9 g11 ((i 1).val / 2 + 1) (4 * k))
      (loop1 c i arg2 harg2 arg3 harg3 arg4 harg4 arg5 harg5 arg6 harg6 arg7 harg7 arg8 harg8 arg9 harg9 arg10 harg10 arg11 harg11 (k0_pay96 (arg2.view.read (Elt F) X2)) (k0_pay97 (arg2.view.read (Elt F) X2)) (k0_pay98 (arg3.view.read (Elt F) X3)) (wn i) X4 X5 X6 X7 g8 g9 g11).step)
    isplitl
    · isplitl [H4]; · iexact H4
      isplitl [H5]; · iexact H5
      isplitl [H6]; · iexact H6
      isplitl [H7]; · iexact H7
      isplitl [H8]
      · iexists _; isplitl [H8]; · iexact H8
        ipureintro; rfl
      isplitl [H9]
      · iexists _; isplitl [H9]; · iexact H9
        ipureintro; rfl
      iexists _; isplitl [H11]; · iexact H11
      ipureintro; rfl
    iintro %_ H
    iexact H
  iintro %_ ⟨H4, H5, H6, H7, ⟨%e8, H8, %h8⟩, ⟨%e9, H9, %h9⟩, ⟨%e11, H11, %h11⟩⟩
  let L3 := loop3 c i arg2 harg2 arg3 harg3 arg4 harg4 arg5 harg5 arg6 harg6 arg7 harg7 arg8 harg8 arg9 harg9 arg10 harg10 arg11 harg11 (k0_pay96 (arg2.view.read (Elt F) X2)) (k0_pay97 (arg2.view.read (Elt F) X2)) (k0_pay98 (arg3.view.read (Elt F) X3))
    (Scalar.subi 16#32 (Scalar.andi (Scalar.subi 15#32 (wn i)) 3#32)) X4 X5 X6 X7 e8 e9 e11
  sl_exec
  sl_step
  iexists _, _, _, _
  isplitl
  · isplitl [H2]; · iexact H2
    isplitl [H3]; · iexact H3
    isplitl [H10]; · iexact H10
    isplitl [H4]; · iexact H4
    isplitl [H5]; · iexact H5
    isplitl [H6]; · iexact H6
    isplitl [H7]; · iexact H7
    isplitl [H8]; · iexact H8
    isplitl [H9]; · iexact H9
    iexact H11
  ipureintro
  refine ⟨?_, hg.2⟩
  have ht : 15 - (i 1).val / 2 = 4 * (k0_t1_loop i).trips + (k0_t3_loop i).trips := by have := trips_eq i; omega
  have he : St.of arg8 arg9 arg11 fL0 fL1 fL2 = steps (k0_pay96 (arg2.view.read (Elt F) X2)) (k0_pay97 (arg2.view.read (Elt F) X2)) (k0_pay98 (arg3.view.read (Elt F) X3)) (arg4.view.read (Elt F) X4) (arg5.view.read (Elt F) X5) (arg6.view.read (Elt F) X6) (arg7.view.read (Elt F) X7)
      ((i 1).val / 2 + 1) (15 - (i 1).val / 2) (diag i (arg2.view.read (Elt F) X2) (arg3.view.read (Elt F) X3) (arg4.view.read (Elt F) X4) (arg5.view.read (Elt F) X5) (arg6.view.read (Elt F) X6) (arg7.view.read (Elt F) X7) (arg11.view.read (Elt F) f11)) := by
    refine (Prod.ext hL6 (Prod.ext hL8 hL10)).trans ?_
    rw [ht, steps_add, ← hg.1, show St.of arg8 arg9 arg11 e8 e9 e11 = _ from Prod.ext h8 (Prod.ext h9 h11),
      show (i 1).val / 2 + 1 + 4 * (k0_t1_loop i).trips = (i 1).val / 2 + 4 * (k0_t1_loop i).trips + 1 by omega]
  have w8 : ∀ p, arg8.view.readAt (Elt F) (Rect.unit (s := S1x512x256) ![0, 0, 0] S1x512x256.size p).toLoadRect fL0 = arg8.view.read (Elt F) fL0 := fun p => View.ld_unit_zero (funext (by decide)) _ _
  refine Prod.ext ?_ (Prod.ext (congrArg (·.2.1) he) (congrArg (·.2.2) he))
  refine (read_whole _ _ (by decide) _ _ _).trans ?_
  rw [w8]
  exact congrArg (fun s => k0_pay5 s.1) he
end Start

end Cert.Proof.Attn

end
-- ==== Proof.AttnBody.lean ====
module

public import proofs.«01_k».proof.Proof.AttnStart
public import Idealize.ShloMosaic.Lib.Pipeline.FrameSuffix

/-!
The attention gradient's grid: what every point leaves in its output blocks and in the kept query gradient, and the run
of the whole program by that.
-/

@[expose] public section

set_option maxRecDepth 16384

noncomputable section

namespace Cert.Proof.Attn

open Cert.AttnGradIdeal Cert.AttnGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! ## What the points leave -/

/-- What point `t` leaves when the kept query gradient was `x`. -/
def leftBy (t : Fin cfg0.N) (x : Vec F S16x256x1024 .f32) : St F :=
  last (grid0.coords t) (iblk m c 0 t) (iblk m c 1 t) (iblk m c 2 t) (iblk m c 3 t) (iblk m c 4 t) (iblk m c 5 t) x

/-- The kept query gradient before point `n`; before the first point anything would do, for that point clears it. -/
def kept : (n : ℕ) → n ≤ cfg0.N → Vec F S16x256x1024 .f32
  | 0, _ => k0_pay99
  | n + 1, h => (leftBy m c ⟨n, h⟩ (kept n (Nat.le_of_succ_le h))).2.2

/-- What point `t` leaves, and the block of the query gradient it writes at an odd key block. -/
def left (t : Fin cfg0.N) : St F := leftBy m c t (kept m c t.val t.isLt.le)
def leftDq (t : Fin cfg0.N) : Vec F S1x1024x256 .f32 :=
  dqOf (grid0.coords t) (iblk m c 0 t) (iblk m c 1 t) (iblk m c 2 t) (iblk m c 3 t) (iblk m c 4 t) (iblk m c 5 t) (kept m c t.val t.isLt.le)

theorem kept_succ (t : Fin cfg0.N) : kept m c (t.val + 1) t.isLt = (left m c t).2.2 := rfl

/-- A first key block's point does not read what was kept. -/
theorem leftBy_first (t : Fin cfg0.N) (h : ((grid0.coords t) 1).val = 0) (x y : Vec F S16x256x1024 .f32) : leftBy m c t x = leftBy m c t y := by
  have e : ∀ x : Vec F S16x256x1024 .f32, fresh (grid0.coords t) x = k0_pay99 := fun x => if_pos h
  unfold leftBy last diag
  rw [if_pos (by omega), if_pos (by omega)]
  unfold diagEven
  rw [e, e]

/-! ## The proof data -/

/-- The invariant before point `n`: the kept query gradient owned, at what the points before left there. -/
def PhiS : (n : ℕ) → n ≤ cfg0.N → sProp 𝕄
  | 0, _ => Pipeline.ΦA spec0 c
  | n + 1, h => iprop(owns (c : Thread nD τ) (Memref.whole cc0_scratch0) fullShare (kept m c (n + 1) h) ∗ ∃ r, prngReg c r)

theorem PhiS_pos (n : ℕ) (h : n ≤ cfg0.N) (hn : n ≠ 0) :
    PhiS m c n h = iprop(owns (c : Thread nD τ) (Memref.whole cc0_scratch0) fullShare (kept m c n h) ∗ ∃ r, prngReg c r) := by
  cases n with
  | zero => exact absurd rfl hn
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (left m c t).1
    | ⟨7, _⟩ => (left m c t).2.1
    | ⟨8, _⟩ => leftDq m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem after_0 (t) : (dats m 0 c).after 0 t = iblk m c 0 t := by dsimp only [dats]
theorem after_1 (t) : (dats m 0 c).after 1 t = iblk m c 1 t := by dsimp only [dats]
theorem after_2 (t) : (dats m 0 c).after 2 t = iblk m c 2 t := by dsimp only [dats]
theorem after_3 (t) : (dats m 0 c).after 3 t = iblk m c 3 t := by dsimp only [dats]
theorem after_4 (t) : (dats m 0 c).after 4 t = iblk m c 4 t := by dsimp only [dats]
theorem after_5 (t) : (dats m 0 c).after 5 t = iblk m c 5 t := by dsimp only [dats]
theorem after_6 (t) : (dats m 0 c).after 6 t = (left m c t).1 := by dsimp only [dats]
theorem after_7 (t) : (dats m 0 c).after 7 t = (left m c t).2.1 := by dsimp only [dats]
theorem after_8 (t) : (dats m 0 c).after 8 t = leftDq m c t := by dsimp only [dats]

theorem Phi_start (t : Fin cfg0.N) : (dats m 0 c).Φ t.castSucc = PhiS m c t.val (Nat.le_of_lt t.isLt) := by
  dsimp only [dats]; exact Pipeline.Dat.Φ_castSucc (PhiS m c) t
theorem Phi_end (t : Fin cfg0.N) : (dats m 0 c).Φ t.succ = iprop(owns (c : Thread nD τ) (Memref.whole cc0_scratch0) fullShare (left m c t).2.2 ∗ ∃ r, prngReg c r) := rfl

theorem PhiA_eq : (Pipeline.ΦA spec0 c : sProp 𝕄) = iprop((∃ x, owns (c : Thread nD τ) (Memref.whole cc0_scratch0) fullShare x) ∗ ∃ r, prngReg c r) := by
  unfold Pipeline.ΦA; rw [scopedRest0_eq]; simp only [owns_whole]; try rfl

theorem first_point : ∀ t : Fin cfg0.N, t.val = 0 → ((grid0.coords t) 1).val = 0 := by decide +kernel

/-- The kept query gradient at a point's start: at some contents from which the point leaves what it leaves. -/
theorem enter (t : Fin cfg0.N) : (dats m 0 c).Φ t.castSucc ⊢
    iprop(∃ x, owns (c : Thread nD τ) (Memref.whole cc0_scratch0) fullShare x ∗ ⌜leftBy m c t x = left m c t ∧ (t.val ≠ 0 → x = kept m c t.val t.isLt.le)⌝ ∗ ∃ r, prngReg c r) := by
  rw [Phi_start]
  by_cases h : t.val = 0
  · obtain ⟨n, hn⟩ := t
    obtain rfl : n = 0 := h
    refine (show PhiS m c 0 _ ⊢ (Pipeline.ΦA spec0 c : sProp 𝕄) from .rfl).trans ?_
    rw [PhiA_eq]
    iintro ⟨⟨%x, H⟩, Hr⟩
    iexists x
    isplitl [H]; · iexact H
    isplitr
    · ipureintro
      exact ⟨leftBy_first m c _ (first_point _ rfl) _ _, fun h => absurd rfl h⟩
    iexact Hr
  · rw [PhiS_pos m c _ _ h]
    iintro ⟨H, Hr⟩
    iexists _
    isplitl [H]; · iexact H
    isplitr
    · ipureintro; exact ⟨rfl, fun _ => rfl⟩
    iexact Hr

theorem hin : Pipeline.ΦA spec0 c ⊢ (dats m 0 c).Φ 0 := .rfl

theorem hout : (dats m 0 c).Φ (Fin.last cfg0.N) ⊢ Pipeline.ΦA spec0 c := by
  rw [show (dats m 0 c).Φ (Fin.last cfg0.N) = PhiS m c cfg0.N le_rfl from rfl, PhiS_pos m c _ _ (by rw [show cfg0.N = 256 from N_0]; decide), PhiA_eq]
  iintro ⟨H, Hr⟩
  isplitl [H]; · iexists _; iexact H
  iexact Hr

/-! ## The body at a point -/

theorem odd_point : ∀ t : Fin cfg0.N, ((grid0.coords t) 1).val % 2 = t.val % 2 := by decide +kernel
theorem idle_8 : ∀ t : Fin cfg0.N, cfg0.idle 8 (cfg0.grid.coords t) = decide (((grid0.coords t) 1).val % 2 = 0) := by decide +kernel
theorem flush_8 : ∀ t : Fin cfg0.N, (cfg0.win 8).flush t = decide (¬ ((grid0.coords t) 1).val % 2 = 0) := by decide +kernel

/-- The buffers a point is called with, and those it returns. -/
def bodyPre (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

def bodyPost (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (dats m 0 c).leavesExact 8 t)

set_option maxHeartbeats 1600000 in
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c)]
  rw [Phi_end, show (dats m 0 c).owesAt () t.succ = (dats m 0 c).owesAt () t.castSucc from rfl, after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ := (enter m c t) $$ HΦ
  icases HΦ with ⟨%x, Hx, %hx, Hr⟩
  have hdq : ((grid0.coords t) 1).val % 2 ≠ 0 → x = kept m c t.val t.isLt.le := fun h => hx.2 fun h0 => h (by rw [first_point t h0])
  unfold owns
  icases H0 with ⟨%f0, %h0, H0⟩
  icases H1 with ⟨%f1, %h1, H1⟩
  icases H2 with ⟨%f2, %h2, H2⟩
  icases H3 with ⟨%f3, %h3, H3⟩
  icases H4 with ⟨%f4, %h4, H4⟩
  icases H5 with ⟨%f5, %h5, H5⟩
  icases H6 with ⟨%f6, %h6, H6⟩
  icases H7 with ⟨%f7, %h7, H7⟩
  icases H8 with ⟨%f8, %h8, H8⟩
  icases Hx with ⟨%fx, %hfx, Hx⟩
  iapply (wp_wand_r frame (wpE (defs₀ (F := F)) Variants.none (c : Thread nD τ) none) Set.univ)
  isplitl [H0 H1 H2 H3 H4 H5 H6 H7 H8 Hx]
  · iapply (point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) f0 f1 f2 f3 f4 f5 f6 f7 f8 fx)
    isplitl [H0]; · iexact H0
    isplitl [H1]; · iexact H1
    isplitl [H8]; · iexact H8
    isplitl [H2]; · iexact H2
    isplitl [H3]; · iexact H3
    isplitl [H4]; · iexact H4
    isplitl [H5]; · iexact H5
    isplitl [H6]; · iexact H6
    isplitl [H7]; · iexact H7
    iexact Hx
  iintro %_ ⟨%g6, %g7, %g8, %gx, ⟨H0, H1, H8, H2, H3, H4, H5, H6, H7, Hx⟩, %hg⟩
  obtain ⟨hl, hp, hq⟩ := hg
  rw [h0, h1, h2, h3, h4, h5, hfx] at hl hq
  have hl := hl.trans hx.1
  isplitl [Hx Hr]
  · isplitl [Hx]
    · iexists _; isplitr; swap; · iexact Hx
      ipureintro; exact congrArg (fun s : St F => s.2.2) hl
    iexact Hr
  isplitl [Ho]; · iexact Ho
  isplitl [H0]; · iexists _; isplitr; swap; (· iexact H0); ipureintro; exact h0
  isplitl [H1]; · iexists _; isplitr; swap; (· iexact H1); ipureintro; exact h1
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]
  · iexists _; isplitr; swap; · iexact H6
    ipureintro; exact congrArg (fun s : St F => s.1) hl
  isplitl [H7]
  · iexists _; isplitr; swap; · iexact H7
    ipureintro; exact congrArg (fun s : St F => s.2.1) hl
  by_cases h : ((grid0.coords t) 1).val % 2 = 0
  · rw [Dat.leavesExact_idle _ _ _ ((idle_8 t).trans (decide_eq_true h)) ((flush_8 t).trans (decide_eq_false (not_not_intro h)))]
    obtain rfl := hp h
    unfold owns
    iexists d8, _; isplitr; swap; · iexact H8
    ipureintro; exact h8
  · unfold Dat.leavesExact
    rw [(idle_8 t).trans (decide_eq_false h)]
    dsimp only
    rw [after_8]
    unfold owns
    iexists _; isplitr; swap; · iexact H8
    ipureintro; exact (hq h).trans (by rw [hdq h]; rfl)

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution ends, the arrays at what the points left in them and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.Attn

end
-- ==== Proof.AttnFrames.lean ====
module

public import proofs.«01_k».proof.Defs
public import proofs.«01_k».proof.Proof.Gen.AttnGrad
public import proofs.«01_k».proof.Proof.Gen.AttnGradRefIdeal.Run
public import proofs.«01_k».proof.Proof.AttnBody

/-!
The frames of the attention gradient: the kernel's and its idealization's from the one run, the reference's from its own.
-/

@[expose] public section

set_option maxRecDepth 16384

noncomputable section

namespace Cert.Proof.Attn

open Idealize.ShloMosaic Idealize.ShloMosaic.TcCoe Idealize.ShloMosaic.Tactic Idealize.SL.Sem

/-- The printed float of a named constant: with it the idealization's text is the kernel's. -/
local instance : Named Bits where
  named _ _ {φ} bits := FloatOps.ofBits φ bits

/-- What a frame says of the idealization's text at the machine's floats. -/
def FrameText : Prop :=
  ∀ (m : (ℓ : Loc Cert.AttnGradIdeal.nD Cert.AttnGradIdeal.τ Cert.AttnGradIdeal.sig) → Buf (Elt Bits) ℓ) (g : Dev Cert.AttnGradIdeal.nD → PrngReg), True →
    θ_run (Cert.AttnGradIdeal.defs (F := Bits)) (onTc (τ := Cert.AttnGradIdeal.τ) (Cert.AttnGradIdeal.main (F := Bits))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3))
      ∧ r.2.sem = fun _ => 0)

/-- The kernel's frame is that statement. -/
theorem frame_text : Cert.quiescent_AttnGrad = FrameText := by sl_kernel_rfl

theorem frame_kernel : Cert.quiescent_AttnGrad := frame_text.mpr fun m ρ _ => frame_run (F := Bits) m ρ

theorem frame_ideal : Cert.quiescent_AttnGradIdeal := fun m ρ _ => frame_run (F := Ideal) m ρ

theorem frame_ref : Cert.quiescent_AttnGradRefIdeal := fun m ρ _ => (θ_run Cert.AttnGradRefIdeal.defs _ _).mono
  (fun r h => ⟨fun c => (h c).2.2.2, sem_eq_zero_of_no_sems (by decide) r.2⟩) (Cert.AttnGradRefIdeal.Value.run (F := Ideal) m ρ)

end Cert.Proof.Attn

end
-- ==== Proof.AttnPay.lean ====
module

public import proofs.«01_k».proof.Proof.AttnStart
public import Idealize.ShloMosaic.Lib.Pipeline.ValueKit
public import Idealize.ShloMosaic.Lib.Pointwise

/-!
The entries of what the attention gradient's kernel computes at a grid point, floats being extended reals.
-/

@[expose] public section

set_option maxRecDepth 16384

noncomputable section

namespace Cert.Proof.Attn

open Cert.AttnGradIdeal Cert.AttnGradIdeal.Gen
open Idealize.ShloMosaic Idealize.ShloMosaic.TcCoe

section Later
variable (v1 : FVec Ideal S512x256 .bf16) (v2 : FVec Ideal S256x512 .bf16) (v4 : FVec Ideal S512x128 .bf16)
  (q : Vec Ideal S1x1024x256 .bf16) (g : Vec Ideal S1024x128 .bf16) (l d : Vec Ideal S1x1x1x1024 .f32)

/-- The weight of query `c` at key `r`, and its gradient, in a query block after the diagonal's. -/
def wt (r : Fin 512) (c : Fin 1024) : EReal := Ideal.exp2 ((∑ a : Fin 256, v1 (ix2 r a) * q (ix3 0 c a)) - l (ix4 0 0 0 c))
def dst (r : Fin 512) (c : Fin 1024) : EReal := wt v1 q l r c * ((∑ e : Fin 128, v4 (ix2 r e) * g (ix2 c e)) - d (ix4 0 0 0 c))

theorem pay88_at (r : Fin 512) (c : Fin 1024) : (k0_pay88 (F := Ideal) v1 v4 q g l d (ix2 r c) : EReal) = dst v1 v4 q g l d r c := by
  unfold dst wt
  pointwise [k0_pay88, k0_pay86, k0_pay85, k0_pay84]
  rfl

theorem pay87_at (s : Vec Ideal S1x512x128 .f32) (r : Fin 512) (e : Fin 128) :
    (k0_pay87 (F := Ideal) v1 q g l s (ix3 0 r e) : EReal) = s (ix3 0 r e) + ∑ c : Fin 1024, wt v1 q l r c * g (ix2 c e) := by
  unfold wt
  pointwise [k0_pay87, k0_pay86, k0_pay85, k0_pay84]
  rfl

theorem pay1_at (s : Vec Ideal S1x512x256 .f32) (ds : FVec Ideal S512x1024 .bf16) (r : Fin 512) (a : Fin 256) :
    (k0_pay1 (F := Ideal) (k0_pay84 q) ds (k0_pay89 s) (constant S512x256 .f32 0x00000000#32) (ix3 0 r a) : EReal) = s (ix3 0 r a) + ∑ c : Fin 1024, ds (ix2 r c) * q (ix3 0 c a) := by
  pointwise [k0_pay1, k0_pay84, k0_pay89]

theorem pay2_at (ds : FVec Ideal S512x1024 .bf16) (x : Vec Ideal S1x256x1024 .f32) (a : Fin 256) (c : Fin 1024) :
    (k0_pay2 (F := Ideal) v2 ds x (ix3 0 a c) : EReal) = x (ix3 0 a c) + ∑ r : Fin 512, v2 (ix2 a r) * ds (ix2 r c) := by
  pointwise [k0_pay2]

end Later

section Ends
theorem pay96_at (X : Vec Ideal S1x512x256 .bf16) (r : Fin 512) (a : Fin 256) : (k0_pay96 (F := Ideal) X (ix2 r a) : EReal) = X (ix3 0 r a) := by
  pointwise [k0_pay96]
theorem pay97_at (X : Vec Ideal S1x512x256 .bf16) (r : Fin 512) (a : Fin 256) : (k0_pay97 (F := Ideal) X (ix2 a r) : EReal) = X (ix3 0 r a) := by
  pointwise [k0_pay97, k0_pay96]
theorem pay98_at (X : Vec Ideal S1x512x128 .bf16) (r : Fin 512) (e : Fin 128) : (k0_pay98 (F := Ideal) X (ix2 r e) : EReal) = X (ix3 0 r e) := by
  pointwise [k0_pay98]
theorem pay99_at (n : Fin 16) (a : Fin 256) (c : Fin 1024) : (k0_pay99 (F := Ideal) (ix3 n a c) : EReal) = 0 := by
  pointwise [k0_pay99]
theorem pay100_at (r : Fin 512) (a : Fin 256) : (k0_pay100 (F := Ideal) (ix3 0 r a) : EReal) = 0 := by
  pointwise [k0_pay100]
theorem pay101_at (r : Fin 512) (e : Fin 128) : (k0_pay101 (F := Ideal) (ix3 0 r e) : EReal) = 0 := by
  pointwise [k0_pay101]
theorem pay5_at (s : Vec Ideal S1x512x256 .f32) (r : Fin 512) (a : Fin 256) : (k0_pay5 (F := Ideal) s (ix3 0 r a) : EReal) = s (ix3 0 r a) * ((Real.log 2 : ℝ) : EReal) := by
  pointwise [k0_pay5]
  exact congrArg (s (ix3 0 r a) * ·) (IdealRules.named_const.ideal_named_scalar _ _ _ _ rfl)
theorem pay108_at (x : Vec Ideal S1x256x1024 .f32) (a : Fin 256) (c : Fin 1024) : (k0_pay108 (F := Ideal) x (ix3 0 c a) : EReal) = x (ix3 0 a c) := by
  pointwise [k0_pay108]
end Ends

section Diagonal
variable (i : grid0.Coords) (v1 : FVec Ideal S512x256 .bf16) (v4 : FVec Ideal S512x128 .bf16) (X2 : Vec Ideal S1x512x256 .bf16)
  (l d : Vec Ideal S1x1x1x1024 .f32)

/-- The first query and the first key of the diagonal's blocks, as the kernel computes them. -/
theorem base0 : ∀ i : grid0.Coords, Scalar.addi (Scalar.muli (wn i) 1024#32) 0#32 = BitVec.ofNat 32 (1024 * ((i 1).val / 2)) := by decide +kernel
theorem base512 : ∀ i : grid0.Coords, Scalar.addi (Scalar.muli (wn i) 1024#32) 512#32 = BitVec.ofNat 32 (1024 * ((i 1).val / 2) + 512) := by decide +kernel
theorem baseK : ∀ i : grid0.Coords, Scalar.muli (wj i) 512#32 = BitVec.ofNat 32 (512 * (i 1).val) := by decide +kernel

/-- The mask's comparison of two positions. -/
theorem mask_at {x y : ℕ} (hx : x < 2 ^ 20) (hy : y < 2 ^ 20) (c r : ℕ) (hc : c < 2 ^ 20) (hr : r < 2 ^ 20) (a b : EReal) :
    Scalar.select (IntOp.cmpi .sge (IntOp.addi (BitVec.ofNat 32 x) (BitVec.ofNat 32 c)) (IntOp.addi (BitVec.ofNat 32 y) (BitVec.ofNat 32 r))) a b
      = if y + r ≤ x + c then a else b := by
  rw [show IntOp.addi (BitVec.ofNat 32 x) (BitVec.ofNat 32 c) = BitVec.ofNat 32 (x + c) from (BitVec.ofNat_add x c).symm,
    show IntOp.addi (BitVec.ofNat 32 y) (BitVec.ofNat 32 r) = BitVec.ofNat 32 (y + r) from (BitVec.ofNat_add y r).symm,
    WordCmp.cmpi_sge_ofNat (by omega) (by omega)]
  by_cases h : y + r ≤ x + c <;> simp [h, Scalar.select]

theorem pay8_at (q : Vec Ideal S1x1024x256 .bf16) (r : Fin 512) (c : Fin 1024) :
    (k0_pay8 (F := Ideal) (wj i) v1 (wn i) q l (ix2 r c) : EReal) = if 512 * (i 1).val + r.val ≤ 1024 * ((i 1).val / 2) + c.val then wt v1 q l r c else 0 := by
  unfold wt
  pointwise [k0_pay8, k0_pay6]
  have hi : (i 1).val < 32 := (i 1).isLt
  rw [base0, baseK, mask_at (by omega) (by omega) _ _ (by omega) (by omega)]
  rfl

theorem pay13_at (q : Vec Ideal S1x512x256 .bf16) (r : Fin 512) (c : Fin 512) :
    (k0_pay13 (F := Ideal) (wj i) v1 (wn i) q l (ix2 r c) : EReal) = if 512 * (i 1).val + r.val ≤ 1024 * ((i 1).val / 2) + 512 + c.val
      then Ideal.exp2 ((∑ a : Fin 256, v1 (ix2 r a) * q (ix3 0 c a)) - l (ix4 0 0 0 ⟨512 + c.val, by omega⟩)) else 0 := by
  pointwise [k0_pay13, k0_pay11]
  have hi : (i 1).val < 32 := (i 1).isLt
  rw [base512, baseK, mask_at (by omega) (by omega) _ _ (by omega) (by omega)]
  rfl

theorem pay9_at (q : Vec Ideal S1x1024x256 .bf16) (g : Vec Ideal S1024x128 .bf16) (s : Vec Ideal S1x512x128 .f32) (r : Fin 512) (e : Fin 128) :
    (k0_pay9 (F := Ideal) (wj i) v1 (wn i) q g l s (ix3 0 r e) : EReal) = s (ix3 0 r e) + ∑ c : Fin 1024, k0_pay8 (F := Ideal) (wj i) v1 (wn i) q l (ix2 r c) * g (ix2 c e) := by
  pointwise [k0_pay9, k0_pay7]

theorem pay14_at (q : Vec Ideal S1x512x256 .bf16) (g : Vec Ideal S512x128 .bf16) (s : Vec Ideal S1x512x128 .f32) (r : Fin 512) (e : Fin 128) :
    (k0_pay14 (F := Ideal) (wj i) v1 (wn i) q g l s (ix3 0 r e) : EReal) = s (ix3 0 r e) + ∑ c : Fin 512, k0_pay13 (F := Ideal) (wj i) v1 (wn i) q l (ix2 r c) * g (ix2 c e) := by
  pointwise [k0_pay14, k0_pay12]

theorem pay102_at (p : FVec Ideal S512x1024 .f32) (g : Vec Ideal S1024x128 .bf16) (r : Fin 512) (c : Fin 1024) :
    (k0_pay102 (F := Ideal) p (k0_pay10 v4 g) d (ix2 r c) : EReal) = p (ix2 r c) * ((∑ e : Fin 128, v4 (ix2 r e) * g (ix2 c e)) - d (ix4 0 0 0 c)) := by
  pointwise [k0_pay102, k0_pay10, k0_pay7]

theorem pay105_at (p : FVec Ideal S512x512 .f32) (g : Vec Ideal S512x128 .bf16) (r : Fin 512) (c : Fin 512) :
    (k0_pay105 (F := Ideal) p (k0_pay15 v4 g) d (ix2 r c) : EReal) = p (ix2 r c) * ((∑ e : Fin 128, v4 (ix2 r e) * g (ix2 c e)) - d (ix4 0 0 0 ⟨512 + c.val, by omega⟩)) := by
  pointwise [k0_pay105, k0_pay15, k0_pay12]

theorem pay103_at (q : Vec Ideal S1x1024x256 .bf16) (p y : FVec Ideal S512x1024 .f32) (s : Vec Ideal S1x512x256 .f32) (r : Fin 512) (a : Fin 256) :
    (k0_pay103 (F := Ideal) (k0_pay6 q) p y d s (ix3 0 r a) : EReal) = s (ix3 0 r a) + ∑ c : Fin 1024, k0_pay102 (F := Ideal) p y d (ix2 r c) * q (ix3 0 c a) := by
  pointwise [k0_pay103, k0_pay6]

theorem pay106_at (q : Vec Ideal S1x512x256 .bf16) (p y : FVec Ideal S512x512 .f32) (s : Vec Ideal S1x512x256 .f32) (r : Fin 512) (a : Fin 256) :
    (k0_pay106 (F := Ideal) (k0_pay11 q) p y d s (ix3 0 r a) : EReal) = s (ix3 0 r a) + ∑ c : Fin 512, k0_pay105 (F := Ideal) p y d (ix2 r c) * q (ix3 0 c a) := by
  pointwise [k0_pay106, k0_pay11]

theorem pay104_at (p y : FVec Ideal S512x1024 .f32) (x : Vec Ideal S1x256x1024 .f32) (a : Fin 256) (c : Fin 1024) :
    (k0_pay104 (F := Ideal) X2 p y d x (ix3 0 a c) : EReal) = x (ix3 0 a c) + ∑ r : Fin 512, X2 (ix3 0 r a) * k0_pay102 (F := Ideal) p y d (ix2 r c) := by
  pointwise [k0_pay104, k0_pay97, k0_pay96]

theorem pay107_at (p y : FVec Ideal S512x512 .f32) (x : Vec Ideal S1x256x512 .f32) (a : Fin 256) (c : Fin 512) :
    (k0_pay107 (F := Ideal) X2 p y d x (ix3 0 a c) : EReal) = x (ix3 0 a c) + ∑ r : Fin 512, X2 (ix3 0 r a) * k0_pay105 (F := Ideal) p y d (ix2 r c) := by
  pointwise [k0_pay107, k0_pay97, k0_pay96]

end Diagonal

end Cert.Proof.Attn

end
-- ==== Proof.AttnModel.lean ====
module

public import Idealize.ShloMosaic.PureOps.Ideal.Laws
public import Idealize.ShloMosaic.Lib.Pipeline.ValueKit
public import Idealize.ShloMosaic.Lib.WordCmp
public import Idealize.ShloMosaic.PureOps.Reduce
public import Mathlib.Analysis.SpecialFunctions.Pow.Real

/-!
Causal attention of one head and its gradient in real numbers, and how a row of extended reals (a score where the mask lets it
through, minus infinity elsewhere) becomes real: its largest entry, its exponentials and their sum. The gradient depends on the
row's exponentials only up to a common positive factor, so neither the row's largest entry nor the base of the exponential counts.
-/

@[expose] public section

noncomputable section

namespace Cert.Proof.Attn

open Idealize.ShloMosaic

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

section Coe
variable {n : ℕ} {f g : Fin n → EReal} {f' g' : Fin n → ℝ} (hf : ∀ a, f a = (f' a : ℝ)) (hg : ∀ a, g a = (g' a : ℝ))
include hf hg
theorem dot_coe : ∑ a, f a * g a = ((∑ a, f' a * g' a : ℝ) : EReal) := by
  rw [coe_sum]; exact Finset.sum_congr rfl fun a _ => by rw [hf, hg, EReal.coe_mul]
theorem add_dot_coe {s : EReal} {s' : ℝ} (hs : s = (s' : ℝ)) : s + ∑ a, f a * g a = ((s' + ∑ a, f' a * g' a : ℝ) : EReal) := by
  rw [dot_coe hf hg, hs, EReal.coe_add]
theorem exp_dot_coe {l : EReal} {l' : ℝ} (hl : l = (l' : ℝ)) : Ideal.exp2 ((∑ a, f a * g a) - l) = ((Real.rpow 2 ((∑ a, f' a * g' a) - l') : ℝ) : EReal) := by
  rw [dot_coe hf hg, hl, ← EReal.coe_sub]; rfl
theorem mul_dot_coe {p d : EReal} {p' d' : ℝ} (hp : p = (p' : ℝ)) (hd : d = (d' : ℝ)) :
    p * ((∑ a, f a * g a) - d) = ((p' * ((∑ a, f' a * g' a) - d') : ℝ) : EReal) := by
  rw [dot_coe hf hg, hp, hd, ← EReal.coe_sub, ← EReal.coe_mul]
end Coe

theorem div_coe_coe {y : ℝ} (h : y ≠ 0) (x : ℝ) : Ideal.div (x : EReal) (y : EReal) = ((x / y : ℝ) : EReal) := by
  rw [Ideal.div_coe h, ← EReal.coe_mul, mul_one_div]

/-- A masked row with one entry let through has a real largest entry. -/
theorem max_row {N : ℕ} (b : Fin N → Prop) [DecidablePred b] (s : Fin N → ℝ) (j : Fin N) (h : b j) :
    ∃ M : ℝ, (Finset.univ : Finset (Fin N)).fold max (⊥ : EReal) (fun j => if b j then (s j : EReal) else ⊥) = (M : EReal) := by
  obtain ⟨i, -, hi⟩ := Finset.exists_mem_eq_sup (Finset.univ : Finset (Fin N)) ⟨j, Finset.mem_univ j⟩ (fun j => if b j then (s j : EReal) else ⊥)
  have hle := Finset.le_sup (f := fun j => if b j then (s j : EReal) else ⊥) (Finset.mem_univ j)
  rw [hi] at hle
  by_cases hb : b i
  · exact ⟨s i, hi.trans (if_pos hb)⟩
  · rw [if_pos h, if_neg hb] at hle
    exact absurd (le_bot_iff.1 hle) (EReal.coe_ne_bot _)

/-- The host's maximum over an axis of such a row. -/
theorem reduce_max_row {s t u : Shape} {a : Fin s.rank} (h' : s.ReducesTo [a] t) (h : s.Reduces [a] t) (hu : 0 < u.numel) (x : s.Idx → EReal) (init : u.Idx → EReal) (j : t.Idx)
    (b : Fin (s.size a) → Prop) [DecidablePred b] (r : Fin (s.size a) → ℝ) (k : Fin (s.size a)) (hk : b k) (hi : init (Shape.Idx.first hu) = ⊥)
    (hx : ∀ k, x (h.lift j k) = if b k then (r k : EReal) else ⊥) : ∃ M : ℝ, Host.reduce (max : EReal → EReal → EReal) x init h' hu j = (M : EReal) := by
  obtain ⟨M, hM⟩ := max_row b r k hk
  refine ⟨M, ?_⟩
  rw [Host.reduce_eq_fold_single _ _ _ h' h, hi, ← hM]
  exact congrArg (Finset.fold max ⊥ · Finset.univ) (funext hx)

theorem exp_row {b : Prop} [Decidable b] (s M : ℝ) :
    Ideal.exp ((if b then (s : EReal) else ⊥) - (M : EReal)) = (((if b then Real.exp s else 0) * Real.exp (-M) : ℝ) : EReal) := by
  split_ifs
  · rw [← EReal.coe_sub, Ideal.exp_coe, ← Real.exp_add, sub_eq_add_neg]
  · rw [EReal.bot_sub, Ideal.exp_bot, zero_mul]; rfl

theorem exp_row_mul {b : Prop} [Decidable b] (l : ℝ) (hl : 0 < l) (s M : ℝ) :
    Ideal.exp ((l : EReal) * ((if b then (s : EReal) else ⊥) - (M : EReal))) = (((if b then Real.exp (s * l) else 0) * Real.exp (-(l * M)) : ℝ) : EReal) := by
  split_ifs
  · rw [← EReal.coe_sub, ← EReal.coe_mul, Ideal.exp_coe, ← Real.exp_add]; congr 2; ring
  · rw [EReal.bot_sub, EReal.coe_mul_bot_of_pos hl, Ideal.exp_bot, zero_mul]; rfl

/-- One head's queries, keys, values and incoming gradient, and the factor of its scores. -/
structure Model where
  q : ℕ → Fin 192 → ℝ
  k : ℕ → Fin 192 → ℝ
  v : ℕ → Fin 128 → ℝ
  g : ℕ → Fin 128 → ℝ
  c : ℝ

namespace Model
variable (A : Model)

/-- The score of query `i` at key `κ`, its exponential under the mask, the exponentials' sum, and the attention weight. -/
def S (i κ : ℕ) : ℝ := (∑ d, A.q i d * A.k κ d) * A.c
def E (i κ : ℕ) : ℝ := if κ ≤ i then Real.exp (A.S i κ) else 0
def Z (i : ℕ) : ℝ := ∑ κ : Fin 16384, A.E i κ.val
def P (i κ : ℕ) : ℝ := A.E i κ / A.Z i
/-- The weight's gradient, its mean over the row, and the gradient of the score. -/
def G (i κ : ℕ) : ℝ := ∑ e, A.g i e * A.v κ e
def D (i : ℕ) : ℝ := ∑ κ : Fin 16384, A.P i κ.val * A.G i κ.val
def dS (i κ : ℕ) : ℝ := A.P i κ * (A.G i κ - A.D i)

theorem E_nonneg (i κ : ℕ) : 0 ≤ A.E i κ := by unfold E; split_ifs; exacts [(Real.exp_pos _).le, le_rfl]
theorem Z_pos (i : ℕ) : 0 < A.Z i := by
  have h : 0 < A.E i 0 := by unfold E; rw [if_pos (Nat.zero_le i)]; exact Real.exp_pos _
  exact h.trans_le (Finset.single_le_sum (f := fun κ : Fin 16384 => A.E i κ.val) (fun κ _ => A.E_nonneg i κ.val) (Finset.mem_univ (0 : Fin 16384)))
theorem P_masked (i κ : ℕ) (h : i < κ) : A.P i κ = 0 := by unfold P E; rw [if_neg (by omega), zero_div]

variable {A} {i : ℕ} {μ : ℝ} (hμ : 0 < μ)
include hμ

/-- The exponentials' sum, the weight and the mean gradient from exponentials that carry a common factor. -/
theorem Z_scaled : ∑ κ : Fin 16384, A.E i κ.val * μ = A.Z i * μ := (Finset.sum_mul ..).symm
theorem P_scaled (κ : ℕ) : A.E i κ * μ / (A.Z i * μ) = A.P i κ := mul_div_mul_right _ _ hμ.ne'
theorem D_scaled : ∑ e, A.g i e * ((∑ κ : Fin 16384, A.E i κ.val * μ * A.v κ.val e) / (A.Z i * μ)) = A.D i := by
  unfold D G
  simp only [← P_scaled hμ, Finset.sum_div, Finset.mul_sum]
  rw [Finset.sum_comm]
  refine Finset.sum_congr rfl fun κ _ => Finset.sum_congr rfl fun e _ => ?_
  ring
/-- The gradient of the score as the reverse of a quotient's derivative. -/
theorem dS_scaled (κ : ℕ) : (A.G i κ / (A.Z i * μ) + -∑ κ' : Fin 16384, A.G i κ'.val * (1 / (A.Z i * μ * (A.Z i * μ))) * (A.E i κ'.val * μ)) * (A.E i κ * μ) = A.dS i κ := by
  have hz : A.Z i ≠ 0 := (A.Z_pos i).ne'
  have h : ∑ κ' : Fin 16384, A.G i κ'.val * (1 / (A.Z i * μ * (A.Z i * μ))) * (A.E i κ'.val * μ) = A.D i / (A.Z i * μ) := by
    unfold D P
    rw [Finset.sum_div]
    refine Finset.sum_congr rfl fun κ _ => ?_
    field_simp
  rw [h]
  unfold dS P
  field_simp
  ring

end Model

/-- The four arguments hold the heads of `A`, and the scale of the scores is theirs. -/
structure Holds (A : Fin 8 → Model) (x0 x1 : Vec Ideal ⟨4, ![1, 16384, 8, 192]⟩ .f32) (x2 x3 : Vec Ideal ⟨4, ![1, 16384, 8, 128]⟩ .f32) : Prop where
  q : ∀ t h d, (x0 (ix4 0 t h d) : EReal) = ((A h).q t.val d : ℝ)
  k : ∀ t h d, (x1 (ix4 0 t h d) : EReal) = ((A h).k t.val d : ℝ)
  v : ∀ t h e, (x2 (ix4 0 t h e) : EReal) = ((A h).v t.val e : ℝ)
  g : ∀ t h e, (x3 (ix4 0 t h e) : EReal) = ((A h).g t.val e : ℝ)
  c : ∀ h, Ideal.ofBits .f32 0x3D93CD3A#32 = ((A h).c : ℝ)

/-- The mask's comparison of two positions. -/
theorem sle_at (κ i : Fin 16384) : IntOp.cmpi .sle (BitVec.ofNat 32 κ.val) (BitVec.ofNat 32 i.val) = if κ.val ≤ i.val then 1#1 else 0#1 := by
  rw [WordCmp.cmpi_sle_ofNat (by omega) (by omega)]
  by_cases h : κ.val ≤ i.val <;> simp [h]

theorem neg_inf : Ideal.ofBits .f32 0xFF800000#32 = ⊥ := by simp [Ideal.ofBits, Ideal.ieee]

/-! ## The scores to base 2 -/

theorem two : Ideal.ofBits .f32 0x40000000#32 = ((2 : ℝ) : EReal) := by
  simp [Ideal.ofBits, Ideal.ieee, -EReal.coe_mul]; norm_num

theorem log_two : Ideal.log (Ideal.ofBits .f32 0x40000000#32) = ((Real.log 2 : ℝ) : EReal) := by
  rw [two, Ideal.log_coe, if_neg (by norm_num)]

theorem ln_pos : 0 < Real.log 2 := Real.log_pos one_lt_two

namespace Model
variable (B : Model)

/-- The rows the kernel is given: filled up with zeros to 256 columns, the queries scaled. -/
def kk (t : ℕ) (a : Fin 256) : ℝ := if h : a.val < 192 then B.k t ⟨a.val, h⟩ else 0
def qq (t : ℕ) (a : Fin 256) : ℝ := (if h : a.val < 192 then B.q t ⟨a.val, h⟩ else 0) * (B.c / Real.log 2)

theorem sum_kk (i κ : ℕ) : ∑ a, B.qq i a * B.kk κ a = B.S i κ / Real.log 2 := by
  have e := Fin.sum_univ_add (a := 192) (b := 64) fun a : Fin 256 => B.qq i a * B.kk κ a
  refine e.trans ?_
  rw [Finset.sum_eq_zero (s := (Finset.univ : Finset (Fin 64))) fun a _ => ?_, add_zero, S, Finset.sum_mul, Finset.sum_div]
  · refine Finset.sum_congr rfl fun d _ => ?_
    unfold qq kk
    rw [dif_pos (show (Fin.castAdd 64 d).val < 192 from d.isLt), dif_pos (show (Fin.castAdd 64 d).val < 192 from d.isLt)]
    show B.q i d * (B.c / Real.log 2) * B.k κ d = B.q i d * B.k κ d * B.c / Real.log 2
    ring
  · unfold kk
    rw [dif_neg (show ¬ (Fin.natAdd 192 a).val < 192 from not_lt.2 (Nat.le_add_right ..)), mul_zero]

/-- Query `i`'s exponential at key `κ` to base 2. -/
theorem E_pow (i κ : ℕ) : B.E i κ = if κ ≤ i then Real.rpow 2 (B.S i κ / Real.log 2) else 0 := by
  refine if_congr Iff.rfl ?_ rfl
  show _ = (2 : ℝ) ^ (B.S i κ / Real.log 2)
  rw [Real.rpow_def_of_pos two_pos, mul_div_cancel₀ _ ln_pos.ne']

end Model

/-! ## The heads of arrays -/

theorem scale_real : Ideal.ofBits .f32 0x3D93CD3A#32 = ((Ideal.ofBits .f32 0x3D93CD3A#32).toReal : EReal) := by
  refine (EReal.coe_toReal ?_ ?_).symm <;> simp [Ideal.ofBits, Ideal.ieee, -EReal.coe_mul]

/-- The heads of four arrays. -/
def headsOf (x0 x1 : Vec Ideal ⟨4, ![1, 16384, 8, 192]⟩ .f32) (x2 x3 : Vec Ideal ⟨4, ![1, 16384, 8, 128]⟩ .f32) (h : Fin 8) : Model where
  q t d := if ht : t < 16384 then (x0 (ix4 0 ⟨t, ht⟩ h d) : EReal).toReal else 0
  k t d := if ht : t < 16384 then (x1 (ix4 0 ⟨t, ht⟩ h d) : EReal).toReal else 0
  v t e := if ht : t < 16384 then (x2 (ix4 0 ⟨t, ht⟩ h e) : EReal).toReal else 0
  g t e := if ht : t < 16384 then (x3 (ix4 0 ⟨t, ht⟩ h e) : EReal).toReal else 0
  c := (Ideal.ofBits .f32 0x3D93CD3A#32).toReal

end Cert.Proof.Attn

end
-- ==== Proof.AttnPoint.lean ====
module

public import proofs.«01_k».proof.Proof.AttnPay
public import proofs.«01_k».proof.Proof.AttnModel

/-!
What a grid point of the attention gradient's kernel leaves, in real numbers: the keys' and values' gradients are the sums
over all queries, the kept query gradient the sum over the key blocks so far.
-/

@[expose] public section

set_option maxRecDepth 16384

noncomputable section

namespace Cert.Proof.Attn

open Cert.AttnGradIdeal Cert.AttnGradIdeal.Gen
open Idealize.ShloMosaic Idealize.ShloMosaic.TcCoe

/-- A sum of `n * N` terms and the next `n`. -/
theorem sum_block (n N : ℕ) (f : ℕ → ℝ) : ∑ i ∈ Finset.range (n * (N + 1)), f i = (∑ i ∈ Finset.range (n * N), f i) + ∑ c : Fin n, f (n * N + c.val) := by
  rw [Nat.mul_succ, Finset.sum_range_add, Finset.sum_range (n := n)]

/-- A sum whose first `m` terms are zero. -/
theorem sum_tail {N : ℕ} (m w : ℕ) (hN : N = m + w) (f : ℕ → ℝ) (h : ∀ i, i < m → f i = 0) : ∑ i ∈ Finset.range N, f i = 0 + ∑ c : Fin w, f (m + c.val) := by
  rw [hN, Finset.sum_range_add, Finset.sum_range (n := w), Finset.sum_eq_zero fun i hi => h i (Finset.mem_range.1 hi)]

/-- One head in real numbers: keys and scaled queries, values and incoming gradient, the weight of a key for a query, the
logarithm of a query's sum and its row sum. -/
structure Head where
  kk : ℕ → Fin 256 → ℝ
  qq : ℕ → Fin 256 → ℝ
  vv : ℕ → Fin 128 → ℝ
  gg : ℕ → Fin 128 → ℝ
  P : ℕ → ℕ → ℝ
  L : ℕ → ℝ
  D : ℕ → ℝ
  weight : ∀ i κ, κ ≤ i → i < 16384 → Real.rpow 2 ((∑ a, kk κ a * qq i a) - L i) = P i κ
  masked : ∀ i κ, i < κ → P i κ = 0

/-- The gradient of query `i`'s score at key `κ`. -/
def Head.dS (H : Head) (i κ : ℕ) : ℝ := H.P i κ * ((∑ e, H.vv κ e * H.gg i e) - H.D i)
theorem Head.dS_masked (H : Head) (i κ : ℕ) (h : i < κ) : H.dS i κ = 0 := by rw [Head.dS, H.masked i κ h, zero_mul]

/-- The blocks at key block `j` hold the head. -/
structure Reads (H : Head) (j : ℕ) (X2 : Vec Ideal S1x512x256 .bf16) (X3 : Vec Ideal S1x512x128 .bf16) (X4 : Vec Ideal S1x16384x256 .bf16) (X5 : Vec Ideal S16384x128 .bf16)
    (X6 X7 : Vec Ideal S1x16x1x1024 .f32) : Prop where
  x2 : ∀ r a, (X2 (ix3 0 r a) : EReal) = (H.kk (512 * j + r.val) a : ℝ)
  x3 : ∀ r e, (X3 (ix3 0 r e) : EReal) = (H.vv (512 * j + r.val) e : ℝ)
  x4 : ∀ t a, (X4 (ix3 0 t a) : EReal) = (H.qq t.val a : ℝ)
  x5 : ∀ t e, (X5 (ix2 t e) : EReal) = (H.gg t.val e : ℝ)
  x6 : ∀ n c, (X6 (ix4 0 n 0 c) : EReal) = (H.L (1024 * n.val + c.val) : ℝ)
  x7 : ∀ n c, (X7 (ix4 0 n 0 c) : EReal) = (H.D (1024 * n.val + c.val) : ℝ)

/-- The three when the query blocks before `N` have had their share at key block `j`. -/
structure Good (H : Head) (j N : ℕ) (s : St Ideal) : Prop where
  k : ∀ r a, (s.1 (ix3 0 r a) : EReal) = ((∑ i ∈ Finset.range (1024 * N), H.dS i (512 * j + r.val) * H.qq i a : ℝ) : EReal)
  v : ∀ r e, (s.2.1 (ix3 0 r e) : EReal) = ((∑ i ∈ Finset.range (1024 * N), H.P i (512 * j + r.val) * H.gg i e : ℝ) : EReal)
  q : ∀ n a c, (s.2.2 (ix3 n a c) : EReal)
    = ((∑ κ ∈ Finset.range (if n.val < N then 512 * (j + 1) else 512 * j), H.kk κ a * H.dS (1024 * n.val + c.val) κ : ℝ) : EReal)

theorem half_lt (c : Fin 512) : 512 + c.val < 1024 := by omega

/-- The kept query gradient has had the key blocks before `j`. -/
def Kept (H : Head) (j : ℕ) (x : Vec Ideal S16x256x1024 .f32) : Prop :=
  ∀ n a c, (x (ix3 n a c) : EReal) = ((∑ κ ∈ Finset.range (512 * j), H.kk κ a * H.dS (1024 * n.val + c.val) κ : ℝ) : EReal)

theorem put_same (n : Fin 16) (p : Vec Ideal S1x256x1024 .f32) (x : Vec Ideal S16x256x1024 .f32) (a : Fin 256) (c : Fin 1024) : put n p x (ix3 n a c) = p (ix3 0 a c) :=
  if_pos rfl
theorem put_ne (n n' : Fin 16) (h : n'.val ≠ n.val) (p : Vec Ideal S1x256x1024 .f32) (x : Vec Ideal S16x256x1024 .f32) (a : Fin 256) (c : Fin 1024) :
    put n p x (ix3 n' a c) = x (ix3 n' a c) := if_neg h
theorem putHalf_same (n : Fin 16) (p : Vec Ideal S1x256x512 .f32) (x : Vec Ideal S16x256x1024 .f32) (a : Fin 256) (c : Fin 512) :
    putHalf n p x (ix3 n a ⟨512 + c.val, by omega⟩) = p (ix3 0 a c) :=
  (if_pos ⟨rfl, Nat.le_add_right ..⟩).trans (congrArg (fun k => p (ix3 0 a k)) (Fin.ext (show (512 + c.val - 512) % 512 = c.val by omega)))
theorem putHalf_ne (n n' : Fin 16) (p : Vec Ideal S1x256x512 .f32) (x : Vec Ideal S16x256x1024 .f32) (a : Fin 256) (c : Fin 1024)
    (h : ¬ (n'.val = n.val ∧ 512 ≤ c.val)) : putHalf n p x (ix3 n' a c) = x (ix3 n' a c) := if_neg h

section Ld
variable (X4 : Vec Ideal S1x16384x256 .bf16) (X5 : Vec Ideal S16384x128 .bf16) (X6 : Vec Ideal S1x16x1x1024 .f32) (x : Vec Ideal S16x256x1024 .f32) (n : Fin 16)
theorem ld_q (c : Fin 1024) (a : Fin 256) : View.ld X4 (rq n) (ix3 0 c a) = X4 (ix3 0 ⟨1024 * n.val + c.val, by omega⟩ a) := by
  refine congrArg X4 (funext fun b => Fin.ext ?_); fin_cases b <;> simp [Rect.unit]
theorem ld_g (c : Fin 1024) (e : Fin 128) : View.ld X5 (rg n) (ix2 c e) = X5 (ix2 ⟨1024 * n.val + c.val, by omega⟩ e) := by
  refine congrArg X5 (funext fun b => Fin.ext ?_); fin_cases b <;> simp [Rect.unit]
theorem ld_l (c : Fin 1024) : View.ld X6 (rl n) (ix4 0 0 0 c) = X6 (ix4 0 n 0 c) := by
  refine congrArg X6 (funext fun b => Fin.ext ?_); fin_cases b <;> simp [Rect.unit]
theorem ld_x (a : Fin 256) (c : Fin 1024) : View.ld x (rx n) (ix3 0 a c) = x (ix3 n a c) := by
  refine congrArg x (funext fun b => Fin.ext ?_); fin_cases b <;> simp [Rect.unit]
theorem ld_qh (c : Fin 512) (a : Fin 256) : View.ld X4 (rqh n) (ix3 0 c a) = X4 (ix3 0 ⟨1024 * n.val + 512 + c.val, by omega⟩ a) := by
  refine congrArg X4 (funext fun b => Fin.ext ?_); fin_cases b <;> simp [Rect.unit]
theorem ld_gh (c : Fin 512) (e : Fin 128) : View.ld X5 (rgh n) (ix2 c e) = X5 (ix2 ⟨1024 * n.val + 512 + c.val, by omega⟩ e) := by
  refine congrArg X5 (funext fun b => Fin.ext ?_); fin_cases b <;> simp [Rect.unit]
theorem ld_xh (a : Fin 256) (c : Fin 512) : View.ld x (rxh n) (ix3 0 a c) = x (ix3 n a ⟨512 + c.val, by omega⟩) := by
  refine congrArg x (funext fun b => Fin.ext ?_); fin_cases b <;> simp [Rect.unit]
end Ld

variable {H : Head} {j : ℕ} {X2 : Vec Ideal S1x512x256 .bf16} {X3 : Vec Ideal S1x512x128 .bf16} {X4 : Vec Ideal S1x16384x256 .bf16} {X5 : Vec Ideal S16384x128 .bf16}
    {X6 X7 : Vec Ideal S1x16x1x1024 .f32} (R : Reads H j X2 X3 X4 X5 X6 X7)
include R

/-- A weight at a key not after the query. -/
theorem wt_eq (n : Fin 16) (r : Fin 512) (c : Fin 1024) (h : 512 * j + r.val ≤ 1024 * n.val + c.val) :
    wt (k0_pay96 X2) (View.ld X4 (rq n)) (View.ld X6 (rl n)) r c = ((H.P (1024 * n.val + c.val) (512 * j + r.val) : ℝ) : EReal) :=
  (exp_dot_coe (fun a => (pay96_at X2 r a).trans (R.x2 r a)) (fun a => (ld_q X4 n c a).trans (R.x4 _ a)) ((ld_l X6 n c).trans (R.x6 n c))).trans
    (congrArg _ (H.weight _ _ h (by have := n.isLt; omega)))

theorem good_step (n : Fin 16) (hn : j < 2 * n.val) (s : St Ideal) (G : Good H j n.val s) :
    Good H j (n.val + 1) (stepAt (k0_pay96 X2) (k0_pay97 X2) (k0_pay98 X3) X4 X5 X6 X7 n s) := by
  have hw := fun (r : Fin 512) (c : Fin 1024) => wt_eq R n r c (by omega)
  have hds := fun (r : Fin 512) (c : Fin 1024) => (pay88_at (k0_pay96 X2) (k0_pay98 X3) (View.ld X4 (rq n)) (View.ld X5 (rg n)) (View.ld X6 (rl n)) (View.ld X7 (rl n)) r c).trans
    (mul_dot_coe (fun e => (pay98_at X3 r e).trans (R.x3 r e)) (fun e => (ld_g X5 n c e).trans (R.x5 _ e)) (hw r c) ((ld_l X7 n c).trans (R.x7 n c)))
  refine ⟨fun r a => ?_, fun r e => ?_, fun n' a c => ?_⟩
  · rw [sum_block]
    exact (pay1_at ..).trans (add_dot_coe (fun c => hds r c) (fun c => (ld_q X4 n c a).trans (R.x4 _ a)) (G.k r a))
  · rw [sum_block]
    exact (pay87_at ..).trans (add_dot_coe (fun c => hw r c) (fun c => (ld_g X5 n c e).trans (R.x5 _ e)) (G.v r e))
  · by_cases h : n'.val = n.val
    · obtain rfl := Fin.ext h
      rw [if_pos (Nat.lt_succ_self _), sum_block]
      refine (put_same ..).trans ((pay2_at ..).trans (add_dot_coe (fun r => (pay97_at X2 r a).trans (R.x2 r a)) (fun r => hds r c) ((ld_x s.2.2 n' a c).trans ((G.q n' a c).trans ?_))))
      rw [if_neg (lt_irrefl _)]
    · refine (put_ne n n' h ..).trans ((G.q n' a c).trans ?_)
      simp only [show n'.val < n.val + 1 ↔ n'.val < n.val by omega]

/-- The shares of `k` query blocks. -/
theorem good_steps (a k : ℕ) (ha : j < 2 * a) (hk : a + k ≤ 16) (s : St Ideal) (G : Good H j a s) :
    Good H j (a + k) (steps (k0_pay96 X2) (k0_pay97 X2) (k0_pay98 X3) X4 X5 X6 X7 a k s) := by
  induction k with
  | zero => exact G
  | succ k ih =>
    have e : (Fin.ofNat 16 (a + k)).val = a + k := Nat.mod_eq_of_lt (by omega)
    have h := good_step R (Fin.ofNat 16 (a + k)) (by omega) _ (by rw [e]; exact ih (by omega))
    rw [e] at h
    exact h

section Diag
variable {i : grid0.Coords} (hi : (i 1).val = j) {x : Vec Ideal S16x256x1024 .f32}
include hi

theorem nb_val : (nb i).val = j / 2 := by
  have : (i 1).val < 32 := (i 1).isLt
  show (i 1).val / 2 % 16 = j / 2
  omega

/-- The diagonal's share at an even key block. -/
theorem good_even (he : j % 2 = 0) (hx : Kept H j (fresh i x)) : Good H j (j / 2 + 1) (diagEven i X2 X3 X4 X5 X6 X7 x) := by
  have hn := nb_val R hi
  have hw : ∀ (r : Fin 512) (c : Fin 1024), (k0_pay8 (F := Ideal) (wj i) (k0_pay96 X2) (wn i) (View.ld X4 (rq (nb i))) (View.ld X6 (rl (nb i))) (ix2 r c) : EReal)
      = ((H.P (1024 * (j / 2) + c.val) (512 * j + r.val) : ℝ) : EReal) := by
    intro r c
    refine (pay8_at ..).trans ?_
    rw [hi]
    split_ifs with h
    · rw [wt_eq R (nb i) r c (by omega), hn]
    · rw [H.masked _ _ (by omega)]; rfl
  have hq := fun (c : Fin 1024) a => (ld_q X4 (nb i) c a).trans (R.x4 _ a)
  have hg := fun (c : Fin 1024) a => (ld_g X5 (nb i) c a).trans (R.x5 _ a)
  have hd := fun (c : Fin 1024) => (ld_l X7 (nb i) c).trans (R.x7 (nb i) c)
  simp only [hn] at hq hg hd
  have hds := fun (r : Fin 512) (c : Fin 1024) => (pay102_at (v4 := k0_pay98 X3) (d := View.ld X7 (rl (nb i))) _ (View.ld X5 (rg (nb i))) r c).trans
    (mul_dot_coe (fun e => (pay98_at X3 r e).trans (R.x3 r e)) (fun e => hg c e) (hw r c) (hd c))
  have hN : 1024 * (j / 2 + 1) = 512 * j + 1024 := by omega
  have h2 : 512 * j = 1024 * (j / 2) := by omega
  refine ⟨fun r a => ?_, fun r e => ?_, fun n' a c => ?_⟩
  · rw [sum_tail (512 * j) 1024 hN _ fun i hi => by rw [H.dS_masked _ _ (by omega), zero_mul]]
    simp only [h2] at hds ⊢
    exact (pay103_at ..).trans (add_dot_coe (fun c => hds r c) (fun c => hq c a) (pay100_at r a))
  · rw [sum_tail (512 * j) 1024 hN _ fun i hi => by rw [H.masked _ _ (by omega), zero_mul]]
    simp only [h2] at hw ⊢
    exact (pay9_at ..).trans (add_dot_coe (fun c => hw r c) (fun c => hg c e) (pay101_at r e))
  · by_cases h : n'.val = j / 2
    · obtain rfl : n' = nb i := Fin.ext (h.trans hn.symm)
      rw [if_pos (by omega), sum_block, h]
      refine (put_same ..).trans ((pay104_at ..).trans (add_dot_coe (fun r => R.x2 r a) (fun r => hds r c) ((ld_x _ _ a c).trans ((hx _ a c).trans ?_))))
      rw [h]
    · refine (put_ne _ n' (by omega) ..).trans ((hx n' a c).trans ?_)
      split_ifs with h'
      · rw [sum_block, Finset.sum_eq_zero (s := Finset.univ) fun r _ => by rw [H.dS_masked _ _ (by omega), mul_zero], add_zero]
      · rfl

/-- The diagonal's share at an odd key block. -/
theorem good_odd (he : ¬ j % 2 = 0) (hx : Kept H j x) : Good H j (j / 2 + 1) (diagOdd i X2 X3 X4 X5 X6 X7 x) := by
  have hn := nb_val R hi
  have h2 : 1024 * (j / 2) + 512 = 512 * j := by omega
  have hq := fun (c : Fin 512) a => (ld_qh X4 (nb i) c a).trans (R.x4 _ a)
  have hg := fun (c : Fin 512) a => (ld_gh X5 (nb i) c a).trans (R.x5 _ a)
  have hl := fun (c : Fin 512) => (ld_l X6 (nb i) ⟨512 + c.val, by omega⟩).trans (R.x6 (nb i) _)
  have hd := fun (c : Fin 512) => (ld_l X7 (nb i) ⟨512 + c.val, by omega⟩).trans (R.x7 (nb i) _)
  simp only [hn, ← Nat.add_assoc, h2] at hq hg hd hl
  have hw : ∀ (r : Fin 512) (c : Fin 512), (k0_pay13 (F := Ideal) (wj i) (k0_pay96 X2) (wn i) (View.ld X4 (rqh (nb i))) (View.ld X6 (rl (nb i))) (ix2 r c) : EReal)
      = ((H.P (512 * j + c.val) (512 * j + r.val) : ℝ) : EReal) := by
    intro r c
    refine (pay13_at ..).trans ?_
    rw [hi, h2]
    have hj : j < 32 := hi ▸ (i 1).isLt
    split_ifs with h
    · exact (exp_dot_coe (fun a => (pay96_at X2 r a).trans (R.x2 r a)) (fun a => hq c a) (hl c)).trans
        (congrArg _ (H.weight _ _ h (by omega)))
    · rw [H.masked _ _ (by omega)]; rfl
  have hds := fun (r : Fin 512) (c : Fin 512) => (pay105_at (v4 := k0_pay98 X3) (d := View.ld X7 (rl (nb i))) _ (View.ld X5 (rgh (nb i))) r c).trans
    (mul_dot_coe (fun e => (pay98_at X3 r e).trans (R.x3 r e)) (fun e => hg c e) (hw r c) (hd c))
  have hN : 1024 * (j / 2 + 1) = 512 * j + 512 := by omega
  refine ⟨fun r a => ?_, fun r e => ?_, fun n' a c => ?_⟩
  · rw [sum_tail (512 * j) 512 hN _ fun i hi => by rw [H.dS_masked _ _ (by omega), zero_mul]]
    exact (pay106_at ..).trans (add_dot_coe (fun c => hds r c) (fun c => hq c a) (pay100_at r a))
  · rw [sum_tail (512 * j) 512 hN _ fun i hi => by rw [H.masked _ _ (by omega), zero_mul]]
    exact (pay14_at ..).trans (add_dot_coe (fun c => hw r c) (fun c => hg c e) (pay101_at r e))
  · by_cases h : n'.val = j / 2 ∧ 512 ≤ c.val
    · obtain rfl : n' = nb i := Fin.ext (h.1.trans hn.symm)
      obtain ⟨c', rfl⟩ : ∃ c' : Fin 512, c = ⟨512 + c'.val, half_lt c'⟩ := ⟨⟨c.val - 512, by omega⟩, Fin.ext (by simp; omega)⟩
      have e : 1024 * (nb i).val + (512 + c'.val) = 512 * j + c'.val := by omega
      have hk := hx (nb i) a ⟨512 + c'.val, by omega⟩
      rw [if_pos (by omega), sum_block]
      simp only [e] at hk ⊢
      exact (putHalf_same ..).trans ((pay107_at ..).trans (add_dot_coe (fun r => R.x2 r a) (fun r => hds r c') ((ld_xh ..).trans hk)))
    · refine (putHalf_ne _ n' _ _ _ _ (by omega)).trans ((hx n' a c).trans ?_)
      split_ifs with h'
      · rw [sum_block, Finset.sum_eq_zero (s := Finset.univ) fun r _ => by rw [H.dS_masked _ _ (by omega), mul_zero], add_zero]
      · rfl

theorem fresh_kept (hx : j ≠ 0 → Kept H j x) : Kept H j (fresh i x) := by
  unfold fresh
  rw [hi]
  split_ifs with h
  · subst h
    intro n a c
    rw [Nat.mul_zero, Finset.range_zero, Finset.sum_empty]
    exact pay99_at n a c
  · exact hx h

theorem good_diag (hx : j ≠ 0 → Kept H j x) : Good H j (j / 2 + 1) (diag i X2 X3 X4 X5 X6 X7 x) := by
  unfold diag
  rw [hi]
  split_ifs with h
  · exact good_even R hi h (fresh_kept R hi hx)
  · exact good_odd R hi h (hx (by omega))

/-- What a grid point leaves. -/
theorem good_last (hx : j ≠ 0 → Kept H j x) :
    (∀ r a, ((last i X2 X3 X4 X5 X6 X7 x).1 (ix3 0 r a) : EReal) = (((∑ t ∈ Finset.range 16384, H.dS t (512 * j + r.val) * H.qq t a) * Real.log 2 : ℝ) : EReal))
    ∧ (∀ r e, ((last i X2 X3 X4 X5 X6 X7 x).2.1 (ix3 0 r e) : EReal) = ((∑ t ∈ Finset.range 16384, H.P t (512 * j + r.val) * H.gg t e : ℝ) : EReal))
    ∧ Kept H (j + 1) (last i X2 X3 X4 X5 X6 X7 x).2.2 := by
  have hj : j < 32 := hi ▸ (i 1).isLt
  have G := good_steps R (j / 2 + 1) (15 - j / 2) (by omega) (by omega) _ (good_diag R hi hx)
  rw [show j / 2 + 1 + (15 - j / 2) = 16 by omega] at G
  unfold last
  rw [hi]
  refine ⟨fun r a => (pay5_at ..).trans ?_, fun r e => G.v r e, fun n a c => (G.q n a c).trans ?_⟩
  · rw [G.k r a, EReal.coe_mul]
  · rw [if_pos n.isLt]

/-- The query gradient's block written at an odd key block. -/
theorem dq_at (he : ¬ j % 2 = 0) (hx : Kept H j x) (c : Fin 1024) (a : Fin 256) :
    (dqOf i X2 X3 X4 X5 X6 X7 x (ix3 0 c a) : EReal) = ((∑ κ ∈ Finset.range (512 * (j + 1)), H.kk κ a * H.dS (1024 * (j / 2) + c.val) κ : ℝ) : EReal) := by
  have hn := nb_val R hi
  refine (pay108_at ..).trans ((ld_x ..).trans (((good_odd R hi he hx).q (nb i) a c).trans ?_))
  rw [hn, if_pos (Nat.lt_succ_self _)]

end Diag

end Cert.Proof.Attn

end
-- ==== Proof.AttnHost.lean ====
module

public import proofs.«01_k».proof.Proof.AttnBody
public import proofs.«01_k».proof.Proof.AttnPoint

/-!
What the host hands the attention gradient's kernel, in real numbers.
-/

@[expose] public section

set_option maxRecDepth 16384

noncomputable section

namespace Cert.Proof.Attn

open Cert.AttnGradIdeal Cert.AttnGradIdeal.Gen
open Idealize.ShloMosaic Idealize.ShloMosaic.TcCoe

variable (m : (ℓ : Loc nD τ sig) → Buf (Elt Ideal) ℓ) (c : Dev nD)

abbrev x0 : Vec Ideal S1x16384x8x192 .f32 := m ((c : Thread nD τ).loc main_arg0)
abbrev x1 : Vec Ideal S1x16384x8x192 .f32 := m ((c : Thread nD τ).loc main_arg1)
abbrev x2 : Vec Ideal S1x16384x8x128 .f32 := m ((c : Thread nD τ).loc main_arg2)
abbrev x3 : Vec Ideal S1x16384x8x128 .f32 := m ((c : Thread nD τ).loc main_arg3)

/-- The buffers after the operands' casts, after the masked scores, after their largest entries. -/
def Va : Valuation τ sig (Elt Ideal) := StableHlo.after (hostOps0.take 21) (fun b => m (c, b))
def Vb (V : Valuation τ sig (Elt Ideal)) : Valuation τ sig (Elt Ideal) := StableHlo.after hostOps0_1 (StableHlo.after (hostOps0.drop 21) V)
def Vc (V : Valuation τ sig (Elt Ideal)) : Valuation τ sig (Elt Ideal) := StableHlo.after (hostOps0_2.take 2) V
def Vd (V : Valuation τ sig (Elt Ideal)) : Valuation τ sig (Elt Ideal) := StableHlo.after (hostOps0_2.drop 2) V

theorem V0_eq : V0 m c = Vd (Vc (Vb (Va m c))) := by
  unfold V0 Vd Vc Vb Va
  rw [← StableHlo.after_append (hostOps0.take 21), List.take_append_drop, ← StableHlo.after_append (hostOps0_2.take 2), List.take_append_drop, List.flatten_cons, List.flatten_cons, List.flatten_cons,
    List.flatten_nil, List.append_nil, StableHlo.after_append, StableHlo.after_append]

/-- The buffers the later operations read. -/
abbrev qB (V : Valuation τ sig (Elt Ideal)) : Vec Ideal S8x16384x256 .bf16 := V (Proc.devRef .tc main_v8)
abbrev kB (V : Valuation τ sig (Elt Ideal)) : Vec Ideal S8x16384x256 .bf16 := V (Proc.devRef .tc main_v13)
abbrev vB (V : Valuation τ sig (Elt Ideal)) : Vec Ideal S8x16384x128 .bf16 := V (Proc.devRef .tc main_v16)
abbrev lnB (V : Valuation τ sig (Elt Ideal)) : Vec Ideal S_ .f32 := V (Proc.devRef .tc main_v0)
abbrev rowB (V : Valuation τ sig (Elt Ideal)) : Vec Ideal S8x16384x16384 .f32 := V (Proc.devRef .tc main_v28)
abbrev maxB (V : Valuation τ sig (Elt Ideal)) : Vec Ideal S8x16384 .f32 := V (Proc.devRef .tc main_v29)
abbrev doB (V : Valuation τ sig (Elt Ideal)) : Vec Ideal S16384x1024 .bf16 := V (Proc.devRef .tc main_v52)
abbrev lseB (V : Valuation τ sig (Elt Ideal)) : Vec Ideal S8x16x1x1024 .f32 := V (Proc.devRef .tc main_v53)
abbrev deltaB (V : Valuation τ sig (Elt Ideal)) : Vec Ideal S8x16x1x1024 .f32 := V (Proc.devRef .tc main_v55)
abbrev gB (V : Valuation τ sig (Elt Ideal)) : Vec Ideal S1x16384x8x128 .f32 := V (Proc.devRef .tc main_arg3)

theorem q_at (h : Fin 8) (t : Fin 16384) (a : Fin 256) : (qB (Va m c) (ix3 h t a) : EReal)
    = (if ha : a.val < 192 then (x0 m c (ix4 0 t h ⟨a.val, ha⟩) : EReal) else 0) * Ideal.div (Ideal.ofBits .f32 0x3D93CD3A#32) (Ideal.log (Ideal.ofBits .f32 0x40000000#32)) := by
  unfold qB Va
  simp only [hostOps0, List.take_succ_cons, List.take_zero]
  after_results_simp
  pointwise
  after_results_simp
  pointwise
theorem k_at (h : Fin 8) (t : Fin 16384) (a : Fin 256) : (kB (Va m c) (ix3 h t a) : EReal)
    = if ha : a.val < 192 then (x1 m c (ix4 0 t h ⟨a.val, ha⟩) : EReal) else 0 := by
  unfold kB Va
  simp only [hostOps0, List.take_succ_cons, List.take_zero]
  after_results_simp
  pointwise
  after_results_simp
  pointwise
theorem v_at (h : Fin 8) (t : Fin 16384) (a : Fin 128) : (vB (Va m c) (ix3 h t a) : EReal) = x2 m c (ix4 0 t h a) := by
  unfold vB Va
  simp only [hostOps0, List.take_succ_cons, List.take_zero]
  after_results_simp
  pointwise
theorem ln_at (j : S_.Idx) : (lnB (Va m c) j : EReal) = Ideal.log (Ideal.ofBits .f32 0x40000000#32) := by
  unfold lnB Va
  simp only [hostOps0, List.take_succ_cons, List.take_zero]
  after_results_simp
  pointwise
theorem g_at : gB (Va m c) = x3 m c := by
  unfold gB Va
  simp only [hostOps0, List.take_succ_cons, List.take_zero]
  after_results_simp

section Later
variable (V : Valuation τ sig (Elt Ideal))
theorem row_eq : rowB (StableHlo.after hostOps0_1 V) = select (broadcastInDim S8x16384x16384 ![0, 1, 2] bcast_S1x16384x16384_S8x16384x16384_0_1_2 (V (Proc.devRef .tc main_v27) : IVec S1x16384x16384 1))
    (V (Proc.devRef .tc main_v19) : FVec Ideal S8x16384x16384 .f32) (broadcastInDim S8x16384x16384 ![] bcast_S_S8x16384x16384 (V (Proc.devRef .tc main_cst_3) : FVec Ideal S_ .f32)) := by
  after_results_simp
  rfl
theorem row_at (h : Fin 8) (i κ : Fin 16384) : (rowB (Vb V) (ix3 h i κ) : EReal) = if κ.val ≤ i.val then ∑ a : Fin 256, (qB V (ix3 h i a) * kB V (ix3 h κ a) : EReal) else ⊥ := by
  unfold Vb
  rw [row_eq]
  simp only [hostOps0, List.drop_succ_cons, List.drop_zero]
  after_results_simp
  pointwise
  rw [sle_at, neg_inf]
  split_ifs <;> rfl
theorem keep_b : qB (Vb V) = qB V ∧ kB (Vb V) = kB V ∧ vB (Vb V) = vB V ∧ lnB (Vb V) = lnB V ∧ gB (Vb V) = gB V := by
  refine ⟨?_, ?_, ?_, ?_, ?_⟩ <;> (unfold Vb; simp only [hostOps0, List.drop_succ_cons, List.drop_zero]; after_results_simp)
theorem keep_c : qB (Vc V) = qB V ∧ kB (Vc V) = kB V ∧ vB (Vc V) = vB V ∧ lnB (Vc V) = lnB V ∧ gB (Vc V) = gB V ∧ rowB (Vc V) = rowB V := by
  refine ⟨?_, ?_, ?_, ?_, ?_, ?_⟩ <;> (unfold Vc; simp only [hostOps0_2, List.take_succ_cons, List.take_zero]; after_results_simp)
theorem keep_d : qB (Vd V) = qB V ∧ kB (Vd V) = kB V ∧ vB (Vd V) = vB V := by
  refine ⟨?_, ?_, ?_⟩ <;> (unfold Vd; simp only [hostOps0_2, List.drop_succ_cons, List.drop_zero]; after_results_simp)
theorem max_eq : maxB (Vc V) = Host.reduce (max : EReal → EReal → EReal) (rowB V) (constant (F := Ideal) S_ .f32 0xFF800000#32) reducesTo_S8x16384x16384_S8x16384_d2 h_S_ := by
  unfold maxB Vc
  simp only [hostOps0_2, List.take_succ_cons, List.take_zero]
  after_results_simp
  rfl
theorem do_at (t : Fin 16384) (h : Fin 8) (e : Fin 128) : (doB (Vd V) (ix2 t ⟨128 * h.val + e.val, by omega⟩) : EReal) = gB V (ix4 0 t h e) := by
  unfold doB Vd
  simp only [hostOps0_2, List.drop_succ_cons, List.drop_zero]
  after_results_simp
  pointwise

/-- Position `j` of query block `n`. -/
abbrev pos (n : Fin 16) (j : Fin 1024) : Fin 16384 := ⟨n.val * 1024 + j.val, by omega⟩

theorem lse_at (h : Fin 8) (n : Fin 16) (j : Fin 1024) : (lseB (Vd V) (ix4 h n 0 j) : EReal)
    = (maxB V (ix2 h (pos n j)) : EReal) + Ideal.div (Ideal.log (∑ κ : Fin 16384, Ideal.exp ((lnB V ix0 : EReal) * ((rowB V (ix3 h (pos n j) κ) : EReal) - maxB V (ix2 h (pos n j)))))) (lnB V ix0) := by
  unfold lseB Vd
  simp only [hostOps0_2, List.drop_succ_cons, List.drop_zero]
  after_results_simp
  pointwise
theorem delta_at (h : Fin 8) (n : Fin 16) (j : Fin 1024) : (deltaB (Vd V) (ix4 h n 0 j) : EReal)
    = ∑ e : Fin 128, (gB V (ix4 0 (pos n j) h e) : EReal)
      * Ideal.div (∑ κ : Fin 16384, Ideal.exp ((lnB V ix0 : EReal) * ((rowB V (ix3 h (pos n j) κ) : EReal) - maxB V (ix2 h (pos n j)))) * (vB V (ix3 h κ e) : EReal))
        (∑ κ : Fin 16384, Ideal.exp ((lnB V ix0 : EReal) * ((rowB V (ix3 h (pos n j) κ) : EReal) - maxB V (ix2 h (pos n j))))) := by
  unfold deltaB Vd
  simp only [hostOps0_2, List.drop_succ_cons, List.drop_zero]
  after_results_simp
  pointwise
end Later

/-! ## In real numbers -/

namespace Model
variable (B : Model)

/-- The head as the kernel sees it. -/
def head : Head where
  kk := B.kk
  qq := B.qq
  vv := B.v
  gg := B.g
  P := B.P
  L i := Real.log (B.Z i) / Real.log 2
  D := B.D
  weight i κ h _ := by
    have hl := ln_pos.ne'
    rw [Finset.sum_congr rfl fun a _ => mul_comm (B.kk κ a) (B.qq i a), sum_kk]
    show (2 : ℝ) ^ (B.S i κ / Real.log 2 - Real.log (B.Z i) / Real.log 2) = B.P i κ
    rw [Real.rpow_def_of_pos two_pos, show Real.log 2 * (B.S i κ / Real.log 2 - Real.log (B.Z i) / Real.log 2) = B.S i κ - Real.log (B.Z i) by field_simp,
      Real.exp_sub, Real.exp_log (B.Z_pos i), P, E, if_pos h]
  masked := B.P_masked

theorem head_P : B.head.P = B.P := rfl
theorem head_D : B.head.D = B.D := by unfold head; with_reducible rfl
theorem head_vv : B.head.vv = B.v := rfl
theorem head_gg : B.head.gg = B.g := rfl
theorem head_dS (i κ : ℕ) : B.head.dS i κ = B.dS i κ := by
  rw [Head.dS, dS, head_P, head_D, head_vv, head_gg, G, Finset.sum_congr rfl fun e _ => mul_comm (B.v κ e) (B.g i e)]

end Model

variable {m c} {A : Fin 8 → Model} (H : Holds A (x0 m c) (x1 m c) (x2 m c) (x3 m c))
include H

theorem q_real (h : Fin 8) (t : Fin 16384) (a : Fin 256) : (qB (Va m c) (ix3 h t a) : EReal) = ((A h).qq t.val a : ℝ) := by
  rw [q_at, log_two, H.c h, div_coe_coe ln_pos.ne', Model.qq, EReal.coe_mul]
  refine congrArg (· * _) ?_
  split_ifs
  · exact H.q ..
  · rfl
theorem k_real (h : Fin 8) (t : Fin 16384) (a : Fin 256) : (kB (Va m c) (ix3 h t a) : EReal) = ((A h).kk t.val a : ℝ) := by
  rw [k_at, Model.kk]
  split_ifs
  · exact H.k ..
  · rfl
theorem row_real (h : Fin 8) (i κ : Fin 16384) : (rowB (Vb (Va m c)) (ix3 h i κ) : EReal) = if κ.val ≤ i.val then (((A h).S i.val κ.val / Real.log 2 : ℝ) : EReal) else ⊥ := by
  rw [row_at]
  refine if_congr Iff.rfl ((dot_coe (q_real H h i) (k_real H h κ)).trans (congrArg _ (Model.sum_kk ..))) rfl
theorem max_real (h : Fin 8) (i : Fin 16384) : ∃ M : ℝ, (maxB (Vc (Vb (Va m c))) (ix2 h i) : EReal) = M := by
  rw [max_eq]
  refine reduce_max_row reducesTo_S8x16384x16384_S8x16384_d2 (by decide) h_S_ (rowB (Vb (Va m c))) _ (ix2 h i) (fun κ => κ.val ≤ i.val) (fun κ => (A h).S i.val κ.val / Real.log 2) i le_rfl neg_inf fun κ => ?_
  refine Eq.trans (congrArg _ ?_) (row_real H h i κ)
  funext a; fin_cases a <;> rfl
theorem exp_real (h : Fin 8) (i : Fin 16384) (M : ℝ) (hM : (maxB (Vc (Vb (Va m c))) (ix2 h i) : EReal) = M) (κ : Fin 16384) :
    Ideal.exp ((lnB (Vc (Vb (Va m c))) ix0 : EReal) * ((rowB (Vc (Vb (Va m c))) (ix3 h i κ) : EReal) - maxB (Vc (Vb (Va m c))) (ix2 h i)))
      = (((A h).E i.val κ.val * Real.exp (-(Real.log 2 * M)) : ℝ) : EReal) := by
  have e1 : (lnB (Vc (Vb (Va m c))) ix0 : EReal) = ((Real.log 2 : ℝ) : EReal) := by
    rw [(keep_c _).2.2.2.1, (keep_b _).2.2.2.1, ln_at, log_two]
  rw [e1, hM, (keep_c _).2.2.2.2.2, row_real H]
  refine (exp_row_mul _ ln_pos _ _).trans ?_
  rw [div_mul_cancel₀ _ ln_pos.ne']
  rfl
theorem lse_real (h : Fin 8) (n : Fin 16) (j : Fin 1024) : (lseB (V0 m c) (ix4 h n 0 j) : EReal) = ((A h).head.L (n.val * 1024 + j.val) : ℝ) := by
  obtain ⟨M, hM⟩ := max_real H h (pos n j)
  have hz : 0 < (A h).Z (n.val * 1024 + j.val) * Real.exp (-(Real.log 2 * M)) := mul_pos ((A h).Z_pos _) (Real.exp_pos _)
  have e1 : (lnB (Vc (Vb (Va m c))) ix0 : EReal) = ((Real.log 2 : ℝ) : EReal) := by
    rw [(keep_c _).2.2.2.1, (keep_b _).2.2.2.1, ln_at, log_two]
  rw [V0_eq, lse_at, Fin.sum_fin_congr (exp_real H h (pos n j) M hM), ← coe_sum, Model.Z_scaled (Real.exp_pos _), hM, e1, Ideal.log_coe, if_neg (not_le.2 hz), div_coe_coe ln_pos.ne', ← EReal.coe_add]
  refine congrArg _ ?_
  show M + Real.log ((A h).Z (n.val * 1024 + j.val) * Real.exp (-(Real.log 2 * M))) / Real.log 2 = Real.log ((A h).Z (n.val * 1024 + j.val)) / Real.log 2
  have := ln_pos.ne'
  rw [Real.log_mul ((A h).Z_pos _).ne' (Real.exp_pos _).ne', Real.log_exp]
  field_simp
  ring
theorem delta_real (h : Fin 8) (n : Fin 16) (j : Fin 1024) : (deltaB (V0 m c) (ix4 h n 0 j) : EReal) = ((A h).head.D (n.val * 1024 + j.val) : ℝ) := by
  obtain ⟨M, hM⟩ := max_real H h (pos n j)
  have hz : 0 < (A h).Z (n.val * 1024 + j.val) * Real.exp (-(Real.log 2 * M)) := mul_pos ((A h).Z_pos _) (Real.exp_pos _)
  rw [V0_eq, delta_at]
  have ev (κ : Fin 16384) (e : Fin 128) : (vB (Vc (Vb (Va m c))) (ix3 h κ e) : EReal) = ((A h).v κ.val e : ℝ) := by
    rw [(keep_c _).2.2.1, (keep_b _).2.2.1, v_at]; exact H.v ..
  have eg (e : Fin 128) : (gB (Vc (Vb (Va m c))) (ix4 0 (pos n j) h e) : EReal) = ((A h).g (pos n j).val e : ℝ) := by
    rw [(keep_c _).2.2.2.2.1, (keep_b _).2.2.2.2, g_at]; exact H.g ..
  rw [Fin.sum_fin_congr (exp_real H h (pos n j) M hM), ← coe_sum, Model.Z_scaled (Real.exp_pos _)]
  rw [Model.head_D]
  refine (dot_coe (f' := fun e => (A h).g (n.val * 1024 + j.val) e) (g' := fun e => (∑ κ : Fin 16384, (A h).E (n.val * 1024 + j.val) κ.val * Real.exp (-(Real.log 2 * M)) * (A h).v κ.val e)
    / ((A h).Z (n.val * 1024 + j.val) * Real.exp (-(Real.log 2 * M)))) eg fun e => ?_).trans (congrArg _ (Model.D_scaled (Real.exp_pos _)))
  rw [dot_coe (exp_real H h (pos n j) M hM) fun κ => ev κ e]
  exact div_coe_coe hz.ne' _

end Cert.Proof.Attn

end
-- ==== Proof.AttnEnd.lean ====
module

public import proofs.«01_k».proof.Proof.AttnHost
public import Idealize.ShloMosaic.Lib.Pipeline.ReadBack

/-!
The three gradients the attention gradient's kernel ends with, in real numbers.
-/

@[expose] public section

set_option maxRecDepth 16384

noncomputable section

namespace Cert.Proof.Attn

open Cert.AttnGradIdeal Cert.AttnGradIdeal.Gen
open Idealize.ShloMosaic Idealize.ShloMosaic.TcCoe Idealize.SL.Sem

variable (m : (ℓ : Loc nD τ sig) → Buf (Elt Ideal) ℓ) (c : Dev nD)

/-! ## The grid -/

/-- The head and the key block of a point. -/
def hd (t : Fin cfg0.N) : Fin 8 := ⟨(grid0.coords t 0).val, (grid0.coords t 0).isLt⟩
def jb (t : Fin cfg0.N) : Fin 32 := ⟨(grid0.coords t 1).val, (grid0.coords t 1).isLt⟩

theorem hd_val : ∀ t : Fin cfg0.N, (hd t).val = t.val / 32 := (by decide +kernel : ∀ t : Fin grid0.N, _)
theorem jb_val : ∀ t : Fin cfg0.N, (jb t).val = t.val % 32 := (by decide +kernel : ∀ t : Fin grid0.N, _)

theorem idx_key : ∀ t : Fin cfg0.N, win0_0.index t = ![(hd t).val, (jb t).val, 0] ∧ win0_1.index t = ![(hd t).val, (jb t).val, 0]
    ∧ win0_6.index t = ![(hd t).val, (jb t).val, 0] ∧ win0_7.index t = ![(hd t).val, (jb t).val, 0] := (by decide +kernel : ∀ t : Fin grid0.N, _)
theorem idx_head : ∀ t : Fin cfg0.N, win0_2.index t = ![(hd t).val, 0, 0] ∧ win0_3.index t = ![0, (hd t).val]
    ∧ win0_4.index t = ![(hd t).val, 0, 0, 0] ∧ win0_5.index t = ![(hd t).val, 0, 0, 0] := (by decide +kernel : ∀ t : Fin grid0.N, _)
theorem idx_query : ∀ t : Fin cfg0.N, win0_8.index t = ![(hd t).val, (jb t).val / 2, 0] := (by decide +kernel : ∀ t : Fin grid0.N, _)

/-! ## What a point reads -/

section Blocks
variable (t : Fin cfg0.N)
theorem blk_k (r : Fin 512) (a : Fin 256) : iblk m c 0 t (ix3 0 r a) = kB (V0 m c) (ix3 (hd t) ⟨512 * (jb t).val + r.val, by omega⟩ a) := by
  blk_ext [iblk, idx_key t]
theorem blk_v (r : Fin 512) (e : Fin 128) : iblk m c 1 t (ix3 0 r e) = vB (V0 m c) (ix3 (hd t) ⟨512 * (jb t).val + r.val, by omega⟩ e) := by
  blk_ext [iblk, idx_key t]
theorem blk_q (s : Fin 16384) (a : Fin 256) : iblk m c 2 t (ix3 0 s a) = qB (V0 m c) (ix3 (hd t) s a) := by
  blk_ext [iblk, idx_head t]
theorem blk_g (s : Fin 16384) (e : Fin 128) : iblk m c 3 t (ix2 s e) = doB (V0 m c) (ix2 s ⟨128 * (hd t).val + e.val, by omega⟩) := by
  blk_ext [iblk, idx_head t]
variable (X : Vec Ideal S8x16x1x1024 .f32) (n : Fin 16) (k : Fin 1024)
theorem blk_4 : ((cfg0.win 4).blk t).view.read (Elt Ideal) X (ix4 0 n 0 k) = X (ix4 (hd t) n 0 k) := by
  blk_ext [idx_head t]
theorem blk_5 : ((cfg0.win 5).blk t).view.read (Elt Ideal) X (ix4 0 n 0 k) = X (ix4 (hd t) n 0 k) := by
  blk_ext [idx_head t]
theorem blk_l : iblk m c 4 t (ix4 0 n 0 k) = lseB (V0 m c) (ix4 (hd t) n 0 k) := blk_4 t _ n k
theorem blk_d : iblk m c 5 t (ix4 0 n 0 k) = deltaB (V0 m c) (ix4 (hd t) n 0 k) := blk_5 t _ n k
end Blocks

theorem keep : qB (V0 m c) = qB (Va m c) ∧ kB (V0 m c) = kB (Va m c) ∧ vB (V0 m c) = vB (Va m c) := by
  rw [V0_eq]
  obtain ⟨b1, b2, b3, -⟩ := keep_b (Va m c)
  obtain ⟨c1, c2, c3, -⟩ := keep_c (Vb (Va m c))
  obtain ⟨d1, d2, d3⟩ := keep_d (Vc (Vb (Va m c)))
  exact ⟨d1.trans (c1.trans b1), d2.trans (c2.trans b2), d3.trans (c3.trans b3)⟩

variable {m c} {A : Fin 8 → Model} (H : Holds A (x0 m c) (x1 m c) (x2 m c) (x3 m c))
include H

theorem g_real (h : Fin 8) (s : Fin 16384) (e : Fin 128) : (doB (V0 m c) (ix2 s ⟨128 * h.val + e.val, by omega⟩) : EReal) = ((A h).g s.val e : ℝ) := by
  rw [V0_eq, do_at, (keep_c _).2.2.2.2.1, (keep_b _).2.2.2.2, g_at]
  exact H.g ..

theorem reads (t : Fin cfg0.N) : Reads (A (hd t)).head (jb t).val (iblk m c 0 t) (iblk m c 1 t) (iblk m c 2 t) (iblk m c 3 t) (iblk m c 4 t) (iblk m c 5 t) where
  x2 r a := by rw [blk_k, (keep m c).2.1]; exact k_real H ..
  x3 r e := by rw [blk_v, (keep m c).2.2, v_at]; exact H.v ..
  x4 s a := by rw [blk_q, (keep m c).1]; exact q_real H ..
  x5 s e := by rw [blk_g]; exact g_real H ..
  x6 n k := by rw [blk_l, Nat.mul_comm]; exact lse_real H ..
  x7 n k := by rw [blk_d, Nat.mul_comm]; exact delta_real H ..

/-- The kept query gradient before a point that does not start a head. -/
theorem kept_ok (n : ℕ) : ∀ h : n < cfg0.N, (jb ⟨n, h⟩).val ≠ 0 → Kept (A (hd ⟨n, h⟩)).head (jb ⟨n, h⟩).val (kept m c n h.le) := by
  induction n with
  | zero => intro h h0; exact absurd (jb_val ⟨0, h⟩) h0
  | succ n ih =>
    intro h h0
    have h' : n < cfg0.N := Nat.lt_of_succ_lt h
    have hj := jb_val ⟨n + 1, h⟩
    have hj' := jb_val ⟨n, h'⟩
    have hh := hd_val ⟨n + 1, h⟩
    have hh' := hd_val ⟨n, h'⟩
    dsimp only at hj hj' hh hh'
    rw [show hd ⟨n + 1, h⟩ = hd ⟨n, h'⟩ from Fin.ext (by omega), show (jb ⟨n + 1, h⟩).val = (jb ⟨n, h'⟩).val + 1 by omega]
    exact (good_last (reads H ⟨n, h'⟩) rfl (ih h')).2.2

/-! ## The arrays -/

omit H in
/-- The three gradients of a head in the kernel's own scaling. -/
def dkOf (B : Head) (κ : Fin 16384) (a : Fin 256) : ℝ := (∑ t ∈ Finset.range 16384, B.dS t κ.val * B.qq t a) * Real.log 2
omit H in
def dvOf (B : Head) (κ : Fin 16384) (e : Fin 128) : ℝ := ∑ t ∈ Finset.range 16384, B.P t κ.val * B.gg t e
omit H in
def dqAll (B : Head) (i : Fin 16384) (a : Fin 256) : ℝ := ∑ κ ∈ Finset.range 16384, B.kk κ a * B.dS i.val κ

/-- What a point leaves. -/
theorem left_ok (t : Fin cfg0.N) :
    (∀ r a, ((left m c t).1 (ix3 0 r a) : EReal) = (dkOf (A (hd t)).head ⟨512 * (jb t).val + r.val, by omega⟩ a : EReal))
    ∧ (∀ r e, ((left m c t).2.1 (ix3 0 r e) : EReal) = (dvOf (A (hd t)).head ⟨512 * (jb t).val + r.val, by omega⟩ e : EReal)) := by
  have h := good_last (i := grid0.coords t) (j := (jb t).val) (reads H t) rfl (kept_ok H t.val t.isLt)
  unfold dkOf dvOf left leftBy
  exact ⟨h.1, h.2.1⟩
theorem leftDq_ok (t : Fin cfg0.N) (ho : ¬ (jb t).val % 2 = 0) (k : Fin 1024) (a : Fin 256) :
    (leftDq m c t (ix3 0 k a) : EReal) = (dqAll (A (hd t)).head ⟨1024 * ((jb t).val / 2) + k.val, by omega⟩ a : EReal) := by
  have h := dq_at (i := grid0.coords t) (j := (jb t).val) (reads H t) rfl ho (kept_ok H t.val t.isLt fun h => ho (by rw [h])) k a
  unfold dqAll leftDq
  rw [h]
  have hl := (jb t).isLt
  refine congrArg Real.toEReal (Finset.sum_subset (Finset.range_subset_range.2 (by omega)) fun κ _ hκ => ?_)
  rw [Finset.mem_range, not_lt] at hκ
  exact mul_eq_zero_of_right _ (Head.dS_masked _ _ _ (by omega))

theorem dk_arr : (dats m 0 c).arrAt 6 cfg0.N = fun j : S8x16384x256.Idx =>
    (dkOf (A (j 0)).head (j 1) (j 2) : EReal) := by
  refine (dats m 0 c).arrAt_eq_of_covers 6 _ (by decide +kernel) fun t hf y => ?_
  idx_vars y
  blk_simp
  rw [after_6]
  have e : (win0_6.blk t).view.emb (ix3 y0 y1 y2) = ix3 (hd t) ⟨512 * (jb t).val + y1.val, by omega⟩ y2 := by blk_ext [idx_key t]
  rw [e]
  obtain rfl : y0 = 0 := Subsingleton.elim (α := Fin 1) _ _
  exact (left_ok H t).1 y1 y2

theorem dv_arr : (dats m 0 c).arrAt 7 cfg0.N = fun j : S8x16384x128.Idx =>
    (dvOf (A (j 0)).head (j 1) (j 2) : EReal) := by
  refine (dats m 0 c).arrAt_eq_of_covers 7 _ (by decide +kernel) fun t hf y => ?_
  idx_vars y
  blk_simp
  rw [after_7]
  have e : (win0_7.blk t).view.emb (ix3 y0 y1 y2) = ix3 (hd t) ⟨512 * (jb t).val + y1.val, by omega⟩ y2 := by blk_ext [idx_key t]
  rw [e]
  obtain rfl : y0 = 0 := Subsingleton.elim (α := Fin 1) _ _
  exact (left_ok H t).2 y1 y2

theorem dq_arr : (dats m 0 c).arrAt 8 cfg0.N = fun j : S8x16384x256.Idx =>
    (dqAll (A (j 0)).head (j 1) (j 2) : EReal) := by
  refine (dats m 0 c).arrAt_eq_of_covers 8 _ (by decide +kernel) fun t hf y => ?_
  idx_vars y
  blk_simp
  rw [after_8]
  have hl := (jb t).isLt
  have e : (win0_8.blk t).view.emb (ix3 y0 y1 y2) = ix3 (hd t) ⟨1024 * ((jb t).val / 2) + y1.val, by omega⟩ y2 := by blk_ext [idx_query t]
  rw [e]
  obtain rfl : y0 = 0 := Subsingleton.elim (α := Fin 1) _ _
  have ho : ¬ (jb t).val % 2 = 0 := of_decide_eq_true ((flush_8 t).symm.trans hf)
  exact leftDq_ok H t ho y1 y2

/-! ## The results -/

omit H in
/-- What the buffers hold when the region ends: its arrays, and everything else as before. -/
def atEnd (m : (ℓ : Loc nD τ sig) → Buf (Elt Ideal) ℓ) (c : Dev nD) : Valuation τ sig (Elt Ideal) :=
  Pipeline.withArrays (cfgs 0).spec c (V0 m c) fun w => (dats m 0 c).arrAt w (cfgs 0).N

omit H in
theorem atEnd_dk : atEnd m c (Proc.devRef .tc main_v56_0) = (dats m 0 c).arrAt 6 cfg0.N := Pipeline.withArrays_arr (cfgs 0).spec (by decide) c _ _ 6
omit H in
theorem atEnd_dv : atEnd m c (Proc.devRef .tc main_v56_1) = (dats m 0 c).arrAt 7 cfg0.N := Pipeline.withArrays_arr (cfgs 0).spec (by decide) c _ _ 7
omit H in
theorem atEnd_dq : atEnd m c (Proc.devRef .tc main_v56_2) = (dats m 0 c).arrAt 8 cfg0.N := Pipeline.withArrays_arr (cfgs 0).spec (by decide) c _ _ 8

theorem dk_end (κ : Fin 16384) (h : Fin 8) (d : Fin 192) :
    (StableHlo.after hostOps1 (atEnd m c) (Proc.devRef .tc main_v64) (ix4 (n0 := 1) 0 κ h d) : EReal) = ((∑ i : Fin 16384, (A h).dS i.val κ.val * (A h).c * (A h).q i.val d : ℝ) : EReal) := by
  have e : (atEnd m c (Proc.devRef .tc main_v56_0) (ix3 (n0 := 8) h κ ⟨d.val, by omega⟩) : EReal) = ((∑ i : Fin 16384, (A h).dS i.val κ.val * (A h).c * (A h).q i.val d : ℝ) : EReal) := by
    rw [atEnd_dk, dk_arr H]
    refine congrArg _ ?_
    show dkOf (A h).head κ _ = _
    unfold dkOf
    simp only [Model.head_dS]
    rw [Finset.sum_range, Finset.sum_mul]
    refine Finset.sum_congr rfl fun i _ => ?_
    show (A h).dS i.val κ.val * (A h).qq i.val ⟨d.val, _⟩ * Real.log 2 = _
    rw [Model.qq, dif_pos d.isLt]
    have := ln_pos.ne'
    field_simp
  refine Eq.trans ?_ e
  generalize atEnd m c = V
  after_results
  pointwise

theorem dv_end (κ : Fin 16384) (h : Fin 8) (e' : Fin 128) :
    (StableHlo.after hostOps1 (atEnd m c) (Proc.devRef .tc main_v66) (ix4 (n0 := 1) 0 κ h e') : EReal) = ((∑ i : Fin 16384, (A h).P i.val κ.val * (A h).g i.val e' : ℝ) : EReal) := by
  have e : (atEnd m c (Proc.devRef .tc main_v56_1) (ix3 (n0 := 8) h κ e') : EReal) = ((∑ i : Fin 16384, (A h).P i.val κ.val * (A h).g i.val e' : ℝ) : EReal) := by
    rw [atEnd_dv, dv_arr H]
    refine congrArg _ ?_
    show dvOf (A h).head κ e' = _
    unfold dvOf
    rw [Finset.sum_range]
    rfl
  refine Eq.trans ?_ e
  generalize atEnd m c = V
  after_results
  pointwise

theorem dq_end (i : Fin 16384) (h : Fin 8) (d : Fin 192) :
    (StableHlo.after hostOps1 (atEnd m c) (Proc.devRef .tc main_v61) (ix4 (n0 := 1) 0 i h d) : EReal) = ((∑ κ : Fin 16384, (A h).dS i.val κ.val * (A h).c * (A h).k κ.val d : ℝ) : EReal) := by
  have e : (atEnd m c (Proc.devRef .tc main_v56_2) (ix3 (n0 := 8) h i ⟨d.val, by omega⟩) : EReal) = ((∑ κ : Fin 16384, (A h).k κ.val d * (A h).dS i.val κ.val : ℝ) : EReal) := by
    rw [atEnd_dq, dq_arr H]
    refine congrArg _ ?_
    show dqAll (A h).head i _ = _
    unfold dqAll
    simp only [Model.head_dS]
    rw [Finset.sum_range]
    refine Finset.sum_congr rfl fun κ _ => ?_
    show (A h).kk κ.val ⟨d.val, _⟩ * (A h).dS i.val κ.val = _
    rw [Model.kk, dif_pos d.isLt]
  have l (z : EReal) : (atEnd m c (Proc.devRef .tc main_v56_2) (ix3 (n0 := 8) h i ⟨d.val, by omega⟩) : EReal) = z →
      (StableHlo.after hostOps1 (atEnd m c) (Proc.devRef .tc main_v61) (ix4 (n0 := 1) 0 i h d) : EReal) = z * Ideal.ofBits .f32 0x3D93CD3A#32 := by
    generalize atEnd m c = V
    rintro rfl
    after_results
    pointwise
  rw [l _ e, H.c h, ← EReal.coe_mul]
  refine congrArg _ ?_
  rw [Finset.sum_mul]
  exact Finset.sum_congr rfl fun κ _ => by ring

end Cert.Proof.Attn

end
-- ==== Proof.AttnRef.lean ====
module

public import proofs.«01_k».proof.Proof.Gen.AttnGradRefIdeal.Run
public import proofs.«01_k».proof.Proof.Gen.AttnGradRefIdeal.Read
public import proofs.«01_k».proof.Proof.Gen.Pre_attn_finite
public import proofs.«01_k».proof.Proof.AttnModel
public import Idealize.ShloMosaic.Lib.Pipeline.ValueKit
public import Idealize.ShloMosaic.Lib.Pointwise
public import Idealize.ShloMosaic.Lib.WordCmp

/-!
The three gradients of the reference of the attention, entry by entry, in real numbers.
-/

@[expose] public section

set_option maxRecDepth 16384

noncomputable section

namespace Cert.AttnGradRefIdeal.Val

open Idealize.ShloMosaic Idealize.ShloMosaic.TcCoe Idealize.SL.Sem
open Cert.AttnGradRefIdeal Cert.AttnGradRefIdeal.Gen Cert.AttnGradRefIdeal.Read Cert.Proof.Attn

variable {A : Fin 8 → Model} {x0 x1 : FVec Ideal S1x16384x8x192 .f32} {x2 x3 : FVec Ideal S1x16384x8x128 .f32} (H : Holds A x0 x1 x2 x3)
include H

theorem score_at (h : Fin 8) (i κ : Fin 16384) : (val_main_v2 (F := Ideal) x0 x1 (ix4 0 h i κ) : EReal) = ((A h).S i.val κ.val : ℝ) := by
  pointwise [val_main_v2, val_main_v1, val_main_v0, val_main_cst]
  rw [H.c h]
  exact (congrArg (· * _) (dot_coe (fun d => H.q i h d) (fun d => H.k κ h d))).trans (EReal.coe_mul _ _).symm
omit H in
theorem mask_at (h : Fin 8) (i κ : Fin 16384) : val_main_v11_1 (F := Ideal) (ix4 0 h i κ) = if κ.val ≤ i.val then 1#1 else 0#1 := by
  pointwise [val_main_v11_1, val_main_v10, val_main_v9, val_main_v8, val_main_v7, val_main_v6, val_main_v5, val_main_v4, val_main_v3]
  exact sle_at κ i
theorem row_at (h : Fin 8) (i κ : Fin 16384) : (val_main_v11_0 (F := Ideal) x0 x1 (ix4 0 h i κ) : EReal) = if κ.val ≤ i.val then (((A h).S i.val κ.val : ℝ) : EReal) else ⊥ := by
  rw [val_main_v11_0_apply, mask_at, score_at H]
  split_ifs
  · rfl
  · exact neg_inf
theorem max_at (h : Fin 8) (i : Fin 16384) : ∃ M : ℝ, (val_main_v12 (F := Ideal) x0 x1 (ix3 0 h i) : EReal) = M := by
  refine reduce_max_row reducesTo_S1x8x16384x16384_S1x8x16384_d3 (by decide) h_S_ (val_main_v11_0 (F := Ideal) x0 x1) _ (ix3 0 h i) (fun κ => κ.val ≤ i.val) (fun κ => (A h).S i.val κ.val) i le_rfl neg_inf fun κ => ?_
  refine Eq.trans (congrArg _ ?_) (row_at H h i κ)
  funext a; fin_cases a <;> rfl
omit H in
theorem shift_at (h : Fin 8) (i κ : Fin 16384) : (val_main_v30 (F := Ideal) x0 x1 (ix4 0 h i κ) : EReal) = val_main_v12 (F := Ideal) x0 x1 (ix3 0 h i) := by
  pointwise [val_main_v30, val_main_v29]
  have e : (val_main_v18 (F := Ideal) (ix3 0 h i) : EReal) = ⊥ := (val_main_v18_apply _).trans neg_inf
  rw [val_main_v19_apply, e]
  generalize val_main_v12 (F := Ideal) x0 x1 (ix3 0 h i) = y
  exact max_eq_right (bot_le (a := (y : EReal)))

omit H in
/-- A sum over two axes of length one is the entry itself. -/
theorem reduce_ones (v : FVec Ideal S1x8x16384x1 .f32) (h : Fin 8) (i : Fin 16384) : Ideal.hostReduceAdd reducesTo_S1x8x16384x1_S8x16384_d0_3 v 0 (ix2 h i) = v (ix4 0 h i 0) := by
  have hd (y : S1x8x16384x1.Idx) : reducesTo_S1x8x16384x1_S8x16384_d0_3.drop y = ix2 (y 1) (y 2) := by
    funext b
    match b with
    | ⟨0, _⟩ => rfl
    | ⟨1, _⟩ => rfl
  show (0 : EReal) + _ = _
  rw [zero_add, Finset.sum_eq_single_of_mem (ix4 0 h i 0) (Finset.mem_filter.mpr ⟨Finset.mem_univ _, hd _⟩)]
  intro y hy hn
  refine absurd ?_ hn
  have e := (hd y).symm.trans (Finset.mem_filter.mp hy).2
  funext a
  match a with
  | ⟨0, _⟩ => exact Subsingleton.elim (α := Fin 1) _ _
  | ⟨1, _⟩ => exact congrFun e 0
  | ⟨2, _⟩ => exact congrFun e 1
  | ⟨3, _⟩ => exact Subsingleton.elim (α := Fin 1) _ _

theorem grad_at (h : Fin 8) (i κ : Fin 16384) : (val_main_v43 (F := Ideal) x2 x3 (ix4 0 h i κ) : EReal) = ((A h).G i.val κ.val : ℝ) := by
  pointwise [val_main_v43, val_main_v42]
  exact dot_coe (fun e => H.g i h e) (fun e => H.v κ h e)

section Row
variable {h : Fin 8} {i : Fin 16384} {M : ℝ} (hM : (val_main_v12 (F := Ideal) x0 x1 (ix3 0 h i) : EReal) = M)
include hM

theorem exp_at (κ : Fin 16384) : (val_main_v32 (F := Ideal) x0 x1 (ix4 0 h i κ) : EReal) = ((A h).E i.val κ.val * Real.exp (-M) : ℝ) := by
  rw [val_main_v32_apply, val_main_v31_apply, row_at H, shift_at, hM]
  exact exp_row _ _

theorem sum_at : (val_main_v34 (F := Ideal) x0 x1 (ix4 0 h i 0) : EReal) = ((A h).Z i.val * Real.exp (-M) : ℝ) := by
  pointwise [val_main_v34, val_main_v33, val_main_cst_9]
  rw [Fin.sum_fin_congr (exp_at H hM), ← coe_sum, Model.Z_scaled (Real.exp_pos _)]

omit H hM in
theorem l_ne (h : Fin 8) (i : ℕ) (M : ℝ) : (A h).Z i * Real.exp (-M) ≠ 0 := (mul_pos ((A h).Z_pos i) (Real.exp_pos _)).ne'

theorem weight_at (κ : Fin 16384) : (val_main_v36 (F := Ideal) x0 x1 (ix4 0 h i κ) : EReal) = ((A h).P i.val κ.val : ℝ) := by
  have e : (val_main_v35 (F := Ideal) x0 x1 (ix4 0 h i κ) : EReal) = val_main_v34 (F := Ideal) x0 x1 (ix4 0 h i 0) := by pointwise [val_main_v35]
  rw [val_main_v36_apply, exp_at H hM, e, sum_at H hM]
  exact (div_coe_coe (l_ne h _ M) _).trans (congrArg _ (Model.P_scaled (Real.exp_pos _) _))

theorem mean_at (κ : Fin 16384) : (val_main_v56 (F := Ideal) x0 x1 x2 x3 (ix4 0 h i κ) : EReal)
    = ((-∑ κ' : Fin 16384, (A h).G i.val κ'.val * (1 / ((A h).Z i.val * Real.exp (-M) * ((A h).Z i.val * Real.exp (-M)))) * ((A h).E i.val κ'.val * Real.exp (-M)) : ℝ) : EReal) := by
  have e39 : (val_main_v39 (F := Ideal) x0 x1 (ix4 0 h i 0) : EReal) = ((1 / ((A h).Z i.val * Real.exp (-M) * ((A h).Z i.val * Real.exp (-M))) : ℝ) : EReal) := by
    rw [val_main_v39_apply, val_main_v37_apply, sum_at H hM]
    refine (congrArg₂ Ideal.div Ideal.ofBits_one_f32 (EReal.coe_mul _ _).symm).trans ?_
    exact div_coe_coe (mul_ne_zero (l_ne h _ M) (l_ne h _ M)) 1
  have e46 (κ' : Fin 16384) : (val_main_v46 (F := Ideal) x0 x1 (ix4 0 h i κ') : EReal) = val_main_v39 (F := Ideal) x0 x1 (ix4 0 h i 0) := by pointwise [val_main_v46]
  have e48 (κ' : Fin 16384) : (val_main_v48 (F := Ideal) x0 x1 x2 x3 (ix4 0 h i κ') : EReal)
      = ((((A h).G i.val κ'.val * (1 / ((A h).Z i.val * Real.exp (-M) * ((A h).Z i.val * Real.exp (-M))))) * ((A h).E i.val κ'.val * Real.exp (-M)) : ℝ) : EReal) := by
    rw [val_main_v48_apply, val_main_v47_apply, e46, e39, exp_at H hM, grad_at H]
    exact (congrArg (· * _) (EReal.coe_mul _ _).symm).trans (EReal.coe_mul _ _).symm
  have e51 : (val_main_v51 (F := Ideal) x0 x1 x2 x3 (ix4 0 h i 0) : EReal) = -val_main_v49 (F := Ideal) x0 x1 x2 x3 (ix3 0 h i) := by
    pointwise [val_main_v51, val_main_v50]
  have e56 : (val_main_v56 (F := Ideal) x0 x1 x2 x3 (ix4 0 h i κ) : EReal) = val_main_v54 (F := Ideal) x0 x1 x2 x3 (ix2 h i) := by
    pointwise [val_main_v56, val_main_v55]
  have e54 : (val_main_v54 (F := Ideal) x0 x1 x2 x3 (ix2 h i) : EReal) = val_main_v51 (F := Ideal) x0 x1 x2 x3 (ix4 0 h i 0) := by
    refine Eq.trans ?_ (reduce_ones _ h i)
    exact congrArg (fun z => Ideal.hostReduceAdd reducesTo_S1x8x16384x1_S8x16384_d0_3 (val_main_v51 (F := Ideal) x0 x1 x2 x3) z (ix2 h i)) Ideal.ofBits_zero_f32
  have e49 : (val_main_v49 (F := Ideal) x0 x1 x2 x3 (ix3 0 h i) : EReal) = ∑ κ' : Fin 16384, val_main_v48 (F := Ideal) x0 x1 x2 x3 (ix4 0 h i κ') := by
    pointwise [val_main_v49, val_main_cst_11]
  rw [e56, e54, e51, e49, Fin.sum_fin_congr e48, ← coe_sum, EReal.coe_neg]

theorem ds_at (κ : Fin 16384) : (val_main_v61 (F := Ideal) x0 x1 x2 x3 (ix4 0 h i κ) : EReal) = ((A h).dS i.val κ.val * (A h).c : ℝ) := by
  have e53 : (val_main_v53 (F := Ideal) x0 x1 x2 x3 (ix4 0 h i κ) : EReal) = ((A h).G i.val κ.val / ((A h).Z i.val * Real.exp (-M)) : ℝ) := by
    have e : (val_main_v52 (F := Ideal) x0 x1 (ix4 0 h i κ) : EReal) = val_main_v34 (F := Ideal) x0 x1 (ix4 0 h i 0) := by pointwise [val_main_v52]
    rw [val_main_v53_apply, grad_at H, e, sum_at H hM]
    exact div_coe_coe (l_ne h _ M) _
  have e58 : (val_main_v58 (F := Ideal) x0 x1 x2 x3 (ix4 0 h i κ) : EReal) = ((A h).dS i.val κ.val : ℝ) := by
    rw [val_main_v58_apply, val_main_v57_apply, e53, mean_at H hM, exp_at H hM, ← Model.dS_scaled (Real.exp_pos (-M))]
    exact (congrArg (· * _) (EReal.coe_add _ _).symm).trans (EReal.coe_mul _ _).symm
  have e59 : (val_main_v59 (F := Ideal) x0 x1 x2 x3 (ix4 0 h i κ) : EReal) = ((A h).dS i.val κ.val : ℝ) := by
    rw [val_main_v59_apply, mask_at, e58]
    split_ifs with hk
    · rfl
    · refine Ideal.ofBits_zero_f32.trans ?_
      rw [Model.dS, Model.P_masked _ _ _ (by omega), zero_mul]; rfl
  have e60 : (val_main_v60 (F := Ideal) (ix4 0 h i κ) : EReal) = ((A h).c : ℝ) := by
    pointwise [val_main_v60, val_main_cst_13]
    exact H.c h
  rw [val_main_v61_apply, e59, e60, EReal.coe_mul]
  rfl

end Row

/-- The gradient of the values. -/
theorem dv_at (h : Fin 8) (κ : Fin 16384) (e : Fin 128) : (val_main_v45 (F := Ideal) x0 x1 x3 (ix4 0 κ h e) : EReal) = ((∑ i : Fin 16384, (A h).P i.val κ.val * (A h).g i.val e : ℝ) : EReal) := by
  pointwise [val_main_v45, val_main_v44, val_main_v42]
  rw [dot_coe (fun i => H.g i h e) fun i => (max_at H h i).elim fun M hM => weight_at H hM κ]
  exact congrArg _ (Finset.sum_congr rfl fun i _ => mul_comm _ _)

/-- The gradient of the keys. -/
theorem dk_at (h : Fin 8) (κ : Fin 16384) (d : Fin 192) : (val_main_v63 (F := Ideal) x0 x1 x2 x3 (ix4 0 κ h d) : EReal) = ((∑ i : Fin 16384, (A h).dS i.val κ.val * (A h).c * (A h).q i.val d : ℝ) : EReal) := by
  pointwise [val_main_v63, val_main_v62]
  exact dot_coe (fun i => (max_at H h i).elim fun M hM => ds_at H hM κ) (fun i => H.q i h d)

/-- The gradient of the queries. -/
theorem dq_at (h : Fin 8) (i : Fin 16384) (d : Fin 192) : (val_main_v65 (F := Ideal) x0 x1 x2 x3 (ix4 0 i h d) : EReal) = ((∑ κ : Fin 16384, (A h).dS i.val κ.val * (A h).c * (A h).k κ.val d : ℝ) : EReal) := by
  obtain ⟨M, hM⟩ := max_at H h i
  pointwise [val_main_v65, val_main_v64]
  exact dot_coe (fun κ => ds_at H hM κ) (fun κ => H.k κ h d)

end Cert.AttnGradRefIdeal.Val
end
-- ==== Proof.RowModel.lean ====
module

public import proofs.«01_k».proof.Proof.AttnModel

/-!
Rows of real numbers: their mean, the layer norm and the RMS norm with their gradients, the logistic function; and the rules by
which the same expressions over extended reals with real entries are real.
-/

@[expose] public section

noncomputable section

namespace Cert.Proof.Row

open Idealize.ShloMosaic Cert.Proof.Attn

variable {n : ℕ}

def mean (f : Fin n → ℝ) : ℝ := (∑ i, f i) / n

/-- A row less its mean. -/
def ctr (f : Fin n → ℝ) (i : Fin n) : ℝ := f i - mean f

/-- One over the root of the mean square of a row, with `ε` added under the root. -/
def inv (ε : ℝ) (f : Fin n → ℝ) : ℝ := (√(mean (fun i => f i * f i) + ε))⁻¹

theorem under_pos {ε : ℝ} (h : 0 < ε) (f : Fin n → ℝ) : 0 < mean (fun i => f i * f i) + ε :=
  add_pos_of_nonneg_of_pos (div_nonneg (Finset.sum_nonneg fun i _ => mul_self_nonneg _) (Nat.cast_nonneg _)) h

theorem inv_sq {ε : ℝ} (h : 0 < ε) (f : Fin n → ℝ) : inv ε f / (mean (fun i => f i * f i) + ε) = inv ε f * (inv ε f * inv ε f) := by
  have hp := under_pos h f
  rw [div_eq_mul_inv, inv, ← mul_inv (√_) (√_), Real.mul_self_sqrt hp.le]

/-- The gradient of a row's layer norm without its weight, in the kernel's form: `G` is the gradient of the normalised row. -/
def lnGrad (ε : ℝ) (f G : Fin n → ℝ) (i : Fin n) : ℝ :=
  inv ε (ctr f) * (G i - mean G - ctr f i * inv ε (ctr f) * mean fun k => G k * (ctr f k * inv ε (ctr f)))

/-- The gradient of a row's RMS norm without its weight. -/
def rmsGrad (ε : ℝ) (f G : Fin n → ℝ) (i : Fin n) : ℝ :=
  inv ε f * (G i - f i * inv ε f * mean fun k => G k * (f k * inv ε f))

theorem sum_ctr (hn : (n : ℝ) ≠ 0) (f : Fin n → ℝ) : ∑ i, ctr f i = 0 := by
  simp only [ctr, Finset.sum_sub_distrib, Finset.sum_const, Finset.card_univ, Fintype.card_fin, nsmul_eq_mul, mean]
  field_simp
  ring

/-- The layer norm's gradient in the reference's form: through the factor, through the mean square, and through the mean. -/
theorem lnGrad_eq {ε : ℝ} (h : 0 < ε) (hn : (n : ℝ) ≠ 0) (f G : Fin n → ℝ) (i : Fin n) :
    lnGrad ε f G i = G i * inv ε (ctr f) + (∑ k, ctr f k * G k) * (-(1 / 2) * (inv ε (ctr f) / (mean (fun k => ctr f k * ctr f k) + ε))) / n * (2 * ctr f i)
      + (∑ k, -(G k * inv ε (ctr f)) + ∑ k, -((∑ k, ctr f k * G k) * (-(1 / 2) * (inv ε (ctr f) / (mean (fun k => ctr f k * ctr f k) + ε))) / n * (2 * ctr f k))) / n := by
  rw [inv_sq h]
  have h0 (c : ℝ) : ∑ k, -(c * (2 * ctr f k)) = 0 := by
    rw [Finset.sum_neg_distrib, ← Finset.mul_sum, ← Finset.mul_sum, sum_ctr hn, mul_zero, mul_zero, neg_zero]
  have h1 : ∑ k, G k * (ctr f k * inv ε (ctr f)) = (∑ k, ctr f k * G k) * inv ε (ctr f) := by
    rw [Finset.sum_mul]; exact Finset.sum_congr rfl fun k _ => by ring
  rw [h0, Finset.sum_neg_distrib, ← Finset.sum_mul]
  simp only [lnGrad, mean, h1]
  field_simp
  ring

/-- The RMS norm's gradient in the reference's form: the mean square's share comes twice, once for each factor of the square. -/
theorem rmsGrad_eq {ε : ℝ} (h : 0 < ε) (hn : (n : ℝ) ≠ 0) (f G : Fin n → ℝ) (i : Fin n) :
    rmsGrad ε f G i = G i * inv ε f + 2 * ((∑ k, f k * G k) * (-(1 / 2) * (inv ε f / (mean (fun k => f k * f k) + ε))) / n * f i) := by
  rw [inv_sq h]
  have h1 : ∑ k, G k * (f k * inv ε f) = (∑ k, f k * G k) * inv ε f := by
    rw [Finset.sum_mul]; exact Finset.sum_congr rfl fun k _ => by ring
  simp only [rmsGrad, mean, h1]
  field_simp
  ring

/-- The logistic function. -/
def sgm (x : ℝ) : ℝ := 1 / (1 + Real.exp (-x))

/-! ## Real values among the extended reals -/

theorem rsqrt_coe {x : ℝ} (h : 0 < x) : Ideal.rsqrt (x : EReal) = (((√x)⁻¹ : ℝ) : EReal) := by
  show (if x < 0 then ⊥ else if x = 0 then ⊤ else (((√x)⁻¹ : ℝ) : EReal)) = _
  rw [if_neg h.not_gt, if_neg h.ne']

theorem sgm_coe (x : ℝ) : Ideal.div (((1 : ℝ)) : EReal) ((1 + Real.exp (-x) : ℝ) : EReal) = (sgm x : ℝ) :=
  div_coe_coe (by positivity) 1

/-- A host sum over axes of length one is the entry itself. -/
theorem reduce_unit {s : Shape} {axes : List (Fin s.rank)} {t : Shape} (h : s.ReducesTo axes t) (x : s.Idx → EReal) (j : t.Idx) (i : s.Idx)
    (hd : h.drop i = j) (hu : ∀ y, h.drop y = j → y = i) : Ideal.hostReduceAdd h x 0 j = x i := by
  show (0 : EReal) + _ = _
  rw [zero_add, Finset.sum_eq_single_of_mem i (Finset.mem_filter.mpr ⟨Finset.mem_univ _, hd⟩)]
  exact fun y hy hn => absurd (hu y (Finset.mem_filter.mp hy).2) hn

theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem ofBits_inv2048 : Ideal.ofBits .f32 0x3A000000#32 = ((1 / 2048 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
/-- The `ε` of the layer norm, a positive real number. -/
theorem ofBits_eps : ∃ ε : ℝ, 0 < ε ∧ Ideal.ofBits .f32 0x3727C5AC#32 = (ε : EReal) :=
  ⟨10995116 / 2 ^ 40, by norm_num, by simp [Ideal.ofBits, Ideal.ieee, -EReal.coe_mul]; norm_num⟩
/-- The factor of the residual, a real number. -/
theorem ofBits_alpha : ∃ α : ℝ, Ideal.ofBits .f32 0x3F9837F0#32 = (α : EReal) :=
  ⟨9975792 / 2 ^ 23, by simp [Ideal.ofBits, Ideal.ieee, -EReal.coe_mul]; norm_num⟩

/-! ## Finite arguments are real -/

theorem pos_inf : Ideal.ofBits .f32 0x7F800000#32 = ⊤ := by simp [Ideal.ofBits, Ideal.ieee]

theorem real_of_lt (x : EReal) (h : Ideal.cmp .olt (max x (-x)) (Ideal.ofBits .f32 0x7F800000#32) = 1#1) : x = (x.toReal : EReal) := by
  have h' : max x (-x) < ⊤ := by
    rw [pos_inf] at h
    by_contra hn
    rw [Ideal.cmp, decide_eq_false hn] at h
    exact absurd h (by decide)
  have hx := max_lt_iff.1 h'
  refine (EReal.coe_toReal hx.1.ne fun e => ?_).symm
  rw [e] at hx
  exact absurd hx.2 (by simp)

/-- A scalar has one index. -/
instance : Subsingleton (⟨0, ![]⟩ : Shape).Idx := ⟨fun _ _ => funext fun a => a.elim0⟩

end Cert.Proof.Row

end
-- ==== Proof.AttnEq.lean ====
module

public import proofs.«01_k».proof.Defs
public import proofs.«01_k».proof.Proof.AttnEnd
public import proofs.«01_k».proof.Proof.AttnRef
public import proofs.«01_k».proof.Proof.RowModel
public import Idealize.ShloMosaic.Lib.Claim
public import Idealize.ShloMosaic.Lib.ReduceAll

/-!
The attention gradient's kernel and its reference end with equal gradients where the arguments are finite.
-/

@[expose] public section

set_option maxRecDepth 16384

noncomputable section

namespace Cert.Proof.Attn

open Idealize.ShloMosaic Idealize.ShloMosaic.TcCoe Idealize.SL.Sem
open Cert.Proof.Row (real_of_lt)

/-! ## Finite arguments are real -/

open Cert.Pre_attn_finite in
/-- What the precondition says of every entry. -/
theorem entries [Facts] (x0 x1 : FVec Ideal S1x16384x8x192 .f32) (x2 x3 : FVec Ideal S1x16384x8x128 .f32) (h : fn (F := Ideal) x0 x1 x2 x3 = fun _ => 1#1) :
    (∀ i, (x0 i : EReal) = ((x0 i : EReal).toReal : EReal)) ∧ (∀ i, (x1 i : EReal) = ((x1 i : EReal).toReal : EReal))
      ∧ (∀ i, (x2 i : EReal) = ((x2 i : EReal).toReal : EReal)) ∧ ∀ i, (x3 i : EReal) = ((x3 i : EReal).toReal : EReal) := by
  have h := congrFun h (fun a => a.elim0)
  unfold fn fn_part1 at h
  obtain ⟨h, h3⟩ := IntOp.andi_eq_one.1 h
  obtain ⟨h, h2⟩ := IntOp.andi_eq_one.1 h
  obtain ⟨h0, h1⟩ := IntOp.andi_eq_one.1 h
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i)⟩

theorem holds_of [Cert.Pre_attn_finite.Facts] (x0 x1 : Vec Ideal ⟨4, ![1, 16384, 8, 192]⟩ .f32) (x2 x3 : Vec Ideal ⟨4, ![1, 16384, 8, 128]⟩ .f32)
    (h : Cert.Pre_attn_finite.fn (F := Ideal) x0 x1 x2 x3 = fun _ => 1#1) : Holds (headsOf x0 x1 x2 x3) x0 x1 x2 x3 := by
  obtain ⟨h0, h1, h2, h3⟩ := entries x0 x1 x2 x3 h
  refine ⟨fun t h d => ?_, fun t h d => ?_, fun t h e => ?_, fun t h e => ?_, fun h => scale_real⟩ <;> simp only [headsOf, dif_pos t.isLt]
  exacts [h0 _, h1 _, h2 _, h3 _]

/-! ## The claim -/

theorem algebraic_attn : Cert.algebraic_AttnGradIdeal_AttnGradRefIdeal_pre_attn_finite (hAttnGradIdeal := Cert.AttnGradIdeal.Gen.facts)
    (hAttnGradRefIdeal := Cert.AttnGradRefIdeal.Gen.facts) (hPre_attn_finite := Cert.Pre_attn_finite.Gen.facts) := by
  intro m g m' g' hpre hagree
  refine ⟨fun c => StableHlo.after Cert.AttnGradIdeal.Gen.hostOps1 (atEnd m c) (Proc.devRef .tc Cert.AttnGradIdeal.main_v61),
    fun c => StableHlo.after Cert.AttnGradIdeal.Gen.hostOps1 (atEnd m c) (Proc.devRef .tc Cert.AttnGradIdeal.main_v64),
    fun c => StableHlo.after Cert.AttnGradIdeal.Gen.hostOps1 (atEnd m c) (Proc.devRef .tc Cert.AttnGradIdeal.main_v66), ?_, ?_⟩
  · refine θ_run_mono (θ_run_and (run_main m g) (frame_run m g)) fun r hr c => ?_
    exact ⟨(hr.1 c).2 Cert.AttnGradIdeal.main_v61 (Pipeline.mem_restRefs_of _ (by decide) (by decide)),
      (hr.1 c).2 Cert.AttnGradIdeal.main_v64 (Pipeline.mem_restRefs_of _ (by decide) (by decide)),
      (hr.1 c).2 Cert.AttnGradIdeal.main_v66 (Pipeline.mem_restRefs_of _ (by decide) (by decide)), hr.2.1 c⟩
  · refine θ_run_mono (Cert.AttnGradRefIdeal.Value.run m' g') fun r hr c => ?_
    obtain ⟨h0, h1, h2, hargs⟩ := hr c
    obtain ⟨a0, a1, a2, a3⟩ := hagree c
    obtain ⟨A, H⟩ : ∃ A, Holds A (x0 m c) (x1 m c) (x2 m c) (x3 m c) := ⟨_, holds_of _ _ _ _ (hpre c)⟩
    have H' : Holds A _ _ _ _ := H
    unfold x0 x1 x2 x3 at H'
    rw [← a0, ← a1, ← a2, ← a3] at H'
    refine ⟨h0.trans ?_, h1.trans ?_, h2.trans ?_, hargs⟩
    · rw [Cert.AttnGradRefIdeal.Read.val_main_v65_eq]
      funext j
      idx_vars j
      obtain rfl : j0 = 0 := Subsingleton.elim (α := Fin 1) _ _
      exact (Cert.AttnGradRefIdeal.Val.dq_at H' j2 j1 j3).trans (dq_end H j1 j2 j3).symm
    · rw [Cert.AttnGradRefIdeal.Read.val_main_v63_eq]
      funext j
      idx_vars j
      obtain rfl : j0 = 0 := Subsingleton.elim (α := Fin 1) _ _
      exact (Cert.AttnGradRefIdeal.Val.dk_at H' j2 j1 j3).trans (dk_end H j1 j2 j3).symm
    · rw [Cert.AttnGradRefIdeal.Read.val_main_v45_eq]
      funext j
      idx_vars j
      obtain rfl : j0 = 0 := Subsingleton.elim (α := Fin 1) _ _
      exact (Cert.AttnGradRefIdeal.Val.dv_at H' j2 j1 j3).trans (dv_end H j1 j2 j3).symm

end Cert.Proof.Attn

end
-- ==== Proof.OutModel.lean ====
module

public import proofs.«01_k».proof.Proof.RowModel
public import Idealize.ShloMosaic.Lib.Pipeline.ValueKit

/-!
The output projection with its attention gate, residual, layer norm and squared error, and its gradients, in real numbers. Rows are
tokens, columns are features.
-/

@[expose] public section

noncomputable section

namespace Cert.Proof.Out

open Idealize.ShloMosaic Cert.Proof.Attn Cert.Proof.Row

structure Model where
  o : Fin 16384 → Fin 1024 → ℝ
  z : Fin 16384 → Fin 1024 → ℝ
  s : Fin 16384 → Fin 1024 → ℝ
  x : Fin 16384 → Fin 1024 → ℝ
  t : Fin 16384 → Fin 1024 → ℝ
  gate : Fin 1024 → ℝ
  wa : Fin 1024 → Fin 1024 → ℝ
  ws : Fin 1024 → Fin 1024 → ℝ
  g : Fin 1024 → ℝ
  b : Fin 1024 → ℝ
  α : ℝ
  ε : ℝ

namespace Model
variable (M : Model)

/-- The gated attention output. -/
def a (R : Fin 16384) (i : Fin 1024) : ℝ := M.o R i * (M.z R i * sgm (M.z R i))
def mixed (R : Fin 16384) (j : Fin 1024) : ℝ := ∑ k, M.a R k * M.wa k j + ∑ k, M.s R k * M.ws k j
def h (R : Fin 16384) (j : Fin 1024) : ℝ := M.α * M.x R j + M.gate j * M.mixed R j
def xh (R : Fin 16384) (j : Fin 1024) : ℝ := ctr (M.h R) j * inv M.ε (ctr (M.h R))
def err (R : Fin 16384) (j : Fin 1024) : ℝ := M.xh R j * M.g j + M.b j - M.t R j
def dy (R : Fin 16384) (j : Fin 1024) : ℝ := M.err R j * (1 / 1024)
def dh (R : Fin 16384) (j : Fin 1024) : ℝ := lnGrad M.ε (M.h R) (fun j => M.dy R j * M.g j) j
def dm (R : Fin 16384) (j : Fin 1024) : ℝ := M.gate j * M.dh R j
def da (R : Fin 16384) (i : Fin 1024) : ℝ := ∑ j, M.dm R j * M.wa i j
def ds (R : Fin 16384) (i : Fin 1024) : ℝ := ∑ j, M.dm R j * M.ws i j
/-- The two halves of the projection's input, one after the other. -/
def cat (R : Fin 16384) (i : Fin 2048) : ℝ := if h : i.val < 1024 then M.a R ⟨i.val, h⟩ else M.s R ⟨i.val - 1024, by omega⟩
theorem cat_lo (R : Fin 16384) (i : Fin 1024) (h : i.val < 2048) : M.cat R ⟨i.val, h⟩ = M.a R i := dif_pos i.isLt
theorem cat_hi (R : Fin 16384) (i : Fin 1024) (h : 1024 + i.val < 2048) : M.cat R ⟨1024 + i.val, h⟩ = M.s R i :=
  (dif_neg (by simp)).trans (congrArg (M.s R) (Fin.ext (Nat.add_sub_cancel_left 1024 i.val)))
/-- The two halves of the weight. -/
def w (k : Fin 2048) (j : Fin 1024) : ℝ := if h : k.val < 1024 then M.wa ⟨k.val, h⟩ j else M.ws ⟨k.val - 1024, by omega⟩ j
theorem w_lo (k j : Fin 1024) (h : k.val < 2048) : M.w ⟨k.val, h⟩ j = M.wa k j := dif_pos k.isLt
theorem w_hi (k j : Fin 1024) (h : 1024 + k.val < 2048) : M.w ⟨1024 + k.val, h⟩ j = M.ws k j :=
  (dif_neg (by simp)).trans (congrArg (M.ws · j) (Fin.ext (Nat.add_sub_cancel_left 1024 k.val)))
theorem sum_cat (R : Fin 16384) (j : Fin 1024) : ∑ k, M.cat R k * M.w k j = M.mixed R j := by
  rw [Fin.sum_univ_two_halves 1024 1024 rfl]
  simp only [cat_lo, cat_hi, w_lo, w_hi]; rfl
/-- What the point-wise sums of the third row array are made of. -/
def row : Fin 4 → Fin 16384 → Fin 1024 → ℝ :=
  ![fun R i => M.err R i * M.err R i, fun R i => M.dy R i * M.xh R i, M.dy, fun R i => M.dh R i * M.mixed R i]
def dov (R : Fin 16384) (i : Fin 1024) : ℝ := M.da R i * (M.z R i * sgm (M.z R i))
def dza (R : Fin 16384) (i : Fin 1024) : ℝ := M.da R i * M.o R i * (sgm (M.z R i) * (1 + M.z R i * (1 - sgm (M.z R i))))
def delta (R : Fin 16384) (h : Fin 8) : ℝ := ∑ e : Fin 128, M.dov R ⟨h.val * 128 + e.val, by omega⟩ * M.o R ⟨h.val * 128 + e.val, by omega⟩
end Model

/-- The nine arguments hold the model's entries. -/
structure Holds (M : Model) (x0 x1 x2 x3 x4 : Vec Ideal ⟨3, ![1, 16384, 1024]⟩ .f32) (x5 : Vec Ideal ⟨2, ![1, 3072]⟩ .f32) (x6 : Vec Ideal ⟨2, ![2048, 1024]⟩ .f32)
    (x7 x8 : Vec Ideal ⟨2, ![1, 1024]⟩ .f32) : Prop where
  o : ∀ R i, (x0 (ix3 0 R i) : EReal) = (M.o R i : ℝ)
  z : ∀ R i, (x1 (ix3 0 R i) : EReal) = (M.z R i : ℝ)
  s : ∀ R i, (x2 (ix3 0 R i) : EReal) = (M.s R i : ℝ)
  x : ∀ R i, (x3 (ix3 0 R i) : EReal) = (M.x R i : ℝ)
  t : ∀ R i, (x4 (ix3 0 R i) : EReal) = (M.t R i : ℝ)
  gate : ∀ i : Fin 1024, (x5 (ix2 0 ⟨2048 + i.val, by omega⟩) : EReal) = (M.gate i : ℝ)
  wa : ∀ k j : Fin 1024, (x6 (ix2 ⟨k.val, by omega⟩ j) : EReal) = (M.wa k j : ℝ)
  ws : ∀ k j : Fin 1024, (x6 (ix2 ⟨1024 + k.val, by omega⟩ j) : EReal) = (M.ws k j : ℝ)
  g : ∀ i, (x7 (ix2 0 i) : EReal) = (M.g i : ℝ)
  b : ∀ i, (x8 (ix2 0 i) : EReal) = (M.b i : ℝ)
  α : Ideal.ofBits .f32 0x3F9837F0#32 = (M.α : EReal)
  ε : Ideal.ofBits .f32 0x3727C5AC#32 = (M.ε : EReal)
  ε_pos : 0 < M.ε

end Cert.Proof.Out

end
-- ==== Proof.OutPay.lean ====
module

public import proofs.«01_k».proof.Proof.Gen.OutGradIdeal.Skeleton
public import proofs.«01_k».proof.Proof.OutModel
public import Idealize.ShloMosaic.Lib.Pipeline.ValueKit
public import Idealize.ShloMosaic.Lib.Pointwise

/-!
What one grid point of the output projection's gradient kernel computes from blocks that hold 256 rows of the model.
-/

@[expose] public section

set_option maxRecDepth 16384

noncomputable section

namespace Cert.OutGradIdeal.Val

open Idealize.ShloMosaic Idealize.ShloMosaic.TcCoe Idealize.SL.Sem
open Cert.OutGradIdeal Cert.OutGradIdeal.Gen Cert.Proof.Row
open Cert.Proof.Attn (coe_sum div_coe_coe)
open Cert.Proof.Out (Model)

/-- The blocks of a point hold the rows `τ r` of the model. -/
structure Blocks (M : Model) (τ : Fin 256 → Fin 16384) (v3 : Vec Ideal S1x1024 .f32) (v5 v7 : Vec Ideal S256x1024 .f32) (v19 : Vec Ideal S256x1024 .bf16)
    (v21 v24 : Vec Ideal S1024x1024 .bf16) (v28 : Vec Ideal S256x1024 .f32) (v51 v54 : Vec Ideal S1x1024 .f32) (v57 : Vec Ideal S256x1024 .f32) : Prop where
  gate : ∀ i, (v3 (ix2 0 i) : EReal) = (M.gate i : ℝ)
  o : ∀ r i, (v5 (ix2 r i) : EReal) = (M.o (τ r) i : ℝ)
  z : ∀ r i, (v7 (ix2 r i) : EReal) = (M.z (τ r) i : ℝ)
  s : ∀ r i, (v19 (ix2 r i) : EReal) = (M.s (τ r) i : ℝ)
  wa : ∀ k j, (v21 (ix2 k j) : EReal) = (M.wa k j : ℝ)
  ws : ∀ k j, (v24 (ix2 k j) : EReal) = (M.ws k j : ℝ)
  x : ∀ r i, (v28 (ix2 r i) : EReal) = (M.x (τ r) i : ℝ)
  g : ∀ i, (v51 (ix2 0 i) : EReal) = (M.g i : ℝ)
  b : ∀ i, (v54 (ix2 0 i) : EReal) = (M.b i : ℝ)
  t : ∀ r i, (v57 (ix2 r i) : EReal) = (M.t (τ r) i : ℝ)
  α : Ideal.ofBits .f32 0x3F9837F0#32 = (M.α : EReal)
  ε : Ideal.ofBits .f32 0x3727C5AC#32 = (M.ε : EReal)
  ε_pos : 0 < M.ε

variable {M : Model} {τ : Fin 256 → Fin 16384} {v3 : Vec Ideal S1x1024 .f32} {v5 v7 : Vec Ideal S256x1024 .f32} {v19 : Vec Ideal S256x1024 .bf16}
    {v21 v24 : Vec Ideal S1024x1024 .bf16} {v28 : Vec Ideal S256x1024 .f32} {v51 v54 : Vec Ideal S1x1024 .f32} {v57 : Vec Ideal S256x1024 .f32}
    (B : Blocks M τ v3 v5 v7 v19 v21 v24 v28 v51 v54 v57)
include B

theorem sig_pay (r : Fin 256) (i : Fin 1024) : (k0_pay7 v7 (ix2 r i) : EReal) = (sgm (M.z (τ r) i) : ℝ) := by
  pointwise [k0_pay7, k0_pay6]
  simp only [B.z, ← EReal.coe_zero, ← EReal.coe_one, ← EReal.coe_sub, ← EReal.coe_neg, Ideal.exp_coe, ← EReal.coe_add, zero_sub]
  exact sgm_coe _
theorem silu_pay (r : Fin 256) (i : Fin 1024) : (k0_pay8 v7 (ix2 r i) : EReal) = (M.z (τ r) i * sgm (M.z (τ r) i) : ℝ) := by
  pointwise [k0_pay8, k0_pay6]
  rw [sig_pay B, B.z, EReal.coe_mul]
theorem a_pay (r : Fin 256) (i : Fin 1024) : (k0_pay9 v5 v7 (ix2 r i) : EReal) = (M.a (τ r) i : ℝ) := by
  pointwise [k0_pay9, k0_pay5]
  rw [silu_pay B, B.o, ← EReal.coe_mul]; rfl
theorem mixed_pay (r : Fin 256) (j : Fin 1024) : (k0_pay11 v5 v7 v19 v21 v24 (ix2 r j) : EReal) = (M.mixed (τ r) j : ℝ) := by
  pointwise [k0_pay11, k0_pay10]
  simp only [a_pay B, B.s, B.wa, B.ws, ← EReal.coe_mul, ← coe_sum, ← EReal.coe_add]; rfl
theorem h_pay (r : Fin 256) (j : Fin 1024) : (k0_pay12 v3 v5 v7 v19 v21 v24 v28 (ix2 r j) : EReal) = (M.h (τ r) j : ℝ) := by
  pointwise [k0_pay12, k0_pay4]
  simp only [mixed_pay B, B.gate, B.x, B.α, ← EReal.coe_mul, ← EReal.coe_add]; rfl
local notation "H" => k0_pay12 (F := Ideal) v3 v5 v7 v19 v21 v24 v28
theorem ctr_pay (r : Fin 256) (j : Fin 1024) : (k0_pay13 H (ix2 r j) : EReal) = (ctr (M.h (τ r)) j : ℝ) := by
  pointwise [k0_pay13]
  simp only [h_pay B, ofBits_1024, ← coe_sum]
  rw [div_coe_coe (by norm_num), ← EReal.coe_sub]
  simp only [ctr, mean, Nat.cast_ofNat]
theorem inv_pay (r : Fin 256) : (k0_pay14 H (ix2 r 0) : EReal) = (inv M.ε (ctr (M.h (τ r))) : ℝ) := by
  pointwise [k0_pay14]
  simp only [ctr_pay B, ofBits_1024, B.ε, ← EReal.coe_mul, ← coe_sum]
  rw [div_coe_coe (by norm_num), ← EReal.coe_add]
  have e := rsqrt_coe (under_pos B.ε_pos (ctr (M.h (τ r))))
  simp only [mean, Nat.cast_ofNat] at e
  rw [e]
  simp only [Cert.Proof.Row.inv, mean, Nat.cast_ofNat]
theorem xh_pay (r : Fin 256) (j : Fin 1024) : (k0_pay15 H (ix2 r j) : EReal) = (M.xh (τ r) j : ℝ) := by
  pointwise [k0_pay15]
  rw [ctr_pay B, inv_pay B, ← EReal.coe_mul]; rfl
theorem err_pay (r : Fin 256) (j : Fin 1024) : (k0_pay16 H v51 v54 v57 (ix2 r j) : EReal) = (M.err (τ r) j : ℝ) := by
  pointwise [k0_pay16]
  rw [xh_pay B, B.g, B.b, B.t, ← EReal.coe_mul, ← EReal.coe_add, ← EReal.coe_sub]; rfl
theorem dy_pay (r : Fin 256) (j : Fin 1024) : (k0_pay17 H v51 v54 v57 (ix2 r j) : EReal) = (M.dy (τ r) j : ℝ) := by
  pointwise [k0_pay17]
  rw [err_pay B, ofBits_inv1024, ← EReal.coe_mul]; rfl
theorem err2_pay (v : Vec Ideal S1x1024 .f32) (j : Fin 1024) :
    (k0_pay18 H v51 v54 v57 v (ix2 0 j) : EReal) = v (ix2 0 j) + ((∑ r, M.err (τ r) j * M.err (τ r) j : ℝ) : EReal) := by
  pointwise [k0_pay18]
  simp only [err_pay B, ← EReal.coe_mul, ← coe_sum]
theorem dg_pay (v : Vec Ideal S1x1024 .f32) (j : Fin 1024) :
    (k0_pay19 H v51 v54 v57 v (ix2 0 j) : EReal) = v (ix2 0 j) + ((∑ r, M.dy (τ r) j * M.xh (τ r) j : ℝ) : EReal) := by
  pointwise [k0_pay19]
  simp only [dy_pay B, xh_pay B, ← EReal.coe_mul, ← coe_sum]
local notation "Y" => k0_pay17 (F := Ideal) H v51 v54 v57
theorem db_pay (v : Vec Ideal S1x1024 .f32) (j : Fin 1024) :
    (k0_pay20 Y v (ix2 0 j) : EReal) = v (ix2 0 j) + ((∑ r, M.dy (τ r) j : ℝ) : EReal) := by
  pointwise [k0_pay20]
  simp only [dy_pay B, ← coe_sum]
local notation "K" => k0_pay21 (F := Ideal) (k0_pay14 H) (k0_pay15 H) v51 Y
theorem dh_pay (r : Fin 256) (j : Fin 1024) : (K (ix2 r j) : EReal) = (M.dh (τ r) j : ℝ) := by
  pointwise [k0_pay21]
  simp only [dy_pay B, xh_pay B, inv_pay B, B.g, ofBits_1024, ← EReal.coe_mul, ← coe_sum]
  rw [div_coe_coe (by norm_num), div_coe_coe (by norm_num)]
  simp only [← EReal.coe_sub, ← EReal.coe_mul]
  simp only [Model.dh, lnGrad, mean, Nat.cast_ofNat, Model.xh]
theorem gx_pay (r : Fin 256) (j : Fin 1024) : (k0_pay22 (k0_pay14 H) (k0_pay15 H) v51 Y (ix2 r j) : EReal) = (M.α * M.dh (τ r) j : ℝ) := by
  pointwise [k0_pay22]
  rw [dh_pay B, B.α, ← EReal.coe_mul]
theorem dgate_pay (v : Vec Ideal S1x1024 .f32) (j : Fin 1024) :
    (k0_pay23 (k0_pay11 v5 v7 v19 v21 v24) (k0_pay14 H) (k0_pay15 H) v51 Y v (ix2 0 j) : EReal) = v (ix2 0 j) + ((∑ r, M.dh (τ r) j * M.mixed (τ r) j : ℝ) : EReal) := by
  pointwise [k0_pay23]
  simp only [dh_pay B, mixed_pay B, ← EReal.coe_mul, ← coe_sum]
local notation "D" => k0_pay24 (F := Ideal) (k0_pay4 v3) (k0_pay14 H) (k0_pay15 H) v51 Y
theorem dm_pay (r : Fin 256) (j : Fin 1024) : (D (ix2 r j) : EReal) = (M.dm (τ r) j : ℝ) := by
  pointwise [k0_pay24, k0_pay4]
  rw [dh_pay B, B.gate, ← EReal.coe_mul]; rfl
theorem dwa_pay (v : Vec Ideal S1024x1024 .f32) (i j : Fin 1024) :
    (k0_pay26 (k0_pay9 v5 v7) D v (ix2 i j) : EReal) = v (ix2 i j) + ((∑ r, M.a (τ r) i * M.dm (τ r) j : ℝ) : EReal) := by
  pointwise [k0_pay26, k0_pay25]
  simp only [a_pay B, dm_pay B, ← EReal.coe_mul, ← coe_sum]
theorem dws_pay (v : Vec Ideal S1024x1024 .f32) (i j : Fin 1024) :
    (k0_pay27 (k0_pay10 v19) D v (ix2 i j) : EReal) = v (ix2 i j) + ((∑ r, M.s (τ r) i * M.dm (τ r) j : ℝ) : EReal) := by
  pointwise [k0_pay27, k0_pay25, k0_pay10]
  simp only [B.s, dm_pay B, ← EReal.coe_mul, ← coe_sum]
theorem da_pay (r : Fin 256) (i : Fin 1024) : (k0_pay28 D v21 (ix2 r i) : EReal) = (M.da (τ r) i : ℝ) := by
  pointwise [k0_pay28, k0_pay25]
  simp only [B.wa, dm_pay B, ← EReal.coe_mul, ← coe_sum]; rfl
theorem ds_pay (r : Fin 256) (i : Fin 1024) : (k0_pay29 D v24 (ix2 r i) : EReal) = (M.ds (τ r) i : ℝ) := by
  pointwise [k0_pay29, k0_pay25]
  simp only [B.ws, dm_pay B, ← EReal.coe_mul, ← coe_sum]; rfl
theorem dov_pay (r : Fin 256) (i : Fin 1024) : (k0_pay30 (k0_pay8 v7) D v21 (ix2 r i) : EReal) = (M.dov (τ r) i : ℝ) := by
  pointwise [k0_pay30]
  rw [da_pay B, silu_pay B, ← EReal.coe_mul]; rfl
theorem do_pay (r : Fin 256) (i : Fin 1024) : (k0_pay31 (k0_pay8 v7) D v21 (ix2 r i) : EReal) = (M.dov (τ r) i : ℝ) := by
  pointwise [k0_pay31]
  exact dov_pay B r i
theorem dza_pay (r : Fin 256) (i : Fin 1024) : (k0_pay32 (k0_pay5 v5) (k0_pay6 v7) (k0_pay7 v7) D v21 (ix2 r i) : EReal) = (M.dza (τ r) i : ℝ) := by
  pointwise [k0_pay32, k0_pay5, k0_pay6]
  simp only [da_pay B, sig_pay B, B.o, B.z, ← EReal.coe_one, ← EReal.coe_mul, ← EReal.coe_sub, ← EReal.coe_add]; rfl
omit B in
/-- A sum against the indicator of one head's 128 lanes. -/
theorem sum_head (f : Fin 1024 → ℝ) (h : Fin 8) :
    ∑ k : Fin 1024, f k * (if k.val / 128 = h.val then 1 else 0) = ∑ e : Fin 128, f ⟨h.val * 128 + e.val, by omega⟩ := by
  rw [← Equiv.sum_comp (finProdFinEquiv (m := 8) (n := 128)), Fintype.sum_prod_type, Finset.sum_eq_single h]
  · refine Finset.sum_congr rfl fun e _ => ?_
    have e1 : (finProdFinEquiv (m := 8) (n := 128) (h, e)) = (⟨h.val * 128 + e.val, by omega⟩ : Fin 1024) := Fin.ext (by simp [finProdFinEquiv]; omega)
    rw [e1, if_pos (show (h.val * 128 + e.val) / 128 = h.val by omega), mul_one]
  · intro q _ hq
    refine Finset.sum_eq_zero fun e _ => ?_
    have hne : q.val ≠ h.val := fun e => hq (Fin.ext e)
    have e1 : (finProdFinEquiv (m := 8) (n := 128) (q, e)) = (⟨q.val * 128 + e.val, by omega⟩ : Fin 1024) := Fin.ext (by simp [finProdFinEquiv]; omega)
    rw [e1, if_neg (show ¬ (q.val * 128 + e.val) / 128 = h.val by omega), mul_zero]
  · intro hn; exact absurd (Finset.mem_univ _) hn
/-- The products with the matrix of ones: a row's entries of each head added up. -/
theorem delta_pay (e8 : Vec Ideal S1024x128 .bf16) (he : ∀ (i : Fin 1024) (l : Fin 128), (e8 (ix2 i l) : EReal) = ((if i.val / 128 = l.val then 1 else 0 : ℝ) : EReal))
    (r : Fin 256) (h : Fin 8) :
    (k0_pay1 (k0_pay5 v5) (k0_pay30 (k0_pay8 v7) D v21) e8 (ix4 h 0 0 r) : EReal) = (M.delta (τ r) h : ℝ) := by
  pointwise [k0_pay1, k0_pay5]
  simp only [dov_pay B, B.o, he, ← EReal.coe_mul, ← EReal.coe_sub, ← coe_sum, ← EReal.coe_add, sub_self, zero_mul, Finset.sum_const_zero, add_zero]
  rw [sum_head fun i => M.dov (τ r) i * M.o (τ r) i]; rfl

end Cert.OutGradIdeal.Val

end
-- ==== Proof.OutEntry.lean ====
module

public import proofs.«01_k».proof.Proof.Gen.OutGradIdeal.Frame
public import proofs.«01_k».proof.Proof.OutPay

/-!
What the output projection's gradient kernel is handed: every operand and every block of it as entries of the model.
-/

@[expose] public section

set_option maxRecDepth 16384

noncomputable section

namespace Cert.OutGradIdeal.Val

open Idealize.ShloMosaic Idealize.ShloMosaic.TcCoe Idealize.SL.Sem
open Cert.OutGradIdeal Cert.OutGradIdeal.Gen
open Cert.Proof.Out (Model Holds)

variable (m : (ℓ : Loc nD τ sig) → Buf (Elt Ideal) ℓ) (c : Dev nD) (M : Model)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![t.val, 0] ∧ win0_12.index t = ![t.val, 0]
    ∧ win0_13.index t = ![t.val, 0] ∧ win0_14.index t = ![0, t.val, 0, 0] ∧ win0_15.index t = ![0, 0] ∧ win0_16.index t = ![0, 0] :=
  (by decide +kernel : ∀ t : Fin grid0.N, _)

theorem lt_tok (t : Fin cfg0.N) (r : Fin 256) : t.val * 256 + r.val < 16384 := by
  have := lt_of_lt_of_eq t.isLt (show cfg0.N = 64 from N_0); omega

/-- The token that row `r` of point `t`'s blocks is. -/
abbrev tok (t : Fin cfg0.N) (r : Fin 256) : Fin 16384 := ⟨t.val * 256 + r.val, lt_tok t r⟩

/-- The program's arguments hold the model. -/
abbrev Args : Prop := Holds M (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8))

theorem o_at (R : Fin 16384) (k : Fin 1024) : V m c main_v1 (ix2 R k) = m ((c : Thread nD τ).loc main_arg0) (ix3 0 R k) := by
  unfold V V0
  simp only [List.flatten_cons, List.flatten_nil, List.append_nil]
  after_results_simp
  pointwise
theorem z_at (R : Fin 16384) (k : Fin 1024) : V m c main_v2 (ix2 R k) = m ((c : Thread nD τ).loc main_arg1) (ix3 0 R k) := by
  unfold V V0
  simp only [List.flatten_cons, List.flatten_nil, List.append_nil]
  after_results_simp
  pointwise
theorem s_at (R : Fin 16384) (k : Fin 1024) : V m c main_v4 (ix2 R k) = m ((c : Thread nD τ).loc main_arg2) (ix3 0 R k) := by
  unfold V V0
  simp only [List.flatten_cons, List.flatten_nil, List.append_nil]
  after_results_simp
  pointwise
theorem x_at (R : Fin 16384) (k : Fin 1024) : V m c main_v5 (ix2 R k) = m ((c : Thread nD τ).loc main_arg3) (ix3 0 R k) := by
  unfold V V0
  simp only [List.flatten_cons, List.flatten_nil, List.append_nil]
  after_results_simp
  pointwise
theorem t_at (R : Fin 16384) (k : Fin 1024) : V m c main_v6 (ix2 R k) = m ((c : Thread nD τ).loc main_arg4) (ix3 0 R k) := by
  unfold V V0
  simp only [List.flatten_cons, List.flatten_nil, List.append_nil]
  after_results_simp
  pointwise
theorem mod_at (r : Fin 8) (k : Fin 3072) : V m c main_v0 (ix2 r k) = m ((c : Thread nD τ).loc main_arg5) (ix2 0 k) := by
  unfold V V0
  simp only [List.flatten_cons, List.flatten_nil, List.append_nil]
  after_results_simp
  pointwise
theorem w_at (i : Fin 2048) (k : Fin 1024) : V m c main_v7 (ix2 i k) = m ((c : Thread nD τ).loc main_arg6) (ix2 i k) := by
  unfold V V0
  simp only [List.flatten_cons, List.flatten_nil, List.append_nil]
  after_results_simp
  pointwise
theorem g_at (k : Fin 1024) : V m c main_arg7 (ix2 (n0 := 1) 0 k) = m ((c : Thread nD τ).loc main_arg7) (ix2 0 k) := by
  unfold V V0
  simp only [List.flatten_cons, List.flatten_nil, List.append_nil]
  after_results_simp
theorem b_at (k : Fin 1024) : V m c main_arg8 (ix2 (n0 := 1) 0 k) = m ((c : Thread nD τ).loc main_arg8) (ix2 0 k) := by
  unfold V V0
  simp only [List.flatten_cons, List.flatten_nil, List.append_nil]
  after_results_simp
theorem e8_at (i : Fin 1024) (l : Fin 128) : (V m c main_v12 (ix2 i l) : EReal) = ((if i.val / 128 = l.val then 1 else 0 : ℝ) : EReal) := by
  unfold V V0
  simp only [List.flatten_cons, List.flatten_nil, List.append_nil]
  after_results_simp
  pointwise
  show (((IntOp.cmpi .eq (BitVec.ofNat 32 (i.val / 128)) (BitVec.ofNat 32 l.val)).toNat : ℝ) : EReal) = _
  congr 1
  have e : (BitVec.ofNat 32 (i.val / 128) = BitVec.ofNat 32 l.val) ↔ i.val / 128 = l.val := by
    rw [← BitVec.toNat_inj, BitVec.toNat_ofNat, BitVec.toNat_ofNat, Nat.mod_eq_of_lt (by omega), Nat.mod_eq_of_lt (by omega)]
  by_cases h : i.val / 128 = l.val
  · rw [if_pos h, h]; simp [IntOp.cmpi]
  · rw [if_neg h]; simp [IntOp.cmpi, e, h]

theorem blk_e8 (t : Fin cfg0.N) (i : Fin 1024) (l : Fin 128) : (iblk m c 9 t (ix2 i l) : EReal) = ((if i.val / 128 = l.val then 1 else 0 : ℝ) : EReal) :=
  Eq.trans (b := V m c main_v12 (ix2 i l)) (by blk_ext [iblk, idx t]) (e8_at m c _ _)
theorem blk_w (t : Fin cfg0.N) (i : Fin 2048) (k : Fin 1024) : iblk m c 5 t (ix2 i k) = m ((c : Thread nD τ).loc main_arg6) (ix2 i k) :=
  Eq.trans (b := V m c main_v7 (ix2 i k)) (by blk_ext [iblk, idx t]) (w_at m c _ _)
theorem blk_mod (t : Fin cfg0.N) (r : Fin 8) (k : Fin 3072) : iblk m c 6 t (ix2 r k) = m ((c : Thread nD τ).loc main_arg5) (ix2 0 k) :=
  Eq.trans (b := V m c main_v0 (ix2 r k)) (by blk_ext [iblk, idx t]) (mod_at m c _ _)

variable {M}

/-- The blocks of a point hold the point's rows of the model. -/
theorem blocks (H : Args m c M) (t : Fin cfg0.N) : Blocks M (tok t)
    (View.ld (iblk m c 6 t) (Rect.unit ![0, 2048] ![1, 1024] inb_S8x3072_S1x1024_0_2048)) (iblk m c 0 t) (iblk m c 1 t) (iblk m c 2 t)
    (View.ld (iblk m c 5 t) (Rect.unit ![0, 0] ![1024, 1024] inb_S2048x1024_S1024x1024_0_0))
    (View.ld (iblk m c 5 t) (Rect.unit ![1024, 0] ![1024, 1024] inb_S2048x1024_S1024x1024_1024_0)) (iblk m c 3 t) (iblk m c 7 t) (iblk m c 8 t) (iblk m c 4 t) where
  gate i := by pointwise; rw [blk_mod]; exact H.gate i
  o r i := (Eq.trans (b := V m c main_v1 (ix2 (tok t r) i)) (by blk_ext [iblk, idx t]) (o_at m c _ _)).trans (H.o _ _)
  z r i := (Eq.trans (b := V m c main_v2 (ix2 (tok t r) i)) (by blk_ext [iblk, idx t]) (z_at m c _ _)).trans (H.z _ _)
  s r i := (Eq.trans (b := V m c main_v4 (ix2 (tok t r) i)) (by blk_ext [iblk, idx t]) (s_at m c _ _)).trans (H.s _ _)
  wa k j := by pointwise; rw [blk_w]; exact H.wa k j
  ws k j := by pointwise; rw [blk_w]; exact H.ws k j
  x r i := (Eq.trans (b := V m c main_v5 (ix2 (tok t r) i)) (by blk_ext [iblk, idx t]) (x_at m c _ _)).trans (H.x _ _)
  g i := (Eq.trans (b := V m c main_arg7 (ix2 (n0 := 1) 0 i)) (by blk_ext [iblk, idx t]) (g_at m c _)).trans (H.g _)
  b i := (Eq.trans (b := V m c main_arg8 (ix2 (n0 := 1) 0 i)) (by blk_ext [iblk, idx t]) (b_at m c _)).trans (H.b _)
  t r i := (Eq.trans (b := V m c main_v6 (ix2 (tok t r) i)) (by blk_ext [iblk, idx t]) (t_at m c _ _)).trans (H.t _ _)
  α := H.α
  ε := H.ε
  ε_pos := H.ε_pos

end Cert.OutGradIdeal.Val

end
-- ==== Proof.OutBlocks.lean ====
module

public import proofs.«01_k».proof.Proof.OutEntry
public import Idealize.ShloMosaic.Lib.Pipeline.ReadBack
public import Idealize.ShloMosaic.Lib.WritesUnit

/-!
What one grid point of the output projection's gradient kernel leaves in its seven output buffers. The point that starts the grid
clears the two accumulators first (case A); every other point adds to what the point before left (case B).
-/

@[expose] public section

set_option maxRecDepth 16384

noncomputable section

namespace Cert.OutGradIdeal.Val

open Idealize.ShloMosaic Idealize.ShloMosaic.TcCoe Idealize.SL.Sem
open Cert.OutGradIdeal Cert.OutGradIdeal.Gen
open Cert.Proof.Out (Model Holds)

variable (m : (ℓ : Loc nD τ sig) → Buf (Elt Ideal) ℓ) (c : Dev nD) {M : Model} (H : Args m c M)
include H

/-- The five outputs that have a block per point. -/
theorem rows (t : Fin cfg0.N) (r : Fin 256) :
    (∀ j, (outsAt0 m c t.val t.isLt).1 (ix2 r j) = ((M.α * M.dh (tok t r) j : ℝ) : EReal))
    ∧ (∀ j, (outsAt0 m c t.val t.isLt).2.1 (ix2 r j) = ((M.dov (tok t r) j : ℝ) : EReal))
    ∧ (∀ j, (outsAt0 m c t.val t.isLt).2.2.1 (ix2 r j) = ((M.dza (tok t r) j : ℝ) : EReal))
    ∧ (∀ j, (outsAt0 m c t.val t.isLt).2.2.2.1 (ix2 r j) = ((M.ds (tok t r) j : ℝ) : EReal))
    ∧ (∀ h, (outsAt0 m c t.val t.isLt).2.2.2.2.1 (ix4 h 0 0 r) = ((M.delta (tok t r) h : ℝ) : EReal)) := by
  have B := blocks m c H t
  by_cases h : t.val % 64 = 0
  · rw [outsAt0_A m c t h]
    refine ⟨fun j => ?_, fun j => ?_, fun j => ?_, fun j => ?_, fun j => ?_⟩
    · frame_out; exact gx_pay B r j
    · frame_out; exact do_pay B r j
    · frame_out; exact dza_pay B r j
    · frame_out; exact ds_pay B r j
    · frame_out; exact delta_pay B _ (blk_e8 m c t) r j
  · rw [outsAt0_B m c t h]
    refine ⟨fun j => ?_, fun j => ?_, fun j => ?_, fun j => ?_, fun j => ?_⟩
    · frame_out; exact gx_pay B r j
    · frame_out; exact do_pay B r j
    · frame_out; exact dza_pay B r j
    · frame_out; exact ds_pay B r j
    · frame_out; exact delta_pay B _ (blk_e8 m c t) r j

/-- The weight gradient grows by the products over the 256 tokens of the point. -/
theorem dw_B (t : Fin cfg0.N) (h : ¬ t.val % 64 = 0) (i : Fin 2048) (j : Fin 1024) :
    (outsAt0 m c t.val t.isLt).2.2.2.2.2.1 (ix2 i j) = (outsAt0 m c (t.val - 1) (Nat.lt_of_le_of_lt (Nat.sub_le _ _) t.isLt)).2.2.2.2.2.1 (ix2 i j)
      + ((∑ r : Fin 256, M.cat (tok t r) i * M.dm (tok t r) j : ℝ) : EReal) := by
  have B := blocks m c H t
  rw [outsAt0_B m c t h]; frame_out
  canon_tiles x e using (by
    simp only [List.mem_cons, List.not_mem_nil, or_false, exists_eq_or_imp, exists_eq_left, Rect.mem_set_unit, Fin.forall_fin_two, Matrix.cons_val_zero, Matrix.cons_val_one, ix2_0, ix2_1]
    omega)
  all_goals
    idx_vars x
    obtain ⟨i, hi⟩ := i
    obtain ⟨j, hj⟩ := j
    simp only [ix2_0, ix2_1] at e0 e1
    subst e0 e1
  · refine (dws_pay B _ _ _).trans ?_
    simp only [Model.cat_hi]
    pointwise
  · refine (dwa_pay B _ _ _).trans ?_
    simp only [Nat.zero_add, Model.cat_lo]
    pointwise

omit H in
/-- A store over the rows from `o` puts its entry `(i, j)` in row `o + i`. -/
theorem emb_rows (o : ℕ) (inb : ∀ a : Fin 2, (![o, 0] : Fin 2 → ℕ) a + (![1024, 1024] : Fin 2 → ℕ) a ≤ S2048x1024.size a) (i j : Fin 1024) :
    (Rect.unit (s := S2048x1024) ![o, 0] ![1024, 1024] inb).emb (ix2 i j) = ix2 ⟨o + i.val, by have := inb 0; simp at this; omega⟩ j := by
  funext a
  refine Fin.ext ?_
  show (![o, 0] : Fin 2 → ℕ) a + 1 * _ = _
  fin_cases a <;> simp

/-- The weight gradient at the first point. -/
theorem dw_A (t : Fin cfg0.N) (h : t.val % 64 = 0) (i : Fin 2048) (j : Fin 1024) :
    (outsAt0 m c t.val t.isLt).2.2.2.2.2.1 (ix2 i j) = 0 + ((∑ r : Fin 256, M.cat (tok t r) i * M.dm (tok t r) j : ℝ) : EReal) := by
  have B := blocks m c H t
  rw [outsAt0_A m c t h]; frame_open
  simp (disch := decide) only [↓ View.readCov_skip, ↓ View.readCov_cons_toLoadRect, ↓ View.readCov_fill]
  frame_out
  refine View.canon_append_of_piecesOf (Val := Elt Ideal) (e := .f32) (fun j : S2048x1024.Idx => (0 + ((∑ r : Fin 256, M.cat (tok t r) (j 0) * M.dm (tok t r) (j 1) : ℝ) : EReal) : EReal))
    [_] [_, _] ⟨?_, ?_, trivial⟩ _ ?_
  on_goal 3 =>
    simp only [List.mem_cons, List.not_mem_nil, or_false, exists_eq_or_imp, exists_eq_left, Rect.mem_set_unit, Fin.forall_fin_two, Matrix.cons_val_zero, Matrix.cons_val_one, ix2_0, ix2_1]
    omega
  · intro x
    idx_vars x
    refine (dws_pay B _ _ _).trans ?_
    simp only [emb_rows, ix2_0, ix2_1, Model.cat_hi]
    pointwise [k0_pay2]
  · intro x
    idx_vars x
    refine (dwa_pay B _ _ _).trans ?_
    simp only [emb_rows, ix2_0, ix2_1, Nat.zero_add, Model.cat_lo]
    pointwise [k0_pay2]

/-- Each of the four rows of sums grows by the point's 256 tokens. -/
theorem vec_B (t : Fin cfg0.N) (h : ¬ t.val % 64 = 0) (q : Fin 4) (i : Fin 1024) :
    (outsAt0 m c t.val t.isLt).2.2.2.2.2.2 (ix2 ⟨q.val, by omega⟩ i) = (outsAt0 m c (t.val - 1) (Nat.lt_of_le_of_lt (Nat.sub_le _ _) t.isLt)).2.2.2.2.2.2 (ix2 ⟨q.val, by omega⟩ i)
      + ((∑ r : Fin 256, M.row q (tok t r) i : ℝ) : EReal) := by
  have B := blocks m c H t
  rw [outsAt0_B m c t h]; frame_out
  fin_cases q
  · rw [View.read_writes_cons_unit_of_not_mem _ _ _ _ _ _ rfl 0 (Or.inl (by simp)), View.read_writes_cons_unit_of_not_mem _ _ _ _ _ _ rfl 0 (Or.inl (by simp)),
      View.read_writes_cons_unit_of_not_mem _ _ _ _ _ _ rfl 0 (Or.inl (by simp)), View.read_writes_cons_unit_of_mem _ _ _ _ _ _ (ix2 0 i) rfl (by intro a; fin_cases a <;> simp)]
    refine (err2_pay B _ _).trans ?_
    pointwise
    rfl
  · rw [View.read_writes_cons_unit_of_not_mem _ _ _ _ _ _ rfl 0 (Or.inl (by simp)), View.read_writes_cons_unit_of_not_mem _ _ _ _ _ _ rfl 0 (Or.inl (by simp)),
      View.read_writes_cons_unit_of_mem _ _ _ _ _ _ (ix2 0 i) rfl (by intro a; fin_cases a <;> simp)]
    refine (dg_pay B _ _).trans ?_
    pointwise
    rfl
  · rw [View.read_writes_cons_unit_of_not_mem _ _ _ _ _ _ rfl 0 (Or.inl (by simp)), View.read_writes_cons_unit_of_mem _ _ _ _ _ _ (ix2 0 i) rfl (by intro a; fin_cases a <;> simp)]
    refine (db_pay B _ _).trans ?_
    pointwise
    rfl
  · rw [View.read_writes_cons_unit_of_mem _ _ _ _ _ _ (ix2 0 i) rfl (by intro a; fin_cases a <;> simp)]
    refine (dgate_pay B _ _).trans ?_
    pointwise
    rfl

omit H in
/-- A last store of one row leaves its entry `(0, k)` in column `k` of that row. -/
theorem canon_row (o : ℕ) (ho : o < 8) (inb : ∀ a : Fin 2, (![o, 0] : Fin 2 → ℕ) a + S1x1024.size a ≤ S8x1024.size a)
    (w : FVec Ideal S1x1024 .f32) (L : List (View.Piece (Elt Ideal) S8x1024 .f32)) (k : Fin 1024) :
    View.canon ((⟨Rect.unit (s := S8x1024) ![o, 0] S1x1024.size inb, w⟩ : View.Piece (Elt Ideal) S8x1024 .f32) :: L) (ix2 ⟨o, ho⟩ k) = w (ix2 0 k) := by
  have e : (ix2 ⟨o, ho⟩ k : S8x1024.Idx) = (Rect.unit (s := S8x1024) ![o, 0] S1x1024.size inb).emb (ix2 0 k) := by
    funext a
    refine Fin.ext ?_
    show _ = (![o, 0] : Fin 2 → ℕ) a + 1 * _
    fin_cases a <;> simp
  rw [e]
  exact View.canon_cons_emb (Rect.unit (s := S8x1024) ![o, 0] S1x1024.size inb) w L _

/-- The four rows of sums at the first point. -/
theorem vec_A (t : Fin cfg0.N) (h : t.val % 64 = 0) (q : Fin 4) (i : Fin 1024) :
    (outsAt0 m c t.val t.isLt).2.2.2.2.2.2 (ix2 ⟨q.val, by omega⟩ i) = 0 + ((∑ r : Fin 256, M.row q (tok t r) i : ℝ) : EReal) := by
  have B := blocks m c H t
  rw [outsAt0_A m c t h]; frame_open
  simp (disch := decide) only [↓ View.readCov_skip, ↓ View.readCov_cons_toLoadRect, ↓ View.readCov_fill]
  frame_out
  fin_cases q
  · rw [View.canon_cons_of_not_mem _ _ (by rw [Rect.mem_set_unit]; exact fun h => absurd (h 0).1 (by simp)), View.canon_cons_of_not_mem _ _ (by rw [Rect.mem_set_unit]; exact fun h => absurd (h 0).1 (by simp)),
      View.canon_cons_of_not_mem _ _ (by rw [Rect.mem_set_unit]; exact fun h => absurd (h 0).1 (by simp))]
    refine (canon_row 0 (by decide) inb_S8x1024_S1x1024_0_0 _ _ i).trans ((err2_pay B _ _).trans ?_)
    pointwise [k0_pay3]
    rfl
  · rw [View.canon_cons_of_not_mem _ _ (by rw [Rect.mem_set_unit]; exact fun h => absurd (h 0).1 (by simp)), View.canon_cons_of_not_mem _ _ (by rw [Rect.mem_set_unit]; exact fun h => absurd (h 0).1 (by simp))]
    refine (canon_row 1 (by decide) inb_S8x1024_S1x1024_1_0 _ _ i).trans ((dg_pay B _ _).trans ?_)
    pointwise [k0_pay3]
    rfl
  · rw [View.canon_cons_of_not_mem _ _ (by rw [Rect.mem_set_unit]; exact fun h => absurd (h 0).1 (by simp))]
    refine (canon_row 2 (by decide) inb_S8x1024_S1x1024_2_0 _ _ i).trans ((db_pay B _ _).trans ?_)
    pointwise [k0_pay3]
    rfl
  · refine (canon_row 3 (by decide) inb_S8x1024_S1x1024_3_0 _ _ i).trans ((dgate_pay B _ _).trans ?_)
    pointwise [k0_pay3]
    rfl

end Cert.OutGradIdeal.Val

end
-- ==== Proof.OutArrays.lean ====
module

public import proofs.«01_k».proof.Proof.OutBlocks

/-!
The seven arrays the output projection's gradient kernel ends with, and its results after the host has cut them out.
-/

@[expose] public section

set_option maxRecDepth 16384

noncomputable section

namespace Cert.OutGradIdeal.Val

open Idealize.ShloMosaic Idealize.ShloMosaic.TcCoe Idealize.SL.Sem
open Cert.OutGradIdeal Cert.OutGradIdeal.Gen Cert.Proof.Row
open Cert.Proof.Out (Model Holds)
open Cert.Proof.Attn (coe_sum)

variable (m : (ℓ : Loc nD τ sig) → Buf (Elt Ideal) ℓ) (c : Dev nD) {M : Model}

/-- A sum over the points of the grid and the tokens of each point is the sum over all tokens. -/
theorem sum_tok (f : Fin 16384 → ℝ) : (∑ t : Fin cfg0.N, ((∑ r : Fin 256, f (tok t r) : ℝ) : EReal)) = ((∑ R : Fin 16384, f R : ℝ) : EReal) := by
  rw [← coe_sum]
  refine congrArg _ (Fin.sum_mul_add_congr (fun s k hl => rfl) ?_)
  rw [show cfg0.N = 64 from N_0]

/-- The last point of the grid is the only one that writes the accumulators back. -/
theorem last_of (t : Fin cfg0.N) (h : t.val % 64 = 63) : t.val + 1 = cfg0.N := by
  have := t.isLt
  have : cfg0.N = 64 := N_0
  omega

variable (H : Args m c M)
include H

theorem gx_arr : (dats m 0 c).arrAt 10 cfg0.N = fun j : S16384x1024.Idx => ((M.α * M.dh (j 0) (j 1) : ℝ) : EReal) := by
  refine (dats m 0 c).arrAt_eq_of_covers 10 _ (by decide +kernel) fun t hf y => ?_
  idx_vars y
  blk_simp
  rw [after0_10]
  have e : (win0_10.blk t).view.emb (ix2 y0 y1) = ix2 (tok t y0) y1 := by blk_ext [idx t]
  rw [e]
  exact (rows m c H t y0).1 y1
theorem do_arr : (dats m 0 c).arrAt 11 cfg0.N = fun j : S16384x1024.Idx => ((M.dov (j 0) (j 1) : ℝ) : EReal) := by
  refine (dats m 0 c).arrAt_eq_of_covers 11 _ (by decide +kernel) fun t hf y => ?_
  idx_vars y
  blk_simp
  rw [after0_11]
  have e : (win0_11.blk t).view.emb (ix2 y0 y1) = ix2 (tok t y0) y1 := by blk_ext [idx t]
  rw [e]
  exact (rows m c H t y0).2.1 y1
theorem dza_arr : (dats m 0 c).arrAt 12 cfg0.N = fun j : S16384x1024.Idx => ((M.dza (j 0) (j 1) : ℝ) : EReal) := by
  refine (dats m 0 c).arrAt_eq_of_covers 12 _ (by decide +kernel) fun t hf y => ?_
  idx_vars y
  blk_simp
  rw [after0_12]
  have e : (win0_12.blk t).view.emb (ix2 y0 y1) = ix2 (tok t y0) y1 := by blk_ext [idx t]
  rw [e]
  exact (rows m c H t y0).2.2.1 y1
theorem ds_arr : (dats m 0 c).arrAt 13 cfg0.N = fun j : S16384x1024.Idx => ((M.ds (j 0) (j 1) : ℝ) : EReal) := by
  refine (dats m 0 c).arrAt_eq_of_covers 13 _ (by decide +kernel) fun t hf y => ?_
  idx_vars y
  blk_simp
  rw [after0_13]
  have e : (win0_13.blk t).view.emb (ix2 y0 y1) = ix2 (tok t y0) y1 := by blk_ext [idx t]
  rw [e]
  exact (rows m c H t y0).2.2.2.1 y1
omit H in
/-- `delta` of one head at row `r` of point `t`. -/
abbrev deltaAt (M : Model) (h : Fin 8) (t : Fin 64) (r : Fin 256) : EReal := ((M.delta ⟨t.val * 256 + r.val, by omega⟩ h : ℝ) : EReal)
theorem delta_arr : (dats m 0 c).arrAt 14 cfg0.N = fun j : S8x64x1x256.Idx => deltaAt M (j 0) (j 1) (j 3) := by
  refine (dats m 0 c).arrAt_eq_of_covers 14 _ (by decide +kernel) fun t hf y => ?_
  idx_vars y
  obtain rfl : y1 = 0 := Subsingleton.elim (α := Fin 1) _ _
  obtain rfl : y2 = 0 := Subsingleton.elim (α := Fin 1) _ _
  blk_simp
  rw [after0_14]
  have e : (win0_14.blk t).view.emb (ix4 y0 0 0 y3) = ix4 y0 (⟨t.val, lt_of_lt_of_eq t.isLt N_0⟩ : Fin 64) 0 y3 := by blk_ext [idx t]
  rw [e]
  exact (rows m c H t y3).2.2.2.2 y0
theorem dw_arr : (dats m 0 c).arrAt 15 cfg0.N = fun j : S2048x1024.Idx => ((∑ R : Fin 16384, M.cat R (j 0) * M.dm R (j 1) : ℝ) : EReal) := by
  refine (dats m 0 c).arrAt_eq_of_covers 15 _ (by decide +kernel) fun t hf y => ?_
  idx_vars y
  blk_simp
  rw [after0_15]
  have e : (win0_15.blk t).view.emb (ix2 y0 y1) = ix2 y0 y1 := by blk_ext [idx t]
  rw [e]
  refine (Pipeline.eq_sum_fin_of_reset_step_apply_last (M := EReal) (fun n h (i : Fin 2048 × Fin 1024) => (outsAt0 m c n h).2.2.2.2.2.1 (ix2 i.1 i.2)) 64 (fun _ => 0)
    (fun t i => ((∑ r : Fin 256, M.cat (tok t r) i.1 * M.dm (tok t r) i.2 : ℝ) : EReal)) (fun t h i => dw_A m c H t h i.1 i.2) (fun t h i => dw_B m c H t h i.1 i.2)
    (le_of_eq N_0) t (last_of t ((flush0_15 t).mp hf)) (y0, y1)).trans ?_
  rw [zero_add]
  exact sum_tok fun R => M.cat R y0 * M.dm R y1

/-- The four rows of sums over the tokens. -/
theorem vec_arr (q : Fin 4) (i : Fin 1024) : (dats m 0 c).arrAt 16 cfg0.N (ix2 (n0 := 8) ⟨q.val, by omega⟩ i) = ((∑ R : Fin 16384, M.row q R i : ℝ) : EReal) := by
  have hN : cfg0.N = 64 := N_0
  obtain ⟨t, ht⟩ : ∃ t : Fin cfg0.N, t.val + 1 = cfg0.N := ⟨⟨63, by omega⟩, hN.symm⟩
  have e : (dats m 0 c).arrAt 16 cfg0.N = (outsAt0 m c t.val t.isLt).2.2.2.2.2.2 := by
    refine (dats m 0 c).arrAt_eq_of_covers 16 _ (by decide +kernel) fun t' hf y => ?_
    obtain rfl : t' = t := Fin.ext (by have := last_of t' ((flush0_16 t').mp hf); omega)
    idx_vars y
    blk_simp
    rw [after0_16]
    have e : (win0_16.blk t').view.emb (ix2 y0 y1) = ix2 y0 y1 := by blk_ext [idx t']
    rw [e]
  rw [e]
  refine (Pipeline.eq_sum_fin_of_reset_step_apply_last (M := EReal) (fun n h (i : Fin 4 × Fin 1024) => (outsAt0 m c n h).2.2.2.2.2.2 (ix2 ⟨i.1.val, by omega⟩ i.2)) 64 (fun _ => 0)
    (fun t i => ((∑ r : Fin 256, M.row i.1 (tok t r) i.2 : ℝ) : EReal)) (fun t h i => vec_A m c H t h i.1 i.2) (fun t h i => vec_B m c H t h i.1 i.2) (le_of_eq N_0) t ht (q, i)).trans ?_
  rw [zero_add]
  exact sum_tok fun R => M.row q R i

omit H in
/-- What the buffers hold when the region ends: its arrays, and everything else as before. -/
def atEnd : Valuation τ sig (Elt Ideal) := Pipeline.withArrays (cfgs 0).spec c (V0 m c) fun w => (dats m 0 c).arrAt w (cfgs 0).N

theorem at_vec (q : Fin 4) (i : Fin 1024) : atEnd m c (Proc.devRef .tc main_v13_6) (ix2 (n0 := 8) ⟨q.val, by omega⟩ i) = ((∑ R : Fin 16384, M.row q R i : ℝ) : EReal) :=
  (congrFun (Pipeline.withArrays_arr (cfgs 0).spec (by decide) c _ _ 16) _).trans (vec_arr m c H q i)
theorem at_delta (h : Fin 8) (t : Fin 64) (r : Fin 256) : atEnd m c (Proc.devRef .tc main_v13_4) (ix4 (n0 := 8) h t 0 r) = ((M.delta ⟨t.val * 256 + r.val, by omega⟩ h : ℝ) : EReal) :=
  (congrFun (Pipeline.withArrays_arr (cfgs 0).spec (by decide) c _ _ 14) _).trans (congrFun (delta_arr m c H) _)

theorem dg_end (i : Fin 1024) : StableHlo.after hostOps1 (atEnd m c) (Proc.devRef .tc main_v18) (ix2 (n0 := 1) 0 i) = ((∑ R : Fin 16384, M.dy R i * M.xh R i : ℝ) : EReal) := by
  refine Eq.trans ?_ (at_vec m c H 1 i)
  generalize atEnd m c = V
  after_results
  pointwise
theorem db_end (i : Fin 1024) : StableHlo.after hostOps1 (atEnd m c) (Proc.devRef .tc main_v19) (ix2 (n0 := 1) 0 i) = ((∑ R : Fin 16384, M.dy R i : ℝ) : EReal) := by
  refine Eq.trans ?_ (at_vec m c H 2 i)
  generalize atEnd m c = V
  after_results
  pointwise
theorem dgate_end (i : Fin 1024) : StableHlo.after hostOps1 (atEnd m c) (Proc.devRef .tc main_v20) (ix2 (n0 := 1) 0 i) = ((∑ R : Fin 16384, M.dh R i * M.mixed R i : ℝ) : EReal) := by
  refine Eq.trans ?_ (at_vec m c H 3 i)
  generalize atEnd m c = V
  after_results
  pointwise
theorem delta_end (h : Fin 8) (R : Fin 16384) : StableHlo.after hostOps1 (atEnd m c) (Proc.devRef .tc main_v21) (ix2 (n0 := 8) h R) = ((M.delta R h : ℝ) : EReal) := by
  refine Eq.trans ?_ ((at_delta m c H h ⟨R.val / 256, by omega⟩ ⟨R.val % 256, by omega⟩).trans ?_)
  · generalize atEnd m c = V
    after_results
    pointwise
  · exact congrArg (fun R => ((M.delta R h : ℝ) : EReal)) (Fin.ext (Nat.div_add_mod' R.val 256))
theorem loss_end (j : S_.Idx) : StableHlo.after hostOps1 (atEnd m c) (Proc.devRef .tc main_v17) j = ((1 / 2048 * ∑ i : Fin 1024, ∑ R : Fin 16384, M.err R i * M.err R i : ℝ) : EReal) := by
  have e := at_vec m c H 0
  generalize atEnd m c = V at e
  after_results
  pointwise
  rw [ofBits_inv2048, EReal.coe_mul, coe_sum]
  exact congrArg _ (Finset.sum_congr rfl fun i _ => e i)

end Cert.OutGradIdeal.Val

end
-- ==== Proof.OutRef.lean ====
module

public import proofs.«01_k».proof.Proof.Gen.OutGradRefIdeal.Run
public import proofs.«01_k».proof.Proof.Gen.OutGradRefIdeal.Read
public import proofs.«01_k».proof.Proof.OutModel
public import Idealize.ShloMosaic.Lib.Pipeline.ValueKit
public import Idealize.ShloMosaic.Lib.Pointwise

/-!
The loss and the nine gradients of the output projection's reference, entry by entry, in real numbers.
-/

@[expose] public section

set_option maxRecDepth 16384

noncomputable section

namespace Cert.OutGradRefIdeal.Val

open Idealize.ShloMosaic Idealize.ShloMosaic.TcCoe Idealize.SL.Sem
open Cert.OutGradRefIdeal Cert.OutGradRefIdeal.Gen Cert.OutGradRefIdeal.Read Cert.Proof.Row
open Cert.Proof.Attn (coe_sum div_coe_coe)
open Cert.Proof.Out (Model Holds)

variable {M : Model} {x0 x1 x2 x3 x4 : FVec Ideal S1x16384x1024 .f32} {x5 : FVec Ideal S1x3072 .f32} {x6 : FVec Ideal S2048x1024 .f32} {x7 x8 : FVec Ideal S1x1024 .f32}
  (H : Holds M x0 x1 x2 x3 x4 x5 x6 x7 x8)

theorem first_ones (v : FVec Ideal S1x1x1024 .f32) (i : Fin 1024) : Ideal.hostReduceAdd reducesTo_S1x1x1024_S1024_d0_1 v 0 (ix1 i) = v (ix3 0 0 i) := by
  have hd (y : S1x1x1024.Idx) : reducesTo_S1x1x1024_S1024_d0_1.drop y = ix1 (y 2) := by
    funext b
    match b with
    | ⟨0, _⟩ => rfl
  refine reduce_unit _ v _ _ (hd _) fun y hy => ?_
  have e : y 2 = i := congrFun ((hd y).symm.trans hy) 0
  funext a
  match a with
  | ⟨0, _⟩ => exact Subsingleton.elim (α := Fin 1) _ _
  | ⟨1, _⟩ => exact Subsingleton.elim (α := Fin 1) _ _
  | ⟨2, _⟩ => exact e

theorem outer_ones (v : FVec Ideal S1x16384x1 .f32) (R : Fin 16384) : Ideal.hostReduceAdd reducesTo_S1x16384x1_S16384_d0_2 v 0 (ix1 R) = v (ix3 0 R 0) := by
  have hd (y : S1x16384x1.Idx) : reducesTo_S1x16384x1_S16384_d0_2.drop y = ix1 (y 1) := by
    funext b
    match b with
    | ⟨0, _⟩ => rfl
  refine reduce_unit _ v _ _ (hd _) fun y hy => ?_
  have e : y 1 = R := congrFun ((hd y).symm.trans hy) 0
  funext a
  match a with
  | ⟨0, _⟩ => exact Subsingleton.elim (α := Fin 1) _ _
  | ⟨1, _⟩ => exact e
  | ⟨2, _⟩ => exact Subsingleton.elim (α := Fin 1) _ _

include H

theorem sgm_at (R : Fin 16384) (i : Fin 1024) : (val_main_v1_2 (F := Ideal) x1 (ix3 0 R i) : EReal) = (sgm (M.z R i) : ℝ) := by
  pointwise [val_main_v1_2, val_main_call0_v4, val_main_call0_cst_0, val_main_call0_v3, val_main_call0_v2, val_main_call0_cst, val_main_call0_v1, val_main_call0_v0]
  simp only [H.z, ← EReal.coe_one, ← EReal.coe_neg, Ideal.exp_coe, ← EReal.coe_add]
  exact sgm_coe _
theorem slope_at (R : Fin 16384) (i : Fin 1024) : (val_main_v1_1 (F := Ideal) x1 (ix3 0 R i) : EReal) = (sgm (M.z R i) * (1 - sgm (M.z R i)) : ℝ) := by
  pointwise [val_main_v1_1, val_main_call0_v7, val_main_call0_v6, val_main_call0_cst_1]
  simp only [sgm_at H, ← EReal.coe_one, ← EReal.coe_mul, ← EReal.coe_sub]
theorem silu_at (R : Fin 16384) (i : Fin 1024) : (val_main_v1_0 (F := Ideal) x1 (ix3 0 R i) : EReal) = (M.z R i * sgm (M.z R i) : ℝ) := by
  pointwise [val_main_v1_0]
  simp only [sgm_at H, H.z, ← EReal.coe_mul]
theorem a_at (R : Fin 16384) (i : Fin 1024) : (val_main_v2 (F := Ideal) x0 x1 (ix3 0 R i) : EReal) = (M.a R i : ℝ) := by
  pointwise [val_main_v2]
  simp only [silu_at H, H.o, ← EReal.coe_mul]; rfl
theorem cat_at (R : Fin 16384) (i : Fin 2048) : (val_main_v3 (F := Ideal) x0 x1 x2 (ix3 0 R i) : EReal) = (M.cat R i : ℝ) := by
  pointwise [val_main_v3]
  simp only [a_at H, H.s, Model.cat]
  split_ifs <;> rfl
theorem w_at (k : Fin 2048) (j : Fin 1024) : (x6 (ix2 k j) : EReal) = (M.w k j : ℝ) := by
  unfold Model.w
  split_ifs with h
  · exact H.wa ⟨k.val, h⟩ j
  · refine Eq.trans (congrArg x6 (congrArg (ix2 · j) (Fin.ext ?_))) (H.ws ⟨k.val - 1024, by omega⟩ j)
    show k.val = 1024 + (k.val - 1024); omega
theorem mixed_at (R : Fin 16384) (j : Fin 1024) : (val_main_v4 (F := Ideal) x0 x1 x2 x6 (ix3 0 R j) : EReal) = (M.mixed R j : ℝ) := by
  pointwise [val_main_v4]
  simp only [cat_at H, w_at H, ← EReal.coe_mul, ← coe_sum]
  rw [M.sum_cat]
theorem h_at (R : Fin 16384) (j : Fin 1024) : (val_main_v10 (F := Ideal) x0 x1 x2 x3 x5 x6 (ix3 0 R j) : EReal) = (M.h R j : ℝ) := by
  pointwise [val_main_v10, val_main_v9, val_main_v8, val_main_v7, val_main_v6, val_main_v5, val_main_cst, val_main_v0]
  simp only [mixed_at H, H.x, H.gate, H.α, ← EReal.coe_mul, ← EReal.coe_add]; rfl
theorem mean_at (R : Fin 16384) : (val_main_v16 (F := Ideal) x0 x1 x2 x3 x5 x6 (ix3 0 R 0) : EReal) = (mean (M.h R) : ℝ) := by
  pointwise [val_main_v16, val_main_v15, val_main_v14, val_main_v13, val_main_cst_0, val_main_cst_1]
  simp only [h_at H, ofBits_1024, ← coe_sum]
  rw [div_coe_coe (by norm_num)]
  simp only [mean, Nat.cast_ofNat]
theorem ctr_at (R : Fin 16384) (j : Fin 1024) : (val_main_v18 (F := Ideal) x0 x1 x2 x3 x5 x6 (ix3 0 R j) : EReal) = (ctr (M.h R) j : ℝ) := by
  pointwise [val_main_v18, val_main_v17]
  rw [h_at H, mean_at H, ← EReal.coe_sub]; rfl
theorem ctr_at' (R : Fin 16384) (j : Fin 1024) : (val_main_v27 (F := Ideal) x0 x1 x2 x3 x5 x6 (ix3 0 R j) : EReal) = (ctr (M.h R) j : ℝ) := by
  pointwise [val_main_v27, val_main_v26]
  rw [h_at H, mean_at H, ← EReal.coe_sub]; rfl
theorem var_at (R : Fin 16384) : (val_main_v29 (F := Ideal) x0 x1 x2 x3 x5 x6 (ix3 0 R 0) : EReal) = (mean (fun k => ctr (M.h R) k * ctr (M.h R) k) + M.ε : ℝ) := by
  pointwise [val_main_v29, val_main_v28, val_main_cst_5, val_main_v25, val_main_v24, val_main_v23, val_main_v22, val_main_cst_3, val_main_cst_4, val_main_v19]
  simp only [ctr_at H, ofBits_1024, H.ε, ← EReal.coe_mul, ← coe_sum]
  rw [div_coe_coe (by norm_num), ← EReal.coe_add]
  simp only [mean, Nat.cast_ofNat]
theorem inv_at (R : Fin 16384) : (val_main_v30 (F := Ideal) x0 x1 x2 x3 x5 x6 (ix3 0 R 0) : EReal) = (Cert.Proof.Row.inv M.ε (ctr (M.h R)) : ℝ) := by
  pointwise [val_main_v30]
  rw [var_at H]
  exact rsqrt_coe (under_pos H.ε_pos _)
theorem half_at (R : Fin 16384) : (val_main_v33 (F := Ideal) x0 x1 x2 x3 x5 x6 (ix3 0 R 0) : EReal)
    = (-(1 / 2) * (Cert.Proof.Row.inv M.ε (ctr (M.h R)) / (mean (fun k => ctr (M.h R) k * ctr (M.h R) k) + M.ε)) : ℝ) := by
  pointwise [val_main_v33, val_main_v32, val_main_cst_6, val_main_v31]
  rw [inv_at H, var_at H, ofBits_neg_half, div_coe_coe (under_pos H.ε_pos _).ne', ← EReal.coe_mul]
theorem xh_at (R : Fin 16384) (j : Fin 1024) : (val_main_v35 (F := Ideal) x0 x1 x2 x3 x5 x6 (ix3 0 R j) : EReal) = (M.xh R j : ℝ) := by
  pointwise [val_main_v35, val_main_v34]
  rw [ctr_at' H, inv_at H, ← EReal.coe_mul]; rfl
theorem err_at (R : Fin 16384) (j : Fin 1024) : (val_main_v42 (F := Ideal) x0 x1 x2 x3 x4 x5 x6 x7 x8 (ix3 0 R j) : EReal) = (M.err R j : ℝ) := by
  pointwise [val_main_v42, val_main_v41, val_main_v40, val_main_v39, val_main_v38, val_main_v37, val_main_v36, val_main_v12, val_main_v11]
  rw [xh_at H, H.g, H.b, H.t, ← EReal.coe_mul, ← EReal.coe_add, ← EReal.coe_sub]; rfl
theorem dy_at (R : Fin 16384) (j : Fin 1024) : (val_main_v56 (F := Ideal) x0 x1 x2 x3 x4 x5 x6 x7 x8 (ix3 0 R j) : EReal) = (M.dy R j : ℝ) := by
  pointwise [val_main_v56, val_main_v55, val_main_v54, val_main_v53, val_main_cst_14, val_main_v52, val_main_v51, val_main_cst_13, val_main_cst_12, val_main_v45, val_main_v44, val_main_cst_7]
  simp only [err_at H, ofBits_1024, ofBits_half, ofBits_two, ← EReal.coe_one, ← EReal.coe_mul]
  rw [div_coe_coe (by norm_num), ← EReal.coe_mul]
  congr 1
  simp only [Model.dy]; ring
theorem G_at (R : Fin 16384) (j : Fin 1024) : (val_main_v64 (F := Ideal) x0 x1 x2 x3 x4 x5 x6 x7 x8 (ix3 0 R j) : EReal) = (M.dy R j * M.g j : ℝ) := by
  pointwise [val_main_v64, val_main_v63, val_main_v36, val_main_v11]
  rw [dy_at H, H.g, ← EReal.coe_mul]
theorem Gr_at (R : Fin 16384) (j : Fin 1024) : (val_main_v70 (F := Ideal) x0 x1 x2 x3 x4 x5 x6 x7 x8 (ix3 0 R j) : EReal) = (M.dy R j * M.g j * Cert.Proof.Row.inv M.ε (ctr (M.h R)) : ℝ) := by
  pointwise [val_main_v70, val_main_v69]
  rw [G_at H, inv_at H, ← EReal.coe_mul]
theorem back_at (R : Fin 16384) (j : Fin 1024) : (val_main_v80 (F := Ideal) x0 x1 x2 x3 x4 x5 x6 x7 x8 (ix3 0 R j) : EReal)
    = ((∑ k, ctr (M.h R) k * (M.dy R k * M.g k)) * (-(1 / 2) * (Cert.Proof.Row.inv M.ε (ctr (M.h R)) / (mean (fun k => ctr (M.h R) k * ctr (M.h R) k) + M.ε))) / 1024
      * (2 * ctr (M.h R) j) : ℝ) := by
  pointwise [val_main_v80, val_main_v79, val_main_v78, val_main_v77, val_main_cst_22, val_main_v21, val_main_v20, val_main_cst_2]
  rw [outer_ones]
  pointwise [val_main_v76, val_main_v75, val_main_cst_21, val_main_v71, val_main_v68, val_main_v67, val_main_cst_19, val_main_v66]
  simp only [ctr_at H, ctr_at' H, G_at H, half_at H, ofBits_1024, ofBits_two, ← EReal.coe_mul, ← coe_sum]
  rw [div_coe_coe (by norm_num), ← EReal.coe_mul]
theorem dh_at (R : Fin 16384) (j : Fin 1024) : (val_main_v91 (F := Ideal) x0 x1 x2 x3 x4 x5 x6 x7 x8 (ix3 0 R j) : EReal) = (M.dh R j : ℝ) := by
  pointwise [val_main_v91, val_main_v90, val_main_v89, val_main_v88, val_main_cst_25, val_main_v84]
  rw [outer_ones]
  pointwise [val_main_v87, val_main_v86, val_main_cst_24, val_main_v85, val_main_v83, val_main_v82, val_main_cst_23, val_main_v81, val_main_v74, val_main_v73, val_main_cst_20, val_main_v72]
  simp only [back_at H, Gr_at H, ofBits_1024, ← EReal.coe_neg, ← coe_sum, ← EReal.coe_add]
  rw [div_coe_coe (by norm_num), ← EReal.coe_add, Model.dh, lnGrad_eq H.ε_pos (by norm_num)]
  simp only [Nat.cast_ofNat]
theorem dm_at (R : Fin 16384) (j : Fin 1024) : (val_main_v95 (F := Ideal) x0 x1 x2 x3 x4 x5 x6 x7 x8 (ix3 0 R j) : EReal) = (M.dm R j : ℝ) := by
  pointwise [val_main_v95, val_main_v94, val_main_v7, val_main_v0]
  rw [dh_at H, H.gate, ← EReal.coe_mul]; rfl
theorem dcat_at (R : Fin 16384) (i : Fin 2048) : (val_main_v105 (F := Ideal) x0 x1 x2 x3 x4 x5 x6 x7 x8 (ix3 0 R i) : EReal) = (∑ j, M.dm R j * M.w i j : ℝ) := by
  pointwise [val_main_v105]
  simp only [dm_at H, w_at H, ← EReal.coe_mul, ← coe_sum]
theorem da_at (R : Fin 16384) (i : Fin 1024) : (val_main_v106 (F := Ideal) x0 x1 x2 x3 x4 x5 x6 x7 x8 (ix3 0 R i) : EReal) = (M.da R i : ℝ) := by
  pointwise [val_main_v106]
  rw [dcat_at H]
  simp only [Model.w_lo]; rfl

/-! ## The results -/

theorem loss_at (j : S_.Idx) : (val_main_v50 (F := Ideal) x0 x1 x2 x3 x4 x5 x6 x7 x8 j : EReal) = (1 / 2048 * ∑ i : Fin 1024, ∑ R : Fin 16384, M.err R i * M.err R i : ℝ) := by
  have e (R : Fin 16384) : (val_main_v48 (F := Ideal) x0 x1 x2 x3 x4 x5 x6 x7 x8 (ix2 0 R) : EReal) = ((∑ i, M.err R i * M.err R i) / 1024 : ℝ) := by
    pointwise [val_main_v48, val_main_v47, val_main_cst_9, val_main_v46, val_main_cst_8, val_main_v43]
    simp only [err_at H, ofBits_1024, ← EReal.coe_mul, ← coe_sum]
    rw [div_coe_coe (by norm_num)]
  pointwise [val_main_v50, val_main_cst_11]
  rw [val_main_v49_apply]
  pointwise [val_main_cst_10]
  rw [sum_idx2, Fin.sum_univ_one, ofBits_half]
  simp only [e, ← coe_sum, ← EReal.coe_mul]
  rw [← Finset.sum_div, Finset.sum_comm]
  congr 1
  ring
theorem gx_at (R : Fin 16384) (j : Fin 1024) : (val_main_v116 (F := Ideal) x0 x1 x2 x3 x4 x5 x6 x7 x8 (ix2 R j) : EReal) = (M.α * M.dh R j : ℝ) := by
  pointwise [val_main_v116, val_main_v102, val_main_v101, val_main_cst_28]
  rw [dh_at H, H.α, ← EReal.coe_mul]
theorem dov_at (R : Fin 16384) (i : Fin 1024) : (val_main_v109 (F := Ideal) x0 x1 x2 x3 x4 x5 x6 x7 x8 (ix3 0 R i) : EReal) = (M.dov R i : ℝ) := by
  pointwise [val_main_v109]
  rw [da_at H, silu_at H, ← EReal.coe_mul]; rfl
theorem dza_at (R : Fin 16384) (i : Fin 1024) : (val_main_v110 (F := Ideal) x0 x1 x2 x3 x4 x5 x6 x7 x8 (ix3 0 R i) : EReal) = (M.dza R i : ℝ) := by
  pointwise [val_main_v110, val_main_call1_v2, val_main_call1_v1, val_main_call1_v0, val_main_v108]
  simp only [da_at H, sgm_at H, slope_at H, H.o, H.z, ← EReal.coe_mul, ← EReal.coe_add]
  congr 1
  simp only [Model.dza]; ring
theorem ds3_at (R : Fin 16384) (i : Fin 1024) : (val_main_v107 (F := Ideal) x0 x1 x2 x3 x4 x5 x6 x7 x8 (ix3 0 R i) : EReal) = (M.ds R i : ℝ) := by
  pointwise [val_main_v107]
  rw [dcat_at H]
  simp only [Model.w_hi]; rfl
theorem do_at (R : Fin 16384) (i : Fin 1024) : (val_main_v118 (F := Ideal) x0 x1 x2 x3 x4 x5 x6 x7 x8 (ix2 R i) : EReal) = (M.dov R i : ℝ) := by
  pointwise [val_main_v118, val_main_v117]
  exact dov_at H R i
theorem dz_at (R : Fin 16384) (i : Fin 1024) : (val_main_v120 (F := Ideal) x0 x1 x2 x3 x4 x5 x6 x7 x8 (ix2 R i) : EReal) = (M.dza R i : ℝ) := by
  pointwise [val_main_v120, val_main_v119]
  exact dza_at H R i
theorem ds_at (R : Fin 16384) (i : Fin 1024) : (val_main_v121 (F := Ideal) x0 x1 x2 x3 x4 x5 x6 x7 x8 (ix2 R i) : EReal) = (M.ds R i : ℝ) := by
  pointwise [val_main_v121]
  exact ds3_at H R i
theorem dw_at (i : Fin 2048) (j : Fin 1024) : (val_main_v104 (F := Ideal) x0 x1 x2 x3 x4 x5 x6 x7 x8 (ix2 i j) : EReal) = (∑ R : Fin 16384, M.cat R i * M.dm R j : ℝ) := by
  pointwise [val_main_v104, val_main_v103]
  rw [Fin.sum_univ_one]
  simp only [dm_at H, cat_at H, ← EReal.coe_mul, ← coe_sum, mul_comm]
theorem dg_at (i : Fin 1024) : (val_main_v93 (F := Ideal) x0 x1 x2 x3 x4 x5 x6 x7 x8 (ix2 0 i) : EReal) = (∑ R : Fin 16384, M.dy R i * M.xh R i : ℝ) := by
  pointwise [val_main_v93, val_main_v65, val_main_cst_18]
  rw [first_ones]
  pointwise [val_main_v62, val_main_v61, val_main_cst_17, val_main_v60]
  simp only [dy_at H, xh_at H, ← EReal.coe_mul, ← coe_sum, mul_comm]
theorem db_at (i : Fin 1024) : (val_main_v92 (F := Ideal) x0 x1 x2 x3 x4 x5 x6 x7 x8 (ix2 0 i) : EReal) = (∑ R : Fin 16384, M.dy R i : ℝ) := by
  pointwise [val_main_v92, val_main_v59, val_main_cst_16]
  rw [first_ones]
  pointwise [val_main_v58, val_main_v57, val_main_cst_15]
  simp only [dy_at H, ← coe_sum]
theorem dgate_at (i : Fin 1024) : (val_main_v122 (F := Ideal) x0 x1 x2 x3 x4 x5 x6 x7 x8 (ix2 0 i) : EReal) = (∑ R : Fin 16384, M.dh R i * M.mixed R i : ℝ) := by
  pointwise [val_main_v122, val_main_v111, val_main_cst_29, val_main_v100, val_main_v99, val_main_cst_27]
  rw [first_ones]
  pointwise [val_main_v98, val_main_v97, val_main_cst_26, val_main_v96]
  simp only [dh_at H, mixed_at H, ← EReal.coe_mul, ← coe_sum]
theorem delta_at (h : Fin 8) (R : Fin 16384) : (val_main_v123 (F := Ideal) x0 x1 x2 x3 x4 x5 x6 x7 x8 (ix2 h R) : EReal) = (M.delta R h : ℝ) := by
  pointwise [val_main_v123, val_main_v115, val_main_cst_30, val_main_v114, val_main_v113, val_main_v112]
  simp only [dov_at H, H.o, ← EReal.coe_mul, ← coe_sum]
  rfl

end Cert.OutGradRefIdeal.Val

end
-- ==== Proof.OutEq.lean ====
module

public import proofs.«01_k».proof.Defs
public import proofs.«01_k».proof.Proof.OutArrays
public import proofs.«01_k».proof.Proof.OutRef
public import proofs.«01_k».proof.Proof.Gen.Pre_out_finite
public import Idealize.ShloMosaic.Lib.Claim
public import Idealize.ShloMosaic.Lib.ReduceAll

/-!
The output projection's gradient kernel and its reference end with equal results where the arguments are finite.
-/

@[expose] public section

set_option maxRecDepth 16384

noncomputable section

namespace Cert.Proof.Out

open Idealize.ShloMosaic Idealize.ShloMosaic.TcCoe Idealize.SL.Sem
open Cert.Proof.Row (real_of_lt ofBits_eps ofBits_alpha)

open Cert.Pre_out_finite in
/-- Arguments that the precondition holds of are a model's entries. -/
theorem holds_of [Facts] (x0 x1 x2 x3 x4 : FVec Ideal S1x16384x1024 .f32) (x5 : FVec Ideal S1x3072 .f32) (x6 : FVec Ideal S2048x1024 .f32)
    (x7 x8 : FVec Ideal S1x1024 .f32) (h : fn (F := Ideal) x0 x1 x2 x3 x4 x5 x6 x7 x8 = fun _ => 1#1) : ∃ M, Holds M x0 x1 x2 x3 x4 x5 x6 x7 x8 := by
  have h := congrFun h (fun a => a.elim0)
  unfold fn fn_part1 at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨-, h0⟩ := IntOp.andi_eq_one.1 h
  obtain ⟨ε, hε, eε⟩ := ofBits_eps
  obtain ⟨α, eα⟩ := ofBits_alpha
  exact ⟨⟨fun R i => (x0 (ix3 0 R i) : EReal).toReal, fun R i => (x1 (ix3 0 R i) : EReal).toReal, fun R i => (x2 (ix3 0 R i) : EReal).toReal,
      fun R i => (x3 (ix3 0 R i) : EReal).toReal, fun R i => (x4 (ix3 0 R i) : EReal).toReal, fun i => (x5 (ix2 0 ⟨2048 + i.val, by omega⟩) : EReal).toReal,
      fun k j => (x6 (ix2 ⟨k.val, by omega⟩ j) : EReal).toReal, fun k j => (x6 (ix2 ⟨1024 + k.val, by omega⟩ j) : EReal).toReal,
      fun i => (x7 (ix2 0 i) : EReal).toReal, fun i => (x8 (ix2 0 i) : EReal).toReal, α, ε⟩,
    ⟨fun R i => real_of_lt _ (Host.reduce_andi_all _ _ _ _ _ h0 _), fun R i => real_of_lt _ (Host.reduce_andi_all _ _ _ _ _ h1 _),
      fun R i => real_of_lt _ (Host.reduce_andi_all _ _ _ _ _ h2 _), fun R i => real_of_lt _ (Host.reduce_andi_all _ _ _ _ _ h3 _),
      fun R i => real_of_lt _ (Host.reduce_andi_all _ _ _ _ _ h4 _), fun i => real_of_lt _ (Host.reduce_andi_all _ _ _ _ _ h5 _),
      fun k j => real_of_lt _ (Host.reduce_andi_all _ _ _ _ _ h6 _), fun k j => real_of_lt _ (Host.reduce_andi_all _ _ _ _ _ h6 _),
      fun i => real_of_lt _ (Host.reduce_andi_all _ _ _ _ _ h7 _), fun i => real_of_lt _ (Host.reduce_andi_all _ _ _ _ _ h8 _), eα, eε, hε⟩⟩

open Cert.OutGradIdeal.Val Cert.OutGradIdeal.Gen in
theorem algebraic_out : Cert.algebraic_OutGradIdeal_OutGradRefIdeal_pre_out_finite (hOutGradIdeal := Cert.OutGradIdeal.Gen.facts)
    (hOutGradRefIdeal := Cert.OutGradRefIdeal.Gen.facts) (hPre_out_finite := Cert.Pre_out_finite.Gen.facts) := by
  intro m g m' g' hpre hagree
  refine ⟨fun c => StableHlo.after hostOps1 (atEnd m c) (Proc.devRef .tc Cert.OutGradIdeal.main_v17), fun c => (dats m 0 c).arrAt 10 Cert.OutGradIdeal.cfg0.N,
    fun c => (dats m 0 c).arrAt 11 Cert.OutGradIdeal.cfg0.N, fun c => (dats m 0 c).arrAt 12 Cert.OutGradIdeal.cfg0.N,
    fun c => (dats m 0 c).arrAt 13 Cert.OutGradIdeal.cfg0.N, fun c => (dats m 0 c).arrAt 15 Cert.OutGradIdeal.cfg0.N,
    fun c => StableHlo.after hostOps1 (atEnd m c) (Proc.devRef .tc Cert.OutGradIdeal.main_v18),
    fun c => StableHlo.after hostOps1 (atEnd m c) (Proc.devRef .tc Cert.OutGradIdeal.main_v19),
    fun c => StableHlo.after hostOps1 (atEnd m c) (Proc.devRef .tc Cert.OutGradIdeal.main_v20),
    fun c => StableHlo.after hostOps1 (atEnd m c) (Proc.devRef .tc Cert.OutGradIdeal.main_v21), ?_, ?_⟩
  · refine θ_run_mono (θ_run_and (run_main m g) (Cert.OutGradIdeal.Gen.frame m g)) fun r hr c => ?_
    exact ⟨(hr.1 c).2 Cert.OutGradIdeal.main_v17 (Pipeline.mem_restRefs_of _ (by decide) (by decide)), (hr.1 c).1 10, (hr.1 c).1 11, (hr.1 c).1 12,
      (hr.1 c).1 13, (hr.1 c).1 15, (hr.1 c).2 Cert.OutGradIdeal.main_v18 (Pipeline.mem_restRefs_of _ (by decide) (by decide)),
      (hr.1 c).2 Cert.OutGradIdeal.main_v19 (Pipeline.mem_restRefs_of _ (by decide) (by decide)),
      (hr.1 c).2 Cert.OutGradIdeal.main_v20 (Pipeline.mem_restRefs_of _ (by decide) (by decide)),
      (hr.1 c).2 Cert.OutGradIdeal.main_v21 (Pipeline.mem_restRefs_of _ (by decide) (by decide)), hr.2.1 c⟩
  · refine θ_run_mono (Cert.OutGradRefIdeal.Value.run m' g') fun r hr c => ?_
    obtain ⟨h0, h1, h2, h3, h4, h5, h6, h7, h8, h9, hargs⟩ := hr c
    obtain ⟨a0, a1, a2, a3, a4, a5, a6, a7, a8⟩ := hagree c
    obtain ⟨M, H⟩ := holds_of _ _ _ _ _ _ _ _ _ (hpre c)
    have H' := H
    rw [← a0, ← a1, ← a2, ← a3, ← a4, ← a5, ← a6, ← a7, ← a8] at H'
    refine ⟨h0.trans ?_, h1.trans ?_, h2.trans ?_, h3.trans ?_, h4.trans ?_, h5.trans ?_, h6.trans ?_, h7.trans ?_, h8.trans ?_, h9.trans ?_, hargs⟩
    · rw [Cert.OutGradRefIdeal.Read.val_main_v50_eq]
      funext j
      exact (Cert.OutGradRefIdeal.Val.loss_at H' j).trans (loss_end m c H j).symm
    · rw [Cert.OutGradRefIdeal.Read.val_main_v116_eq]
      refine Eq.trans ?_ (gx_arr m c H).symm
      funext j
      idx_vars j
      exact Cert.OutGradRefIdeal.Val.gx_at H' j0 j1
    · rw [Cert.OutGradRefIdeal.Read.val_main_v118_eq]
      refine Eq.trans ?_ (do_arr m c H).symm
      funext j
      idx_vars j
      exact Cert.OutGradRefIdeal.Val.do_at H' j0 j1
    · rw [Cert.OutGradRefIdeal.Read.val_main_v120_eq]
      refine Eq.trans ?_ (dza_arr m c H).symm
      funext j
      idx_vars j
      exact Cert.OutGradRefIdeal.Val.dz_at H' j0 j1
    · rw [Cert.OutGradRefIdeal.Read.val_main_v121_eq]
      refine Eq.trans ?_ (ds_arr m c H).symm
      funext j
      idx_vars j
      exact Cert.OutGradRefIdeal.Val.ds_at H' j0 j1
    · rw [Cert.OutGradRefIdeal.Read.val_main_v104_eq]
      refine Eq.trans ?_ (dw_arr m c H).symm
      funext j
      idx_vars j
      exact Cert.OutGradRefIdeal.Val.dw_at H' j0 j1
    · rw [Cert.OutGradRefIdeal.Read.val_main_v93_eq]
      funext j
      idx_vars j
      obtain rfl : j0 = 0 := Subsingleton.elim (α := Fin 1) _ _
      exact (Cert.OutGradRefIdeal.Val.dg_at H' j1).trans (dg_end m c H j1).symm
    · rw [Cert.OutGradRefIdeal.Read.val_main_v92_eq]
      funext j
      idx_vars j
      obtain rfl : j0 = 0 := Subsingleton.elim (α := Fin 1) _ _
      exact (Cert.OutGradRefIdeal.Val.db_at H' j1).trans (db_end m c H j1).symm
    · rw [Cert.OutGradRefIdeal.Read.val_main_v122_eq]
      funext j
      idx_vars j
      obtain rfl : j0 = 0 := Subsingleton.elim (α := Fin 1) _ _
      exact (Cert.OutGradRefIdeal.Val.dgate_at H' j1).trans (dgate_end m c H j1).symm
    · rw [Cert.OutGradRefIdeal.Read.val_main_v123_eq]
      funext j
      idx_vars j
      exact (Cert.OutGradRefIdeal.Val.delta_at H' j0 j1).trans (delta_end m c H j0 j1).symm

end Cert.Proof.Out

end
-- ==== Proof.LatModel.lean ====
module

public import proofs.«01_k».proof.Proof.RowModel
public import Idealize.ShloMosaic.Lib.Pipeline.ValueKit

/-!
The latent projections with their RMS norms and rotary embedding, and their gradients, in real numbers. Rows are tokens; the kernel
keeps a head's 192 columns in 256 lanes of which the last 64 meet zero weights.
-/

@[expose] public section

noncomputable section

namespace Cert.Proof.Lat

open Idealize.ShloMosaic Cert.Proof.Row

/-- A sum over `a` groups of `b`. -/
theorem sum_groups {N : ℕ} (a b : ℕ) (hN : a * b = N) (f : Fin N → ℝ) :
    ∑ k, f k = ∑ h : Fin a, ∑ l : Fin b, f ⟨h.val * b + l.val, by
      have := Nat.mul_le_mul_right b (Nat.succ_le_of_lt h.isLt); rw [Nat.succ_mul] at this; omega⟩ := by
  subst hN
  rw [← Equiv.sum_comp finProdFinEquiv, Fintype.sum_prod_type]
  refine Finset.sum_congr rfl fun h _ => Finset.sum_congr rfl fun l _ => congrArg f (Fin.ext ?_)
  simp only [finProdFinEquiv, Equiv.coe_fn_mk]
  ring

structure Model where
  ql : Fin 16384 → Fin 384 → ℝ
  cv : Fin 16384 → Fin 256 → ℝ
  pos : Fin 16384 → ℝ
  freq : Fin 32 → ℝ
  gq : Fin 384 → ℝ
  gk : Fin 256 → ℝ
  wq : Fin 384 → Fin 1536 → ℝ
  wk : Fin 256 → Fin 2048 → ℝ
  dq : Fin 16384 → Fin 8 → Fin 192 → ℝ
  dk : Fin 16384 → Fin 8 → Fin 192 → ℝ
  dv : Fin 16384 → Fin 8 → Fin 128 → ℝ
  σ : ℝ
  ε : ℝ

/-- A head's columns in the kernel's lanes. -/
def lanes (t : Fin 192 → ℝ) (l : Fin 256) : ℝ := if h : l.val < 192 then t ⟨l.val, h⟩ else 0

namespace Model
variable (M : Model)

/-- The frequencies over 128 lanes: once for each half of the rotated columns, zero beyond. -/
def freqs (l : Fin 128) : ℝ := if h : l.val < 32 then M.freq ⟨l.val, h⟩ else if h : l.val < 64 then M.freq ⟨l.val - 32, by omega⟩ else 0
def cs (R : Fin 16384) (l : Fin 128) : ℝ := Real.cos (M.pos R * M.freqs l)
def sn (R : Fin 16384) (l : Fin 128) : ℝ := Real.sin (M.pos R * M.freqs l)
/-- The rotary embedding's transpose, the way the kernel computes it on 128 lanes. -/
def rot (R : Fin 16384) (t : Fin 128 → ℝ) (l : Fin 128) : ℝ :=
  t l * M.cs R l - if l.val < 32 then 0 - t ⟨(l.val + 32) % 128, by omega⟩ * M.sn R ⟨(l.val + 32) % 128, by omega⟩
    else t ⟨(l.val + 96) % 128, by omega⟩ * M.sn R ⟨(l.val + 96) % 128, by omega⟩
/-- The same on the 64 columns it is about. -/
def rope (R : Fin 16384) (t : Fin 64 → ℝ) (l : Fin 64) : ℝ :=
  if h : l.val < 32 then t ⟨l.val + 32, by omega⟩ * Real.sin (M.pos R * M.freq ⟨l.val, h⟩) + t l * Real.cos (M.pos R * M.freq ⟨l.val, h⟩)
  else t l * Real.cos (M.pos R * M.freq ⟨l.val - 32, by omega⟩) + -t ⟨l.val - 32, by omega⟩ * Real.sin (M.pos R * M.freq ⟨l.val - 32, by omega⟩)

theorem rot_eq (R : Fin 16384) (t : Fin 128 → ℝ) (l : Fin 64) : M.rot R t ⟨l.val, by omega⟩ = M.rope R (fun l => t ⟨l.val, by omega⟩) l := by
  have h96 : ∀ h : ¬ l.val < 32, (l.val + 96) % 128 = l.val - 32 := fun h => by omega
  have h32 : (l.val + 32) % 128 = l.val + 32 := by omega
  simp only [rot, rope, cs, sn, freqs]
  by_cases h : l.val < 32
  · simp only [h, if_true, dif_pos, h32, show ¬ l.val + 32 < 32 by omega, show l.val + 32 < 64 by omega, dif_neg, not_false_iff, Nat.add_sub_cancel]
    ring
  · simp only [h, if_false, dif_neg, not_false_iff, h96 h, show l.val < 64 from l.isLt, dif_pos, show l.val - 32 < 32 by omega]
    ring

/-- The kernel's gradient of a head's query columns. -/
def dqw (R : Fin 16384) (h : Fin 8) (l : Fin 256) : ℝ :=
  if hl : l.val < 128 then lanes (M.dq R h) l * M.σ else M.rot R (fun l => lanes (M.dq R h) ⟨128 + l.val, by omega⟩) ⟨l.val - 128, by omega⟩ * M.σ
def dqf (R : Fin 16384) (k : Fin 2048) : ℝ := M.dqw R ⟨k.val / 256, by omega⟩ ⟨k.val % 256, by omega⟩
/-- The weight with 64 zero columns after each head. -/
def wqp (i : Fin 384) (k : Fin 2048) : ℝ := if h : k.val % 256 < 192 then M.wq i ⟨k.val / 256 * 192 + k.val % 256, by omega⟩ else 0
/-- The gradient of the query columns without padding. -/
def dqh (R : Fin 16384) (h : Fin 8) (e : Fin 192) : ℝ :=
  if he : e.val < 128 then M.dq R h e * M.σ else M.rope R (fun l => M.dq R h ⟨128 + l.val, by omega⟩ * M.σ) ⟨e.val - 128, by omega⟩
def dqs (R : Fin 16384) (k : Fin 1536) : ℝ := M.dqh R ⟨k.val / 192, by omega⟩ ⟨k.val % 192, by omega⟩

theorem dqw_eq (R : Fin 16384) (h : Fin 8) (e : Fin 192) : M.dqw R h ⟨e.val, by omega⟩ = M.dqh R h e := by
  simp only [dqw, dqh]
  by_cases he : e.val < 128
  · simp only [he, dif_pos, lanes, show e.val < 192 from e.isLt]
  · simp only [he, dif_neg, not_false_iff]
    rw [M.rot_eq R _ ⟨e.val - 128, by omega⟩]
    simp only [rope, lanes]
    by_cases h2 : e.val - 128 < 32
    · simp only [h2, dif_pos, show 128 + (e.val - 128 + 32) < 192 by omega, show 128 + (e.val - 128) < 192 by omega]; ring
    · simp only [h2, dif_neg, not_false_iff, show 128 + (e.val - 128) < 192 by omega, show 128 + (e.val - 128 - 32) < 192 by omega, dif_pos]; ring

theorem dqf_at (R : Fin 16384) (k : Fin 1536) : M.dqf R ⟨k.val / 192 * 256 + k.val % 192, by omega⟩ = M.dqs R k := by
  have e1 : (k.val / 192 * 256 + k.val % 192) / 256 = k.val / 192 := by omega
  have e2 : (k.val / 192 * 256 + k.val % 192) % 256 = k.val % 192 := by omega
  simp only [dqf, dqs, e1, e2]
  exact M.dqw_eq R _ ⟨k.val % 192, by omega⟩

def dqn (R : Fin 16384) (i : Fin 384) : ℝ := ∑ k, M.dqf R k * M.wqp i k
theorem dqn_eq (R : Fin 16384) (i : Fin 384) : M.dqn R i = ∑ k, M.dqs R k * M.wq i k := by
  rw [dqn, sum_groups 8 256 rfl, sum_groups 8 192 rfl]
  refine Finset.sum_congr rfl fun h _ => ?_
  rw [Fin.sum_univ_two_halves 192 64 rfl]
  refine (congrArg₂ (· + ·) (Finset.sum_congr rfl fun e _ => ?_) (Finset.sum_eq_zero fun e _ => ?_)).trans (add_zero _)
  · have e1 : (h.val * 256 + e.val) / 256 = h.val := by omega
    have e2 : (h.val * 256 + e.val) % 256 = e.val := by omega
    have e3 : (h.val * 192 + e.val) / 192 = h.val := by omega
    have e4 : (h.val * 192 + e.val) % 192 = e.val := by omega
    simp only [dqf, wqp, dqs, e1, e2, e3, e4, show e.val < 192 from e.isLt, dif_pos, dqw_eq]
  · have e2 : (h.val * 256 + (192 + e.val)) % 256 = 192 + e.val := by omega
    simp only [wqp, e2, show ¬ 192 + e.val < 192 by omega, dif_neg, not_false_iff, mul_zero]
def qh (R : Fin 16384) (i : Fin 384) : ℝ := M.ql R i * inv M.ε (M.ql R)
def dql (R : Fin 16384) (i : Fin 384) : ℝ := rmsGrad M.ε (M.ql R) (fun i => M.dqn R i * M.gq i) i

/-- The gradients of the keys and of the values, and the two parts of the weight that make them, head after head. -/
def dkf (R : Fin 16384) (k : Fin 1024) : ℝ := M.dk R ⟨k.val / 128, by omega⟩ ⟨k.val % 128, by omega⟩
def dvf (R : Fin 16384) (k : Fin 1024) : ℝ := M.dv R ⟨k.val / 128, by omega⟩ ⟨k.val % 128, by omega⟩
def wkk (i : Fin 256) (k : Fin 1024) : ℝ := M.wk i ⟨k.val / 128 * 256 + k.val % 128, by omega⟩
def wkv (i : Fin 256) (k : Fin 1024) : ℝ := M.wk i ⟨k.val / 128 * 256 + 128 + k.val % 128, by omega⟩
def dkn (R : Fin 16384) (i : Fin 256) : ℝ := ∑ k, M.dkf R k * M.wkk i k + ∑ k, M.dvf R k * M.wkv i k
/-- A head's keys and values side by side. -/
def dkv (R : Fin 16384) (k : Fin 2048) : ℝ :=
  if h : k.val % 256 < 128 then M.dk R ⟨k.val / 256, by omega⟩ ⟨k.val % 256, by omega⟩ else M.dv R ⟨k.val / 256, by omega⟩ ⟨k.val % 256 - 128, by omega⟩
theorem dkn_eq (R : Fin 16384) (i : Fin 256) : M.dkn R i = ∑ k, M.dkv R k * M.wk i k := by
  rw [dkn, sum_groups 8 256 rfl, sum_groups 8 128 rfl, sum_groups 8 128 rfl, ← Finset.sum_add_distrib]
  refine Finset.sum_congr rfl fun h _ => ?_
  rw [Fin.sum_univ_two_halves 128 128 rfl]
  refine congrArg₂ (· + ·) (Finset.sum_congr rfl fun e _ => ?_) (Finset.sum_congr rfl fun e _ => ?_)
  · have e1 : (h.val * 256 + e.val) / 256 = h.val := by omega
    have e2 : (h.val * 256 + e.val) % 256 = e.val := by omega
    have e3 : (h.val * 128 + e.val) / 128 = h.val := by omega
    have e4 : (h.val * 128 + e.val) % 128 = e.val := by omega
    simp only [dkf, wkk, dkv, e1, e2, e3, e4, show e.val < 128 from e.isLt, dif_pos]
  · have e1 : (h.val * 256 + (128 + e.val)) / 256 = h.val := by omega
    have e2 : (h.val * 256 + (128 + e.val)) % 256 = 128 + e.val := by omega
    have e3 : (h.val * 128 + e.val) / 128 = h.val := by omega
    have e4 : (h.val * 128 + e.val) % 128 = e.val := by omega
    have e5 : 128 + e.val - 128 = e.val := by omega
    simp only [dvf, wkv, dkv, e1, e2, e3, e4, e5, show ¬ 128 + e.val < 128 by omega, dif_neg, not_false_iff, Nat.add_assoc]
def kh (R : Fin 16384) (i : Fin 256) : ℝ := M.cv R i * inv M.ε (M.cv R)
def dcv (R : Fin 16384) (i : Fin 256) : ℝ := rmsGrad M.ε (M.cv R) (fun i => M.dkn R i * M.gk i) i
/-- The gradient of the shared rotated key columns, over the kernel's lanes. -/
def dkr (R : Fin 16384) (l : Fin 128) : ℝ :=
  if l.val < 64 then M.rot R (fun l => ∑ h, lanes (M.dk R h) ⟨128 + l.val, by omega⟩) l else 0
def dks (R : Fin 16384) (l : Fin 64) : ℝ := M.rope R (fun l => ∑ h, M.dk R h ⟨128 + l.val, by omega⟩) l
theorem dkr_eq (R : Fin 16384) (l : Fin 64) : M.dkr R ⟨l.val, by omega⟩ = M.dks R l := by
  rw [dkr, if_pos l.isLt, rot_eq, dks]
  congr 1
  funext l
  exact Finset.sum_congr rfl fun h _ => dif_pos (show 128 + l.val < 192 by omega)

/-- The weight gradients over the kernel's columns. -/
def gwq (i : Fin 384) (k : Fin 2048) : ℝ := ∑ R : Fin 16384, M.qh R i * M.gq i * M.dqf R k
def gwk (i : Fin 256) (k : Fin 1024) : ℝ := ∑ R : Fin 16384, M.kh R i * M.gk i * M.dkf R k
def gwv (i : Fin 256) (k : Fin 1024) : ℝ := ∑ R : Fin 16384, M.kh R i * M.gk i * M.dvf R k
end Model

/-- The frequency of column `k`: one over 10000 to the power `k / 32`. -/
def freqOf (k : ℕ) : EReal :=
  Ideal.div 1 (Ideal.pow (Ideal.ofBits .f32 0x461C4000#32) (Ideal.div (FloatOps.sitofp (F := Ideal) .f32 (BitVec.ofNat 32 k)) (Ideal.ofBits .f32 0x42000000#32)))

/-- The ten arguments hold the model's entries. -/
structure Holds (M : Model) (x0 : Vec Ideal ⟨3, ![1, 16384, 384]⟩ .f32) (x1 : Vec Ideal ⟨3, ![1, 16384, 320]⟩ .f32) (x2 : Vec Ideal ⟨2, ![1, 16384]⟩ .i32)
    (x3 : Vec Ideal ⟨2, ![1, 384]⟩ .f32) (x4 : Vec Ideal ⟨2, ![384, 1536]⟩ .f32) (x5 : Vec Ideal ⟨2, ![1, 256]⟩ .f32) (x6 : Vec Ideal ⟨2, ![256, 2048]⟩ .f32)
    (x7 x8 : Vec Ideal ⟨4, ![1, 16384, 8, 192]⟩ .f32) (x9 : Vec Ideal ⟨4, ![1, 16384, 8, 128]⟩ .f32) : Prop where
  ql : ∀ R i, (x0 (ix3 0 R i) : EReal) = (M.ql R i : ℝ)
  cv : ∀ (R : Fin 16384) (i : Fin 256), (x1 (ix3 0 R ⟨i.val, by omega⟩) : EReal) = (M.cv R i : ℝ)
  pos : ∀ R, (FloatOps.sitofp (F := Ideal) .f32 (x2 (ix2 0 R) : BitVec 32) : EReal) = (M.pos R : ℝ)
  gq : ∀ i, (x3 (ix2 0 i) : EReal) = (M.gq i : ℝ)
  wq : ∀ i k, (x4 (ix2 i k) : EReal) = (M.wq i k : ℝ)
  gk : ∀ i, (x5 (ix2 0 i) : EReal) = (M.gk i : ℝ)
  wk : ∀ i k, (x6 (ix2 i k) : EReal) = (M.wk i k : ℝ)
  dq : ∀ R h e, (x7 (ix4 0 R h e) : EReal) = (M.dq R h e : ℝ)
  dk : ∀ R h e, (x8 (ix4 0 R h e) : EReal) = (M.dk R h e : ℝ)
  dv : ∀ R h e, (x9 (ix4 0 R h e) : EReal) = (M.dv R h e : ℝ)
  freq : ∀ k : Fin 32, freqOf k.val = (M.freq k : EReal)
  σ : Ideal.ofBits .f32 0x3D93CD3A#32 = (M.σ : EReal)
  ε : Ideal.ofBits .f32 0x358637BD#32 = (M.ε : EReal)
  ε_pos : 0 < M.ε

theorem ofBits_scale : ∃ σ : ℝ, Ideal.ofBits .f32 0x3D93CD3A#32 = (σ : EReal) :=
  ⟨9686330 / 2 ^ 27, by simp [Ideal.ofBits, Ideal.ieee, -EReal.coe_mul]; norm_num⟩
theorem ofBits_rms : ∃ ε : ℝ, 0 < ε ∧ Ideal.ofBits .f32 0x358637BD#32 = (ε : EReal) :=
  ⟨8796093 / 2 ^ 43, by norm_num, by simp [Ideal.ofBits, Ideal.ieee, -EReal.coe_mul]; norm_num⟩
theorem ofBits_384 : Ideal.ofBits .f32 0x43C00000#32 = ((384 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
/-- Each frequency is a real number. -/
theorem freqOf_real (k : ℕ) : ∃ f : ℝ, freqOf k = (f : EReal) := by
  have h1 : (1 : EReal) = ((1 : ℝ) : EReal) := EReal.coe_one.symm
  have h4 : (FloatOps.sitofp (F := Ideal) .f32 (BitVec.ofNat 32 k) : EReal) = (((BitVec.ofNat 32 k).toInt : ℝ) : EReal) := rfl
  have h2 : Ideal.ofBits .f32 0x461C4000#32 = ((10000 : ℝ) : EReal) := by simp [Ideal.ofBits, Ideal.ieee, -EReal.coe_mul]; norm_num
  have h3 : Ideal.ofBits .f32 0x42000000#32 = ((32 : ℝ) : EReal) := by simp [Ideal.ofBits, Ideal.ieee, -EReal.coe_mul]; norm_num
  rw [freqOf, h1, h2, h3, h4, Cert.Proof.Attn.div_coe_coe (by norm_num), Ideal.pow_coe_coe]
  exact ⟨_, Cert.Proof.Attn.div_coe_coe (Real.rpow_pos_of_pos (by norm_num) _).ne' _⟩

end Cert.Proof.Lat

end
-- ==== Proof.LatPay.lean ====
module

public import proofs.«01_k».proof.Proof.Gen.LatGradIdeal.Skeleton
public import proofs.«01_k».proof.Proof.LatModel
public import Idealize.ShloMosaic.Lib.Pipeline.ValueKit
public import Idealize.ShloMosaic.Lib.Pipeline.Value
public import Idealize.ShloMosaic.Lib.Pointwise

/-!
What half a grid point of the latent projections' gradient kernel computes from blocks that hold 256 rows of the model. The two
halves compute the same functions of their blocks; each is read once, in whichever of the two writings names its parts.
-/

@[expose] public section

set_option maxRecDepth 16384

noncomputable section

namespace Cert.LatGradIdeal.Val

open Idealize.ShloMosaic Idealize.ShloMosaic.TcCoe Idealize.SL.Sem
open Cert.LatGradIdeal Cert.LatGradIdeal.Gen Cert.Proof.Row
open Cert.Proof.Attn (coe_sum div_coe_coe)
open Cert.Proof.Lat (Model lanes ofBits_384 ofBits_256)

/-- The blocks of half a point hold the rows `τ r` of the model, head by head where there are heads. -/
structure Blocks (M : Model) (τ : Fin 256 → Fin 16384) (p : Vec Ideal S256x1 .i32) (f : Vec Ideal S1x128 .f32) (d : Fin 8 → Vec Ideal S1x256x256 .f32)
    (x : Vec Ideal S256x384 .f32) (g : Vec Ideal S1x384 .f32) (w : Vec Ideal S384x2048 .bf16) (k v e : Fin 8 → Vec Ideal S1x256x128 .f32)
    (y : Vec Ideal S256x256 .f32) (q : Vec Ideal S1x256 .f32) (a b : Vec Ideal S256x1024 .bf16) : Prop where
  pos : ∀ r, (FloatOps.sitofp (F := Ideal) .f32 (p (ix2 r 0) : BitVec 32) : EReal) = (M.pos (τ r) : ℝ)
  freq : ∀ l, (f (ix2 0 l) : EReal) = (M.freqs l : ℝ)
  dq : ∀ h r l, (d h (ix3 0 r l) : EReal) = (lanes (M.dq (τ r) h) l : ℝ)
  ql : ∀ r i, (x (ix2 r i) : EReal) = (M.ql (τ r) i : ℝ)
  gq : ∀ i, (g (ix2 0 i) : EReal) = (M.gq i : ℝ)
  wq : ∀ i k, (w (ix2 i k) : EReal) = (M.wqp i k : ℝ)
  dk : ∀ (h : Fin 8) (r : Fin 256) (l : Fin 128), (k h (ix3 0 r l) : EReal) = (M.dk (τ r) h ⟨l.val, by omega⟩ : ℝ)
  dv : ∀ h r l, (v h (ix3 0 r l) : EReal) = (M.dv (τ r) h l : ℝ)
  dr : ∀ (h : Fin 8) (r : Fin 256) (l : Fin 128), (e h (ix3 0 r l) : EReal) = (lanes (M.dk (τ r) h) ⟨128 + l.val, by omega⟩ : ℝ)
  cv : ∀ r i, (y (ix2 r i) : EReal) = (M.cv (τ r) i : ℝ)
  gk : ∀ i, (q (ix2 0 i) : EReal) = (M.gk i : ℝ)
  wk : ∀ i k, (a (ix2 i k) : EReal) = (M.wkk i k : ℝ)
  wv : ∀ i k, (b (ix2 i k) : EReal) = (M.wkv i k : ℝ)
  σ : Ideal.ofBits .f32 0x3D93CD3A#32 = (M.σ : EReal)
  ε : Ideal.ofBits .f32 0x358637BD#32 = (M.ε : EReal)
  ε_pos : 0 < M.ε

variable {M : Model} {τ : Fin 256 → Fin 16384} {p : Vec Ideal S256x1 .i32} {f : Vec Ideal S1x128 .f32} {d : Fin 8 → Vec Ideal S1x256x256 .f32}
    {x : Vec Ideal S256x384 .f32} {g : Vec Ideal S1x384 .f32} {w : Vec Ideal S384x2048 .bf16} {k v e : Fin 8 → Vec Ideal S1x256x128 .f32}
    {y : Vec Ideal S256x256 .f32} {q : Vec Ideal S1x256 .f32} {a b : Vec Ideal S256x1024 .bf16}

/-- The sixteen half heads of the gradient of the queries, every second one rotated back, all scaled. -/
def dqPiece (c s : FVec Ideal S256x128 .f32) (d : Fin 8 → Vec Ideal S1x256x256 .f32) (n : Fin 16) : FVec Ideal S256x128 .f32 :=
  if n.val % 2 = 0 then k0_pay13 (d ⟨n.val / 2, by omega⟩) else k0_pay14 c s (d ⟨n.val / 2, by omega⟩)
/-- They side by side. -/
def dqBlock (c s : FVec Ideal S256x128 .f32) (d : Fin 8 → Vec Ideal S1x256x256 .f32) : FVec Ideal S256x2048 .bf16 :=
  truncf .bf16 (concatenate S256x2048 1 (List.ofFn fun n : Fin 16 => ⟨S256x128, dqPiece c s d n⟩)
    concatenates_S256x128_S256x128_S256x128_S256x128_S256x128_S256x128_S256x128_S256x128_S256x128_S256x128_S256x128_S256x128_S256x128_S256x128_S256x128_S256x128_S256x2048_d1) bitsLt_bf16_f32
/-- Eight heads' blocks side by side. -/
def headBlock (k : Fin 8 → Vec Ideal S1x256x128 .f32) : FVec Ideal S256x1024 .bf16 :=
  truncf .bf16 (concatenate S256x1024 1 (List.ofFn fun n : Fin 8 => ⟨S256x128, k0_pay42 (k n)⟩)
    concatenates_S256x128_S256x128_S256x128_S256x128_S256x128_S256x128_S256x128_S256x128_S256x1024_d1) bitsLt_bf16_f32
theorem dq_first (p : Vec Ideal S256x1 .i32) (f : Vec Ideal S1x128 .f32) (d : Fin 8 → Vec Ideal S1x256x256 .f32) :
    k0_pay33 (k0_pay7 p f) (k0_pay8 p f) (k0_pay10 (d 0)) (k0_pay11 p f (d 0)) (k0_pay13 (d 1)) (k0_pay14 (k0_pay7 p f) (k0_pay8 p f) (d 1))
      (k0_pay16 (d 2)) (k0_pay17 (k0_pay7 p f) (k0_pay8 p f) (d 2)) (k0_pay19 (d 3)) (k0_pay20 (k0_pay7 p f) (k0_pay8 p f) (d 3))
      (k0_pay22 (d 4)) (k0_pay25 (k0_pay23 (k0_pay7 p f) (k0_pay8 p f) (d 4)) k0_pay24) (k0_pay27 (d 5)) (k0_pay28 (k0_pay7 p f) (k0_pay8 p f) (d 5))
      (k0_pay30 (d 6)) (k0_pay31 (d 6)) (k0_pay32 (k0_pay8 p f) (d 6)) (d 7) = dqBlock (k0_pay7 p f) (k0_pay8 p f) d := rfl
theorem dk_first (k : Fin 8 → Vec Ideal S1x256x128 .f32) :
    k0_pay49 (k0_pay42 (k 0)) (k0_pay43 (k 1)) (k0_pay44 (k 2)) (k0_pay45 (k 3)) (k0_pay46 (k 4)) (k0_pay47 (k 5)) (k0_pay48 (k 6)) (k 7) = headBlock k := rfl
theorem dv_first (k : Fin 8 → Vec Ideal S1x256x128 .f32) :
    k0_pay56 (k0_pay50 (k 0)) (k0_pay51 (k 1)) (k0_pay52 (k 2)) (k0_pay53 (k 3)) (k0_pay54 (k 4)) (k0_pay55 (k 5)) (k 6) (k 7) = headBlock k := rfl
theorem dk_second (k : Fin 8 → Vec Ideal S1x256x128 .f32) :
    k0_pay115 (k0_pay111 (k 0)) (k0_pay112 (k 1)) (k0_pay113 (k 2)) (k0_pay114 (k 3)) (k 4) (k 5) (k 6) (k 7) = headBlock k := rfl
theorem dv_second (k : Fin 8 → Vec Ideal S1x256x128 .f32) :
    k0_pay119 (k0_pay116 (k 0)) (k0_pay117 (k 1)) (k0_pay118 (k 2)) (k 3) (k 4) (k 5) (k 6) (k 7) = headBlock k := rfl

variable (B : Blocks M τ p f d x g w k v e y q a b)
include B

theorem cs_pay (r : Fin 256) (l : Fin 128) : (k0_pay7 p f (ix2 r l) : EReal) = (M.cs (τ r) l : ℝ) := by
  pointwise [k0_pay7, k0_pay6]
  rw [B.pos, B.freq, ← EReal.coe_mul, Ideal.cos_coe]; rfl
theorem sn_pay (r : Fin 256) (l : Fin 128) : (k0_pay8 p f (ix2 r l) : EReal) = (M.sn (τ r) l : ℝ) := by
  pointwise [k0_pay8, k0_pay6]
  rw [B.pos, B.freq, ← EReal.coe_mul, Ideal.sin_coe]; rfl
theorem dn_pay (h : Fin 8) (r : Fin 256) (l : Fin 128) : (k0_pay13 (d h) (ix2 r l) : EReal) = (M.dqw (τ r) h ⟨l.val, by omega⟩ : ℝ) := by
  pointwise [k0_pay13, k0_pay12]
  rw [B.dq, B.σ, ← EReal.coe_mul, Model.dqw, dif_pos l.isLt]
omit B in
theorem select_lt (l : Fin 128) (u v : EReal) : Scalar.select (IntOp.cmpi .slt (BitVec.ofNat 32 l.val) 32#32) u v = if l.val < 32 then u else v := by
  have e : ∀ l : Fin 128, IntOp.cmpi .slt (BitVec.ofNat 32 l.val) 32#32 = if l.val < 32 then 1#1 else 0#1 := by decide
  rw [e]; split <;> rfl
omit B in
theorem select_lt_64 (l : Fin 128) (u v : EReal) : Scalar.select (IntOp.cmpi .slt (BitVec.ofNat 32 l.val) 64#32) u v = if l.val < 64 then u else v := by
  have e : ∀ l : Fin 128, IntOp.cmpi .slt (BitVec.ofNat 32 l.val) 64#32 = if l.val < 64 then 1#1 else 0#1 := by decide
  rw [e]; split <;> rfl
omit B in
/-- The rotation of real lanes is the model's. -/
theorem rot_coe (M : Model) (R : Fin 16384) (t : Fin 128 → ℝ) (l : Fin 128) :
    ((t l : ℝ) : EReal) * (M.cs R l : ℝ) - (if l.val < 32 then (0 : EReal) - ((t ⟨(l.val + 128 - 96) % 128, by omega⟩ : ℝ) : EReal) * (M.sn R ⟨(l.val + 128 - 96) % 128, by omega⟩ : ℝ)
      else ((t ⟨(l.val + 128 - 32) % 128, by omega⟩ : ℝ) : EReal) * (M.sn R ⟨(l.val + 128 - 32) % 128, by omega⟩ : ℝ)) = (M.rot R t l : ℝ) := by
  have e1 : l.val + 128 - 96 = l.val + 32 := by omega
  have e2 : l.val + 128 - 32 = l.val + 96 := by omega
  simp only [Model.rot, e1, e2, ← EReal.coe_mul, ← EReal.coe_zero, ← EReal.coe_sub]
  split <;> rw [← EReal.coe_sub]
theorem dr_pay (h : Fin 8) (r : Fin 256) (l : Fin 128) :
    (k0_pay14 (k0_pay7 p f) (k0_pay8 p f) (d h) (ix2 r l) : EReal) = (M.dqw (τ r) h ⟨128 + l.val, by omega⟩ : ℝ) := by
  pointwise [k0_pay14, k0_pay12]
  simp only [select_lt, B.dq, cs_pay B, sn_pay B, B.σ]
  rw [Model.dqw, dif_neg (by simp)]
  simp only [Nat.add_sub_cancel_left]
  rw [EReal.coe_mul, ← rot_coe]
theorem dq_pay (r : Fin 256) (k : Fin 2048) : (dqBlock (k0_pay7 p f) (k0_pay8 p f) d (ix2 r k) : EReal) = (M.dqf (τ r) k : ℝ) := by
  have e : dqBlock (k0_pay7 p f) (k0_pay8 p f) d (ix2 r k) = dqPiece (k0_pay7 p f) (k0_pay8 p f) d ⟨k.val / 128, by omega⟩ (ix2 r ⟨k.val % 128, by omega⟩) :=
    concatenate_ofFn_apply (t := S256x2048) (s₁ := S256x128) 1 (dqPiece (k0_pay7 p f) (k0_pay8 p f) d) concatenates_S256x128_S256x128_S256x128_S256x128_S256x128_S256x128_S256x128_S256x128_S256x128_S256x128_S256x128_S256x128_S256x128_S256x128_S256x128_S256x128_S256x2048_d1 rfl 128 rfl (ix2 r k) ⟨k.val / 128, by omega⟩ rfl
      (ix2 r ⟨k.val % 128, by omega⟩) rfl (fun b hb => by fin_cases b <;> first | exact absurd rfl hb | rfl)
  rw [e, Model.dqf, dqPiece]
  have e1 : k.val / 128 / 2 = k.val / 256 := by omega
  by_cases h : (k.val / 128) % 2 = 0
  · rw [if_pos h, dn_pay B]
    simp only [e1, show k.val % 128 = k.val % 256 by omega]
  · rw [if_neg h, dr_pay B]
    simp only [e1, show 128 + k.val % 128 = k.val % 256 by omega]
omit B in
theorem head_at (k : Fin 8 → Vec Ideal S1x256x128 .f32) (r : Fin 256) (n : Fin 1024) :
    headBlock k (ix2 r n) = k ⟨n.val / 128, by omega⟩ (ix3 0 r ⟨n.val % 128, by omega⟩) := by
  refine Eq.trans (b := k0_pay42 (k ⟨n.val / 128, by omega⟩) (ix2 r ⟨n.val % 128, by omega⟩)) ?_ (by pointwise [k0_pay42])
  exact concatenate_ofFn_apply (t := S256x1024) (s₁ := S256x128) 1 (fun n => k0_pay42 (k n)) concatenates_S256x128_S256x128_S256x128_S256x128_S256x128_S256x128_S256x128_S256x128_S256x1024_d1 rfl 128 rfl (ix2 r n) ⟨n.val / 128, by omega⟩ rfl (ix2 r ⟨n.val % 128, by omega⟩) rfl
      (fun b hb => by fin_cases b <;> first | exact absurd rfl hb | rfl)
theorem dk_pay (r : Fin 256) (n : Fin 1024) : (headBlock k (ix2 r n) : EReal) = (M.dkf (τ r) n : ℝ) := by
  rw [head_at, B.dk]; rfl
theorem dv_pay (r : Fin 256) (n : Fin 1024) : (headBlock v (ix2 r n) : EReal) = (M.dvf (τ r) n : ℝ) := by
  rw [head_at, B.dv]; rfl

omit B
/-- The gradient of the normalised query latents, before the norm's scale. -/
def latBlock (u : FVec Ideal S256x2048 .bf16) (w : Vec Ideal S384x2048 .bf16) : FVec Ideal S256x384 .f32 :=
  matmul (φ₁ := FTy.bf16) (φ₂ := FTy.bf16) dot_S256x2048_S384x2048_S256x384_1_1_0_0_n_n none u (shapeCast S384x2048 w shapeCasts_S384x2048_S384x2048) (constant S256x384 .f32 0x00000000#32)
include B
local notation "N" => latBlock (dqBlock (k0_pay7 p f) (k0_pay8 p f) d) w
local notation "E" => (Ideal.ofBits FTy.f32 0x358637BD#32 : Ideal FTy.f32)
theorem dqn_pay (r : Fin 256) (i : Fin 384) : (N (ix2 r i) : EReal) = (M.dqn (τ r) i : ℝ) := by
  pointwise [latBlock]
  simp only [dq_pay B, B.wq, ← EReal.coe_mul, ← coe_sum]; rfl
theorem qi_pay (r : Fin 256) : (k0_pay37 (k0_pay36 x) E (ix2 r 0) : EReal) = (inv M.ε (M.ql (τ r)) : ℝ) := by
  pointwise [k0_pay37, k0_pay36, k0_pay34]
  simp only [B.ql, ofBits_384, B.ε, ← EReal.coe_mul, ← coe_sum]
  rw [div_coe_coe (by norm_num), ← EReal.coe_add]
  have e := rsqrt_coe (under_pos B.ε_pos (M.ql (τ r)))
  simp only [mean, Nat.cast_ofNat] at e
  rw [e]
  simp only [Cert.Proof.Row.inv, mean, Nat.cast_ofNat]
theorem qh_pay (r : Fin 256) (i : Fin 384) : (k0_pay38 (k0_pay34 x) (k0_pay36 x) E (ix2 r i) : EReal) = (M.qh (τ r) i : ℝ) := by
  pointwise [k0_pay38, k0_pay34]
  rw [qi_pay B, B.ql, ← EReal.coe_mul]; rfl
theorem dqg_pay (u : Vec Ideal S1x384 .f32) (i : Fin 384) :
    (k0_pay39 (k0_pay34 x) N (k0_pay36 x) E u (ix2 0 i) : EReal) = u (ix2 0 i) + ((∑ r, M.dqn (τ r) i * M.qh (τ r) i : ℝ) : EReal) := by
  pointwise [k0_pay39]
  simp only [dqn_pay B, qh_pay B, ← EReal.coe_mul, ← coe_sum]
theorem dwq_pay (u : Vec Ideal S384x2048 .f32) (i : Fin 384) (n : Fin 2048) :
    (k0_pay40 (dqBlock (k0_pay7 p f) (k0_pay8 p f) d) (k0_pay34 x) g (k0_pay36 x) E u (ix2 i n) : EReal)
      = u (ix2 i n) + ((∑ r, M.qh (τ r) i * M.gq i * M.dqf (τ r) n : ℝ) : EReal) := by
  pointwise [k0_pay40]
  simp only [dq_pay B, qh_pay B, B.gq, ← EReal.coe_mul, ← coe_sum]
theorem dql_pay (r : Fin 256) (i : Fin 384) : (k0_pay41 (k0_pay34 x) g N (k0_pay36 x) E (ix2 r i) : EReal) = (M.dql (τ r) i : ℝ) := by
  pointwise [k0_pay41]
  simp only [dqn_pay B, qh_pay B, qi_pay B, B.gq, ofBits_384, ← EReal.coe_mul, ← coe_sum]
  rw [div_coe_coe (by norm_num)]
  simp only [← EReal.coe_sub, ← EReal.coe_mul]
  simp only [Model.dql, rmsGrad, Model.qh, mean, Nat.cast_ofNat]
theorem dkr_pay (r : Fin 256) (l : Fin 128) :
    (k0_pay59 (k0_pay58 (k0_pay7 p f) (k0_pay8 p f) (k0_pay57 (e 0) (e 1) (e 2) (e 3)) (e 4) (e 5) (e 6) (e 7)) (ix2 r l) : EReal) = (M.dkr (τ r) l : ℝ) := by
  pointwise [k0_pay59, k0_pay58, k0_pay57]
  simp only [select_lt, select_lt_64, B.dr, cs_pay B, sn_pay B, ← EReal.coe_add]
  rw [Model.dkr]
  split
  · refine Eq.trans ?_ (rot_coe M (τ r) (fun l => ∑ h, lanes (M.dk (τ r) h) ⟨128 + l.val, by omega⟩) l)
    simp only [Fin.sum_univ_eight]
  · exact EReal.coe_zero.symm
local notation "L" => k0_pay124 (F := Ideal) (headBlock k) (headBlock v) a b
theorem dkn_pay (r : Fin 256) (i : Fin 256) : (L (ix2 r i) : EReal) = (M.dkn (τ r) i : ℝ) := by
  pointwise [k0_pay124]
  simp only [dk_pay B, dv_pay B, B.wk, B.wv, ← EReal.coe_mul, ← coe_sum, ← EReal.coe_add]; rfl
theorem ki_pay (r : Fin 256) : (k0_pay126 (k0_pay125 y) (ix2 r 0) : EReal) = (inv M.ε (M.cv (τ r)) : ℝ) := by
  pointwise [k0_pay126, k0_pay125, k0_pay123]
  simp only [B.cv, ofBits_256, B.ε, ← EReal.coe_mul, ← coe_sum]
  rw [div_coe_coe (by norm_num), ← EReal.coe_add]
  have e := rsqrt_coe (under_pos B.ε_pos (M.cv (τ r)))
  simp only [mean, Nat.cast_ofNat] at e
  rw [e]
  simp only [Cert.Proof.Row.inv, mean, Nat.cast_ofNat]
theorem kh_pay (r : Fin 256) (i : Fin 256) : (k0_pay127 (k0_pay123 y) (k0_pay125 y) (ix2 r i) : EReal) = (M.kh (τ r) i : ℝ) := by
  pointwise [k0_pay127, k0_pay123]
  rw [ki_pay B, B.cv, ← EReal.coe_mul]; rfl
theorem dkvg_pay (u : Vec Ideal S1x256 .f32) (i : Fin 256) :
    (k0_pay128 (k0_pay123 y) L (k0_pay125 y) u (ix2 0 i) : EReal) = u (ix2 0 i) + ((∑ r, M.dkn (τ r) i * M.kh (τ r) i : ℝ) : EReal) := by
  pointwise [k0_pay128]
  simp only [dkn_pay B, kh_pay B, ← EReal.coe_mul, ← coe_sum]
theorem dwk_pay (u : Vec Ideal S256x1024 .f32) (i : Fin 256) (n : Fin 1024) :
    (k0_pay130 (headBlock k) (k0_pay123 y) q (k0_pay125 y) u (ix2 i n) : EReal) = u (ix2 i n) + ((∑ r, M.kh (τ r) i * M.gk i * M.dkf (τ r) n : ℝ) : EReal) := by
  pointwise [k0_pay130, k0_pay129]
  simp only [dk_pay B, kh_pay B, B.gk, ← EReal.coe_mul, ← coe_sum]
theorem dwv_pay (u : Vec Ideal S256x1024 .f32) (i : Fin 256) (n : Fin 1024) :
    (k0_pay131 (headBlock v) (k0_pay123 y) q (k0_pay125 y) u (ix2 i n) : EReal) = u (ix2 i n) + ((∑ r, M.kh (τ r) i * M.gk i * M.dvf (τ r) n : ℝ) : EReal) := by
  pointwise [k0_pay131, k0_pay129]
  simp only [dv_pay B, kh_pay B, B.gk, ← EReal.coe_mul, ← coe_sum]
theorem dcv_pay (r : Fin 256) (i : Fin 256) : (k0_pay132 (k0_pay123 y) q L (k0_pay125 y) (ix2 r i) : EReal) = (M.dcv (τ r) i : ℝ) := by
  pointwise [k0_pay132]
  simp only [dkn_pay B, kh_pay B, ki_pay B, B.gk, ofBits_256, ← EReal.coe_mul, ← coe_sum]
  rw [div_coe_coe (by norm_num)]
  simp only [← EReal.coe_sub, ← EReal.coe_mul]
  simp only [Model.dcv, rmsGrad, Model.kh, mean, Nat.cast_ofNat]

end Cert.LatGradIdeal.Val

end
-- ==== Proof.LatEntry.lean ====
module

public import proofs.«01_k».proof.Proof.Gen.LatGradIdeal.Frame
public import proofs.«01_k».proof.Proof.LatPay
public import Idealize.ShloMosaic.Lib.WholeRead

/-!
What the latent projections' gradient kernel is handed: every operand and every block of it as entries of the model.
-/

@[expose] public section

set_option maxRecDepth 16384

noncomputable section

namespace Cert.LatGradIdeal.Val

open Idealize.ShloMosaic Idealize.ShloMosaic.TcCoe Idealize.SL.Sem
open Cert.LatGradIdeal Cert.LatGradIdeal.Gen
open Cert.Proof.Lat (Model Holds lanes freqOf)

variable (m : (ℓ : Loc nD τ sig) → Buf (Elt Ideal) ℓ) (c : Dev nD) (M : Model)

theorem idx : ∀ t : Fin cfg0.N, win0_0.index t = ![0, t.val, 0] ∧ win0_1.index t = ![0, t.val, 0] ∧ win0_2.index t = ![0, t.val, 0] ∧ win0_3.index t = ![t.val, 0]
    ∧ win0_4.index t = ![t.val, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![0, 0]
    ∧ win0_12.index t = ![t.val, 0] ∧ win0_13.index t = ![t.val, 0] ∧ win0_14.index t = ![t.val, 0] ∧ win0_15.index t = ![0, 0]
    ∧ win0_16.index t = ![0, 0] ∧ win0_17.index t = ![0, 0] ∧ win0_18.index t = ![0, 0] ∧ win0_19.index t = ![0, 0] :=
  (by decide +kernel : ∀ t : Fin grid0.N, _)

theorem lt_tok (t : Fin cfg0.N) (r : Fin 512) : t.val * 512 + r.val < 16384 := by
  have := lt_of_lt_of_eq t.isLt (show cfg0.N = 32 from N_0); omega

/-- The token that row `r` of point `t`'s blocks is. -/
abbrev tok (t : Fin cfg0.N) (r : Fin 512) : Fin 16384 := ⟨t.val * 512 + r.val, lt_tok t r⟩
/-- The rows of a point's half that starts at row `o`. -/
abbrev half (t : Fin cfg0.N) (o : ℕ) (ho : o ≤ 256) (r : Fin 256) : Fin 16384 := tok t ⟨o + r.val, by omega⟩

/-- Head `h`'s gradient of the queries in the half point that starts at row `o`. -/
def qBlk (t : Fin cfg0.N) (o : ℕ) (ho : o ≤ 256) (h : Fin 8) : Vec Ideal S1x256x256 .f32 :=
  View.readAt (Elt Ideal) (ms0_0 t).view ((Rect.unit (s := S8x512x256) ![0, o, 0] ![8, 256, 256] (by intro a; fin_cases a <;> simp <;> omega)).withinL
    (Rect.unit (s := ⟨3, ![8, 256, 256]⟩) ![h.val, 0, 0] ![1, 256, 256] (by intro a; fin_cases a <;> simp <;> omega)).toLoadRect (fun _ => rfl)) ((hs0_0 t).unread (iblk m c 0 t))
/-- Head `h`'s gradient of the keys there: the columns from `l`. -/
def kBlk (t : Fin cfg0.N) (o l : ℕ) (ho : o ≤ 256) (hl : l ≤ 128) (h : Fin 8) : Vec Ideal S1x256x128 .f32 :=
  View.readAt (Elt Ideal) (ms0_1 t).view ((Rect.unit (s := S8x512x256) ![0, o, 0] ![8, 256, 256] (by intro a; fin_cases a <;> simp <;> omega)).withinL
    (Rect.unit (s := ⟨3, ![8, 256, 256]⟩) ![h.val, 0, l] ![1, 256, 128] (by intro a; fin_cases a <;> simp <;> omega)).toLoadRect (fun _ => rfl)) ((hs0_1 t).unread (iblk m c 1 t))
/-- Head `h`'s gradient of the values there. -/
def vBlk (t : Fin cfg0.N) (o : ℕ) (ho : o ≤ 256) (h : Fin 8) : Vec Ideal S1x256x128 .f32 :=
  View.readAt (Elt Ideal) (ms0_2 t).view ((Rect.unit (s := S8x512x128) ![0, o, 0] ![8, 256, 128] (by intro a; fin_cases a <;> simp <;> omega)).withinL
    (Rect.unit (s := ⟨3, ![8, 256, 128]⟩) ![h.val, 0, 0] ![1, 256, 128] (by intro a; fin_cases a <;> simp <;> omega)).toLoadRect (fun _ => rfl)) ((hs0_2 t).unread (iblk m c 2 t))
/-- The half's rows of a block of rows. -/
def rowsOf {n : ℕ} {e : EltTy} (o : ℕ) (ho : o ≤ 256) (x : Vec Ideal ⟨2, ![512, n]⟩ e) : Vec Ideal ⟨2, ![256, n]⟩ e :=
  View.ld x (Rect.unit (s := ⟨2, ![512, n]⟩) ![o, 0] ![256, n] (by intro a; fin_cases a <;> simp <;> omega))

/-- The program's arguments hold the model. -/
abbrev Args : Prop := Holds M (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))

variable {m c M} (H : Args m c M)
include H

theorem dq_at (h : Fin 8) (R : Fin 16384) (l : Fin 256) : (V m c main_v25 (ix3 h R l) : EReal) = ((lanes (M.dq R h) l : ℝ) : EReal) := by
  unfold V V0
  simp only [List.flatten_cons, List.flatten_nil, List.append_nil]
  after_results_simp
  pointwise
  simp only [lanes]
  split
  · exact H.dq R h _
  · exact EReal.coe_zero.symm
theorem dk_at (h : Fin 8) (R : Fin 16384) (l : Fin 256) : (V m c main_v29 (ix3 h R l) : EReal) = ((lanes (M.dk R h) l : ℝ) : EReal) := by
  unfold V V0
  simp only [List.flatten_cons, List.flatten_nil, List.append_nil]
  after_results_simp
  pointwise
  simp only [lanes]
  split
  · exact H.dk R h _
  · exact EReal.coe_zero.symm
theorem dv_at (h : Fin 8) (R : Fin 16384) (l : Fin 128) : (V m c main_v31 (ix3 h R l) : EReal) = ((M.dv R h l : ℝ) : EReal) := by
  unfold V V0
  simp only [List.flatten_cons, List.flatten_nil, List.append_nil]
  after_results_simp
  pointwise
  exact H.dv R h l
theorem ql_at (R : Fin 16384) (i : Fin 384) : (V m c main_v32 (ix2 R i) : EReal) = ((M.ql R i : ℝ) : EReal) := by
  unfold V V0
  simp only [List.flatten_cons, List.flatten_nil, List.append_nil]
  after_results_simp
  pointwise
  exact H.ql R i
theorem cv_at (R : Fin 16384) (i : Fin 256) : (V m c main_v34 (ix2 R i) : EReal) = ((M.cv R i : ℝ) : EReal) := by
  unfold V V0
  simp only [List.flatten_cons, List.flatten_nil, List.append_nil]
  after_results_simp
  pointwise
  exact H.cv R i
theorem wq_at (i : Fin 384) (k : Fin 2048) : (V m c main_v15 (ix2 i k) : EReal) = ((M.wqp i k : ℝ) : EReal) := by
  unfold V V0
  simp only [List.flatten_cons, List.flatten_nil, List.append_nil]
  after_results_simp
  pointwise
  after_results_simp
  pointwise
  simp only [Model.wqp]
  split
  · exact H.wq i _
  · exact EReal.coe_zero.symm
theorem wk_at (i : Fin 256) (k : Fin 1024) : (V m c main_v19 (ix2 i k) : EReal) = ((M.wkk i k : ℝ) : EReal) := by
  unfold V V0
  simp only [List.flatten_cons, List.flatten_nil, List.append_nil]
  after_results_simp
  pointwise
  exact H.wk i _
theorem wv_at (i : Fin 256) (k : Fin 1024) : (V m c main_v21 (ix2 i k) : EReal) = ((M.wkv i k : ℝ) : EReal) := by
  unfold V V0
  simp only [List.flatten_cons, List.flatten_nil, List.append_nil]
  after_results_simp
  pointwise
  simp only [← Nat.add_assoc]
  exact H.wk i _
theorem pos_at (R : Fin 16384) : (FloatOps.sitofp (F := Ideal) .f32 (V m c main_v10 (ix2 R 0) : BitVec 32) : EReal) = ((M.pos R : ℝ) : EReal) := by
  unfold V V0
  simp only [List.flatten_cons, List.flatten_nil, List.append_nil]
  after_results_simp
  pointwise
  exact H.pos R
theorem freq_at (l : Fin 128) : (V m c main_v9 (ix2 0 l) : EReal) = ((M.freqs l : ℝ) : EReal) := by
  unfold V V0
  simp only [List.flatten_cons, List.flatten_nil, List.append_nil]
  after_results_simp
  pointwise
  after_results_simp
  pointwise
  simp only [Model.freqs, show (l.val - 32 < 32) = (l.val < 64) from propext (by omega)]
  split
  · exact H.freq ⟨_, _⟩
  · split
    · exact H.freq ⟨_, _⟩
    · exact EReal.coe_zero.symm
theorem gq_at (i : Fin 384) : (V m c main_arg3 (ix2 (n0 := 1) 0 i) : EReal) = ((M.gq i : ℝ) : EReal) := by
  unfold V V0
  simp only [List.flatten_cons, List.flatten_nil, List.append_nil]
  after_results_simp
  pointwise
  exact H.gq i
theorem gk_at (i : Fin 256) : (V m c main_arg5 (ix2 (n0 := 1) 0 i) : EReal) = ((M.gk i : ℝ) : EReal) := by
  unfold V V0
  simp only [List.flatten_cons, List.flatten_nil, List.append_nil]
  after_results_simp
  pointwise
  exact H.gk i

omit H in
theorem q_blk (t : Fin cfg0.N) (o : ℕ) (ho : o ≤ 256) (h : Fin 8) (r l : Fin 256) : qBlk m c t o ho h (ix3 0 r l) = V m c main_v25 (ix3 h (half t o ho r) l) := by
  refine ((hs0_0 t).readAt_unread _ _ _).trans (Eq.trans (b := iblk m c 0 t (ix3 h ⟨o + r.val, by omega⟩ l)) (congrArg (iblk m c 0 t) ?_) (by blk_ext [iblk, idx t]))
  funext a
  refine Fin.ext ?_
  show ((![0, o, 0] : Fin 3 → ℕ) a + (![h.val, 0, 0] : Fin 3 → ℕ) a) + 1 * (ix3 (n0 := 1) 0 r l a).val = _
  fin_cases a <;> simp
omit H in
theorem k_blk (t : Fin cfg0.N) (o b : ℕ) (ho : o ≤ 256) (hb : b ≤ 128) (h : Fin 8) (r : Fin 256) (l : Fin 128) : kBlk m c t o b ho hb h (ix3 0 r l) = V m c main_v29 (ix3 h (half t o ho r) ⟨b + l.val, by omega⟩) := by
  refine ((hs0_1 t).readAt_unread _ _ _).trans (Eq.trans (b := iblk m c 1 t (ix3 h ⟨o + r.val, by omega⟩ ⟨b + l.val, by omega⟩)) (congrArg (iblk m c 1 t) ?_) (by blk_ext [iblk, idx t]))
  funext a
  refine Fin.ext ?_
  show ((![0, o, 0] : Fin 3 → ℕ) a + (![h.val, 0, b] : Fin 3 → ℕ) a) + 1 * (ix3 (n0 := 1) 0 r l a).val = _
  fin_cases a <;> simp
omit H in
theorem v_blk (t : Fin cfg0.N) (o : ℕ) (ho : o ≤ 256) (h : Fin 8) (r : Fin 256) (l : Fin 128) : vBlk m c t o ho h (ix3 0 r l) = V m c main_v31 (ix3 h (half t o ho r) l) := by
  refine ((hs0_2 t).readAt_unread _ _ _).trans (Eq.trans (b := iblk m c 2 t (ix3 h ⟨o + r.val, by omega⟩ l)) (congrArg (iblk m c 2 t) ?_) (by blk_ext [iblk, idx t]))
  funext a
  refine Fin.ext ?_
  show ((![0, o, 0] : Fin 3 → ℕ) a + (![h.val, 0, 0] : Fin 3 → ℕ) a) + 1 * (ix3 (n0 := 1) 0 r l a).val = _
  fin_cases a <;> simp
omit H in
theorem rows_at {n : ℕ} {e : EltTy} (o : ℕ) (ho : o ≤ 256) (x : Vec Ideal ⟨2, ![512, n]⟩ e) (r : Fin 256) (i : Fin n) :
    rowsOf o ho x (ix2 r i) = x (ix2 ⟨o + r.val, by omega⟩ i) := by
  refine congrArg x ?_
  funext a
  refine Fin.ext ?_
  show (![o, 0] : Fin 2 → ℕ) a + 1 * (ix2 r i a).val = _
  fin_cases a <;> simp
theorem ql_row (t : Fin cfg0.N) (o : ℕ) (ho : o ≤ 256) (r : Fin 256) (i : Fin 384) : (rowsOf (n := 384) (e := .f32) o ho (iblk m c 3 t) (ix2 r i) : EReal) = (M.ql (half t o ho r) i : ℝ) :=
  (rows_at o ho _ r i).trans (Eq.trans (b := V m c main_v32 (ix2 (half t o ho r) i)) (by blk_ext [iblk, idx t]) (ql_at H _ _))
theorem cv_row (t : Fin cfg0.N) (o : ℕ) (ho : o ≤ 256) (r : Fin 256) (i : Fin 256) : (rowsOf (n := 256) (e := .f32) o ho (iblk m c 4 t) (ix2 r i) : EReal) = (M.cv (half t o ho r) i : ℝ) :=
  (rows_at o ho _ r i).trans (Eq.trans (b := V m c main_v34 (ix2 (half t o ho r) i)) (by blk_ext [iblk, idx t]) (cv_at H _ _))
theorem pos_row (t : Fin cfg0.N) (o : ℕ) (ho : o ≤ 256) (r : Fin 256) :
    (FloatOps.sitofp (F := Ideal) .f32 (rowsOf (n := 1) (e := .i32) o ho (iblk m c 10 t) (ix2 r 0) : BitVec 32) : EReal) = (M.pos (half t o ho r) : ℝ) := by
  refine Eq.trans (congrArg (fun v : BitVec 32 => (FloatOps.sitofp (F := Ideal) .f32 v : EReal)) ((rows_at o ho _ r 0).trans ?_)) (pos_at H (half t o ho r))
  blk_ext [iblk, idx t]
theorem freq_whole (t : Fin cfg0.N) (i : Fin 128) : (iblk m c 11 t (ix2 0 i) : EReal) = ((M.freqs i : ℝ) : EReal) :=
  Eq.trans (b := V m c main_v9 (ix2 0 i)) (by blk_ext [iblk, idx t]) (freq_at H i)
theorem gq_whole (t : Fin cfg0.N) (i : Fin 384) : (iblk m c 5 t (ix2 (n0 := 1) 0 i) : EReal) = ((M.gq i : ℝ) : EReal) :=
  Eq.trans (b := V m c main_arg3 (ix2 (n0 := 1) 0 i)) (by blk_ext [iblk, idx t]) (gq_at H i)
theorem gk_whole (t : Fin cfg0.N) (i : Fin 256) : (iblk m c 6 t (ix2 (n0 := 1) 0 i) : EReal) = ((M.gk i : ℝ) : EReal) :=
  Eq.trans (b := V m c main_arg5 (ix2 (n0 := 1) 0 i)) (by blk_ext [iblk, idx t]) (gk_at H i)
theorem wq_whole (t : Fin cfg0.N) (i : Fin 384) (k : Fin 2048) : (iblk m c 7 t (ix2 i k) : EReal) = ((M.wqp i k : ℝ) : EReal) :=
  Eq.trans (b := V m c main_v15 (ix2 i k)) (by blk_ext [iblk, idx t]) (wq_at H i k)
theorem wk_whole (t : Fin cfg0.N) (i : Fin 256) (k : Fin 1024) : (iblk m c 8 t (ix2 i k) : EReal) = ((M.wkk i k : ℝ) : EReal) :=
  Eq.trans (b := V m c main_v19 (ix2 i k)) (by blk_ext [iblk, idx t]) (wk_at H i k)
theorem wv_whole (t : Fin cfg0.N) (i : Fin 256) (k : Fin 1024) : (iblk m c 9 t (ix2 i k) : EReal) = ((M.wkv i k : ℝ) : EReal) :=
  Eq.trans (b := V m c main_v21 (ix2 i k)) (by blk_ext [iblk, idx t]) (wv_at H i k)

/-- What half a point is handed. -/
theorem blocks (t : Fin cfg0.N) (o : ℕ) (ho : o ≤ 256) : Blocks M (half t o ho) (rowsOf (n := 1) (e := .i32) o ho (iblk m c 10 t)) (iblk m c 11 t) (qBlk m c t o ho)
    (rowsOf (n := 384) (e := .f32) o ho (iblk m c 3 t)) (iblk m c 5 t) (iblk m c 7 t) (kBlk m c t o 0 ho (by omega)) (vBlk m c t o ho) (kBlk m c t o 128 ho (by omega))
    (rowsOf (n := 256) (e := .f32) o ho (iblk m c 4 t)) (iblk m c 6 t) (iblk m c 8 t) (iblk m c 9 t) where
  pos := pos_row H t o ho
  freq := freq_whole H t
  dq h r l := (q_blk t o ho h r l).trans (dq_at H _ _ _)
  ql := ql_row H t o ho
  gq := gq_whole H t
  wq := wq_whole H t
  dk h r l := (k_blk t o 0 ho _ h r l).trans ((dk_at H _ _ _).trans (by
    simp only [lanes, Nat.zero_add, show l.val < 192 by omega, dif_pos]))
  dv h r l := (v_blk t o ho h r l).trans (dv_at H _ _ _)
  dr h r l := (k_blk t o 128 ho _ h r l).trans (dk_at H _ _ _)
  cv := cv_row H t o ho
  gk := gk_whole H t
  wk := wk_whole H t
  wv := wv_whole H t
  σ := H.σ
  ε := H.ε
  ε_pos := H.ε_pos

end Cert.LatGradIdeal.Val

end
-- ==== Proof.LatBlocks.lean ====
module

public import proofs.«01_k».proof.Proof.LatEntry
public import Idealize.ShloMosaic.Lib.Pipeline.ReadBack
public import Idealize.ShloMosaic.Lib.WritesUnit

/-!
What one grid point of the latent projections' gradient kernel leaves in its eight output buffers: three blocks of rows, written a
half at a time, and five sums that the point which starts the grid clears first (case A) and every other one continues (case B).
-/

@[expose] public section

set_option maxRecDepth 16384

noncomputable section

namespace Cert.LatGradIdeal.Val

open Idealize.ShloMosaic Idealize.ShloMosaic.TcCoe Idealize.SL.Sem
open Cert.LatGradIdeal Cert.LatGradIdeal.Gen
open Cert.Proof.Lat (Model Holds)

/-- A block of 512 rows written in two halves holds the first half's entries in its first 256 rows and the second half's after them. -/
theorem canon_halves {n : ℕ} {e : EltTy} (inb1 : ∀ a : Fin 2, (![256, 0] : Fin 2 → ℕ) a + (![256, n] : Fin 2 → ℕ) a ≤ (![512, n] : Fin 2 → ℕ) a)
    (inb0 : ∀ a : Fin 2, (![0, 0] : Fin 2 → ℕ) a + (![256, n] : Fin 2 → ℕ) a ≤ (![512, n] : Fin 2 → ℕ) a) (w1 w0 : Vec Ideal ⟨2, ![256, n]⟩ e) (r : Fin 256) (j : Fin n) :
    View.canon [(⟨Rect.unit (s := ⟨2, ![512, n]⟩) ![256, 0] ![256, n] inb1, w1⟩ : View.Piece (Elt Ideal) ⟨2, ![512, n]⟩ e), ⟨Rect.unit (s := ⟨2, ![512, n]⟩) ![0, 0] ![256, n] inb0, w0⟩]
        (ix2 ⟨r.val, by omega⟩ j) = w0 (ix2 r j)
    ∧ View.canon [(⟨Rect.unit (s := ⟨2, ![512, n]⟩) ![256, 0] ![256, n] inb1, w1⟩ : View.Piece (Elt Ideal) ⟨2, ![512, n]⟩ e), ⟨Rect.unit (s := ⟨2, ![512, n]⟩) ![0, 0] ![256, n] inb0, w0⟩]
        (ix2 ⟨256 + r.val, by omega⟩ j) = w1 (ix2 r j) := by
  constructor
  · rw [View.canon_cons_of_not_mem _ _ (by rw [Rect.mem_set_unit]; exact fun h => absurd (h 0).1 (by simp))]
    refine Eq.trans (congrArg _ ?_) (View.canon_cons_emb (Rect.unit (s := ⟨2, ![512, n]⟩) ![0, 0] ![256, n] inb0) w0 [] (ix2 r j))
    funext a
    refine Fin.ext ?_
    show _ = (![0, 0] : Fin 2 → ℕ) a + 1 * (ix2 r j a).val
    fin_cases a <;> simp
  · refine Eq.trans (congrArg _ ?_) (View.canon_cons_emb (Rect.unit (s := ⟨2, ![512, n]⟩) ![256, 0] ![256, n] inb1) w1 _ (ix2 r j))
    funext a
    refine Fin.ext ?_
    show _ = (![256, 0] : Fin 2 → ℕ) a + 1 * (ix2 r j a).val
    fin_cases a <;> simp

variable (m : (ℓ : Loc nD τ sig) → Buf (Elt Ideal) ℓ) (c : Dev nD) {M : Model} (H : Args m c M)
include H

theorem dql_row (t : Fin cfg0.N) (r : Fin 256) (i : Fin 384) :
    ((outsAt0 m c t.val t.isLt).1 (ix2 ⟨r.val, by omega⟩ i) : EReal) = (M.dql (half t 0 (by omega) r) i : ℝ)
    ∧ ((outsAt0 m c t.val t.isLt).1 (ix2 ⟨256 + r.val, by omega⟩ i) : EReal) = (M.dql (half t 256 (by omega) r) i : ℝ) := by
  have B0 := blocks H t 0 (by omega)
  have B1 := blocks H t 256 (by omega)
  by_cases h : t.val % 32 = 0
  · rw [outsAt0_A m c t h]
    constructor
    · frame_out
      exact (canon_halves _ _ _ _ r i).1.trans (dql_pay B0 r i)
    · frame_out
      exact (canon_halves _ _ _ _ r i).2.trans (dql_pay B1 r i)
  · rw [outsAt0_B m c t h]
    constructor
    · frame_out
      exact (canon_halves _ _ _ _ r i).1.trans (dql_pay B0 r i)
    · frame_out
      exact (canon_halves _ _ _ _ r i).2.trans (dql_pay B1 r i)
theorem dcv_row (t : Fin cfg0.N) (r : Fin 256) (i : Fin 256) :
    ((outsAt0 m c t.val t.isLt).2.1 (ix2 ⟨r.val, by omega⟩ i) : EReal) = (M.dcv (half t 0 (by omega) r) i : ℝ)
    ∧ ((outsAt0 m c t.val t.isLt).2.1 (ix2 ⟨256 + r.val, by omega⟩ i) : EReal) = (M.dcv (half t 256 (by omega) r) i : ℝ) := by
  have B0 := blocks H t 0 (by omega)
  have B1 := blocks H t 256 (by omega)
  by_cases h : t.val % 32 = 0
  · rw [outsAt0_A m c t h]
    constructor
    · frame_out
      exact (canon_halves _ _ _ _ r i).1.trans (dcv_pay B0 r i)
    · frame_out
      exact (canon_halves _ _ _ _ r i).2.trans (dcv_pay B1 r i)
  · rw [outsAt0_B m c t h]
    constructor
    · frame_out
      exact (canon_halves _ _ _ _ r i).1.trans (dcv_pay B0 r i)
    · frame_out
      exact (canon_halves _ _ _ _ r i).2.trans (dcv_pay B1 r i)
theorem dkr_row (t : Fin cfg0.N) (r : Fin 256) (i : Fin 128) :
    ((outsAt0 m c t.val t.isLt).2.2.1 (ix2 ⟨r.val, by omega⟩ i) : EReal) = (M.dkr (half t 0 (by omega) r) i : ℝ)
    ∧ ((outsAt0 m c t.val t.isLt).2.2.1 (ix2 ⟨256 + r.val, by omega⟩ i) : EReal) = (M.dkr (half t 256 (by omega) r) i : ℝ) := by
  have B0 := blocks H t 0 (by omega)
  have B1 := blocks H t 256 (by omega)
  by_cases h : t.val % 32 = 0
  · rw [outsAt0_A m c t h]
    constructor
    · frame_out
      exact (canon_halves _ _ _ _ r i).1.trans (dkr_pay B0 r i)
    · frame_out
      exact (canon_halves _ _ _ _ r i).2.trans (dkr_pay B1 r i)
  · rw [outsAt0_B m c t h]
    constructor
    · frame_out
      exact (canon_halves _ _ _ _ r i).1.trans (dkr_pay B0 r i)
    · frame_out
      exact (canon_halves _ _ _ _ r i).2.trans (dkr_pay B1 r i)

omit H in
/-- A sum over a point's 512 tokens is the two halves' sums, one after the other. -/
theorem add_halves (t : Fin cfg0.N) (f : Fin 16384 → ℝ) (x : EReal) :
    x + ((∑ r, f (half t 0 (by omega) r) : ℝ) : EReal) + ((∑ r, f (half t 256 (by omega) r) : ℝ) : EReal) = x + ((∑ q : Fin 512, f (tok t q) : ℝ) : EReal) := by
  rw [add_assoc, ← EReal.coe_add, Fin.sum_univ_two_halves 256 256 rfl]
  refine congrArg (fun v : ℝ => x + (v : EReal)) (congrArg₂ (· + ·) (Finset.sum_congr rfl fun r _ => congrArg f (Fin.ext ?_)) rfl)
  show t.val * 512 + (0 + r.val) = t.val * 512 + r.val
  rw [Nat.zero_add]

theorem dwq_B (t : Fin cfg0.N) (h : ¬ t.val % 32 = 0) (i : Fin 384) (n : Fin 2048) :
    ((outsAt0 m c t.val t.isLt).2.2.2.1 (ix2 i n) : EReal) = (outsAt0 m c (t.val - 1) (Nat.lt_of_le_of_lt (Nat.sub_le _ _) t.isLt)).2.2.2.1 (ix2 i n) + ((∑ q : Fin 512, M.qh (tok t q) i * M.gq i * M.dqf (tok t q) n : ℝ) : EReal) := by
  have B0 := blocks H t 0 (by omega)
  have B1 := blocks H t 256 (by omega)
  rw [outsAt0_B m c t h]; frame_out
  exact (dwq_pay B1 _ i n).trans ((congrArg (fun v : EReal => v + _) (dwq_pay B0 _ i n)).trans (add_halves t (fun R => M.qh R i * M.gq i * M.dqf R n) _))
theorem dwq_A (t : Fin cfg0.N) (h : t.val % 32 = 0) (i : Fin 384) (n : Fin 2048) : ((outsAt0 m c t.val t.isLt).2.2.2.1 (ix2 i n) : EReal) = 0 + ((∑ q : Fin 512, M.qh (tok t q) i * M.gq i * M.dqf (tok t q) n : ℝ) : EReal) := by
  have B0 := blocks H t 0 (by omega)
  have B1 := blocks H t 256 (by omega)
  rw [outsAt0_A m c t h]; frame_open
  simp (disch := decide) only [↓ View.readCov_skip, ↓ View.readCov_cons_toLoadRect, ↓ View.readCov_fill]
  frame_out
  refine (dwq_pay B1 _ i n).trans ((congrArg (fun v : EReal => v + _) (dwq_pay B0 _ i n)).trans ((add_halves t (fun R => M.qh R i * M.gq i * M.dqf R n) _).trans ?_))
  pointwise [k0_pay1]
theorem dwk_B (t : Fin cfg0.N) (h : ¬ t.val % 32 = 0) (i : Fin 256) (n : Fin 1024) :
    ((outsAt0 m c t.val t.isLt).2.2.2.2.1 (ix2 i n) : EReal) = (outsAt0 m c (t.val - 1) (Nat.lt_of_le_of_lt (Nat.sub_le _ _) t.isLt)).2.2.2.2.1 (ix2 i n) + ((∑ q : Fin 512, M.kh (tok t q) i * M.gk i * M.dkf (tok t q) n : ℝ) : EReal) := by
  have B0 := blocks H t 0 (by omega)
  have B1 := blocks H t 256 (by omega)
  rw [outsAt0_B m c t h]; frame_out
  exact (dwk_pay B1 _ i n).trans ((congrArg (fun v : EReal => v + _) (dwk_pay B0 _ i n)).trans (add_halves t (fun R => M.kh R i * M.gk i * M.dkf R n) _))
theorem dwk_A (t : Fin cfg0.N) (h : t.val % 32 = 0) (i : Fin 256) (n : Fin 1024) : ((outsAt0 m c t.val t.isLt).2.2.2.2.1 (ix2 i n) : EReal) = 0 + ((∑ q : Fin 512, M.kh (tok t q) i * M.gk i * M.dkf (tok t q) n : ℝ) : EReal) := by
  have B0 := blocks H t 0 (by omega)
  have B1 := blocks H t 256 (by omega)
  rw [outsAt0_A m c t h]; frame_open
  simp (disch := decide) only [↓ View.readCov_skip, ↓ View.readCov_cons_toLoadRect, ↓ View.readCov_fill]
  frame_out
  refine (dwk_pay B1 _ i n).trans ((congrArg (fun v : EReal => v + _) (dwk_pay B0 _ i n)).trans ((add_halves t (fun R => M.kh R i * M.gk i * M.dkf R n) _).trans ?_))
  pointwise [k0_pay2]
theorem dwv_B (t : Fin cfg0.N) (h : ¬ t.val % 32 = 0) (i : Fin 256) (n : Fin 1024) :
    ((outsAt0 m c t.val t.isLt).2.2.2.2.2.1 (ix2 i n) : EReal) = (outsAt0 m c (t.val - 1) (Nat.lt_of_le_of_lt (Nat.sub_le _ _) t.isLt)).2.2.2.2.2.1 (ix2 i n) + ((∑ q : Fin 512, M.kh (tok t q) i * M.gk i * M.dvf (tok t q) n : ℝ) : EReal) := by
  have B0 := blocks H t 0 (by omega)
  have B1 := blocks H t 256 (by omega)
  rw [outsAt0_B m c t h]; frame_out
  exact (dwv_pay B1 _ i n).trans ((congrArg (fun v : EReal => v + _) (dwv_pay B0 _ i n)).trans (add_halves t (fun R => M.kh R i * M.gk i * M.dvf R n) _))
theorem dwv_A (t : Fin cfg0.N) (h : t.val % 32 = 0) (i : Fin 256) (n : Fin 1024) : ((outsAt0 m c t.val t.isLt).2.2.2.2.2.1 (ix2 i n) : EReal) = 0 + ((∑ q : Fin 512, M.kh (tok t q) i * M.gk i * M.dvf (tok t q) n : ℝ) : EReal) := by
  have B0 := blocks H t 0 (by omega)
  have B1 := blocks H t 256 (by omega)
  rw [outsAt0_A m c t h]; frame_open
  simp (disch := decide) only [↓ View.readCov_skip, ↓ View.readCov_cons_toLoadRect, ↓ View.readCov_fill]
  frame_out
  refine (dwv_pay B1 _ i n).trans ((congrArg (fun v : EReal => v + _) (dwv_pay B0 _ i n)).trans ((add_halves t (fun R => M.kh R i * M.gk i * M.dvf R n) _).trans ?_))
  pointwise [k0_pay3]
theorem dqg_B (t : Fin cfg0.N) (h : ¬ t.val % 32 = 0) (i : Fin 384) :
    ((outsAt0 m c t.val t.isLt).2.2.2.2.2.2.1 (ix2 0 i) : EReal) = (outsAt0 m c (t.val - 1) (Nat.lt_of_le_of_lt (Nat.sub_le _ _) t.isLt)).2.2.2.2.2.2.1 (ix2 0 i) + ((∑ q : Fin 512, M.dqn (tok t q) i * M.qh (tok t q) i : ℝ) : EReal) := by
  have B0 := blocks H t 0 (by omega)
  have B1 := blocks H t 256 (by omega)
  rw [outsAt0_B m c t h]; frame_out
  exact (dqg_pay B1 _ i).trans ((congrArg (fun v : EReal => v + _) (dqg_pay B0 _ i)).trans (add_halves t (fun R => M.dqn R i * M.qh R i) _))
theorem dqg_A (t : Fin cfg0.N) (h : t.val % 32 = 0) (i : Fin 384) : ((outsAt0 m c t.val t.isLt).2.2.2.2.2.2.1 (ix2 0 i) : EReal) = 0 + ((∑ q : Fin 512, M.dqn (tok t q) i * M.qh (tok t q) i : ℝ) : EReal) := by
  have B0 := blocks H t 0 (by omega)
  have B1 := blocks H t 256 (by omega)
  rw [outsAt0_A m c t h]; frame_open
  simp (disch := decide) only [↓ View.readCov_skip, ↓ View.readCov_cons_toLoadRect, ↓ View.readCov_fill]
  frame_out
  refine (dqg_pay B1 _ i).trans ((congrArg (fun v : EReal => v + _) (dqg_pay B0 _ i)).trans ((add_halves t (fun R => M.dqn R i * M.qh R i) _).trans ?_))
  pointwise [k0_pay4]
theorem dkvg_B (t : Fin cfg0.N) (h : ¬ t.val % 32 = 0) (i : Fin 256) :
    ((outsAt0 m c t.val t.isLt).2.2.2.2.2.2.2 (ix2 0 i) : EReal) = (outsAt0 m c (t.val - 1) (Nat.lt_of_le_of_lt (Nat.sub_le _ _) t.isLt)).2.2.2.2.2.2.2 (ix2 0 i) + ((∑ q : Fin 512, M.dkn (tok t q) i * M.kh (tok t q) i : ℝ) : EReal) := by
  have B0 := blocks H t 0 (by omega)
  have B1 := blocks H t 256 (by omega)
  rw [outsAt0_B m c t h]; frame_out
  exact (dkvg_pay B1 _ i).trans ((congrArg (fun v : EReal => v + _) (dkvg_pay B0 _ i)).trans (add_halves t (fun R => M.dkn R i * M.kh R i) _))
theorem dkvg_A (t : Fin cfg0.N) (h : t.val % 32 = 0) (i : Fin 256) : ((outsAt0 m c t.val t.isLt).2.2.2.2.2.2.2 (ix2 0 i) : EReal) = 0 + ((∑ q : Fin 512, M.dkn (tok t q) i * M.kh (tok t q) i : ℝ) : EReal) := by
  have B0 := blocks H t 0 (by omega)
  have B1 := blocks H t 256 (by omega)
  rw [outsAt0_A m c t h]; frame_open
  simp (disch := decide) only [↓ View.readCov_skip, ↓ View.readCov_cons_toLoadRect, ↓ View.readCov_fill]
  frame_out
  refine (dkvg_pay B1 _ i).trans ((congrArg (fun v : EReal => v + _) (dkvg_pay B0 _ i)).trans ((add_halves t (fun R => M.dkn R i * M.kh R i) _).trans ?_))
  pointwise [k0_pay5]

end Cert.LatGradIdeal.Val

end
-- ==== Proof.LatArrays.lean ====
module

public import proofs.«01_k».proof.Proof.LatBlocks

/-!
The eight arrays the latent projections' gradient kernel ends with, and its results after the host has cut them out.
-/

@[expose] public section

set_option maxRecDepth 16384

noncomputable section

namespace Cert.LatGradIdeal.Val

open Idealize.ShloMosaic Idealize.ShloMosaic.TcCoe Idealize.SL.Sem
open Cert.LatGradIdeal Cert.LatGradIdeal.Gen
open Cert.Proof.Lat (Model Holds)
open Cert.Proof.Attn (coe_sum)

variable (m : (ℓ : Loc nD τ sig) → Buf (Elt Ideal) ℓ) (c : Dev nD) {M : Model}

/-- A sum over the points of the grid and the tokens of each point is the sum over all tokens. -/
theorem sum_tok (f : Fin 16384 → ℝ) : (∑ t : Fin cfg0.N, ((∑ q : Fin 512, f (tok t q) : ℝ) : EReal)) = ((∑ R : Fin 16384, f R : ℝ) : EReal) := by
  rw [← coe_sum]
  refine congrArg _ (Fin.sum_mul_add_congr (fun s k hl => rfl) ?_)
  rw [show cfg0.N = 32 from N_0]

/-- The last point of the grid is the only one that writes the sums back. -/
theorem last_of (t : Fin cfg0.N) (h : t.val % 32 = 31) : t.val + 1 = cfg0.N := by
  have := t.isLt
  have : cfg0.N = 32 := N_0
  omega

/-- What holds of the first and of the second 256 rows of a point holds of all its rows. -/
theorem of_halves (t : Fin cfg0.N) {n : ℕ} {f : Vec Ideal ⟨2, ![512, n]⟩ .bf16} {g : Fin 16384 → ℝ} (i : Fin n)
    (h : ∀ r : Fin 256, (f (ix2 ⟨r.val, by omega⟩ i) : EReal) = (g (half t 0 (by omega) r) : ℝ) ∧ (f (ix2 ⟨256 + r.val, by omega⟩ i) : EReal) = (g (half t 256 (by omega) r) : ℝ))
    (q : Fin 512) : (f (ix2 q i) : EReal) = (g (tok t q) : ℝ) := by
  by_cases hq : q.val < 256
  · refine (h ⟨q.val, hq⟩).1.trans (congrArg (fun R => ((g R : ℝ) : EReal)) (Fin.ext ?_))
    show t.val * 512 + (0 + q.val) = t.val * 512 + q.val
    omega
  · have e : (⟨256 + (q.val - 256), by omega⟩ : Fin 512) = q := Fin.ext (by show 256 + (q.val - 256) = q.val; omega)
    have h2 := (h ⟨q.val - 256, by omega⟩).2
    simp only [e] at h2
    exact h2.trans (congrArg (fun R => ((g R : ℝ) : EReal)) (Fin.ext (by show t.val * 512 + (256 + (q.val - 256)) = t.val * 512 + q.val; omega)))

variable (H : Args m c M)
include H

theorem dql_arr : (dats m 0 c).arrAt 12 cfg0.N = fun j : S16384x384.Idx => ((M.dql (j 0) (j 1) : ℝ) : EReal) := by
  refine (dats m 0 c).arrAt_eq_of_covers 12 _ (by decide +kernel) fun t hf y => ?_
  idx_vars y
  blk_simp
  rw [after0_12]
  have e : (win0_12.blk t).view.emb (ix2 y0 y1) = ix2 (tok t y0) y1 := by blk_ext [idx t]
  rw [e]
  exact of_halves t (g := fun R => M.dql R y1) y1 (fun r => dql_row m c H t r y1) y0
theorem dcv_arr : (dats m 0 c).arrAt 13 cfg0.N = fun j : S16384x256.Idx => ((M.dcv (j 0) (j 1) : ℝ) : EReal) := by
  refine (dats m 0 c).arrAt_eq_of_covers 13 _ (by decide +kernel) fun t hf y => ?_
  idx_vars y
  blk_simp
  rw [after0_13]
  have e : (win0_13.blk t).view.emb (ix2 y0 y1) = ix2 (tok t y0) y1 := by blk_ext [idx t]
  rw [e]
  exact of_halves t (g := fun R => M.dcv R y1) y1 (fun r => dcv_row m c H t r y1) y0
theorem dkr_arr : (dats m 0 c).arrAt 14 cfg0.N = fun j : S16384x128.Idx => ((M.dkr (j 0) (j 1) : ℝ) : EReal) := by
  refine (dats m 0 c).arrAt_eq_of_covers 14 _ (by decide +kernel) fun t hf y => ?_
  idx_vars y
  blk_simp
  rw [after0_14]
  have e : (win0_14.blk t).view.emb (ix2 y0 y1) = ix2 (tok t y0) y1 := by blk_ext [idx t]
  rw [e]
  exact of_halves t (g := fun R => M.dkr R y1) y1 (fun r => dkr_row m c H t r y1) y0
theorem dwq_arr : (dats m 0 c).arrAt 15 cfg0.N = fun j : S384x2048.Idx => ((∑ R : Fin 16384, M.qh R (j 0) * M.gq (j 0) * M.dqf R (j 1) : ℝ) : EReal) := by
  refine (dats m 0 c).arrAt_eq_of_covers 15 _ (by decide +kernel) fun t hf y => ?_
  idx_vars y
  blk_simp
  rw [after0_15]
  have e : (win0_15.blk t).view.emb (ix2 y0 y1) = ix2 y0 y1 := by blk_ext [idx t]
  rw [e]
  refine (Pipeline.eq_sum_fin_of_reset_step_apply_last (M := EReal) (fun n h (i : Fin 384 × Fin 2048) => (outsAt0 m c n h).2.2.2.1 (ix2 i.1 i.2)) 32 (fun _ => 0)
    (fun t i => ((∑ q : Fin 512, M.qh (tok t q) i.1 * M.gq i.1 * M.dqf (tok t q) i.2 : ℝ) : EReal)) (fun t h i => dwq_A m c H t h i.1 i.2) (fun t h i => dwq_B m c H t h i.1 i.2)
    (le_of_eq N_0) t (last_of t ((flush0_15 t).mp hf)) (y0, y1)).trans ?_
  rw [zero_add]
  exact sum_tok fun R => M.qh R y0 * M.gq y0 * M.dqf R y1
theorem dwk_arr : (dats m 0 c).arrAt 16 cfg0.N = fun j : S256x1024.Idx => ((∑ R : Fin 16384, M.kh R (j 0) * M.gk (j 0) * M.dkf R (j 1) : ℝ) : EReal) := by
  refine (dats m 0 c).arrAt_eq_of_covers 16 _ (by decide +kernel) fun t hf y => ?_
  idx_vars y
  blk_simp
  rw [after0_16]
  have e : (win0_16.blk t).view.emb (ix2 y0 y1) = ix2 y0 y1 := by blk_ext [idx t]
  rw [e]
  refine (Pipeline.eq_sum_fin_of_reset_step_apply_last (M := EReal) (fun n h (i : Fin 256 × Fin 1024) => (outsAt0 m c n h).2.2.2.2.1 (ix2 i.1 i.2)) 32 (fun _ => 0)
    (fun t i => ((∑ q : Fin 512, M.kh (tok t q) i.1 * M.gk i.1 * M.dkf (tok t q) i.2 : ℝ) : EReal)) (fun t h i => dwk_A m c H t h i.1 i.2) (fun t h i => dwk_B m c H t h i.1 i.2)
    (le_of_eq N_0) t (last_of t ((flush0_16 t).mp hf)) (y0, y1)).trans ?_
  rw [zero_add]
  exact sum_tok fun R => M.kh R y0 * M.gk y0 * M.dkf R y1
theorem dwv_arr : (dats m 0 c).arrAt 17 cfg0.N = fun j : S256x1024.Idx => ((∑ R : Fin 16384, M.kh R (j 0) * M.gk (j 0) * M.dvf R (j 1) : ℝ) : EReal) := by
  refine (dats m 0 c).arrAt_eq_of_covers 17 _ (by decide +kernel) fun t hf y => ?_
  idx_vars y
  blk_simp
  rw [after0_17]
  have e : (win0_17.blk t).view.emb (ix2 y0 y1) = ix2 y0 y1 := by blk_ext [idx t]
  rw [e]
  refine (Pipeline.eq_sum_fin_of_reset_step_apply_last (M := EReal) (fun n h (i : Fin 256 × Fin 1024) => (outsAt0 m c n h).2.2.2.2.2.1 (ix2 i.1 i.2)) 32 (fun _ => 0)
    (fun t i => ((∑ q : Fin 512, M.kh (tok t q) i.1 * M.gk i.1 * M.dvf (tok t q) i.2 : ℝ) : EReal)) (fun t h i => dwv_A m c H t h i.1 i.2) (fun t h i => dwv_B m c H t h i.1 i.2)
    (le_of_eq N_0) t (last_of t ((flush0_17 t).mp hf)) (y0, y1)).trans ?_
  rw [zero_add]
  exact sum_tok fun R => M.kh R y0 * M.gk y0 * M.dvf R y1
theorem dqg_arr : (dats m 0 c).arrAt 18 cfg0.N = fun j : S1x384.Idx => ((∑ R : Fin 16384, M.dqn R (j 1) * M.qh R (j 1) : ℝ) : EReal) := by
  refine (dats m 0 c).arrAt_eq_of_covers 18 _ (by decide +kernel) fun t hf y => ?_
  idx_vars y
  obtain rfl : y0 = 0 := Subsingleton.elim (α := Fin 1) _ _
  blk_simp
  rw [after0_18]
  have e : (win0_18.blk t).view.emb (ix2 0 y1) = ix2 0 y1 := by blk_ext [idx t]
  rw [e]
  refine (Pipeline.eq_sum_fin_of_reset_step_apply_last (M := EReal) (fun n h (i : Fin 384) => (outsAt0 m c n h).2.2.2.2.2.2.1 (ix2 0 i)) 32 (fun _ => 0)
    (fun t i => ((∑ q : Fin 512, M.dqn (tok t q) i * M.qh (tok t q) i : ℝ) : EReal)) (fun t h i => dqg_A m c H t h i) (fun t h i => dqg_B m c H t h i)
    (le_of_eq N_0) t (last_of t ((flush0_18 t).mp hf)) y1).trans ?_
  rw [zero_add]
  exact sum_tok fun R => M.dqn R y1 * M.qh R y1
theorem dkvg_arr : (dats m 0 c).arrAt 19 cfg0.N = fun j : S1x256.Idx => ((∑ R : Fin 16384, M.dkn R (j 1) * M.kh R (j 1) : ℝ) : EReal) := by
  refine (dats m 0 c).arrAt_eq_of_covers 19 _ (by decide +kernel) fun t hf y => ?_
  idx_vars y
  obtain rfl : y0 = 0 := Subsingleton.elim (α := Fin 1) _ _
  blk_simp
  rw [after0_19]
  have e : (win0_19.blk t).view.emb (ix2 0 y1) = ix2 0 y1 := by blk_ext [idx t]
  rw [e]
  refine (Pipeline.eq_sum_fin_of_reset_step_apply_last (M := EReal) (fun n h (i : Fin 256) => (outsAt0 m c n h).2.2.2.2.2.2.2 (ix2 0 i)) 32 (fun _ => 0)
    (fun t i => ((∑ q : Fin 512, M.dkn (tok t q) i * M.kh (tok t q) i : ℝ) : EReal)) (fun t h i => dkvg_A m c H t h i) (fun t h i => dkvg_B m c H t h i)
    (le_of_eq N_0) t (last_of t ((flush0_19 t).mp hf)) y1).trans ?_
  rw [zero_add]
  exact sum_tok fun R => M.dkn R y1 * M.kh R y1

omit H in
/-- What the buffers hold when the region ends: its arrays, and everything else as before. -/
def atEnd : Valuation τ sig (Elt Ideal) := Pipeline.withArrays (cfgs 0).spec c (V0 m c) fun w => (dats m 0 c).arrAt w (cfgs 0).N

theorem at_dkr (R : Fin 16384) (l : Fin 128) : atEnd m c (Proc.devRef .tc main_v35_2) (ix2 (n0 := 16384) R l) = ((M.dkr R l : ℝ) : EReal) :=
  (congrFun (Pipeline.withArrays_arr (cfgs 0).spec (by decide) c _ _ 14) _).trans (congrFun (dkr_arr m c H) _)
theorem at_dwq (i : Fin 384) (n : Fin 2048) : atEnd m c (Proc.devRef .tc main_v35_3) (ix2 (n0 := 384) i n) = ((∑ R : Fin 16384, M.qh R i * M.gq i * M.dqf R n : ℝ) : EReal) :=
  (congrFun (Pipeline.withArrays_arr (cfgs 0).spec (by decide) c _ _ 15) _).trans (congrFun (dwq_arr m c H) _)
theorem at_dwk (i : Fin 256) (n : Fin 1024) : atEnd m c (Proc.devRef .tc main_v35_4) (ix2 (n0 := 256) i n) = ((∑ R : Fin 16384, M.kh R i * M.gk i * M.dkf R n : ℝ) : EReal) :=
  (congrFun (Pipeline.withArrays_arr (cfgs 0).spec (by decide) c _ _ 16) _).trans (congrFun (dwk_arr m c H) _)
theorem at_dwv (i : Fin 256) (n : Fin 1024) : atEnd m c (Proc.devRef .tc main_v35_5) (ix2 (n0 := 256) i n) = ((∑ R : Fin 16384, M.kh R i * M.gk i * M.dvf R n : ℝ) : EReal) :=
  (congrFun (Pipeline.withArrays_arr (cfgs 0).spec (by decide) c _ _ 17) _).trans (congrFun (dwv_arr m c H) _)

theorem dkr_end (R : Fin 16384) (l : Fin 64) : StableHlo.after hostOps1 (atEnd m c) (Proc.devRef .tc main_v43) (ix2 (n0 := 16384) R l) = ((M.dks R l : ℝ) : EReal) := by
  refine Eq.trans ?_ ((at_dkr m c H R ⟨l.val, by omega⟩).trans (congrArg _ (M.dkr_eq R l)))
  generalize atEnd m c = V
  after_results
  pointwise
theorem dwq_end (i : Fin 384) (n : Fin 1536) : StableHlo.after hostOps1 (atEnd m c) (Proc.devRef .tc main_v38) (ix2 (n0 := 384) i n)
    = ((∑ R : Fin 16384, M.qh R i * M.gq i * M.dqs R n : ℝ) : EReal) := by
  refine Eq.trans ?_ ((at_dwq m c H i ⟨n.val / 192 * 256 + n.val % 192, by omega⟩).trans ?_)
  · generalize atEnd m c = V
    after_results
    pointwise
  · simp only [M.dqf_at]
theorem dwkv_end (i : Fin 256) (n : Fin 2048) : StableHlo.after hostOps1 (atEnd m c) (Proc.devRef .tc main_v42) (ix2 (n0 := 256) i n)
    = ((∑ R : Fin 16384, M.kh R i * M.gk i * M.dkv R n : ℝ) : EReal) := by
  have ek := at_dwk m c H i
  have ev := at_dwv m c H i
  generalize atEnd m c = V at ek ev
  after_results
  pointwise
  by_cases h : n.val % 256 < 128
  · rw [dif_pos h]
    refine (ek _).trans (congrArg _ (Finset.sum_congr rfl fun R _ => ?_))
    have e1 : (n.val / 256 * 128 + n.val % 256) / 128 = n.val / 256 := by omega
    have e2 : (n.val / 256 * 128 + n.val % 256) % 128 = n.val % 256 := by omega
    simp only [Model.dkf, Model.dkv, e1, e2, h, dif_pos]
  · rw [dif_neg h]
    refine (ev _).trans (congrArg _ (Finset.sum_congr rfl fun R _ => ?_))
    have e1 : (n.val / 256 * 128 + (n.val % 256 - 128)) / 128 = n.val / 256 := by omega
    have e2 : (n.val / 256 * 128 + (n.val % 256 - 128)) % 128 = n.val % 256 - 128 := by omega
    simp only [Model.dvf, Model.dkv, e1, e2, h, dif_neg, not_false_iff]

end Cert.LatGradIdeal.Val

end
-- ==== Proof.LatRef.lean ====
module

public import proofs.«01_k».proof.Proof.Gen.LatGradRefIdeal.Run
public import proofs.«01_k».proof.Proof.Gen.LatGradRefIdeal.Read
public import proofs.«01_k».proof.Proof.LatModel
public import Idealize.ShloMosaic.Lib.Pipeline.ValueKit
public import Idealize.ShloMosaic.Lib.Pointwise

/-!
The seven gradients of the latent projections' reference, entry by entry, in real numbers.
-/

@[expose] public section

set_option maxRecDepth 16384

noncomputable section

namespace Cert.LatGradRefIdeal.Val

open Idealize.ShloMosaic Idealize.ShloMosaic.TcCoe Idealize.SL.Sem
open Cert.LatGradRefIdeal Cert.LatGradRefIdeal.Gen Cert.LatGradRefIdeal.Read Cert.Proof.Row
open Cert.Proof.Attn (coe_sum div_coe_coe)
open Cert.Proof.Lat (Model Holds freqOf ofBits_384 ofBits_256)

variable {M : Model} {x0 : FVec Ideal S1x16384x384 .f32} {x1 : FVec Ideal S1x16384x320 .f32} {x2 : Vec Ideal S1x16384 .i32} {x3 : FVec Ideal S1x384 .f32}
  {x4 : FVec Ideal S384x1536 .f32} {x5 : FVec Ideal S1x256 .f32} {x6 : FVec Ideal S256x2048 .f32} {x7 x8 : FVec Ideal S1x16384x8x192 .f32}
  {x9 : FVec Ideal S1x16384x8x128 .f32} (H : Holds M x0 x1 x2 x3 x4 x5 x6 x7 x8 x9)

theorem first_ones_q (v : FVec Ideal S1x1x384 .f32) (i : Fin 384) : Ideal.hostReduceAdd reducesTo_S1x1x384_S384_d0_1 v 0 (ix1 i) = v (ix3 0 0 i) := by
  have hd (y : S1x1x384.Idx) : reducesTo_S1x1x384_S384_d0_1.drop y = ix1 (y 2) := by
    funext b
    match b with
    | ⟨0, _⟩ => rfl
  refine reduce_unit _ v _ _ (hd _) fun y hy => ?_
  have e : y 2 = i := congrFun ((hd y).symm.trans hy) 0
  funext a
  match a with
  | ⟨0, _⟩ => exact Subsingleton.elim (α := Fin 1) _ _
  | ⟨1, _⟩ => exact Subsingleton.elim (α := Fin 1) _ _
  | ⟨2, _⟩ => exact e

theorem first_ones_k (v : FVec Ideal S1x1x256 .f32) (i : Fin 256) : Ideal.hostReduceAdd reducesTo_S1x1x256_S256_d0_1 v 0 (ix1 i) = v (ix3 0 0 i) := by
  have hd (y : S1x1x256.Idx) : reducesTo_S1x1x256_S256_d0_1.drop y = ix1 (y 2) := by
    funext b
    match b with
    | ⟨0, _⟩ => rfl
  refine reduce_unit _ v _ _ (hd _) fun y hy => ?_
  have e : y 2 = i := congrFun ((hd y).symm.trans hy) 0
  funext a
  match a with
  | ⟨0, _⟩ => exact Subsingleton.elim (α := Fin 1) _ _
  | ⟨1, _⟩ => exact Subsingleton.elim (α := Fin 1) _ _
  | ⟨2, _⟩ => exact e

theorem outer_ones (v : FVec Ideal S1x16384x1 .f32) (i : Fin 16384) : Ideal.hostReduceAdd reducesTo_S1x16384x1_S16384_d0_2 v 0 (ix1 i) = v (ix3 0 i 0) := by
  have hd (y : S1x16384x1.Idx) : reducesTo_S1x16384x1_S16384_d0_2.drop y = ix1 (y 1) := by
    funext b
    match b with
    | ⟨0, _⟩ => rfl
  refine reduce_unit _ v _ _ (hd _) fun y hy => ?_
  have e : y 1 = i := congrFun ((hd y).symm.trans hy) 0
  funext a
  match a with
  | ⟨0, _⟩ => exact Subsingleton.elim (α := Fin 1) _ _
  | ⟨1, _⟩ => exact e
  | ⟨2, _⟩ => exact Subsingleton.elim (α := Fin 1) _ _

theorem head_one (v : FVec Ideal S1x16384x1x64 .f32) (R : Fin 16384) (l : Fin 64) : Ideal.hostReduceAdd reducesTo_S1x16384x1x64_S16384x64_d0_2 v 0 (ix2 R l) = v (ix4 0 R 0 l) := by
  have hd (y : S1x16384x1x64.Idx) : reducesTo_S1x16384x1x64_S16384x64_d0_2.drop y = ix2 (y 1) (y 3) := by
    funext b
    match b with
    | ⟨0, _⟩ => rfl
    | ⟨1, _⟩ => rfl
  refine reduce_unit _ v _ _ (hd _) fun y hy => ?_
  have e := (hd y).symm.trans hy
  have e1 : y 1 = R := congrFun e 0
  have e3 : y 3 = l := congrFun e 1
  funext a
  match a with
  | ⟨0, _⟩ => exact Subsingleton.elim (α := Fin 1) _ _
  | ⟨1, _⟩ => exact e1
  | ⟨2, _⟩ => exact Subsingleton.elim (α := Fin 1) _ _
  | ⟨3, _⟩ => exact e3

/-- A host sum over the unit axis and the heads is the sum over the heads. -/
theorem sum_heads (v : FVec Ideal S1x16384x8x64 .f32) (R : Fin 16384) (l : Fin 64) :
    Ideal.hostReduceAdd reducesTo_S1x16384x8x64_S16384x64_d0_2 v 0 (ix2 R l) = ∑ h : Fin 8, v (ix4 0 R h l) := by
  have hd (y : S1x16384x8x64.Idx) : reducesTo_S1x16384x8x64_S16384x64_d0_2.drop y = ix2 (y 1) (y 3) := by
    funext b
    match b with
    | ⟨0, _⟩ => rfl
    | ⟨1, _⟩ => rfl
  have back (y : S1x16384x8x64.Idx) (hy : y ∈ Finset.univ.filter fun i => reducesTo_S1x16384x8x64_S16384x64_d0_2.drop i = ix2 R l) : ix4 (n0 := 1) 0 R (y 2) l = y := by
    have e := (hd y).symm.trans (Finset.mem_filter.mp hy).2
    have e1 : y 1 = R := congrFun e 0
    have e3 : y 3 = l := congrFun e 1
    funext a
    match a with
    | ⟨0, _⟩ => exact Subsingleton.elim (α := Fin 1) _ _
    | ⟨1, _⟩ => exact e1.symm
    | ⟨2, _⟩ => rfl
    | ⟨3, _⟩ => exact e3.symm
  show (0 : EReal) + _ = _
  rw [zero_add]
  exact Finset.sum_nbij' (fun y => y 2) (fun h => ix4 0 R h l) (fun _ _ => Finset.mem_univ _) (fun h _ => Finset.mem_filter.mpr ⟨Finset.mem_univ _, hd _⟩)
    back (fun _ _ => rfl) (fun y hy => (congrArg v (back y hy)).symm)

theorem freq_at (H : Holds M x0 x1 x2 x3 x4 x5 x6 x7 x8 x9) (k : Fin 32) : (val_main_v50 (F := Ideal) (ix1 k) : EReal) = (M.freq k : ℝ) := by
  refine Eq.trans ?_ (H.freq k)
  pointwise [val_main_v50, val_main_v49, val_main_cst_9, val_main_v48, val_main_v47, val_main_cst_8, val_main_v46, val_main_v45, val_main_cst_7, val_main_v44]
  rfl
theorem freq_at' (H : Holds M x0 x1 x2 x3 x4 x5 x6 x7 x8 x9) (k : Fin 32) : (val_main_v81 (F := Ideal) (ix1 k) : EReal) = (M.freq k : ℝ) := by
  refine Eq.trans ?_ (H.freq k)
  pointwise [val_main_v81, val_main_v80, val_main_cst_12, val_main_v79, val_main_v78, val_main_cst_11, val_main_v77, val_main_v76, val_main_cst_10, val_main_v75]
  rfl

include H

theorem angle_at (R : Fin 16384) (k : Fin 32) : (val_main_v56 (F := Ideal) x2 (ix3 0 R k) : EReal) = (M.pos R * M.freq k : ℝ) := by
  pointwise [val_main_v56, val_main_v55, val_main_v54, val_main_v53, val_main_v52, val_main_v51]
  rw [freq_at H, H.pos, ← EReal.coe_mul]
theorem cos_at (R : Fin 16384) (k : Fin 32) : (val_main_v58 (F := Ideal) x2 (ix4 0 R 0 k) : EReal) = (Real.cos (M.pos R * M.freq k) : ℝ) := by
  pointwise [val_main_v58, val_main_v57]
  rw [angle_at H]; rfl
theorem sin_at (R : Fin 16384) (k : Fin 32) : (val_main_v60 (F := Ideal) x2 (ix4 0 R 0 k) : EReal) = (Real.sin (M.pos R * M.freq k) : ℝ) := by
  pointwise [val_main_v60, val_main_v59]
  rw [angle_at H]; rfl
theorem angle_at' (R : Fin 16384) (k : Fin 32) : (val_main_v87 (F := Ideal) x2 (ix3 0 R k) : EReal) = (M.pos R * M.freq k : ℝ) := by
  pointwise [val_main_v87, val_main_v86, val_main_v85, val_main_v84, val_main_v83, val_main_v82]
  rw [freq_at' H, H.pos, ← EReal.coe_mul]
theorem cos_at' (R : Fin 16384) (k : Fin 32) : (val_main_v89 (F := Ideal) x2 (ix4 0 R 0 k) : EReal) = (Real.cos (M.pos R * M.freq k) : ℝ) := by
  pointwise [val_main_v89, val_main_v88]
  rw [angle_at' H]; rfl
theorem sin_at' (R : Fin 16384) (k : Fin 32) : (val_main_v91 (F := Ideal) x2 (ix4 0 R 0 k) : EReal) = (Real.sin (M.pos R * M.freq k) : ℝ) := by
  pointwise [val_main_v91, val_main_v90]
  rw [angle_at' H]; rfl

/-! ## The query side -/

theorem sq_at (R : Fin 16384) (h : Fin 8) (e : Fin 192) : (val_main_v107 (F := Ideal) x7 (ix4 0 R h e) : EReal) = (M.dq R h e * M.σ : ℝ) := by
  pointwise [val_main_v107, val_main_v106, val_main_cst_14]
  rw [H.dq, H.σ, ← EReal.coe_mul]
theorem hi_q (R : Fin 16384) (h : Fin 8) (l : Fin 32) : (val_main_v137 (F := Ideal) x2 x7 (ix4 0 R h l) : EReal)
    = (M.dq R h ⟨128 + (32 + l.val), by omega⟩ * M.σ * Real.cos (M.pos R * M.freq l) + -(M.dq R h ⟨128 + l.val, by omega⟩ * M.σ) * Real.sin (M.pos R * M.freq l) : ℝ) := by
  pointwise [val_main_v137, val_main_v133, val_main_v132, val_main_v129, val_main_v136, val_main_v135, val_main_v134, val_main_v128, val_main_v113]
  simp only [sq_at H, cos_at H, sin_at H, ← EReal.coe_mul, ← EReal.coe_neg, ← EReal.coe_add]
theorem lo_q (R : Fin 16384) (h : Fin 8) (l : Fin 32) : (val_main_v140 (F := Ideal) x2 x7 (ix4 0 R h l) : EReal)
    = (M.dq R h ⟨128 + (32 + l.val), by omega⟩ * M.σ * Real.sin (M.pos R * M.freq l) + M.dq R h ⟨128 + l.val, by omega⟩ * M.σ * Real.cos (M.pos R * M.freq l) : ℝ) := by
  pointwise [val_main_v140, val_main_v139, val_main_v138, val_main_v131, val_main_v130, val_main_v129, val_main_v128, val_main_v113]
  simp only [sq_at H, cos_at H, sin_at H, ← EReal.coe_mul, ← EReal.coe_add]
theorem rope_q (R : Fin 16384) (h : Fin 8) (l : Fin 64) : (val_main_v143 (F := Ideal) x2 x7 (ix4 0 R h l) : EReal) = (M.rope R (fun l => M.dq R h ⟨128 + l.val, by omega⟩ * M.σ) l : ℝ) := by
  pointwise [val_main_v143, val_main_v142, val_main_cst_20, val_main_v141, val_main_cst_19]
  simp only [hi_q H, lo_q H]
  simp only [Model.rope]
  by_cases hl : l.val < 32
  · simp only [hl, dif_pos, show ¬ 32 ≤ l.val by omega, false_and, dif_neg, not_false_iff, zero_add, show 128 + (32 + l.val) = 128 + (l.val + 32) by omega]
  · simp only [hl, dif_neg, not_false_iff, show 32 ≤ l.val ∧ l.val - 32 < 32 by omega, and_self, dif_pos, add_zero, show 128 + (32 + (l.val - 32)) = 128 + l.val by omega]
theorem dqh_at (R : Fin 16384) (h : Fin 8) (e : Fin 192) : (val_main_v178 (F := Ideal) x2 x7 (ix4 0 R h e) : EReal) = (M.dqh R h e : ℝ) := by
  pointwise [val_main_v178, val_main_v177, val_main_cst_31, val_main_v176, val_main_cst_30, val_main_v112]
  simp only [sq_at H, rope_q H]
  simp only [Model.dqh]
  by_cases he : e.val < 128
  · simp only [he, dif_pos, show ¬ 128 ≤ e.val by omega, false_and, dif_neg, not_false_iff, zero_add]
  · simp only [he, dif_neg, not_false_iff, show 128 ≤ e.val ∧ e.val - 128 < 64 by omega, and_self, dif_pos, add_zero]
theorem dqs_at (R : Fin 16384) (k : Fin 1536) : (val_main_v179 (F := Ideal) x2 x7 (ix3 0 R k) : EReal) = (M.dqs R k : ℝ) := by
  pointwise [val_main_v179]
  exact dqh_at H R _ _
theorem q_under (R : Fin 16384) : (val_main_v7 (F := Ideal) x0 (ix3 0 R 0) : EReal) = (mean (fun i => M.ql R i * M.ql R i) + M.ε : ℝ) := by
  pointwise [val_main_v7, val_main_v6, val_main_cst_1, val_main_v5, val_main_v4, val_main_cst_0, val_main_v3, val_main_v2, val_main_cst, val_main_v1]
  simp only [H.ql, ofBits_384, H.ε, ← EReal.coe_mul, ← coe_sum]
  rw [div_coe_coe (by norm_num), ← EReal.coe_add]
  simp only [mean, Nat.cast_ofNat]
theorem q_inv (R : Fin 16384) : (val_main_v8 (F := Ideal) x0 (ix3 0 R 0) : EReal) = (Cert.Proof.Row.inv M.ε (M.ql R) : ℝ) := by
  pointwise [val_main_v8]
  rw [q_under H]
  exact rsqrt_coe (under_pos H.ε_pos _)
theorem q_half (R : Fin 16384) : (val_main_v11 (F := Ideal) x0 (ix3 0 R 0) : EReal) = (-(1 / 2) * (Cert.Proof.Row.inv M.ε (M.ql R) / (mean (fun i => M.ql R i * M.ql R i) + M.ε)) : ℝ) := by
  pointwise [val_main_v11, val_main_v10, val_main_cst_2, val_main_v9]
  rw [q_inv H, q_under H, ofBits_neg_half, div_coe_coe (under_pos H.ε_pos _).ne', ← EReal.coe_mul]
theorem qh_at (R : Fin 16384) (i : Fin 384) : (val_main_v13 (F := Ideal) x0 (ix3 0 R i) : EReal) = (M.qh R i : ℝ) := by
  pointwise [val_main_v13, val_main_v12]
  rw [H.ql, q_inv H, ← EReal.coe_mul]; rfl
theorem qn_at (R : Fin 16384) (i : Fin 384) : (val_main_v16 (F := Ideal) x0 x3 (ix3 0 R i) : EReal) = (M.qh R i * M.gq i : ℝ) := by
  pointwise [val_main_v16, val_main_v15, val_main_v14, val_main_v0]
  rw [qh_at H, H.gq, ← EReal.coe_mul]
theorem dqn_at (R : Fin 16384) (i : Fin 384) : (val_main_v182 (F := Ideal) x2 x4 x7 (ix3 0 R i) : EReal) = (M.dqn R i : ℝ) := by
  pointwise [val_main_v182]
  simp only [dqs_at H, H.wq, ← EReal.coe_mul, ← coe_sum]
  rw [M.dqn_eq]
theorem Gq_at (R : Fin 16384) (i : Fin 384) : (val_main_v187 (F := Ideal) x2 x3 x4 x7 (ix3 0 R i) : EReal) = (M.dqn R i * M.gq i : ℝ) := by
  pointwise [val_main_v187, val_main_v186, val_main_v14, val_main_v0]
  rw [dqn_at H, H.gq, ← EReal.coe_mul]
theorem back_q (R : Fin 16384) : (val_main_v198 (F := Ideal) x0 x2 x3 x4 x7 (ix2 0 R) : EReal)
    = ((∑ k, M.ql R k * (M.dqn R k * M.gq k)) * (-(1 / 2) * (Cert.Proof.Row.inv M.ε (M.ql R) / (mean (fun i => M.ql R i * M.ql R i) + M.ε))) / 384 : ℝ) := by
  pointwise [val_main_v198, val_main_v197, val_main_cst_36]
  rw [outer_ones]
  pointwise [val_main_v196, val_main_v195, val_main_cst_35, val_main_v194, val_main_v191, val_main_v190, val_main_cst_34, val_main_v189]
  simp only [H.ql, Gq_at H, q_half H, ofBits_384, ← EReal.coe_mul, ← coe_sum]
  rw [div_coe_coe (by norm_num)]
theorem dql_at (R : Fin 16384) (i : Fin 384) : (val_main_v203 (F := Ideal) x0 x2 x3 x4 x7 (ix3 0 R i) : EReal) = (M.dql R i : ℝ) := by
  pointwise [val_main_v203, val_main_v202, val_main_v201, val_main_v200, val_main_v199, val_main_v193, val_main_v192]
  rw [back_q H, Gq_at H, q_inv H, H.ql]
  simp only [← EReal.coe_mul, ← EReal.coe_add]
  rw [Model.dql, rmsGrad_eq H.ε_pos (by norm_num)]
  congr 1
  push_cast
  ring

/-! ## The key and value side -/

theorem cv_at (R : Fin 16384) (i : Fin 256) : (val_main_v21 (F := Ideal) x1 (ix3 0 R i) : EReal) = (M.cv R i : ℝ) := by
  pointwise [val_main_v21]
  exact H.cv R i
theorem k_under (R : Fin 16384) : (val_main_v30 (F := Ideal) x1 (ix3 0 R 0) : EReal) = (mean (fun i => M.cv R i * M.cv R i) + M.ε : ℝ) := by
  pointwise [val_main_v30, val_main_v29, val_main_cst_5, val_main_v28, val_main_v27, val_main_cst_4, val_main_v26, val_main_v25, val_main_cst_3, val_main_v24]
  simp only [cv_at H, ofBits_256, H.ε, ← EReal.coe_mul, ← coe_sum]
  rw [div_coe_coe (by norm_num), ← EReal.coe_add]
  simp only [mean, Nat.cast_ofNat]
theorem k_inv (R : Fin 16384) : (val_main_v31 (F := Ideal) x1 (ix3 0 R 0) : EReal) = (Cert.Proof.Row.inv M.ε (M.cv R) : ℝ) := by
  pointwise [val_main_v31]
  rw [k_under H]
  exact rsqrt_coe (under_pos H.ε_pos _)
theorem k_half (R : Fin 16384) : (val_main_v34 (F := Ideal) x1 (ix3 0 R 0) : EReal) = (-(1 / 2) * (Cert.Proof.Row.inv M.ε (M.cv R) / (mean (fun i => M.cv R i * M.cv R i) + M.ε)) : ℝ) := by
  pointwise [val_main_v34, val_main_v33, val_main_cst_6, val_main_v32]
  rw [k_inv H, k_under H, ofBits_neg_half, div_coe_coe (under_pos H.ε_pos _).ne', ← EReal.coe_mul]
theorem kh_at (R : Fin 16384) (i : Fin 256) : (val_main_v36 (F := Ideal) x1 (ix3 0 R i) : EReal) = (M.kh R i : ℝ) := by
  pointwise [val_main_v36, val_main_v35]
  rw [cv_at H, k_inv H, ← EReal.coe_mul]; rfl
theorem kn_at (R : Fin 16384) (i : Fin 256) : (val_main_v39 (F := Ideal) x1 x5 (ix3 0 R i) : EReal) = (M.kh R i * M.gk i : ℝ) := by
  pointwise [val_main_v39, val_main_v38, val_main_v37, val_main_v23]
  rw [kh_at H, H.gk, ← EReal.coe_mul]
theorem dkv_at (R : Fin 16384) (k : Fin 2048) : (val_main_v147 (F := Ideal) x8 x9 (ix3 0 R k) : EReal) = (M.dkv R k : ℝ) := by
  pointwise [val_main_v147, val_main_v146, val_main_v145, val_main_v144, val_main_cst_21, val_main_cst_22, val_main_v108]
  simp only [H.dk, H.dv]
  simp only [Model.dkv]
  by_cases hk : k.val % 256 < 128
  · simp only [hk, dif_pos, show k.val / 256 < 8 by omega, show ¬ 128 ≤ k.val % 256 by omega, false_and, and_false, true_and, dif_neg, not_false_iff, zero_add]
  · simp only [hk, dif_neg, not_false_iff, show k.val / 256 < 8 ∧ 128 ≤ k.val % 256 ∧ k.val % 256 - 128 < 128 by omega, and_self, and_false, dif_pos, add_zero]
theorem dkn_at (R : Fin 16384) (i : Fin 256) : (val_main_v150 (F := Ideal) x6 x8 x9 (ix3 0 R i) : EReal) = (M.dkn R i : ℝ) := by
  pointwise [val_main_v150]
  simp only [dkv_at H, H.wk, ← EReal.coe_mul, ← coe_sum]
  rw [M.dkn_eq]
theorem Gk_at (R : Fin 16384) (i : Fin 256) : (val_main_v155 (F := Ideal) x5 x6 x8 x9 (ix3 0 R i) : EReal) = (M.dkn R i * M.gk i : ℝ) := by
  pointwise [val_main_v155, val_main_v154, val_main_v37, val_main_v23]
  rw [dkn_at H, H.gk, ← EReal.coe_mul]
theorem back_k (R : Fin 16384) : (val_main_v166 (F := Ideal) x1 x5 x6 x8 x9 (ix2 0 R) : EReal)
    = ((∑ k, M.cv R k * (M.dkn R k * M.gk k)) * (-(1 / 2) * (Cert.Proof.Row.inv M.ε (M.cv R) / (mean (fun i => M.cv R i * M.cv R i) + M.ε))) / 256 : ℝ) := by
  pointwise [val_main_v166, val_main_v165, val_main_cst_27]
  rw [outer_ones]
  pointwise [val_main_v164, val_main_v163, val_main_cst_26, val_main_v162, val_main_v159, val_main_v158, val_main_cst_25, val_main_v157]
  simp only [cv_at H, Gk_at H, k_half H, ofBits_256, ← EReal.coe_mul, ← coe_sum]
  rw [div_coe_coe (by norm_num)]
theorem dcv_at (R : Fin 16384) (i : Fin 256) : (val_main_v171 (F := Ideal) x1 x5 x6 x8 x9 (ix3 0 R i) : EReal) = (M.dcv R i : ℝ) := by
  pointwise [val_main_v171, val_main_v170, val_main_v169, val_main_v168, val_main_v167, val_main_v161, val_main_v160]
  rw [back_k H, Gk_at H, k_inv H, cv_at H]
  simp only [← EReal.coe_mul, ← EReal.coe_add]
  rw [Model.dcv, rmsGrad_eq H.ε_pos (by norm_num)]
  congr 1
  push_cast
  ring
theorem heads_at (R : Fin 16384) (l : Fin 64) : (val_main_v110 (F := Ideal) x8 (ix2 R l) : EReal) = (∑ h, M.dk R h ⟨128 + l.val, by omega⟩ : ℝ) := by
  pointwise [val_main_v110, val_main_cst_15]
  rw [sum_heads]
  pointwise [val_main_v109]
  simp only [H.dk, ← coe_sum]
theorem hi_k (R : Fin 16384) (l : Fin 32) : (val_main_v120 (F := Ideal) x2 x8 (ix4 0 R 0 l) : EReal)
    = ((∑ h, M.dk R h ⟨128 + (32 + l.val), by omega⟩) * Real.cos (M.pos R * M.freq l) + -(∑ h, M.dk R h ⟨128 + l.val, by omega⟩) * Real.sin (M.pos R * M.freq l) : ℝ) := by
  pointwise [val_main_v120, val_main_v119, val_main_v118, val_main_v117, val_main_v115, val_main_v114, val_main_v111]
  simp only [heads_at H, cos_at' H, sin_at' H, ← EReal.coe_mul, ← EReal.coe_neg, ← EReal.coe_add]
theorem lo_k (R : Fin 16384) (l : Fin 32) : (val_main_v122 (F := Ideal) x2 x8 (ix4 0 R 0 l) : EReal)
    = ((∑ h, M.dk R h ⟨128 + (32 + l.val), by omega⟩) * Real.sin (M.pos R * M.freq l) + (∑ h, M.dk R h ⟨128 + l.val, by omega⟩) * Real.cos (M.pos R * M.freq l) : ℝ) := by
  pointwise [val_main_v122, val_main_v121, val_main_v116, val_main_v115, val_main_v114, val_main_v111]
  simp only [heads_at H, cos_at' H, sin_at' H, ← EReal.coe_mul, ← EReal.coe_neg, ← EReal.coe_add]
theorem dks_at (R : Fin 16384) (l : Fin 64) : (val_main_v127 (F := Ideal) x2 x8 (ix3 0 R l) : EReal) = (M.dks R l : ℝ) := by
  pointwise [val_main_v127, val_main_v126, val_main_cst_18]
  rw [head_one]
  pointwise [val_main_v125, val_main_v124, val_main_v123, val_main_cst_16, val_main_cst_17]
  simp only [hi_k H, lo_k H]
  simp only [Model.dks, Model.rope]
  by_cases hl : l.val < 32
  · simp only [hl, dif_pos, show ¬ 32 ≤ l.val by omega, false_and, dif_neg, not_false_iff, zero_add, show 128 + (32 + l.val) = 128 + (l.val + 32) by omega]
  · simp only [hl, dif_neg, not_false_iff, show 32 ≤ l.val ∧ l.val - 32 < 32 by omega, and_self, dif_pos, add_zero, show 128 + (32 + (l.val - 32)) = 128 + l.val by omega]

/-! ## The results -/

theorem ql_end (R : Fin 16384) (i : Fin 384) : (val_main_v206 (F := Ideal) x0 x2 x3 x4 x7 (ix2 R i) : EReal) = (M.dql R i : ℝ) := by
  pointwise [val_main_v206, val_main_v205]
  exact dql_at H R i
theorem cv_end (R : Fin 16384) (i : Fin 256) : (val_main_v209 (F := Ideal) x1 x2 x5 x6 x8 x9 (ix2 R i) : EReal) = (M.dcv R i : ℝ) := by
  pointwise [val_main_v209, val_main_v208, val_main_v207, val_main_v175, val_main_v174, val_main_v173, val_main_cst_28, val_main_cst_29]
  rw [dif_neg (fun h => h.1.elim), zero_add, dcv_at H]
theorem kr_end (R : Fin 16384) (l : Fin 64) : (val_main_v212 (F := Ideal) x1 x2 x5 x6 x8 x9 (ix2 R l) : EReal) = (M.dks R l : ℝ) := by
  pointwise [val_main_v212, val_main_v211, val_main_v210, val_main_v175, val_main_v174, val_main_v173, val_main_cst_28, val_main_cst_29]
  exact dks_at H R l
theorem wq_end (i : Fin 384) (k : Fin 1536) : (val_main_v181 (F := Ideal) x0 x2 x3 x7 (ix2 i k) : EReal) = (∑ R : Fin 16384, M.qh R i * M.gq i * M.dqs R k : ℝ) := by
  pointwise [val_main_v181, val_main_v180]
  rw [Fin.sum_univ_one]
  simp only [dqs_at H, qn_at H, ← EReal.coe_mul, ← coe_sum, mul_comm (M.dqs _ _)]
theorem wk_end (i : Fin 256) (k : Fin 2048) : (val_main_v149 (F := Ideal) x1 x5 x8 x9 (ix2 i k) : EReal) = (∑ R : Fin 16384, M.kh R i * M.gk i * M.dkv R k : ℝ) := by
  pointwise [val_main_v149, val_main_v148]
  rw [Fin.sum_univ_one]
  simp only [dkv_at H, kn_at H, ← EReal.coe_mul, ← coe_sum, mul_comm (M.dkv _ _)]
theorem gq_end (i : Fin 384) : (val_main_v204 (F := Ideal) x0 x2 x4 x7 (ix2 0 i) : EReal) = (∑ R : Fin 16384, M.dqn R i * M.qh R i : ℝ) := by
  pointwise [val_main_v204, val_main_v188, val_main_cst_33]
  rw [first_ones_q]
  pointwise [val_main_v185, val_main_v184, val_main_cst_32, val_main_v183]
  simp only [dqn_at H, qh_at H, ← EReal.coe_mul, ← coe_sum, mul_comm (M.qh _ _)]
theorem gk_end (i : Fin 256) : (val_main_v172 (F := Ideal) x1 x6 x8 x9 (ix2 0 i) : EReal) = (∑ R : Fin 16384, M.dkn R i * M.kh R i : ℝ) := by
  pointwise [val_main_v172, val_main_v156, val_main_cst_24]
  rw [first_ones_k]
  pointwise [val_main_v153, val_main_v152, val_main_cst_23, val_main_v151]
  simp only [dkn_at H, kh_at H, ← EReal.coe_mul, ← coe_sum, mul_comm (M.kh _ _)]

end Cert.LatGradRefIdeal.Val

end
-- ==== Proof.LatEq.lean ====
module

public import proofs.«01_k».proof.Defs
public import proofs.«01_k».proof.Proof.LatArrays
public import proofs.«01_k».proof.Proof.LatRef
public import proofs.«01_k».proof.Proof.Gen.Pre_lat_finite
public import Idealize.ShloMosaic.Lib.Claim
public import Idealize.ShloMosaic.Lib.ReduceAll

/-!
The latent projections' gradient kernel and its reference end with equal results where the arguments are finite.
-/

@[expose] public section

set_option maxRecDepth 16384

noncomputable section

namespace Cert.Proof.Lat

open Idealize.ShloMosaic Idealize.ShloMosaic.TcCoe Idealize.SL.Sem
open Cert.Proof.Row (real_of_lt)

open Cert.Pre_lat_finite in
/-- Arguments that the precondition holds of are a model's entries. -/
theorem holds_of [Facts] (x0 : FVec Ideal S1x16384x384 .f32) (x1 : FVec Ideal S1x16384x320 .f32) (x2 : Vec Ideal S1x16384 .i32) (x3 : FVec Ideal S1x384 .f32)
    (x4 : FVec Ideal S384x1536 .f32) (x5 : FVec Ideal S1x256 .f32) (x6 : FVec Ideal S256x2048 .f32) (x7 x8 : FVec Ideal S1x16384x8x192 .f32)
    (x9 : FVec Ideal S1x16384x8x128 .f32) (h : fn (F := Ideal) x0 x1 x2 x3 x4 x5 x6 x7 x8 x9 = fun _ => 1#1) : ∃ M, Holds M x0 x1 x2 x3 x4 x5 x6 x7 x8 x9 := by
  have h := congrFun h (fun a => a.elim0)
  unfold fn fn_part1 at h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h1⟩ := IntOp.andi_eq_one.1 h
  obtain ⟨-, h0⟩ := IntOp.andi_eq_one.1 h
  obtain ⟨ε, hε, eε⟩ := ofBits_rms
  obtain ⟨σ, eσ⟩ := ofBits_scale
  choose f hf using freqOf_real
  exact ⟨{  ql := fun R i => (x0 (ix3 0 R i) : EReal).toReal
            cv := fun R i => (x1 (ix3 0 R ⟨i.val, by omega⟩) : EReal).toReal
            pos := fun R => ((x2 (ix2 0 R) : BitVec 32).toInt : ℝ)
            freq := fun k => f k.val
            gq := fun i => (x3 (ix2 0 i) : EReal).toReal
            gk := fun i => (x5 (ix2 0 i) : EReal).toReal
            wq := fun i k => (x4 (ix2 i k) : EReal).toReal
            wk := fun i k => (x6 (ix2 i k) : EReal).toReal
            dq := fun R h e => (x7 (ix4 0 R h e) : EReal).toReal
            dk := fun R h e => (x8 (ix4 0 R h e) : EReal).toReal
            dv := fun R h e => (x9 (ix4 0 R h e) : EReal).toReal
            σ := σ
            ε := ε },
    { ql := fun R i => real_of_lt _ (Host.reduce_andi_all _ _ _ _ _ h0 _)
      cv := fun R i => real_of_lt _ (Host.reduce_andi_all _ _ _ _ _ h1 _)
      pos := fun R => rfl
      freq := fun k => hf k.val
      gq := fun i => real_of_lt _ (Host.reduce_andi_all _ _ _ _ _ h3 _)
      wq := fun i k => real_of_lt _ (Host.reduce_andi_all _ _ _ _ _ h4 _)
      gk := fun i => real_of_lt _ (Host.reduce_andi_all _ _ _ _ _ h5 _)
      wk := fun i k => real_of_lt _ (Host.reduce_andi_all _ _ _ _ _ h6 _)
      dq := fun R h e => real_of_lt _ (Host.reduce_andi_all _ _ _ _ _ h7 _)
      dk := fun R h e => real_of_lt _ (Host.reduce_andi_all _ _ _ _ _ h8 _)
      dv := fun R h e => real_of_lt _ (Host.reduce_andi_all _ _ _ _ _ h9 _)
      σ := eσ
      ε := eε
      ε_pos := hε }⟩

open Cert.LatGradIdeal.Val Cert.LatGradIdeal.Gen in
theorem algebraic_lat : Cert.algebraic_LatGradIdeal_LatGradRefIdeal_pre_lat_finite (hLatGradIdeal := Cert.LatGradIdeal.Gen.facts)
    (hLatGradRefIdeal := Cert.LatGradRefIdeal.Gen.facts) (hPre_lat_finite := Cert.Pre_lat_finite.Gen.facts) := by
  intro m g m' g' hpre hagree
  refine ⟨fun c => (dats m 0 c).arrAt 12 Cert.LatGradIdeal.cfg0.N, fun c => (dats m 0 c).arrAt 13 Cert.LatGradIdeal.cfg0.N,
    fun c => StableHlo.after hostOps1 (atEnd m c) (Proc.devRef .tc Cert.LatGradIdeal.main_v43),
    fun c => StableHlo.after hostOps1 (atEnd m c) (Proc.devRef .tc Cert.LatGradIdeal.main_v38),
    fun c => StableHlo.after hostOps1 (atEnd m c) (Proc.devRef .tc Cert.LatGradIdeal.main_v42),
    fun c => (dats m 0 c).arrAt 18 Cert.LatGradIdeal.cfg0.N, fun c => (dats m 0 c).arrAt 19 Cert.LatGradIdeal.cfg0.N, ?_, ?_⟩
  · refine θ_run_mono (θ_run_and (run_main m g) (Cert.LatGradIdeal.Gen.frame m g)) fun r hr c => ?_
    exact ⟨(hr.1 c).1 12, (hr.1 c).1 13, (hr.1 c).2 Cert.LatGradIdeal.main_v43 (Pipeline.mem_restRefs_of _ (by decide) (by decide)),
      (hr.1 c).2 Cert.LatGradIdeal.main_v38 (Pipeline.mem_restRefs_of _ (by decide) (by decide)),
      (hr.1 c).2 Cert.LatGradIdeal.main_v42 (Pipeline.mem_restRefs_of _ (by decide) (by decide)), (hr.1 c).1 18, (hr.1 c).1 19, hr.2.1 c⟩
  · refine θ_run_mono (Cert.LatGradRefIdeal.Value.run m' g') fun r hr c => ?_
    obtain ⟨h0, h1, h2, h3, h4, h5, h6, hargs⟩ := hr c
    obtain ⟨a0, a1, a2, a3, a4, a5, a6, a7, a8, a9⟩ := hagree c
    obtain ⟨M, H⟩ := holds_of _ _ _ _ _ _ _ _ _ _ (hpre c)
    have H' := H
    rw [← a0, ← a1, ← a2, ← a3, ← a4, ← a5, ← a6, ← a7, ← a8, ← a9] at H'
    refine ⟨h0.trans ?_, h1.trans ?_, h2.trans ?_, h3.trans ?_, h4.trans ?_, h5.trans ?_, h6.trans ?_, hargs⟩
    · rw [Cert.LatGradRefIdeal.Read.val_main_v206_eq]
      refine Eq.trans ?_ (dql_arr m c H).symm
      funext j
      idx_vars j
      exact Cert.LatGradRefIdeal.Val.ql_end H' j0 j1
    · rw [Cert.LatGradRefIdeal.Read.val_main_v209_eq]
      refine Eq.trans ?_ (dcv_arr m c H).symm
      funext j
      idx_vars j
      exact Cert.LatGradRefIdeal.Val.cv_end H' j0 j1
    · rw [Cert.LatGradRefIdeal.Read.val_main_v212_eq]
      funext j
      idx_vars j
      exact (Cert.LatGradRefIdeal.Val.kr_end H' j0 j1).trans (dkr_end m c H j0 j1).symm
    · rw [Cert.LatGradRefIdeal.Read.val_main_v181_eq]
      funext j
      idx_vars j
      exact (Cert.LatGradRefIdeal.Val.wq_end H' j0 j1).trans (dwq_end m c H j0 j1).symm
    · rw [Cert.LatGradRefIdeal.Read.val_main_v149_eq]
      funext j
      idx_vars j
      exact (Cert.LatGradRefIdeal.Val.wk_end H' j0 j1).trans (dwkv_end m c H j0 j1).symm
    · rw [Cert.LatGradRefIdeal.Read.val_main_v204_eq]
      refine Eq.trans ?_ (dqg_arr m c H).symm
      funext j
      idx_vars j
      obtain rfl : j0 = 0 := Subsingleton.elim (α := Fin 1) _ _
      exact Cert.LatGradRefIdeal.Val.gq_end H' j1
    · rw [Cert.LatGradRefIdeal.Read.val_main_v172_eq]
      refine Eq.trans ?_ (dkvg_arr m c H).symm
      funext j
      idx_vars j
      obtain rfl : j0 = 0 := Subsingleton.elim (α := Fin 1) _ _
      exact Cert.LatGradRefIdeal.Val.gk_end H' j1

end Cert.Proof.Lat

end
-- ==== Proof.FwdStep.lean ====
module

public import proofs.«01_k».proof.Proof.Gen.AttnFwdIdeal.Skeleton
public import proofs.«01_k».proof.Proof.Gen.AttnFwdIdeal.Frame
public import Idealize.ShloMosaic.Lib.LoopRemainder
public import Idealize.ShloMosaic.Lib.WritesUnit
public import Idealize.ShloMosaic.Lib.Pipeline.Value
public import Idealize.ShloMosaic.Lib.Pointwise.Index
public import Idealize.ShloMosaic.Lib.Claim

/-!
The trips of the attention's forward kernel: the loop that lays the values out, and what one block of keys does to the running
maximum and the running sums of a block of queries.
-/

@[expose] public section

set_option maxRecDepth 16384

noncomputable section

namespace Cert.Proof.Fwd

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Where the loops read and write -/

/-- The query block of a grid point, the key block a trip of the loop by fours takes `u`-th, and the one a trip of the later loop takes. -/
abbrev bq (i : grid0.Coords) : Fin 16 := Fin.ofNat 16 (i 1).val
abbrev b2 (i : grid0.Coords) (k : Fin (k0_t2_loop i).trips) (u : Fin 4) : Fin 16 := Fin.ofNat 16 (4 * k.val + u.val)
abbrev b4 (i : grid0.Coords) (k : Fin (k0_t4_loop i).trips) : Fin 16 := Fin.ofNat 16 (4 * (k0_t2_loop i).trips + k.val)
abbrev half (n : Fin 16) (a : Fin 2) : Fin 32 := Fin.ofNat 32 (2 * n.val + a.val)
abbrev quarter (n : Fin 16) (a b : Fin 2) : Fin 64 := Fin.ofNat 64 (4 * n.val + 2 * a.val + b.val)

theorem off1_eq : ∀ k : Fin k0_t1_loop.trips, k0_off1 k = ![0, 256 * k.val, 0] := by decide +kernel
theorem off2_eq : ∀ k : Fin k0_t1_loop.trips, k0_off2 k = ![k.val, 0, 0] := by decide +kernel
theorem off3_eq : ∀ k : Fin k0_t1_loop.trips, k0_off3 k = ![k.val, 128, 0] := by decide +kernel
theorem off4_eq : ∀ (i : grid0.Coords) (k : Fin (k0_t2_loop i).trips) (u : Fin 4) (a : Fin 2),
    k0_off4 i k (BitVec.ofNat 32 u.val) (BitVec.ofNat 32 (512 * a.val)) = ![0, 512 * (half (b2 i k u) a).val, 0] := by decide +kernel
theorem off5_eq : ∀ (i : grid0.Coords) (k : Fin (k0_t2_loop i).trips) (u : Fin 4) (a b : Fin 2),
    k0_off5 i k (BitVec.ofNat 32 u.val) (BitVec.ofNat 32 a.val) (BitVec.ofNat 32 b.val) = ![(quarter (b2 i k u) a b).val, 0, 0] := by decide +kernel
theorem off8_eq : ∀ (i : grid0.Coords) (k : Fin (k0_t4_loop i).trips) (a : Fin 2),
    k0_off8 i k (BitVec.ofNat 32 (512 * a.val)) = ![0, 512 * (half (b4 i k) a).val, 0] := by decide +kernel
theorem off9_eq : ∀ (i : grid0.Coords) (k : Fin (k0_t4_loop i).trips) (a b : Fin 2),
    k0_off9 i k (BitVec.ofNat 32 a.val) (BitVec.ofNat 32 b.val) = ![(quarter (b4 i k) a b).val, 0, 0] := by decide +kernel
theorem off12_eq : ∀ (i : grid0.Coords) (a : Fin 2),
    k0_off12 i (BitVec.ofNat 32 (512 * a.val)) = ![0, 512 * (half (bq i) a).val, 0] := by decide +kernel
theorem off13_eq : ∀ (i : grid0.Coords) (a b : Fin 2),
    k0_off13 i (BitVec.ofNat 32 a.val) (BitVec.ofNat 32 b.val) = ![(quarter (bq i) a b).val, 0, 0] := by decide +kernel
theorem trips1 : k0_t1_loop.trips = 64 := by decide +kernel
theorem trips_eq : ∀ i : grid0.Coords, 4 * (k0_t2_loop i).trips + (k0_t4_loop i).trips = (i 1).val := by decide +kernel
theorem first_iff : ∀ i : grid0.Coords, k0_cond1 i = 1#1 ↔ (i 1).val = 0 := by decide +kernel

/-! ## One block of keys -/

/-- Half a block of keys, the values of a quarter of a block as laid out, and as they come. -/
abbrev rk (n : Fin 32) : Rect S1x16384x256 := Rect.unit ![0, 512 * n.val, 0] S1x512x256.size (by have := n.isLt; intro a; fin_cases a <;> simp <;> omega)
abbrev rv (n : Fin 64) : Rect S64x144x256 := Rect.unit ![n.val, 0, 0] S1x144x256.size (by have := n.isLt; intro a; fin_cases a <;> simp <;> omega)
abbrev rw4 (n : Fin 64) : Rect S1x16384x128 := Rect.unit ![0, 256 * n.val, 0] S1x256x128.size (by have := n.isLt; intro a; fin_cases a <;> simp <;> omega)

/-- The running maximum of each query's scores, and the running sums. -/
abbrev St (F : FTy → Type) [FloatOps F] := FVec F S1x1024 .f32 × FVec F S144x1024 .f32

/-- The values laid out: the columns of each quarter block, below them a row of ones and rows of zeros. -/
def laid (X4 : Vec F S1x16384x128 .bf16) : Vec F S64x144x256 .bf16 := fun y =>
  if (y 1).val < 128 then k0_pay85 (View.ld X4 (rw4 (y 0))) (ix3 0 (Fin.ofNat 128 (y 1).val) (y 2))
  else k0_pay86 (F := F) (ix3 0 (Fin.ofNat 16 ((y 1).val - 128)) (y 2))

/-- One block's share, from its rows. -/
def share (q : FVec F S1024x256 .bf16) (k0 k1 : Vec F S1x512x256 .bf16) (u0 u1 u2 u3 : Vec F S1x144x256 .bf16) (s : St F) : St F :=
  ⟨k0_pay91 (k0_pay75 q k1) (k0_pay76 q s.1 k0),
    k0_pay92 (k0_pay75 q k1) (k0_pay76 q s.1 k0) (k0_pay77 q s.1 k0) (k0_pay78 q s.1 s.2 k0 u0) u1 u2 u3⟩

/-- Key block `n`'s share. -/
def stepAt (q : FVec F S1024x256 .bf16) (X3 : Vec F S1x16384x256 .bf16) (T : Vec F S64x144x256 .bf16) (n : Fin 16) (s : St F) : St F :=
  share q (View.ld X3 (rk (half n 0))) (View.ld X3 (rk (half n 1))) (View.ld T (rv (quarter n 0 0))) (View.ld T (rv (quarter n 0 1)))
    (View.ld T (rv (quarter n 1 0))) (View.ld T (rv (quarter n 1 1))) s

/-- The shares of the `k` key blocks from `a`. -/
def steps (q : FVec F S1024x256 .bf16) (X3 : Vec F S1x16384x256 .bf16) (T : Vec F S64x144x256 .bf16) (a : ℕ) : ℕ → St F → St F
  | 0, s => s
  | k + 1, s => stepAt q X3 T (Fin.ofNat 16 (a + k)) (steps q X3 T a k s)

theorem steps_add (q : FVec F S1024x256 .bf16) (X3 : Vec F S1x16384x256 .bf16) (T : Vec F S64x144x256 .bf16) (a k n : ℕ) (s : St F) :
    steps q X3 T a (k + n) s = steps q X3 T (a + k) n (steps q X3 T a k s) := by
  induction n with
  | zero => rfl
  | succ n ih => rw [← Nat.add_assoc, steps, ih, steps, Nat.add_assoc]

theorem readAt_eq {s : Shape} {e : EltTy} {sp : Space} (v : View sig .tc sp s e) (f : v.ty.Contents (Elt F)) {off off' size : Fin s.rank → ℕ} (h : off = off')
    (p : ∀ a, off a + size a ≤ s.size a) (p' : ∀ a, off' a + size a ≤ s.size a) :
    v.readAt (Elt F) (Rect.unit off size p).toLoadRect f = View.ld (v.read (Elt F) f) (Rect.unit off' size p') := by subst h; rfl
theorem read_whole {s : Shape} {e : EltTy} {sp : Space} (v : View sig .tc sp s e) (f : v.ty.Contents (Elt F)) {off : Fin s.rank → ℕ} (h : ∀ a, off a = 0)
    (inb : ∀ a, off a + s.size a ≤ s.size a) (p : s.Idx → Elt F e) (L : List (View.Piece (Elt F) s e)) :
    v.read (Elt F) (v.writes (Elt F) f (⟨Rect.unit off s.size inb, p⟩ :: L)) = p :=
  funext fun y => View.read_writes_cons_unit_of_mem _ _ _ _ _ y y (off' := fun _ => 0) (funext h) (fun a => (Nat.zero_add _).symm)

/-- A trip of the laying out: quarter block `n` is laid out, the others are as they were. -/
theorem read_laid {sp : Space} (v : View sig .tc sp S64x144x256 .bf16) (f : v.ty.Contents (Elt F)) (n : Fin 64) {off off' : Fin 3 → ℕ} (h : off = ![n.val, 0, 0])
    (h' : off' = ![n.val, 128, 0]) (inb : ∀ a, off a + S1x128x256.size a ≤ S64x144x256.size a) (inb' : ∀ a, off' a + S1x16x256.size a ≤ S64x144x256.size a)
    (X4 : Vec F S1x16384x128 .bf16) (y : S64x144x256.Idx) :
    v.read (Elt F) (v.writes (Elt F) f (⟨Rect.unit off' S1x16x256.size inb', k0_pay86 (F := F)⟩ :: [⟨Rect.unit off S1x128x256.size inb, k0_pay85 (View.ld X4 (rw4 n))⟩])) y
      = if (y 0).val = n.val then laid X4 y else v.read (Elt F) f y := by
  have h1 : (y 1).val < 144 := (y 1).isLt
  by_cases h0 : (y 0).val = n.val
  · rw [if_pos h0]
    have e0 : n = y 0 := Fin.ext h0.symm
    unfold laid
    by_cases hy : (y 1).val < 128
    · rw [if_pos hy]
      refine (View.read_writes_cons_unit_of_not_mem (s := S64x144x256) v f inb' _ _ y h' 1 (by
        show (y 1).val < 128 ∨ 128 + 16 ≤ (y 1).val
        omega)).trans ?_
      rw [← e0]
      refine View.read_writes_cons_unit_of_mem (s := S64x144x256) v f inb _ [] y (ix3 0 (Fin.ofNat 128 (y 1).val) (y 2)) h (fun a => ?_)
      fin_cases a
      · exact h0
      · show (y 1).val = 0 + (y 1).val % 128
        omega
      · exact (Nat.zero_add _).symm
    · rw [if_neg hy]
      refine View.read_writes_cons_unit_of_mem (s := S64x144x256) v f inb' _ _ y (ix3 0 (Fin.ofNat 16 ((y 1).val - 128)) (y 2)) h' (fun a => ?_)
      fin_cases a
      · exact h0
      · show (y 1).val = 128 + ((y 1).val - 128) % 16
        omega
      · exact (Nat.zero_add _).symm
  · rw [if_neg h0]
    refine (View.read_writes_cons_unit_of_not_mem (s := S64x144x256) v f inb' _ _ y h' 0 (by
      show (y 0).val < n.val ∨ n.val + 1 ≤ (y 0).val
      omega)).trans ?_
    exact View.read_writes_cons_unit_of_not_mem (s := S64x144x256) v f inb _ [] y h 0 (by
      show (y 0).val < n.val ∨ n.val + 1 ≤ (y 0).val
      omega)

/-! ## One trip -/

section Trips
variable (c : Dev nD) (i : grid0.Coords) (arg2 : Memref sig .tc .vmem S1x1024x256 .bf16) (harg2 : arg2.IsWhole) (arg3 : Memref sig .tc .vmem S1x16384x256 .bf16) (harg3 : arg3.IsWhole) (arg4 : Memref sig .tc .vmem S1x16384x128 .bf16) (harg4 : arg4.IsWhole) (arg5 : Memref sig .tc .vmem S1024x128 .f32) (harg5 : arg5.IsWhole) (arg6 : Memref sig .tc .vmem S1x1x1x1024 .f32) (harg6 : arg6.IsWhole) (arg7 : Memref sig .tc .vmem S64x144x256 .bf16) (harg7 : arg7.IsWhole)
  (X3 : BufTy.Contents (Elt F) arg3.view.ty) (X4 : BufTy.Contents (Elt F) arg4.view.ty)

/-- The two arrays a trip reads, held, the values' at `f`. -/
abbrev Rows (f : BufTy.Contents (Elt F) arg7.view.ty) : sProp 𝕄 :=
  iprop((arg3.view.loc (c : Thread nD τ) ↦[arg3.view.set]{fullShare} X3) ∗ (arg7.view.loc (c : Thread nD τ) ↦[arg7.view.set]{fullShare} f))

/-- What the laying out reads and writes. -/
abbrev Fill (f : BufTy.Contents (Elt F) arg7.view.ty) : sProp 𝕄 :=
  iprop((arg4.view.loc (c : Thread nD τ) ↦[arg4.view.set]{fullShare} X4) ∗ (arg7.view.loc (c : Thread nD τ) ↦[arg7.view.set]{fullShare} f))

theorem trip1 (h1 : k0_cond1 i = 1#1) (k : Fin k0_t1_loop.trips) (f : BufTy.Contents (Elt F) arg7.view.ty) :
    Fill c arg4 arg7 X4 f
      ⊢ wp frame (wpE (defs₀ (F := F)) Variants.none (c : Thread nD τ) none) Set.univ (k0_t1_body (F := F) i arg2 harg2 arg3 harg3 arg4 harg4 arg5 harg5 arg6 harg6 arg7 harg7 h1 k ())
          (fun _ => iprop(∃ g, Fill c arg4 arg7 X4 g ∗
            ⌜∀ y, arg7.view.read (Elt F) g y = if (y 0).val = k.val then laid (arg4.view.read (Elt F) X4) y else arg7.view.read (Elt F) f y⌝)) := by
  unfold k0_t1_body
  iintro ⟨H4, H7⟩
  sl_exec
  sl_step
  iexists _
  isplitl
  · isplitl [H4]; · iexact H4
    iexact H7
  ipureintro
  intro y
  have hk : k.val < 64 := lt_of_lt_of_eq k.isLt trips1
  have r0 : ∀ p, arg4.view.readAt (Elt F) (Rect.unit (s := S1x16384x128) (k0_off1 k) S1x256x128.size p).toLoadRect X4 = View.ld (arg4.view.read (Elt F) X4) (rw4 ⟨k.val, hk⟩) := fun p => readAt_eq _ _ (off1_eq k) p _
  sl_unfold_run_names
  simp only [r0]
  exact read_laid arg7.view f ⟨k.val, hk⟩ (off2_eq k) (off3_eq k) _ _ _ y

variable (q : Vec F S1x1024x256 .bf16) (w : BitVec 32)

theorem trip4 (k : Fin (k0_t4_loop i).trips) (f : BufTy.Contents (Elt F) arg7.view.ty) (s : St F) :
    Rows c arg3 arg7 X3 f
      ⊢ wp frame (wpE (defs₀ (F := F)) Variants.none (c : Thread nD τ) none) Set.univ (k0_t4_body (F := F) i arg2 harg2 arg3 harg3 arg4 harg4 arg5 harg5 arg6 harg6 arg7 harg7 q w k s)
          (fun r => iprop(Rows c arg3 arg7 X3 f ∗
            ⌜r = steps (k0_pay84 q) (arg3.view.read (Elt F) X3) (arg7.view.read (Elt F) f) (4 * (k0_t2_loop i).trips + k.val) 1 s⌝)) := by
  unfold k0_t4_body
  simp only [k0_part17_eq_skeleton]
  iintro ⟨H3, H7⟩
  sl_exec
  sl_step
  isplitl
  · isplitl [H3]; · iexact H3
    iexact H7
  ipureintro
  have hk (a : Fin 2) {w : BitVec 32} (hw : w = BitVec.ofNat 32 (512 * a.val)) : ∀ p, arg3.view.readAt (Elt F) (Rect.unit (s := S1x16384x256) (k0_off8 i k w) S1x512x256.size p).toLoadRect X3 = View.ld (arg3.view.read (Elt F) X3) (rk (half (b4 i k) a)) := fun p => readAt_eq _ _ (hw ▸ off8_eq i k a) p _
  have hv (a b : Fin 2) {w w' : BitVec 32} (hw : w = BitVec.ofNat 32 a.val) (hw' : w' = BitVec.ofNat 32 b.val) : ∀ p, arg7.view.readAt (Elt F) (Rect.unit (s := S64x144x256) (k0_off9 i k w w') S1x144x256.size p).toLoadRect f = View.ld (arg7.view.read (Elt F) f) (rv (quarter (b4 i k) a b)) := fun p => readAt_eq _ _ (hw ▸ hw' ▸ off9_eq i k a b) p _
  have k0 := hk 0 (w := 0#32) rfl; have k1 := hk 1 (w := 512#32) rfl; clear hk
  have v0 := hv 0 0 (w := 0#32) (w' := 0#32) rfl rfl; have v1 := hv 0 1 (w := 0#32) (w' := 1#32) rfl rfl; have v2 := hv 1 0 (w := 1#32) (w' := 0#32) rfl rfl; have v3 := hv 1 1 (w := 1#32) (w' := 1#32) rfl rfl; clear hv
  sl_unfold_run_names
  simp only [k0, k1, v0, v1, v2, v3, steps, stepAt, share, Nat.add_zero]

theorem trip2 (k : Fin (k0_t2_loop i).trips) (f : BufTy.Contents (Elt F) arg7.view.ty) (s : St F) :
    Rows c arg3 arg7 X3 f
      ⊢ wp frame (wpE (defs₀ (F := F)) Variants.none (c : Thread nD τ) none) Set.univ (k0_t2_body (F := F) i arg2 harg2 arg3 harg3 arg4 harg4 arg5 harg5 arg6 harg6 arg7 harg7 q k s)
          (fun r => iprop(Rows c arg3 arg7 X3 f ∗
            ⌜r = steps (k0_pay84 q) (arg3.view.read (Elt F) X3) (arg7.view.read (Elt F) f) (4 * k.val) 4 s⌝)) := by
  unfold k0_t2_body
  simp only [k0_part1_eq_skeleton, k0_part2_eq_skeleton, k0_part3_eq_skeleton, k0_part4_eq_skeleton, k0_part5_eq_skeleton, k0_part6_eq_skeleton, k0_part7_eq_skeleton, k0_part8_eq_skeleton]
  iintro ⟨H3, H7⟩
  sl_exec
  sl_step
  isplitl
  · isplitl [H3]; · iexact H3
    iexact H7
  ipureintro
  have hk (u : Fin 4) (a : Fin 2) {w w' : BitVec 32} (hw : w = BitVec.ofNat 32 u.val) (hw' : w' = BitVec.ofNat 32 (512 * a.val)) : ∀ p, arg3.view.readAt (Elt F) (Rect.unit (s := S1x16384x256) (k0_off4 i k w w') S1x512x256.size p).toLoadRect X3 = View.ld (arg3.view.read (Elt F) X3) (rk (half (b2 i k u) a)) := fun p => readAt_eq _ _ (hw ▸ hw' ▸ off4_eq i k u a) p _
  have hv (u : Fin 4) (a b : Fin 2) {w w' w'' : BitVec 32} (hw : w = BitVec.ofNat 32 u.val) (hw' : w' = BitVec.ofNat 32 a.val) (hw'' : w'' = BitVec.ofNat 32 b.val) : ∀ p, arg7.view.readAt (Elt F) (Rect.unit (s := S64x144x256) (k0_off5 i k w w' w'') S1x144x256.size p).toLoadRect f = View.ld (arg7.view.read (Elt F) f) (rv (quarter (b2 i k u) a b)) := fun p => readAt_eq _ _ (hw ▸ hw' ▸ hw'' ▸ off5_eq i k u a b) p _
  have k00 := hk 0 0 (w := 0#32) (w' := 0#32) rfl rfl; have k01 := hk 0 1 (w := 0#32) (w' := 512#32) rfl rfl;
  have v000 := hv 0 0 0 (w := 0#32) (w' := 0#32) (w'' := 0#32) rfl rfl rfl; have v001 := hv 0 0 1 (w := 0#32) (w' := 0#32) (w'' := 1#32) rfl rfl rfl; have v010 := hv 0 1 0 (w := 0#32) (w' := 1#32) (w'' := 0#32) rfl rfl rfl; have v011 := hv 0 1 1 (w := 0#32) (w' := 1#32) (w'' := 1#32) rfl rfl rfl;
  have k10 := hk 1 0 (w := 1#32) (w' := 0#32) rfl rfl; have k11 := hk 1 1 (w := 1#32) (w' := 512#32) rfl rfl;
  have v100 := hv 1 0 0 (w := 1#32) (w' := 0#32) (w'' := 0#32) rfl rfl rfl; have v101 := hv 1 0 1 (w := 1#32) (w' := 0#32) (w'' := 1#32) rfl rfl rfl; have v110 := hv 1 1 0 (w := 1#32) (w' := 1#32) (w'' := 0#32) rfl rfl rfl; have v111 := hv 1 1 1 (w := 1#32) (w' := 1#32) (w'' := 1#32) rfl rfl rfl;
  have k20 := hk 2 0 (w := 2#32) (w' := 0#32) rfl rfl; have k21 := hk 2 1 (w := 2#32) (w' := 512#32) rfl rfl;
  have v200 := hv 2 0 0 (w := 2#32) (w' := 0#32) (w'' := 0#32) rfl rfl rfl; have v201 := hv 2 0 1 (w := 2#32) (w' := 0#32) (w'' := 1#32) rfl rfl rfl; have v210 := hv 2 1 0 (w := 2#32) (w' := 1#32) (w'' := 0#32) rfl rfl rfl; have v211 := hv 2 1 1 (w := 2#32) (w' := 1#32) (w'' := 1#32) rfl rfl rfl;
  have k30 := hk 3 0 (w := 3#32) (w' := 0#32) rfl rfl; have k31 := hk 3 1 (w := 3#32) (w' := 512#32) rfl rfl;
  have v300 := hv 3 0 0 (w := 3#32) (w' := 0#32) (w'' := 0#32) rfl rfl rfl; have v301 := hv 3 0 1 (w := 3#32) (w' := 0#32) (w'' := 1#32) rfl rfl rfl; have v310 := hv 3 1 0 (w := 3#32) (w' := 1#32) (w'' := 0#32) rfl rfl rfl; have v311 := hv 3 1 1 (w := 3#32) (w' := 1#32) (w'' := 1#32) rfl rfl rfl;
  clear hk hv
  sl_unfold_run_names
  simp only [k00, k01, k10, k11, k20, k21, k30, k31, v000, v001, v010, v011, v100, v101, v110, v111, v200, v201, v210, v211, v300, v301, v310, v311]
  rfl

variable (T : Vec F S64x144x256 .bf16) (s₀ : St F)

/-- Before a trip: the keys and the laid-out values as they were, the running state at the shares of the `n` key blocks from `a`. -/
abbrev Inv (a n : ℕ) (s : St F) : sProp 𝕄 :=
  iprop(∃ f, Rows c arg3 arg7 X3 f ∗ ⌜arg7.view.read (Elt F) f = T ∧ s = steps (k0_pay84 q) (arg3.view.read (Elt F) X3) T a n s₀⌝)

set_option warn.classDefReducibility false in
/-- The loop by fours. -/
def loop2 : LoopInv (M := 𝕄) frame (wpE (defs₀ (F := F)) Variants.none (c : Thread nD τ) none) Set.univ
    (k0_t2_loop i).lb (k0_t2_loop i).ub (k0_t2_loop i).st (k0_t2_ok i) s₀ (k0_t2_body (F := F) i arg2 harg2 arg3 harg3 arg4 harg4 arg5 harg5 arg6 harg6 arg7 harg7 q) where
  inv k s := Inv c arg3 arg7 X3 q T s₀ 0 (4 * k) s
  step k s := by
    iintro ⟨%f, H, %hs⟩
    iapply (wp_wand_r frame (wpE (defs₀ (F := F)) Variants.none (c : Thread nD τ) none) Set.univ)
    isplitl [H]
    · iapply (trip2 c i arg2 harg2 arg3 harg3 arg4 harg4 arg5 harg5 arg6 harg6 arg7 harg7 X3 q k f s)
      iexact H
    · iintro %r ⟨H, %hr⟩
      iexists _
      isplitl; · iexact H
      ipureintro
      refine ⟨hs.1, ?_⟩
      rw [hr, hs.1, hs.2, show 4 * (k.val + 1) = 4 * k.val + 4 by omega, steps_add, Nat.zero_add]

set_option warn.classDefReducibility false in
/-- The later loop, a key block each trip. -/
def loop4 : LoopInv (M := 𝕄) frame (wpE (defs₀ (F := F)) Variants.none (c : Thread nD τ) none) Set.univ
    (k0_t4_loop i).lb (k0_t4_loop i).ub (k0_t4_loop i).st (k0_t4_ok i) s₀ (k0_t4_body (F := F) i arg2 harg2 arg3 harg3 arg4 harg4 arg5 harg5 arg6 harg6 arg7 harg7 q w) where
  inv k s := Inv c arg3 arg7 X3 q T s₀ (4 * (k0_t2_loop i).trips) k s
  step k s := by
    iintro ⟨%f, H, %hs⟩
    iapply (wp_wand_r frame (wpE (defs₀ (F := F)) Variants.none (c : Thread nD τ) none) Set.univ)
    isplitl [H]
    · iapply (trip4 c i arg2 harg2 arg3 harg3 arg4 harg4 arg5 harg5 arg6 harg6 arg7 harg7 X3 q w k f s)
      iexact H
    · iintro %r ⟨H, %hr⟩
      iexists _
      isplitl; · iexact H
      ipureintro
      refine ⟨hs.1, ?_⟩
      rw [hr, hs.1, hs.2, steps_add]

set_option warn.classDefReducibility false in
/-- The laying out. -/
def loop1 (h1 : k0_cond1 i = 1#1) : LoopInv (M := 𝕄) frame (wpE (defs₀ (F := F)) Variants.none (c : Thread nD τ) none) Set.univ
    k0_t1_loop.lb k0_t1_loop.ub k0_t1_loop.st (k0_t1_ok i h1) () (k0_t1_body (F := F) i arg2 harg2 arg3 harg3 arg4 harg4 arg5 harg5 arg6 harg6 arg7 harg7 h1) where
  inv k _ := iprop(∃ f, Fill c arg4 arg7 X4 f ∗ ⌜∀ y, (y 0).val < k → arg7.view.read (Elt F) f y = laid (arg4.view.read (Elt F) X4) y⌝)
  step k _ := by
    iintro ⟨%f, H, %hs⟩
    iapply (wp_wand_r frame (wpE (defs₀ (F := F)) Variants.none (c : Thread nD τ) none) Set.univ)
    isplitl [H]
    · iapply (trip1 c i arg2 harg2 arg3 harg3 arg4 harg4 arg5 harg5 arg6 harg6 arg7 harg7 X4 h1 k f)
      iexact H
    · iintro %r ⟨%g, H, %hr⟩
      iexists _
      isplitl; · iexact H
      ipureintro
      intro y hy
      rw [hr y]
      split_ifs with h
      · rfl
      · exact hs y (by omega)
end Trips

end Cert.Proof.Fwd

end
-- ==== Proof.FwdPoint.lean ====
module

public import proofs.«01_k».proof.Proof.FwdStep

/-!
A grid point of the attention's forward kernel: the trips over the key blocks before the query block, and the masked trip
over the block on the diagonal.
-/

@[expose] public section

set_option maxRecDepth 16384

noncomputable section

namespace Cert.Proof.Fwd

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Out
variable (i : grid0.Coords) (X2 : Vec F S1x1024x256 .bf16) (X3 : Vec F S1x16384x256 .bf16) (X4 : Vec F S1x16384x128 .bf16)

/-- The running state before the block on the diagonal. -/
def before : St F := steps (k0_pay84 X2) X3 (laid X4) 0 (i 1).val (k0_pay87 (F := F), k0_pay88 (F := F))

/-- The masked scores of the second half of the diagonal's keys, the running maximum and what the first half adds. -/
def sc1 : FVec F S512x1024 .f32 := k0_pay97 (k0_pay84 X2) (View.ld X3 (rk (half (bq i) 1)))
def mx0 : FVec F S1x1024 .f32 := k0_pay98 (before i X2 X3 X4).1 (k0_pay95 X2 (View.ld X3 (rk (half (bq i) 0))))
def pr0 : FVec F S512x1024 .bf16 := k0_pay99 (before i X2 X3 X4).1 (k0_pay95 X2 (View.ld X3 (rk (half (bq i) 0))))
def ac0 : FVec F S144x1024 .f32 :=
  k0_pay100 (before i X2 X3 X4).1 (before i X2 X3 X4).2 (k0_pay95 X2 (View.ld X3 (rk (half (bq i) 0)))) (View.ld (laid X4) (rv (quarter (bq i) 0 0)))

/-- The two blocks a grid point writes: the attention's output, and the logarithms of the rows' sums. -/
def outO : Vec F S1024x128 .f32 :=
  k0_pay104 (sc1 i X2 X3) (mx0 i X2 X3 X4) (pr0 i X2 X3 X4) (ac0 i X2 X3 X4)
    (View.ld (laid X4) (rv (quarter (bq i) 0 1))) (View.ld (laid X4) (rv (quarter (bq i) 1 0))) (View.ld (laid X4) (rv (quarter (bq i) 1 1)))
def outL : Vec F S1x1x1x1024 .f32 :=
  k0_pay1 (k0_pay101 (sc1 i X2 X3) (mx0 i X2 X3 X4))
    (k0_pay103 (sc1 i X2 X3) (mx0 i X2 X3 X4) (pr0 i X2 X3 X4) (ac0 i X2 X3 X4)
      (View.ld (laid X4) (rv (quarter (bq i) 0 1))) (View.ld (laid X4) (rv (quarter (bq i) 1 0))) (View.ld (laid X4) (rv (quarter (bq i) 1 1))))
end Out

section Point
variable (c : Dev nD) (i : grid0.Coords) (arg2 : Memref sig .tc .vmem S1x1024x256 .bf16) (harg2 : arg2.IsWhole) (arg3 : Memref sig .tc .vmem S1x16384x256 .bf16) (harg3 : arg3.IsWhole) (arg4 : Memref sig .tc .vmem S1x16384x128 .bf16) (harg4 : arg4.IsWhole) (arg5 : Memref sig .tc .vmem S1024x128 .f32) (harg5 : arg5.IsWhole) (arg6 : Memref sig .tc .vmem S1x1x1x1024 .f32) (harg6 : arg6.IsWhole) (arg7 : Memref sig .tc .vmem S64x144x256 .bf16) (harg7 : arg7.IsWhole)
  (X2 : BufTy.Contents (Elt F) arg2.view.ty) (X3 : BufTy.Contents (Elt F) arg3.view.ty) (X4 : BufTy.Contents (Elt F) arg4.view.ty)

/-- What a grid point's trips read and write. -/
abbrev Here (f : BufTy.Contents (Elt F) arg7.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg7.view.loc (c : Thread nD τ) ↦[arg7.view.set]{fullShare} f))

variable (f7 : BufTy.Contents (Elt F) arg7.view.ty)

/-- What the trips return. -/
abbrev ret : Σ' (arg1 : BitVec 32) (v1 : FVec F S1024x256 .bf16) (v23_0 : FVec F S1x1024 .f32) (v23_1 : FVec F S144x1024 .f32) (v30 : FVec F S512x1024 .f32), BitVec 32 :=
  ⟨BitVec.ofNat 32 (i 1).val, k0_pay84 (arg2.view.read (Elt F) X2), (before i (arg2.view.read (Elt F) X2) (arg3.view.read (Elt F) X3) (arg4.view.read (Elt F) X4)).1,
    (before i (arg2.view.read (Elt F) X2) (arg3.view.read (Elt F) X3) (arg4.view.read (Elt F) X4)).2,
    k0_pay95 (arg2.view.read (Elt F) X2) (View.ld (arg3.view.read (Elt F) X3) (rk (half (bq i) 0))),
    Scalar.addi (Scalar.muli (BitVec.ofNat 32 (i 1).val) 1024#32) 512#32⟩

/-- The trips before the diagonal, and the masked scores of its first keys. -/
theorem start (hT : (i 1).val ≠ 0 → arg7.view.read (Elt F) f7 = laid (arg4.view.read (Elt F) X4)) :
    Here c arg2 arg3 arg4 arg7 X2 X3 X4 f7
      ⊢ wp frame (wpE (defs₀ (F := F)) Variants.none (c : Thread nD τ) none) Set.univ (k0_part19 (F := F) i arg2 harg2 arg3 harg3 arg4 harg4 arg5 harg5 arg6 harg6 arg7 harg7)
          (fun r => iprop(⌜r = ret i arg2 arg3 arg4 X2 X3 X4⌝ ∗ ∃ g, Here c arg2 arg3 arg4 arg7 X2 X3 X4 g ∗ ⌜arg7.view.read (Elt F) g = laid (arg4.view.read (Elt F) X4)⌝)) := by
  simp only [k0_part19_eq_skeleton]; unfold k0_part19_skel
  iintro ⟨H2, H3, H4, H7⟩
  have w2 : ∀ p, arg2.view.readAt (Elt F) (Rect.unit (s := S1x1024x256) ![0, 0, 0] S1x1024x256.size p).toLoadRect X2 = arg2.view.read (Elt F) X2 := fun p => View.ld_unit_zero (funext (by decide)) _ _
  have r0 : ∀ p, arg3.view.readAt (Elt F) (Rect.unit (s := S1x16384x256) (k0_off12 i 0#32) S1x512x256.size p).toLoadRect X3 = View.ld (arg3.view.read (Elt F) X3) (rk (half (bq i) 0)) := fun p => readAt_eq _ _ (off12_eq i 0) p _
  by_cases h : (i 1).val = 0
  on_goal 1 =>
    have h1 := (first_iff i).mpr h
    let L1 := loop1 c i arg2 harg2 arg3 harg3 arg4 harg4 arg5 harg5 arg6 harg6 arg7 harg7 X4 h1
    sl_exec (disch := first | sl_exact h1)
    have h7 : arg7.view.read (Elt F) fL0 = laid (arg4.view.read (Elt F) X4) := funext fun y => hL2 y (lt_of_lt_of_eq (y 0).isLt trips1.symm)
  on_goal 2 =>
    have h1 := fun e => h ((first_iff i).mp e)
    sl_exec (disch := first | sl_exact h1)
    have h7 := hT h
  all_goals
    rw [wp_bind]
    iapply (wp_wand_r frame (wpE (defs₀ (F := F)) Variants.none (c : Thread nD τ) none) Set.univ)
    isplitl [H3 H7]
    · iapply (Scf.wp_for frame (wpE (defs₀ (F := F)) Variants.none (c : Thread nD τ) none) Set.univ _ _ _ _ _ _
        (fun k s => Inv c arg3 arg7 X3 _ _ _ 0 (4 * k) s) (loop2 c i arg2 harg2 arg3 harg3 arg4 harg4 arg5 harg5 arg6 harg6 arg7 harg7 X3 _ (laid (arg4.view.read (Elt F) X4)) _).step)
      isplitl
      · iexists _
        isplitl
        · isplitl [H3]; · iexact H3
          iexact H7
        ipureintro; exact ⟨h7, rfl⟩
      iintro %_ H
      iexact H
    iintro %s ⟨%g, ⟨H3, H7⟩, %hs⟩
    obtain ⟨s1, s2⟩ := s
    dsimp only
    sl_exec
    rw [wp_bind]
    iapply (wp_wand_r frame (wpE (defs₀ (F := F)) Variants.none (c : Thread nD τ) none) Set.univ)
    isplitl [H3 H7]
    · iapply (Scf.wp_for frame (wpE (defs₀ (F := F)) Variants.none (c : Thread nD τ) none) Set.univ _ _ _ _ _ _
        (fun k s => Inv c arg3 arg7 X3 _ _ _ (4 * (k0_t2_loop i).trips) k s) (loop4 c i arg2 harg2 arg3 harg3 arg4 harg4 arg5 harg5 arg6 harg6 arg7 harg7 X3 _ _ (laid (arg4.view.read (Elt F) X4)) _).step)
      isplitl
      · iexists _
        isplitl
        · isplitl [H3]; · iexact H3
          iexact H7
        ipureintro; exact ⟨hs.1, rfl⟩
      iintro %_ H
      iexact H
    iintro %s' ⟨%g', ⟨H3, H7⟩, %hs'⟩
    obtain ⟨s1', s2'⟩ := s'
    dsimp only
    sl_exec
    sl_step
    isplitr
    · ipureintro
      have e : (s1', s2') = before i (arg2.view.read (Elt F) X2) (arg3.view.read (Elt F) X3) (arg4.view.read (Elt F) X4) := by
        unfold before
        rw [hs'.2, show ((s1, s2).1, (s1, s2).2) = _ from hs.2, ← trips_eq i, steps_add, Nat.zero_add]
      rw [e]
    iexists _
    isplitl
    · isplitl [H2]; · iexact H2
      isplitl [H3]; · iexact H3
      isplitl [H4]; · iexact H4
      iexact H7
    ipureintro; exact hs'.1

variable (f5 : BufTy.Contents (Elt F) arg5.view.ty) (f6 : BufTy.Contents (Elt F) arg6.view.ty)

/-- A grid point writes its two blocks and leaves the values laid out for the head's next points. -/
theorem point (hT : (i 1).val ≠ 0 → arg7.view.read (Elt F) f7 = laid (arg4.view.read (Elt F) X4)) :
    iprop(Here c arg2 arg3 arg4 arg7 X2 X3 X4 f7 ∗ (arg5.view.loc (c : Thread nD τ) ↦[arg5.view.set]{fullShare} f5) ∗ (arg6.view.loc (c : Thread nD τ) ↦[arg6.view.set]{fullShare} f6))
      ⊢ wp frame (wpE (defs₀ (F := F)) Variants.none (c : Thread nD τ) none) Set.univ (cc0_attn_fwd (F := F) i arg2 harg2 arg3 harg3 arg4 harg4 arg5 harg5 arg6 harg6 arg7 harg7)
          (fun _ => iprop(∃ g5 g6 g7, (Here c arg2 arg3 arg4 arg7 X2 X3 X4 g7 ∗ (arg5.view.loc (c : Thread nD τ) ↦[arg5.view.set]{fullShare} g5) ∗ (arg6.view.loc (c : Thread nD τ) ↦[arg6.view.set]{fullShare} g6)) ∗
            ⌜arg5.view.read (Elt F) g5 = outO i (arg2.view.read (Elt F) X2) (arg3.view.read (Elt F) X3) (arg4.view.read (Elt F) X4)
              ∧ arg6.view.read (Elt F) g6 = outL i (arg2.view.read (Elt F) X2) (arg3.view.read (Elt F) X3) (arg4.view.read (Elt F) X4)
              ∧ arg7.view.read (Elt F) g7 = laid (arg4.view.read (Elt F) X4)⌝)) := by
  simp only [cc0_attn_fwd_eq_skeleton]; unfold cc0_attn_fwd_skel
  iintro ⟨H, H5, H6⟩
  rw [wp_bind]
  iapply (wp_wand_r frame (wpE (defs₀ (F := F)) Variants.none (c : Thread nD τ) none) Set.univ)
  isplitl [H]
  · iapply (start c i arg2 harg2 arg3 harg3 arg4 harg4 arg5 harg5 arg6 harg6 arg7 harg7 X2 X3 X4 f7 hT)
    iexact H
  iintro %r ⟨%hr, %g, ⟨H2, H3, H4, H7⟩, %hg⟩
  subst hr
  dsimp only
  have r1 : ∀ p, arg3.view.readAt (Elt F) (Rect.unit (s := S1x16384x256) (k0_off12 i 512#32) S1x512x256.size p).toLoadRect X3 = View.ld (arg3.view.read (Elt F) X3) (rk (half (bq i) 1)) := fun p => readAt_eq _ _ (off12_eq i 1) p _
  have s0 : ∀ p, arg7.view.readAt (Elt F) (Rect.unit (s := S64x144x256) (k0_off13 i 0#32 0#32) S1x144x256.size p).toLoadRect g = View.ld (laid (arg4.view.read (Elt F) X4)) (rv (quarter (bq i) 0 0)) := fun p => hg ▸ readAt_eq _ _ (off13_eq i 0 0) p _
  have s1 : ∀ p, arg7.view.readAt (Elt F) (Rect.unit (s := S64x144x256) (k0_off13 i 0#32 1#32) S1x144x256.size p).toLoadRect g = View.ld (laid (arg4.view.read (Elt F) X4)) (rv (quarter (bq i) 0 1)) := fun p => hg ▸ readAt_eq _ _ (off13_eq i 0 1) p _
  have s2 : ∀ p, arg7.view.readAt (Elt F) (Rect.unit (s := S64x144x256) (k0_off13 i 1#32 0#32) S1x144x256.size p).toLoadRect g = View.ld (laid (arg4.view.read (Elt F) X4)) (rv (quarter (bq i) 1 0)) := fun p => hg ▸ readAt_eq _ _ (off13_eq i 1 0) p _
  have s3 : ∀ p, arg7.view.readAt (Elt F) (Rect.unit (s := S64x144x256) (k0_off13 i 1#32 1#32) S1x144x256.size p).toLoadRect g = View.ld (laid (arg4.view.read (Elt F) X4)) (rv (quarter (bq i) 1 1)) := fun p => hg ▸ readAt_eq _ _ (off13_eq i 1 1) p _
  simp only [k0_part20_eq_skeleton, k0_part21_eq_skeleton]; unfold k0_part20_skel k0_part21_skel
  sl_exec
  sl_step
  iexists _, _, _
  isplitl
  · isplitl [H2 H3 H4 H7]
    · isplitl [H2]; · iexact H2
      isplitl [H3]; · iexact H3
      isplitl [H4]; · iexact H4
      iexact H7
    isplitl [H5]; · iexact H5
    iexact H6
  ipureintro
  refine ⟨?_, ?_, hg⟩
  · refine (read_whole _ _ (by decide) _ _ _).trans ?_
    rfl
  · refine (read_whole _ _ (by decide) _ _ _).trans ?_
    rfl

end Point

end Cert.Proof.Fwd

end
-- ==== Proof.FwdBody.lean ====
module

public import proofs.«01_k».proof.Proof.FwdPoint
public import proofs.«01_k».proof.Proof.Gen.AttnFwdIdeal.Frame
public import Idealize.ShloMosaic.Lib.Pipeline.FrameSuffix
public import Idealize.ShloMosaic.Lib.Pointwise
public import Idealize.ShloMosaic.Lib.Pipeline.ValueKit
public import Idealize.ShloMosaic.Lib.Claim

/-!
The grid of the attention's forward pass: what every point leaves in its two blocks, the values laid out once per head, and
the run of the whole program by that.
-/

@[expose] public section

set_option maxRecDepth 16384

noncomputable section

namespace Cert.Proof.Fwd

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! ## What the points leave -/

/-- The head and the query block of a point. -/
def hd (t : Fin cfg0.N) : Fin 8 := ⟨(grid0.coords t 0).val, (grid0.coords t 0).isLt⟩
def jb (t : Fin cfg0.N) : Fin 16 := ⟨(grid0.coords t 1).val, (grid0.coords t 1).isLt⟩

theorem hd_val : ∀ t : Fin cfg0.N, (hd t).val = t.val / 16 := (by decide +kernel : ∀ t : Fin grid0.N, _)
theorem jb_val : ∀ t : Fin cfg0.N, (jb t).val = t.val % 16 := (by decide +kernel : ∀ t : Fin grid0.N, _)

theorem idx_head : ∀ t : Fin cfg0.N, win0_1.index t = ![(hd t).val, 0, 0] ∧ win0_2.index t = ![(hd t).val, 0, 0] := (by decide +kernel : ∀ t : Fin grid0.N, _)

/-- A point's block of values is its head's. -/
theorem blk_v (t : Fin cfg0.N) (s : Fin 16384) (e : Fin 128) :
    iblk m c 2 t (ix3 0 s e) = (V0 m c main_v16 : Vec F S8x16384x128 .bf16) (ix3 (hd t) s e) := by
  blk_ext [iblk, idx_head t]

theorem blk_same (t u : Fin cfg0.N) (h : t.val / 16 = u.val / 16) : (iblk m c 2 t : Vec F S1x16384x128 .bf16) = iblk m c 2 u := by
  have e : hd t = hd u := Fin.ext ((hd_val t).trans (h.trans (hd_val u).symm))
  funext (y : S1x16384x128.Idx)
  idx_vars y
  obtain rfl : y0 = 0 := Subsingleton.elim (α := Fin 1) _ _
  exact (blk_v m c t y1 y2).trans (by rw [e]; exact (blk_v m c u y1 y2).symm)

def leftO (t : Fin cfg0.N) : Vec F S1024x128 .f32 := outO (grid0.coords t) (iblk m c 0 t) (iblk m c 1 t) (iblk m c 2 t)
def leftL (t : Fin cfg0.N) : Vec F S1x1x1x1024 .f32 := outL (grid0.coords t) (iblk m c 0 t) (iblk m c 1 t) (iblk m c 2 t)

/-! ## The proof data -/

/-- The invariant before point `n`: the scratch owned, after the first point at the last point's values laid out. -/
def PhiS : (n : ℕ) → n ≤ cfg0.N → sProp 𝕄
  | 0, _ => Pipeline.ΦA spec0 c
  | n + 1, h => iprop(owns (c : Thread nD τ) (Memref.whole cc0_scratch0) fullShare (laid (iblk m c 2 ⟨n, h⟩)) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => leftO m c t
    | ⟨4, _⟩ => leftL m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem after_0 (t) : (dats m 0 c).after 0 t = iblk m c 0 t := by dsimp only [dats]
theorem after_1 (t) : (dats m 0 c).after 1 t = iblk m c 1 t := by dsimp only [dats]
theorem after_2 (t) : (dats m 0 c).after 2 t = iblk m c 2 t := by dsimp only [dats]
theorem after_3 (t) : (dats m 0 c).after 3 t = leftO m c t := by dsimp only [dats]
theorem after_4 (t) : (dats m 0 c).after 4 t = leftL m c t := by dsimp only [dats]

theorem Phi_start (t : Fin cfg0.N) : (dats m 0 c).Φ t.castSucc = PhiS m c t.val (Nat.le_of_lt t.isLt) := by
  dsimp only [dats]; exact Pipeline.Dat.Φ_castSucc (PhiS m c) t
theorem Phi_end (t : Fin cfg0.N) : (dats m 0 c).Φ t.succ = iprop(owns (c : Thread nD τ) (Memref.whole cc0_scratch0) fullShare (laid (iblk m c 2 t)) ∗ ∃ r, prngReg c r) := rfl

theorem PhiA_eq : (Pipeline.ΦA spec0 c : sProp 𝕄) = iprop((∃ x, owns (c : Thread nD τ) (Memref.whole cc0_scratch0) fullShare x) ∗ ∃ r, prngReg c r) := by
  unfold Pipeline.ΦA; rw [scopedRest0_eq]; simp only [owns_whole]; try rfl

/-- The scratch at a point's start: past a head's first query block it holds the head's values laid out. -/
theorem enter (t : Fin cfg0.N) : (dats m 0 c).Φ t.castSucc ⊢
    iprop(∃ x, owns (c : Thread nD τ) (Memref.whole cc0_scratch0) fullShare x ∗ ⌜((grid0.coords t) 1).val ≠ 0 → x = laid (iblk m c 2 t)⌝ ∗ ∃ r, prngReg c r) := by
  rw [Phi_start]
  obtain ⟨n, hn⟩ := t
  cases n with
  | zero =>
    refine (show PhiS m c 0 _ ⊢ (Pipeline.ΦA spec0 c : sProp 𝕄) from .rfl).trans ?_
    rw [PhiA_eq]
    iintro ⟨⟨%x, H⟩, Hr⟩
    iexists x
    isplitl [H]; · iexact H
    isplitr
    · ipureintro
      exact fun h => absurd ((jb_val ⟨0, hn⟩).trans (Nat.zero_mod _)) h
    iexact Hr
  | succ n =>
    refine (show PhiS m c (n + 1) _ ⊢ iprop(owns (c : Thread nD τ) (Memref.whole cc0_scratch0) fullShare (laid (iblk m c 2 ⟨n, Nat.lt_of_succ_lt hn⟩)) ∗ ∃ r, prngReg c r) from .rfl).trans ?_
    iintro ⟨H, Hr⟩
    iexists _
    isplitl [H]; · iexact H
    isplitr
    · ipureintro
      intro h
      have h : (n + 1) % 16 ≠ 0 := fun e => h ((jb_val ⟨n + 1, hn⟩).trans e)
      rw [blk_same m c ⟨n, Nat.lt_of_succ_lt hn⟩ ⟨n + 1, hn⟩ (show n / 16 = (n + 1) / 16 by omega)]
    iexact Hr

theorem hin : Pipeline.ΦA spec0 c ⊢ (dats m 0 c).Φ 0 := .rfl

theorem hout : (dats m 0 c).Φ (Fin.last cfg0.N) ⊢ Pipeline.ΦA spec0 c := by
  rw [show Fin.last cfg0.N = (⟨127, by decide⟩ : Fin cfg0.N).succ from Fin.ext N_0, Phi_end, PhiA_eq]
  iintro ⟨H, Hr⟩
  isplitl [H]; · iexists _; iexact H
  iexact Hr

/-! ## The body at a point -/

/-- The buffers a point is called with, and those it returns. -/
def bodyPre (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

def bodyPost (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

set_option maxHeartbeats 1600000 in
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c), before0_2_of m (dats m 0 c) (A_eq m c 2) (after_2 m c)]
  rw [Phi_end, show (dats m 0 c).owesAt () t.succ = (dats m 0 c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩⟩
  ihave HΦ := (enter m c t) $$ HΦ
  icases HΦ with ⟨%x, Hx, %hx, Hr⟩
  unfold owns
  icases H0 with ⟨%f0, %h0, H0⟩
  icases H1 with ⟨%f1, %h1, H1⟩
  icases H2 with ⟨%f2, %h2, H2⟩
  icases H3 with ⟨%f3, %h3, H3⟩
  icases H4 with ⟨%f4, %h4, H4⟩
  icases Hx with ⟨%fx, %hfx, Hx⟩
  iapply (wp_wand_r frame (wpE (defs₀ (F := F)) Variants.none (c : Thread nD τ) none) Set.univ)
  isplitl [H0 H1 H2 H3 H4 Hx]
  · iapply (point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) f0 f1 f2 fx f3 f4
      (fun h => hfx.trans ((hx h).trans (congrArg laid h2.symm))))
    isplitl [H0 H1 H2 Hx]
    · isplitl [H0]; · iexact H0
      isplitl [H1]; · iexact H1
      isplitl [H2]; · iexact H2
      iexact Hx
    isplitl [H3]; · iexact H3
    iexact H4
  iintro %_ ⟨%g3, %g4, %gx, ⟨⟨H0, H1, H2, Hx⟩, H3, H4⟩, %hg⟩
  obtain ⟨ho, hl, hv⟩ := hg
  rw [h0, h1, h2] at ho hl
  rw [h2] at hv
  isplitl [Hx Hr]
  · isplitl [Hx]
    · iexists _; isplitr; swap; · iexact Hx
      ipureintro; exact hv
    iexact Hr
  isplitl [Ho]; · iexact Ho
  isplitl [H0]; · iexists _; isplitr; swap; (· iexact H0); ipureintro; exact h0
  isplitl [H1]; · iexists _; isplitr; swap; (· iexact H1); ipureintro; exact h1
  isplitl [H2]; · iexists _; isplitr; swap; (· iexact H2); ipureintro; exact h2
  isplitl [H3]; · iexists _; isplitr; swap; (· iexact H3); ipureintro; exact ho
  iexists _; isplitr; swap; (· iexact H4); ipureintro; exact hl

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution ends, the arrays at what the points left in them and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.Fwd

end
-- ==== Proof.FwdFrames.lean ====
module

public import proofs.«01_k».proof.Defs
public import proofs.«01_k».proof.Proof.Gen.AttnFwd
public import proofs.«01_k».proof.Proof.Gen.AttnFwdRefIdeal.Run
public import proofs.«01_k».proof.Proof.FwdBody

/-!
The frames of the attention's forward pass: the kernel's and its idealization's from the one run, the reference's from its own.
-/

@[expose] public section

set_option maxRecDepth 16384

noncomputable section

namespace Cert.Proof.Fwd

open Idealize.ShloMosaic Idealize.ShloMosaic.TcCoe Idealize.ShloMosaic.Tactic Idealize.SL.Sem

/-- The printed float of a named constant: with it the idealization's text is the kernel's. -/
local instance : Named Bits where
  named _ _ {φ} bits := FloatOps.ofBits φ bits

/-- What a frame says of the idealization's text at the machine's floats. -/
def FrameText : Prop :=
  ∀ (m : (ℓ : Loc Cert.AttnFwdIdeal.nD Cert.AttnFwdIdeal.τ Cert.AttnFwdIdeal.sig) → Buf (Elt Bits) ℓ) (g : Dev Cert.AttnFwdIdeal.nD → PrngReg), True →
    θ_run (Cert.AttnFwdIdeal.defs (F := Bits)) (onTc (τ := Cert.AttnFwdIdeal.τ) (Cert.AttnFwdIdeal.main (F := Bits))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

/-- The kernel's frame is that statement. -/
theorem frame_text : Cert.quiescent_AttnFwd = FrameText := by sl_kernel_rfl

theorem frame_kernel : Cert.quiescent_AttnFwd := frame_text.mpr fun m ρ _ => frame_run (F := Bits) m ρ

theorem frame_ideal : Cert.quiescent_AttnFwdIdeal := fun m ρ _ => frame_run (F := Ideal) m ρ

theorem frame_ref : Cert.quiescent_AttnFwdRefIdeal := fun m ρ _ => (θ_run Cert.AttnFwdRefIdeal.defs _ _).mono
  (fun r h => ⟨fun c => (h c).2.2, sem_eq_zero_of_no_sems (by decide) r.2⟩) (Cert.AttnFwdRefIdeal.Value.run (F := Ideal) m ρ)

end Cert.Proof.Fwd

end
-- ==== Proof.FwdModel.lean ====
module

public import proofs.«01_k».proof.Proof.AttnModel

/-!
Softmax by halves of key blocks in real numbers: a query's running maximum may be any real number, for the running sums carry
its power as a common factor that the end divides out again.
-/

@[expose] public section

noncomputable section

namespace Cert.Proof.Fwd

open Idealize.ShloMosaic
open Cert.Proof.Attn (coe_sum dot_coe max_row div_coe_coe)

/-- The weight of key `κ` for query `i` when its score to base 2 is `S κ`. -/
def wgt (S : ℕ → ℝ) (i κ : ℕ) : ℝ := if κ ≤ i then Real.rpow 2 (S κ) else 0

theorem wgt_nonneg (S : ℕ → ℝ) (i κ : ℕ) : 0 ≤ wgt S i κ := by
  unfold wgt; split_ifs; exacts [(Real.rpow_pos_of_pos two_pos _).le, le_rfl]

/-- A nonnegative real factor goes into a sum of extended reals. -/
theorem mul_sum {ι : Type} {r : ℝ} (hr : 0 ≤ r) (s : Finset ι) (f : ι → EReal) : (r : EReal) * ∑ i ∈ s, f i = ∑ i ∈ s, (r : EReal) * f i := by
  classical
  induction s using Finset.induction_on with
  | empty => simp
  | insert a s h ih => rw [Finset.sum_insert h, Finset.sum_insert h, EReal.left_distrib_of_nonneg_of_ne_top (EReal.coe_nonneg.2 hr) (EReal.coe_ne_top r), ih]

theorem rpow_add (a b : ℝ) : Real.rpow 2 (a + b) = Real.rpow 2 a * Real.rpow 2 b := Real.rpow_add two_pos a b

/-- The running maximum and sums of query `i` when the keys before `n` have had their share. -/
def Good (S : ℕ → ℝ) (V : ℕ → Fin 144 → EReal) (i n : ℕ) (m : EReal) (acc : Fin 144 → EReal) : Prop :=
  (n = 0 ∧ m = ⊥ ∧ ∀ e, acc e = 0) ∨ ∃ M : ℝ, m = (M : EReal) ∧ ∀ e, acc e = ∑ κ ∈ Finset.range n, ((wgt S i κ * Real.rpow 2 (-M) : ℝ) : EReal) * V κ e

/-- The maximum after another half block. -/
def top (m : EReal) (sc : Fin 512 → EReal) : EReal := max m ((Finset.univ : Finset (Fin 512)).fold max ⊥ sc)

/-- The sums after another half block. -/
def add2 (m : EReal) (acc : Fin 144 → EReal) (sc : Fin 512 → EReal) (u0 u1 : Fin 144 → Fin 256 → EReal) (e : Fin 144) : EReal :=
  (Ideal.exp2 (m - top m sc) * acc e + ∑ r : Fin 256, u0 e r * Ideal.exp2 (sc ⟨r.val, by omega⟩ - top m sc)) + ∑ r : Fin 256, u1 e r * Ideal.exp2 (sc ⟨256 + r.val, by omega⟩ - top m sc)

theorem exp2_row {b : Prop} [Decidable b] (s M : ℝ) :
    Ideal.exp2 ((if b then (s : EReal) else ⊥) - (M : EReal)) = (((if b then Real.rpow 2 s else 0) * Real.rpow 2 (-M) : ℝ) : EReal) := by
  split_ifs
  · rw [← EReal.coe_sub, ← rpow_add, ← sub_eq_add_neg]; rfl
  · rw [EReal.bot_sub, zero_mul]; rfl

section Half
variable {S : ℕ → ℝ} {V : ℕ → Fin 144 → EReal} {i n : ℕ} {m : EReal} {acc : Fin 144 → EReal} {sc : Fin 512 → EReal}

/-- The maximum is a real number from the first half block on, as key 0 is never masked. -/
theorem top_real (G : Good S V i n m acc) (hsc : ∀ r, sc r = if n + r.val ≤ i then ((S (n + r.val) : ℝ) : EReal) else ⊥) : ∃ M : ℝ, top m sc = (M : EReal) := by
  obtain rfl := funext hsc
  by_cases h : ∃ r : Fin 512, n + r.val ≤ i
  · obtain ⟨r, hr⟩ := h
    obtain ⟨M, hM⟩ := max_row (fun r : Fin 512 => n + r.val ≤ i) (fun r => S (n + r.val)) r hr
    unfold top
    rw [hM]
    rcases G with ⟨-, rfl, -⟩ | ⟨M', rfl, -⟩
    · exact ⟨M, max_eq_right bot_le⟩
    · exact ⟨max M' M, (EReal.coe_strictMono.monotone.map_max).symm⟩
  · have hb : (Finset.univ : Finset (Fin 512)).fold max (⊥ : EReal) (fun r => if n + r.val ≤ i then ((S (n + r.val) : ℝ) : EReal) else ⊥) = ⊥ :=
      Finset.sup_eq_bot_iff _ _ |>.2 fun r _ => if_neg fun hr => h ⟨r, hr⟩
    unfold top
    rw [hb]
    rcases G with ⟨rfl, -, -⟩ | ⟨M', rfl, -⟩
    · exact absurd ⟨0, Nat.zero_le i⟩ h
    · exact ⟨M', max_eq_left bot_le⟩

theorem half_good (G : Good S V i n m acc) (hsc : ∀ r, sc r = if n + r.val ≤ i then ((S (n + r.val) : ℝ) : EReal) else ⊥) {u0 u1 : Fin 144 → Fin 256 → EReal}
    (h0 : ∀ e r, u0 e r = V (n + r.val) e) (h1 : ∀ e r, u1 e r = V (n + 256 + r.val) e) :
    Good S V i (n + 512) (top m sc) (add2 m acc sc u0 u1) := by
  obtain ⟨M, hM⟩ := top_real G hsc
  refine Or.inr ⟨M, hM, fun e => ?_⟩
  unfold add2
  rw [hM]
  have hp : ∀ r : Fin 512, Ideal.exp2 (sc r - (M : EReal)) = ((wgt S i (n + r.val) * Real.rpow 2 (-M) : ℝ) : EReal) := fun r => by rw [hsc]; exact exp2_row _ _
  have ha : Ideal.exp2 (m - (M : EReal)) * acc e = ∑ κ ∈ Finset.range n, ((wgt S i κ * Real.rpow 2 (-M) : ℝ) : EReal) * V κ e := by
    rcases G with ⟨rfl, rfl, h⟩ | ⟨M', rfl, h⟩
    · rw [h, mul_zero]; simp
    · rw [h, ← EReal.coe_sub, show Ideal.exp2 ((M' - M : ℝ) : EReal) = ((Real.rpow 2 (M' - M) : ℝ) : EReal) from rfl, mul_sum (r := Real.rpow 2 (M' - M)) (Real.rpow_pos_of_pos two_pos _).le]
      refine Finset.sum_congr rfl fun κ _ => ?_
      rw [← mul_assoc, ← EReal.coe_mul, show -M = (M' - M) + -M' by ring, rpow_add]
      exact congrArg (fun r : ℝ => (r : EReal) * V κ e) (by ring)
  have e0 : ∑ r : Fin 256, u0 e r * Ideal.exp2 (sc ⟨r.val, by omega⟩ - (M : EReal)) = ∑ r : Fin 256, ((wgt S i (n + r.val) * Real.rpow 2 (-M) : ℝ) : EReal) * V (n + r.val) e :=
    Finset.sum_congr rfl fun r _ => by rw [h0, hp, mul_comm]
  have e1 : ∑ r : Fin 256, u1 e r * Ideal.exp2 (sc ⟨256 + r.val, by omega⟩ - (M : EReal))
      = ∑ r : Fin 256, ((wgt S i (n + 256 + r.val) * Real.rpow 2 (-M) : ℝ) : EReal) * V (n + 256 + r.val) e :=
    Finset.sum_congr rfl fun r _ => by rw [h1, hp, mul_comm, Nat.add_assoc n 256]
  rw [ha, e0, e1, show n + 512 = n + 256 + 256 by omega, Finset.sum_range_add, Finset.sum_range_add, Finset.sum_range (n := 256), Finset.sum_range (n := 256)]

end Half

end Cert.Proof.Fwd

end
-- ==== Proof.FwdPay.lean ====
module

public import proofs.«01_k».proof.Proof.FwdPoint
public import proofs.«01_k».proof.Proof.FwdModel
public import Idealize.ShloMosaic.Lib.Pipeline.ValueKit
public import Idealize.ShloMosaic.Lib.Pointwise

/-!
The entries of what the attention's forward kernel computes at a grid point, floats being extended reals.
-/

@[expose] public section

set_option maxRecDepth 16384

noncomputable section

namespace Cert.Proof.Fwd

open Cert.AttnFwdIdeal Cert.AttnFwdIdeal.Gen
open Idealize.ShloMosaic Idealize.ShloMosaic.TcCoe

section Half
variable (q : FVec Ideal S1024x256 .bf16) (k : Vec Ideal S1x512x256 .bf16) (sc : FVec Ideal S512x1024 .f32) (m : FVec Ideal S1x1024 .f32)
  (acc : FVec Ideal S144x1024 .f32) (u0 u1 u2 u3 : Vec Ideal S1x144x256 .bf16) (p : FVec Ideal S512x1024 .bf16)

/-- A column of scores, of the running sums, and a quarter block's values as laid out. -/
def col (c : Fin 1024) : Fin 512 → EReal := fun r => sc (ix2 r c)
def sums (c : Fin 1024) : Fin 144 → EReal := fun e => acc (ix2 e c)
def vals (u : Vec Ideal S1x144x256 .bf16) : Fin 144 → Fin 256 → EReal := fun e r => u (ix3 0 e r)

theorem pay75_at (r : Fin 512) (c : Fin 1024) : (k0_pay75 (F := Ideal) q k (ix2 r c) : EReal) = ∑ a : Fin 256, k (ix3 0 r a) * q (ix2 c a) := by
  pointwise [k0_pay75]

theorem pay91_at (c : Fin 1024) : (k0_pay91 (F := Ideal) sc m (ix2 0 c) : EReal) = top (m (ix2 0 c)) (col sc c) := by
  unfold top col
  pointwise [k0_pay91]
  rw [Cert.Proof.Attn.neg_inf]

theorem pay87_at (c : Fin 1024) : (k0_pay87 (F := Ideal) (ix2 0 c) : EReal) = ⊥ := by
  pointwise [k0_pay87]
  exact IdealRules.named_const.ideal_named_scalar _ _ _ _ rfl

theorem pay88_at (e : Fin 144) (c : Fin 1024) : (k0_pay88 (F := Ideal) (ix2 e c) : EReal) = 0 := by
  pointwise [k0_pay88]

theorem pay77_at (r : Fin 512) (c : Fin 1024) :
    (k0_pay77 (F := Ideal) q m k (ix2 r c) : EReal) = Ideal.exp2 (col (k0_pay75 (F := Ideal) q k) c r - top (m (ix2 0 c)) (col (k0_pay75 (F := Ideal) q k) c)) := by
  rw [← pay91_at]
  pointwise [k0_pay77]
  rfl

theorem pay78_at (e : Fin 144) (c : Fin 1024) :
    (k0_pay78 (F := Ideal) q m acc k u0 (ix2 e c) : EReal) = Ideal.exp2 (m (ix2 0 c) - top (m (ix2 0 c)) (col (k0_pay75 (F := Ideal) q k) c)) * sums acc c e
      + ∑ r : Fin 256, vals u0 e r * Ideal.exp2 (col (k0_pay75 (F := Ideal) q k) c ⟨r.val, by omega⟩ - top (m (ix2 0 c)) (col (k0_pay75 (F := Ideal) q k) c)) := by
  pointwise [k0_pay78]
  simp only [pay77_at]
  rw [show k0_pay76 (F := Ideal) q m k = k0_pay91 (k0_pay75 q k) m from rfl, pay91_at]
  rfl

theorem pay92_at (e : Fin 144) (c : Fin 1024) :
    (k0_pay92 (F := Ideal) sc m p acc u1 u2 u3 (ix2 e c) : EReal)
      = add2 (m (ix2 0 c)) (fun e => acc (ix2 e c) + ∑ r : Fin 256, u1 (ix3 0 e r) * p (ix2 ⟨256 + r.val, by omega⟩ c)) (col sc c) (vals u2) (vals u3) e := by
  unfold add2
  simp only [← pay91_at]
  pointwise [k0_pay92]
  rfl

/-! ## The diagonal -/

theorem mask_at (y c r : ℕ) (hy : y < 2 ^ 20) (hc : c < 2 ^ 20) (hr : r < 2 ^ 20) (a b : EReal) :
    Scalar.select (IntOp.cmpi .sge (BitVec.ofNat 32 c) (IntOp.addi (BitVec.ofNat 32 r) (BitVec.ofNat 32 y))) a b = if y + r ≤ c then a else b := by
  rw [show IntOp.addi (BitVec.ofNat 32 r) (BitVec.ofNat 32 y) = BitVec.ofNat 32 (y + r) from (BitVec.ofNat_add r y).symm.trans (by rw [Nat.add_comm]),
    WordCmp.cmpi_sge_ofNat (by omega) (by omega)]
  by_cases h : y + r ≤ c <;> simp [h, Scalar.select]

theorem mask_bot : (Named.named (F := Ideal) κ "mask" 0xF149F2CA#32 : Ideal .f32) = (⊥ : EReal) := IdealRules.named_const.ideal_named_scalar _ _ _ _ rfl

theorem pay95_eq (X2 : Vec Ideal S1x1024x256 .bf16) : k0_pay95 (F := Ideal) X2 k = k0_pay75 (k0_pay84 X2) k := rfl
theorem pay98_eq : k0_pay98 (F := Ideal) m sc = k0_pay91 (k0_pay96 sc) m := rfl
theorem pay101_eq : k0_pay101 (F := Ideal) sc m = k0_pay91 sc m := rfl
theorem pay102_eq : k0_pay102 (F := Ideal) sc m p acc u1 u2 u3 = k0_pay92 sc m p acc u1 u2 u3 := rfl

theorem pay96_at (r : Fin 512) (c : Fin 1024) : (k0_pay96 (F := Ideal) sc (ix2 r c) : EReal) = if r.val ≤ c.val then sc (ix2 r c) else ⊥ := by
  pointwise [k0_pay96]
  rw [mask_at 0 _ _ (by omega) (by omega) (by omega), mask_bot, Nat.zero_add]

theorem pay97_at (r : Fin 512) (c : Fin 1024) : (k0_pay97 (F := Ideal) q k (ix2 r c) : EReal) = if 512 + r.val ≤ c.val then k0_pay75 (F := Ideal) q k (ix2 r c) else (⊥ : EReal) := by
  rw [pay75_at]
  pointwise [k0_pay97]
  rw [mask_at 512 _ _ (by omega) (by omega) (by omega), mask_bot]

theorem pay99_at (r : Fin 512) (c : Fin 1024) :
    (k0_pay99 (F := Ideal) m sc (ix2 r c) : EReal) = Ideal.exp2 (col (k0_pay96 (F := Ideal) sc) c r - top (m (ix2 0 c)) (col (k0_pay96 (F := Ideal) sc) c)) := by
  rw [← pay91_at]
  pointwise [k0_pay99]
  rfl

theorem pay100_at (e : Fin 144) (c : Fin 1024) :
    (k0_pay100 (F := Ideal) m acc sc u0 (ix2 e c) : EReal) = Ideal.exp2 (m (ix2 0 c) - top (m (ix2 0 c)) (col (k0_pay96 (F := Ideal) sc) c)) * sums acc c e
      + ∑ r : Fin 256, vals u0 e r * Ideal.exp2 (col (k0_pay96 (F := Ideal) sc) c ⟨r.val, by omega⟩ - top (m (ix2 0 c)) (col (k0_pay96 (F := Ideal) sc) c)) := by
  pointwise [k0_pay100]
  simp only [pay99_at]
  rw [pay98_eq, pay91_at]
  rfl

/-! ## The two results -/

theorem pay103_at (c : Fin 1024) : (k0_pay103 (F := Ideal) sc m p acc u1 u2 u3 (ix2 0 c) : EReal) = k0_pay92 (F := Ideal) sc m p acc u1 u2 u3 (ix2 128 c) := by
  rw [← pay102_eq]
  pointwise [k0_pay103]
theorem pay104_at (c : Fin 1024) (e : Fin 128) : (k0_pay104 (F := Ideal) sc m p acc u1 u2 u3 (ix2 c e) : EReal)
    = Ideal.div (k0_pay92 (F := Ideal) sc m p acc u1 u2 u3 (ix2 ⟨e.val, by omega⟩ c)) (k0_pay92 (F := Ideal) sc m p acc u1 u2 u3 (ix2 128 c)) := by
  rw [← pay103_at, ← pay102_eq]
  pointwise [k0_pay104]
theorem pay1_at (l : FVec Ideal S1x1024 .f32) (c : Fin 1024) : (k0_pay1 (F := Ideal) m l (ix4 0 0 0 c) : EReal) = m (ix2 0 c) + Ideal.div (Ideal.log (l (ix2 0 c))) ((Real.log 2 : ℝ) : EReal) := by
  have h : (Named.named (F := Ideal) κ "ln2" 0x3F317218#32 : Ideal .f32) = ((Real.log 2 : ℝ) : EReal) := IdealRules.named_const.ideal_named_scalar _ _ _ _ rfl
  rw [← h]
  pointwise [k0_pay1]

/-! ## What a point reads -/

theorem pay84_at (X2 : Vec Ideal S1x1024x256 .bf16) (c : Fin 1024) (a : Fin 256) : (k0_pay84 (F := Ideal) X2 (ix2 c a) : EReal) = X2 (ix3 0 c a) := by
  pointwise [k0_pay84]

end Half

section Ld
variable (X3 : Vec Ideal S1x16384x256 .bf16) (X4 : Vec Ideal S1x16384x128 .bf16)

theorem ld_k (n : Fin 32) (r : Fin 512) (a : Fin 256) : View.ld X3 (rk n) (ix3 0 r a) = X3 (ix3 0 ⟨512 * n.val + r.val, by omega⟩ a) := by
  refine congrArg X3 (funext fun b => Fin.ext ?_); fin_cases b <;> simp [Rect.unit]
theorem ld_w (n : Fin 64) (r : Fin 256) (e : Fin 128) : View.ld X4 (rw4 n) (ix3 0 r e) = X4 (ix3 0 ⟨256 * n.val + r.val, by omega⟩ e) := by
  refine congrArg X4 (funext fun b => Fin.ext ?_); fin_cases b <;> simp [Rect.unit]
theorem ld_t (T : Vec Ideal S64x144x256 .bf16) (n : Fin 64) (e : Fin 144) (r : Fin 256) : View.ld T (rv n) (ix3 0 e r) = T (ix3 n e r) := by
  refine congrArg T (funext fun b => Fin.ext ?_); fin_cases b <;> simp [Rect.unit]

theorem pay85_at (w : Vec Ideal S1x256x128 .bf16) (e : Fin 128) (r : Fin 256) : (k0_pay85 (F := Ideal) w (ix3 0 e r) : EReal) = w (ix3 0 r e) := by
  pointwise [k0_pay85]
theorem pay86_at (e : Fin 16) (r : Fin 256) : (k0_pay86 (F := Ideal) (ix3 0 e r) : EReal) = if e.val = 0 then ((1 : ℝ) : EReal) else ((0 : ℝ) : EReal) := by
  pointwise [k0_pay86]
  fin_cases e <;> simp [Scalar.select, IntOp.cmpi]

/-- The values of a quarter block as laid out. -/
theorem laid_at (n : Fin 64) (e : Fin 144) (r : Fin 256) : (vals (View.ld (laid X4) (rv n)) e r : EReal)
    = if h : e.val < 128 then X4 (ix3 0 ⟨256 * n.val + r.val, by omega⟩ ⟨e.val, h⟩) else if e.val = 128 then ((1 : ℝ) : EReal) else ((0 : ℝ) : EReal) := by
  unfold vals
  rw [ld_t]
  unfold laid
  by_cases h : e.val < 128
  · rw [dif_pos h]
    refine (if_pos h).trans ((pay85_at _ _ _).trans ((ld_w X4 n r _).trans ?_))
    exact congrArg (fun e => X4 (ix3 0 _ e)) (Fin.ext (Nat.mod_eq_of_lt h))
  · rw [dif_neg h]
    refine (if_neg h).trans ((pay86_at _ _).trans ?_)
    have e' : (Fin.ofNat 16 (e.val - 128)).val = e.val - 128 := Nat.mod_eq_of_lt (by omega)
    refine if_congr ?_ rfl rfl
    rw [show ((Fin.ofNat 16 ((ix3 n e r 1).val - 128)).val = 0) = ((Fin.ofNat 16 (e.val - 128)).val = 0) from rfl, e']
    omega
end Ld

end Cert.Proof.Fwd

end
-- ==== Proof.FwdSum.lean ====
module

public import proofs.«01_k».proof.Proof.FwdPay

/-!
What a grid point of the attention's forward kernel writes, in real numbers: the weighted mean of the values over the keys a
query sees, and the logarithm of the weights' sum.
-/

@[expose] public section

set_option maxRecDepth 16384

noncomputable section

namespace Cert.Proof.Fwd

open Cert.AttnFwdIdeal Cert.AttnFwdIdeal.Gen
open Idealize.ShloMosaic Idealize.ShloMosaic.TcCoe
open Cert.Proof.Attn (coe_sum dot_coe div_coe_coe)

/-- One head: the keys and the scaled queries, padded, in real numbers, and the values, which may be infinite. -/
structure Head where
  kk : ℕ → Fin 256 → ℝ
  qq : ℕ → Fin 256 → ℝ
  vv : ℕ → Fin 128 → EReal

/-- The score of query `i` at key `κ` to base 2, and the values with the row of ones below. -/
def Head.S (H : Head) (i κ : ℕ) : ℝ := ∑ a, H.kk κ a * H.qq i a
def Head.V (H : Head) (κ : ℕ) (e : Fin 144) : EReal := if h : e.val < 128 then H.vv κ ⟨e.val, h⟩ else if e.val = 128 then 1 else 0

/-- A block of 1024 keys: two halves. -/
theorem block_good {S : ℕ → ℝ} {V : ℕ → Fin 144 → EReal} {i n : ℕ} (c : Fin 1024) {sc0 sc1 : FVec Ideal S512x1024 .f32} {m : FVec Ideal S1x1024 .f32}
    {acc a0 : FVec Ideal S144x1024 .f32} {u0 u1 u2 u3 : Vec Ideal S1x144x256 .bf16} {p0 : FVec Ideal S512x1024 .bf16}
    (G : Good S V i n (m (ix2 0 c)) (sums acc c))
    (h0 : ∀ r, col sc0 c r = if n + r.val ≤ i then ((S (n + r.val) : ℝ) : EReal) else ⊥)
    (h1 : ∀ r, col sc1 c r = if n + 512 + r.val ≤ i then ((S (n + 512 + r.val) : ℝ) : EReal) else ⊥)
    (hp : ∀ r, (p0 (ix2 r c) : EReal) = Ideal.exp2 (col sc0 c r - top (m (ix2 0 c)) (col sc0 c)))
    (ha : ∀ e, (a0 (ix2 e c) : EReal) = Ideal.exp2 (m (ix2 0 c) - top (m (ix2 0 c)) (col sc0 c)) * sums acc c e
      + ∑ r : Fin 256, vals u0 e r * Ideal.exp2 (col sc0 c ⟨r.val, by omega⟩ - top (m (ix2 0 c)) (col sc0 c)))
    (v0 : ∀ e r, vals u0 e r = V (n + r.val) e) (v1 : ∀ e r, vals u1 e r = V (n + 256 + r.val) e)
    (v2 : ∀ e r, vals u2 e r = V (n + 512 + r.val) e) (v3 : ∀ e r, vals u3 e r = V (n + 512 + 256 + r.val) e) :
    Good S V i (n + 1024) (k0_pay91 (F := Ideal) sc1 (k0_pay91 sc0 m) (ix2 0 c)) (sums (k0_pay92 (F := Ideal) sc1 (k0_pay91 sc0 m) p0 a0 u1 u2 u3) c) := by
  have G2 := half_good (half_good G h0 v0 v1) h1 v2 v3
  rw [show n + 512 + 512 = n + 1024 by omega] at G2
  have e : sums (k0_pay92 (F := Ideal) sc1 (k0_pay91 sc0 m) p0 a0 u1 u2 u3) c
      = add2 (top (m (ix2 0 c)) (col sc0 c)) (add2 (m (ix2 0 c)) (sums acc c) (col sc0 c) (vals u0) (vals u1)) (col sc1 c) (vals u2) (vals u3) := by
    funext e
    refine (pay92_at ..).trans ?_
    rw [pay91_at]
    refine congrArg (fun f => add2 _ f _ _ _ e) (funext fun e => ?_)
    rw [ha]
    exact congrArg _ (Finset.sum_congr rfl fun r _ => congrArg _ (hp _))
  rw [e, pay91_at, pay91_at]
  exact G2

/-- The blocks at query block `b` hold the head. -/
structure Reads (H : Head) (b : ℕ) (X2 : Vec Ideal S1x1024x256 .bf16) (X3 : Vec Ideal S1x16384x256 .bf16) (X4 : Vec Ideal S1x16384x128 .bf16) : Prop where
  x2 : ∀ c a, (X2 (ix3 0 c a) : EReal) = (H.qq (1024 * b + c.val) a : ℝ)
  x3 : ∀ t a, (X3 (ix3 0 t a) : EReal) = (H.kk t.val a : ℝ)
  x4 : ∀ t e, (X4 (ix3 0 t e) : EReal) = H.vv t.val e

variable {H : Head} {b : ℕ} {X2 : Vec Ideal S1x1024x256 .bf16} {X3 : Vec Ideal S1x16384x256 .bf16} {X4 : Vec Ideal S1x16384x128 .bf16} (R : Reads H b X2 X3 X4)
include R

theorem score_at (n : Fin 16) (h : Fin 2) (r : Fin 512) (c : Fin 1024) :
    (k0_pay75 (F := Ideal) (k0_pay84 X2) (View.ld X3 (rk (half n h))) (ix2 r c) : EReal) = ((H.S (1024 * b + c.val) (1024 * n.val + 512 * h.val + r.val) : ℝ) : EReal) := by
  refine (pay75_at ..).trans (dot_coe (fun a => (ld_k X3 _ r a).trans ((R.x3 _ a).trans ?_)) (fun a => (pay84_at X2 c a).trans (R.x2 c a)))
  exact congrArg (fun κ => ((H.kk κ a : ℝ) : EReal)) (show 512 * ((2 * n.val + h.val) % 32) + r.val = 1024 * n.val + 512 * h.val + r.val by omega)

omit R in
theorem head_V (R : Reads H b X2 X3 X4) (n : Fin 16) (g h : Fin 2) (e : Fin 144) (r : Fin 256) :
    vals (View.ld (laid X4) (rv (quarter n g h))) e r = H.V (1024 * n.val + 512 * g.val + 256 * h.val + r.val) e := by
  have hq : 256 * (quarter n g h).val + r.val = 1024 * n.val + 512 * g.val + 256 * h.val + r.val := by
    show 256 * ((4 * n.val + 2 * g.val + h.val) % 64) + r.val = 1024 * n.val + 512 * g.val + 256 * h.val + r.val
    omega
  rw [laid_at]
  unfold Head.V
  split_ifs with h1 h2
  · exact (R.x4 _ _).trans (congrArg (fun κ => H.vv κ ⟨e.val, h1⟩) hq)
  · rfl
  · rfl

/-- All columns when the key blocks before `n` have had their share. -/
def AllGood (H : Head) (b n : ℕ) (s : St Ideal) : Prop := ∀ c : Fin 1024, Good (H.S (1024 * b + c.val)) H.V (1024 * b + c.val) (1024 * n) (s.1 (ix2 0 c)) (sums s.2 c)

theorem good_step (n : Fin 16) (hn : n.val < b) (s : St Ideal) (G : AllGood H b n.val s) : AllGood H b (n.val + 1) (stepAt (k0_pay84 X2) X3 (laid X4) n s) := fun c => by
  have hv := fun g h => head_V R n g h
  refine block_good c (G c) (fun r => (score_at R n 0 r c).trans (if_pos ?_).symm) (fun r => (score_at R n 1 r c).trans (if_pos ?_).symm)
    (fun r => pay77_at ..) (fun e => pay78_at ..) (hv 0 0) (hv 0 1) (hv 1 0) (hv 1 1)
  · show 1024 * n.val + r.val ≤ 1024 * b + c.val
    omega
  · show 1024 * n.val + 512 + r.val ≤ 1024 * b + c.val
    omega

theorem good_steps (k : ℕ) (hk : k ≤ b) (hb : b < 16) : AllGood H b k (steps (k0_pay84 X2) X3 (laid X4) 0 k (k0_pay87 (F := Ideal), k0_pay88 (F := Ideal))) := by
  induction k with
  | zero => exact fun c => Or.inl ⟨rfl, pay87_at c, fun e => pay88_at e c⟩
  | succ k ih =>
    have e : (Fin.ofNat 16 (0 + k)).val = k := by show (0 + k) % 16 = k; omega
    have h := good_step R (Fin.ofNat 16 (0 + k)) (by omega) _ (by rw [e]; exact ih (by omega))
    rw [e] at h
    exact h

omit R in
/-- What the weights' common factor leaves behind: the mean and the logarithm. -/
theorem final {S : ℕ → ℝ} {V : ℕ → Fin 144 → EReal} {i N : ℕ} {m : EReal} {acc : Fin 144 → EReal} (G : Good S V i N m acc) (hN : i < N) (hN' : N ≤ 16384) (h1 : ∀ κ, V κ 128 = 1) :
    (∀ e, Ideal.div (acc e) (acc 128) = ∑ κ : Fin 16384, ((wgt S i κ.val / ∑ κ : Fin 16384, wgt S i κ.val : ℝ) : EReal) * V κ.val e)
    ∧ m + Ideal.div (Ideal.log (acc 128)) ((Real.log 2 : ℝ) : EReal) = ((Real.log (∑ κ : Fin 16384, wgt S i κ.val) / Real.log 2 : ℝ) : EReal) := by
  have hz : 0 < ∑ κ : Fin 16384, wgt S i κ.val := by
    refine lt_of_lt_of_le ?_ (Finset.single_le_sum (f := fun κ : Fin 16384 => wgt S i κ.val) (fun κ _ => wgt_nonneg S i κ.val) (Finset.mem_univ (0 : Fin 16384)))
    show 0 < wgt S i 0
    rw [wgt, if_pos (Nat.zero_le i)]
    exact Real.rpow_pos_of_pos two_pos _
  rcases G with ⟨rfl, -, -⟩ | ⟨M, rfl, h⟩
  · exact absurd hN (Nat.not_lt_zero i)
  have hμ : 0 < Real.rpow 2 (-M) := Real.rpow_pos_of_pos two_pos _
  have hl : Real.log 2 ≠ 0 := (Real.log_pos one_lt_two).ne'
  have ha : ∀ e, acc e = ∑ κ : Fin 16384, ((wgt S i κ.val * Real.rpow 2 (-M) : ℝ) : EReal) * V κ.val e := fun e => by
    rw [h, ← Finset.sum_range (n := 16384) (fun κ => ((wgt S i κ * Real.rpow 2 (-M) : ℝ) : EReal) * V κ e)]
    refine Finset.sum_subset (Finset.range_mono hN') fun κ _ h => ?_
    rw [Finset.mem_range, not_lt] at h
    rw [wgt, if_neg (by omega), zero_mul]
    exact zero_mul _
  have h128 : acc 128 = (((∑ κ : Fin 16384, wgt S i κ.val) * Real.rpow 2 (-M) : ℝ) : EReal) := by
    rw [ha, Finset.sum_mul, coe_sum]; simp only [h1, mul_one]
  refine ⟨fun e => ?_, ?_⟩
  · have hy := mul_pos hz hμ
    rw [h128, ha, Ideal.div_coe hy.ne', mul_comm, mul_sum (one_div_pos.2 hy).le]
    refine Finset.sum_congr rfl fun κ _ => ?_
    rw [← mul_assoc, ← EReal.coe_mul, one_div_mul_eq_div, mul_div_mul_right _ _ hμ.ne']
  · rw [h128, Ideal.log_coe, if_neg (not_le.2 (mul_pos hz hμ)), div_coe_coe hl, ← EReal.coe_add, Real.log_mul hz.ne' hμ.ne',
      show Real.log (Real.rpow 2 (-M)) = -M * Real.log 2 from Real.log_rpow two_pos _]
    refine congrArg _ ?_
    field_simp
    ring

/-- The running maximum and sums after the diagonal's block. -/
theorem diag_good (i : grid0.Coords) (hi : (i 1).val = b) (c : Fin 1024) :
    ∃ (m : EReal) (acc : Fin 144 → EReal), Good (H.S (1024 * b + c.val)) H.V (1024 * b + c.val) (1024 * (b + 1)) m acc
      ∧ (∀ e : Fin 128, (outO (F := Ideal) i X2 X3 X4 (ix2 c e) : EReal) = Ideal.div (acc ⟨e.val, by omega⟩) (acc 128))
      ∧ (outL (F := Ideal) i X2 X3 X4 (ix4 0 0 0 c) : EReal) = m + Ideal.div (Ideal.log (acc 128)) ((Real.log 2 : ℝ) : EReal) := by
  have hb : b < 16 := hi ▸ (i 1).isLt
  have hn : (bq i).val = b := by show (i 1).val % 16 = b; omega
  have hv := fun g h => head_V R (bq i) g h
  have hk := fun h r => score_at R (bq i) h r c
  rw [hn] at hv hk
  have G := good_steps R b le_rfl hb c
  have B := block_good c (sc0 := k0_pay96 (k0_pay75 (k0_pay84 X2) (View.ld X3 (rk (half (bq i) 0))))) (sc1 := sc1 i X2 X3) G
    (fun r => ?_) (fun r => ?_) (fun r => pay99_at ..) (fun e => pay100_at ..) (hv 0 0) (hv 0 1) (hv 1 0) (hv 1 1)
  · subst hi
    refine ⟨_, _, B, fun e => pay104_at .., (pay1_at ..).trans ?_⟩
    rw [pay103_at]
    rfl
  · unfold col
    rw [pay96_at, hk]
    exact if_congr (by omega) rfl rfl
  · unfold col sc1
    rw [pay97_at, hk]
    exact if_congr (by omega) rfl rfl

/-- The two blocks a point writes. -/
theorem out_ok (i : grid0.Coords) (hi : (i 1).val = b) (c : Fin 1024) :
    (∀ e : Fin 128, (outO (F := Ideal) i X2 X3 X4 (ix2 c e) : EReal)
      = ∑ κ : Fin 16384, ((wgt (H.S (1024 * b + c.val)) (1024 * b + c.val) κ.val / ∑ κ : Fin 16384, wgt (H.S (1024 * b + c.val)) (1024 * b + c.val) κ.val : ℝ) : EReal) * H.vv κ.val e)
    ∧ (outL (F := Ideal) i X2 X3 X4 (ix4 0 0 0 c) : EReal) = ((Real.log (∑ κ : Fin 16384, wgt (H.S (1024 * b + c.val)) (1024 * b + c.val) κ.val) / Real.log 2 : ℝ) : EReal) := by
  have hb : b < 16 := hi ▸ (i 1).isLt
  obtain ⟨m, acc, G, ho, hl⟩ := diag_good R i hi c
  have hf := final G (by omega) (by omega) fun κ => rfl
  refine ⟨fun e => (ho e).trans ((hf.1 _).trans ?_), hl.trans hf.2⟩
  have hV : ∀ κ, H.V κ ⟨e.val, by omega⟩ = H.vv κ e := fun κ => dif_pos e.isLt
  simp only [hV]

end Cert.Proof.Fwd

end
-- ==== Proof.FwdEnd.lean ====
module

public import proofs.«01_k».proof.Proof.FwdBody
public import proofs.«01_k».proof.Proof.FwdSum
public import Idealize.ShloMosaic.Lib.Pipeline.ReadBack

/-!
What the host hands the attention's kernel and what the kernel ends with, in real numbers.
-/

@[expose] public section

set_option maxRecDepth 16384

noncomputable section

namespace Cert.Proof.Fwd

open Cert.AttnFwdIdeal Cert.AttnFwdIdeal.Gen
open Idealize.ShloMosaic Idealize.ShloMosaic.TcCoe Idealize.SL.Sem
open Cert.Proof.Attn (Model Holds log_two ln_pos div_coe_coe)

variable (m : (ℓ : Loc nD τ sig) → Buf (Elt Ideal) ℓ) (c : Dev nD)

abbrev x0 : Vec Ideal S1x16384x8x192 .f32 := m ((c : Thread nD τ).loc main_arg0)
abbrev x1 : Vec Ideal S1x16384x8x192 .f32 := m ((c : Thread nD τ).loc main_arg1)
abbrev x2 : Vec Ideal S1x16384x8x128 .f32 := m ((c : Thread nD τ).loc main_arg2)

/-! ## What the host hands over -/

theorem q_at (h : Fin 8) (t : Fin 16384) (a : Fin 256) : ((V0 m c main_v8 : Vec Ideal S8x16384x256 .bf16) (ix3 h t a) : EReal)
    = (if ha : a.val < 192 then (x0 m c (ix4 0 t h ⟨a.val, ha⟩) : EReal) else 0) * Ideal.div (Ideal.ofBits .f32 0x3D93CD3A#32) (Ideal.log (Ideal.ofBits .f32 0x40000000#32)) := by
  unfold V0
  simp only [List.flatten_cons, List.flatten_nil, List.append_nil, hostOps0]
  after_results_simp
  pointwise
  after_results_simp
  pointwise
theorem k_at (h : Fin 8) (t : Fin 16384) (a : Fin 256) : ((V0 m c main_v13 : Vec Ideal S8x16384x256 .bf16) (ix3 h t a) : EReal)
    = if ha : a.val < 192 then (x1 m c (ix4 0 t h ⟨a.val, ha⟩) : EReal) else 0 := by
  unfold V0
  simp only [List.flatten_cons, List.flatten_nil, List.append_nil, hostOps0]
  after_results_simp
  pointwise
  after_results_simp
  pointwise
theorem v_at (h : Fin 8) (t : Fin 16384) (a : Fin 128) : ((V0 m c main_v16 : Vec Ideal S8x16384x128 .bf16) (ix3 h t a) : EReal) = x2 m c (ix4 0 t h a) := by
  unfold V0
  simp only [List.flatten_cons, List.flatten_nil, List.append_nil, hostOps0]
  after_results_simp
  pointwise

/-! ## What a point reads -/

theorem idx_query : ∀ t : Fin cfg0.N, win0_0.index t = ![(hd t).val, (jb t).val, 0] := (by decide +kernel : ∀ t : Fin grid0.N, _)
theorem idx_out : ∀ t : Fin cfg0.N, win0_3.index t = ![(jb t).val, (hd t).val] ∧ win0_4.index t = ![(hd t).val, (jb t).val, 0, 0] := (by decide +kernel : ∀ t : Fin grid0.N, _)

theorem blk_q (t : Fin cfg0.N) (r : Fin 1024) (a : Fin 256) : iblk m c 0 t (ix3 0 r a) = (V0 m c main_v8 : Vec Ideal S8x16384x256 .bf16) (ix3 (hd t) ⟨1024 * (jb t).val + r.val, by omega⟩ a) := by
  blk_ext [iblk, idx_query t]
theorem blk_k (t : Fin cfg0.N) (s : Fin 16384) (a : Fin 256) : iblk m c 1 t (ix3 0 s a) = (V0 m c main_v13 : Vec Ideal S8x16384x256 .bf16) (ix3 (hd t) s a) := by
  blk_ext [iblk, idx_head t]

/-- A head of an array of values. -/
def valsOf (x : Vec Ideal S1x16384x8x128 .f32) (h : Fin 8) (κ : ℕ) (e : Fin 128) : EReal := if hκ : κ < 16384 then x (ix4 0 ⟨κ, hκ⟩ h e) else 0

theorem valsOf_at (x : Vec Ideal S1x16384x8x128 .f32) (h : Fin 8) (κ : Fin 16384) (e : Fin 128) : valsOf x h κ.val e = x (ix4 0 κ h e) := dif_pos κ.isLt

/-- A head as the kernel sees it. -/
def headOf (B : Model) (w : ℕ → Fin 128 → EReal) : Head where
  kk := B.kk
  qq := B.qq
  vv := w

theorem wgt_head (B : Model) (w : ℕ → Fin 128 → EReal) (i : ℕ) (κ : Fin 16384) : wgt ((headOf B w).S i) i κ.val = B.E i κ.val := by
  rw [B.E_pow]
  refine if_congr Iff.rfl (congrArg (Real.rpow 2) ?_) rfl
  rw [← B.sum_kk]
  exact Finset.sum_congr rfl fun a _ => mul_comm _ _

variable {m c} {A : Fin 8 → Model} (H : Holds A (x0 m c) (x1 m c) (fun _ => 0) fun _ => 0)
include H

theorem reads (t : Fin cfg0.N) : Reads (headOf (A (hd t)) (valsOf (x2 m c) (hd t))) (jb t).val (iblk m c 0 t) (iblk m c 1 t) (iblk m c 2 t) where
  x2 r a := by
    rw [blk_q, q_at, log_two, H.c (hd t), div_coe_coe ln_pos.ne']
    refine Eq.trans (congrArg (· * _) ?_) (EReal.coe_mul _ _).symm
    split_ifs
    · exact H.q ..
    · rfl
  x3 s a := by
    rw [blk_k, k_at]
    show _ = (((A (hd t)).kk s.val a : ℝ) : EReal)
    rw [Model.kk]
    split_ifs
    · exact H.k ..
    · rfl
  x4 s e := by rw [blk_v, v_at]; exact (valsOf_at ..).symm

/-! ## The arrays -/

omit H in
/-- A query's output and the logarithm to base 2 of its exponentials' sum. -/
def oOf (B : Model) (w : ℕ → Fin 128 → EReal) (i : ℕ) (e : Fin 128) : EReal := ∑ κ : Fin 16384, ((B.P i κ.val : ℝ) : EReal) * w κ.val e
omit H in
def lOf (B : Model) (i : ℕ) : ℝ := Real.log (B.Z i) / Real.log 2

theorem left_ok (t : Fin cfg0.N) (r : Fin 1024) :
    (∀ e, (leftO m c t (ix2 r e) : EReal) = oOf (A (hd t)) (valsOf (x2 m c) (hd t)) (1024 * (jb t).val + r.val) e)
    ∧ (leftL m c t (ix4 0 0 0 r) : EReal) = (lOf (A (hd t)) (1024 * (jb t).val + r.val) : EReal) := by
  have h := out_ok (reads H t) (grid0.coords t) rfl r
  simp only [wgt_head] at h
  exact h

omit H in
/-- The two arrays the kernel leaves. -/
def oArr (A : Fin 8 → Model) (x : Vec Ideal S1x16384x8x128 .f32) (j : S16384x1024.Idx) : EReal :=
  oOf (A ⟨(j 1).val / 128, Nat.div_lt_of_lt_mul (j 1).isLt⟩) (valsOf x ⟨(j 1).val / 128, Nat.div_lt_of_lt_mul (j 1).isLt⟩) (j 0).val ⟨(j 1).val % 128, Nat.mod_lt _ (by decide)⟩
omit H in
def lArr (A : Fin 8 → Model) (j : S8x16x1x1024.Idx) : EReal := lOf (A (j 0)) (1024 * (j 1).val + (j 3).val)

omit H in
theorem oArr_at (A : Fin 8 → Model) (x : Vec Ideal S1x16384x8x128 .f32) (i : Fin 16384) (h : Fin 8) (e : Fin 128) : oArr A x (ix2 i ⟨128 * h.val + e.val, by omega⟩) = oOf (A h) (valsOf x h) i.val e := by
  have e1 : (128 * h.val + e.val) / 128 = h.val := by omega
  have e2 : (128 * h.val + e.val) % 128 = e.val := by omega
  show oOf (A ⟨(128 * h.val + e.val) / 128, _⟩) (valsOf x ⟨(128 * h.val + e.val) / 128, _⟩) i.val ⟨(128 * h.val + e.val) % 128, _⟩ = _
  simp only [e1, e2]

theorem o_arr : (dats m 0 c).arrAt 3 cfg0.N = oArr A (x2 m c) := by
  refine (dats m 0 c).arrAt_eq_of_covers 3 _ (by decide +kernel) fun t hf y => ?_
  idx_vars y
  blk_simp
  rw [after_3]
  have e : (win0_3.blk t).view.emb (ix2 y0 y1) = ix2 ⟨1024 * (jb t).val + y0.val, by omega⟩ ⟨128 * (hd t).val + y1.val, by omega⟩ := by blk_ext [idx_out t]
  rw [e, oArr_at]
  exact (left_ok H t y0).1 y1

theorem l_arr : (dats m 0 c).arrAt 4 cfg0.N = lArr A := by
  refine (dats m 0 c).arrAt_eq_of_covers 4 _ (by decide +kernel) fun t hf y => ?_
  idx_vars y
  obtain rfl : y0 = 0 := Subsingleton.elim (α := Fin 1) _ _
  obtain rfl : y1 = 0 := Subsingleton.elim (α := Fin 1) _ _
  obtain rfl : y2 = 0 := Subsingleton.elim (α := Fin 1) _ _
  blk_simp
  rw [after_4]
  have e : (win0_4.blk t).view.emb (ix4 0 0 0 y3) = ix4 (hd t) (jb t) 0 y3 := by blk_ext [idx_out t]
  rw [e]
  exact (left_ok H t y3).2

/-! ## The results -/

omit H in
/-- What the buffers hold when the region ends: its arrays, and everything else as before. -/
def atEnd (m : (ℓ : Loc nD τ sig) → Buf (Elt Ideal) ℓ) (c : Dev nD) : Valuation τ sig (Elt Ideal) :=
  Pipeline.withArrays (cfgs 0).spec c (V0 m c) fun w => (dats m 0 c).arrAt w (cfgs 0).N

omit H in
theorem atEnd_o : atEnd m c (Proc.devRef .tc main_v17_0) = (dats m 0 c).arrAt 3 cfg0.N := Pipeline.withArrays_arr (cfgs 0).spec (by decide) c _ _ 3
omit H in
theorem atEnd_l : atEnd m c (Proc.devRef .tc main_v17_1) = (dats m 0 c).arrAt 4 cfg0.N := Pipeline.withArrays_arr (cfgs 0).spec (by decide) c _ _ 4

theorem o_end (i : Fin 16384) (h : Fin 8) (e' : Fin 128) :
    (StableHlo.after hostOps1 (atEnd m c) (Proc.devRef .tc main_v18) (ix4 (n0 := 1) 0 i h e') : EReal) = oOf (A h) (valsOf (x2 m c) h) i.val e' := by
  have e : (atEnd m c (Proc.devRef .tc main_v17_0) (ix2 (n0 := 16384) i ⟨128 * h.val + e'.val, by omega⟩) : EReal) = oOf (A h) (valsOf (x2 m c) h) i.val e' := by
    rw [atEnd_o, o_arr H]
    exact oArr_at A _ i h e'
  refine Eq.trans ?_ e
  generalize atEnd m c = V
  after_results
  pointwise
  exact congrArg (fun κ => V (Proc.devRef .tc main_v17_0) (ix2 i κ)) (Fin.ext (by show h.val * 128 + e'.val = 128 * h.val + e'.val; omega))

theorem l_end (h : Fin 8) (i : Fin 16384) :
    (StableHlo.after hostOps1 (atEnd m c) (Proc.devRef .tc main_v19) (ix2 (n0 := 8) h i) : EReal) = (lOf (A h) i.val : EReal) := by
  have e : (atEnd m c (Proc.devRef .tc main_v17_1) (ix4 (n0 := 8) h ⟨i.val / 1024, by omega⟩ 0 ⟨i.val % 1024, by omega⟩) : EReal) = (lOf (A h) i.val : EReal) := by
    rw [atEnd_l, l_arr H]
    show (lOf (A h) (1024 * (i.val / 1024) + i.val % 1024) : EReal) = _
    rw [Nat.div_add_mod]
  refine Eq.trans ?_ e
  generalize atEnd m c = V
  after_results
  pointwise

end Cert.Proof.Fwd

end
-- ==== Proof.FwdRef.lean ====
module

public import proofs.«01_k».proof.Proof.Gen.AttnFwdRefIdeal.Run
public import proofs.«01_k».proof.Proof.Gen.AttnFwdRefIdeal.Read
public import proofs.«01_k».proof.Proof.AttnModel
public import Idealize.ShloMosaic.Lib.Pipeline.ValueKit
public import Idealize.ShloMosaic.Lib.Pointwise
public import Idealize.ShloMosaic.Lib.WordCmp

/-!
The output of the reference of the attention and its logarithms of the exponentials' sums, entry by entry, in real numbers.
-/

@[expose] public section

set_option maxRecDepth 16384

noncomputable section

namespace Cert.AttnFwdRefIdeal.Val

open Idealize.ShloMosaic Idealize.ShloMosaic.TcCoe Idealize.SL.Sem
open Cert.AttnFwdRefIdeal Cert.AttnFwdRefIdeal.Gen Cert.AttnFwdRefIdeal.Read Cert.Proof.Attn

variable {A : Fin 8 → Model} {x0 x1 : FVec Ideal S1x16384x8x192 .f32} {x2 : FVec Ideal S1x16384x8x128 .f32} (H : Holds A x0 x1 (fun _ => 0) fun _ => 0)
include H

theorem score_at (h : Fin 8) (i κ : Fin 16384) : (val_main_v2 (F := Ideal) x0 x1 (ix4 0 h i κ) : EReal) = ((A h).S i.val κ.val : ℝ) := by
  pointwise [val_main_v2, val_main_v1, val_main_v0, val_main_cst]
  rw [H.c h]
  exact (congrArg (· * _) (dot_coe (fun d => H.q i h d) (fun d => H.k κ h d))).trans (EReal.coe_mul _ _).symm
omit H in
theorem mask_at (h : Fin 8) (i κ : Fin 16384) : val_main_call0_v1 (F := Ideal) (ix4 0 h i κ) = if κ.val ≤ i.val then 1#1 else 0#1 := by
  pointwise [val_main_call0_v1, val_main_v10, val_main_v9, val_main_v8, val_main_v7, val_main_v6, val_main_v5, val_main_v4, val_main_v3]
  exact sle_at κ i
theorem row_at (h : Fin 8) (i κ : Fin 16384) : (val_main_v11 (F := Ideal) x0 x1 (ix4 0 h i κ) : EReal) = if κ.val ≤ i.val then (((A h).S i.val κ.val : ℝ) : EReal) else ⊥ := by
  rw [val_main_v11_apply, mask_at, score_at H]
  split_ifs
  · rfl
  · exact neg_inf
theorem max_at (h : Fin 8) (i : Fin 16384) : ∃ M : ℝ, (val_main_v12 (F := Ideal) x0 x1 (ix3 0 h i) : EReal) = M := by
  refine reduce_max_row reducesTo_S1x8x16384x16384_S1x8x16384_d3 (by decide) h_S_ (val_main_v11 (F := Ideal) x0 x1) _ (ix3 0 h i) (fun κ => κ.val ≤ i.val) (fun κ => (A h).S i.val κ.val) i le_rfl neg_inf fun κ => ?_
  refine Eq.trans (congrArg _ ?_) (row_at H h i κ)
  funext a; fin_cases a <;> rfl

omit H in
/-- The reference takes the softmax and the logarithm of the exponentials' sum of one and the same row. -/
theorem row_twice : val_main_v31 (F := Ideal) x0 x1 = val_main_v11 (F := Ideal) x0 x1 := rfl
omit H in
theorem shift_at (h : Fin 8) (i κ : Fin 16384) : (val_main_v36 (F := Ideal) x0 x1 (ix4 0 h i κ) : EReal) = val_main_v12 (F := Ideal) x0 x1 (ix3 0 h i) := by
  pointwise [val_main_v36, val_main_v35]
  have e : (val_main_v33 (F := Ideal) (ix3 0 h i) : EReal) = ⊥ := (val_main_v33_apply _).trans neg_inf
  have e' : val_main_v32 (F := Ideal) x0 x1 = val_main_v12 (F := Ideal) x0 x1 := rfl
  rw [val_main_v34_apply, e, e']
  generalize val_main_v12 (F := Ideal) x0 x1 (ix3 0 h i) = y
  exact max_eq_right (bot_le (a := (y : EReal)))

section Row
variable {h : Fin 8} {i : Fin 16384} {M : ℝ} (hM : (val_main_v12 (F := Ideal) x0 x1 (ix3 0 h i) : EReal) = M)
include hM

theorem exp_at (κ : Fin 16384) : (val_main_v16 (F := Ideal) x0 x1 (ix4 0 h i κ) : EReal) = ((A h).E i.val κ.val * Real.exp (-M) : ℝ) := by
  have e : (val_main_v14 (F := Ideal) x0 x1 (ix4 0 h i κ) : EReal) = val_main_v12 (F := Ideal) x0 x1 (ix3 0 h i) := by pointwise [val_main_v14, val_main_v13]
  rw [val_main_v16_apply, val_main_v15_apply, row_at H, e, hM]
  exact exp_row _ _
theorem exp_soft (κ : Fin 16384) : (val_main_v38 (F := Ideal) x0 x1 (ix4 0 h i κ) : EReal) = ((A h).E i.val κ.val * Real.exp (-M) : ℝ) := by
  rw [val_main_v38_apply, val_main_v37_apply, row_twice, row_at H, shift_at, hM]
  exact exp_row _ _
theorem sum_at : (val_main_v17 (F := Ideal) x0 x1 (ix3 0 h i) : EReal) = ((A h).Z i.val * Real.exp (-M) : ℝ) := by
  pointwise [val_main_v17, val_main_cst_2]
  rw [Fin.sum_fin_congr (exp_at H hM), ← coe_sum, Model.Z_scaled (Real.exp_pos _)]
theorem sum_soft : (val_main_v39 (F := Ideal) x0 x1 (ix3 0 h i) : EReal) = ((A h).Z i.val * Real.exp (-M) : ℝ) := by
  pointwise [val_main_v39, val_main_cst_7]
  rw [Fin.sum_fin_congr (exp_soft H hM), ← coe_sum, Model.Z_scaled (Real.exp_pos _)]

omit H hM in
theorem z_pos (h : Fin 8) (i : ℕ) (M : ℝ) : 0 < (A h).Z i * Real.exp (-M) := mul_pos ((A h).Z_pos i) (Real.exp_pos _)

theorem weight_at (κ : Fin 16384) : (val_main_v42 (F := Ideal) x0 x1 (ix4 0 h i κ) : EReal) = ((A h).P i.val κ.val : ℝ) := by
  have e : (val_main_v41 (F := Ideal) x0 x1 (ix4 0 h i κ) : EReal) = val_main_v39 (F := Ideal) x0 x1 (ix3 0 h i) := by pointwise [val_main_v41, val_main_v40]
  rw [val_main_v42_apply, exp_soft H hM, e, sum_soft H hM]
  exact (div_coe_coe (z_pos h _ M).ne' _).trans (congrArg _ (Model.P_scaled (Real.exp_pos _) _))

theorem log_at : (val_main_v19 (F := Ideal) x0 x1 (ix3 0 h i) : EReal) = (Real.log ((A h).Z i.val) : ℝ) := by
  rw [val_main_v19_apply, val_main_v18_apply, sum_at H hM, hM]
  refine (congrArg (fun z : EReal => (M : EReal) + z) ((Ideal.log_coe _).trans (if_neg (not_le.2 (z_pos h _ M))))).trans ?_
  rw [← EReal.coe_add, Real.log_mul ((A h).Z_pos _).ne' (Real.exp_pos _).ne', Real.log_exp, add_comm, neg_add_cancel_right]

end Row

/-- The output. -/
theorem o_at (i : Fin 16384) (h : Fin 8) (e : Fin 128) : (val_main_v44 (F := Ideal) x0 x1 x2 (ix4 0 i h e) : EReal) = ∑ κ : Fin 16384, (((A h).P i.val κ.val : ℝ) : EReal) * x2 (ix4 0 κ h e) := by
  obtain ⟨M, hM⟩ := max_at H h i
  pointwise [val_main_v44, val_main_v43]
  exact Finset.sum_congr rfl fun κ _ => by rw [weight_at H hM κ, mul_comm]

/-- The logarithms to base 2. -/
theorem l_at (h : Fin 8) (i : Fin 16384) : (val_main_v48 (F := Ideal) x0 x1 (ix2 h i) : EReal) = (Real.log ((A h).Z i.val) / Real.log 2 : ℝ) := by
  obtain ⟨M, hM⟩ := max_at H h i
  have e : (val_main_v45 (F := Ideal) x0 x1 (ix2 h i) : EReal) = val_main_v19 (F := Ideal) x0 x1 (ix3 0 h i) := by pointwise [val_main_v45]
  have e' : (val_main_v47 (F := Ideal) (ix2 h i) : EReal) = ((Real.log 2 : ℝ) : EReal) := by
    pointwise [val_main_v47, val_main_v46, val_main_cst_8]
    exact log_two
  rw [val_main_v48_apply, e, e', log_at H hM]
  exact div_coe_coe ln_pos.ne' _

end Cert.AttnFwdRefIdeal.Val
end
-- ==== Proof.FwdEq.lean ====
module

public import proofs.«01_k».proof.Defs
public import proofs.«01_k».proof.Proof.FwdEnd
public import proofs.«01_k».proof.Proof.FwdRef
public import proofs.«01_k».proof.Proof.Gen.Pre_fwd_finite
public import proofs.«01_k».proof.Proof.RowModel
public import Idealize.ShloMosaic.Lib.Claim
public import Idealize.ShloMosaic.Lib.ReduceAll

/-!
The attention's kernel and its reference end with equal outputs and equal logarithms where the queries and keys are finite.
-/

@[expose] public section

set_option maxRecDepth 16384

noncomputable section

namespace Cert.Proof.Fwd

open Idealize.ShloMosaic Idealize.ShloMosaic.TcCoe Idealize.SL.Sem
open Cert.Proof.Attn (Holds headsOf scale_real)
open Cert.Proof.Row (real_of_lt)

open Cert.Pre_fwd_finite in
/-- What the precondition says of every entry. -/
theorem entries [Facts] (x0 x1 : FVec Ideal S1x16384x8x192 .f32) (x2 : FVec Ideal S1x16384x8x128 .f32) (h : fn (F := Ideal) x0 x1 x2 = fun _ => 1#1) :
    (∀ i, (x0 i : EReal) = ((x0 i : EReal).toReal : EReal)) ∧ ∀ i, (x1 i : EReal) = ((x1 i : EReal).toReal : EReal) := by
  have h := congrFun h (fun a => a.elim0)
  unfold fn at h
  obtain ⟨h, h1⟩ := IntOp.andi_eq_one.1 h
  obtain ⟨-, h0⟩ := IntOp.andi_eq_one.1 h
  exact ⟨fun i => real_of_lt _ (Host.reduce_andi_all _ _ _ _ _ h0 i), fun i => real_of_lt _ (Host.reduce_andi_all _ _ _ _ _ h1 i)⟩

/-- Finite queries and keys hold the heads made of them; neither text reads an incoming gradient, and the values stay as they are. -/
theorem holds_of [Cert.Pre_fwd_finite.Facts] (x0 x1 : Vec Ideal ⟨4, ![1, 16384, 8, 192]⟩ .f32) (x2 : Vec Ideal ⟨4, ![1, 16384, 8, 128]⟩ .f32)
    (h : Cert.Pre_fwd_finite.fn (F := Ideal) x0 x1 x2 = fun _ => 1#1) : Holds (headsOf x0 x1 (fun _ => 0) fun _ => 0) x0 x1 (fun _ => 0) fun _ => 0 := by
  obtain ⟨h0, h1⟩ := entries x0 x1 x2 h
  refine ⟨fun t h d => ?_, fun t h d => ?_, fun t h e => ?_, fun t h e => ?_, fun h => scale_real⟩ <;> simp only [headsOf, dif_pos t.isLt]
  exacts [h0 _, h1 _, rfl, rfl]

theorem algebraic_fwd : Cert.algebraic_AttnFwdIdeal_AttnFwdRefIdeal_pre_fwd_finite (hAttnFwdIdeal := Cert.AttnFwdIdeal.Gen.facts)
    (hAttnFwdRefIdeal := Cert.AttnFwdRefIdeal.Gen.facts) (hPre_fwd_finite := Cert.Pre_fwd_finite.Gen.facts) := by
  intro m g m' g' hpre hagree
  refine ⟨fun c => StableHlo.after Cert.AttnFwdIdeal.Gen.hostOps1 (atEnd m c) (Proc.devRef .tc Cert.AttnFwdIdeal.main_v18),
    fun c => StableHlo.after Cert.AttnFwdIdeal.Gen.hostOps1 (atEnd m c) (Proc.devRef .tc Cert.AttnFwdIdeal.main_v19), ?_, ?_⟩
  · refine θ_run_mono (θ_run_and (run_main m g) (frame_run m g)) fun r hr c => ?_
    exact ⟨(hr.1 c).2 Cert.AttnFwdIdeal.main_v18 (Pipeline.mem_restRefs_of _ (by decide) (by decide)),
      (hr.1 c).2 Cert.AttnFwdIdeal.main_v19 (Pipeline.mem_restRefs_of _ (by decide) (by decide)), hr.2.1 c⟩
  · refine θ_run_mono (Cert.AttnFwdRefIdeal.Value.run m' g') fun r hr c => ?_
    obtain ⟨h0, h1, hargs⟩ := hr c
    obtain ⟨a0, a1, a2⟩ := hagree c
    obtain ⟨A, H⟩ : ∃ A, Holds A (x0 m c) (x1 m c) (fun _ => 0) fun _ => 0 := ⟨_, holds_of _ _ _ (hpre c)⟩
    have H' : Holds A _ _ (fun _ => 0) fun _ => 0 := H
    unfold x0 x1 at H'
    rw [← a0, ← a1] at H'
    refine ⟨h0.trans ?_, h1.trans ?_, hargs⟩
    · rw [Cert.AttnFwdRefIdeal.Read.val_main_v44_eq]
      funext j
      idx_vars j
      obtain rfl : j0 = 0 := Subsingleton.elim (α := Fin 1) _ _
      refine (Cert.AttnFwdRefIdeal.Val.o_at H' j1 j2 j3).trans (Eq.trans ?_ (o_end H j1 j2 j3).symm)
      unfold oOf
      refine Finset.sum_congr rfl fun κ _ => ?_
      rw [valsOf_at, a2]
    · rw [Cert.AttnFwdRefIdeal.Read.val_main_v48_eq]
      funext j
      idx_vars j
      exact (Cert.AttnFwdRefIdeal.Val.l_at H' j0 j1).trans (l_end H j0 j1).symm

end Cert.Proof.Fwd

end
-- ==== Proof.ProjModel.lean ====
module

public import proofs.«01_k».proof.Proof.InEntry
public import proofs.«01_k».proof.Proof.LatModel

/-!
The layer's input projection, and the queries, keys and values it leads to, over extended reals. Rows are tokens. The kernel keeps the
projection's columns in an order of its own (`padded`) and a head's 192 columns in 256 lanes of which the last 64 meet zero weights.
-/

@[expose] public section

noncomputable section

namespace Cert.Proof.Proj

open Idealize.ShloMosaic
open Cert.InGradIdeal.Val (padded padded_of)
open Cert.Proof.Lat (freqOf)

structure Model where
  x : Fin 16384 → Fin 1024 → EReal
  shift : Fin 1024 → EReal
  scale : Fin 1024 → EReal
  w : Fin 1024 → Fin 4304 → EReal
  pos : Fin 16384 → EReal
  gq : Fin 384 → EReal
  wq : Fin 384 → Fin 1536 → EReal
  gk : Fin 256 → EReal
  wk : Fin 256 → Fin 2048 → EReal

/-- The model whose entries are the eight arguments. -/
abbrev modelOf (x0 : Vec Ideal ⟨3, ![1, 16384, 1024]⟩ .f32) (x1 : Vec Ideal ⟨2, ![1, 3072]⟩ .f32) (x2 : Vec Ideal ⟨2, ![1024, 4304]⟩ .f32)
    (x3 : Vec Ideal ⟨2, ![1, 16384]⟩ .i32) (x4 : Vec Ideal ⟨2, ![1, 384]⟩ .f32) (x5 : Vec Ideal ⟨2, ![384, 1536]⟩ .f32) (x6 : Vec Ideal ⟨2, ![1, 256]⟩ .f32)
    (x7 : Vec Ideal ⟨2, ![256, 2048]⟩ .f32) : Model where
  x R i := x0 (ix3 0 R i)
  shift i := x1 (ix2 0 ⟨i.val, by omega⟩)
  scale i := x1 (ix2 0 ⟨1024 + i.val, by omega⟩)
  w i k := x2 (ix2 i k)
  pos R := FloatOps.sitofp (F := Ideal) .f32 (x3 (ix2 0 R) : BitVec 32)
  gq i := x4 (ix2 0 i)
  wq i k := x5 (ix2 i k)
  gk i := x6 (ix2 0 i)
  wk i k := x7 (ix2 i k)

/-- A row over the root of its mean square (`d` its length, as the constant it is divided by), times the norm's scale. -/
def rms {n : ℕ} (d : EReal) (v g : Fin n → EReal) (i : Fin n) : EReal :=
  v i * Ideal.rsqrt (Ideal.div (∑ k, v k * v k) d + Ideal.ofBits .f32 0x358637BD#32) * g i

namespace Model
variable (M : Model)

def u (R : Fin 16384) (i : Fin 1024) : EReal := M.x R i * (1 + M.scale i) + M.shift i
def proj (R : Fin 16384) (k : Fin 4304) : EReal := ∑ i, M.u R i * M.w i k
/-- The projection in the kernel's order of columns. -/
def pp (R : Fin 16384) (k : Fin 4480) : EReal := ∑ i, M.u R i * padded (M.w i) k

theorem pp_of (R : Fin 16384) (k : Fin 4480) (j : Fin 4304)
    (h : k.val < 640 ∧ j.val = k.val ∨ 640 ≤ k.val ∧ k.val < 3200 ∧ j.val = k.val + 64 ∨ 3200 ≤ k.val ∧ k.val < 4224 ∧ j.val = k.val + 80
      ∨ 4224 ≤ k.val ∧ k.val < 4288 ∧ j.val + 3584 = k.val ∨ 4352 ≤ k.val ∧ k.val < 4368 ∧ j.val + 1088 = k.val) : M.pp R k = M.proj R j :=
  Finset.sum_congr rfl fun i _ => by rw [padded_of _ _ _ h]

/-- The `n` columns of it from `o`. -/
def cut (o : ℕ) {n : ℕ} (h : o + n ≤ 4480) (R : Fin 16384) (k : Fin n) : EReal := M.pp R ⟨o + k.val, by omega⟩

def qn (R : Fin 16384) (i : Fin 384) : EReal := rms (Ideal.ofBits .f32 0x43C00000#32) (fun i : Fin 384 => M.proj R ⟨i.val, by omega⟩) M.gq i
def kn (R : Fin 16384) (i : Fin 256) : EReal := rms (Ideal.ofBits .f32 0x43800000#32) (fun i : Fin 256 => M.proj R ⟨384 + i.val, by omega⟩) M.gk i

/-- The rotary embedding of 64 columns. -/
def rope (R : Fin 16384) (t : Fin 64 → EReal) (l : Fin 64) : EReal :=
  if h : l.val < 32 then t l * Ideal.cos (M.pos R * freqOf l.val) - t ⟨32 + l.val, by omega⟩ * Ideal.sin (M.pos R * freqOf l.val)
  else t l * Ideal.cos (M.pos R * freqOf (l.val - 32)) + t ⟨l.val - 32, by omega⟩ * Ideal.sin (M.pos R * freqOf (l.val - 32))
/-- The frequencies over 128 lanes: once for each half of the rotated columns, zero beyond. -/
def freqs (l : Fin 128) : EReal := if l.val < 32 then freqOf l.val else if l.val < 64 then freqOf (l.val - 32) else 0
/-- The rotation the way the kernel computes it on 128 lanes. -/
def rot (R : Fin 16384) (t : Fin 128 → EReal) (l : Fin 128) : EReal :=
  t l * Ideal.cos (M.pos R * freqs l) + (if l.val < 32 then 0 - t ⟨(l.val + 128 - 96) % 128, by omega⟩ else t ⟨(l.val + 128 - 32) % 128, by omega⟩) * Ideal.sin (M.pos R * freqs l)

theorem rot_eq (R : Fin 16384) (t : Fin 128 → EReal) (l : Fin 64) : M.rot R t ⟨l.val, by omega⟩ = M.rope R (fun l => t ⟨l.val, by omega⟩) l := by
  have h96 : (l.val + 128 - 96) % 128 = 32 + l.val := by omega
  have h32 (h : ¬ l.val < 32) : (l.val + 128 - 32) % 128 = l.val - 32 := by omega
  simp only [rot, rope, freqs]
  by_cases h : l.val < 32
  · simp only [h, if_true, dif_pos, h96]
    rw [zero_sub, EReal.neg_mul, ← sub_eq_add_neg]
  · simp only [h, if_false, dif_neg, not_false_iff, h32 h, l.isLt, if_true]

/-- A head's query columns before the rotation, and in the kernel's lanes. -/
def qraw (R : Fin 16384) (h : Fin 8) (e : Fin 192) : EReal := ∑ i, M.qn R i * M.wq i ⟨h.val * 192 + e.val, by omega⟩
def wqp (i : Fin 384) (k : Fin 2048) : EReal := if h : k.val % 256 < 192 then M.wq i ⟨k.val / 256 * 192 + k.val % 256, by omega⟩ else 0
def qlane (R : Fin 16384) (h : Fin 8) (l : Fin 256) : EReal := ∑ i, M.qn R i * M.wqp i ⟨h.val * 256 + l.val, by omega⟩

theorem qlane_eq (R : Fin 16384) (h : Fin 8) (e : Fin 192) : M.qlane R h ⟨e.val, by omega⟩ = M.qraw R h e :=
  Finset.sum_congr rfl fun i _ => by
    rw [wqp, dif_pos (show (h.val * 256 + e.val) % 256 < 192 by omega)]
    exact congrArg (fun k => M.qn R i * M.wq i k) (Fin.ext (by show (h.val * 256 + e.val) / 256 * 192 + (h.val * 256 + e.val) % 256 = h.val * 192 + e.val; omega))

/-- The queries, scaled; `qk` are the kernel's lanes of them. -/
def q (R : Fin 16384) (h : Fin 8) (e : Fin 192) : EReal :=
  (if he : e.val < 128 then M.qraw R h e else M.rope R (fun l => M.qraw R h ⟨128 + l.val, by omega⟩) ⟨e.val - 128, by omega⟩) * Ideal.ofBits .f32 0x3DD53B95#32
def qk (R : Fin 16384) (h : Fin 8) (l : Fin 256) : EReal :=
  (if hl : l.val < 128 then M.qlane R h l else M.rot R (fun l => M.qlane R h ⟨128 + l.val, by omega⟩) ⟨l.val - 128, by omega⟩) * Ideal.ofBits .f32 0x3DD53B95#32

theorem qk_eq (R : Fin 16384) (h : Fin 8) (e : Fin 192) : M.qk R h ⟨e.val, by omega⟩ = M.q R h e := by
  simp only [qk, q]
  by_cases he : e.val < 128
  · simp only [he, dif_pos, qlane_eq]
  · simp only [he, dif_neg, not_false_iff]
    rw [M.rot_eq R _ ⟨e.val - 128, by omega⟩]
    simp only [← qlane_eq]

/-- The keys; `kk` are the kernel's lanes of them. -/
def k (R : Fin 16384) (h : Fin 8) (e : Fin 192) : EReal :=
  if he : e.val < 128 then ∑ i, M.kn R i * M.wk i ⟨h.val * 256 + e.val, by omega⟩ else M.rope R (fun l => M.proj R ⟨640 + l.val, by omega⟩) ⟨e.val - 128, by omega⟩
def kk (R : Fin 16384) (h : Fin 8) (l : Fin 256) : EReal :=
  if hl : l.val < 128 then ∑ i, M.kn R i * M.wk i ⟨h.val * 256 + l.val, by omega⟩ else M.rot R (fun l => M.pp R ⟨4224 + l.val, by omega⟩) ⟨l.val - 128, by omega⟩

theorem kk_eq (R : Fin 16384) (h : Fin 8) (e : Fin 192) : M.kk R h ⟨e.val, by omega⟩ = M.k R h e := by
  simp only [kk, k]
  by_cases he : e.val < 128
  · simp only [he, dif_pos]
  · simp only [he, dif_neg, not_false_iff]
    rw [M.rot_eq R _ ⟨e.val - 128, by omega⟩]
    congr 1
    funext l
    exact M.pp_of R _ _ (by dsimp only; omega)

def v (R : Fin 16384) (h : Fin 8) (e : Fin 128) : EReal := ∑ i, M.kn R i * M.wk i ⟨h.val * 256 + (128 + e.val), by omega⟩

end Model

end Cert.Proof.Proj

end
-- ==== Proof.ProjPay.lean ====
module

public import proofs.«01_k».proof.Proof.Gen.ProjIdeal.Frame
public import proofs.«01_k».proof.Proof.ProjModel
public import proofs.«01_k».proof.Proof.LatPay
public import Idealize.ShloMosaic.Lib.Pipeline.ValueKit
public import Idealize.ShloMosaic.Lib.Pipeline.ReadBack
public import Idealize.ShloMosaic.Lib.WritesUnit
public import Idealize.ShloMosaic.Lib.Pointwise

/-!
What one grid point of the input projection's kernel computes from its blocks, as entries of the model: 256 tokens at a time, the
projection's pieces, and the queries, keys and values of the eight heads, each stored head by head in halves of 128 lanes.
-/

@[expose] public section

set_option maxRecDepth 16384

noncomputable section

namespace Cert.ProjIdeal.Val

open Idealize.ShloMosaic Idealize.ShloMosaic.TcCoe Idealize.SL.Sem
open Cert.ProjIdeal Cert.ProjIdeal.Gen
open Cert.Proof.Proj (Model rms)
open Cert.InGradIdeal.Val (padded)
open Cert.LatGradIdeal.Val (select_lt)

/-- A rectangle read out of a matrix holds the entries it lies on. -/
theorem ld_at {a b n k o p : ℕ} {e : EltTy} (x : Vec Ideal ⟨2, ![a, b]⟩ e) (inb : ∀ d : Fin 2, (![o, p] : Fin 2 → ℕ) d + (![n, k] : Fin 2 → ℕ) d ≤ (![a, b] : Fin 2 → ℕ) d)
    (i : Fin n) (j : Fin k) : View.ld x (Rect.unit (s := ⟨2, ![a, b]⟩) ![o, p] ![n, k] inb) (ix2 i j)
      = x (ix2 ⟨o + i.val, by have := inb 0; simp at this; omega⟩ ⟨p + j.val, by have := inb 1; simp at this; omega⟩) := by
  refine congrArg x ?_
  funext d
  refine Fin.ext ?_
  show (![o, p] : Fin 2 → ℕ) d + 1 * (ix2 i j d).val = _
  fin_cases d <;> simp

/-- A buffer of heads whose last store was 128 lanes of one head: those lanes hold what was stored, the others what the stores before left. -/
theorem canon_step {n a o : ℕ} {e : EltTy} (ha : a < 8) (ho : o + 128 ≤ n) (inb : ∀ d : Fin 3, (![a, 0, o] : Fin 3 → ℕ) d + (![1, 256, 128] : Fin 3 → ℕ) d ≤ (![8, 256, n] : Fin 3 → ℕ) d)
    (w : Vec Ideal ⟨3, ![1, 256, 128]⟩ e) (L : List (View.Piece (Elt Ideal) ⟨3, ![8, 256, n]⟩ e)) (h : Fin 8) (r : Fin 256) (l : Fin n) :
    View.canon (⟨Rect.unit (s := ⟨3, ![8, 256, n]⟩) ![a, 0, o] ![1, 256, 128] inb, w⟩ :: L) (ix3 h r l)
      = if H : h.val = a ∧ o ≤ l.val ∧ l.val < o + 128 then w (ix3 0 r ⟨l.val - o, by omega⟩) else View.canon L (ix3 h r l) := by
  split
  next H =>
    refine Eq.trans (congrArg _ ?_) (View.canon_cons_emb (Rect.unit (s := ⟨3, ![8, 256, n]⟩) ![a, 0, o] ![1, 256, 128] inb) w L (ix3 0 r ⟨l.val - o, by omega⟩))
    funext d
    refine Fin.ext ?_
    show _ = (![a, 0, o] : Fin 3 → ℕ) d + 1 * (ix3 (n0 := 1) 0 r (⟨l.val - o, by omega⟩ : Fin 128) d).val
    fin_cases d <;> simp <;> omega
  next H =>
    refine View.canon_cons_of_not_mem _ _ ?_
    rw [Rect.mem_set_unit]
    intro hm
    have h0 := hm 0
    have h2 := hm 2
    simp at h0 h2
    exact H (by omega)

/-- Eight heads of 256 lanes, stored in halves: `a` the first lanes, `b` the last. -/
def halves (a b : Fin 8 → FVec Ideal S1x256x128 .bf16) : Vec Ideal S8x256x256 .bf16 :=
  View.canon (s := S8x256x256) (e := .bf16) (Val := Elt Ideal) [⟨r0_40, b 7⟩, ⟨r0_39, a 7⟩,
    ⟨r0_37, b 6⟩, ⟨r0_36, a 6⟩,
    ⟨r0_34, b 5⟩, ⟨r0_33, a 5⟩,
    ⟨r0_31, b 4⟩, ⟨r0_30, a 4⟩,
    ⟨r0_28, b 3⟩, ⟨r0_27, a 3⟩,
    ⟨r0_25, b 2⟩, ⟨r0_24, a 2⟩,
    ⟨r0_22, b 1⟩, ⟨r0_21, a 1⟩,
    ⟨r0_19, b 0⟩, ⟨r0_18, a 0⟩]
theorem halves_at (a b : Fin 8 → FVec Ideal S1x256x128 .bf16) (h : Fin 8) (r l : Fin 256) :
    halves a b (ix3 h r l) = if H : l.val < 128 then a h (ix3 0 r ⟨l.val, H⟩) else b h (ix3 0 r ⟨l.val - 128, by omega⟩) := by
  have hh := h.isLt
  have hl := l.isLt
  rw [halves]
  iterate 16
    refine (canon_step (by omega) (by omega) _ _ _ h r l).trans ?_
    split
    · rename_i H
      first
        | (rw [dif_pos (by omega)]; exact congrArg (fun g => a g (ix3 0 r ⟨l.val, by omega⟩)) (Fin.ext H.1.symm))
        | (rw [dif_neg (by omega)]; exact congrArg (fun g => b g (ix3 0 r ⟨l.val - 128, by omega⟩)) (Fin.ext H.1.symm))
    rename_i H
  exfalso
  omega
/-- Eight heads of 128 lanes. -/
def wholes (a : Fin 8 → FVec Ideal S1x256x128 .bf16) : Vec Ideal S8x256x128 .bf16 :=
  View.canon (s := S8x256x128) (e := .bf16) (Val := Elt Ideal) [⟨r0_49, a 7⟩, ⟨r0_48, a 6⟩, ⟨r0_47, a 5⟩, ⟨r0_46, a 4⟩, ⟨r0_45, a 3⟩, ⟨r0_44, a 2⟩, ⟨r0_43, a 1⟩, ⟨r0_42, a 0⟩]
theorem wholes_at (a : Fin 8 → FVec Ideal S1x256x128 .bf16) (h : Fin 8) (r : Fin 256) (l : Fin 128) : wholes a (ix3 h r l) = a h (ix3 0 r l) := by
  have hh := h.isLt
  have hl := l.isLt
  rw [wholes]
  iterate 8
    refine (canon_step (by omega) (by omega) _ _ _ h r l).trans ?_
    split
    · rename_i H
      exact congrArg (fun g => a g (ix3 0 r l)) (Fin.ext H.1.symm)
    rename_i H
  exfalso
  omega

/-- Eight heads' columns out of 1024. -/
def cols (v : FVec Ideal S256x1024 .f32) : Fin 8 → FVec Ideal S1x256x128 .bf16 :=
  ![k0_pay54 v, k0_pay57 v, k0_pay61 (k0_pay60 v), k0_pay64 v, k0_pay67 v, k0_pay70 v, k0_pay73 v, k0_pay1 (k0_pay76 v)]
theorem cols_at (v : FVec Ideal S256x1024 .f32) (h : Fin 8) (r : Fin 256) (l : Fin 128) : (cols v h (ix3 0 r l) : EReal) = v (ix2 r ⟨h.val * 128 + l.val, by omega⟩) := by
  fin_cases h <;> pointwise [cols, k0_pay54, k0_pay57, k0_pay61, k0_pay60, k0_pay64, k0_pay67, k0_pay70, k0_pay73, k0_pay1, k0_pay76]

/-- Head `h`'s 256 columns of the queries' weight. -/
def wHead (x : Vec Ideal S384x2048 .bf16) (h : Fin 8) : Vec Ideal S384x256 .bf16 :=
  View.ld x (Rect.unit (s := S384x2048) ![0, h.val * 256] ![384, 256] (by intro d; fin_cases d <;> simp <;> omega))

variable (x0 : Vec Ideal S256x1024 .f32) (x1 : Vec Ideal S8x3072 .f32) (x2 : Vec Ideal S1024x4480 .bf16) (x3 : Vec Ideal S1x384 .f32) (x4 : Vec Ideal S1x256 .f32)
  (x5 : Vec Ideal S384x2048 .bf16) (x6 : Vec Ideal S256x1024 .bf16) (x7 : Vec Ideal S256x1024 .bf16) (x8 : Vec Ideal S256x1 .i32) (x9 : Vec Ideal S1x128 .f32)

theorem out16_eq : out0_16 (F := Ideal) x0 x1 x2 x3 x4 x5 x6 x7 x8 x9 = halves (fun h => k0_pay15 (k0_pay81 x0 x1 x2 x3 x4 x5 x6 x7 x8 x9) (wHead x5 h))
    (fun h => k0_pay16 (k0_pay79 x0 x1 x2 x3 x4 x5 x6 x7 x8 x9) (k0_pay80 x0 x1 x2 x3 x4 x5 x6 x7 x8 x9) (k0_pay81 x0 x1 x2 x3 x4 x5 x6 x7 x8 x9) (wHead x5 h)) := rfl
theorem out17_eq : out0_17 (F := Ideal) x0 x1 x2 x3 x4 x5 x6 x7 x8 x9 = halves (cols (k0_pay82 x0 x1 x2 x3 x4 x5 x6 x7 x8 x9)) (fun _ => k0_pay53 (k0_pay84 x0 x1 x2 x3 x4 x5 x6 x7 x8 x9)) := rfl
theorem out18_eq : out0_18 (F := Ideal) x0 x1 x2 x3 x4 x5 x6 x7 x8 x9 = wholes (cols (k0_pay83 x0 x1 x2 x3 x4 x5 x6 x7 x8 x9)) := rfl

/-- All of a block read out is the block. -/
theorem ld_rows : View.ld x0 r0_2 = x0 := by
  funext j
  idx_vars j
  exact (ld_at x0 _ j0 j1).trans (by simp only [Nat.zero_add, Fin.eta])

/-- What a grid point is handed, its row `r` being token `τ r`. -/
structure Blocks (M : Model) (τ : Fin 256 → Fin 16384) : Prop where
  x : ∀ r i, (x0 (ix2 r i) : EReal) = M.x (τ r) i
  shift : ∀ i : Fin 1024, (x1 (ix2 0 ⟨i.val, by omega⟩) : EReal) = M.shift i
  scale : ∀ i : Fin 1024, (x1 (ix2 0 ⟨1024 + i.val, by omega⟩) : EReal) = M.scale i
  w : ∀ i k, (x2 (ix2 i k) : EReal) = padded (M.w i) k
  gq : ∀ i, (x3 (ix2 0 i) : EReal) = M.gq i
  gk : ∀ i, (x4 (ix2 0 i) : EReal) = M.gk i
  wq : ∀ i k, (x5 (ix2 i k) : EReal) = M.wqp i k
  wk : ∀ (i : Fin 256) (k : Fin 1024), (x6 (ix2 i k) : EReal) = M.wk i ⟨k.val / 128 * 256 + k.val % 128, by omega⟩
  wv : ∀ (i : Fin 256) (k : Fin 1024), (x7 (ix2 i k) : EReal) = M.wk i ⟨k.val / 128 * 256 + (128 + k.val % 128), by omega⟩
  pos : ∀ r, (FloatOps.sitofp (F := Ideal) .f32 (x8 (ix2 r 0) : BitVec 32) : EReal) = M.pos (τ r)
  freq : ∀ l, (x9 (ix2 0 l) : EReal) = Model.freqs l

variable {x0 x1 x2 x3 x4 x5 x6 x7 x8 x9} {M : Model} {τ : Fin 256 → Fin 16384} (B : Blocks x0 x1 x2 x3 x4 x5 x6 x7 x8 x9 M τ)
include B

theorem u_pay (r : Fin 256) (i : Fin 1024) : (k0_pay2 (View.ld x1 r0_0) (View.ld x1 r0_1) (View.ld x0 r0_2) (ix2 r i) : EReal) = M.u (τ r) i := by
  pointwise [k0_pay2]
  rw [B.x]
  exact congrArg₂ (fun a b : EReal => M.x (τ r) i * (1 + a) + b) (B.scale i) (B.shift i)
theorem ql_pay (r : Fin 256) (k : Fin 384) : (k0_pay3 (View.ld x1 r0_0) (View.ld x1 r0_1) (View.ld x0 r0_2) (View.ld x2 r0_3) (ix2 r k) : EReal) = M.pp (τ r) ⟨k.val, by omega⟩ := by
  pointwise [k0_pay3]
  refine Finset.sum_congr rfl fun i _ => ?_
  rw [u_pay B]
  exact congrArg (M.u (τ r) i * ·) (B.w i _)
theorem cv_pay (r : Fin 256) (k : Fin 256) : (k0_pay78 x0 x1 x2 x3 x4 x5 x6 x7 x8 x9 (ix2 r k) : EReal) = M.pp (τ r) ⟨384 + k.val, by omega⟩ := by
  rw [k0_pay78]
  pointwise [k0_pay4]
  refine Finset.sum_congr rfl fun i _ => ?_
  rw [u_pay B]
  exact congrArg (M.u (τ r) i * ·) (B.w i _)
theorem za_pay (r : Fin 256) (k : Fin 1024) : (k0_pay5 (View.ld x1 r0_0) (View.ld x1 r0_1) (View.ld x0 r0_2) (View.ld x2 r0_7) (ix2 r k) : EReal) = M.pp (τ r) ⟨640 + k.val, by omega⟩ := by
  pointwise [k0_pay5]
  refine Finset.sum_congr rfl fun i _ => ?_
  rw [u_pay B]
  exact congrArg (M.u (τ r) i * ·) (B.w i _)
theorem xbc_pay (r : Fin 256) (k : Fin 1536) : (k0_pay6 (View.ld x1 r0_0) (View.ld x1 r0_1) (View.ld x0 r0_2) (View.ld x2 r0_8) (ix2 r k) : EReal) = M.pp (τ r) ⟨1664 + k.val, by omega⟩ := by
  pointwise [k0_pay6]
  refine Finset.sum_congr rfl fun i _ => ?_
  rw [u_pay B]
  exact congrArg (M.u (τ r) i * ·) (B.w i _)
theorem zs_pay (r : Fin 256) (k : Fin 1024) : (k0_pay7 (k0_pay77 x0 x1 x2 x3 x4 x5 x6 x7 x8 x9) (View.ld x2 r0_10) (ix2 r k) : EReal) = M.pp (τ r) ⟨3200 + k.val, by omega⟩ := by
  rw [k0_pay77]
  pointwise [k0_pay7]
  refine Finset.sum_congr rfl fun i _ => ?_
  rw [u_pay B]
  exact congrArg (M.u (τ r) i * ·) (B.w i _)
theorem dt_pay (r : Fin 256) (k : Fin 128) : (k0_pay8 (k0_pay77 x0 x1 x2 x3 x4 x5 x6 x7 x8 x9) (View.ld x2 r0_11) (ix2 r k) : EReal) = M.pp (τ r) ⟨4352 + k.val, by omega⟩ := by
  rw [k0_pay77]
  pointwise [k0_pay8]
  refine Finset.sum_congr rfl fun i _ => ?_
  rw [u_pay B]
  exact congrArg (M.u (τ r) i * ·) (B.w i _)
theorem kr_pay (r : Fin 256) (k : Fin 128) : (k0_pay9 (k0_pay77 x0 x1 x2 x3 x4 x5 x6 x7 x8 x9) (View.ld x2 r0_13) (ix2 r k) : EReal) = M.pp (τ r) ⟨4224 + k.val, by omega⟩ := by
  rw [k0_pay77]
  pointwise [k0_pay9]
  refine Finset.sum_congr rfl fun i _ => ?_
  rw [u_pay B]
  exact congrArg (M.u (τ r) i * ·) (B.w i _)
theorem cs_pay (r : Fin 256) (l : Fin 128) : (k0_pay79 x0 x1 x2 x3 x4 x5 x6 x7 x8 x9 (ix2 r l) : EReal) = Ideal.cos (M.pos (τ r) * Model.freqs l) := by
  rw [k0_pay79]
  pointwise [k0_pay11, k0_pay10]
  rw [← B.pos, ← B.freq]
theorem sn_pay (r : Fin 256) (l : Fin 128) : (k0_pay80 x0 x1 x2 x3 x4 x5 x6 x7 x8 x9 (ix2 r l) : EReal) = Ideal.sin (M.pos (τ r) * Model.freqs l) := by
  rw [k0_pay80]
  pointwise [k0_pay12, k0_pay10]
  rw [← B.pos, ← B.freq]
theorem qn_pay (r : Fin 256) (i : Fin 384) : (k0_pay81 x0 x1 x2 x3 x4 x5 x6 x7 x8 x9 (ix2 r i) : EReal) = M.qn (τ r) i := by
  rw [k0_pay81]
  pointwise [k0_pay13]
  simp only [ql_pay B]
  rw [B.gq]
  have e (k : Fin 384) : M.pp (τ r) ⟨k.val, by omega⟩ = M.proj (τ r) ⟨k.val, by omega⟩ := M.pp_of _ _ _ (by dsimp only; omega)
  simp only [e]
  rfl
theorem kn_sum (x : Vec Ideal S256x1024 .bf16) (r : Fin 256) (k : Fin 1024) : (k0_pay49 (k0_pay78 x0 x1 x2 x3 x4 x5 x6 x7 x8 x9) (View.ld x4 r0_41) (View.ld x r0_2) (ix2 r k) : EReal) = ∑ i, M.kn (τ r) i * x (ix2 i k) := by
  pointwise [k0_pay49, k0_pay48]
  have e (k : Fin 256) : M.pp (τ r) ⟨384 + k.val, by omega⟩ = M.proj (τ r) ⟨384 + k.val, by omega⟩ := M.pp_of _ _ _ (by dsimp only; omega)
  simp only [cv_pay B, B.gk, e]
  rfl
theorem nope_pay (r : Fin 256) (k : Fin 1024) : (k0_pay82 x0 x1 x2 x3 x4 x5 x6 x7 x8 x9 (ix2 r k) : EReal) = ∑ i, M.kn (τ r) i * M.wk i ⟨k.val / 128 * 256 + k.val % 128, by omega⟩ := by
  rw [k0_pay82, kn_sum B]
  simp only [B.wk]
theorem v_pay (r : Fin 256) (k : Fin 1024) : (k0_pay83 x0 x1 x2 x3 x4 x5 x6 x7 x8 x9 (ix2 r k) : EReal) = ∑ i, M.kn (τ r) i * M.wk i ⟨k.val / 128 * 256 + (128 + k.val % 128), by omega⟩ := by
  rw [k0_pay83]
  refine Eq.trans (kn_sum B x7 r k) ?_
  simp only [B.wv]
theorem kr_rot (r : Fin 256) (l : Fin 128) : (k0_pay53 (k0_pay84 x0 x1 x2 x3 x4 x5 x6 x7 x8 x9) (ix3 0 r l) : EReal) = M.rot (τ r) (fun l => M.pp (τ r) ⟨4224 + l.val, by omega⟩) l := by
  rw [k0_pay84]
  pointwise [k0_pay53, k0_pay51]
  simp only [select_lt, kr_pay B, cs_pay B, sn_pay B]
  rw [Model.rot]
theorem wHead_at (h : Fin 8) (i : Fin 384) (l : Fin 256) : (wHead x5 h (ix2 i l) : EReal) = M.wqp i ⟨h.val * 256 + l.val, by omega⟩ := by
  rw [wHead, ld_at x5]
  simp only [Nat.zero_add, Fin.eta]
  rw [B.wq]
theorem qn_head (h : Fin 8) (r : Fin 256) (l : Fin 128) : (k0_pay15 (k0_pay81 x0 x1 x2 x3 x4 x5 x6 x7 x8 x9) (wHead x5 h) (ix3 0 r l) : EReal) = M.qlane (τ r) h ⟨l.val, by omega⟩ * Ideal.ofBits .f32 0x3DD53B95#32 := by
  pointwise [k0_pay15, k0_pay14]
  simp only [qn_pay B, wHead_at B]
  rfl
theorem qr_head (h : Fin 8) (r : Fin 256) (l : Fin 128) : (k0_pay16 (k0_pay79 x0 x1 x2 x3 x4 x5 x6 x7 x8 x9) (k0_pay80 x0 x1 x2 x3 x4 x5 x6 x7 x8 x9) (k0_pay81 x0 x1 x2 x3 x4 x5 x6 x7 x8 x9) (wHead x5 h) (ix3 0 r l) : EReal)
    = M.rot (τ r) (fun l => M.qlane (τ r) h ⟨128 + l.val, by omega⟩) l * Ideal.ofBits .f32 0x3DD53B95#32 := by
  pointwise [k0_pay16, k0_pay14]
  simp only [select_lt, qn_pay B, wHead_at B, cs_pay B, sn_pay B]
  rw [Model.rot]
  rfl

/-! ## The buffers -/

theorem ql_out (r : Fin 256) (k : Fin 384) : (out0_10 x0 x1 x2 x3 x4 x5 x6 x7 x8 x9 (ix2 r k) : EReal) = M.cut 0 (by decide) (τ r) k := by
  have e := ql_pay B r k
  rw [ld_rows] at e
  frame_out
  exact e.trans (by rw [Model.cut]; simp only [Nat.zero_add])
theorem cv_out (r : Fin 256) (k : Fin 256) : (out0_11 x0 x1 x2 x3 x4 x5 x6 x7 x8 x9 (ix2 r k) : EReal) = M.cut 384 (by decide) (τ r) k := by
  have e := cv_pay B r k
  rw [k0_pay78, ld_rows] at e
  frame_out
  exact e
theorem za_out (r : Fin 256) (k : Fin 1024) : (out0_12 x0 x1 x2 x3 x4 x5 x6 x7 x8 x9 (ix2 r k) : EReal) = M.cut 640 (by decide) (τ r) k := by
  have e := za_pay B r k
  rw [ld_rows] at e
  frame_out
  exact e
theorem xbc_out (r : Fin 256) (k : Fin 1536) : (out0_13 x0 x1 x2 x3 x4 x5 x6 x7 x8 x9 (ix2 r k) : EReal) = M.cut 1664 (by decide) (τ r) k := by
  have e := xbc_pay B r k
  rw [ld_rows] at e
  frame_out
  exact e
theorem zs_out (r : Fin 256) (k : Fin 1024) : (out0_14 x0 x1 x2 x3 x4 x5 x6 x7 x8 x9 (ix2 r k) : EReal) = M.cut 3200 (by decide) (τ r) k := by
  frame_out
  exact zs_pay B r k
theorem dt_out (r : Fin 256) (k : Fin 128) : (out0_15 x0 x1 x2 x3 x4 x5 x6 x7 x8 x9 (ix2 r k) : EReal) = M.cut 4352 (by decide) (τ r) k := by
  frame_out
  exact dt_pay B r k
theorem q_out (h : Fin 8) (r l : Fin 256) : (out0_16 x0 x1 x2 x3 x4 x5 x6 x7 x8 x9 (ix3 h r l) : EReal) = M.qk (τ r) h l := by
  rw [out16_eq, halves_at, Model.qk]
  by_cases H : l.val < 128
  · simp only [H, dif_pos]
    exact qn_head B h r ⟨l.val, H⟩
  · simp only [H, dif_neg, not_false_iff]
    exact qr_head B h r ⟨l.val - 128, by omega⟩
theorem k_out (h : Fin 8) (r l : Fin 256) : (out0_17 x0 x1 x2 x3 x4 x5 x6 x7 x8 x9 (ix3 h r l) : EReal) = M.kk (τ r) h l := by
  rw [out17_eq, halves_at, Model.kk]
  by_cases H : l.val < 128
  · simp only [H, dif_pos]
    rw [cols_at, nope_pay B]
    simp only [show (h.val * 128 + l.val) / 128 = h.val by omega, show (h.val * 128 + l.val) % 128 = l.val by omega]
  · simp only [H, dif_neg, not_false_iff]
    exact kr_rot B r ⟨l.val - 128, by omega⟩
theorem v_out (h : Fin 8) (r : Fin 256) (l : Fin 128) : (out0_18 x0 x1 x2 x3 x4 x5 x6 x7 x8 x9 (ix3 h r l) : EReal) = M.v (τ r) h l := by
  rw [out18_eq, wholes_at, cols_at, v_pay B, Model.v]
  simp only [show (h.val * 128 + l.val) / 128 = h.val by omega, show (h.val * 128 + l.val) % 128 = l.val by omega]

end Cert.ProjIdeal.Val

end
-- ==== Proof.ProjEntry.lean ====
module

public import proofs.«01_k».proof.Proof.ProjPay
public import Idealize.ShloMosaic.Lib.WholeRead

/-!
What the input projection's kernel is handed: every operand and every block of it as entries of the model.
-/

@[expose] public section

set_option maxRecDepth 16384

noncomputable section

namespace Cert.ProjIdeal.Val

open Idealize.ShloMosaic Idealize.ShloMosaic.TcCoe Idealize.SL.Sem
open Cert.ProjIdeal Cert.ProjIdeal.Gen
open Cert.Proof.Proj (Model modelOf)
open Cert.InGradIdeal.Val (padded padded_of padded_zero)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![t.val, 0] ∧ win0_9.index t = ![0, 0]
    ∧ win0_10.index t = ![t.val, 0] ∧ win0_11.index t = ![t.val, 0] ∧ win0_12.index t = ![t.val, 0] ∧ win0_13.index t = ![t.val, 0] ∧ win0_14.index t = ![t.val, 0]
    ∧ win0_15.index t = ![t.val, 0] ∧ win0_16.index t = ![0, t.val, 0] ∧ win0_17.index t = ![0, t.val, 0] ∧ win0_18.index t = ![0, t.val, 0] :=
  (by decide +kernel : ∀ t : Fin grid0.N, _)

theorem lt_tok (t : Fin cfg0.N) (r : Fin 256) : t.val * 256 + r.val < 16384 := by
  have := lt_of_lt_of_eq t.isLt (show cfg0.N = 64 from N_0); omega

/-- The token that row `r` of point `t`'s blocks is. -/
abbrev tok (t : Fin cfg0.N) (r : Fin 256) : Fin 16384 := ⟨t.val * 256 + r.val, lt_tok t r⟩

/-- The model the program's arguments hold. -/
abbrev model : Model := modelOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7))

theorem x_at (R : Fin 16384) (i : Fin 1024) : (V m c main_v34 (ix2 R i) : EReal) = (model m c).x R i := by
  unfold V V0
  simp only [List.flatten_cons, List.flatten_nil, List.append_nil]
  after_results_simp
  pointwise
theorem mod_at (r : Fin 8) (k : Fin 3072) : (V m c main_v33 (ix2 r k) : EReal) = m ((c : Thread nD τ).loc main_arg1) (ix2 0 k) := by
  unfold V V0
  simp only [List.flatten_cons, List.flatten_nil, List.append_nil]
  after_results_simp
  pointwise
set_option maxHeartbeats 1600000 in
theorem w_at (i : Fin 1024) (k : Fin 4480) : (V m c main_v21 (ix2 i k) : EReal) = padded ((model m c).w i) k := by
  unfold V V0
  simp only [List.flatten_cons, List.flatten_nil, List.append_nil]
  after_results
  pointwise
  after_results_simp
  pointwise
  split_ifs <;> first
    | (refine (padded_of ((model m c).w i) _ _ ?_).symm; dsimp only; omega)
    | (refine (padded_zero ((model m c).w i) _ ?_).symm; omega)
theorem gq_at (i : Fin 384) : (V m c main_arg4 (ix2 (n0 := 1) 0 i) : EReal) = (model m c).gq i := by
  unfold V V0
  simp only [List.flatten_cons, List.flatten_nil, List.append_nil]
  after_results_simp
theorem gk_at (i : Fin 256) : (V m c main_arg6 (ix2 (n0 := 1) 0 i) : EReal) = (model m c).gk i := by
  unfold V V0
  simp only [List.flatten_cons, List.flatten_nil, List.append_nil]
  after_results_simp
theorem wq_at (i : Fin 384) (k : Fin 2048) : (V m c main_v26 (ix2 i k) : EReal) = (model m c).wqp i k := by
  unfold V V0
  simp only [List.flatten_cons, List.flatten_nil, List.append_nil]
  after_results_simp
  pointwise
  after_results_simp
  pointwise
  rfl
theorem wk_at (i : Fin 256) (k : Fin 1024) : (V m c main_v30 (ix2 i k) : EReal) = (model m c).wk i ⟨k.val / 128 * 256 + k.val % 128, by omega⟩ := by
  unfold V V0
  simp only [List.flatten_cons, List.flatten_nil, List.append_nil]
  after_results_simp
  pointwise
theorem wv_at (i : Fin 256) (k : Fin 1024) : (V m c main_v32 (ix2 i k) : EReal) = (model m c).wk i ⟨k.val / 128 * 256 + (128 + k.val % 128), by omega⟩ := by
  unfold V V0
  simp only [List.flatten_cons, List.flatten_nil, List.append_nil]
  after_results_simp
  pointwise
theorem pos_at (R : Fin 16384) : (FloatOps.sitofp (F := Ideal) .f32 (V m c main_v10 (ix2 R 0) : BitVec 32) : EReal) = (model m c).pos R := by
  unfold V V0
  simp only [List.flatten_cons, List.flatten_nil, List.append_nil]
  after_results_simp
  pointwise
theorem freq_at (l : Fin 128) : (V m c main_v9 (ix2 0 l) : EReal) = Model.freqs l := by
  unfold V V0
  simp only [List.flatten_cons, List.flatten_nil, List.append_nil]
  after_results_simp
  pointwise
  after_results_simp
  pointwise
  simp only [Model.freqs, show (l.val - 32 < 32) = (l.val < 64) from propext (by omega)]
  rfl

set_option maxHeartbeats 1600000 in
/-- What a grid point is handed. -/
theorem blocks (t : Fin cfg0.N) : Blocks (iblk m c 0 t) (iblk m c 1 t) (iblk m c 2 t) (iblk m c 3 t) (iblk m c 4 t) (iblk m c 5 t) (iblk m c 6 t) (iblk m c 7 t)
    (iblk m c 8 t) (iblk m c 9 t) (model m c) (tok t) where
  x r i := Eq.trans (b := V m c main_v34 (ix2 (tok t r) i)) (by blk_ext [iblk, idx t]) (x_at m c _ _)
  shift i := Eq.trans (b := V m c main_v33 (ix2 0 ⟨i.val, by omega⟩)) (by blk_ext [iblk, idx t]) (mod_at m c _ _)
  scale i := Eq.trans (b := V m c main_v33 (ix2 0 ⟨1024 + i.val, by omega⟩)) (by blk_ext [iblk, idx t]) (mod_at m c _ _)
  w i k := Eq.trans (b := V m c main_v21 (ix2 i k)) (by blk_ext [iblk, idx t]) (w_at m c _ _)
  gq i := Eq.trans (b := V m c main_arg4 (ix2 (n0 := 1) 0 i)) (by blk_ext [iblk, idx t]) (gq_at m c _)
  gk i := Eq.trans (b := V m c main_arg6 (ix2 (n0 := 1) 0 i)) (by blk_ext [iblk, idx t]) (gk_at m c _)
  wq i k := Eq.trans (b := V m c main_v26 (ix2 i k)) (by blk_ext [iblk, idx t]) (wq_at m c _ _)
  wk i k := Eq.trans (b := V m c main_v30 (ix2 i k)) (by blk_ext [iblk, idx t]) (wk_at m c _ _)
  wv i k := Eq.trans (b := V m c main_v32 (ix2 i k)) (by blk_ext [iblk, idx t]) (wv_at m c _ _)
  pos r := Eq.trans (congrArg (fun v : BitVec 32 => (FloatOps.sitofp (F := Ideal) .f32 v : EReal)) (show iblk m c 8 t (ix2 r 0) = V m c main_v10 (ix2 (tok t r) 0) by
    blk_ext [iblk, idx t])) (pos_at m c _)
  freq l := Eq.trans (b := V m c main_v9 (ix2 0 l)) (by blk_ext [iblk, idx t]) (freq_at m c _)

end Cert.ProjIdeal.Val

end
-- ==== Proof.ProjEnd.lean ====
module

public import proofs.«01_k».proof.Proof.ProjEntry

/-!
The nine arrays the input projection's kernel ends with, and the three of them the host cuts the filling columns off.
-/

@[expose] public section

set_option maxRecDepth 16384

noncomputable section

namespace Cert.ProjIdeal.Val

open Idealize.ShloMosaic Idealize.ShloMosaic.TcCoe Idealize.SL.Sem
open Cert.ProjIdeal Cert.ProjIdeal.Gen
open Cert.Proof.Proj (Model modelOf)
open Cert.InGradIdeal.Val (padded padded_of padded_zero)

variable (m : (ℓ : Loc nD τ sig) → Buf (Elt Ideal) ℓ) (c : Dev nD)

theorem ql_arr : (dats m 0 c).arrAt 10 cfg0.N = fun j : S16384x384.Idx => (model m c).cut 0 (by decide) (j 0) (j 1) := by
  refine (dats m 0 c).arrAt_eq_of_covers 10 _ (by decide +kernel) fun t hf y => ?_
  idx_vars y
  blk_simp
  rw [after0_10]
  have e : (win0_10.blk t).view.emb (ix2 y0 y1) = ix2 (tok t y0) y1 := by blk_ext [idx t]
  rw [e]
  exact ql_out (blocks m c t) y0 y1
theorem cv_arr : (dats m 0 c).arrAt 11 cfg0.N = fun j : S16384x256.Idx => (model m c).cut 384 (by decide) (j 0) (j 1) := by
  refine (dats m 0 c).arrAt_eq_of_covers 11 _ (by decide +kernel) fun t hf y => ?_
  idx_vars y
  blk_simp
  rw [after0_11]
  have e : (win0_11.blk t).view.emb (ix2 y0 y1) = ix2 (tok t y0) y1 := by blk_ext [idx t]
  rw [e]
  exact cv_out (blocks m c t) y0 y1
theorem za_arr : (dats m 0 c).arrAt 12 cfg0.N = fun j : S16384x1024.Idx => (model m c).cut 640 (by decide) (j 0) (j 1) := by
  refine (dats m 0 c).arrAt_eq_of_covers 12 _ (by decide +kernel) fun t hf y => ?_
  idx_vars y
  blk_simp
  rw [after0_12]
  have e : (win0_12.blk t).view.emb (ix2 y0 y1) = ix2 (tok t y0) y1 := by blk_ext [idx t]
  rw [e]
  exact za_out (blocks m c t) y0 y1
theorem xbc_arr : (dats m 0 c).arrAt 13 cfg0.N = fun j : S16384x1536.Idx => (model m c).cut 1664 (by decide) (j 0) (j 1) := by
  refine (dats m 0 c).arrAt_eq_of_covers 13 _ (by decide +kernel) fun t hf y => ?_
  idx_vars y
  blk_simp
  rw [after0_13]
  have e : (win0_13.blk t).view.emb (ix2 y0 y1) = ix2 (tok t y0) y1 := by blk_ext [idx t]
  rw [e]
  exact xbc_out (blocks m c t) y0 y1
theorem zs_arr : (dats m 0 c).arrAt 14 cfg0.N = fun j : S16384x1024.Idx => (model m c).cut 3200 (by decide) (j 0) (j 1) := by
  refine (dats m 0 c).arrAt_eq_of_covers 14 _ (by decide +kernel) fun t hf y => ?_
  idx_vars y
  blk_simp
  rw [after0_14]
  have e : (win0_14.blk t).view.emb (ix2 y0 y1) = ix2 (tok t y0) y1 := by blk_ext [idx t]
  rw [e]
  exact zs_out (blocks m c t) y0 y1
theorem dt_arr : (dats m 0 c).arrAt 15 cfg0.N = fun j : S16384x128.Idx => (model m c).cut 4352 (by decide) (j 0) (j 1) := by
  refine (dats m 0 c).arrAt_eq_of_covers 15 _ (by decide +kernel) fun t hf y => ?_
  idx_vars y
  blk_simp
  rw [after0_15]
  have e : (win0_15.blk t).view.emb (ix2 y0 y1) = ix2 (tok t y0) y1 := by blk_ext [idx t]
  rw [e]
  exact dt_out (blocks m c t) y0 y1
theorem q_arr : (dats m 0 c).arrAt 16 cfg0.N = fun j : S8x16384x256.Idx => (model m c).qk (j 1) (j 0) (j 2) := by
  refine (dats m 0 c).arrAt_eq_of_covers 16 _ (by decide +kernel) fun t hf y => ?_
  idx_vars y
  blk_simp
  rw [after0_16]
  have e : (win0_16.blk t).view.emb (ix3 y0 y1 y2) = ix3 y0 (tok t y1) y2 := by blk_ext [idx t]
  rw [e]
  exact q_out (blocks m c t) y0 y1 y2
theorem k_arr : (dats m 0 c).arrAt 17 cfg0.N = fun j : S8x16384x256.Idx => (model m c).kk (j 1) (j 0) (j 2) := by
  refine (dats m 0 c).arrAt_eq_of_covers 17 _ (by decide +kernel) fun t hf y => ?_
  idx_vars y
  blk_simp
  rw [after0_17]
  have e : (win0_17.blk t).view.emb (ix3 y0 y1 y2) = ix3 y0 (tok t y1) y2 := by blk_ext [idx t]
  rw [e]
  exact k_out (blocks m c t) y0 y1 y2
theorem v_arr : (dats m 0 c).arrAt 18 cfg0.N = fun j : S8x16384x128.Idx => (model m c).v (j 1) (j 0) (j 2) := by
  refine (dats m 0 c).arrAt_eq_of_covers 18 _ (by decide +kernel) fun t hf y => ?_
  idx_vars y
  blk_simp
  rw [after0_18]
  have e : (win0_18.blk t).view.emb (ix3 y0 y1 y2) = ix3 y0 (tok t y1) y2 := by blk_ext [idx t]
  rw [e]
  exact v_out (blocks m c t) y0 y1 y2

/-! ## The results -/

theorem ql_end (R : Fin 16384) (i : Fin 384) : (dats m 0 c).arrAt 10 cfg0.N (ix2 (n0 := 16384) R i) = (model m c).proj R ⟨i.val, by omega⟩ := by
  rw [ql_arr]
  exact (model m c).pp_of R ⟨0 + i.val, by omega⟩ _ (by dsimp only; omega)
theorem cv_end (R : Fin 16384) (i : Fin 256) : (dats m 0 c).arrAt 11 cfg0.N (ix2 (n0 := 16384) R i) = (model m c).proj R ⟨384 + i.val, by omega⟩ := by
  rw [cv_arr]
  exact (model m c).pp_of R ⟨384 + i.val, by omega⟩ _ (by dsimp only; omega)
theorem za_end (R : Fin 16384) (i : Fin 1024) : (dats m 0 c).arrAt 12 cfg0.N (ix2 (n0 := 16384) R i) = (model m c).proj R ⟨704 + i.val, by omega⟩ := by
  rw [za_arr]
  exact (model m c).pp_of R ⟨640 + i.val, by omega⟩ _ (by dsimp only; omega)
theorem xbc_end (R : Fin 16384) (i : Fin 1536) : (dats m 0 c).arrAt 13 cfg0.N (ix2 (n0 := 16384) R i) = (model m c).proj R ⟨1728 + i.val, by omega⟩ := by
  rw [xbc_arr]
  exact (model m c).pp_of R ⟨1664 + i.val, by omega⟩ _ (by dsimp only; omega)
theorem zs_end (R : Fin 16384) (i : Fin 1024) : (dats m 0 c).arrAt 14 cfg0.N (ix2 (n0 := 16384) R i) = (model m c).proj R ⟨3280 + i.val, by omega⟩ := by
  rw [zs_arr]
  exact (model m c).pp_of R ⟨3200 + i.val, by omega⟩ _ (by dsimp only; omega)
theorem v_end (h : Fin 8) (R : Fin 16384) (i : Fin 128) : (dats m 0 c).arrAt 18 cfg0.N (ix3 (n0 := 8) h R i) = (model m c).v R h i := by
  rw [v_arr]
  rfl

/-- What the buffers hold when the region ends: its arrays, and everything else as before. -/
def atEnd : Valuation τ sig (Elt Ideal) := Pipeline.withArrays (cfgs 0).spec c (V0 m c) fun w => (dats m 0 c).arrAt w (cfgs 0).N

theorem dt_end (R : Fin 16384) (i : Fin 16) : StableHlo.after hostOps1 (atEnd m c) (Proc.devRef .tc main_v36) (ix2 (n0 := 16384) R i) = (model m c).proj R ⟨3264 + i.val, by omega⟩ := by
  have e : atEnd m c (Proc.devRef .tc main_v35_5) (ix2 (n0 := 16384) R ⟨i.val, by omega⟩) = (model m c).proj R ⟨3264 + i.val, by omega⟩ := by
    rw [show atEnd m c (Proc.devRef .tc main_v35_5) = _ from Pipeline.withArrays_arr (cfgs 0).spec (by decide) c _ _ 15]
    exact (congrFun (dt_arr m c) _).trans ((model m c).pp_of _ _ _ (by simp; omega))
  refine Eq.trans ?_ e
  generalize atEnd m c = V
  after_results
  pointwise
theorem q_end (h : Fin 8) (R : Fin 16384) (i : Fin 192) : StableHlo.after hostOps1 (atEnd m c) (Proc.devRef .tc main_v37) (ix3 (n0 := 8) h R i) = (model m c).q R h i := by
  have e : atEnd m c (Proc.devRef .tc main_v35_6) (ix3 (n0 := 8) h R ⟨i.val, by omega⟩) = (model m c).q R h i := by
    rw [show atEnd m c (Proc.devRef .tc main_v35_6) = _ from Pipeline.withArrays_arr (cfgs 0).spec (by decide) c _ _ 16]
    exact (congrFun (q_arr m c) _).trans ((model m c).qk_eq R h i)
  refine Eq.trans ?_ e
  generalize atEnd m c = V
  after_results
  pointwise
theorem k_end (h : Fin 8) (R : Fin 16384) (i : Fin 192) : StableHlo.after hostOps1 (atEnd m c) (Proc.devRef .tc main_v38) (ix3 (n0 := 8) h R i) = (model m c).k R h i := by
  have e : atEnd m c (Proc.devRef .tc main_v35_7) (ix3 (n0 := 8) h R ⟨i.val, by omega⟩) = (model m c).k R h i := by
    rw [show atEnd m c (Proc.devRef .tc main_v35_7) = _ from Pipeline.withArrays_arr (cfgs 0).spec (by decide) c _ _ 17]
    exact (congrFun (k_arr m c) _).trans ((model m c).kk_eq R h i)
  refine Eq.trans ?_ e
  generalize atEnd m c = V
  after_results
  pointwise

end Cert.ProjIdeal.Val

end
-- ==== Proof.ProjRef.lean ====
module

public import proofs.«01_k».proof.Proof.Gen.ProjRefIdeal.Run
public import proofs.«01_k».proof.Proof.Gen.ProjRefIdeal.Read
public import proofs.«01_k».proof.Proof.ProjModel
public import Idealize.ShloMosaic.Lib.Pipeline.ValueKit
public import Idealize.ShloMosaic.Lib.Pointwise

/-!
The nine results of the reference of the input projection, entry by entry.
-/

@[expose] public section

set_option maxRecDepth 16384

noncomputable section

namespace Cert.ProjRefIdeal.Val

open Idealize.ShloMosaic Idealize.ShloMosaic.TcCoe Idealize.SL.Sem
open Cert.ProjRefIdeal Cert.ProjRefIdeal.Gen Cert.ProjRefIdeal.Read
open Cert.Proof.Proj (Model modelOf rms)
open Cert.Proof.Lat (freqOf)

variable (x0 : FVec Ideal S1x16384x1024 .f32) (x1 : FVec Ideal S1x3072 .f32) (x2 : FVec Ideal S1024x4304 .f32) (x3 : Vec Ideal S1x16384 .i32)
  (x4 : FVec Ideal S1x384 .f32) (x5 : FVec Ideal S384x1536 .f32) (x6 : FVec Ideal S1x256 .f32) (x7 : FVec Ideal S256x2048 .f32)

local notation "M" => modelOf x0 x1 x2 x3 x4 x5 x6 x7

theorem proj_at (R : Fin 16384) (k : Fin 4304) : (val_main_v10 (F := Ideal) x0 x1 x2 (ix3 0 R k) : EReal) = Model.proj M R k := by
  pointwise [val_main_v10, val_main_v9, val_main_v8, val_main_v7, val_main_v6, val_main_v5, val_main_v4, val_main_v3, val_main_v2, val_main_v1, val_main_v0, val_main_cst]
  rfl
theorem qn_at (R : Fin 16384) (i : Fin 384) : (val_main_v31 (F := Ideal) x0 x1 x2 x4 (ix3 0 R i) : EReal) = Model.qn M R i := by
  pointwise [val_main_v31, val_main_v30, val_main_v29, val_main_v28, val_main_v27, val_main_v26, val_main_v25, val_main_v24, val_main_v23, val_main_v22, val_main_v21,
    val_main_v20, val_main_v19, val_main_v18, val_main_v11, val_main_cst_0, val_main_cst_1, val_main_cst_2]
  simp only [proj_at x0 x1 x2 x3 x4 x5 x6 x7]
  rfl
theorem kn_at (R : Fin 16384) (i : Fin 256) : (val_main_v47 (F := Ideal) x0 x1 x2 x6 (ix3 0 R i) : EReal) = Model.kn M R i := by
  pointwise [val_main_v47, val_main_v46, val_main_v45, val_main_v44, val_main_v43, val_main_v42, val_main_v41, val_main_v40, val_main_v39, val_main_v38, val_main_v37,
    val_main_v36, val_main_v35, val_main_v34, val_main_v12, val_main_cst_3, val_main_cst_4, val_main_cst_5]
  simp only [proj_at x0 x1 x2 x3 x4 x5 x6 x7]
  rfl
theorem freq_at (l : Fin 32) : (val_main_v58 (F := Ideal) (ix1 l) : EReal) = freqOf l.val := by
  pointwise [val_main_v58, val_main_v57, val_main_cst_8, val_main_v56, val_main_v55, val_main_cst_7, val_main_v54, val_main_v53, val_main_cst_6, val_main_v52]
  rfl
theorem freq_at' (l : Fin 32) : (val_main_v90 (F := Ideal) (ix1 l) : EReal) = freqOf l.val := by
  pointwise [val_main_v90, val_main_v89, val_main_cst_11, val_main_v88, val_main_v87, val_main_cst_10, val_main_v86, val_main_v85, val_main_cst_9, val_main_v84]
  rfl
theorem angle_at (R : Fin 16384) (l : Fin 32) : (val_main_v64 (F := Ideal) x3 (ix3 0 R l) : EReal) = (M).pos R * freqOf l.val := by
  pointwise [val_main_v64, val_main_v63, val_main_v62, val_main_v61, val_main_v60, val_main_v59]
  rw [freq_at]
theorem angle_at' (R : Fin 16384) (l : Fin 32) : (val_main_v96 (F := Ideal) x3 (ix3 0 R l) : EReal) = (M).pos R * freqOf l.val := by
  pointwise [val_main_v96, val_main_v95, val_main_v94, val_main_v93, val_main_v92, val_main_v91]
  rw [freq_at']
theorem qraw_at (R : Fin 16384) (h : Fin 8) (e : Fin 192) : (val_main_v33 (F := Ideal) x0 x1 x2 x4 x5 (ix4 0 R h e) : EReal) = Model.qraw M R h e := by
  pointwise [val_main_v33, val_main_v32]
  simp only [qn_at x0 x1 x2 x3 x4 x5 x6 x7]
  rfl
theorem kv_at (R : Fin 16384) (h : Fin 8) (e : Fin 256) : (val_main_v49 (F := Ideal) x0 x1 x2 x6 x7 (ix4 0 R h e) : EReal)
    = ∑ i, Model.kn M R i * x7 (ix2 i ⟨h.val * 256 + e.val, by omega⟩) := by
  pointwise [val_main_v49, val_main_v48]
  simp only [kn_at x0 x1 x2 x3 x4 x5 x6 x7]
theorem q_rope (R : Fin 16384) (h : Fin 8) (l : Fin 64) : (val_main_v81 (F := Ideal) x0 x1 x2 x3 x4 x5 (ix4 0 R h l) : EReal)
    = Model.rope M R (fun l => Model.qraw M R h ⟨128 + l.val, by omega⟩) l := by
  pointwise [val_main_v81, val_main_v80, val_main_v79, val_main_v78, val_main_v77, val_main_v76, val_main_v75, val_main_v74, val_main_v73, val_main_v72, val_main_v71,
    val_main_v70, val_main_v69, val_main_v68, val_main_v67, val_main_v66, val_main_v65, val_main_v51]
  simp only [qraw_at x0 x1 x2 x3 x4 x5 x6 x7, angle_at x0 x1 x2 x3 x4 x5 x6 x7]
  rw [Model.rope]
  by_cases hl : l.val < 32
  · simp only [hl, dif_pos]
  · simp only [hl, dif_neg, not_false_iff, show 32 + (l.val - 32) = l.val by omega]
theorem k_rope (R : Fin 16384) (l : Fin 64) : (val_main_v109 (F := Ideal) x0 x1 x2 x3 (ix4 0 R 0 l) : EReal)
    = Model.rope M R (fun l => Model.proj M R ⟨640 + l.val, by omega⟩) l := by
  pointwise [val_main_v109, val_main_v108, val_main_v107, val_main_v106, val_main_v105, val_main_v104, val_main_v103, val_main_v102, val_main_v101, val_main_v100,
    val_main_v99, val_main_v98, val_main_v97, val_main_v83, val_main_v13]
  simp only [proj_at x0 x1 x2 x3 x4 x5 x6 x7, angle_at' x0 x1 x2 x3 x4 x5 x6 x7]
  rw [Model.rope]
  by_cases hl : l.val < 32
  · simp only [hl, dif_pos]
  · simp only [hl, dif_neg, not_false_iff, show 32 + (l.val - 32) = l.val by omega]

/-! ## The results -/

variable {x0 x1 x2 x3 x4 x5 x6 x7} {N : Model} (H : modelOf x0 x1 x2 x3 x4 x5 x6 x7 = N)
include H

theorem ql_end (R : Fin 16384) (i : Fin 384) : (val_main_v113 (F := Ideal) x0 x1 x2 (ix2 R i) : EReal) = N.proj R ⟨i.val, by omega⟩ := by
  subst H
  pointwise [val_main_v113, val_main_v11]
  exact proj_at x0 x1 x2 x3 x4 x5 x6 x7 R _
theorem cv_end (R : Fin 16384) (i : Fin 256) : (val_main_v114 (F := Ideal) x0 x1 x2 (ix2 R i) : EReal) = N.proj R ⟨384 + i.val, by omega⟩ := by
  subst H
  pointwise [val_main_v114, val_main_v12]
  exact proj_at x0 x1 x2 x3 x4 x5 x6 x7 R _
theorem za_end (R : Fin 16384) (i : Fin 1024) : (val_main_v115 (F := Ideal) x0 x1 x2 (ix2 R i) : EReal) = N.proj R ⟨704 + i.val, by omega⟩ := by
  subst H
  pointwise [val_main_v115, val_main_v14]
  exact proj_at x0 x1 x2 x3 x4 x5 x6 x7 R _
theorem xbc_end (R : Fin 16384) (i : Fin 1536) : (val_main_v116 (F := Ideal) x0 x1 x2 (ix2 R i) : EReal) = N.proj R ⟨1728 + i.val, by omega⟩ := by
  subst H
  pointwise [val_main_v116, val_main_v15]
  exact proj_at x0 x1 x2 x3 x4 x5 x6 x7 R _
theorem dt_end (R : Fin 16384) (i : Fin 16) : (val_main_v117 (F := Ideal) x0 x1 x2 (ix2 R i) : EReal) = N.proj R ⟨3264 + i.val, by omega⟩ := by
  subst H
  pointwise [val_main_v117, val_main_v16]
  exact proj_at x0 x1 x2 x3 x4 x5 x6 x7 R _
theorem zs_end (R : Fin 16384) (i : Fin 1024) : (val_main_v118 (F := Ideal) x0 x1 x2 (ix2 R i) : EReal) = N.proj R ⟨3280 + i.val, by omega⟩ := by
  subst H
  pointwise [val_main_v118, val_main_v17]
  exact proj_at x0 x1 x2 x3 x4 x5 x6 x7 R _
theorem q_end (h : Fin 8) (R : Fin 16384) (e : Fin 192) : (val_main_v123 (F := Ideal) x0 x1 x2 x3 x4 x5 (ix3 h R e) : EReal) = N.q R h e := by
  subst H
  pointwise [val_main_v123, val_main_v122, val_main_v121, val_main_v120, val_main_v119, val_main_cst_12, val_main_v82, val_main_v50]
  simp only [qraw_at x0 x1 x2 x3 x4 x5 x6 x7, q_rope x0 x1 x2 x3 x4 x5 x6 x7]
  rfl
theorem k_end (h : Fin 8) (R : Fin 16384) (e : Fin 192) : (val_main_v126 (F := Ideal) x0 x1 x2 x3 x6 x7 (ix3 h R e) : EReal) = N.k R h e := by
  subst H
  pointwise [val_main_v126, val_main_v125, val_main_v124, val_main_v112, val_main_v111, val_main_v110]
  simp only [kv_at x0 x1 x2 x3 x4 x5 x6 x7, k_rope x0 x1 x2 x3 x4 x5 x6 x7]
  rfl
theorem v_end (h : Fin 8) (R : Fin 16384) (e : Fin 128) : (val_main_v130 (F := Ideal) x0 x1 x2 x6 x7 (ix3 h R e) : EReal) = N.v R h e := by
  subst H
  pointwise [val_main_v130, val_main_v129, val_main_v128, val_main_v127]
  exact kv_at x0 x1 x2 x3 x4 x5 x6 x7 R h _

end Cert.ProjRefIdeal.Val

end
-- ==== Proof.ProjEq.lean ====
module

public import proofs.«01_k».proof.Defs
public import proofs.«01_k».proof.Proof.ProjEnd
public import proofs.«01_k».proof.Proof.ProjRef
public import Idealize.ShloMosaic.Lib.Claim

/-!
The input projection's kernel and its reference end with equal results.
-/

@[expose] public section

set_option maxRecDepth 16384

noncomputable section

namespace Cert.Proof

open Idealize.ShloMosaic Idealize.ShloMosaic.TcCoe Idealize.SL.Sem
open Cert.Proof.Proj (Model modelOf)

open Cert.ProjIdeal.Val in
set_option maxHeartbeats 2000000 in
theorem algebraic_proj : Cert.algebraic_ProjIdeal_ProjRefIdeal (hProjIdeal := Cert.ProjIdeal.Gen.facts) (hProjRefIdeal := Cert.ProjRefIdeal.Gen.facts) := by
  intro m g m' g' _ hagree
  refine ⟨fun c => (Cert.ProjIdeal.Gen.dats m 0 c).arrAt 10 Cert.ProjIdeal.cfg0.N,
    fun c => (Cert.ProjIdeal.Gen.dats m 0 c).arrAt 11 Cert.ProjIdeal.cfg0.N,
    fun c => (Cert.ProjIdeal.Gen.dats m 0 c).arrAt 12 Cert.ProjIdeal.cfg0.N,
    fun c => (Cert.ProjIdeal.Gen.dats m 0 c).arrAt 13 Cert.ProjIdeal.cfg0.N,
    fun c => StableHlo.after Cert.ProjIdeal.Gen.hostOps1 (atEnd m c) (Proc.devRef .tc Cert.ProjIdeal.main_v36),
    fun c => (Cert.ProjIdeal.Gen.dats m 0 c).arrAt 14 Cert.ProjIdeal.cfg0.N,
    fun c => StableHlo.after Cert.ProjIdeal.Gen.hostOps1 (atEnd m c) (Proc.devRef .tc Cert.ProjIdeal.main_v37),
    fun c => StableHlo.after Cert.ProjIdeal.Gen.hostOps1 (atEnd m c) (Proc.devRef .tc Cert.ProjIdeal.main_v38),
    fun c => (Cert.ProjIdeal.Gen.dats m 0 c).arrAt 18 Cert.ProjIdeal.cfg0.N, ?_, ?_⟩
  · refine θ_run_mono (θ_run_and (Cert.ProjIdeal.Gen.run_main m g) (Cert.ProjIdeal.Gen.frame m g)) fun r hr c => ?_
    exact ⟨(hr.1 c).1 10,
      (hr.1 c).1 11,
      (hr.1 c).1 12,
      (hr.1 c).1 13,
      (hr.1 c).2 Cert.ProjIdeal.main_v36 (Pipeline.mem_restRefs_of _ (by decide) (by decide)),
      (hr.1 c).1 14,
      (hr.1 c).2 Cert.ProjIdeal.main_v37 (Pipeline.mem_restRefs_of _ (by decide) (by decide)),
      (hr.1 c).2 Cert.ProjIdeal.main_v38 (Pipeline.mem_restRefs_of _ (by decide) (by decide)),
      (hr.1 c).1 18, hr.2.1 c⟩
  · refine θ_run_mono (Cert.ProjRefIdeal.Value.run m' g') fun r hr c => ?_
    obtain ⟨h0, h1, h2, h3, h4, h5, h6, h7, h8, hargs⟩ := hr c
    obtain ⟨a0, a1, a2, a3, a4, a5, a6, a7⟩ := hagree c
    have hM : modelOf (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2))
        (m' ((c.tc : Thread Cert.ProjRefIdeal.nD Cert.ProjRefIdeal.τ).loc Cert.ProjRefIdeal.main_arg3)) (m' ((c.tc : Thread Cert.ProjRefIdeal.nD Cert.ProjRefIdeal.τ).loc Cert.ProjRefIdeal.main_arg4)) (m' ((c.tc : Thread Cert.ProjRefIdeal.nD Cert.ProjRefIdeal.τ).loc Cert.ProjRefIdeal.main_arg5))
        (m' ((c.tc : Thread Cert.ProjRefIdeal.nD Cert.ProjRefIdeal.τ).loc Cert.ProjRefIdeal.main_arg6)) (m' ((c.tc : Thread Cert.ProjRefIdeal.nD Cert.ProjRefIdeal.τ).loc Cert.ProjRefIdeal.main_arg7)) = model m c := by
      rw [a0, a1, a2, a3, a4, a5, a6, a7]
    refine ⟨h0.trans ?_, h1.trans ?_, h2.trans ?_, h3.trans ?_, h4.trans ?_, h5.trans ?_, h6.trans ?_, h7.trans ?_, h8.trans ?_, hargs⟩
    · rw [Cert.ProjRefIdeal.Read.val_main_v113_eq]
      funext j
      idx_vars j
      exact (Cert.ProjRefIdeal.Val.ql_end hM j0 j1).trans (ql_end m c j0 j1).symm
    · rw [Cert.ProjRefIdeal.Read.val_main_v114_eq]
      funext j
      idx_vars j
      exact (Cert.ProjRefIdeal.Val.cv_end hM j0 j1).trans (cv_end m c j0 j1).symm
    · rw [Cert.ProjRefIdeal.Read.val_main_v115_eq]
      funext j
      idx_vars j
      exact (Cert.ProjRefIdeal.Val.za_end hM j0 j1).trans (za_end m c j0 j1).symm
    · rw [Cert.ProjRefIdeal.Read.val_main_v116_eq]
      funext j
      idx_vars j
      exact (Cert.ProjRefIdeal.Val.xbc_end hM j0 j1).trans (xbc_end m c j0 j1).symm
    · rw [Cert.ProjRefIdeal.Read.val_main_v117_eq]
      funext j
      idx_vars j
      exact (Cert.ProjRefIdeal.Val.dt_end hM j0 j1).trans (dt_end m c j0 j1).symm
    · rw [Cert.ProjRefIdeal.Read.val_main_v118_eq]
      funext j
      idx_vars j
      exact (Cert.ProjRefIdeal.Val.zs_end hM j0 j1).trans (zs_end m c j0 j1).symm
    · rw [Cert.ProjRefIdeal.Read.val_main_v123_eq]
      funext j
      idx_vars j
      exact (Cert.ProjRefIdeal.Val.q_end hM j0 j1 j2).trans (q_end m c j0 j1 j2).symm
    · rw [Cert.ProjRefIdeal.Read.val_main_v126_eq]
      funext j
      idx_vars j
      exact (Cert.ProjRefIdeal.Val.k_end hM j0 j1 j2).trans (k_end m c j0 j1 j2).symm
    · rw [Cert.ProjRefIdeal.Read.val_main_v130_eq]
      funext j
      idx_vars j
      exact (Cert.ProjRefIdeal.Val.v_end hM j0 j1 j2).trans (v_end m c j0 j1 j2).symm

end Cert.Proof

end
-- ==== Proof.ConvBlocks.lean ====
module

public import proofs.«01_k».proof.Proof.Gen.SsdFwdIdeal.Frame
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.WholeRead

/-!
What one grid point of the scan's forward kernel writes as the convolution of its 512 rows. The point takes the rows 128 at a time. Each
time it stores the eight rows before them and the rows themselves in a scratch, and reads the scratch from four of its rows on.
-/

@[expose] public section

set_option maxRecDepth 16384

noncomputable section

open Idealize.ShloMosaic Idealize.ShloMosaic.TcCoe Idealize.SL.Sem

namespace Cert.Proof.Conv

/-- Channel `k` of the row `d` rows before row `R`, zero before the first row. -/
def lag (X : Fin 16384 → Fin 1536 → EReal) (R : Fin 16384) (d : ℕ) (k : Fin 1536) : EReal :=
  if d ≤ R.val then X ⟨R.val - d, by omega⟩ k else 0
/-- The causal convolution over each row and the three before it, channel by channel. -/
def conv (X : Fin 16384 → Fin 1536 → EReal) (W : Fin 4 → Fin 1536 → EReal) (b : Fin 1536 → EReal) (R : Fin 16384) (k : Fin 1536) : EReal :=
  b k + W 0 k * lag X R 3 k + W 1 k * lag X R 2 k + W 2 k * lag X R 1 k + W 3 k * lag X R 0 k

section pieces
variable {M n a : ℕ} {e : EltTy} (inb : ∀ i : Fin 2, (![a, 0] : Fin 2 → ℕ) i + (![n, 1536] : Fin 2 → ℕ) i ≤ (![M, 1536] : Fin 2 → ℕ) i)
    (w : Vec Ideal ⟨2, ![n, 1536]⟩ e) (L : List (View.Piece (Elt Ideal) ⟨2, ![M, 1536]⟩ e)) (k : Fin 1536)

/-- A row of the piece written last is that piece's row; -/
theorem canon_hit (R : Fin M) (r : Fin n) (h : R.val = a + r.val) :
    View.canon ((⟨Rect.unit (s := ⟨2, ![M, 1536]⟩) ![a, 0] ![n, 1536] inb, w⟩ : View.Piece (Elt Ideal) ⟨2, ![M, 1536]⟩ e) :: L) (ix2 R k) = w (ix2 r k) := by
  refine Eq.trans (congrArg _ ?_) (View.canon_cons_emb (Rect.unit (s := ⟨2, ![M, 1536]⟩) ![a, 0] ![n, 1536] inb) w L (ix2 r k))
  funext i
  refine Fin.ext ?_
  show _ = (![a, 0] : Fin 2 → ℕ) i + 1 * (ix2 r k i).val
  fin_cases i <;> simp [h]
/-- a row outside it is what the earlier pieces hold. -/
theorem canon_miss (R : Fin M) (h : R.val < a ∨ a + n ≤ R.val) :
    View.canon ((⟨Rect.unit (s := ⟨2, ![M, 1536]⟩) ![a, 0] ![n, 1536] inb, w⟩ : View.Piece (Elt Ideal) ⟨2, ![M, 1536]⟩ e) :: L) (ix2 R k)
      = View.canon L (ix2 R k) := by
  refine View.canon_cons_of_not_mem _ _ ?_
  rw [Rect.mem_set_unit]
  intro g
  have g0 : a ≤ R.val ∧ R.val < a + n := g 0
  omega
end pieces

end Cert.Proof.Conv

namespace Cert.SsdFwdIdeal.Val

open Cert.SsdFwdIdeal Cert.SsdFwdIdeal.Gen Cert.Proof.Conv

section scratch
variable {X : Fin 16384 → Fin 1536 → EReal} {base : ℕ} (hb : base + 128 ≤ 16384) {w : Vec Ideal S128x1536 .f32} {h : Vec Ideal S8x1536 .f32}
    (hw : ∀ (r : Fin 128) (k : Fin 1536), (w (ix2 r k) : EReal) = X ⟨base + r.val, by omega⟩ k)
    (hh : ∀ (r : Fin 8) (k : Fin 1536), (h (ix2 r k) : EReal) = if 8 ≤ base + r.val then X ⟨base + r.val - 8, by omega⟩ k else 0)
    (L : List (View.Piece (Elt Ideal) S136x1536 .f32))
include hw hh

/-- Reading the scratch from row `o` on gives the rows `8 - o` before the ones stored. -/
theorem scratch_at (o : ℕ) (ho : o ≤ 8) (inb8) (inb0) (inb) (r : Fin 128) (k : Fin 1536) :
    ((View.whole cc0_scratch1).readCov
      ((⟨Rect.unit (s := S136x1536) ![8, 0] ![128, 1536] inb8, w⟩ : View.Piece (Elt Ideal) S136x1536 .f32) :: ⟨Rect.unit (s := S136x1536) ![0, 0] ![8, 1536] inb0, h⟩ :: L)
      (Rect.unit (s := S136x1536) ![o, 0] ![128, 1536] inb).toLoadRect (ix2 r k) : EReal) = lag X ⟨base + r.val, by omega⟩ (8 - o) k := by
  rw [View.readCov_eq_canon']
  have e : (Rect.unit (s := S136x1536) ![o, 0] ![128, 1536] inb).toLoadRect.idx (ix2 r k) = ix2 (⟨o + r.val, by omega⟩ : Fin 136) k := by
    funext i
    refine Fin.ext ?_
    show (![o, 0] : Fin 2 → ℕ) i + 1 * (ix2 r k i).val = _
    fin_cases i <;> simp
  refine (congrArg (View.canon _) e).trans ?_
  unfold lag
  by_cases g : 8 ≤ o + r.val
  · refine (canon_hit inb8 w _ k _ (⟨o + r.val - 8, by omega⟩ : Fin 128) (by dsimp only; omega)).trans ((hw _ k).trans ?_)
    rw [if_pos (by dsimp only; omega)]
    exact congrArg (X · k) (Fin.ext (by dsimp only; omega))
  · refine (canon_miss inb8 w _ k _ (by dsimp only; omega)).trans ((canon_hit inb0 h L k _ (⟨o + r.val, by omega⟩ : Fin 8) (by dsimp only; omega)).trans ((hh _ k).trans ?_))
    dsimp only
    by_cases g' : 8 ≤ base + (o + r.val)
    · rw [if_pos g', if_pos (by omega)]
      exact congrArg (X · k) (Fin.ext (by dsimp only; omega))
    · rw [if_neg g', if_neg (by omega)]

variable {W : Fin 4 → Fin 1536 → EReal} {b : Fin 1536 → EReal} {v16 : Vec Ideal S4x1536 .f32} {v17 : Vec Ideal S1x1536 .f32}
    (hW : ∀ j k, (v16 (ix2 j k) : EReal) = W j k) (hB : ∀ k, (v17 (ix2 0 k) : EReal) = b k)
include hW hB

/-- The four readings, each times its row of the weight, on top of the bias. -/
theorem taps_at (inb8) (inb0) (i5) (i6) (i7) (i8) (r : Fin 128) (k : Fin 1536) {P : List (View.Piece (Elt Ideal) S136x1536 .f32)}
    (hP : P = (⟨Rect.unit (s := S136x1536) ![8, 0] ![128, 1536] inb8, w⟩ : View.Piece (Elt Ideal) S136x1536 .f32) :: ⟨Rect.unit (s := S136x1536) ![0, 0] ![8, 1536] inb0, h⟩ :: L) :
    k0_pay57 v16 v17 ((View.whole cc0_scratch1).readCov P (Rect.unit (s := S136x1536) ![5, 0] ![128, 1536] i5).toLoadRect)
      ((View.whole cc0_scratch1).readCov P (Rect.unit (s := S136x1536) ![6, 0] ![128, 1536] i6).toLoadRect)
      ((View.whole cc0_scratch1).readCov P (Rect.unit (s := S136x1536) ![7, 0] ![128, 1536] i7).toLoadRect)
      ((View.whole cc0_scratch1).readCov P (Rect.unit (s := S136x1536) ![8, 0] ![128, 1536] i8).toLoadRect) (ix2 r k)
      = conv X W b ⟨base + r.val, by omega⟩ k := by
  have e (v19 v25 v30 v35 : Vec Ideal S128x1536 .f32) : (k0_pay57 v16 v17 v19 v25 v30 v35 (ix2 r k) : EReal)
      = v17 (ix2 0 k) + v16 (ix2 0 k) * v19 (ix2 r k) + v16 (ix2 1 k) * v25 (ix2 r k) + v16 (ix2 2 k) * v30 (ix2 r k) + v16 (ix2 3 k) * v35 (ix2 r k) := by
    pointwise [k0_pay57]
  subst hP
  rw [e, scratch_at hb hw hh L 5 (by omega) inb8 inb0 i5 r k, scratch_at hb hw hh L 6 (by omega) inb8 inb0 i6 r k,
    scratch_at hb hw hh L 7 (by omega) inb8 inb0 i7 r k, scratch_at hb hw hh L 8 (by omega) inb8 inb0 i8 r k, hB, hW, hW, hW, hW]
  rfl
end scratch

variable (m : (ℓ : Loc nD τ sig) → Buf (Elt Ideal) ℓ) (c : Dev nD)

/-- The rows convolved, the weight and the bias. -/
def rowsIn (R : Fin 16384) (k : Fin 1536) : EReal := m ((c : Thread nD τ).loc main_arg0) (ix3 0 R k)
def weight (j : Fin 4) (k : Fin 1536) : EReal := m ((c : Thread nD τ).loc main_arg3) (ix2 j k)
def bias (k : Fin 1536) : EReal := m ((c : Thread nD τ).loc main_arg4) (ix2 0 k)

theorem idx : ∀ t : Fin cfg0.N, win0_0.index t = ![t.val, 0] ∧ win0_1.index t = ![t.val * 64 - 1, 0] ∧ win0_4.index t = ![0, 0] ∧ win0_5.index t = ![0, 0]
    ∧ win0_12.index t = ![t.val, 0] :=
  (by decide +kernel : ∀ t : Fin grid0.N, _)
theorem first_bit : ∀ t : Fin cfg0.N, Scalar.cmpi .eq (BitVec.ofNat 32 (grid0.coords t 0).val) 0#32 = if t.val = 0 then 1#1 else 0#1 :=
  (by decide +kernel : ∀ t : Fin grid0.N, _)

theorem lt_row (t : Fin cfg0.N) (r : Fin 512) : t.val * 512 + r.val < 16384 := by
  have := lt_of_lt_of_eq t.isLt (show cfg0.N = 32 from N_0); omega

theorem x_host (R : Fin 16384) (k : Fin 1536) : (V m c main_v11 (ix2 R k) : EReal) = rowsIn m c R k := by
  unfold V
  after_results_simp
  pointwise
  rfl
theorem x_blk (t : Fin cfg0.N) (r : Fin 512) (k : Fin 1536) : (iblk m c 0 t (ix2 r k) : EReal) = rowsIn m c ⟨t.val * 512 + r.val, lt_row t r⟩ k :=
  Eq.trans (b := V m c main_v11 (ix2 ⟨t.val * 512 + r.val, lt_row t r⟩ k)) (by blk_ext [iblk, idx t]) (x_host m c _ k)
theorem halo_blk (t : Fin cfg0.N) (r : Fin 8) (k : Fin 1536) :
    (iblk m c 1 t (ix2 r k) : EReal) = rowsIn m c ⟨(t.val * 64 - 1) * 8 + r.val, by have := lt_row t 0; simp at this; omega⟩ k :=
  Eq.trans (b := V m c main_v11 (ix2 ⟨(t.val * 64 - 1) * 8 + r.val, by have := lt_row t 0; simp at this; omega⟩ k)) (by blk_ext [iblk, idx t]) (x_host m c _ k)
theorem w_blk (t : Fin cfg0.N) (j : Fin 4) (k : Fin 1536) : (iblk m c 4 t (ix2 j k) : EReal) = weight m c j k :=
  Eq.trans (b := V m c main_arg3 (ix2 j k)) (by blk_ext [iblk, idx t]) (congrFun (V_main_arg3 m c) _)
theorem b_blk (t : Fin cfg0.N) (k : Fin 1536) : (iblk m c 5 t (ix2 0 k) : EReal) = bias m c k :=
  Eq.trans (b := V m c main_arg4 (ix2 0 k)) (by blk_ext [iblk, idx t]) (congrFun (V_main_arg4 m c) _)

theorem rows_at (t : Fin cfg0.N) (a : ℕ) (ha : a + 128 ≤ 512) (inb) (r : Fin 128) (k : Fin 1536) :
    (k0_pay4 (View.ld (iblk m c 0 t) (Rect.unit (s := S512x1536) ![a, 0] ![128, 1536] inb)) (ix2 r k) : EReal)
      = rowsIn m c ⟨t.val * 512 + a + r.val, by have := lt_row t ⟨a + r.val, by omega⟩; dsimp only at this; omega⟩ k := by
  have e : (k0_pay4 (View.ld (iblk m c 0 t) (Rect.unit (s := S512x1536) ![a, 0] ![128, 1536] inb)) (ix2 r k) : EReal)
      = iblk m c 0 t (ix2 ⟨a + r.val, by omega⟩ k) := by
    pointwise [k0_pay4]
  rw [e, x_blk]
  exact congrArg (rowsIn m c · k) (Fin.ext (by dsimp only; omega))
theorem before_at (t : Fin cfg0.N) (a : ℕ) (ha : a + 128 ≤ 512) (h8 : 8 ≤ a) (inb) (r : Fin 8) (k : Fin 1536) :
    (k0_pay116 (View.ld (iblk m c 0 t) (Rect.unit (s := S512x1536) ![a - 8, 0] ![8, 1536] inb)) (ix2 r k) : EReal)
      = if 8 ≤ t.val * 512 + a + r.val then rowsIn m c ⟨t.val * 512 + a + r.val - 8, by have := lt_row t ⟨a + r.val, by omega⟩; dsimp only at this; omega⟩ k else 0 := by
  have e : (k0_pay116 (View.ld (iblk m c 0 t) (Rect.unit (s := S512x1536) ![a - 8, 0] ![8, 1536] inb)) (ix2 r k) : EReal)
      = iblk m c 0 t (ix2 ⟨a - 8 + r.val, by omega⟩ k) := by
    pointwise [k0_pay116]
  rw [e, x_blk, if_pos (by omega)]
  exact congrArg (rowsIn m c · k) (Fin.ext (by dsimp only; omega))
theorem before_first (t : Fin cfg0.N) (r : Fin 8) (k : Fin 1536) :
    (k0_pay3 (grid0.coords t) (iblk m c 1 t) (ix2 r k) : EReal)
      = if 8 ≤ t.val * 512 + 0 + r.val then rowsIn m c ⟨t.val * 512 + 0 + r.val - 8, by have := lt_row t ⟨r.val, by omega⟩; dsimp only at this; omega⟩ k else 0 := by
  unfold k0_pay3
  simp only [first_bit t]
  by_cases h : t.val = 0
  · simp only [h]
    pointwise
  · simp only [if_neg h]
    pointwise
    rw [halo_blk, if_pos (by omega)]
    exact congrArg (rowsIn m c · k) (Fin.ext (by dsimp only; omega))

/-- The four groups of 128 rows, each the convolution there. -/
theorem conv_rows (t : Fin cfg0.N) (r : Fin 128) (k : Fin 1536) :
    ((outsAt0 m c t.val t.isLt).1 (ix2 ⟨r.val, by omega⟩ k) : EReal)
        = conv (rowsIn m c) (weight m c) (bias m c) ⟨t.val * 512 + 0 + r.val, by have := lt_row t ⟨r.val, by omega⟩; dsimp only at this; omega⟩ k
    ∧ ((outsAt0 m c t.val t.isLt).1 (ix2 ⟨128 + r.val, by omega⟩ k) : EReal)
        = conv (rowsIn m c) (weight m c) (bias m c) ⟨t.val * 512 + 128 + r.val, by have := lt_row t ⟨128 + r.val, by omega⟩; dsimp only at this; omega⟩ k
    ∧ ((outsAt0 m c t.val t.isLt).1 (ix2 ⟨256 + r.val, by omega⟩ k) : EReal)
        = conv (rowsIn m c) (weight m c) (bias m c) ⟨t.val * 512 + 256 + r.val, by have := lt_row t ⟨256 + r.val, by omega⟩; dsimp only at this; omega⟩ k
    ∧ ((outsAt0 m c t.val t.isLt).1 (ix2 ⟨384 + r.val, by omega⟩ k) : EReal)
        = conv (rowsIn m c) (weight m c) (bias m c) ⟨t.val * 512 + 384 + r.val, by have := lt_row t ⟨384 + r.val, by omega⟩; dsimp only at this; omega⟩ k := by
  have hN : t.val < 32 := lt_of_lt_of_eq t.isLt (show cfg0.N = 32 from N_0)
  have T0 := taps_at (base := t.val * 512 + 0) (by omega) (fun r k => rows_at m c t 0 (by omega) inb_S512x1536_S128x1536_0_0 r k)
    (fun r k => before_first m c t r k) [] (w_blk m c t) (b_blk m c t) inb_S136x1536_S128x1536_8_0 inb_S136x1536_S8x1536_0_0
    inb_S136x1536_S128x1536_5_0 inb_S136x1536_S128x1536_6_0 inb_S136x1536_S128x1536_7_0 inb_S136x1536_S128x1536_8_0 r k rfl
  have T1 L := taps_at (base := t.val * 512 + 128) (by omega) (fun r k => rows_at m c t 128 (by omega) inb_S512x1536_S128x1536_128_0 r k)
    (fun r k => before_at m c t 128 (by omega) (by omega) inb_S512x1536_S8x1536_120_0 r k) L (w_blk m c t) (b_blk m c t) inb_S136x1536_S128x1536_8_0 inb_S136x1536_S8x1536_0_0
    inb_S136x1536_S128x1536_5_0 inb_S136x1536_S128x1536_6_0 inb_S136x1536_S128x1536_7_0 inb_S136x1536_S128x1536_8_0 r k rfl
  have T2 L := taps_at (base := t.val * 512 + 256) (by omega) (fun r k => rows_at m c t 256 (by omega) inb_S512x1536_S128x1536_256_0 r k)
    (fun r k => before_at m c t 256 (by omega) (by omega) inb_S512x1536_S8x1536_248_0 r k) L (w_blk m c t) (b_blk m c t) inb_S136x1536_S128x1536_8_0 inb_S136x1536_S8x1536_0_0
    inb_S136x1536_S128x1536_5_0 inb_S136x1536_S128x1536_6_0 inb_S136x1536_S128x1536_7_0 inb_S136x1536_S128x1536_8_0 r k rfl
  have T3 L := taps_at (base := t.val * 512 + 384) (by omega) (fun r k => rows_at m c t 384 (by omega) inb_S512x1536_S128x1536_384_0 r k)
    (fun r k => before_at m c t 384 (by omega) (by omega) inb_S512x1536_S8x1536_376_0 r k) L (w_blk m c t) (b_blk m c t) inb_S136x1536_S128x1536_8_0 inb_S136x1536_S8x1536_0_0
    inb_S136x1536_S128x1536_5_0 inb_S136x1536_S128x1536_6_0 inb_S136x1536_S128x1536_7_0 inb_S136x1536_S128x1536_8_0 r k rfl
  have hit {a : ℕ} (inb) (w : Vec Ideal S128x1536 .f32) (L) (R : Fin 512) (h : R.val = a + r.val) := canon_hit (M := 512) (n := 128) (a := a) inb w L k R r h
  have miss {a : ℕ} (inb) (w : Vec Ideal S128x1536 .f32) (L) (R : Fin 512) (h : R.val < a ∨ a + 128 ≤ R.val) := canon_miss (M := 512) (n := 128) (a := a) inb w L k R h
  by_cases h : t.val % 32 = 0
  all_goals
    first | rw [outsAt0_A m c t h] | rw [outsAt0_B m c t h]
    refine ⟨?_, ?_, ?_, ?_⟩
    · frame_out
      exact (miss _ _ _ _ (by dsimp only; omega)).trans ((miss _ _ _ _ (by dsimp only; omega)).trans ((miss _ _ _ _ (by dsimp only; omega)).trans
        ((hit _ _ _ _ (by dsimp only; omega)).trans T0)))
    · frame_out
      exact (miss _ _ _ _ (by dsimp only; omega)).trans ((miss _ _ _ _ (by dsimp only; omega)).trans ((hit _ _ _ _ (by dsimp only)).trans (T1 _)))
    · frame_out
      exact (miss _ _ _ _ (by dsimp only; omega)).trans ((hit _ _ _ _ (by dsimp only)).trans (T2 _))
    · frame_out
      exact (hit _ _ _ _ (by dsimp only)).trans (T3 _)

/-- The array the kernel leaves its convolution in. -/
theorem conv_arr : (dats m 0 c).arrAt 12 cfg0.N = fun j : S16384x1536.Idx => conv (rowsIn m c) (weight m c) (bias m c) (j 0) (j 1) := by
  refine (dats m 0 c).arrAt_eq_of_covers 12 _ (by decide +kernel) fun t hf y => ?_
  idx_vars y
  blk_simp
  rw [after0_12]
  have e : (win0_12.blk t).view.emb (ix2 y0 y1) = ix2 (⟨t.val * 512 + y0.val, lt_row t y0⟩ : Fin 16384) y1 := by blk_ext [idx t]
  rw [e]
  have hy := y0.isLt
  have g (a : ℕ) (r : Fin 128) (h : y0.val = a + r.val) :
      conv (rowsIn m c) (weight m c) (bias m c) ⟨t.val * 512 + a + r.val, by have := lt_row t y0; omega⟩ y1
        = conv (rowsIn m c) (weight m c) (bias m c) ⟨t.val * 512 + y0.val, lt_row t y0⟩ y1 :=
    congrArg (conv (rowsIn m c) (weight m c) (bias m c) · y1) (Fin.ext (by dsimp only; omega))
  have f (z : Fin 512) (h : y0 = z) : ((outsAt0 m c t.val t.isLt).1 (ix2 y0 y1) : EReal) = (outsAt0 m c t.val t.isLt).1 (ix2 z y1) := by rw [h]
  by_cases h1 : y0.val < 128
  · have q := (conv_rows m c t ⟨y0.val, h1⟩ y1).1
    exact (f _ (Fin.ext rfl)).trans (q.trans (g 0 _ (by dsimp only; omega)))
  by_cases h2 : y0.val < 256
  · have q := (conv_rows m c t ⟨y0.val - 128, by omega⟩ y1).2.1
    exact (f _ (Fin.ext (by dsimp only; omega))).trans (q.trans (g 128 _ (by dsimp only; omega)))
  by_cases h3 : y0.val < 384
  · have q := (conv_rows m c t ⟨y0.val - 256, by omega⟩ y1).2.2.1
    exact (f _ (Fin.ext (by dsimp only; omega))).trans (q.trans (g 256 _ (by dsimp only; omega)))
  · have q := (conv_rows m c t ⟨y0.val - 384, by omega⟩ y1).2.2.2
    exact (f _ (Fin.ext (by dsimp only; omega))).trans (q.trans (g 384 _ (by dsimp only; omega)))

end Cert.SsdFwdIdeal.Val
end
-- ==== Proof.ConvEq.lean ====
module

public import proofs.«01_k».proof.Defs
public import proofs.«01_k».proof.Proof.ConvBlocks
public import proofs.«01_k».proof.Proof.Gen.SsdFwdRefIdeal.Run
public import proofs.«01_k».proof.Proof.Gen.SsdFwdRefIdeal.Read
public import Idealize.ShloMosaic.Lib.Claim

/-!
The causal convolution in the scan's forward kernel and in its reference.
-/

@[expose] public section

set_option maxRecDepth 16384

noncomputable section

open Idealize.ShloMosaic Idealize.ShloMosaic.TcCoe Idealize.SL.Sem

namespace Cert.SsdFwdRefIdeal.Val

open Cert.SsdFwdRefIdeal Cert.SsdFwdRefIdeal.Gen Cert.SsdFwdRefIdeal.Read Cert.Proof.Conv

/-- The rows with three rows of zeros before them, read `j` rows on, are the rows `3 - j` before. -/
theorem lag_at (x0 : Vec Ideal S1x16384x1536 .f32) (j : ℕ) (hj : j ≤ 3) (R : Fin 16384) (k : Fin 1536) :
    (val_main_v0 (F := Ideal) x0 (ix3 0 (⟨j + R.val, by omega⟩ : Fin 16387) k) : EReal) = lag (fun R k => (x0 (ix3 0 R k) : EReal)) R (3 - j) k := by
  unfold lag
  pointwise [val_main_v0, val_main_call0_v0, val_main_c]
  have z : (FloatOps.sitofp (F := Ideal) .f32 (0#32 : BitVec 32) : EReal) = 0 := by
    show (((0#32 : BitVec 32).toInt : ℝ) : EReal) = 0
    simp
  by_cases h : 3 - j ≤ R.val
  · rw [dif_pos (by omega), if_pos h]
    exact congrArg (fun R => (x0 (ix3 0 R k) : EReal)) (Fin.ext (by dsimp only; omega))
  · rw [dif_neg (by omega), if_neg h]
    exact z

/-- The reference's sum of four shifted products and the bias is the kernel's, which starts from the bias. -/
theorem conv_at (x0 : Vec Ideal S1x16384x1536 .f32) (x3 : Vec Ideal S4x1536 .f32) (x4 : Vec Ideal S1x1536 .f32) (R : Fin 16384) (k : Fin 1536) :
    (val_main_v33 (F := Ideal) x0 x3 x4 (ix2 R k) : EReal)
      = conv (fun R k => (x0 (ix3 0 R k) : EReal)) (fun j k => (x3 (ix2 j k) : EReal)) (fun k => (x4 (ix2 0 k) : EReal)) R k := by
  unfold conv
  rw [← lag_at x0 0 (by omega), ← lag_at x0 1 (by omega), ← lag_at x0 2 (by omega), ← lag_at x0 3 (by omega)]
  generalize hg : val_main_v0 (F := Ideal) x0 = g
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst]
  have e (a b c d s t u v z : EReal) : a * s + b * t + c * u + d * v + z = z + s * a + t * b + u * c + v * d := by
    rw [add_comm _ z, mul_comm s, mul_comm t, mul_comm u, mul_comm v]
    simp only [add_assoc]
  rw [hg]
  exact e _ _ _ _ _ _ _ _ _

end Cert.SsdFwdRefIdeal.Val

namespace Cert.Proof

set_option maxHeartbeats 1000000 in
/-- The convolution's rows the kernel leaves are the reference's. -/
theorem algebraic_conv : Cert.algebraic_SsdFwdIdeal_SsdFwdRefIdeal (hSsdFwdIdeal := Cert.SsdFwdIdeal.Gen.facts) (hSsdFwdRefIdeal := Cert.SsdFwdRefIdeal.Gen.facts) := by
  intro m g m' g' _ hagree
  refine ⟨fun c => (Cert.SsdFwdIdeal.Gen.dats m 0 c).arrAt 12 Cert.SsdFwdIdeal.cfg0.N, ?_, ?_⟩
  · refine θ_run_mono (θ_run_and (Cert.SsdFwdIdeal.Gen.run_main m g) (Cert.SsdFwdIdeal.Gen.frame m g)) fun r hr c => ?_
    exact ⟨(hr.1 c).1 12, hr.2.1 c⟩
  · refine θ_run_mono (Cert.SsdFwdRefIdeal.Value.run m' g') fun r hr c => ?_
    obtain ⟨h0, hargs⟩ := hr c
    obtain ⟨a0, a1, a2, a3, a4, a5, a6, a7, a8⟩ := hagree c
    refine ⟨h0.trans ?_, hargs⟩
    rw [Cert.SsdFwdRefIdeal.Read.val_main_v33_eq, a0, a3, a4]
    funext j
    idx_vars j
    exact (Cert.SsdFwdRefIdeal.Val.conv_at _ _ _ j0 j1).trans (congrFun (Cert.SsdFwdIdeal.Val.conv_arr m c) (ix2 j0 j1)).symm

end Cert.Proof
end
-- ==== Proof.AdaPay.lean ====
module

public import proofs.«01_k».proof.Proof.Gen.AdaIdeal.Frame
public import proofs.«01_k».proof.Proof.Gen.AdaRefIdeal.Run
public import proofs.«01_k».proof.Proof.Gen.AdaRefIdeal.Read
public import proofs.«01_k».proof.Proof.Gen.AdaGradIdeal.Frame
public import proofs.«01_k».proof.Proof.Gen.AdaGradRefIdeal.Run
public import proofs.«01_k».proof.Proof.Gen.AdaGradRefIdeal.Read
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.WholeRead

/-!
The modulation's product with its weight, and the gradient of that weight: one entry of each, from the kernel's blocks and from the
reference's arrays. The gradient is a sum of eight outer products in the kernel and one product over the eight rows in the reference.
-/

@[expose] public section

set_option maxRecDepth 16384

noncomputable section

open Idealize.ShloMosaic Idealize.ShloMosaic.TcCoe Idealize.SL.Sem

namespace Cert.AdaIdeal.Val

open Cert.AdaIdeal Cert.AdaIdeal.Gen

theorem mod_out (x0 : Vec Ideal S8x1024 .f32) (x1 : Vec Ideal S1024x768 .f32) (b : Fin 8) (k : Fin 768) :
    (out0_2 x0 x1 (ix2 b k) : EReal) = ∑ i : Fin 1024, (x0 (ix2 b i) : EReal) * x1 (ix2 i k) := by
  frame_out
  pointwise [k0_pay1]

end Cert.AdaIdeal.Val

namespace Cert.AdaRefIdeal.Val

open Cert.AdaRefIdeal Cert.AdaRefIdeal.Gen Cert.AdaRefIdeal.Read

theorem mod_at (x0 : Vec Ideal S8x1024 .f32) (x1 : Vec Ideal S1024x768 .f32) (b : Fin 8) (k : Fin 768) :
    (val_main_v0 (F := Ideal) x0 x1 (ix2 b k) : EReal) = ∑ i : Fin 1024, (x0 (ix2 b i) : EReal) * x1 (ix2 i k) := by
  pointwise [val_main_v0]

end Cert.AdaRefIdeal.Val

namespace Cert.AdaGradIdeal.Val

open Cert.AdaGradIdeal Cert.AdaGradIdeal.Gen

theorem grad_out (x0 : Vec Ideal S1024x8 .f32) (x1 : Vec Ideal S8x768 .f32) (i : Fin 1024) (k : Fin 768) :
    (out0_2 x0 x1 (ix3 0 i k) : EReal) = ∑ b : Fin 8, (x0 (ix2 i b) : EReal) * x1 (ix2 b k) := by
  rw [Fin.sum_univ_eight]
  frame_out
  pointwise [k0_pay1, k0_pay2, k0_pay3]

end Cert.AdaGradIdeal.Val

namespace Cert.AdaGradRefIdeal.Val

open Cert.AdaGradRefIdeal Cert.AdaGradRefIdeal.Gen Cert.AdaGradRefIdeal.Read

theorem grad_at (x0 : Vec Ideal S8x1024 .f32) (x2 : Vec Ideal S8x768 .f32) (i : Fin 1024) (k : Fin 768) :
    (val_main_v2 (F := Ideal) x0 x2 (ix2 i k) : EReal) = ∑ b : Fin 8, (x0 (ix2 b i) : EReal) * x2 (ix2 b k) := by
  pointwise [val_main_v2, val_main_v1]
  exact Finset.sum_congr rfl fun b _ => mul_comm _ _

end Cert.AdaGradRefIdeal.Val
-- ==== Proof.AdaEq.lean ====
module

public import proofs.«01_k».proof.Defs
public import proofs.«01_k».proof.Proof.AdaPay
public import Idealize.ShloMosaic.Lib.Claim

/-!
The arrays the modulation's two kernels end with, against their references.
-/

@[expose] public section

set_option maxRecDepth 16384

noncomputable section

open Idealize.ShloMosaic Idealize.ShloMosaic.TcCoe Idealize.SL.Sem

namespace Cert.AdaIdeal.Val

open Cert.AdaIdeal Cert.AdaIdeal.Gen

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] := (by decide +kernel : ∀ t : Fin grid0.N, _)

theorem c_blk (t : Fin cfg0.N) (b : Fin 8) (i : Fin 1024) : (iblk m c 0 t (ix2 b i) : EReal) = m ((c : Thread nD τ).loc main_arg0) (ix2 b i) :=
  Eq.trans (b := V m c main_arg0 (ix2 b i)) (by blk_ext [iblk, idx t]) (congrFun (V_main_arg0 m c) _)
theorem w_blk (t : Fin cfg0.N) (i : Fin 1024) (k : Fin 768) : (iblk m c 1 t (ix2 i k) : EReal) = m ((c : Thread nD τ).loc main_arg1) (ix2 i k) :=
  Eq.trans (b := V m c main_arg1 (ix2 i k)) (by blk_ext [iblk, idx t]) (congrFun (V_main_arg1 m c) _)

/-- The product of the eight rows with the weight. -/
def prod (b : Fin 8) (k : Fin 768) : EReal :=
  Finset.univ.sum (M := EReal) fun i : Fin 1024 =>
    HMul.hMul (α := EReal) (β := EReal) (m ((c : Thread nD τ).loc main_arg0) (ix2 b i)) (m ((c : Thread nD τ).loc main_arg1) (ix2 i k))

theorem mod_arr : (dats m 0 c).arrAt 2 cfg0.N = fun j : S8x768.Idx => prod m c (j 0) (j 1) := by
  refine (dats m 0 c).arrAt_eq_of_covers 2 _ (by decide +kernel) fun t hf y => ?_
  idx_vars y
  blk_simp
  rw [after0_2]
  have e : (win0_2.blk t).view.emb (ix2 y0 y1) = ix2 y0 y1 := by blk_ext [idx t]
  rw [e]
  refine (mod_out (iblk m c 0 t) (iblk m c 1 t) y0 y1).trans (Finset.sum_congr rfl fun i _ => ?_)
  rw [c_blk, w_blk]
  rfl

end Cert.AdaIdeal.Val

namespace Cert.AdaGradIdeal.Val

open Cert.AdaGradIdeal Cert.AdaGradIdeal.Gen

variable (m : (ℓ : Loc nD τ sig) → Buf (Elt Ideal) ℓ) (c : Dev nD)

theorem idx : ∀ t : Fin cfg0.N, win0_0.index t = ![0, 0] ∧ win0_1.index t = ![0, 0] ∧ win0_2.index t = ![0, 0, 0] := (by decide +kernel : ∀ t : Fin grid0.N, _)

theorem c_at (i : Fin 1024) (b : Fin 8) : (V m c main_v0 (ix2 i b) : EReal) = m ((c : Thread nD τ).loc main_arg0) (ix2 b i) := by
  unfold V V0
  simp only [List.flatten_cons, List.flatten_nil, List.append_nil]
  after_results_simp
  pointwise
theorem c_blk (t : Fin cfg0.N) (i : Fin 1024) (b : Fin 8) : (iblk m c 0 t (ix2 i b) : EReal) = m ((c : Thread nD τ).loc main_arg0) (ix2 b i) :=
  Eq.trans (b := V m c main_v0 (ix2 i b)) (by blk_ext [iblk, idx t]) (c_at m c i b)
theorem d_blk (t : Fin cfg0.N) (b : Fin 8) (k : Fin 768) : (iblk m c 1 t (ix2 b k) : EReal) = m ((c : Thread nD τ).loc main_arg2) (ix2 b k) :=
  Eq.trans (b := V m c main_arg2 (ix2 b k)) (by blk_ext [iblk, idx t]) (congrFun (V_main_arg2 m c) _)

/-- The gradient of the weight: the sum over the eight rows. -/
def grad (i : Fin 1024) (k : Fin 768) : EReal :=
  Finset.univ.sum (M := EReal) fun b : Fin 8 =>
    HMul.hMul (α := EReal) (β := EReal) (m ((c : Thread nD τ).loc main_arg0) (ix2 b i)) (m ((c : Thread nD τ).loc main_arg2) (ix2 b k))

theorem grad_arr : (dats m 0 c).arrAt 2 cfg0.N = fun j : S1x1024x768.Idx => grad m c (j 1) (j 2) := by
  refine (dats m 0 c).arrAt_eq_of_covers 2 _ (by decide +kernel) fun t hf y => ?_
  idx_vars y
  blk_simp
  rw [after0_2]
  have e : (win0_2.blk t).view.emb (ix3 y0 y1 y2) = ix3 y0 y1 y2 := by blk_ext [idx t]
  rw [e]
  obtain rfl : y0 = 0 := Subsingleton.elim _ _
  refine (grad_out (iblk m c 0 t) (iblk m c 1 t) y1 y2).trans (Finset.sum_congr rfl fun b _ => ?_)
  rw [c_blk, d_blk]
  rfl

/-- What the buffers hold when the kernel has ended. -/
def atEnd : Valuation τ sig (Elt Ideal) := Pipeline.withArrays (cfgs 0).spec c (V0 m c) fun w => (dats m 0 c).arrAt w (cfgs 0).N

theorem grad_end (i : Fin 1024) (k : Fin 768) : (StableHlo.after hostOps1 (atEnd m c) (Proc.devRef .tc main_v2) (ix2 i k) : EReal) = grad m c i k := by
  have e : (atEnd m c (Proc.devRef .tc main_v1) (ix3 0 i k) : EReal) = grad m c i k :=
    (congrFun (Pipeline.withArrays_arr (cfgs 0).spec (by decide) c _ _ 2) _).trans (congrFun (grad_arr m c) (ix3 0 i k))
  refine Eq.trans ?_ e
  generalize atEnd m c = W
  after_results
  pointwise

end Cert.AdaGradIdeal.Val

namespace Cert.Proof

theorem algebraic_ada : Cert.algebraic_AdaIdeal_AdaRefIdeal (hAdaIdeal := Cert.AdaIdeal.Gen.facts) (hAdaRefIdeal := Cert.AdaRefIdeal.Gen.facts) := by
  intro m g m' g' _ hagree
  refine ⟨fun c => (Cert.AdaIdeal.Gen.dats m 0 c).arrAt 2 Cert.AdaIdeal.cfg0.N, ?_, ?_⟩
  · refine θ_run_mono (θ_run_and (Cert.AdaIdeal.Gen.run_main m g) (Cert.AdaIdeal.Gen.frame m g)) fun r hr c => ?_
    exact ⟨(hr.1 c).1 2, hr.2.1 c⟩
  · refine θ_run_mono (Cert.AdaRefIdeal.Value.run m' g') fun r hr c => ?_
    obtain ⟨h0, hargs⟩ := hr c
    obtain ⟨a0, a1⟩ := hagree c
    refine ⟨h0.trans ?_, hargs⟩
    rw [Cert.AdaRefIdeal.Read.val_main_v0_eq, a0, a1]
    funext j
    idx_vars j
    exact (Cert.AdaRefIdeal.Val.mod_at _ _ j0 j1).trans (congrFun (Cert.AdaIdeal.Val.mod_arr m c) (ix2 j0 j1)).symm

theorem algebraic_adag : Cert.algebraic_AdaGradIdeal_AdaGradRefIdeal (hAdaGradIdeal := Cert.AdaGradIdeal.Gen.facts) (hAdaGradRefIdeal := Cert.AdaGradRefIdeal.Gen.facts) := by
  intro m g m' g' _ hagree
  refine ⟨fun c => StableHlo.after Cert.AdaGradIdeal.Gen.hostOps1 (Cert.AdaGradIdeal.Val.atEnd m c) (Proc.devRef .tc Cert.AdaGradIdeal.main_v2), ?_, ?_⟩
  · refine θ_run_mono (θ_run_and (Cert.AdaGradIdeal.Gen.run_main m g) (Cert.AdaGradIdeal.Gen.frame m g)) fun r hr c => ?_
    exact ⟨(hr.1 c).2 Cert.AdaGradIdeal.main_v2 (Pipeline.mem_restRefs_of _ (by decide) (by decide)), hr.2.1 c⟩
  · refine θ_run_mono (Cert.AdaGradRefIdeal.Value.run m' g') fun r hr c => ?_
    obtain ⟨h0, hargs⟩ := hr c
    obtain ⟨a0, a1, a2⟩ := hagree c
    refine ⟨h0.trans ?_, hargs⟩
    rw [Cert.AdaGradRefIdeal.Read.val_main_v2_eq, a0, a2]
    funext j
    idx_vars j
    exact (Cert.AdaGradRefIdeal.Val.grad_at _ _ j0 j1).trans (Cert.AdaGradIdeal.Val.grad_end m c j0 j1).symm

end Cert.Proof
-- ==== Proof.StepPay.lean ====
module

public import proofs.«01_k».proof.Proof.Gen.AdamWIdeal.Frame
public import proofs.«01_k».proof.Proof.Gen.AdamWRefIdeal.Run
public import proofs.«01_k».proof.Proof.Gen.AdamWRefIdeal.Read
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.WholeRead

/-!
One entry of one AdamW step: the eight devices' parts of the gradient are added up, and the step is taken from the sum. The kernel does
it 128 rows at a time, the reference on the whole arrays.
-/

@[expose] public section

set_option maxRecDepth 16384

noncomputable section

open Idealize.ShloMosaic Idealize.ShloMosaic.TcCoe Idealize.SL.Sem

namespace Cert.Proof.Step

/-- The new first moment, from the old one and the gradient. -/
def first (m g : EReal) : EReal := Ideal.ofBits .f32 0x3F666666#32 * m + Ideal.ofBits .f32 0x3DCCCCCD#32 * g
/-- The new second moment. -/
def second (v g : EReal) : EReal := Ideal.ofBits .f32 0x3F7FBE77#32 * v + Ideal.ofBits .f32 0x3A83126F#32 * (g * g)
/-- The change of the weight. -/
def change (w m v g : EReal) : EReal :=
  Ideal.ofBits .f32 0xBA83126F#32 * (Ideal.div (Ideal.div (first m g) (Ideal.ofBits .f32 0x3F26BD02#32))
    (Ideal.sqrt (Ideal.div (second v g) (Ideal.ofBits .f32 0x3C231ACC#32)) + Ideal.ofBits .f32 0x322BCC77#32) + Ideal.ofBits .f32 0x3C23D70A#32 * w)

end Cert.Proof.Step

open Cert.Proof.Step

namespace Cert.AdamWIdeal.Val

open Cert.AdamWIdeal Cert.AdamWIdeal.Gen

section Point

variable (x0 : Vec Ideal S8x128x1076 .bf16) (x1 x2 x3 : Vec Ideal S128x1076 .f32) (r : Fin 128) (k : Fin 1076)

theorem sum_pay : (k0_pay5 (F := Ideal) x0 x1 x2 x3 (ix2 r k) : EReal) = ∑ s : Fin 8, (x0 (ix3 s r k) : EReal) := by
  rw [Fin.sum_univ_eight]
  pointwise [k0_pay5, k0_pay4]
theorem sum_out : (out0_4 x0 x1 x2 x3 (ix2 r k) : EReal) = ∑ s : Fin 8, (x0 (ix3 s r k) : EReal) := by
  frame_out
  exact sum_pay x0 x1 x2 x3 r k
theorem first_out : (out0_6 x0 x1 x2 x3 (ix2 r k) : EReal) = first (x2 (ix2 r k)) (∑ s : Fin 8, (x0 (ix3 s r k) : EReal)) := by
  frame_out
  pointwise [k0_pay1]
  rw [sum_pay]
  rfl
theorem second_out : (out0_7 x0 x1 x2 x3 (ix2 r k) : EReal) = second (x3 (ix2 r k)) (∑ s : Fin 8, (x0 (ix3 s r k) : EReal)) := by
  frame_out
  pointwise [k0_pay2]
  rw [sum_pay]
  rfl
theorem change_out : (out0_5 x0 x1 x2 x3 (ix2 r k) : EReal)
    = change (x1 (ix2 r k)) (x2 (ix2 r k)) (x3 (ix2 r k)) (∑ s : Fin 8, (x0 (ix3 s r k) : EReal)) := by
  frame_out
  pointwise [k0_pay3, k0_pay1, k0_pay2]
  rw [sum_pay]
  rfl

end Point

end Cert.AdamWIdeal.Val

namespace Cert.AdamWRefIdeal.Val

open Cert.AdamWRefIdeal Cert.AdamWRefIdeal.Gen Cert.AdamWRefIdeal.Read

variable (x0 : Vec Ideal S8x1024x1076 .bf16) (x1 x2 x3 : Vec Ideal S1024x1076 .f32) (i : Fin 1024) (k : Fin 1076)

theorem sum_at : (val_main_v1 (F := Ideal) x0 (ix2 i k) : EReal) = ∑ s : Fin 8, (x0 (ix3 s i k) : EReal) := by
  pointwise [val_main_v1, val_main_v0, val_main_cst]
theorem first_at : (val_main_v6 (F := Ideal) x0 x2 (ix2 i k) : EReal) = first (x2 (ix2 i k)) (∑ s : Fin 8, (x0 (ix3 s i k) : EReal)) := by
  pointwise [val_main_v6, val_main_v5, val_main_v4, val_main_v3, val_main_v2, val_main_cst_0, val_main_cst_1]
  rw [sum_at]
  rfl
theorem second_at : (val_main_v12 (F := Ideal) x0 x3 (ix2 i k) : EReal) = second (x3 (ix2 i k)) (∑ s : Fin 8, (x0 (ix3 s i k) : EReal)) := by
  pointwise [val_main_v12, val_main_v11, val_main_v10, val_main_v9, val_main_v8, val_main_v7, val_main_cst_2, val_main_cst_3]
  rw [sum_at]
  rfl
theorem change_at : (val_main_v25 (F := Ideal) x0 x1 x2 x3 (ix2 i k) : EReal)
    = change (x1 (ix2 i k)) (x2 (ix2 i k)) (x3 (ix2 i k)) (∑ s : Fin 8, (x0 (ix3 s i k) : EReal)) := by
  pointwise [val_main_v25, val_main_v24, val_main_v23, val_main_v22, val_main_v21, val_main_v20, val_main_v19, val_main_v18, val_main_v17, val_main_v16,
    val_main_v15, val_main_v14, val_main_v13, val_main_cst_4, val_main_cst_5, val_main_cst_6, val_main_cst_7, val_main_cst_8]
  rw [first_at, second_at]
  rfl

end Cert.AdamWRefIdeal.Val
-- ==== Proof.StepEq.lean ====
module

public import proofs.«01_k».proof.Defs
public import proofs.«01_k».proof.Proof.StepPay
public import Idealize.ShloMosaic.Lib.Claim

/-!
The four arrays one AdamW step ends with, in the kernel and in the reference.
-/

@[expose] public section

set_option maxRecDepth 16384

noncomputable section

open Idealize.ShloMosaic Idealize.ShloMosaic.TcCoe Idealize.SL.Sem

open Cert.Proof.Step

namespace Cert.AdamWIdeal.Val

open Cert.AdamWIdeal Cert.AdamWIdeal.Gen

variable (m : (ℓ : Loc nD τ sig) → Buf (Elt Ideal) ℓ) (c : Dev nD)

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem lt_row (t : Fin cfg0.N) (r : Fin 128) : t.val * 128 + r.val < 1024 := by
  have := lt_of_lt_of_eq t.isLt (show cfg0.N = 8 from N_0); omega

/-- The row that row `r` of point `t`'s blocks is. -/
abbrev row (t : Fin cfg0.N) (r : Fin 128) : Fin 1024 := ⟨t.val * 128 + r.val, lt_row t r⟩

/-- The gradient: the sum of the parts. -/
def total (i : Fin 1024) (k : Fin 1076) : EReal := ∑ s : Fin 8, (m ((c : Thread nD τ).loc main_arg0) (ix3 s i k) : EReal)

theorem part_blk (t : Fin cfg0.N) (s : Fin 8) (r : Fin 128) (k : Fin 1076) :
    (iblk m c 0 t (ix3 s r k) : EReal) = m ((c : Thread nD τ).loc main_arg0) (ix3 s (row t r) k) :=
  Eq.trans (b := V m c main_arg0 (ix3 s (row t r) k)) (by blk_ext [iblk, idx t]) (congrFun (V_main_arg0 m c) _)
theorem w_blk (t : Fin cfg0.N) (r : Fin 128) (k : Fin 1076) : (iblk m c 1 t (ix2 r k) : EReal) = m ((c : Thread nD τ).loc main_arg1) (ix2 (row t r) k) :=
  Eq.trans (b := V m c main_arg1 (ix2 (row t r) k)) (by blk_ext [iblk, idx t]) (congrFun (V_main_arg1 m c) _)
theorem m_blk (t : Fin cfg0.N) (r : Fin 128) (k : Fin 1076) : (iblk m c 2 t (ix2 r k) : EReal) = m ((c : Thread nD τ).loc main_arg2) (ix2 (row t r) k) :=
  Eq.trans (b := V m c main_arg2 (ix2 (row t r) k)) (by blk_ext [iblk, idx t]) (congrFun (V_main_arg2 m c) _)
theorem v_blk (t : Fin cfg0.N) (r : Fin 128) (k : Fin 1076) : (iblk m c 3 t (ix2 r k) : EReal) = m ((c : Thread nD τ).loc main_arg3) (ix2 (row t r) k) :=
  Eq.trans (b := V m c main_arg3 (ix2 (row t r) k)) (by blk_ext [iblk, idx t]) (congrFun (V_main_arg3 m c) _)
theorem total_blk (t : Fin cfg0.N) (r : Fin 128) (k : Fin 1076) : (Finset.univ.sum (M := EReal) fun s : Fin 8 => iblk m c 0 t (ix3 s r k)) = total m c (row t r) k :=
  Finset.sum_congr rfl fun s _ => part_blk m c t s r k

theorem sum_arr : (dats m 0 c).arrAt 4 cfg0.N = fun j : S1024x1076.Idx => total m c (j 0) (j 1) := by
  refine (dats m 0 c).arrAt_eq_of_covers 4 _ (by decide +kernel) fun t hf y => ?_
  idx_vars y
  blk_simp
  rw [after0_4]
  have e : (win0_4.blk t).view.emb (ix2 y0 y1) = ix2 (row t y0) y1 := by blk_ext [idx t]
  rw [e]
  exact (sum_out (iblk m c 0 t) (iblk m c 1 t) (iblk m c 2 t) (iblk m c 3 t) y0 y1).trans (total_blk m c t y0 y1)
theorem change_arr : (dats m 0 c).arrAt 5 cfg0.N = fun j : S1024x1076.Idx => change (m ((c : Thread nD τ).loc main_arg1) (ix2 (j 0) (j 1)))
    (m ((c : Thread nD τ).loc main_arg2) (ix2 (j 0) (j 1))) (m ((c : Thread nD τ).loc main_arg3) (ix2 (j 0) (j 1))) (total m c (j 0) (j 1)) := by
  refine (dats m 0 c).arrAt_eq_of_covers 5 _ (by decide +kernel) fun t hf y => ?_
  idx_vars y
  blk_simp
  rw [after0_5]
  have e : (win0_5.blk t).view.emb (ix2 y0 y1) = ix2 (row t y0) y1 := by blk_ext [idx t]
  rw [e]
  refine (change_out (iblk m c 0 t) (iblk m c 1 t) (iblk m c 2 t) (iblk m c 3 t) y0 y1).trans ?_
  rw [total_blk, w_blk, m_blk, v_blk]
  rfl
theorem first_arr : (dats m 0 c).arrAt 6 cfg0.N
    = fun j : S1024x1076.Idx => first (m ((c : Thread nD τ).loc main_arg2) (ix2 (j 0) (j 1))) (total m c (j 0) (j 1)) := by
  refine (dats m 0 c).arrAt_eq_of_covers 6 _ (by decide +kernel) fun t hf y => ?_
  idx_vars y
  blk_simp
  rw [after0_6]
  have e : (win0_6.blk t).view.emb (ix2 y0 y1) = ix2 (row t y0) y1 := by blk_ext [idx t]
  rw [e]
  refine (first_out (iblk m c 0 t) (iblk m c 1 t) (iblk m c 2 t) (iblk m c 3 t) y0 y1).trans ?_
  rw [total_blk, m_blk]
  rfl
theorem second_arr : (dats m 0 c).arrAt 7 cfg0.N
    = fun j : S1024x1076.Idx => second (m ((c : Thread nD τ).loc main_arg3) (ix2 (j 0) (j 1))) (total m c (j 0) (j 1)) := by
  refine (dats m 0 c).arrAt_eq_of_covers 7 _ (by decide +kernel) fun t hf y => ?_
  idx_vars y
  blk_simp
  rw [after0_7]
  have e : (win0_7.blk t).view.emb (ix2 y0 y1) = ix2 (row t y0) y1 := by blk_ext [idx t]
  rw [e]
  refine (second_out (iblk m c 0 t) (iblk m c 1 t) (iblk m c 2 t) (iblk m c 3 t) y0 y1).trans ?_
  rw [total_blk, v_blk]
  rfl

end Cert.AdamWIdeal.Val

namespace Cert.Proof

open Cert.AdamWIdeal.Val in
set_option maxHeartbeats 1000000 in
theorem algebraic_step : Cert.algebraic_AdamWIdeal_AdamWRefIdeal (hAdamWIdeal := Cert.AdamWIdeal.Gen.facts) (hAdamWRefIdeal := Cert.AdamWRefIdeal.Gen.facts) := by
  intro m g m' g' _ hagree
  refine ⟨fun c => (Cert.AdamWIdeal.Gen.dats m 0 c).arrAt 4 Cert.AdamWIdeal.cfg0.N, fun c => (Cert.AdamWIdeal.Gen.dats m 0 c).arrAt 5 Cert.AdamWIdeal.cfg0.N,
    fun c => (Cert.AdamWIdeal.Gen.dats m 0 c).arrAt 6 Cert.AdamWIdeal.cfg0.N, fun c => (Cert.AdamWIdeal.Gen.dats m 0 c).arrAt 7 Cert.AdamWIdeal.cfg0.N, ?_, ?_⟩
  · refine θ_run_mono (θ_run_and (Cert.AdamWIdeal.Gen.run_main m g) (Cert.AdamWIdeal.Gen.frame m g)) fun r hr c => ?_
    exact ⟨(hr.1 c).1 4, (hr.1 c).1 5, (hr.1 c).1 6, (hr.1 c).1 7, hr.2.1 c⟩
  · refine θ_run_mono (Cert.AdamWRefIdeal.Value.run m' g') fun r hr c => ?_
    obtain ⟨h0, h1, h2, h3, hargs⟩ := hr c
    obtain ⟨a0, a1, a2, a3⟩ := hagree c
    refine ⟨h0.trans ?_, h1.trans ?_, h2.trans ?_, h3.trans ?_, hargs⟩
    · rw [Cert.AdamWRefIdeal.Read.val_main_v1_eq, a0]
      funext j
      idx_vars j
      exact (Cert.AdamWRefIdeal.Val.sum_at _ j0 j1).trans (congrFun (sum_arr m c) (ix2 j0 j1)).symm
    · rw [Cert.AdamWRefIdeal.Read.val_main_v25_eq, a0, a1, a2, a3]
      funext j
      idx_vars j
      exact (Cert.AdamWRefIdeal.Val.change_at _ _ _ _ j0 j1).trans (congrFun (change_arr m c) (ix2 j0 j1)).symm
    · rw [Cert.AdamWRefIdeal.Read.val_main_v6_eq, a0, a2]
      funext j
      idx_vars j
      exact (Cert.AdamWRefIdeal.Val.first_at _ _ j0 j1).trans (congrFun (first_arr m c) (ix2 j0 j1)).symm
    · rw [Cert.AdamWRefIdeal.Read.val_main_v12_eq, a0, a3]
      funext j
      idx_vars j
      exact (Cert.AdamWRefIdeal.Val.second_at _ _ j0 j1).trans (congrFun (second_arr m c) (ix2 j0 j1)).symm

end Cert.Proof
-- ==== Proof.lean ====
module

public import proofs.«01_k».proof.Defs
public import proofs.«01_k».proof.Proof.Gen.InGrad
public import proofs.«01_k».proof.Proof.Gen.InGrad.Skeleton
public import proofs.«01_k».proof.Proof.Gen.InGrad.Launch
public import proofs.«01_k».proof.Proof.Gen.InGrad.Points
public import proofs.«01_k».proof.Proof.Gen.InGrad.Frame
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.InGradRefIdeal
public import proofs.«01_k».proof.Proof.Gen.InGradRefIdeal.Run
public import proofs.«01_k».proof.Proof.Gen.InGradRefIdeal.Read
public import proofs.«01_k».proof.Proof.InEq
public import proofs.«01_k».proof.Proof.AttnFrames
public import proofs.«01_k».proof.Proof.Gen.AttnGradRefIdeal.Read
public import proofs.«01_k».proof.Proof.Gen.Pre_attn_finite
public import proofs.«01_k».proof.Proof.AttnEq
public import proofs.«01_k».proof.Proof.Gen.OutGrad
public import proofs.«01_k».proof.Proof.Gen.OutGrad.Skeleton
public import proofs.«01_k».proof.Proof.Gen.OutGrad.Launch
public import proofs.«01_k».proof.Proof.Gen.OutGrad.Points
public import proofs.«01_k».proof.Proof.Gen.OutGrad.Frame
public import proofs.«01_k».proof.Proof.Gen.OutGradIdeal
public import proofs.«01_k».proof.Proof.Gen.OutGradIdeal.Skeleton
public import proofs.«01_k».proof.Proof.Gen.OutGradIdeal.Launch
public import proofs.«01_k».proof.Proof.Gen.OutGradIdeal.Points
public import proofs.«01_k».proof.Proof.Gen.OutGradIdeal.Frame
public import proofs.«01_k».proof.Proof.Gen.OutGradRefIdeal
public import proofs.«01_k».proof.Proof.Gen.OutGradRefIdeal.Run
public import proofs.«01_k».proof.Proof.Gen.OutGradRefIdeal.Read
public import proofs.«01_k».proof.Proof.Gen.Pre_out_finite
public import proofs.«01_k».proof.Proof.Gen.LatGrad
public import proofs.«01_k».proof.Proof.Gen.LatGrad.Skeleton
public import proofs.«01_k».proof.Proof.Gen.LatGrad.Launch
public import proofs.«01_k».proof.Proof.Gen.LatGrad.Points
public import proofs.«01_k».proof.Proof.Gen.LatGrad.Frame
public import proofs.«01_k».proof.Proof.Gen.LatGradIdeal
public import proofs.«01_k».proof.Proof.Gen.LatGradIdeal.Skeleton
public import proofs.«01_k».proof.Proof.Gen.LatGradIdeal.Launch
public import proofs.«01_k».proof.Proof.Gen.LatGradIdeal.Points
public import proofs.«01_k».proof.Proof.Gen.LatGradIdeal.Frame
public import proofs.«01_k».proof.Proof.Gen.LatGradRefIdeal
public import proofs.«01_k».proof.Proof.Gen.LatGradRefIdeal.Run
public import proofs.«01_k».proof.Proof.Gen.LatGradRefIdeal.Read
public import proofs.«01_k».proof.Proof.Gen.Pre_lat_finite
public import proofs.«01_k».proof.Proof.OutEq
public import proofs.«01_k».proof.Proof.LatEq
public import proofs.«01_k».proof.Proof.Gen.AttnFwd
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal.Run
public import proofs.«01_k».proof.Proof.Gen.AttnFwdRefIdeal.Read
public import proofs.«01_k».proof.Proof.Gen.Pre_fwd_finite
public import proofs.«01_k».proof.Proof.FwdFrames
public import proofs.«01_k».proof.Proof.FwdEq
public import proofs.«01_k».proof.Proof.Gen.SsdFwd
public import proofs.«01_k».proof.Proof.Gen.SsdFwd.Skeleton
public import proofs.«01_k».proof.Proof.Gen.SsdFwd.Launch
public import proofs.«01_k».proof.Proof.Gen.SsdFwd.Points
public import proofs.«01_k».proof.Proof.Gen.SsdFwd.Frame
public import proofs.«01_k».proof.Proof.Gen.SsdFwdIdeal
public import proofs.«01_k».proof.Proof.Gen.SsdFwdIdeal.Skeleton
public import proofs.«01_k».proof.Proof.Gen.SsdFwdIdeal.Launch
public import proofs.«01_k».proof.Proof.Gen.SsdFwdIdeal.Points
public import proofs.«01_k».proof.Proof.Gen.SsdFwdIdeal.Frame
public import proofs.«01_k».proof.Proof.Gen.SsdFwdRefIdeal
public import proofs.«01_k».proof.Proof.Gen.SsdFwdRefIdeal.Run
public import proofs.«01_k».proof.Proof.Gen.SsdFwdRefIdeal.Read
public import proofs.«01_k».proof.Proof.Gen.SsdBwd
public import proofs.«01_k».proof.Proof.Gen.SsdBwd.Skeleton
public import proofs.«01_k».proof.Proof.Gen.SsdBwd.Launch
public import proofs.«01_k».proof.Proof.Gen.SsdBwd.Points
public import proofs.«01_k».proof.Proof.Gen.SsdBwd.Frame
public import proofs.«01_k».proof.Proof.Gen.SsdBwdIdeal
public import proofs.«01_k».proof.Proof.Gen.SsdBwdIdeal.Skeleton
public import proofs.«01_k».proof.Proof.Gen.SsdBwdIdeal.Launch
public import proofs.«01_k».proof.Proof.Gen.SsdBwdIdeal.Points
public import proofs.«01_k».proof.Proof.Gen.SsdBwdIdeal.Frame
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaGrad
public import proofs.«01_k».proof.Proof.Gen.AdaGrad.Skeleton
public import proofs.«01_k».proof.Proof.Gen.AdaGrad.Launch
public import proofs.«01_k».proof.Proof.Gen.AdaGrad.Points
public import proofs.«01_k».proof.Proof.Gen.AdaGrad.Frame
public import proofs.«01_k».proof.Proof.Gen.AdaGradIdeal
public import proofs.«01_k».proof.Proof.Gen.AdaGradIdeal.Skeleton
public import proofs.«01_k».proof.Proof.Gen.AdaGradIdeal.Launch
public import proofs.«01_k».proof.Proof.Gen.AdaGradIdeal.Points
public import proofs.«01_k».proof.Proof.Gen.AdaGradIdeal.Frame
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.AdaGradRefIdeal
public import proofs.«01_k».proof.Proof.Gen.AdaGradRefIdeal.Run
public import proofs.«01_k».proof.Proof.Gen.AdaGradRefIdeal.Read
public import proofs.«01_k».proof.Proof.Gen.AdamWRefIdeal
public import proofs.«01_k».proof.Proof.Gen.AdamWRefIdeal.Run
public import proofs.«01_k».proof.Proof.Gen.AdamWRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.ProjEq
public import proofs.«01_k».proof.Proof.ConvEq
public import proofs.«01_k».proof.Proof.AdaEq
public import proofs.«01_k».proof.Proof.StepEq
public import Idealize.ShloMosaic.Adequacy
public import Idealize.ShloMosaic.Init

@[expose] public section

noncomputable section

namespace Cert.Proof

open Idealize.ShloMosaic Idealize.SL.Sem Cert.InGrad

theorem claim : Cert.Claim := ⟨Cert.InGrad.Gen.facts, Cert.InGradIdeal.Gen.facts, Cert.InGradRefIdeal.Gen.facts,
  Cert.AttnGrad.Gen.facts, Cert.AttnGradIdeal.Gen.facts, Cert.AttnGradRefIdeal.Gen.facts,
  Cert.OutGrad.Gen.facts, Cert.OutGradIdeal.Gen.facts, Cert.OutGradRefIdeal.Gen.facts,
  Cert.LatGrad.Gen.facts, Cert.LatGradIdeal.Gen.facts, Cert.LatGradRefIdeal.Gen.facts,
  Cert.AttnFwd.Gen.facts, Cert.AttnFwdIdeal.Gen.facts, Cert.AttnFwdRefIdeal.Gen.facts,
  Cert.Proj.Gen.facts, Cert.ProjIdeal.Gen.facts, Cert.ProjRefIdeal.Gen.facts,
  Cert.SsdFwd.Gen.facts, Cert.SsdFwdIdeal.Gen.facts, Cert.SsdFwdRefIdeal.Gen.facts, Cert.SsdBwd.Gen.facts, Cert.SsdBwdIdeal.Gen.facts,
  Cert.Ada.Gen.facts, Cert.AdaIdeal.Gen.facts, Cert.AdaRefIdeal.Gen.facts,
  Cert.AdaGrad.Gen.facts, Cert.AdaGradIdeal.Gen.facts, Cert.AdaGradRefIdeal.Gen.facts,
  Cert.AdamW.Gen.facts, Cert.AdamWIdeal.Gen.facts, Cert.AdamWRefIdeal.Gen.facts,
  Cert.Pre_attn_finite.Gen.facts, Cert.Pre_out_finite.Gen.facts, Cert.Pre_lat_finite.Gen.facts, Cert.Pre_fwd_finite.Gen.facts,
  fun m ρ _ => Cert.InGrad.Gen.frame m ρ,
  fun m ρ _ => Cert.InGradIdeal.Gen.frame m ρ,
  fun m ρ _ => (θ_run Cert.InGradRefIdeal.defs _ _).mono
    (fun r h => ⟨fun c => (h c).2.2.2.2, sem_eq_zero_of_no_sems (by decide) r.2⟩) (Cert.InGradRefIdeal.Value.run (F := Ideal) m ρ),
  Attn.frame_kernel, Attn.frame_ideal, fun m ρ _ => Attn.frame_ideal m ρ trivial, Attn.frame_ref, fun m ρ _ => Attn.frame_ref m ρ trivial,
  fun m ρ _ => Cert.OutGrad.Gen.frame m ρ,
  fun m ρ _ => Cert.OutGradIdeal.Gen.frame m ρ,
  fun m ρ _ => Cert.OutGradIdeal.Gen.frame m ρ,
  fun m ρ _ => (θ_run Cert.OutGradRefIdeal.defs _ _).mono
    (fun r h => ⟨fun c => (h c).2.2.2.2.2.2.2.2.2.2, sem_eq_zero_of_no_sems (by decide) r.2⟩) (Cert.OutGradRefIdeal.Value.run (F := Ideal) m ρ),
  fun m ρ _ => (θ_run Cert.OutGradRefIdeal.defs _ _).mono
    (fun r h => ⟨fun c => (h c).2.2.2.2.2.2.2.2.2.2, sem_eq_zero_of_no_sems (by decide) r.2⟩) (Cert.OutGradRefIdeal.Value.run (F := Ideal) m ρ),
  fun m ρ _ => Cert.LatGrad.Gen.frame m ρ,
  fun m ρ _ => Cert.LatGradIdeal.Gen.frame m ρ,
  fun m ρ _ => Cert.LatGradIdeal.Gen.frame m ρ,
  fun m ρ _ => (θ_run Cert.LatGradRefIdeal.defs _ _).mono
    (fun r h => ⟨fun c => (h c).2.2.2.2.2.2.2, sem_eq_zero_of_no_sems (by decide) r.2⟩) (Cert.LatGradRefIdeal.Value.run (F := Ideal) m ρ),
  fun m ρ _ => (θ_run Cert.LatGradRefIdeal.defs _ _).mono
    (fun r h => ⟨fun c => (h c).2.2.2.2.2.2.2, sem_eq_zero_of_no_sems (by decide) r.2⟩) (Cert.LatGradRefIdeal.Value.run (F := Ideal) m ρ),
  Fwd.frame_kernel, Fwd.frame_ideal, fun m ρ _ => Fwd.frame_ideal m ρ trivial, Fwd.frame_ref, fun m ρ _ => Fwd.frame_ref m ρ trivial,
  fun m ρ _ => Cert.Proj.Gen.frame m ρ,
  fun m ρ _ => Cert.ProjIdeal.Gen.frame m ρ,
  fun m ρ _ => (θ_run Cert.ProjRefIdeal.defs _ _).mono
    (fun r h => ⟨fun c => (h c).2.2.2.2.2.2.2.2.2, sem_eq_zero_of_no_sems (by decide) r.2⟩) (Cert.ProjRefIdeal.Value.run (F := Ideal) m ρ),
  fun m ρ _ => Cert.SsdFwd.Gen.frame m ρ,
  fun m ρ _ => Cert.SsdFwdIdeal.Gen.frame m ρ,
  fun m ρ _ => (θ_run Cert.SsdFwdRefIdeal.defs _ _).mono
    (fun r h => ⟨fun c => (h c).2, sem_eq_zero_of_no_sems (by decide) r.2⟩) (Cert.SsdFwdRefIdeal.Value.run (F := Ideal) m ρ),
  fun m ρ _ => Cert.SsdBwd.Gen.frame m ρ,
  fun m ρ _ => Cert.SsdBwdIdeal.Gen.frame m ρ,
  fun m ρ _ => Cert.Ada.Gen.frame m ρ,
  fun m ρ _ => Cert.AdaIdeal.Gen.frame m ρ,
  fun m ρ _ => (θ_run Cert.AdaRefIdeal.defs _ _).mono
    (fun r h => ⟨fun c => (h c).2, sem_eq_zero_of_no_sems (by decide) r.2⟩) (Cert.AdaRefIdeal.Value.run (F := Ideal) m ρ),
  fun m ρ _ => Cert.AdaGrad.Gen.frame m ρ,
  fun m ρ _ => Cert.AdaGradIdeal.Gen.frame m ρ,
  fun m ρ _ => (θ_run Cert.AdaGradRefIdeal.defs _ _).mono
    (fun r h => ⟨fun c => (h c).2, sem_eq_zero_of_no_sems (by decide) r.2⟩) (Cert.AdaGradRefIdeal.Value.run (F := Ideal) m ρ),
  fun m ρ _ => Cert.AdamW.Gen.frame m ρ,
  fun m ρ _ => Cert.AdamWIdeal.Gen.frame m ρ,
  fun m ρ _ => (θ_run Cert.AdamWRefIdeal.defs _ _).mono
    (fun r h => ⟨fun c => (h c).2.2.2.2, sem_eq_zero_of_no_sems (by decide) r.2⟩) (Cert.AdamWRefIdeal.Value.run (F := Ideal) m ρ),
  trivial, algebraic_in,
  IdealRules.named_const.statement Cert.AttnGradIdeal.κ "ln2" .f32 0x3F317218#32 ((Real.log 2 : ℝ) : EReal) rfl,
  Attn.algebraic_attn,
  trivial, Out.algebraic_out,
  trivial, Lat.algebraic_lat,
  ⟨IdealRules.named_const.statement Cert.AttnFwdIdeal.κ "mask" .f32 0xF149F2CA#32 ⊥ rfl,
    IdealRules.named_const.statement Cert.AttnFwdIdeal.κ "ln2" .f32 0x3F317218#32 ((Real.log 2 : ℝ) : EReal) rfl⟩,
  Fwd.algebraic_fwd,
  trivial, algebraic_proj,
  trivial, algebraic_conv,
  trivial,
  trivial, algebraic_ada,
  trivial, algebraic_adag,
  trivial, algebraic_step⟩

end Cert.Proof

end
